-- ==== Defs.lean ====
def Pre_Kernel [hPre_ids_in_range : Cert.Pre_ids_in_range.Facts] (m : (ℓ : Loc Cert.Kernel.nD Cert.Kernel.τ Cert.Kernel.sig) → Buf (Elt Bits) ℓ) : Prop :=
  ∀ c : Dev Cert.Kernel.nD,
    (Cert.Pre_ids_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_range [hPre_ids_in_range : Cert.Pre_ids_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] [hPre_ids_in_range : Cert.Pre_ids_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_ids_in_range [hReferenceIdeal : Cert.ReferenceIdeal.Facts] [hPre_ids_in_range : Cert.Pre_ids_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_on_activation_codes [hKernelIdeal : Cert.KernelIdeal.Facts] [hReferenceIdeal : Cert.ReferenceIdeal.Facts] [hPre_ids_in_range : Cert.Pre_ids_in_range.Facts] [hOn_activation_codes : Cert.On_activation_codes.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)) (v4 : (c : Dev Cert.KernelIdeal.nD) → Buf (Elt Ideal) ((c.tc : Thread Cert.KernelIdeal.nD Cert.KernelIdeal.τ).loc Cert.KernelIdeal.main_v4_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![6, 4096]⟩ : Shape).Idx, (Cert.On_activation_codes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 i = 1#1 → r.2.mem ((c.tc : Thread Cert.KernelIdeal.nD Cert.KernelIdeal.τ).loc Cert.KernelIdeal.main_v4_0) i = v0 c i)
          ∧ (∀ i : (⟨2, ![6, 4096]⟩ : Shape).Idx, (Cert.On_activation_codes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 i = 1#1 → r.2.mem ((c.tc : Thread Cert.KernelIdeal.nD Cert.KernelIdeal.τ).loc Cert.KernelIdeal.main_v4_1) i = v1 c i)
          ∧ (∀ i : (⟨3, ![6, 1, 32]⟩ : Shape).Idx, (Cert.On_activation_codes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 i = 1#1 → r.2.mem ((c.tc : Thread Cert.KernelIdeal.nD Cert.KernelIdeal.τ).loc Cert.KernelIdeal.main_v4_2) i = v2 c i)
          ∧ (∀ i : (⟨3, ![6, 8, 1536]⟩ : Shape).Idx, (Cert.On_activation_codes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 i = 1#1 → r.2.mem ((c.tc : Thread Cert.KernelIdeal.nD Cert.KernelIdeal.τ).loc Cert.KernelIdeal.main_v4_3) i = v3 c i)
          ∧ (∀ i : (⟨3, ![6, 8, 12]⟩ : Shape).Idx, (Cert.On_activation_codes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2 i = 1#1 → r.2.mem ((c.tc : Thread Cert.KernelIdeal.nD Cert.KernelIdeal.τ).loc Cert.KernelIdeal.main_v4_4) i = v4 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![6, 4096]⟩ : Shape).Idx, (Cert.On_activation_codes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 i = 1#1 → r.2.mem ((c.tc : Thread Cert.ReferenceIdeal.nD Cert.ReferenceIdeal.τ).loc Cert.ReferenceIdeal.main_v3_0) i = v0 c i)
          ∧ (∀ i : (⟨2, ![6, 4096]⟩ : Shape).Idx, (Cert.On_activation_codes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 i = 1#1 → r.2.mem ((c.tc : Thread Cert.ReferenceIdeal.nD Cert.ReferenceIdeal.τ).loc Cert.ReferenceIdeal.main_v3_1) i = v1 c i)
          ∧ (∀ i : (⟨3, ![6, 1, 32]⟩ : Shape).Idx, (Cert.On_activation_codes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 i = 1#1 → r.2.mem ((c.tc : Thread Cert.ReferenceIdeal.nD Cert.ReferenceIdeal.τ).loc Cert.ReferenceIdeal.main_v3_2) i = v2 c i)
          ∧ (∀ i : (⟨3, ![6, 8, 1536]⟩ : Shape).Idx, (Cert.On_activation_codes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 i = 1#1 → r.2.mem ((c.tc : Thread Cert.ReferenceIdeal.nD Cert.ReferenceIdeal.τ).loc Cert.ReferenceIdeal.main_v3_3) i = v3 c i)
          ∧ (∀ i : (⟨3, ![6, 8, 12]⟩ : Shape).Idx, (Cert.On_activation_codes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2 i = 1#1 → r.2.mem ((c.tc : Thread Cert.ReferenceIdeal.nD Cert.ReferenceIdeal.τ).loc Cert.ReferenceIdeal.main_v3_4) i = v4 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_ids_in_range : Cert.Pre_ids_in_range.Facts) (hOn_activation_codes : Cert.On_activation_codes.Facts),
    quiescent_Kernel (hKernel := hKernel) (hPre_ids_in_range := hPre_ids_in_range)
    ∧ quiescent_KernelIdeal (hKernelIdeal := hKernelIdeal) (hPre_ids_in_range := hPre_ids_in_range)
    ∧ quiescent_ReferenceIdeal (hReferenceIdeal := hReferenceIdeal)
    ∧ quiescent_ReferenceIdeal_pre_ids_in_range (hReferenceIdeal := hReferenceIdeal) (hPre_ids_in_range := hPre_ids_in_range)
    ∧ preserves_Kernel_KernelIdeal
    ∧ algebraic_KernelIdeal_ReferenceIdeal_on_activation_codes (hKernelIdeal := hKernelIdeal) (hReferenceIdeal := hReferenceIdeal) (hPre_ids_in_range := hPre_ids_in_range) (hOn_activation_codes := hOn_activation_codes)
-- ==== On_activation_codes.lean ====
abbrev S6x1x4096 : Shape := ⟨3, ![6, 1, 4096]⟩
abbrev S6x1x8 : Shape := ⟨3, ![6, 1, 8]⟩
abbrev S47x1536x2048 : Shape := ⟨3, ![47, 1536, 2048]⟩
abbrev S47x1536x32 : Shape := ⟨3, ![47, 1536, 32]⟩
abbrev S47x4096x768 : Shape := ⟨3, ![47, 4096, 768]⟩
abbrev S47x4096x12 : Shape := ⟨3, ![47, 4096, 12]⟩
abbrev S_ : Shape := ⟨0, ![]⟩
abbrev S6x4096 : Shape := ⟨2, ![6, 4096]⟩
abbrev S6x1x32 : Shape := ⟨3, ![6, 1, 32]⟩
abbrev S6x8x1536 : Shape := ⟨3, ![6, 8, 1536]⟩
abbrev S6x8x12 : Shape := ⟨3, ![6, 8, 12]⟩

class Facts : Prop where
  bcast_S_S6x4096 : S_.BroadcastsInDim S6x4096 (![] : Fin 0 → Fin S6x4096.rank)
  bcast_S_S6x1x32 : S_.BroadcastsInDim S6x1x32 (![] : Fin 0 → Fin S6x1x32.rank)
  bcast_S_S6x8x1536 : S_.BroadcastsInDim S6x8x1536 (![] : Fin 0 → Fin S6x8x1536.rank)
  bcast_S_S6x8x12 : S_.BroadcastsInDim S6x8x12 (![] : Fin 0 → Fin S6x8x12.rank)

variable [Facts]

def fn {F : FTy → Type} [FloatOps F] (main_arg0 : FVec F S6x1x4096 .bf16) (main_arg1 : IVec S6x1x8 32) (main_arg2 : FVec F S6x1x8 .f32) (main_arg3 : IVec S47x1536x2048 8) (main_arg4 : FVec F S47x1536x32 .f32) (main_arg5 : IVec S47x1536x2048 8) (main_arg6 : FVec F S47x1536x32 .f32) (main_arg7 : IVec S47x4096x768 8) (main_arg8 : FVec F S47x4096x12 .f32) : IVec S6x4096 1 × IVec S6x4096 1 × IVec S6x1x32 1 × IVec S6x8x1536 1 × IVec S6x8x12 1 :=
  let main_c : IVec S_ 1 := constantI S_ 1 0#1
  let main_v0 : IVec S6x4096 1 := broadcastInDim S6x4096 ![] bcast_S_S6x4096 main_c
  let main_c_0 : IVec S_ 1 := constantI S_ 1 1#1
  let main_v1 : IVec S6x4096 1 := broadcastInDim S6x4096 ![] bcast_S_S6x4096 main_c_0
  let main_c_1 : IVec S_ 1 := constantI S_ 1 1#1
  let main_v2 : IVec S6x1x32 1 := broadcastInDim S6x1x32 ![] bcast_S_S6x1x32 main_c_1
  let main_c_2 : IVec S_ 1 := constantI S_ 1 1#1
  let main_v3 : IVec S6x8x1536 1 := broadcastInDim S6x8x1536 ![] bcast_S_S6x8x1536 main_c_2
  let main_c_3 : IVec S_ 1 := constantI S_ 1 1#1
  let main_v4 : IVec S6x8x12 1 := broadcastInDim S6x8x12 ![] bcast_S_S6x8x12 main_c_3
  (main_v0, main_v1, main_v2, main_v3, main_v4)
-- ==== Pre_ids_in_range.lean ====
abbrev S6x1x4096 : Shape := ⟨3, ![6, 1, 4096]⟩
abbrev S6x1x8 : Shape := ⟨3, ![6, 1, 8]⟩
abbrev S47x1536x2048 : Shape := ⟨3, ![47, 1536, 2048]⟩
abbrev S47x1536x32 : Shape := ⟨3, ![47, 1536, 32]⟩
abbrev S47x4096x768 : Shape := ⟨3, ![47, 4096, 768]⟩
abbrev S47x4096x12 : Shape := ⟨3, ![47, 4096, 12]⟩
abbrev S_ : Shape := ⟨0, ![]⟩

class Facts : Prop where
  bcast_S_S6x1x8 : S_.BroadcastsInDim S6x1x8 (![] : Fin 0 → Fin S6x1x8.rank)

variable [Facts]

def fn {F : FTy → Type} [FloatOps F] (main_arg0 : FVec F S6x1x4096 .bf16) (main_arg1 : IVec S6x1x8 32) (main_arg2 : FVec F S6x1x8 .f32) (main_arg3 : IVec S47x1536x2048 8) (main_arg4 : FVec F S47x1536x32 .f32) (main_arg5 : IVec S47x1536x2048 8) (main_arg6 : FVec F S47x1536x32 .f32) (main_arg7 : IVec S47x4096x768 8) (main_arg8 : FVec F S47x4096x12 .f32) : IVec S6x1x8 1 :=
  let main_c : IVec S_ 32 := constantI S_ 32 0#32
  let main_v0 : IVec S6x1x8 32 := broadcastInDim S6x1x8 ![] bcast_S_S6x1x8 main_c
  let main_v1 : IVec S6x1x8 1 := cmpi .sge main_arg1 main_v0
  let main_c_0 : IVec S_ 32 := constantI S_ 32 47#32
  let main_v2 : IVec S6x1x8 32 := broadcastInDim S6x1x8 ![] bcast_S_S6x1x8 main_c_0
  let main_v3 : IVec S6x1x8 1 := cmpi .slt main_arg1 main_v2
  let main_v4 : IVec S6x1x8 1 := andi main_v1 main_v3
  main_v4
-- ==== Kernel.lean ====
abbrev S6x1x4096 : Shape := ⟨3, ![6, 1, 4096]⟩
abbrev S6x1x8 : Shape := ⟨3, ![6, 1, 8]⟩
abbrev S47x1536x2048 : Shape := ⟨3, ![47, 1536, 2048]⟩
abbrev S47x1536x32 : Shape := ⟨3, ![47, 1536, 32]⟩
abbrev S47x4096x768 : Shape := ⟨3, ![47, 4096, 768]⟩
abbrev S47x4096x12 : Shape := ⟨3, ![47, 4096, 12]⟩
abbrev S47x32x1536 : Shape := ⟨3, ![47, 32, 1536]⟩
abbrev S47x12x4096 : Shape := ⟨3, ![47, 12, 4096]⟩
abbrev S6x4096 : Shape := ⟨2, ![6, 4096]⟩
abbrev S6x1x32 : Shape := ⟨3, ![6, 1, 32]⟩
abbrev S6x8x1536 : Shape := ⟨3, ![6, 8, 1536]⟩
abbrev S6x8x12 : Shape := ⟨3, ![6, 8, 12]⟩
abbrev S64 : Shape := ⟨1, ![64]⟩
abbrev S2x1536x2048 : Shape := ⟨3, ![2, 1536, 2048]⟩
abbrev S2x32x1536 : Shape := ⟨3, ![2, 32, 1536]⟩
abbrev S2x4096x768 : Shape := ⟨3, ![2, 4096, 768]⟩
abbrev S2x12x4096 : Shape := ⟨3, ![2, 12, 4096]⟩
abbrev S16x4096 : Shape := ⟨2, ![16, 4096]⟩
abbrev S16x1536 : Shape := ⟨2, ![16, 1536]⟩
abbrev S8x1536 : Shape := ⟨2, ![8, 1536]⟩
abbrev S48x128 : Shape := ⟨2, ![48, 128]⟩
abbrev S8x128 : Shape := ⟨2, ![8, 128]⟩
abbrev S48x1536 : Shape := ⟨2, ![48, 1536]⟩
abbrev S8x4096 : Shape := ⟨2, ![8, 4096]⟩
abbrev S2x3 : Shape := ⟨2, ![2, 3]⟩
abbrev S2x4 : Shape := ⟨2, ![2, 4]⟩
abbrev S1x1x1 : Shape := ⟨3, ![1, 1, 1]⟩
abbrev S1x1 : Shape := ⟨2, ![1, 1]⟩
abbrev S_ : Shape := ⟨0, ![]⟩
abbrev S1x32x1536 : Shape := ⟨3, ![1, 32, 1536]⟩
abbrev S32x1536 : Shape := ⟨2, ![32, 1536]⟩
abbrev S1x512x2048 : Shape := ⟨3, ![1, 512, 2048]⟩
abbrev S512x2048 : Shape := ⟨2, ![512, 2048]⟩
abbrev S1x12x4096 : Shape := ⟨3, ![1, 12, 4096]⟩
abbrev S12x4096 : Shape := ⟨2, ![12, 4096]⟩
abbrev S1x1024x768 : Shape := ⟨3, ![1, 1024, 768]⟩
abbrev S1024x768 : Shape := ⟨2, ![1024, 768]⟩
abbrev S1 : Shape := ⟨1, ![1]⟩
abbrev S6x128 : Shape := ⟨2, ![6, 128]⟩
abbrev S6 : Shape := ⟨1, ![6]⟩
abbrev S6x1 : Shape := ⟨2, ![6, 1]⟩
abbrev S1x32 : Shape := ⟨2, ![1, 32]⟩
abbrev S1x1x32 : Shape := ⟨3, ![1, 1, 32]⟩
abbrev S1x128 : Shape := ⟨2, ![1, 128]⟩
abbrev S1x1x8 : Shape := ⟨3, ![1, 1, 8]⟩
abbrev S1x8 : Shape := ⟨2, ![1, 8]⟩
abbrev S16x256 : Shape := ⟨2, ![16, 256]⟩
abbrev S1x256x128 : Shape := ⟨3, ![1, 256, 128]⟩
abbrev S256x128 : Shape := ⟨2, ![256, 128]⟩
abbrev S128x256 : Shape := ⟨2, ![128, 256]⟩
abbrev S128x1x256 : Shape := ⟨3, ![128, 1, 256]⟩
abbrev S128x2x256 : Shape := ⟨3, ![128, 2, 256]⟩
abbrev S256x256 : Shape := ⟨2, ![256, 256]⟩
abbrev S1x1x256 : Shape := ⟨3, ![1, 1, 256]⟩
abbrev S1x256 : Shape := ⟨2, ![1, 256]⟩
abbrev S8x256 : Shape := ⟨2, ![8, 256]⟩
abbrev S8 : Shape := ⟨1, ![8]⟩
abbrev S8x1 : Shape := ⟨2, ![8, 1]⟩
abbrev S1x8x1536 : Shape := ⟨3, ![1, 8, 1536]⟩
abbrev S8x12 : Shape := ⟨2, ![8, 12]⟩
abbrev S1x8x12 : Shape := ⟨3, ![1, 8, 12]⟩

abbrev nBuf : Space → Nat
  | .hbm => 18
  | .vmem => 23
  | .smem => 3
  | _ => 0

abbrev bufTy : (tb : Table) → Fin (tcTables nBuf tb) → BufTy
  | .hbm, ⟨0, _⟩ => ⟨S6x1x4096, .bf16⟩
  | .hbm, ⟨1, _⟩ => ⟨S6x1x8, .i32⟩
  | .hbm, ⟨2, _⟩ => ⟨S6x1x8, .f32⟩
  | .hbm, ⟨3, _⟩ => ⟨S47x1536x2048, .i8⟩
  | .hbm, ⟨4, _⟩ => ⟨S47x1536x32, .f32⟩
  | .hbm, ⟨5, _⟩ => ⟨S47x1536x2048, .i8⟩
  | .hbm, ⟨6, _⟩ => ⟨S47x1536x32, .f32⟩
  | .hbm, ⟨7, _⟩ => ⟨S47x4096x768, .i8⟩
  | .hbm, ⟨8, _⟩ => ⟨S47x4096x12, .f32⟩
  | .hbm, ⟨9, _⟩ => ⟨S47x32x1536, .f32⟩
  | .hbm, ⟨10, _⟩ => ⟨S47x32x1536, .f32⟩
  | .hbm, ⟨11, _⟩ => ⟨S47x12x4096, .f32⟩
  | .hbm, ⟨12, _⟩ => ⟨S6x4096, .bf16⟩
  | .hbm, ⟨13, _⟩ => ⟨S6x4096, .bf16⟩
  | .hbm, ⟨14, _⟩ => ⟨S6x4096, .fp8e4m3⟩
  | .hbm, ⟨15, _⟩ => ⟨S6x1x32, .f32⟩
  | .hbm, ⟨16, _⟩ => ⟨S6x8x1536, .fp8e4m3⟩
  | .hbm, ⟨17, _⟩ => ⟨S6x8x12, .f32⟩
  | .local _ .vmem, ⟨0, _⟩ => ⟨S6x4096, .bf16⟩
  | .local _ .vmem, ⟨1, _⟩ => ⟨S6x1x8, .i32⟩
  | .local _ .vmem, ⟨2, _⟩ => ⟨S6x1x8, .f32⟩
  | .local _ .vmem, ⟨3, _⟩ => ⟨S6x4096, .bf16⟩
  | .local _ .vmem, ⟨4, _⟩ => ⟨S6x4096, .fp8e4m3⟩
  | .local _ .vmem, ⟨5, _⟩ => ⟨S6x1x32, .f32⟩
  | .local _ .vmem, ⟨6, _⟩ => ⟨S6x8x1536, .fp8e4m3⟩
  | .local _ .vmem, ⟨7, _⟩ => ⟨S6x8x12, .f32⟩
  | .local _ .vmem, ⟨8, _⟩ => ⟨S2x1536x2048, .i8⟩
  | .local _ .vmem, ⟨9, _⟩ => ⟨S2x32x1536, .f32⟩
  | .local _ .vmem, ⟨10, _⟩ => ⟨S2x1536x2048, .i8⟩
  | .local _ .vmem, ⟨11, _⟩ => ⟨S2x32x1536, .f32⟩
  | .local _ .vmem, ⟨12, _⟩ => ⟨S2x4096x768, .i8⟩
  | .local _ .vmem, ⟨13, _⟩ => ⟨S2x12x4096, .f32⟩
  | .local _ .vmem, ⟨14, _⟩ => ⟨S16x4096, .bf16⟩
  | .local _ .vmem, ⟨15, _⟩ => ⟨S16x1536, .bf16⟩
  | .local _ .vmem, ⟨16, _⟩ => ⟨S8x1536, .f32⟩
  | .local _ .vmem, ⟨17, _⟩ => ⟨S48x128, .i32⟩
  | .local _ .vmem, ⟨18, _⟩ => ⟨S8x128, .i32⟩
  | .local _ .vmem, ⟨19, _⟩ => ⟨S8x128, .f32⟩
  | .local _ .vmem, ⟨20, _⟩ => ⟨S48x1536, .f32⟩
  | .local _ .vmem, ⟨21, _⟩ => ⟨S48x128, .f32⟩
  | .local _ .vmem, ⟨22, _⟩ => ⟨S8x4096, .f32⟩
  | .local _ .smem, ⟨0, _⟩ => ⟨S6x1x8, .i32⟩
  | .local _ .smem, ⟨1, _⟩ => ⟨S64, .i32⟩
  | .local _ .smem, ⟨2, _⟩ => ⟨S64, .i32⟩
  | _, _ => ⟨S6x1x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev main_v4_3 : Ref sig .tc := ⟨.hbm, 16, rfl⟩
abbrev main_v4_4 : Ref sig .tc := ⟨.hbm, 17, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_scratch7 : Ref sig .tc := ⟨.vmem, 13, rfl⟩
abbrev cc0_scratch8 : Ref sig .tc := ⟨.vmem, 14, rfl⟩
abbrev cc0_scratch9 : Ref sig .tc := ⟨.vmem, 15, rfl⟩
abbrev cc0_scratch10 : Ref sig .tc := ⟨.vmem, 16, rfl⟩
abbrev cc0_scratch11 : Ref sig .tc := ⟨.vmem, 17, rfl⟩
abbrev cc0_scratch12 : Ref sig .tc := ⟨.vmem, 18, rfl⟩
abbrev cc0_scratch13 : Ref sig .tc := ⟨.vmem, 19, rfl⟩
abbrev cc0_scratch14 : Ref sig .tc := ⟨.vmem, 20, rfl⟩
abbrev cc0_scratch15 : Ref sig .tc := ⟨.vmem, 21, rfl⟩
abbrev cc0_scratch16 : Ref sig .tc := ⟨.vmem, 22, rfl⟩
abbrev cc0_stg0_0 : Ref sig .tc := ⟨.smem, 0, rfl⟩
abbrev cc0_scratch0 : Ref sig .tc := ⟨.smem, 1, rfl⟩
abbrev cc0_scratch1 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

def k0_off1 (v0 : BitVec 32) : Fin 3 → Nat :=
  let c0_i32_6 : BitVec 32 := 0#32
  let c0_i32_7 : BitVec 32 := 0#32
  ![v0.toNat, 0, 0]

def k0_off2 (v0 : BitVec 32) : Fin 3 → Nat :=
  let c0_i32_19 : BitVec 32 := 0#32
  let c0_i32_20 : BitVec 32 := 0#32
  ![v0.toNat, 0, 0]
def k0_off3 (v0 : BitVec 32) : Fin 3 → Nat :=
  let c512_i32_32 : BitVec 32 := 512#32
  let c0_i32_33 : BitVec 32 := 0#32
  ![v0.toNat, 512, 0]
def k0_off4 (v0 : BitVec 32) : Fin 3 → Nat :=
  let c1024_i32_44 : BitVec 32 := 1024#32
  let c0_i32_45 : BitVec 32 := 0#32
  ![v0.toNat, 1024, 0]
def k0_off5 (v0 : BitVec 32) : Fin 3 → Nat :=
  let c0_i32_58 : BitVec 32 := 0#32
  let c0_i32_59 : BitVec 32 := 0#32
  ![v0.toNat, 0, 0]
def k0_off6 (v0 : BitVec 32) : Fin 3 → Nat :=
  let c0_i32_65 : BitVec 32 := 0#32
  let c0_i32_66 : BitVec 32 := 0#32
  ![v0.toNat, 0, 0]
def k0_off7 (v0 : BitVec 32) : Fin 3 → Nat :=
  let c1024_i32_72 : BitVec 32 := 1024#32
  let c0_i32_73 : BitVec 32 := 0#32
  ![v0.toNat, 1024, 0]
def k0_off8 (v0 : BitVec 32) : Fin 3 → Nat :=
  let c2048_i32_78 : BitVec 32 := 2048#32
  let c0_i32_79 : BitVec 32 := 0#32
  ![v0.toNat, 2048, 0]
def k0_off9 (v0 : BitVec 32) : Fin 3 → Nat :=
  let c3072_i32_83 : BitVec 32 := 3072#32
  let c0_i32_84 : BitVec 32 := 0#32
  ![v0.toNat, 3072, 0]

def k0_chk1 (v0 : BitVec 32) : Prop :=
  (∀ a, (k0_off1 v0) a + S1x32x1536.size a ≤ S47x32x1536.size a) ∧
  (∀ a, (k0_off2 v0) a + S1x512x2048.size a ≤ S47x1536x2048.size a) ∧
  (∀ (hinb : ∀ a, (k0_off2 v0) a + S1x512x2048.size a ≤ S47x1536x2048.size a), (Rect.unit (s := S47x1536x2048) (k0_off2 v0) S1x512x2048.size hinb).WholeWords (EltTy.packing .i8)) ∧
  (∀ a, (k0_off3 v0) a + S1x512x2048.size a ≤ S47x1536x2048.size a) ∧
  (∀ (hinb : ∀ a, (k0_off3 v0) a + S1x512x2048.size a ≤ S47x1536x2048.size a), (Rect.unit (s := S47x1536x2048) (k0_off3 v0) S1x512x2048.size hinb).WholeWords (EltTy.packing .i8)) ∧
  (∀ a, (k0_off4 v0) a + S1x512x2048.size a ≤ S47x1536x2048.size a) ∧
  (∀ (hinb : ∀ a, (k0_off4 v0) a + S1x512x2048.size a ≤ S47x1536x2048.size a), (Rect.unit (s := S47x1536x2048) (k0_off4 v0) S1x512x2048.size hinb).WholeWords (EltTy.packing .i8)) ∧
  (∀ a, (k0_off5 v0) a + S1x12x4096.size a ≤ S47x12x4096.size a) ∧
  (∀ a, (k0_off6 v0) a + S1x1024x768.size a ≤ S47x4096x768.size a) ∧
  (∀ (hinb : ∀ a, (k0_off6 v0) a + S1x1024x768.size a ≤ S47x4096x768.size a), (Rect.unit (s := S47x4096x768) (k0_off6 v0) S1x1024x768.size hinb).WholeWords (EltTy.packing .i8)) ∧
  (∀ a, (k0_off7 v0) a + S1x1024x768.size a ≤ S47x4096x768.size a) ∧
  (∀ (hinb : ∀ a, (k0_off7 v0) a + S1x1024x768.size a ≤ S47x4096x768.size a), (Rect.unit (s := S47x4096x768) (k0_off7 v0) S1x1024x768.size hinb).WholeWords (EltTy.packing .i8)) ∧
  (∀ a, (k0_off8 v0) a + S1x1024x768.size a ≤ S47x4096x768.size a) ∧
  (∀ (hinb : ∀ a, (k0_off8 v0) a + S1x1024x768.size a ≤ S47x4096x768.size a), (Rect.unit (s := S47x4096x768) (k0_off8 v0) S1x1024x768.size hinb).WholeWords (EltTy.packing .i8)) ∧
  (∀ a, (k0_off9 v0) a + S1x1024x768.size a ≤ S47x4096x768.size a) ∧
  (∀ (hinb : ∀ a, (k0_off9 v0) a + S1x1024x768.size a ≤ S47x4096x768.size a), (Rect.unit (s := S47x4096x768) (k0_off9 v0) S1x1024x768.size hinb).WholeWords (EltTy.packing .i8))
theorem k0_off1_inb : ∀ (v0 : BitVec 32) (k0_hw1 : k0_chk1 v0), ∀ a, (k0_off1 v0) a + S1x32x1536.size a ≤ S47x32x1536.size a := fun v0 k0_hw1 => k0_hw1.1
theorem k0_off2_inb : ∀ (v0 : BitVec 32) (k0_hw1 : k0_chk1 v0), ∀ a, (k0_off2 v0) a + S1x512x2048.size a ≤ S47x1536x2048.size a := fun v0 k0_hw1 => k0_hw1.2.1
theorem k0_off2_wordsi8 : ∀ (v0 : BitVec 32) (k0_hw1 : k0_chk1 v0), (Rect.unit (s := S47x1536x2048) (k0_off2 v0) S1x512x2048.size (k0_off2_inb v0 k0_hw1)).WholeWords (EltTy.packing .i8) := fun v0 k0_hw1 => k0_hw1.2.2.1 (k0_off2_inb v0 k0_hw1)
theorem k0_off3_inb : ∀ (v0 : BitVec 32) (k0_hw1 : k0_chk1 v0), ∀ a, (k0_off3 v0) a + S1x512x2048.size a ≤ S47x1536x2048.size a := fun v0 k0_hw1 => k0_hw1.2.2.2.1
theorem k0_off3_wordsi8 : ∀ (v0 : BitVec 32) (k0_hw1 : k0_chk1 v0), (Rect.unit (s := S47x1536x2048) (k0_off3 v0) S1x512x2048.size (k0_off3_inb v0 k0_hw1)).WholeWords (EltTy.packing .i8) := fun v0 k0_hw1 => k0_hw1.2.2.2.2.1 (k0_off3_inb v0 k0_hw1)
theorem k0_off4_inb : ∀ (v0 : BitVec 32) (k0_hw1 : k0_chk1 v0), ∀ a, (k0_off4 v0) a + S1x512x2048.size a ≤ S47x1536x2048.size a := fun v0 k0_hw1 => k0_hw1.2.2.2.2.2.1
theorem k0_off4_wordsi8 : ∀ (v0 : BitVec 32) (k0_hw1 : k0_chk1 v0), (Rect.unit (s := S47x1536x2048) (k0_off4 v0) S1x512x2048.size (k0_off4_inb v0 k0_hw1)).WholeWords (EltTy.packing .i8) := fun v0 k0_hw1 => k0_hw1.2.2.2.2.2.2.1 (k0_off4_inb v0 k0_hw1)
theorem k0_off5_inb : ∀ (v0 : BitVec 32) (k0_hw1 : k0_chk1 v0), ∀ a, (k0_off5 v0) a + S1x12x4096.size a ≤ S47x12x4096.size a := fun v0 k0_hw1 => k0_hw1.2.2.2.2.2.2.2.1
theorem k0_off6_inb : ∀ (v0 : BitVec 32) (k0_hw1 : k0_chk1 v0), ∀ a, (k0_off6 v0) a + S1x1024x768.size a ≤ S47x4096x768.size a := fun v0 k0_hw1 => k0_hw1.2.2.2.2.2.2.2.2.1
theorem k0_off6_wordsi8 : ∀ (v0 : BitVec 32) (k0_hw1 : k0_chk1 v0), (Rect.unit (s := S47x4096x768) (k0_off6 v0) S1x1024x768.size (k0_off6_inb v0 k0_hw1)).WholeWords (EltTy.packing .i8) := fun v0 k0_hw1 => k0_hw1.2.2.2.2.2.2.2.2.2.1 (k0_off6_inb v0 k0_hw1)
theorem k0_off7_inb : ∀ (v0 : BitVec 32) (k0_hw1 : k0_chk1 v0), ∀ a, (k0_off7 v0) a + S1x1024x768.size a ≤ S47x4096x768.size a := fun v0 k0_hw1 => k0_hw1.2.2.2.2.2.2.2.2.2.2.1
theorem k0_off7_wordsi8 : ∀ (v0 : BitVec 32) (k0_hw1 : k0_chk1 v0), (Rect.unit (s := S47x4096x768) (k0_off7 v0) S1x1024x768.size (k0_off7_inb v0 k0_hw1)).WholeWords (EltTy.packing .i8) := fun v0 k0_hw1 => k0_hw1.2.2.2.2.2.2.2.2.2.2.2.1 (k0_off7_inb v0 k0_hw1)
theorem k0_off8_inb : ∀ (v0 : BitVec 32) (k0_hw1 : k0_chk1 v0), ∀ a, (k0_off8 v0) a + S1x1024x768.size a ≤ S47x4096x768.size a := fun v0 k0_hw1 => k0_hw1.2.2.2.2.2.2.2.2.2.2.2.2.1
theorem k0_off8_wordsi8 : ∀ (v0 : BitVec 32) (k0_hw1 : k0_chk1 v0), (Rect.unit (s := S47x4096x768) (k0_off8 v0) S1x1024x768.size (k0_off8_inb v0 k0_hw1)).WholeWords (EltTy.packing .i8) := fun v0 k0_hw1 => k0_hw1.2.2.2.2.2.2.2.2.2.2.2.2.2.1 (k0_off8_inb v0 k0_hw1)
theorem k0_off9_inb : ∀ (v0 : BitVec 32) (k0_hw1 : k0_chk1 v0), ∀ a, (k0_off9 v0) a + S1x1024x768.size a ≤ S47x4096x768.size a := fun v0 k0_hw1 => k0_hw1.2.2.2.2.2.2.2.2.2.2.2.2.2.2.1
theorem k0_off9_wordsi8 : ∀ (v0 : BitVec 32) (k0_hw1 : k0_chk1 v0), (Rect.unit (s := S47x4096x768) (k0_off9 v0) S1x1024x768.size (k0_off9_inb v0 k0_hw1)).WholeWords (EltTy.packing .i8) := fun v0 k0_hw1 => k0_hw1.2.2.2.2.2.2.2.2.2.2.2.2.2.2.2 (k0_off9_inb v0 k0_hw1)

@[reducible] def k0_t1_loop : Scf.Loop 32 :=
  let c0_i32_85 : BitVec 32 := 0#32
  let c47_i32 : BitVec 32 := 47#32
  let v79 : BitVec 32 := Scalar.addi c0_i32_85 c47_i32
  let c1_i32_86 : BitVec 32 := 1#32
  ⟨c0_i32_85, v79, c1_i32_86⟩
def k0_off10 (k0_t1 : Fin k0_t1_loop.trips) : Fin 1 → Nat :=
  let c0_i32_85 : BitVec 32 := 0#32
  let c1_i32_86 : BitVec 32 := 1#32
  let arg36 : BitVec 32 := Scf.iv c0_i32_85 c1_i32_86 k0_t1
  let v264 : Index := Scalar.indexCast arg36
  ![v264.toNat]
@[reducible] def k0_t2_loop : Scf.Loop 32 :=
  let c0_i32_89 : BitVec 32 := 0#32
  let c48_i32 : BitVec 32 := 48#32
  let v80 : BitVec 32 := Scalar.addi c0_i32_89 c48_i32
  let c1_i32_90 : BitVec 32 := 1#32
  ⟨c0_i32_89, v80, c1_i32_90⟩
def k0_off11 (k0_t2 : Fin k0_t2_loop.trips) : Fin 3 → Nat :=
  let c0_i32_89 : BitVec 32 := 0#32
  let c1_i32_90 : BitVec 32 := 1#32
  let arg36 : BitVec 32 := Scf.iv c0_i32_89 c1_i32_90 k0_t2
  let c3_i32_256 : BitVec 32 := 3#32
  let v264 : BitVec 32 := Scalar.shrui arg36 c3_i32_256
  let v266 : Index := Scalar.indexCast v264
  let c0_257 : Index := 0#32
  let c7_i32 : BitVec 32 := 7#32
  let v265 : BitVec 32 := Scalar.andi arg36 c7_i32
  let v267 : Index := Scalar.indexCast v265
  ![v266.toNat, 0, v267.toNat]
def k0_off12 (v268 : BitVec 32) : Fin 1 → Nat :=
  let v269 : Index := Scalar.indexCast v268
  ![v269.toNat]

def k0_off13 (arg37 : BitVec 32) : Fin 1 → Nat :=
  let v272 : Index := Scalar.indexCast arg37
  ![v272.toNat]

def k0_chk3 (arg37 : BitVec 32) : Prop :=
  (∀ a, (k0_off13 arg37) a + S1.size a ≤ S64.size a)
theorem k0_off13_inb : ∀ (arg37 : BitVec 32) (k0_hw3 : k0_chk3 arg37), ∀ a, (k0_off13 arg37) a + S1.size a ≤ S64.size a := fun arg37 k0_hw3 => k0_hw3

def k0_off14 (v268 : BitVec 32) : Fin 1 → Nat :=
  let v274 : Index := Scalar.indexCast v268
  ![v274.toNat]

def k0_chk2 (v268 : BitVec 32) : Prop :=
  (∀ a, (k0_off12 v268) a + S1.size a ≤ S64.size a) ∧
  (∀ a, (k0_off14 v268) a + S1.size a ≤ S64.size a)
theorem k0_off12_inb : ∀ (v268 : BitVec 32) (k0_hw2 : k0_chk2 v268), ∀ a, (k0_off12 v268) a + S1.size a ≤ S64.size a := fun v268 k0_hw2 => k0_hw2.1
theorem k0_off14_inb : ∀ (v268 : BitVec 32) (k0_hw2 : k0_chk2 v268), ∀ a, (k0_off14 v268) a + S1.size a ≤ S64.size a := fun v268 k0_hw2 => k0_hw2.2

@[reducible] def k0_t3_loop : Scf.Loop 32 :=
  let c0_i32_107 : BitVec 32 := 0#32
  let c32_i32 : BitVec 32 := 32#32
  let v104 : BitVec 32 := Scalar.addi c0_i32_107 c32_i32
  let c1_i32_108 : BitVec 32 := 1#32
  ⟨c0_i32_107, v104, c1_i32_108⟩
def k0_mult1 (k0_t3 : Fin k0_t3_loop.trips) : BitVec 32 :=
  let c0_i32_107 : BitVec 32 := 0#32
  let c1_i32_108 : BitVec 32 := 1#32
  let arg36 : BitVec 32 := Scf.iv c0_i32_107 c1_i32_108 k0_t3
  let c128_i32 : BitVec 32 := 128#32
  let v264 : BitVec 32 := Scalar.muli arg36 c128_i32
  v264
def k0_off15 (k0_t3 : Fin k0_t3_loop.trips) : Fin 2 → Nat :=
  let c0_256 : Index := 0#32
  let c0_i32_107 : BitVec 32 := 0#32
  let c1_i32_108 : BitVec 32 := 1#32
  let arg36 : BitVec 32 := Scf.iv c0_i32_107 c1_i32_108 k0_t3
  let c128_i32 : BitVec 32 := 128#32
  let v264 : BitVec 32 := Scalar.muli arg36 c128_i32
  let v265 : BitVec 32 := v264
  let v266 : Index := Scalar.indexCast v265
  ![0, v266.toNat]
def k0_off16 (k0_t3 : Fin k0_t3_loop.trips) : Fin 2 → Nat :=
  let c0_286 : Index := 0#32
  let c0_i32_107 : BitVec 32 := 0#32
  let c1_i32_108 : BitVec 32 := 1#32
  let arg36 : BitVec 32 := Scf.iv c0_i32_107 c1_i32_108 k0_t3
  let c128_i32 : BitVec 32 := 128#32
  let v264 : BitVec 32 := Scalar.muli arg36 c128_i32
  let v265 : BitVec 32 := v264
  let v378 : Index := Scalar.indexCast v265
  ![0, v378.toNat]
@[reducible] def k0_t4_loop : Scf.Loop 32 :=
  let c0_i32_123 : BitVec 32 := 0#32
  let c48_i32_124 : BitVec 32 := 48#32
  let v130 : BitVec 32 := Scalar.addi c0_i32_123 c48_i32_124
  let c1_i32_125 : BitVec 32 := 1#32
  ⟨c0_i32_123, v130, c1_i32_125⟩
def k0_off17 (k0_t4 : Fin k0_t4_loop.trips) : Fin 3 → Nat :=
  let c0_i32_123 : BitVec 32 := 0#32
  let c1_i32_125 : BitVec 32 := 1#32
  let arg36 : BitVec 32 := Scf.iv c0_i32_123 c1_i32_125 k0_t4
  let c3_i32_256 : BitVec 32 := 3#32
  let v264 : BitVec 32 := Scalar.shrui arg36 c3_i32_256
  let v266 : Index := Scalar.indexCast v264
  let c0_257 : Index := 0#32
  let c7_i32 : BitVec 32 := 7#32
  let v265 : BitVec 32 := Scalar.andi arg36 c7_i32
  let v267 : Index := Scalar.indexCast v265
  ![v266.toNat, 0, v267.toNat]
def k0_off18 (k0_t4 : Fin k0_t4_loop.trips) : Fin 2 → Nat :=
  let c0_i32_123 : BitVec 32 := 0#32
  let c1_i32_125 : BitVec 32 := 1#32
  let arg36 : BitVec 32 := Scf.iv c0_i32_123 c1_i32_125 k0_t4
  let v270 : Index := Scalar.indexCast arg36
  let c0_258 : Index := 0#32
  ![v270.toNat, 0]
@[reducible] def k0_t5_loop (v81 : BitVec 32) : Scf.Loop 32 :=
  let c0_i32_192 : BitVec 32 := 0#32
  let v200 : BitVec 32 := Scalar.subi v81 c0_i32_192
  let c1_i32_194 : BitVec 32 := 1#32
  let v202 : BitVec 32 := Scalar.divsi v200 c1_i32_194
  let v203 : BitVec 32 := Scalar.muli v202 c1_i32_194
  let v204 : BitVec 32 := Scalar.addi c0_i32_192 v203
  let c1_i32_195 : BitVec 32 := 1#32
  ⟨c0_i32_192, v204, c1_i32_195⟩

def k0_off19 (v81 : BitVec 32) (k0_t5 : Fin (k0_t5_loop v81).trips) : Fin 1 → Nat :=
  let c0_i32_192 : BitVec 32 := 0#32
  let c1_i32_195 : BitVec 32 := 1#32
  let arg36 : BitVec 32 := Scf.iv c0_i32_192 c1_i32_195 k0_t5
  let v265 : Index := Scalar.indexCast arg36
  ![v265.toNat]
def k0_off20 (v81 : BitVec 32) (k0_t5 : Fin (k0_t5_loop v81).trips) : Fin 1 → Nat :=
  let c0_i32_192 : BitVec 32 := 0#32
  let c1_i32_195 : BitVec 32 := 1#32
  let arg36 : BitVec 32 := Scf.iv c0_i32_192 c1_i32_195 k0_t5
  let c1_i32_335 : BitVec 32 := 1#32
  let v372 : BitVec 32 := Scalar.addi arg36 c1_i32_335
  let c1_i32_336 : BitVec 32 := 1#32
  let v373 : BitVec 32 := Scalar.subi v81 c1_i32_336
  let v374 : BitVec 32 := Scalar.minsi v372 v373
  let v375 : Index := Scalar.indexCast v374
  ![v375.toNat]
def k0_cond1 (v81 : BitVec 32) (k0_t5 : Fin (k0_t5_loop v81).trips) : BitVec 1 :=
  let c0_i32_192 : BitVec 32 := 0#32
  let c1_i32_195 : BitVec 32 := 1#32
  let arg36 : BitVec 32 := Scf.iv c0_i32_192 c1_i32_195 k0_t5
  let c1_i32_257 : BitVec 32 := 1#32
  let v267 : BitVec 32 := Scalar.addi arg36 c1_i32_257
  let v268 : BitVec 1 := Scalar.cmpi .slt v267 v81
  let v269 : BitVec 32 := Scalar.extui v268
  let c0_i32_258 : BitVec 32 := 0#32
  let v270 : BitVec 1 := Scalar.cmpi .ne v269 c0_i32_258
  v270

def k0_off21 (v81 : BitVec 32) (k0_t5 : Fin (k0_t5_loop v81).trips) : Fin 2 → Nat :=
  let c1_i32_337 : BitVec 32 := 1#32
  let c0_i32_192 : BitVec 32 := 0#32
  let c1_i32_195 : BitVec 32 := 1#32
  let arg36 : BitVec 32 := Scf.iv c0_i32_192 c1_i32_195 k0_t5
  let c2_i32_256 : BitVec 32 := 2#32
  let v264 : BitVec 32 := Scalar.remsi arg36 c2_i32_256
  let v377 : BitVec 32 := Scalar.subi c1_i32_337 v264
  let c0_i32_338 : BitVec 32 := 0#32
  ![v377.toNat, 0]
def k0_off22 (v81 : BitVec 32) (k0_t5 : Fin (k0_t5_loop v81).trips) : Fin 3 → Nat :=
  let c1_i32_337 : BitVec 32 := 1#32
  let c0_i32_192 : BitVec 32 := 0#32
  let c1_i32_195 : BitVec 32 := 1#32
  let arg36 : BitVec 32 := Scf.iv c0_i32_192 c1_i32_195 k0_t5
  let c2_i32_256 : BitVec 32 := 2#32
  let v264 : BitVec 32 := Scalar.remsi arg36 c2_i32_256
  let v377 : BitVec 32 := Scalar.subi c1_i32_337 v264
  let c0_i32_339 : BitVec 32 := 0#32
  let c0_i32_340 : BitVec 32 := 0#32
  ![v377.toNat, 0, 0]
def k0_off23 (v376 : BitVec 32) : Fin 3 → Nat :=
  let c0_i32_341 : BitVec 32 := 0#32
  let c0_i32_342 : BitVec 32 := 0#32
  ![v376.toNat, 0, 0]

def k0_off24 (v81 : BitVec 32) (k0_t5 : Fin (k0_t5_loop v81).trips) : Fin 2 → Nat :=
  let c1_i32_337 : BitVec 32 := 1#32
  let c0_i32_192 : BitVec 32 := 0#32
  let c1_i32_195 : BitVec 32 := 1#32
  let arg36 : BitVec 32 := Scf.iv c0_i32_192 c1_i32_195 k0_t5
  let c2_i32_256 : BitVec 32 := 2#32
  let v264 : BitVec 32 := Scalar.remsi arg36 c2_i32_256
  let v377 : BitVec 32 := Scalar.subi c1_i32_337 v264
  let c1_i32_343 : BitVec 32 := 1#32
  ![v377.toNat, 1]
def k0_off25 (v81 : BitVec 32) (k0_t5 : Fin (k0_t5_loop v81).trips) : Fin 3 → Nat :=
  let c1_i32_337 : BitVec 32 := 1#32
  let c0_i32_192 : BitVec 32 := 0#32
  let c1_i32_195 : BitVec 32 := 1#32
  let arg36 : BitVec 32 := Scf.iv c0_i32_192 c1_i32_195 k0_t5
  let c2_i32_256 : BitVec 32 := 2#32
  let v264 : BitVec 32 := Scalar.remsi arg36 c2_i32_256
  let v377 : BitVec 32 := Scalar.subi c1_i32_337 v264
  let c0_i32_344 : BitVec 32 := 0#32
  let c0_i32_345 : BitVec 32 := 0#32
  ![v377.toNat, 0, 0]
def k0_off26 (v81 : BitVec 32) (k0_t5 : Fin (k0_t5_loop v81).trips) : Fin 2 → Nat :=
  let c1_i32_337 : BitVec 32 := 1#32
  let c0_i32_192 : BitVec 32 := 0#32
  let c1_i32_195 : BitVec 32 := 1#32
  let arg36 : BitVec 32 := Scf.iv c0_i32_192 c1_i32_195 k0_t5
  let c2_i32_256 : BitVec 32 := 2#32
  let v264 : BitVec 32 := Scalar.remsi arg36 c2_i32_256
  let v377 : BitVec 32 := Scalar.subi c1_i32_337 v264
  let c0_i32_348 : BitVec 32 := 0#32
  ![v377.toNat, 0]
def k0_off27 (v81 : BitVec 32) (k0_t5 : Fin (k0_t5_loop v81).trips) : Fin 3 → Nat :=
  let c1_i32_337 : BitVec 32 := 1#32
  let c0_i32_192 : BitVec 32 := 0#32
  let c1_i32_195 : BitVec 32 := 1#32
  let arg36 : BitVec 32 := Scf.iv c0_i32_192 c1_i32_195 k0_t5
  let c2_i32_256 : BitVec 32 := 2#32
  let v264 : BitVec 32 := Scalar.remsi arg36 c2_i32_256
  let v377 : BitVec 32 := Scalar.subi c1_i32_337 v264
  let c0_i32_349 : BitVec 32 := 0#32
  let c0_i32_350 : BitVec 32 := 0#32
  ![v377.toNat, 0, 0]
def k0_off28 (v376 : BitVec 32) : Fin 3 → Nat :=
  let c0_i32_351 : BitVec 32 := 0#32
  let c0_i32_352 : BitVec 32 := 0#32
  ![v376.toNat, 0, 0]
def k0_off29 (v81 : BitVec 32) (k0_t5 : Fin (k0_t5_loop v81).trips) : Fin 3 → Nat :=
  let c1_i32_337 : BitVec 32 := 1#32
  let c0_i32_192 : BitVec 32 := 0#32
  let c1_i32_195 : BitVec 32 := 1#32
  let arg36 : BitVec 32 := Scf.iv c0_i32_192 c1_i32_195 k0_t5
  let c2_i32_256 : BitVec 32 := 2#32
  let v264 : BitVec 32 := Scalar.remsi arg36 c2_i32_256
  let v377 : BitVec 32 := Scalar.subi c1_i32_337 v264
  let c512_i32_359 : BitVec 32 := 512#32
  let c0_i32_360 : BitVec 32 := 0#32
  ![v377.toNat, 512, 0]
def k0_off30 (v376 : BitVec 32) : Fin 3 → Nat :=
  let c512_i32_361 : BitVec 32 := 512#32
  let c0_i32_362 : BitVec 32 := 0#32
  ![v376.toNat, 512, 0]
def k0_off31 (v81 : BitVec 32) (k0_t5 : Fin (k0_t5_loop v81).trips) : Fin 2 → Nat :=
  let c1_i32_337 : BitVec 32 := 1#32
  let c0_i32_192 : BitVec 32 := 0#32
  let c1_i32_195 : BitVec 32 := 1#32
  let arg36 : BitVec 32 := Scf.iv c0_i32_192 c1_i32_195 k0_t5
  let c2_i32_256 : BitVec 32 := 2#32
  let v264 : BitVec 32 := Scalar.remsi arg36 c2_i32_256
  let v377 : BitVec 32 := Scalar.subi c1_i32_337 v264
  let c2_i32_368 : BitVec 32 := 2#32
  ![v377.toNat, 2]
def k0_off32 (v81 : BitVec 32) (k0_t5 : Fin (k0_t5_loop v81).trips) : Fin 3 → Nat :=
  let c1_i32_337 : BitVec 32 := 1#32
  let c0_i32_192 : BitVec 32 := 0#32
  let c1_i32_195 : BitVec 32 := 1#32
  let arg36 : BitVec 32 := Scf.iv c0_i32_192 c1_i32_195 k0_t5
  let c2_i32_256 : BitVec 32 := 2#32
  let v264 : BitVec 32 := Scalar.remsi arg36 c2_i32_256
  let v377 : BitVec 32 := Scalar.subi c1_i32_337 v264
  let c1024_i32_369 : BitVec 32 := 1024#32
  let c0_i32_370 : BitVec 32 := 0#32
  ![v377.toNat, 1024, 0]
def k0_off33 (v376 : BitVec 32) : Fin 3 → Nat :=
  let c1024_i32_371 : BitVec 32 := 1024#32
  let c0_i32_372 : BitVec 32 := 0#32
  ![v376.toNat, 1024, 0]
def k0_off34 (v81 : BitVec 32) (k0_t5 : Fin (k0_t5_loop v81).trips) : Fin 3 → Nat :=
  let c1_i32_337 : BitVec 32 := 1#32
  let c0_i32_192 : BitVec 32 := 0#32
  let c1_i32_195 : BitVec 32 := 1#32
  let arg36 : BitVec 32 := Scf.iv c0_i32_192 c1_i32_195 k0_t5
  let c2_i32_256 : BitVec 32 := 2#32
  let v264 : BitVec 32 := Scalar.remsi arg36 c2_i32_256
  let v377 : BitVec 32 := Scalar.subi c1_i32_337 v264
  let c0_i32_379 : BitVec 32 := 0#32
  let c0_i32_380 : BitVec 32 := 0#32
  ![v377.toNat, 0, 0]
def k0_off35 (v376 : BitVec 32) : Fin 3 → Nat :=
  let c0_i32_381 : BitVec 32 := 0#32
  let c0_i32_382 : BitVec 32 := 0#32
  ![v376.toNat, 0, 0]
def k0_off36 (v81 : BitVec 32) (k0_t5 : Fin (k0_t5_loop v81).trips) : Fin 2 → Nat :=
  let c1_i32_337 : BitVec 32 := 1#32
  let c0_i32_192 : BitVec 32 := 0#32
  let c1_i32_195 : BitVec 32 := 1#32
  let arg36 : BitVec 32 := Scf.iv c0_i32_192 c1_i32_195 k0_t5
  let c2_i32_256 : BitVec 32 := 2#32
  let v264 : BitVec 32 := Scalar.remsi arg36 c2_i32_256
  let v377 : BitVec 32 := Scalar.subi c1_i32_337 v264
  let c0_i32_383 : BitVec 32 := 0#32
  ![v377.toNat, 0]
def k0_off37 (v81 : BitVec 32) (k0_t5 : Fin (k0_t5_loop v81).trips) : Fin 3 → Nat :=
  let c1_i32_337 : BitVec 32 := 1#32
  let c0_i32_192 : BitVec 32 := 0#32
  let c1_i32_195 : BitVec 32 := 1#32
  let arg36 : BitVec 32 := Scf.iv c0_i32_192 c1_i32_195 k0_t5
  let c2_i32_256 : BitVec 32 := 2#32
  let v264 : BitVec 32 := Scalar.remsi arg36 c2_i32_256
  let v377 : BitVec 32 := Scalar.subi c1_i32_337 v264
  let c0_i32_384 : BitVec 32 := 0#32
  let c0_i32_385 : BitVec 32 := 0#32
  ![v377.toNat, 0, 0]
def k0_off38 (v376 : BitVec 32) : Fin 3 → Nat :=
  let c0_i32_386 : BitVec 32 := 0#32
  let c0_i32_387 : BitVec 32 := 0#32
  ![v376.toNat, 0, 0]
def k0_off39 (v81 : BitVec 32) (k0_t5 : Fin (k0_t5_loop v81).trips) : Fin 2 → Nat :=
  let c1_i32_337 : BitVec 32 := 1#32
  let c0_i32_192 : BitVec 32 := 0#32
  let c1_i32_195 : BitVec 32 := 1#32
  let arg36 : BitVec 32 := Scf.iv c0_i32_192 c1_i32_195 k0_t5
  let c2_i32_256 : BitVec 32 := 2#32
  let v264 : BitVec 32 := Scalar.remsi arg36 c2_i32_256
  let v377 : BitVec 32 := Scalar.subi c1_i32_337 v264
  let c1_i32_388 : BitVec 32 := 1#32
  ![v377.toNat, 1]
def k0_off40 (v81 : BitVec 32) (k0_t5 : Fin (k0_t5_loop v81).trips) : Fin 3 → Nat :=
  let c1_i32_337 : BitVec 32 := 1#32
  let c0_i32_192 : BitVec 32 := 0#32
  let c1_i32_195 : BitVec 32 := 1#32
  let arg36 : BitVec 32 := Scf.iv c0_i32_192 c1_i32_195 k0_t5
  let c2_i32_256 : BitVec 32 := 2#32
  let v264 : BitVec 32 := Scalar.remsi arg36 c2_i32_256
  let v377 : BitVec 32 := Scalar.subi c1_i32_337 v264
  let c1024_i32_389 : BitVec 32 := 1024#32
  let c0_i32_390 : BitVec 32 := 0#32
  ![v377.toNat, 1024, 0]
def k0_off41 (v376 : BitVec 32) : Fin 3 → Nat :=
  let c1024_i32_391 : BitVec 32 := 1024#32
  let c0_i32_392 : BitVec 32 := 0#32
  ![v376.toNat, 1024, 0]
def k0_off42 (v81 : BitVec 32) (k0_t5 : Fin (k0_t5_loop v81).trips) : Fin 2 → Nat :=
  let c1_i32_337 : BitVec 32 := 1#32
  let c0_i32_192 : BitVec 32 := 0#32
  let c1_i32_195 : BitVec 32 := 1#32
  let arg36 : BitVec 32 := Scf.iv c0_i32_192 c1_i32_195 k0_t5
  let c2_i32_256 : BitVec 32 := 2#32
  let v264 : BitVec 32 := Scalar.remsi arg36 c2_i32_256
  let v377 : BitVec 32 := Scalar.subi c1_i32_337 v264
  let c2_i32_393 : BitVec 32 := 2#32
  ![v377.toNat, 2]
def k0_off43 (v81 : BitVec 32) (k0_t5 : Fin (k0_t5_loop v81).trips) : Fin 3 → Nat :=
  let c1_i32_337 : BitVec 32 := 1#32
  let c0_i32_192 : BitVec 32 := 0#32
  let c1_i32_195 : BitVec 32 := 1#32
  let arg36 : BitVec 32 := Scf.iv c0_i32_192 c1_i32_195 k0_t5
  let c2_i32_256 : BitVec 32 := 2#32
  let v264 : BitVec 32 := Scalar.remsi arg36 c2_i32_256
  let v377 : BitVec 32 := Scalar.subi c1_i32_337 v264
  let c2048_i32_394 : BitVec 32 := 2048#32
  let c0_i32_395 : BitVec 32 := 0#32
  ![v377.toNat, 2048, 0]
def k0_off44 (v376 : BitVec 32) : Fin 3 → Nat :=
  let c2048_i32_396 : BitVec 32 := 2048#32
  let c0_i32_397 : BitVec 32 := 0#32
  ![v376.toNat, 2048, 0]
def k0_off45 (v81 : BitVec 32) (k0_t5 : Fin (k0_t5_loop v81).trips) : Fin 2 → Nat :=
  let c1_i32_337 : BitVec 32 := 1#32
  let c0_i32_192 : BitVec 32 := 0#32
  let c1_i32_195 : BitVec 32 := 1#32
  let arg36 : BitVec 32 := Scf.iv c0_i32_192 c1_i32_195 k0_t5
  let c2_i32_256 : BitVec 32 := 2#32
  let v264 : BitVec 32 := Scalar.remsi arg36 c2_i32_256
  let v377 : BitVec 32 := Scalar.subi c1_i32_337 v264
  let c3_i32_398 : BitVec 32 := 3#32
  ![v377.toNat, 3]
def k0_off46 (v81 : BitVec 32) (k0_t5 : Fin (k0_t5_loop v81).trips) : Fin 3 → Nat :=
  let c1_i32_337 : BitVec 32 := 1#32
  let c0_i32_192 : BitVec 32 := 0#32
  let c1_i32_195 : BitVec 32 := 1#32
  let arg36 : BitVec 32 := Scf.iv c0_i32_192 c1_i32_195 k0_t5
  let c2_i32_256 : BitVec 32 := 2#32
  let v264 : BitVec 32 := Scalar.remsi arg36 c2_i32_256
  let v377 : BitVec 32 := Scalar.subi c1_i32_337 v264
  let c3072_i32_399 : BitVec 32 := 3072#32
  let c0_i32_400 : BitVec 32 := 0#32
  ![v377.toNat, 3072, 0]
def k0_off47 (v376 : BitVec 32) : Fin 3 → Nat :=
  let c3072_i32_401 : BitVec 32 := 3072#32
  let c0_i32_402 : BitVec 32 := 0#32
  ![v376.toNat, 3072, 0]

def k0_chk5 (v81 : BitVec 32) (k0_t5 : Fin (k0_t5_loop v81).trips) (v376 : BitVec 32) : Prop :=
  (∀ (k0_h1 : k0_cond1 v81 k0_t5 = 1#1), ∀ a, (k0_off23 v376) a + S1x32x1536.size a ≤ S47x32x1536.size a) ∧
  (∀ (k0_h1 : k0_cond1 v81 k0_t5 = 1#1), ∀ a, (k0_off28 v376) a + S1x512x2048.size a ≤ S47x1536x2048.size a) ∧
  (∀ (k0_h1 : k0_cond1 v81 k0_t5 = 1#1), ∀ (hinb : ∀ a, (k0_off28 v376) a + S1x512x2048.size a ≤ S47x1536x2048.size a), (Rect.unit (s := S47x1536x2048) (k0_off28 v376) S1x512x2048.size hinb).WholeWords (EltTy.packing .i8)) ∧
  (∀ (k0_h1 : k0_cond1 v81 k0_t5 = 1#1), ∀ a, (k0_off30 v376) a + S1x512x2048.size a ≤ S47x1536x2048.size a) ∧
  (∀ (k0_h1 : k0_cond1 v81 k0_t5 = 1#1), ∀ (hinb : ∀ a, (k0_off30 v376) a + S1x512x2048.size a ≤ S47x1536x2048.size a), (Rect.unit (s := S47x1536x2048) (k0_off30 v376) S1x512x2048.size hinb).WholeWords (EltTy.packing .i8)) ∧
  (∀ (k0_h1 : k0_cond1 v81 k0_t5 = 1#1), ∀ a, (k0_off33 v376) a + S1x512x2048.size a ≤ S47x1536x2048.size a) ∧
  (∀ (k0_h1 : k0_cond1 v81 k0_t5 = 1#1), ∀ (hinb : ∀ a, (k0_off33 v376) a + S1x512x2048.size a ≤ S47x1536x2048.size a), (Rect.unit (s := S47x1536x2048) (k0_off33 v376) S1x512x2048.size hinb).WholeWords (EltTy.packing .i8)) ∧
  (∀ (k0_h1 : k0_cond1 v81 k0_t5 = 1#1), ∀ a, (k0_off35 v376) a + S1x12x4096.size a ≤ S47x12x4096.size a) ∧
  (∀ (k0_h1 : k0_cond1 v81 k0_t5 = 1#1), ∀ a, (k0_off38 v376) a + S1x1024x768.size a ≤ S47x4096x768.size a) ∧
  (∀ (k0_h1 : k0_cond1 v81 k0_t5 = 1#1), ∀ (hinb : ∀ a, (k0_off38 v376) a + S1x1024x768.size a ≤ S47x4096x768.size a), (Rect.unit (s := S47x4096x768) (k0_off38 v376) S1x1024x768.size hinb).WholeWords (EltTy.packing .i8)) ∧
  (∀ (k0_h1 : k0_cond1 v81 k0_t5 = 1#1), ∀ a, (k0_off41 v376) a + S1x1024x768.size a ≤ S47x4096x768.size a) ∧
  (∀ (k0_h1 : k0_cond1 v81 k0_t5 = 1#1), ∀ (hinb : ∀ a, (k0_off41 v376) a + S1x1024x768.size a ≤ S47x4096x768.size a), (Rect.unit (s := S47x4096x768) (k0_off41 v376) S1x1024x768.size hinb).WholeWords (EltTy.packing .i8)) ∧
  (∀ (k0_h1 : k0_cond1 v81 k0_t5 = 1#1), ∀ a, (k0_off44 v376) a + S1x1024x768.size a ≤ S47x4096x768.size a) ∧
  (∀ (k0_h1 : k0_cond1 v81 k0_t5 = 1#1), ∀ (hinb : ∀ a, (k0_off44 v376) a + S1x1024x768.size a ≤ S47x4096x768.size a), (Rect.unit (s := S47x4096x768) (k0_off44 v376) S1x1024x768.size hinb).WholeWords (EltTy.packing .i8)) ∧
  (∀ (k0_h1 : k0_cond1 v81 k0_t5 = 1#1), ∀ a, (k0_off47 v376) a + S1x1024x768.size a ≤ S47x4096x768.size a) ∧
  (∀ (k0_h1 : k0_cond1 v81 k0_t5 = 1#1), ∀ (hinb : ∀ a, (k0_off47 v376) a + S1x1024x768.size a ≤ S47x4096x768.size a), (Rect.unit (s := S47x4096x768) (k0_off47 v376) S1x1024x768.size hinb).WholeWords (EltTy.packing .i8))
theorem k0_off23_inb : ∀ (v81 : BitVec 32) (k0_t5 : Fin (k0_t5_loop v81).trips) (v376 : BitVec 32) (k0_hw5 : k0_chk5 v81 k0_t5 v376), ∀ (k0_h1 : k0_cond1 v81 k0_t5 = 1#1), ∀ a, (k0_off23 v376) a + S1x32x1536.size a ≤ S47x32x1536.size a := fun v81 k0_t5 v376 k0_hw5 k0_h1 => k0_hw5.1 k0_h1
theorem k0_off28_inb : ∀ (v81 : BitVec 32) (k0_t5 : Fin (k0_t5_loop v81).trips) (v376 : BitVec 32) (k0_hw5 : k0_chk5 v81 k0_t5 v376), ∀ (k0_h1 : k0_cond1 v81 k0_t5 = 1#1), ∀ a, (k0_off28 v376) a + S1x512x2048.size a ≤ S47x1536x2048.size a := fun v81 k0_t5 v376 k0_hw5 k0_h1 => k0_hw5.2.1 k0_h1
theorem k0_off28_wordsi8 : ∀ (v81 : BitVec 32) (k0_t5 : Fin (k0_t5_loop v81).trips) (v376 : BitVec 32) (k0_hw5 : k0_chk5 v81 k0_t5 v376), ∀ (k0_h1 : k0_cond1 v81 k0_t5 = 1#1), (Rect.unit (s := S47x1536x2048) (k0_off28 v376) S1x512x2048.size (k0_off28_inb v81 k0_t5 v376 k0_hw5 k0_h1)).WholeWords (EltTy.packing .i8) := fun v81 k0_t5 v376 k0_hw5 k0_h1 => k0_hw5.2.2.1 k0_h1 (k0_off28_inb v81 k0_t5 v376 k0_hw5 k0_h1)
theorem k0_off30_inb : ∀ (v81 : BitVec 32) (k0_t5 : Fin (k0_t5_loop v81).trips) (v376 : BitVec 32) (k0_hw5 : k0_chk5 v81 k0_t5 v376), ∀ (k0_h1 : k0_cond1 v81 k0_t5 = 1#1), ∀ a, (k0_off30 v376) a + S1x512x2048.size a ≤ S47x1536x2048.size a := fun v81 k0_t5 v376 k0_hw5 k0_h1 => k0_hw5.2.2.2.1 k0_h1
theorem k0_off30_wordsi8 : ∀ (v81 : BitVec 32) (k0_t5 : Fin (k0_t5_loop v81).trips) (v376 : BitVec 32) (k0_hw5 : k0_chk5 v81 k0_t5 v376), ∀ (k0_h1 : k0_cond1 v81 k0_t5 = 1#1), (Rect.unit (s := S47x1536x2048) (k0_off30 v376) S1x512x2048.size (k0_off30_inb v81 k0_t5 v376 k0_hw5 k0_h1)).WholeWords (EltTy.packing .i8) := fun v81 k0_t5 v376 k0_hw5 k0_h1 => k0_hw5.2.2.2.2.1 k0_h1 (k0_off30_inb v81 k0_t5 v376 k0_hw5 k0_h1)
theorem k0_off33_inb : ∀ (v81 : BitVec 32) (k0_t5 : Fin (k0_t5_loop v81).trips) (v376 : BitVec 32) (k0_hw5 : k0_chk5 v81 k0_t5 v376), ∀ (k0_h1 : k0_cond1 v81 k0_t5 = 1#1), ∀ a, (k0_off33 v376) a + S1x512x2048.size a ≤ S47x1536x2048.size a := fun v81 k0_t5 v376 k0_hw5 k0_h1 => k0_hw5.2.2.2.2.2.1 k0_h1
theorem k0_off33_wordsi8 : ∀ (v81 : BitVec 32) (k0_t5 : Fin (k0_t5_loop v81).trips) (v376 : BitVec 32) (k0_hw5 : k0_chk5 v81 k0_t5 v376), ∀ (k0_h1 : k0_cond1 v81 k0_t5 = 1#1), (Rect.unit (s := S47x1536x2048) (k0_off33 v376) S1x512x2048.size (k0_off33_inb v81 k0_t5 v376 k0_hw5 k0_h1)).WholeWords (EltTy.packing .i8) := fun v81 k0_t5 v376 k0_hw5 k0_h1 => k0_hw5.2.2.2.2.2.2.1 k0_h1 (k0_off33_inb v81 k0_t5 v376 k0_hw5 k0_h1)
theorem k0_off35_inb : ∀ (v81 : BitVec 32) (k0_t5 : Fin (k0_t5_loop v81).trips) (v376 : BitVec 32) (k0_hw5 : k0_chk5 v81 k0_t5 v376), ∀ (k0_h1 : k0_cond1 v81 k0_t5 = 1#1), ∀ a, (k0_off35 v376) a + S1x12x4096.size a ≤ S47x12x4096.size a := fun v81 k0_t5 v376 k0_hw5 k0_h1 => k0_hw5.2.2.2.2.2.2.2.1 k0_h1
theorem k0_off38_inb : ∀ (v81 : BitVec 32) (k0_t5 : Fin (k0_t5_loop v81).trips) (v376 : BitVec 32) (k0_hw5 : k0_chk5 v81 k0_t5 v376), ∀ (k0_h1 : k0_cond1 v81 k0_t5 = 1#1), ∀ a, (k0_off38 v376) a + S1x1024x768.size a ≤ S47x4096x768.size a := fun v81 k0_t5 v376 k0_hw5 k0_h1 => k0_hw5.2.2.2.2.2.2.2.2.1 k0_h1
theorem k0_off38_wordsi8 : ∀ (v81 : BitVec 32) (k0_t5 : Fin (k0_t5_loop v81).trips) (v376 : BitVec 32) (k0_hw5 : k0_chk5 v81 k0_t5 v376), ∀ (k0_h1 : k0_cond1 v81 k0_t5 = 1#1), (Rect.unit (s := S47x4096x768) (k0_off38 v376) S1x1024x768.size (k0_off38_inb v81 k0_t5 v376 k0_hw5 k0_h1)).WholeWords (EltTy.packing .i8) := fun v81 k0_t5 v376 k0_hw5 k0_h1 => k0_hw5.2.2.2.2.2.2.2.2.2.1 k0_h1 (k0_off38_inb v81 k0_t5 v376 k0_hw5 k0_h1)
theorem k0_off41_inb : ∀ (v81 : BitVec 32) (k0_t5 : Fin (k0_t5_loop v81).trips) (v376 : BitVec 32) (k0_hw5 : k0_chk5 v81 k0_t5 v376), ∀ (k0_h1 : k0_cond1 v81 k0_t5 = 1#1), ∀ a, (k0_off41 v376) a + S1x1024x768.size a ≤ S47x4096x768.size a := fun v81 k0_t5 v376 k0_hw5 k0_h1 => k0_hw5.2.2.2.2.2.2.2.2.2.2.1 k0_h1
theorem k0_off41_wordsi8 : ∀ (v81 : BitVec 32) (k0_t5 : Fin (k0_t5_loop v81).trips) (v376 : BitVec 32) (k0_hw5 : k0_chk5 v81 k0_t5 v376), ∀ (k0_h1 : k0_cond1 v81 k0_t5 = 1#1), (Rect.unit (s := S47x4096x768) (k0_off41 v376) S1x1024x768.size (k0_off41_inb v81 k0_t5 v376 k0_hw5 k0_h1)).WholeWords (EltTy.packing .i8) := fun v81 k0_t5 v376 k0_hw5 k0_h1 => k0_hw5.2.2.2.2.2.2.2.2.2.2.2.1 k0_h1 (k0_off41_inb v81 k0_t5 v376 k0_hw5 k0_h1)
theorem k0_off44_inb : ∀ (v81 : BitVec 32) (k0_t5 : Fin (k0_t5_loop v81).trips) (v376 : BitVec 32) (k0_hw5 : k0_chk5 v81 k0_t5 v376), ∀ (k0_h1 : k0_cond1 v81 k0_t5 = 1#1), ∀ a, (k0_off44 v376) a + S1x1024x768.size a ≤ S47x4096x768.size a := fun v81 k0_t5 v376 k0_hw5 k0_h1 => k0_hw5.2.2.2.2.2.2.2.2.2.2.2.2.1 k0_h1
theorem k0_off44_wordsi8 : ∀ (v81 : BitVec 32) (k0_t5 : Fin (k0_t5_loop v81).trips) (v376 : BitVec 32) (k0_hw5 : k0_chk5 v81 k0_t5 v376), ∀ (k0_h1 : k0_cond1 v81 k0_t5 = 1#1), (Rect.unit (s := S47x4096x768) (k0_off44 v376) S1x1024x768.size (k0_off44_inb v81 k0_t5 v376 k0_hw5 k0_h1)).WholeWords (EltTy.packing .i8) := fun v81 k0_t5 v376 k0_hw5 k0_h1 => k0_hw5.2.2.2.2.2.2.2.2.2.2.2.2.2.1 k0_h1 (k0_off44_inb v81 k0_t5 v376 k0_hw5 k0_h1)
theorem k0_off47_inb : ∀ (v81 : BitVec 32) (k0_t5 : Fin (k0_t5_loop v81).trips) (v376 : BitVec 32) (k0_hw5 : k0_chk5 v81 k0_t5 v376), ∀ (k0_h1 : k0_cond1 v81 k0_t5 = 1#1), ∀ a, (k0_off47 v376) a + S1x1024x768.size a ≤ S47x4096x768.size a := fun v81 k0_t5 v376 k0_hw5 k0_h1 => k0_hw5.2.2.2.2.2.2.2.2.2.2.2.2.2.2.1 k0_h1
theorem k0_off47_wordsi8 : ∀ (v81 : BitVec 32) (k0_t5 : Fin (k0_t5_loop v81).trips) (v376 : BitVec 32) (k0_hw5 : k0_chk5 v81 k0_t5 v376), ∀ (k0_h1 : k0_cond1 v81 k0_t5 = 1#1), (Rect.unit (s := S47x4096x768) (k0_off47 v376) S1x1024x768.size (k0_off47_inb v81 k0_t5 v376 k0_hw5 k0_h1)).WholeWords (EltTy.packing .i8) := fun v81 k0_t5 v376 k0_hw5 k0_h1 => k0_hw5.2.2.2.2.2.2.2.2.2.2.2.2.2.2.2 k0_h1 (k0_off47_inb v81 k0_t5 v376 k0_hw5 k0_h1)

def k0_off48 (v81 : BitVec 32) (k0_t5 : Fin (k0_t5_loop v81).trips) : Fin 2 → Nat :=
  let c0_i32_192 : BitVec 32 := 0#32
  let c1_i32_195 : BitVec 32 := 1#32
  let arg36 : BitVec 32 := Scf.iv c0_i32_192 c1_i32_195 k0_t5
  let c2_i32_256 : BitVec 32 := 2#32
  let v264 : BitVec 32 := Scalar.remsi arg36 c2_i32_256
  let c0_i32_259 : BitVec 32 := 0#32
  ![v264.toNat, 0]
def k0_off49 (v81 : BitVec 32) (k0_t5 : Fin (k0_t5_loop v81).trips) : Fin 3 → Nat :=
  let c0_i32_192 : BitVec 32 := 0#32
  let c1_i32_195 : BitVec 32 := 1#32
  let arg36 : BitVec 32 := Scf.iv c0_i32_192 c1_i32_195 k0_t5
  let c2_i32_256 : BitVec 32 := 2#32
  let v264 : BitVec 32 := Scalar.remsi arg36 c2_i32_256
  let c0_i32_260 : BitVec 32 := 0#32
  let c0_i32_261 : BitVec 32 := 0#32
  ![v264.toNat, 0, 0]
def k0_off50 (v266 : BitVec 32) : Fin 3 → Nat :=
  let c0_i32_262 : BitVec 32 := 0#32
  let c0_i32_263 : BitVec 32 := 0#32
  ![v266.toNat, 0, 0]

def k0_off51 (v81 : BitVec 32) (k0_t5 : Fin (k0_t5_loop v81).trips) : Fin 2 → Nat :=
  let c0_i32_192 : BitVec 32 := 0#32
  let c1_i32_195 : BitVec 32 := 1#32
  let arg36 : BitVec 32 := Scf.iv c0_i32_192 c1_i32_195 k0_t5
  let c2_i32_256 : BitVec 32 := 2#32
  let v264 : BitVec 32 := Scalar.remsi arg36 c2_i32_256
  let c1_i32_264 : BitVec 32 := 1#32
  ![v264.toNat, 1]
def k0_off52 (v81 : BitVec 32) (k0_t5 : Fin (k0_t5_loop v81).trips) : Fin 3 → Nat :=
  let c0_i32_192 : BitVec 32 := 0#32
  let c1_i32_195 : BitVec 32 := 1#32
  let arg36 : BitVec 32 := Scf.iv c0_i32_192 c1_i32_195 k0_t5
  let c2_i32_256 : BitVec 32 := 2#32
  let v264 : BitVec 32 := Scalar.remsi arg36 c2_i32_256
  let c0_i32_265 : BitVec 32 := 0#32
  let c0_i32_266 : BitVec 32 := 0#32
  ![v264.toNat, 0, 0]
@[reducible] def k0_t6_loop : Scf.Loop 32 :=
  let c0_i32_270 : BitVec 32 := 0#32
  let c3_i32_271 : BitVec 32 := 3#32
  let v283 : BitVec 32 := Scalar.addi c0_i32_270 c3_i32_271
  let c1_i32_272 : BitVec 32 := 1#32
  ⟨c0_i32_270, v283, c1_i32_272⟩
def k0_mult2 (k0_t6 : Fin k0_t6_loop.trips) : BitVec 32 :=
  let c0_i32_270 : BitVec 32 := 0#32
  let c1_i32_272 : BitVec 32 := 1#32
  let arg38 : BitVec 32 := Scf.iv c0_i32_270 c1_i32_272 k0_t6
  let c512_i32_335 : BitVec 32 := 512#32
  let v372 : BitVec 32 := Scalar.muli arg38 c512_i32_335
  v372
def k0_off53 (v81 : BitVec 32) (k0_t5 : Fin (k0_t5_loop v81).trips) (k0_t6 : Fin k0_t6_loop.trips) : Fin 2 → Nat :=
  let c0_i32_192 : BitVec 32 := 0#32
  let c1_i32_195 : BitVec 32 := 1#32
  let arg36 : BitVec 32 := Scf.iv c0_i32_192 c1_i32_195 k0_t5
  let c2_i32_256 : BitVec 32 := 2#32
  let v264 : BitVec 32 := Scalar.remsi arg36 c2_i32_256
  let c0_i32_270 : BitVec 32 := 0#32
  let c1_i32_272 : BitVec 32 := 1#32
  let arg38 : BitVec 32 := Scf.iv c0_i32_270 c1_i32_272 k0_t6
  ![v264.toNat, arg38.toNat]
def k0_off54 (v81 : BitVec 32) (k0_t5 : Fin (k0_t5_loop v81).trips) (k0_t6 : Fin k0_t6_loop.trips) : Fin 3 → Nat :=
  let c0_i32_192 : BitVec 32 := 0#32
  let c1_i32_195 : BitVec 32 := 1#32
  let arg36 : BitVec 32 := Scf.iv c0_i32_192 c1_i32_195 k0_t5
  let c2_i32_256 : BitVec 32 := 2#32
  let v264 : BitVec 32 := Scalar.remsi arg36 c2_i32_256
  let c0_i32_270 : BitVec 32 := 0#32
  let c1_i32_272 : BitVec 32 := 1#32
  let arg38 : BitVec 32 := Scf.iv c0_i32_270 c1_i32_272 k0_t6
  let c512_i32_335 : BitVec 32 := 512#32
  let v372 : BitVec 32 := Scalar.muli arg38 c512_i32_335
  let v373 : BitVec 32 := v372
  let c0_i32_336 : BitVec 32 := 0#32
  ![v264.toNat, v373.toNat, 0]
def k0_off55 (v266 : BitVec 32) (k0_t6 : Fin k0_t6_loop.trips) : Fin 3 → Nat :=
  let c0_i32_270 : BitVec 32 := 0#32
  let c1_i32_272 : BitVec 32 := 1#32
  let arg38 : BitVec 32 := Scf.iv c0_i32_270 c1_i32_272 k0_t6
  let c512_i32_335 : BitVec 32 := 512#32
  let v372 : BitVec 32 := Scalar.muli arg38 c512_i32_335
  let v373 : BitVec 32 := v372
  let c0_i32_337 : BitVec 32 := 0#32
  ![v266.toNat, v373.toNat, 0]
def k0_mult3 (k0_t6 : Fin k0_t6_loop.trips) : BitVec 32 :=
  let c0_i32_270 : BitVec 32 := 0#32
  let c1_i32_272 : BitVec 32 := 1#32
  let arg38 : BitVec 32 := Scf.iv c0_i32_270 c1_i32_272 k0_t6
  let c512_i32_338 : BitVec 32 := 512#32
  let v380 : BitVec 32 := Scalar.muli arg38 c512_i32_338
  v380
@[reducible] def k0_t7_loop : Scf.Loop 32 :=
  let c0_i32_342 : BitVec 32 := 0#32
  let c2_i32_343 : BitVec 32 := 2#32
  let v388 : BitVec 32 := Scalar.addi c0_i32_342 c2_i32_343
  let c1_i32_344 : BitVec 32 := 1#32
  ⟨c0_i32_342, v388, c1_i32_344⟩
def k0_mult4 (k0_t6 : Fin k0_t6_loop.trips) (k0_t7 : Fin k0_t7_loop.trips) : BitVec 32 :=
  let c0_i32_270 : BitVec 32 := 0#32
  let c1_i32_272 : BitVec 32 := 1#32
  let arg38 : BitVec 32 := Scf.iv c0_i32_270 c1_i32_272 k0_t6
  let c512_i32_347 : BitVec 32 := 512#32
  let v390 : BitVec 32 := Scalar.muli arg38 c512_i32_347
  let c0_i32_342 : BitVec 32 := 0#32
  let c1_i32_344 : BitVec 32 := 1#32
  let arg40 : BitVec 32 := Scf.iv c0_i32_342 c1_i32_344 k0_t7
  let c256_i32 : BitVec 32 := 256#32
  let v391 : BitVec 32 := Scalar.muli arg40 c256_i32
  let v392 : BitVec 32 := Scalar.addi v390 v391
  v392
@[reducible] def k0_t8_loop : Scf.Loop 32 :=
  let c0_i32_349 : BitVec 32 := 0#32
  let c16_i32 : BitVec 32 := 16#32
  let v395 : BitVec 32 := Scalar.addi c0_i32_349 c16_i32
  let c1_i32_350 : BitVec 32 := 1#32
  ⟨c0_i32_349, v395, c1_i32_350⟩
def k0_mult5 (k0_t8 : Fin k0_t8_loop.trips) : BitVec 32 :=
  let c0_i32_349 : BitVec 32 := 0#32
  let c1_i32_350 : BitVec 32 := 1#32
  let arg42 : BitVec 32 := Scf.iv c0_i32_349 c1_i32_350 k0_t8
  let c128_i32 : BitVec 32 := 128#32
  let v409 : BitVec 32 := Scalar.muli arg42 c128_i32
  v409
def k0_off56 (v81 : BitVec 32) (k0_t5 : Fin (k0_t5_loop v81).trips) (k0_t6 : Fin k0_t6_loop.trips) (k0_t7 : Fin k0_t7_loop.trips) (k0_t8 : Fin k0_t8_loop.trips) : Fin 3 → Nat :=
  let c0_i32_192 : BitVec 32 := 0#32
  let c1_i32_195 : BitVec 32 := 1#32
  let arg36 : BitVec 32 := Scf.iv c0_i32_192 c1_i32_195 k0_t5
  let c2_i32_256 : BitVec 32 := 2#32
  let v264 : BitVec 32 := Scalar.remsi arg36 c2_i32_256
  let v411 : Index := Scalar.indexCast v264
  let c0_i32_270 : BitVec 32 := 0#32
  let c1_i32_272 : BitVec 32 := 1#32
  let arg38 : BitVec 32 := Scf.iv c0_i32_270 c1_i32_272 k0_t6
  let c512_i32_347 : BitVec 32 := 512#32
  let v390 : BitVec 32 := Scalar.muli arg38 c512_i32_347
  let c0_i32_342 : BitVec 32 := 0#32
  let c1_i32_344 : BitVec 32 := 1#32
  let arg40 : BitVec 32 := Scf.iv c0_i32_342 c1_i32_344 k0_t7
  let c256_i32 : BitVec 32 := 256#32
  let v391 : BitVec 32 := Scalar.muli arg40 c256_i32
  let v392 : BitVec 32 := Scalar.addi v390 v391
  let v393 : BitVec 32 := v392
  let v412 : Index := Scalar.indexCast v393
  let c0_i32_349 : BitVec 32 := 0#32
  let c1_i32_350 : BitVec 32 := 1#32
  let arg42 : BitVec 32 := Scf.iv c0_i32_349 c1_i32_350 k0_t8
  let c128_i32 : BitVec 32 := 128#32
  let v409 : BitVec 32 := Scalar.muli arg42 c128_i32
  let v410 : BitVec 32 := v409
  let v413 : Index := Scalar.indexCast v410
  ![v411.toNat, v412.toNat, v413.toNat]
def k0_off57 (v81 : BitVec 32) (k0_t5 : Fin (k0_t5_loop v81).trips) (k0_t6 : Fin k0_t6_loop.trips) (k0_t7 : Fin k0_t7_loop.trips) (k0_t8 : Fin k0_t8_loop.trips) (c0_i32_362 : BitVec 32) : Fin 3 → Nat :=
  let c0_i32_192 : BitVec 32 := 0#32
  let c1_i32_195 : BitVec 32 := 1#32
  let arg36 : BitVec 32 := Scf.iv c0_i32_192 c1_i32_195 k0_t5
  let c2_i32_256 : BitVec 32 := 2#32
  let v264 : BitVec 32 := Scalar.remsi arg36 c2_i32_256
  let v433 : Index := Scalar.indexCast v264
  let c2_i32_359 : BitVec 32 := 2#32
  let c0_i32_349 : BitVec 32 := 0#32
  let c1_i32_350 : BitVec 32 := 1#32
  let arg42 : BitVec 32 := Scf.iv c0_i32_349 c1_i32_350 k0_t8
  let v416 : BitVec 32 := Scalar.muli c2_i32_359 arg42
  let v432 : BitVec 32 := Scalar.addi v416 c0_i32_362
  let v434 : Index := Scalar.indexCast v432
  let c0_i32_270 : BitVec 32 := 0#32
  let c1_i32_272 : BitVec 32 := 1#32
  let arg38 : BitVec 32 := Scf.iv c0_i32_270 c1_i32_272 k0_t6
  let c512_i32_347 : BitVec 32 := 512#32
  let v390 : BitVec 32 := Scalar.muli arg38 c512_i32_347
  let c0_i32_342 : BitVec 32 := 0#32
  let c1_i32_344 : BitVec 32 := 1#32
  let arg40 : BitVec 32 := Scf.iv c0_i32_342 c1_i32_344 k0_t7
  let c256_i32 : BitVec 32 := 256#32
  let v391 : BitVec 32 := Scalar.muli arg40 c256_i32
  let v392 : BitVec 32 := Scalar.addi v390 v391
  let v393 : BitVec 32 := v392
  let v435 : Index := Scalar.indexCast v393
  ![v433.toNat, v434.toNat, v435.toNat]
def k0_mult6 (k0_t8 : Fin k0_t8_loop.trips) : BitVec 32 :=
  let c0_i32_349 : BitVec 32 := 0#32
  let c1_i32_350 : BitVec 32 := 1#32
  let arg42 : BitVec 32 := Scf.iv c0_i32_349 c1_i32_350 k0_t8
  let c256_i32_364 : BitVec 32 := 256#32
  let v453 : BitVec 32 := Scalar.muli arg42 c256_i32_364
  v453
def k0_off58 (k0_t8 : Fin k0_t8_loop.trips) : Fin 2 → Nat :=
  let c0_365 : Index := 0#32
  let c0_i32_349 : BitVec 32 := 0#32
  let c1_i32_350 : BitVec 32 := 1#32
  let arg42 : BitVec 32 := Scf.iv c0_i32_349 c1_i32_350 k0_t8
  let c256_i32_364 : BitVec 32 := 256#32
  let v453 : BitVec 32 := Scalar.muli arg42 c256_i32_364
  let v454 : BitVec 32 := v453
  let v455 : Index := Scalar.indexCast v454
  ![0, v455.toNat]
@[reducible] def k0_t9_loop : Scf.Loop 32 :=
  let c0_i32_353 : BitVec 32 := 0#32
  let c16_i32_354 : BitVec 32 := 16#32
  let v398 : BitVec 32 := Scalar.addi c0_i32_353 c16_i32_354
  let c1_i32_355 : BitVec 32 := 1#32
  ⟨c0_i32_353, v398, c1_i32_355⟩
def k0_mult7 (k0_t9 : Fin k0_t9_loop.trips) : BitVec 32 :=
  let c0_i32_353 : BitVec 32 := 0#32
  let c1_i32_355 : BitVec 32 := 1#32
  let arg42 : BitVec 32 := Scf.iv c0_i32_353 c1_i32_355 k0_t9
  let c128_i32 : BitVec 32 := 128#32
  let v409 : BitVec 32 := Scalar.muli arg42 c128_i32
  v409
def k0_off59 (v81 : BitVec 32) (k0_t5 : Fin (k0_t5_loop v81).trips) (k0_t6 : Fin k0_t6_loop.trips) (k0_t7 : Fin k0_t7_loop.trips) (k0_t9 : Fin k0_t9_loop.trips) : Fin 3 → Nat :=
  let c0_i32_192 : BitVec 32 := 0#32
  let c1_i32_195 : BitVec 32 := 1#32
  let arg36 : BitVec 32 := Scf.iv c0_i32_192 c1_i32_195 k0_t5
  let c2_i32_256 : BitVec 32 := 2#32
  let v264 : BitVec 32 := Scalar.remsi arg36 c2_i32_256
  let v411 : Index := Scalar.indexCast v264
  let c0_i32_270 : BitVec 32 := 0#32
  let c1_i32_272 : BitVec 32 := 1#32
  let arg38 : BitVec 32 := Scf.iv c0_i32_270 c1_i32_272 k0_t6
  let c512_i32_347 : BitVec 32 := 512#32
  let v390 : BitVec 32 := Scalar.muli arg38 c512_i32_347
  let c0_i32_342 : BitVec 32 := 0#32
  let c1_i32_344 : BitVec 32 := 1#32
  let arg40 : BitVec 32 := Scf.iv c0_i32_342 c1_i32_344 k0_t7
  let c256_i32 : BitVec 32 := 256#32
  let v391 : BitVec 32 := Scalar.muli arg40 c256_i32
  let v392 : BitVec 32 := Scalar.addi v390 v391
  let v393 : BitVec 32 := v392
  let v412 : Index := Scalar.indexCast v393
  let c0_i32_353 : BitVec 32 := 0#32
  let c1_i32_355 : BitVec 32 := 1#32
  let arg42 : BitVec 32 := Scf.iv c0_i32_353 c1_i32_355 k0_t9
  let c128_i32 : BitVec 32 := 128#32
  let v409 : BitVec 32 := Scalar.muli arg42 c128_i32
  let v410 : BitVec 32 := v409
  let v413 : Index := Scalar.indexCast v410
  ![v411.toNat, v412.toNat, v413.toNat]
def k0_off60 (v81 : BitVec 32) (k0_t5 : Fin (k0_t5_loop v81).trips) (k0_t6 : Fin k0_t6_loop.trips) (k0_t7 : Fin k0_t7_loop.trips) (k0_t9 : Fin k0_t9_loop.trips) (c0_i32_362 : BitVec 32) : Fin 3 → Nat :=
  let c0_i32_192 : BitVec 32 := 0#32
  let c1_i32_195 : BitVec 32 := 1#32
  let arg36 : BitVec 32 := Scf.iv c0_i32_192 c1_i32_195 k0_t5
  let c2_i32_256 : BitVec 32 := 2#32
  let v264 : BitVec 32 := Scalar.remsi arg36 c2_i32_256
  let v433 : Index := Scalar.indexCast v264
  let c2_i32_359 : BitVec 32 := 2#32
  let c0_i32_353 : BitVec 32 := 0#32
  let c1_i32_355 : BitVec 32 := 1#32
  let arg42 : BitVec 32 := Scf.iv c0_i32_353 c1_i32_355 k0_t9
  let v416 : BitVec 32 := Scalar.muli c2_i32_359 arg42
  let v432 : BitVec 32 := Scalar.addi v416 c0_i32_362
  let v434 : Index := Scalar.indexCast v432
  let c0_i32_270 : BitVec 32 := 0#32
  let c1_i32_272 : BitVec 32 := 1#32
  let arg38 : BitVec 32 := Scf.iv c0_i32_270 c1_i32_272 k0_t6
  let c512_i32_347 : BitVec 32 := 512#32
  let v390 : BitVec 32 := Scalar.muli arg38 c512_i32_347
  let c0_i32_342 : BitVec 32 := 0#32
  let c1_i32_344 : BitVec 32 := 1#32
  let arg40 : BitVec 32 := Scf.iv c0_i32_342 c1_i32_344 k0_t7
  let c256_i32 : BitVec 32 := 256#32
  let v391 : BitVec 32 := Scalar.muli arg40 c256_i32
  let v392 : BitVec 32 := Scalar.addi v390 v391
  let v393 : BitVec 32 := v392
  let v435 : Index := Scalar.indexCast v393
  ![v433.toNat, v434.toNat, v435.toNat]
def k0_mult8 (k0_t9 : Fin k0_t9_loop.trips) : BitVec 32 :=
  let c0_i32_353 : BitVec 32 := 0#32
  let c1_i32_355 : BitVec 32 := 1#32
  let arg42 : BitVec 32 := Scf.iv c0_i32_353 c1_i32_355 k0_t9
  let c256_i32_364 : BitVec 32 := 256#32
  let v453 : BitVec 32 := Scalar.muli arg42 c256_i32_364
  v453
def k0_off61 (k0_t9 : Fin k0_t9_loop.trips) : Fin 2 → Nat :=
  let c0_365 : Index := 0#32
  let c0_i32_353 : BitVec 32 := 0#32
  let c1_i32_355 : BitVec 32 := 1#32
  let arg42 : BitVec 32 := Scf.iv c0_i32_353 c1_i32_355 k0_t9
  let c256_i32_364 : BitVec 32 := 256#32
  let v453 : BitVec 32 := Scalar.muli arg42 c256_i32_364
  let v454 : BitVec 32 := v453
  let v455 : Index := Scalar.indexCast v454
  ![0, v455.toNat]
def k0_off62 (k0_t6 : Fin k0_t6_loop.trips) (k0_t7 : Fin k0_t7_loop.trips) : Fin 2 → Nat :=
  let c0_357 : Index := 0#32
  let c0_i32_270 : BitVec 32 := 0#32
  let c1_i32_272 : BitVec 32 := 1#32
  let arg38 : BitVec 32 := Scf.iv c0_i32_270 c1_i32_272 k0_t6
  let c512_i32_347 : BitVec 32 := 512#32
  let v390 : BitVec 32 := Scalar.muli arg38 c512_i32_347
  let c0_i32_342 : BitVec 32 := 0#32
  let c1_i32_344 : BitVec 32 := 1#32
  let arg40 : BitVec 32 := Scf.iv c0_i32_342 c1_i32_344 k0_t7
  let c256_i32 : BitVec 32 := 256#32
  let v391 : BitVec 32 := Scalar.muli arg40 c256_i32
  let v392 : BitVec 32 := Scalar.addi v390 v391
  let v393 : BitVec 32 := v392
  let v405 : Index := Scalar.indexCast v393
  ![0, v405.toNat]
@[reducible] def k0_t10_loop : Scf.Loop 32 :=
  let c0_i32_275 : BitVec 32 := 0#32
  let c12_i32 : BitVec 32 := 12#32
  let v286 : BitVec 32 := Scalar.addi c0_i32_275 c12_i32
  let c1_i32_276 : BitVec 32 := 1#32
  ⟨c0_i32_275, v286, c1_i32_276⟩
def k0_mult9 (k0_t10 : Fin k0_t10_loop.trips) : BitVec 32 :=
  let c0_i32_275 : BitVec 32 := 0#32
  let c1_i32_276 : BitVec 32 := 1#32
  let arg38 : BitVec 32 := Scf.iv c0_i32_275 c1_i32_276 k0_t10
  let c128_i32 : BitVec 32 := 128#32
  let v372 : BitVec 32 := Scalar.muli arg38 c128_i32
  v372
def k0_off63 (k0_t10 : Fin k0_t10_loop.trips) : Fin 2 → Nat :=
  let c0_335 : Index := 0#32
  let c0_i32_275 : BitVec 32 := 0#32
  let c1_i32_276 : BitVec 32 := 1#32
  let arg38 : BitVec 32 := Scf.iv c0_i32_275 c1_i32_276 k0_t10
  let c128_i32 : BitVec 32 := 128#32
  let v372 : BitVec 32 := Scalar.muli arg38 c128_i32
  let v373 : BitVec 32 := v372
  let v374 : Index := Scalar.indexCast v373
  ![0, v374.toNat]
def k0_off64 (k0_t10 : Fin k0_t10_loop.trips) : Fin 2 → Nat :=
  let c0_366 : Index := 0#32
  let c0_i32_275 : BitVec 32 := 0#32
  let c1_i32_276 : BitVec 32 := 1#32
  let arg38 : BitVec 32 := Scf.iv c0_i32_275 c1_i32_276 k0_t10
  let c128_i32 : BitVec 32 := 128#32
  let v372 : BitVec 32 := Scalar.muli arg38 c128_i32
  let v373 : BitVec 32 := v372
  let v485 : Index := Scalar.indexCast v373
  ![0, v485.toNat]
@[reducible] def k0_t11_loop : Scf.Loop 32 :=
  let c0_i32_315 : BitVec 32 := 0#32
  let c12_i32_316 : BitVec 32 := 12#32
  let v354 : BitVec 32 := Scalar.addi c0_i32_315 c12_i32_316
  let c1_i32_317 : BitVec 32 := 1#32
  ⟨c0_i32_315, v354, c1_i32_317⟩
def k0_mult10 (k0_t11 : Fin k0_t11_loop.trips) : BitVec 32 :=
  let c0_i32_315 : BitVec 32 := 0#32
  let c1_i32_317 : BitVec 32 := 1#32
  let arg38 : BitVec 32 := Scf.iv c0_i32_315 c1_i32_317 k0_t11
  let c128_i32 : BitVec 32 := 128#32
  let v372 : BitVec 32 := Scalar.muli arg38 c128_i32
  v372
def k0_off65 (k0_t11 : Fin k0_t11_loop.trips) : Fin 2 → Nat :=
  let c0_335 : Index := 0#32
  let c0_i32_315 : BitVec 32 := 0#32
  let c1_i32_317 : BitVec 32 := 1#32
  let arg38 : BitVec 32 := Scf.iv c0_i32_315 c1_i32_317 k0_t11
  let c128_i32 : BitVec 32 := 128#32
  let v372 : BitVec 32 := Scalar.muli arg38 c128_i32
  let v373 : BitVec 32 := v372
  let v374 : Index := Scalar.indexCast v373
  ![0, v374.toNat]
def k0_off66 (k0_t11 : Fin k0_t11_loop.trips) : Fin 2 → Nat :=
  let c0_336 : Index := 0#32
  let c0_i32_315 : BitVec 32 := 0#32
  let c1_i32_317 : BitVec 32 := 1#32
  let arg38 : BitVec 32 := Scf.iv c0_i32_315 c1_i32_317 k0_t11
  let c128_i32 : BitVec 32 := 128#32
  let v372 : BitVec 32 := Scalar.muli arg38 c128_i32
  let v373 : BitVec 32 := v372
  let v376 : Index := Scalar.indexCast v373
  ![0, v376.toNat]
def k0_off67 (k0_t11 : Fin k0_t11_loop.trips) : Fin 2 → Nat :=
  let c1_338 : Index := 1#32
  let c0_i32_315 : BitVec 32 := 0#32
  let c1_i32_317 : BitVec 32 := 1#32
  let arg38 : BitVec 32 := Scf.iv c0_i32_315 c1_i32_317 k0_t11
  let c128_i32 : BitVec 32 := 128#32
  let v372 : BitVec 32 := Scalar.muli arg38 c128_i32
  let v373 : BitVec 32 := v372
  let v385 : Index := Scalar.indexCast v373
  ![1, v385.toNat]
def k0_off68 (k0_t11 : Fin k0_t11_loop.trips) : Fin 2 → Nat :=
  let c8_339 : Index := 8#32
  let c0_i32_315 : BitVec 32 := 0#32
  let c1_i32_317 : BitVec 32 := 1#32
  let arg38 : BitVec 32 := Scf.iv c0_i32_315 c1_i32_317 k0_t11
  let c128_i32 : BitVec 32 := 128#32
  let v372 : BitVec 32 := Scalar.muli arg38 c128_i32
  let v373 : BitVec 32 := v372
  let v387 : Index := Scalar.indexCast v373
  ![8, v387.toNat]
def k0_off69 (k0_t11 : Fin k0_t11_loop.trips) : Fin 2 → Nat :=
  let c2_341 : Index := 2#32
  let c0_i32_315 : BitVec 32 := 0#32
  let c1_i32_317 : BitVec 32 := 1#32
  let arg38 : BitVec 32 := Scf.iv c0_i32_315 c1_i32_317 k0_t11
  let c128_i32 : BitVec 32 := 128#32
  let v372 : BitVec 32 := Scalar.muli arg38 c128_i32
  let v373 : BitVec 32 := v372
  let v396 : Index := Scalar.indexCast v373
  ![2, v396.toNat]
def k0_off70 (k0_t11 : Fin k0_t11_loop.trips) : Fin 2 → Nat :=
  let c16_342 : Index := 16#32
  let c0_i32_315 : BitVec 32 := 0#32
  let c1_i32_317 : BitVec 32 := 1#32
  let arg38 : BitVec 32 := Scf.iv c0_i32_315 c1_i32_317 k0_t11
  let c128_i32 : BitVec 32 := 128#32
  let v372 : BitVec 32 := Scalar.muli arg38 c128_i32
  let v373 : BitVec 32 := v372
  let v398 : Index := Scalar.indexCast v373
  ![16, v398.toNat]
def k0_off71 (k0_t11 : Fin k0_t11_loop.trips) : Fin 2 → Nat :=
  let c3_344 : Index := 3#32
  let c0_i32_315 : BitVec 32 := 0#32
  let c1_i32_317 : BitVec 32 := 1#32
  let arg38 : BitVec 32 := Scf.iv c0_i32_315 c1_i32_317 k0_t11
  let c128_i32 : BitVec 32 := 128#32
  let v372 : BitVec 32 := Scalar.muli arg38 c128_i32
  let v373 : BitVec 32 := v372
  let v407 : Index := Scalar.indexCast v373
  ![3, v407.toNat]
def k0_off72 (k0_t11 : Fin k0_t11_loop.trips) : Fin 2 → Nat :=
  let c24_345 : Index := 24#32
  let c0_i32_315 : BitVec 32 := 0#32
  let c1_i32_317 : BitVec 32 := 1#32
  let arg38 : BitVec 32 := Scf.iv c0_i32_315 c1_i32_317 k0_t11
  let c128_i32 : BitVec 32 := 128#32
  let v372 : BitVec 32 := Scalar.muli arg38 c128_i32
  let v373 : BitVec 32 := v372
  let v409 : Index := Scalar.indexCast v373
  ![24, v409.toNat]
def k0_off73 (k0_t11 : Fin k0_t11_loop.trips) : Fin 2 → Nat :=
  let c4_347 : Index := 4#32
  let c0_i32_315 : BitVec 32 := 0#32
  let c1_i32_317 : BitVec 32 := 1#32
  let arg38 : BitVec 32 := Scf.iv c0_i32_315 c1_i32_317 k0_t11
  let c128_i32 : BitVec 32 := 128#32
  let v372 : BitVec 32 := Scalar.muli arg38 c128_i32
  let v373 : BitVec 32 := v372
  let v418 : Index := Scalar.indexCast v373
  ![4, v418.toNat]
def k0_off74 (k0_t11 : Fin k0_t11_loop.trips) : Fin 2 → Nat :=
  let c32_348 : Index := 32#32
  let c0_i32_315 : BitVec 32 := 0#32
  let c1_i32_317 : BitVec 32 := 1#32
  let arg38 : BitVec 32 := Scf.iv c0_i32_315 c1_i32_317 k0_t11
  let c128_i32 : BitVec 32 := 128#32
  let v372 : BitVec 32 := Scalar.muli arg38 c128_i32
  let v373 : BitVec 32 := v372
  let v420 : Index := Scalar.indexCast v373
  ![32, v420.toNat]
def k0_off75 (k0_t11 : Fin k0_t11_loop.trips) : Fin 2 → Nat :=
  let c5_350 : Index := 5#32
  let c0_i32_315 : BitVec 32 := 0#32
  let c1_i32_317 : BitVec 32 := 1#32
  let arg38 : BitVec 32 := Scf.iv c0_i32_315 c1_i32_317 k0_t11
  let c128_i32 : BitVec 32 := 128#32
  let v372 : BitVec 32 := Scalar.muli arg38 c128_i32
  let v373 : BitVec 32 := v372
  let v429 : Index := Scalar.indexCast v373
  ![5, v429.toNat]
def k0_off76 (k0_t11 : Fin k0_t11_loop.trips) : Fin 2 → Nat :=
  let c40_351 : Index := 40#32
  let c0_i32_315 : BitVec 32 := 0#32
  let c1_i32_317 : BitVec 32 := 1#32
  let arg38 : BitVec 32 := Scf.iv c0_i32_315 c1_i32_317 k0_t11
  let c128_i32 : BitVec 32 := 128#32
  let v372 : BitVec 32 := Scalar.muli arg38 c128_i32
  let v373 : BitVec 32 := v372
  let v431 : Index := Scalar.indexCast v373
  ![40, v431.toNat]
def k0_off77 (v81 : BitVec 32) (k0_t5 : Fin (k0_t5_loop v81).trips) : Fin 2 → Nat :=
  let c0_i32_192 : BitVec 32 := 0#32
  let c1_i32_195 : BitVec 32 := 1#32
  let arg36 : BitVec 32 := Scf.iv c0_i32_192 c1_i32_195 k0_t5
  let c2_i32_256 : BitVec 32 := 2#32
  let v264 : BitVec 32 := Scalar.remsi arg36 c2_i32_256
  let c2_i32_325 : BitVec 32 := 2#32
  ![v264.toNat, 2]
def k0_off78 (v81 : BitVec 32) (k0_t5 : Fin (k0_t5_loop v81).trips) : Fin 3 → Nat :=
  let c0_i32_192 : BitVec 32 := 0#32
  let c1_i32_195 : BitVec 32 := 1#32
  let arg36 : BitVec 32 := Scf.iv c0_i32_192 c1_i32_195 k0_t5
  let c2_i32_256 : BitVec 32 := 2#32
  let v264 : BitVec 32 := Scalar.remsi arg36 c2_i32_256
  let c0_i32_326 : BitVec 32 := 0#32
  let c0_i32_327 : BitVec 32 := 0#32
  ![v264.toNat, 0, 0]
def k0_off79 (v266 : BitVec 32) : Fin 3 → Nat :=
  let c0_i32_328 : BitVec 32 := 0#32
  let c0_i32_329 : BitVec 32 := 0#32
  ![v266.toNat, 0, 0]
@[reducible] def k0_t12_loop : Scf.Loop 32 :=
  let c0_i32_331 : BitVec 32 := 0#32
  let c4_i32 : BitVec 32 := 4#32
  let v370 : BitVec 32 := Scalar.addi c0_i32_331 c4_i32
  let c1_i32_332 : BitVec 32 := 1#32
  ⟨c0_i32_331, v370, c1_i32_332⟩
def k0_mult11 (k0_t12 : Fin k0_t12_loop.trips) : BitVec 32 :=
  let c0_i32_331 : BitVec 32 := 0#32
  let c1_i32_332 : BitVec 32 := 1#32
  let arg38 : BitVec 32 := Scf.iv c0_i32_331 c1_i32_332 k0_t12
  let c1024_i32_335 : BitVec 32 := 1024#32
  let v372 : BitVec 32 := Scalar.muli arg38 c1024_i32_335
  v372
def k0_off80 (v81 : BitVec 32) (k0_t5 : Fin (k0_t5_loop v81).trips) (k0_t12 : Fin k0_t12_loop.trips) : Fin 2 → Nat :=
  let c0_i32_192 : BitVec 32 := 0#32
  let c1_i32_195 : BitVec 32 := 1#32
  let arg36 : BitVec 32 := Scf.iv c0_i32_192 c1_i32_195 k0_t5
  let c2_i32_256 : BitVec 32 := 2#32
  let v264 : BitVec 32 := Scalar.remsi arg36 c2_i32_256
  let c0_i32_331 : BitVec 32 := 0#32
  let c1_i32_332 : BitVec 32 := 1#32
  let arg38 : BitVec 32 := Scf.iv c0_i32_331 c1_i32_332 k0_t12
  ![v264.toNat, arg38.toNat]
def k0_off81 (v81 : BitVec 32) (k0_t5 : Fin (k0_t5_loop v81).trips) (k0_t12 : Fin k0_t12_loop.trips) : Fin 3 → Nat :=
  let c0_i32_192 : BitVec 32 := 0#32
  let c1_i32_195 : BitVec 32 := 1#32
  let arg36 : BitVec 32 := Scf.iv c0_i32_192 c1_i32_195 k0_t5
  let c2_i32_256 : BitVec 32 := 2#32
  let v264 : BitVec 32 := Scalar.remsi arg36 c2_i32_256
  let c0_i32_331 : BitVec 32 := 0#32
  let c1_i32_332 : BitVec 32 := 1#32
  let arg38 : BitVec 32 := Scf.iv c0_i32_331 c1_i32_332 k0_t12
  let c1024_i32_335 : BitVec 32 := 1024#32
  let v372 : BitVec 32 := Scalar.muli arg38 c1024_i32_335
  let v373 : BitVec 32 := v372
  let c0_i32_336 : BitVec 32 := 0#32
  ![v264.toNat, v373.toNat, 0]
def k0_off82 (v266 : BitVec 32) (k0_t12 : Fin k0_t12_loop.trips) : Fin 3 → Nat :=
  let c0_i32_331 : BitVec 32 := 0#32
  let c1_i32_332 : BitVec 32 := 1#32
  let arg38 : BitVec 32 := Scf.iv c0_i32_331 c1_i32_332 k0_t12
  let c1024_i32_335 : BitVec 32 := 1024#32
  let v372 : BitVec 32 := Scalar.muli arg38 c1024_i32_335
  let v373 : BitVec 32 := v372
  let c0_i32_337 : BitVec 32 := 0#32
  ![v266.toNat, v373.toNat, 0]

def k0_chk6 (v266 : BitVec 32) : Prop :=
  (∀ a, (k0_off50 v266) a + S1x32x1536.size a ≤ S47x32x1536.size a) ∧
  (∀ k0_t6 : Fin k0_t6_loop.trips, ∀ a, (k0_off55 v266 k0_t6) a + S1x512x2048.size a ≤ S47x1536x2048.size a) ∧
  (∀ k0_t6 : Fin k0_t6_loop.trips, ∀ (hinb : ∀ a, (k0_off55 v266 k0_t6) a + S1x512x2048.size a ≤ S47x1536x2048.size a), (Rect.unit (s := S47x1536x2048) (k0_off55 v266 k0_t6) S1x512x2048.size hinb).WholeWords (EltTy.packing .i8)) ∧
  (∀ a, (k0_off79 v266) a + S1x12x4096.size a ≤ S47x12x4096.size a) ∧
  (∀ k0_t12 : Fin k0_t12_loop.trips, ∀ a, (k0_off82 v266 k0_t12) a + S1x1024x768.size a ≤ S47x4096x768.size a) ∧
  (∀ k0_t12 : Fin k0_t12_loop.trips, ∀ (hinb : ∀ a, (k0_off82 v266 k0_t12) a + S1x1024x768.size a ≤ S47x4096x768.size a), (Rect.unit (s := S47x4096x768) (k0_off82 v266 k0_t12) S1x1024x768.size hinb).WholeWords (EltTy.packing .i8))
theorem k0_off50_inb : ∀ (v266 : BitVec 32) (k0_hw6 : k0_chk6 v266), ∀ a, (k0_off50 v266) a + S1x32x1536.size a ≤ S47x32x1536.size a := fun v266 k0_hw6 => k0_hw6.1
theorem k0_off55_inb : ∀ (v266 : BitVec 32) (k0_hw6 : k0_chk6 v266) (k0_t6 : Fin k0_t6_loop.trips), ∀ a, (k0_off55 v266 k0_t6) a + S1x512x2048.size a ≤ S47x1536x2048.size a := fun v266 k0_hw6 k0_t6 => k0_hw6.2.1 k0_t6
theorem k0_off55_wordsi8 : ∀ (v266 : BitVec 32) (k0_hw6 : k0_chk6 v266) (k0_t6 : Fin k0_t6_loop.trips), (Rect.unit (s := S47x1536x2048) (k0_off55 v266 k0_t6) S1x512x2048.size (k0_off55_inb v266 k0_hw6 k0_t6)).WholeWords (EltTy.packing .i8) := fun v266 k0_hw6 k0_t6 => k0_hw6.2.2.1 k0_t6 (k0_off55_inb v266 k0_hw6 k0_t6)
theorem k0_off79_inb : ∀ (v266 : BitVec 32) (k0_hw6 : k0_chk6 v266), ∀ a, (k0_off79 v266) a + S1x12x4096.size a ≤ S47x12x4096.size a := fun v266 k0_hw6 => k0_hw6.2.2.2.1
theorem k0_off82_inb : ∀ (v266 : BitVec 32) (k0_hw6 : k0_chk6 v266) (k0_t12 : Fin k0_t12_loop.trips), ∀ a, (k0_off82 v266 k0_t12) a + S1x1024x768.size a ≤ S47x4096x768.size a := fun v266 k0_hw6 k0_t12 => k0_hw6.2.2.2.2.1 k0_t12
theorem k0_off82_wordsi8 : ∀ (v266 : BitVec 32) (k0_hw6 : k0_chk6 v266) (k0_t12 : Fin k0_t12_loop.trips), (Rect.unit (s := S47x4096x768) (k0_off82 v266 k0_t12) S1x1024x768.size (k0_off82_inb v266 k0_hw6 k0_t12)).WholeWords (EltTy.packing .i8) := fun v266 k0_hw6 k0_t12 => k0_hw6.2.2.2.2.2 k0_t12 (k0_off82_inb v266 k0_hw6 k0_t12)

@[reducible] def k0_t13_loop : Scf.Loop 32 :=
  let c0_i32_339 : BitVec 32 := 0#32
  let c4_i32_340 : BitVec 32 := 4#32
  let v380 : BitVec 32 := Scalar.addi c0_i32_339 c4_i32_340
  let c1_i32_341 : BitVec 32 := 1#32
  ⟨c0_i32_339, v380, c1_i32_341⟩
def k0_mult12 (k0_t12 : Fin k0_t12_loop.trips) (k0_t13 : Fin k0_t13_loop.trips) : BitVec 32 :=
  let c0_i32_331 : BitVec 32 := 0#32
  let c1_i32_332 : BitVec 32 := 1#32
  let arg38 : BitVec 32 := Scf.iv c0_i32_331 c1_i32_332 k0_t12
  let c1024_i32_344 : BitVec 32 := 1024#32
  let v382 : BitVec 32 := Scalar.muli arg38 c1024_i32_344
  let c0_i32_339 : BitVec 32 := 0#32
  let c1_i32_341 : BitVec 32 := 1#32
  let arg40 : BitVec 32 := Scf.iv c0_i32_339 c1_i32_341 k0_t13
  let c256_i32 : BitVec 32 := 256#32
  let v383 : BitVec 32 := Scalar.muli arg40 c256_i32
  let v384 : BitVec 32 := Scalar.addi v382 v383
  v384
@[reducible] def k0_t14_loop : Scf.Loop 32 :=
  let c0_i32_346 : BitVec 32 := 0#32
  let c6_i32 : BitVec 32 := 6#32
  let v387 : BitVec 32 := Scalar.addi c0_i32_346 c6_i32
  let c1_i32_347 : BitVec 32 := 1#32
  ⟨c0_i32_346, v387, c1_i32_347⟩
def k0_mult13 (k0_t14 : Fin k0_t14_loop.trips) : BitVec 32 :=
  let c0_i32_346 : BitVec 32 := 0#32
  let c1_i32_347 : BitVec 32 := 1#32
  let arg42 : BitVec 32 := Scf.iv c0_i32_346 c1_i32_347 k0_t14
  let c128_i32 : BitVec 32 := 128#32
  let v399 : BitVec 32 := Scalar.muli arg42 c128_i32
  v399
def k0_off83 (v81 : BitVec 32) (k0_t5 : Fin (k0_t5_loop v81).trips) (k0_t12 : Fin k0_t12_loop.trips) (k0_t13 : Fin k0_t13_loop.trips) (k0_t14 : Fin k0_t14_loop.trips) : Fin 3 → Nat :=
  let c0_i32_192 : BitVec 32 := 0#32
  let c1_i32_195 : BitVec 32 := 1#32
  let arg36 : BitVec 32 := Scf.iv c0_i32_192 c1_i32_195 k0_t5
  let c2_i32_256 : BitVec 32 := 2#32
  let v264 : BitVec 32 := Scalar.remsi arg36 c2_i32_256
  let v401 : Index := Scalar.indexCast v264
  let c0_i32_331 : BitVec 32 := 0#32
  let c1_i32_332 : BitVec 32 := 1#32
  let arg38 : BitVec 32 := Scf.iv c0_i32_331 c1_i32_332 k0_t12
  let c1024_i32_344 : BitVec 32 := 1024#32
  let v382 : BitVec 32 := Scalar.muli arg38 c1024_i32_344
  let c0_i32_339 : BitVec 32 := 0#32
  let c1_i32_341 : BitVec 32 := 1#32
  let arg40 : BitVec 32 := Scf.iv c0_i32_339 c1_i32_341 k0_t13
  let c256_i32 : BitVec 32 := 256#32
  let v383 : BitVec 32 := Scalar.muli arg40 c256_i32
  let v384 : BitVec 32 := Scalar.addi v382 v383
  let v385 : BitVec 32 := v384
  let v402 : Index := Scalar.indexCast v385
  let c0_i32_346 : BitVec 32 := 0#32
  let c1_i32_347 : BitVec 32 := 1#32
  let arg42 : BitVec 32 := Scf.iv c0_i32_346 c1_i32_347 k0_t14
  let c128_i32 : BitVec 32 := 128#32
  let v399 : BitVec 32 := Scalar.muli arg42 c128_i32
  let v400 : BitVec 32 := v399
  let v403 : Index := Scalar.indexCast v400
  ![v401.toNat, v402.toNat, v403.toNat]
def k0_off84 (v81 : BitVec 32) (k0_t5 : Fin (k0_t5_loop v81).trips) (k0_t12 : Fin k0_t12_loop.trips) (k0_t13 : Fin k0_t13_loop.trips) (k0_t14 : Fin k0_t14_loop.trips) (c0_i32_355 : BitVec 32) : Fin 3 → Nat :=
  let c0_i32_192 : BitVec 32 := 0#32
  let c1_i32_195 : BitVec 32 := 1#32
  let arg36 : BitVec 32 := Scf.iv c0_i32_192 c1_i32_195 k0_t5
  let c2_i32_256 : BitVec 32 := 2#32
  let v264 : BitVec 32 := Scalar.remsi arg36 c2_i32_256
  let v423 : Index := Scalar.indexCast v264
  let c2_i32_352 : BitVec 32 := 2#32
  let c0_i32_346 : BitVec 32 := 0#32
  let c1_i32_347 : BitVec 32 := 1#32
  let arg42 : BitVec 32 := Scf.iv c0_i32_346 c1_i32_347 k0_t14
  let v406 : BitVec 32 := Scalar.muli c2_i32_352 arg42
  let v422 : BitVec 32 := Scalar.addi v406 c0_i32_355
  let v424 : Index := Scalar.indexCast v422
  let c0_i32_331 : BitVec 32 := 0#32
  let c1_i32_332 : BitVec 32 := 1#32
  let arg38 : BitVec 32 := Scf.iv c0_i32_331 c1_i32_332 k0_t12
  let c1024_i32_344 : BitVec 32 := 1024#32
  let v382 : BitVec 32 := Scalar.muli arg38 c1024_i32_344
  let c0_i32_339 : BitVec 32 := 0#32
  let c1_i32_341 : BitVec 32 := 1#32
  let arg40 : BitVec 32 := Scf.iv c0_i32_339 c1_i32_341 k0_t13
  let c256_i32 : BitVec 32 := 256#32
  let v383 : BitVec 32 := Scalar.muli arg40 c256_i32
  let v384 : BitVec 32 := Scalar.addi v382 v383
  let v385 : BitVec 32 := v384
  let v425 : Index := Scalar.indexCast v385
  ![v423.toNat, v424.toNat, v425.toNat]
def k0_mult14 (k0_t14 : Fin k0_t14_loop.trips) : BitVec 32 :=
  let c0_i32_346 : BitVec 32 := 0#32
  let c1_i32_347 : BitVec 32 := 1#32
  let arg42 : BitVec 32 := Scf.iv c0_i32_346 c1_i32_347 k0_t14
  let c256_i32_357 : BitVec 32 := 256#32
  let v443 : BitVec 32 := Scalar.muli arg42 c256_i32_357
  v443
def k0_off85 (k0_t14 : Fin k0_t14_loop.trips) : Fin 2 → Nat :=
  let c0_358 : Index := 0#32
  let c0_i32_346 : BitVec 32 := 0#32
  let c1_i32_347 : BitVec 32 := 1#32
  let arg42 : BitVec 32 := Scf.iv c0_i32_346 c1_i32_347 k0_t14
  let c256_i32_357 : BitVec 32 := 256#32
  let v443 : BitVec 32 := Scalar.muli arg42 c256_i32_357
  let v444 : BitVec 32 := v443
  let v445 : Index := Scalar.indexCast v444
  ![0, v445.toNat]
def k0_off86 (k0_t12 : Fin k0_t12_loop.trips) (k0_t13 : Fin k0_t13_loop.trips) : Fin 2 → Nat :=
  let c0_349 : Index := 0#32
  let c0_i32_331 : BitVec 32 := 0#32
  let c1_i32_332 : BitVec 32 := 1#32
  let arg38 : BitVec 32 := Scf.iv c0_i32_331 c1_i32_332 k0_t12
  let c1024_i32_344 : BitVec 32 := 1024#32
  let v382 : BitVec 32 := Scalar.muli arg38 c1024_i32_344
  let c0_i32_339 : BitVec 32 := 0#32
  let c1_i32_341 : BitVec 32 := 1#32
  let arg40 : BitVec 32 := Scf.iv c0_i32_339 c1_i32_341 k0_t13
  let c256_i32 : BitVec 32 := 256#32
  let v383 : BitVec 32 := Scalar.muli arg40 c256_i32
  let v384 : BitVec 32 := Scalar.addi v382 v383
  let v385 : BitVec 32 := v384
  let v389 : Index := Scalar.indexCast v385
  ![0, v389.toNat]
@[reducible] def k0_t15_loop (v81 : BitVec 32) : Scf.Loop 32 :=
  let c0_i32_192 : BitVec 32 := 0#32
  let v200 : BitVec 32 := Scalar.subi v81 c0_i32_192
  let c1_i32_194 : BitVec 32 := 1#32
  let v202 : BitVec 32 := Scalar.divsi v200 c1_i32_194
  let v203 : BitVec 32 := Scalar.muli v202 c1_i32_194
  let v204 : BitVec 32 := Scalar.addi c0_i32_192 v203
  let v201 : BitVec 32 := Scalar.addi c0_i32_192 v200
  let c1_i32_196 : BitVec 32 := 1#32
  ⟨v204, v201, c1_i32_196⟩
def k0_off87 (v81 : BitVec 32) (k0_t15 : Fin (k0_t15_loop v81).trips) : Fin 1 → Nat :=
  let c0_i32_192 : BitVec 32 := 0#32
  let v200 : BitVec 32 := Scalar.subi v81 c0_i32_192
  let c1_i32_194 : BitVec 32 := 1#32
  let v202 : BitVec 32 := Scalar.divsi v200 c1_i32_194
  let v203 : BitVec 32 := Scalar.muli v202 c1_i32_194
  let v204 : BitVec 32 := Scalar.addi c0_i32_192 v203
  let c1_i32_196 : BitVec 32 := 1#32
  let arg36 : BitVec 32 := Scf.iv v204 c1_i32_196 k0_t15
  let v265 : Index := Scalar.indexCast arg36
  ![v265.toNat]
def k0_off88 (v81 : BitVec 32) (k0_t15 : Fin (k0_t15_loop v81).trips) : Fin 1 → Nat :=
  let c0_i32_192 : BitVec 32 := 0#32
  let v200 : BitVec 32 := Scalar.subi v81 c0_i32_192
  let c1_i32_194 : BitVec 32 := 1#32
  let v202 : BitVec 32 := Scalar.divsi v200 c1_i32_194
  let v203 : BitVec 32 := Scalar.muli v202 c1_i32_194
  let v204 : BitVec 32 := Scalar.addi c0_i32_192 v203
  let c1_i32_196 : BitVec 32 := 1#32
  let arg36 : BitVec 32 := Scf.iv v204 c1_i32_196 k0_t15
  let c1_i32_335 : BitVec 32 := 1#32
  let v372 : BitVec 32 := Scalar.addi arg36 c1_i32_335
  let c1_i32_336 : BitVec 32 := 1#32
  let v373 : BitVec 32 := Scalar.subi v81 c1_i32_336
  let v374 : BitVec 32 := Scalar.minsi v372 v373
  let v375 : Index := Scalar.indexCast v374
  ![v375.toNat]
def k0_cond2 (v81 : BitVec 32) (k0_t15 : Fin (k0_t15_loop v81).trips) : BitVec 1 :=
  let c0_i32_192 : BitVec 32 := 0#32
  let v200 : BitVec 32 := Scalar.subi v81 c0_i32_192
  let c1_i32_194 : BitVec 32 := 1#32
  let v202 : BitVec 32 := Scalar.divsi v200 c1_i32_194
  let v203 : BitVec 32 := Scalar.muli v202 c1_i32_194
  let v204 : BitVec 32 := Scalar.addi c0_i32_192 v203
  let c1_i32_196 : BitVec 32 := 1#32
  let arg36 : BitVec 32 := Scf.iv v204 c1_i32_196 k0_t15
  let c1_i32_257 : BitVec 32 := 1#32
  let v267 : BitVec 32 := Scalar.addi arg36 c1_i32_257
  let v268 : BitVec 1 := Scalar.cmpi .slt v267 v81
  let v269 : BitVec 32 := Scalar.extui v268
  let c0_i32_258 : BitVec 32 := 0#32
  let v270 : BitVec 1 := Scalar.cmpi .ne v269 c0_i32_258
  v270

def k0_off89 (v81 : BitVec 32) (k0_t15 : Fin (k0_t15_loop v81).trips) : Fin 2 → Nat :=
  let c1_i32_337 : BitVec 32 := 1#32
  let c0_i32_192 : BitVec 32 := 0#32
  let v200 : BitVec 32 := Scalar.subi v81 c0_i32_192
  let c1_i32_194 : BitVec 32 := 1#32
  let v202 : BitVec 32 := Scalar.divsi v200 c1_i32_194
  let v203 : BitVec 32 := Scalar.muli v202 c1_i32_194
  let v204 : BitVec 32 := Scalar.addi c0_i32_192 v203
  let c1_i32_196 : BitVec 32 := 1#32
  let arg36 : BitVec 32 := Scf.iv v204 c1_i32_196 k0_t15
  let c2_i32_256 : BitVec 32 := 2#32
  let v264 : BitVec 32 := Scalar.remsi arg36 c2_i32_256
  let v377 : BitVec 32 := Scalar.subi c1_i32_337 v264
  let c0_i32_338 : BitVec 32 := 0#32
  ![v377.toNat, 0]
def k0_off90 (v81 : BitVec 32) (k0_t15 : Fin (k0_t15_loop v81).trips) : Fin 3 → Nat :=
  let c1_i32_337 : BitVec 32 := 1#32
  let c0_i32_192 : BitVec 32 := 0#32
  let v200 : BitVec 32 := Scalar.subi v81 c0_i32_192
  let c1_i32_194 : BitVec 32 := 1#32
  let v202 : BitVec 32 := Scalar.divsi v200 c1_i32_194
  let v203 : BitVec 32 := Scalar.muli v202 c1_i32_194
  let v204 : BitVec 32 := Scalar.addi c0_i32_192 v203
  let c1_i32_196 : BitVec 32 := 1#32
  let arg36 : BitVec 32 := Scf.iv v204 c1_i32_196 k0_t15
  let c2_i32_256 : BitVec 32 := 2#32
  let v264 : BitVec 32 := Scalar.remsi arg36 c2_i32_256
  let v377 : BitVec 32 := Scalar.subi c1_i32_337 v264
  let c0_i32_339 : BitVec 32 := 0#32
  let c0_i32_340 : BitVec 32 := 0#32
  ![v377.toNat, 0, 0]
def k0_off91 (v376 : BitVec 32) : Fin 3 → Nat :=
  let c0_i32_341 : BitVec 32 := 0#32
  let c0_i32_342 : BitVec 32 := 0#32
  ![v376.toNat, 0, 0]

def k0_off92 (v81 : BitVec 32) (k0_t15 : Fin (k0_t15_loop v81).trips) : Fin 2 → Nat :=
  let c1_i32_337 : BitVec 32 := 1#32
  let c0_i32_192 : BitVec 32 := 0#32
  let v200 : BitVec 32 := Scalar.subi v81 c0_i32_192
  let c1_i32_194 : BitVec 32 := 1#32
  let v202 : BitVec 32 := Scalar.divsi v200 c1_i32_194
  let v203 : BitVec 32 := Scalar.muli v202 c1_i32_194
  let v204 : BitVec 32 := Scalar.addi c0_i32_192 v203
  let c1_i32_196 : BitVec 32 := 1#32
  let arg36 : BitVec 32 := Scf.iv v204 c1_i32_196 k0_t15
  let c2_i32_256 : BitVec 32 := 2#32
  let v264 : BitVec 32 := Scalar.remsi arg36 c2_i32_256
  let v377 : BitVec 32 := Scalar.subi c1_i32_337 v264
  let c1_i32_343 : BitVec 32 := 1#32
  ![v377.toNat, 1]
def k0_off93 (v81 : BitVec 32) (k0_t15 : Fin (k0_t15_loop v81).trips) : Fin 3 → Nat :=
  let c1_i32_337 : BitVec 32 := 1#32
  let c0_i32_192 : BitVec 32 := 0#32
  let v200 : BitVec 32 := Scalar.subi v81 c0_i32_192
  let c1_i32_194 : BitVec 32 := 1#32
  let v202 : BitVec 32 := Scalar.divsi v200 c1_i32_194
  let v203 : BitVec 32 := Scalar.muli v202 c1_i32_194
  let v204 : BitVec 32 := Scalar.addi c0_i32_192 v203
  let c1_i32_196 : BitVec 32 := 1#32
  let arg36 : BitVec 32 := Scf.iv v204 c1_i32_196 k0_t15
  let c2_i32_256 : BitVec 32 := 2#32
  let v264 : BitVec 32 := Scalar.remsi arg36 c2_i32_256
  let v377 : BitVec 32 := Scalar.subi c1_i32_337 v264
  let c0_i32_344 : BitVec 32 := 0#32
  let c0_i32_345 : BitVec 32 := 0#32
  ![v377.toNat, 0, 0]
def k0_off94 (v81 : BitVec 32) (k0_t15 : Fin (k0_t15_loop v81).trips) : Fin 2 → Nat :=
  let c1_i32_337 : BitVec 32 := 1#32
  let c0_i32_192 : BitVec 32 := 0#32
  let v200 : BitVec 32 := Scalar.subi v81 c0_i32_192
  let c1_i32_194 : BitVec 32 := 1#32
  let v202 : BitVec 32 := Scalar.divsi v200 c1_i32_194
  let v203 : BitVec 32 := Scalar.muli v202 c1_i32_194
  let v204 : BitVec 32 := Scalar.addi c0_i32_192 v203
  let c1_i32_196 : BitVec 32 := 1#32
  let arg36 : BitVec 32 := Scf.iv v204 c1_i32_196 k0_t15
  let c2_i32_256 : BitVec 32 := 2#32
  let v264 : BitVec 32 := Scalar.remsi arg36 c2_i32_256
  let v377 : BitVec 32 := Scalar.subi c1_i32_337 v264
  let c0_i32_348 : BitVec 32 := 0#32
  ![v377.toNat, 0]
def k0_off95 (v81 : BitVec 32) (k0_t15 : Fin (k0_t15_loop v81).trips) : Fin 3 → Nat :=
  let c1_i32_337 : BitVec 32 := 1#32
  let c0_i32_192 : BitVec 32 := 0#32
  let v200 : BitVec 32 := Scalar.subi v81 c0_i32_192
  let c1_i32_194 : BitVec 32 := 1#32
  let v202 : BitVec 32 := Scalar.divsi v200 c1_i32_194
  let v203 : BitVec 32 := Scalar.muli v202 c1_i32_194
  let v204 : BitVec 32 := Scalar.addi c0_i32_192 v203
  let c1_i32_196 : BitVec 32 := 1#32
  let arg36 : BitVec 32 := Scf.iv v204 c1_i32_196 k0_t15
  let c2_i32_256 : BitVec 32 := 2#32
  let v264 : BitVec 32 := Scalar.remsi arg36 c2_i32_256
  let v377 : BitVec 32 := Scalar.subi c1_i32_337 v264
  let c0_i32_349 : BitVec 32 := 0#32
  let c0_i32_350 : BitVec 32 := 0#32
  ![v377.toNat, 0, 0]
def k0_off96 (v376 : BitVec 32) : Fin 3 → Nat :=
  let c0_i32_351 : BitVec 32 := 0#32
  let c0_i32_352 : BitVec 32 := 0#32
  ![v376.toNat, 0, 0]
def k0_off97 (v81 : BitVec 32) (k0_t15 : Fin (k0_t15_loop v81).trips) : Fin 3 → Nat :=
  let c1_i32_337 : BitVec 32 := 1#32
  let c0_i32_192 : BitVec 32 := 0#32
  let v200 : BitVec 32 := Scalar.subi v81 c0_i32_192
  let c1_i32_194 : BitVec 32 := 1#32
  let v202 : BitVec 32 := Scalar.divsi v200 c1_i32_194
  let v203 : BitVec 32 := Scalar.muli v202 c1_i32_194
  let v204 : BitVec 32 := Scalar.addi c0_i32_192 v203
  let c1_i32_196 : BitVec 32 := 1#32
  let arg36 : BitVec 32 := Scf.iv v204 c1_i32_196 k0_t15
  let c2_i32_256 : BitVec 32 := 2#32
  let v264 : BitVec 32 := Scalar.remsi arg36 c2_i32_256
  let v377 : BitVec 32 := Scalar.subi c1_i32_337 v264
  let c512_i32_359 : BitVec 32 := 512#32
  let c0_i32_360 : BitVec 32 := 0#32
  ![v377.toNat, 512, 0]
def k0_off98 (v376 : BitVec 32) : Fin 3 → Nat :=
  let c512_i32_361 : BitVec 32 := 512#32
  let c0_i32_362 : BitVec 32 := 0#32
  ![v376.toNat, 512, 0]
def k0_off99 (v81 : BitVec 32) (k0_t15 : Fin (k0_t15_loop v81).trips) : Fin 2 → Nat :=
  let c1_i32_337 : BitVec 32 := 1#32
  let c0_i32_192 : BitVec 32 := 0#32
  let v200 : BitVec 32 := Scalar.subi v81 c0_i32_192
  let c1_i32_194 : BitVec 32 := 1#32
  let v202 : BitVec 32 := Scalar.divsi v200 c1_i32_194
  let v203 : BitVec 32 := Scalar.muli v202 c1_i32_194
  let v204 : BitVec 32 := Scalar.addi c0_i32_192 v203
  let c1_i32_196 : BitVec 32 := 1#32
  let arg36 : BitVec 32 := Scf.iv v204 c1_i32_196 k0_t15
  let c2_i32_256 : BitVec 32 := 2#32
  let v264 : BitVec 32 := Scalar.remsi arg36 c2_i32_256
  let v377 : BitVec 32 := Scalar.subi c1_i32_337 v264
  let c2_i32_368 : BitVec 32 := 2#32
  ![v377.toNat, 2]
def k0_off100 (v81 : BitVec 32) (k0_t15 : Fin (k0_t15_loop v81).trips) : Fin 3 → Nat :=
  let c1_i32_337 : BitVec 32 := 1#32
  let c0_i32_192 : BitVec 32 := 0#32
  let v200 : BitVec 32 := Scalar.subi v81 c0_i32_192
  let c1_i32_194 : BitVec 32 := 1#32
  let v202 : BitVec 32 := Scalar.divsi v200 c1_i32_194
  let v203 : BitVec 32 := Scalar.muli v202 c1_i32_194
  let v204 : BitVec 32 := Scalar.addi c0_i32_192 v203
  let c1_i32_196 : BitVec 32 := 1#32
  let arg36 : BitVec 32 := Scf.iv v204 c1_i32_196 k0_t15
  let c2_i32_256 : BitVec 32 := 2#32
  let v264 : BitVec 32 := Scalar.remsi arg36 c2_i32_256
  let v377 : BitVec 32 := Scalar.subi c1_i32_337 v264
  let c1024_i32_369 : BitVec 32 := 1024#32
  let c0_i32_370 : BitVec 32 := 0#32
  ![v377.toNat, 1024, 0]
def k0_off101 (v376 : BitVec 32) : Fin 3 → Nat :=
  let c1024_i32_371 : BitVec 32 := 1024#32
  let c0_i32_372 : BitVec 32 := 0#32
  ![v376.toNat, 1024, 0]
def k0_off102 (v81 : BitVec 32) (k0_t15 : Fin (k0_t15_loop v81).trips) : Fin 3 → Nat :=
  let c1_i32_337 : BitVec 32 := 1#32
  let c0_i32_192 : BitVec 32 := 0#32
  let v200 : BitVec 32 := Scalar.subi v81 c0_i32_192
  let c1_i32_194 : BitVec 32 := 1#32
  let v202 : BitVec 32 := Scalar.divsi v200 c1_i32_194
  let v203 : BitVec 32 := Scalar.muli v202 c1_i32_194
  let v204 : BitVec 32 := Scalar.addi c0_i32_192 v203
  let c1_i32_196 : BitVec 32 := 1#32
  let arg36 : BitVec 32 := Scf.iv v204 c1_i32_196 k0_t15
  let c2_i32_256 : BitVec 32 := 2#32
  let v264 : BitVec 32 := Scalar.remsi arg36 c2_i32_256
  let v377 : BitVec 32 := Scalar.subi c1_i32_337 v264
  let c0_i32_379 : BitVec 32 := 0#32
  let c0_i32_380 : BitVec 32 := 0#32
  ![v377.toNat, 0, 0]
def k0_off103 (v376 : BitVec 32) : Fin 3 → Nat :=
  let c0_i32_381 : BitVec 32 := 0#32
  let c0_i32_382 : BitVec 32 := 0#32
  ![v376.toNat, 0, 0]
def k0_off104 (v81 : BitVec 32) (k0_t15 : Fin (k0_t15_loop v81).trips) : Fin 2 → Nat :=
  let c1_i32_337 : BitVec 32 := 1#32
  let c0_i32_192 : BitVec 32 := 0#32
  let v200 : BitVec 32 := Scalar.subi v81 c0_i32_192
  let c1_i32_194 : BitVec 32 := 1#32
  let v202 : BitVec 32 := Scalar.divsi v200 c1_i32_194
  let v203 : BitVec 32 := Scalar.muli v202 c1_i32_194
  let v204 : BitVec 32 := Scalar.addi c0_i32_192 v203
  let c1_i32_196 : BitVec 32 := 1#32
  let arg36 : BitVec 32 := Scf.iv v204 c1_i32_196 k0_t15
  let c2_i32_256 : BitVec 32 := 2#32
  let v264 : BitVec 32 := Scalar.remsi arg36 c2_i32_256
  let v377 : BitVec 32 := Scalar.subi c1_i32_337 v264
  let c0_i32_383 : BitVec 32 := 0#32
  ![v377.toNat, 0]
def k0_off105 (v81 : BitVec 32) (k0_t15 : Fin (k0_t15_loop v81).trips) : Fin 3 → Nat :=
  let c1_i32_337 : BitVec 32 := 1#32
  let c0_i32_192 : BitVec 32 := 0#32
  let v200 : BitVec 32 := Scalar.subi v81 c0_i32_192
  let c1_i32_194 : BitVec 32 := 1#32
  let v202 : BitVec 32 := Scalar.divsi v200 c1_i32_194
  let v203 : BitVec 32 := Scalar.muli v202 c1_i32_194
  let v204 : BitVec 32 := Scalar.addi c0_i32_192 v203
  let c1_i32_196 : BitVec 32 := 1#32
  let arg36 : BitVec 32 := Scf.iv v204 c1_i32_196 k0_t15
  let c2_i32_256 : BitVec 32 := 2#32
  let v264 : BitVec 32 := Scalar.remsi arg36 c2_i32_256
  let v377 : BitVec 32 := Scalar.subi c1_i32_337 v264
  let c0_i32_384 : BitVec 32 := 0#32
  let c0_i32_385 : BitVec 32 := 0#32
  ![v377.toNat, 0, 0]
def k0_off106 (v376 : BitVec 32) : Fin 3 → Nat :=
  let c0_i32_386 : BitVec 32 := 0#32
  let c0_i32_387 : BitVec 32 := 0#32
  ![v376.toNat, 0, 0]
def k0_off107 (v81 : BitVec 32) (k0_t15 : Fin (k0_t15_loop v81).trips) : Fin 2 → Nat :=
  let c1_i32_337 : BitVec 32 := 1#32
  let c0_i32_192 : BitVec 32 := 0#32
  let v200 : BitVec 32 := Scalar.subi v81 c0_i32_192
  let c1_i32_194 : BitVec 32 := 1#32
  let v202 : BitVec 32 := Scalar.divsi v200 c1_i32_194
  let v203 : BitVec 32 := Scalar.muli v202 c1_i32_194
  let v204 : BitVec 32 := Scalar.addi c0_i32_192 v203
  let c1_i32_196 : BitVec 32 := 1#32
  let arg36 : BitVec 32 := Scf.iv v204 c1_i32_196 k0_t15
  let c2_i32_256 : BitVec 32 := 2#32
  let v264 : BitVec 32 := Scalar.remsi arg36 c2_i32_256
  let v377 : BitVec 32 := Scalar.subi c1_i32_337 v264
  let c1_i32_388 : BitVec 32 := 1#32
  ![v377.toNat, 1]
def k0_off108 (v81 : BitVec 32) (k0_t15 : Fin (k0_t15_loop v81).trips) : Fin 3 → Nat :=
  let c1_i32_337 : BitVec 32 := 1#32
  let c0_i32_192 : BitVec 32 := 0#32
  let v200 : BitVec 32 := Scalar.subi v81 c0_i32_192
  let c1_i32_194 : BitVec 32 := 1#32
  let v202 : BitVec 32 := Scalar.divsi v200 c1_i32_194
  let v203 : BitVec 32 := Scalar.muli v202 c1_i32_194
  let v204 : BitVec 32 := Scalar.addi c0_i32_192 v203
  let c1_i32_196 : BitVec 32 := 1#32
  let arg36 : BitVec 32 := Scf.iv v204 c1_i32_196 k0_t15
  let c2_i32_256 : BitVec 32 := 2#32
  let v264 : BitVec 32 := Scalar.remsi arg36 c2_i32_256
  let v377 : BitVec 32 := Scalar.subi c1_i32_337 v264
  let c1024_i32_389 : BitVec 32 := 1024#32
  let c0_i32_390 : BitVec 32 := 0#32
  ![v377.toNat, 1024, 0]
def k0_off109 (v376 : BitVec 32) : Fin 3 → Nat :=
  let c1024_i32_391 : BitVec 32 := 1024#32
  let c0_i32_392 : BitVec 32 := 0#32
  ![v376.toNat, 1024, 0]
def k0_off110 (v81 : BitVec 32) (k0_t15 : Fin (k0_t15_loop v81).trips) : Fin 2 → Nat :=
  let c1_i32_337 : BitVec 32 := 1#32
  let c0_i32_192 : BitVec 32 := 0#32
  let v200 : BitVec 32 := Scalar.subi v81 c0_i32_192
  let c1_i32_194 : BitVec 32 := 1#32
  let v202 : BitVec 32 := Scalar.divsi v200 c1_i32_194
  let v203 : BitVec 32 := Scalar.muli v202 c1_i32_194
  let v204 : BitVec 32 := Scalar.addi c0_i32_192 v203
  let c1_i32_196 : BitVec 32 := 1#32
  let arg36 : BitVec 32 := Scf.iv v204 c1_i32_196 k0_t15
  let c2_i32_256 : BitVec 32 := 2#32
  let v264 : BitVec 32 := Scalar.remsi arg36 c2_i32_256
  let v377 : BitVec 32 := Scalar.subi c1_i32_337 v264
  let c2_i32_393 : BitVec 32 := 2#32
  ![v377.toNat, 2]
def k0_off111 (v81 : BitVec 32) (k0_t15 : Fin (k0_t15_loop v81).trips) : Fin 3 → Nat :=
  let c1_i32_337 : BitVec 32 := 1#32
  let c0_i32_192 : BitVec 32 := 0#32
  let v200 : BitVec 32 := Scalar.subi v81 c0_i32_192
  let c1_i32_194 : BitVec 32 := 1#32
  let v202 : BitVec 32 := Scalar.divsi v200 c1_i32_194
  let v203 : BitVec 32 := Scalar.muli v202 c1_i32_194
  let v204 : BitVec 32 := Scalar.addi c0_i32_192 v203
  let c1_i32_196 : BitVec 32 := 1#32
  let arg36 : BitVec 32 := Scf.iv v204 c1_i32_196 k0_t15
  let c2_i32_256 : BitVec 32 := 2#32
  let v264 : BitVec 32 := Scalar.remsi arg36 c2_i32_256
  let v377 : BitVec 32 := Scalar.subi c1_i32_337 v264
  let c2048_i32_394 : BitVec 32 := 2048#32
  let c0_i32_395 : BitVec 32 := 0#32
  ![v377.toNat, 2048, 0]
def k0_off112 (v376 : BitVec 32) : Fin 3 → Nat :=
  let c2048_i32_396 : BitVec 32 := 2048#32
  let c0_i32_397 : BitVec 32 := 0#32
  ![v376.toNat, 2048, 0]
def k0_off113 (v81 : BitVec 32) (k0_t15 : Fin (k0_t15_loop v81).trips) : Fin 2 → Nat :=
  let c1_i32_337 : BitVec 32 := 1#32
  let c0_i32_192 : BitVec 32 := 0#32
  let v200 : BitVec 32 := Scalar.subi v81 c0_i32_192
  let c1_i32_194 : BitVec 32 := 1#32
  let v202 : BitVec 32 := Scalar.divsi v200 c1_i32_194
  let v203 : BitVec 32 := Scalar.muli v202 c1_i32_194
  let v204 : BitVec 32 := Scalar.addi c0_i32_192 v203
  let c1_i32_196 : BitVec 32 := 1#32
  let arg36 : BitVec 32 := Scf.iv v204 c1_i32_196 k0_t15
  let c2_i32_256 : BitVec 32 := 2#32
  let v264 : BitVec 32 := Scalar.remsi arg36 c2_i32_256
  let v377 : BitVec 32 := Scalar.subi c1_i32_337 v264
  let c3_i32_398 : BitVec 32 := 3#32
  ![v377.toNat, 3]
def k0_off114 (v81 : BitVec 32) (k0_t15 : Fin (k0_t15_loop v81).trips) : Fin 3 → Nat :=
  let c1_i32_337 : BitVec 32 := 1#32
  let c0_i32_192 : BitVec 32 := 0#32
  let v200 : BitVec 32 := Scalar.subi v81 c0_i32_192
  let c1_i32_194 : BitVec 32 := 1#32
  let v202 : BitVec 32 := Scalar.divsi v200 c1_i32_194
  let v203 : BitVec 32 := Scalar.muli v202 c1_i32_194
  let v204 : BitVec 32 := Scalar.addi c0_i32_192 v203
  let c1_i32_196 : BitVec 32 := 1#32
  let arg36 : BitVec 32 := Scf.iv v204 c1_i32_196 k0_t15
  let c2_i32_256 : BitVec 32 := 2#32
  let v264 : BitVec 32 := Scalar.remsi arg36 c2_i32_256
  let v377 : BitVec 32 := Scalar.subi c1_i32_337 v264
  let c3072_i32_399 : BitVec 32 := 3072#32
  let c0_i32_400 : BitVec 32 := 0#32
  ![v377.toNat, 3072, 0]
def k0_off115 (v376 : BitVec 32) : Fin 3 → Nat :=
  let c3072_i32_401 : BitVec 32 := 3072#32
  let c0_i32_402 : BitVec 32 := 0#32
  ![v376.toNat, 3072, 0]

def k0_chk7 (v81 : BitVec 32) (k0_t15 : Fin (k0_t15_loop v81).trips) (v376 : BitVec 32) : Prop :=
  (∀ (k0_h2 : k0_cond2 v81 k0_t15 = 1#1), ∀ a, (k0_off91 v376) a + S1x32x1536.size a ≤ S47x32x1536.size a) ∧
  (∀ (k0_h2 : k0_cond2 v81 k0_t15 = 1#1), ∀ a, (k0_off96 v376) a + S1x512x2048.size a ≤ S47x1536x2048.size a) ∧
  (∀ (k0_h2 : k0_cond2 v81 k0_t15 = 1#1), ∀ (hinb : ∀ a, (k0_off96 v376) a + S1x512x2048.size a ≤ S47x1536x2048.size a), (Rect.unit (s := S47x1536x2048) (k0_off96 v376) S1x512x2048.size hinb).WholeWords (EltTy.packing .i8)) ∧
  (∀ (k0_h2 : k0_cond2 v81 k0_t15 = 1#1), ∀ a, (k0_off98 v376) a + S1x512x2048.size a ≤ S47x1536x2048.size a) ∧
  (∀ (k0_h2 : k0_cond2 v81 k0_t15 = 1#1), ∀ (hinb : ∀ a, (k0_off98 v376) a + S1x512x2048.size a ≤ S47x1536x2048.size a), (Rect.unit (s := S47x1536x2048) (k0_off98 v376) S1x512x2048.size hinb).WholeWords (EltTy.packing .i8)) ∧
  (∀ (k0_h2 : k0_cond2 v81 k0_t15 = 1#1), ∀ a, (k0_off101 v376) a + S1x512x2048.size a ≤ S47x1536x2048.size a) ∧
  (∀ (k0_h2 : k0_cond2 v81 k0_t15 = 1#1), ∀ (hinb : ∀ a, (k0_off101 v376) a + S1x512x2048.size a ≤ S47x1536x2048.size a), (Rect.unit (s := S47x1536x2048) (k0_off101 v376) S1x512x2048.size hinb).WholeWords (EltTy.packing .i8)) ∧
  (∀ (k0_h2 : k0_cond2 v81 k0_t15 = 1#1), ∀ a, (k0_off103 v376) a + S1x12x4096.size a ≤ S47x12x4096.size a) ∧
  (∀ (k0_h2 : k0_cond2 v81 k0_t15 = 1#1), ∀ a, (k0_off106 v376) a + S1x1024x768.size a ≤ S47x4096x768.size a) ∧
  (∀ (k0_h2 : k0_cond2 v81 k0_t15 = 1#1), ∀ (hinb : ∀ a, (k0_off106 v376) a + S1x1024x768.size a ≤ S47x4096x768.size a), (Rect.unit (s := S47x4096x768) (k0_off106 v376) S1x1024x768.size hinb).WholeWords (EltTy.packing .i8)) ∧
  (∀ (k0_h2 : k0_cond2 v81 k0_t15 = 1#1), ∀ a, (k0_off109 v376) a + S1x1024x768.size a ≤ S47x4096x768.size a) ∧
  (∀ (k0_h2 : k0_cond2 v81 k0_t15 = 1#1), ∀ (hinb : ∀ a, (k0_off109 v376) a + S1x1024x768.size a ≤ S47x4096x768.size a), (Rect.unit (s := S47x4096x768) (k0_off109 v376) S1x1024x768.size hinb).WholeWords (EltTy.packing .i8)) ∧
  (∀ (k0_h2 : k0_cond2 v81 k0_t15 = 1#1), ∀ a, (k0_off112 v376) a + S1x1024x768.size a ≤ S47x4096x768.size a) ∧
  (∀ (k0_h2 : k0_cond2 v81 k0_t15 = 1#1), ∀ (hinb : ∀ a, (k0_off112 v376) a + S1x1024x768.size a ≤ S47x4096x768.size a), (Rect.unit (s := S47x4096x768) (k0_off112 v376) S1x1024x768.size hinb).WholeWords (EltTy.packing .i8)) ∧
  (∀ (k0_h2 : k0_cond2 v81 k0_t15 = 1#1), ∀ a, (k0_off115 v376) a + S1x1024x768.size a ≤ S47x4096x768.size a) ∧
  (∀ (k0_h2 : k0_cond2 v81 k0_t15 = 1#1), ∀ (hinb : ∀ a, (k0_off115 v376) a + S1x1024x768.size a ≤ S47x4096x768.size a), (Rect.unit (s := S47x4096x768) (k0_off115 v376) S1x1024x768.size hinb).WholeWords (EltTy.packing .i8))
theorem k0_off91_inb : ∀ (v81 : BitVec 32) (k0_t15 : Fin (k0_t15_loop v81).trips) (v376 : BitVec 32) (k0_hw7 : k0_chk7 v81 k0_t15 v376), ∀ (k0_h2 : k0_cond2 v81 k0_t15 = 1#1), ∀ a, (k0_off91 v376) a + S1x32x1536.size a ≤ S47x32x1536.size a := fun v81 k0_t15 v376 k0_hw7 k0_h2 => k0_hw7.1 k0_h2
theorem k0_off96_inb : ∀ (v81 : BitVec 32) (k0_t15 : Fin (k0_t15_loop v81).trips) (v376 : BitVec 32) (k0_hw7 : k0_chk7 v81 k0_t15 v376), ∀ (k0_h2 : k0_cond2 v81 k0_t15 = 1#1), ∀ a, (k0_off96 v376) a + S1x512x2048.size a ≤ S47x1536x2048.size a := fun v81 k0_t15 v376 k0_hw7 k0_h2 => k0_hw7.2.1 k0_h2
theorem k0_off96_wordsi8 : ∀ (v81 : BitVec 32) (k0_t15 : Fin (k0_t15_loop v81).trips) (v376 : BitVec 32) (k0_hw7 : k0_chk7 v81 k0_t15 v376), ∀ (k0_h2 : k0_cond2 v81 k0_t15 = 1#1), (Rect.unit (s := S47x1536x2048) (k0_off96 v376) S1x512x2048.size (k0_off96_inb v81 k0_t15 v376 k0_hw7 k0_h2)).WholeWords (EltTy.packing .i8) := fun v81 k0_t15 v376 k0_hw7 k0_h2 => k0_hw7.2.2.1 k0_h2 (k0_off96_inb v81 k0_t15 v376 k0_hw7 k0_h2)
theorem k0_off98_inb : ∀ (v81 : BitVec 32) (k0_t15 : Fin (k0_t15_loop v81).trips) (v376 : BitVec 32) (k0_hw7 : k0_chk7 v81 k0_t15 v376), ∀ (k0_h2 : k0_cond2 v81 k0_t15 = 1#1), ∀ a, (k0_off98 v376) a + S1x512x2048.size a ≤ S47x1536x2048.size a := fun v81 k0_t15 v376 k0_hw7 k0_h2 => k0_hw7.2.2.2.1 k0_h2
theorem k0_off98_wordsi8 : ∀ (v81 : BitVec 32) (k0_t15 : Fin (k0_t15_loop v81).trips) (v376 : BitVec 32) (k0_hw7 : k0_chk7 v81 k0_t15 v376), ∀ (k0_h2 : k0_cond2 v81 k0_t15 = 1#1), (Rect.unit (s := S47x1536x2048) (k0_off98 v376) S1x512x2048.size (k0_off98_inb v81 k0_t15 v376 k0_hw7 k0_h2)).WholeWords (EltTy.packing .i8) := fun v81 k0_t15 v376 k0_hw7 k0_h2 => k0_hw7.2.2.2.2.1 k0_h2 (k0_off98_inb v81 k0_t15 v376 k0_hw7 k0_h2)
theorem k0_off101_inb : ∀ (v81 : BitVec 32) (k0_t15 : Fin (k0_t15_loop v81).trips) (v376 : BitVec 32) (k0_hw7 : k0_chk7 v81 k0_t15 v376), ∀ (k0_h2 : k0_cond2 v81 k0_t15 = 1#1), ∀ a, (k0_off101 v376) a + S1x512x2048.size a ≤ S47x1536x2048.size a := fun v81 k0_t15 v376 k0_hw7 k0_h2 => k0_hw7.2.2.2.2.2.1 k0_h2
theorem k0_off101_wordsi8 : ∀ (v81 : BitVec 32) (k0_t15 : Fin (k0_t15_loop v81).trips) (v376 : BitVec 32) (k0_hw7 : k0_chk7 v81 k0_t15 v376), ∀ (k0_h2 : k0_cond2 v81 k0_t15 = 1#1), (Rect.unit (s := S47x1536x2048) (k0_off101 v376) S1x512x2048.size (k0_off101_inb v81 k0_t15 v376 k0_hw7 k0_h2)).WholeWords (EltTy.packing .i8) := fun v81 k0_t15 v376 k0_hw7 k0_h2 => k0_hw7.2.2.2.2.2.2.1 k0_h2 (k0_off101_inb v81 k0_t15 v376 k0_hw7 k0_h2)
theorem k0_off103_inb : ∀ (v81 : BitVec 32) (k0_t15 : Fin (k0_t15_loop v81).trips) (v376 : BitVec 32) (k0_hw7 : k0_chk7 v81 k0_t15 v376), ∀ (k0_h2 : k0_cond2 v81 k0_t15 = 1#1), ∀ a, (k0_off103 v376) a + S1x12x4096.size a ≤ S47x12x4096.size a := fun v81 k0_t15 v376 k0_hw7 k0_h2 => k0_hw7.2.2.2.2.2.2.2.1 k0_h2
theorem k0_off106_inb : ∀ (v81 : BitVec 32) (k0_t15 : Fin (k0_t15_loop v81).trips) (v376 : BitVec 32) (k0_hw7 : k0_chk7 v81 k0_t15 v376), ∀ (k0_h2 : k0_cond2 v81 k0_t15 = 1#1), ∀ a, (k0_off106 v376) a + S1x1024x768.size a ≤ S47x4096x768.size a := fun v81 k0_t15 v376 k0_hw7 k0_h2 => k0_hw7.2.2.2.2.2.2.2.2.1 k0_h2
theorem k0_off106_wordsi8 : ∀ (v81 : BitVec 32) (k0_t15 : Fin (k0_t15_loop v81).trips) (v376 : BitVec 32) (k0_hw7 : k0_chk7 v81 k0_t15 v376), ∀ (k0_h2 : k0_cond2 v81 k0_t15 = 1#1), (Rect.unit (s := S47x4096x768) (k0_off106 v376) S1x1024x768.size (k0_off106_inb v81 k0_t15 v376 k0_hw7 k0_h2)).WholeWords (EltTy.packing .i8) := fun v81 k0_t15 v376 k0_hw7 k0_h2 => k0_hw7.2.2.2.2.2.2.2.2.2.1 k0_h2 (k0_off106_inb v81 k0_t15 v376 k0_hw7 k0_h2)
theorem k0_off109_inb : ∀ (v81 : BitVec 32) (k0_t15 : Fin (k0_t15_loop v81).trips) (v376 : BitVec 32) (k0_hw7 : k0_chk7 v81 k0_t15 v376), ∀ (k0_h2 : k0_cond2 v81 k0_t15 = 1#1), ∀ a, (k0_off109 v376) a + S1x1024x768.size a ≤ S47x4096x768.size a := fun v81 k0_t15 v376 k0_hw7 k0_h2 => k0_hw7.2.2.2.2.2.2.2.2.2.2.1 k0_h2
theorem k0_off109_wordsi8 : ∀ (v81 : BitVec 32) (k0_t15 : Fin (k0_t15_loop v81).trips) (v376 : BitVec 32) (k0_hw7 : k0_chk7 v81 k0_t15 v376), ∀ (k0_h2 : k0_cond2 v81 k0_t15 = 1#1), (Rect.unit (s := S47x4096x768) (k0_off109 v376) S1x1024x768.size (k0_off109_inb v81 k0_t15 v376 k0_hw7 k0_h2)).WholeWords (EltTy.packing .i8) := fun v81 k0_t15 v376 k0_hw7 k0_h2 => k0_hw7.2.2.2.2.2.2.2.2.2.2.2.1 k0_h2 (k0_off109_inb v81 k0_t15 v376 k0_hw7 k0_h2)
theorem k0_off112_inb : ∀ (v81 : BitVec 32) (k0_t15 : Fin (k0_t15_loop v81).trips) (v376 : BitVec 32) (k0_hw7 : k0_chk7 v81 k0_t15 v376), ∀ (k0_h2 : k0_cond2 v81 k0_t15 = 1#1), ∀ a, (k0_off112 v376) a + S1x1024x768.size a ≤ S47x4096x768.size a := fun v81 k0_t15 v376 k0_hw7 k0_h2 => k0_hw7.2.2.2.2.2.2.2.2.2.2.2.2.1 k0_h2
theorem k0_off112_wordsi8 : ∀ (v81 : BitVec 32) (k0_t15 : Fin (k0_t15_loop v81).trips) (v376 : BitVec 32) (k0_hw7 : k0_chk7 v81 k0_t15 v376), ∀ (k0_h2 : k0_cond2 v81 k0_t15 = 1#1), (Rect.unit (s := S47x4096x768) (k0_off112 v376) S1x1024x768.size (k0_off112_inb v81 k0_t15 v376 k0_hw7 k0_h2)).WholeWords (EltTy.packing .i8) := fun v81 k0_t15 v376 k0_hw7 k0_h2 => k0_hw7.2.2.2.2.2.2.2.2.2.2.2.2.2.1 k0_h2 (k0_off112_inb v81 k0_t15 v376 k0_hw7 k0_h2)
theorem k0_off115_inb : ∀ (v81 : BitVec 32) (k0_t15 : Fin (k0_t15_loop v81).trips) (v376 : BitVec 32) (k0_hw7 : k0_chk7 v81 k0_t15 v376), ∀ (k0_h2 : k0_cond2 v81 k0_t15 = 1#1), ∀ a, (k0_off115 v376) a + S1x1024x768.size a ≤ S47x4096x768.size a := fun v81 k0_t15 v376 k0_hw7 k0_h2 => k0_hw7.2.2.2.2.2.2.2.2.2.2.2.2.2.2.1 k0_h2
theorem k0_off115_wordsi8 : ∀ (v81 : BitVec 32) (k0_t15 : Fin (k0_t15_loop v81).trips) (v376 : BitVec 32) (k0_hw7 : k0_chk7 v81 k0_t15 v376), ∀ (k0_h2 : k0_cond2 v81 k0_t15 = 1#1), (Rect.unit (s := S47x4096x768) (k0_off115 v376) S1x1024x768.size (k0_off115_inb v81 k0_t15 v376 k0_hw7 k0_h2)).WholeWords (EltTy.packing .i8) := fun v81 k0_t15 v376 k0_hw7 k0_h2 => k0_hw7.2.2.2.2.2.2.2.2.2.2.2.2.2.2.2 k0_h2 (k0_off115_inb v81 k0_t15 v376 k0_hw7 k0_h2)

def k0_off116 (v81 : BitVec 32) (k0_t15 : Fin (k0_t15_loop v81).trips) : Fin 2 → Nat :=
  let c0_i32_192 : BitVec 32 := 0#32
  let v200 : BitVec 32 := Scalar.subi v81 c0_i32_192
  let c1_i32_194 : BitVec 32 := 1#32
  let v202 : BitVec 32 := Scalar.divsi v200 c1_i32_194
  let v203 : BitVec 32 := Scalar.muli v202 c1_i32_194
  let v204 : BitVec 32 := Scalar.addi c0_i32_192 v203
  let c1_i32_196 : BitVec 32 := 1#32
  let arg36 : BitVec 32 := Scf.iv v204 c1_i32_196 k0_t15
  let c2_i32_256 : BitVec 32 := 2#32
  let v264 : BitVec 32 := Scalar.remsi arg36 c2_i32_256
  let c0_i32_259 : BitVec 32 := 0#32
  ![v264.toNat, 0]
def k0_off117 (v81 : BitVec 32) (k0_t15 : Fin (k0_t15_loop v81).trips) : Fin 3 → Nat :=
  let c0_i32_192 : BitVec 32 := 0#32
  let v200 : BitVec 32 := Scalar.subi v81 c0_i32_192
  let c1_i32_194 : BitVec 32 := 1#32
  let v202 : BitVec 32 := Scalar.divsi v200 c1_i32_194
  let v203 : BitVec 32 := Scalar.muli v202 c1_i32_194
  let v204 : BitVec 32 := Scalar.addi c0_i32_192 v203
  let c1_i32_196 : BitVec 32 := 1#32
  let arg36 : BitVec 32 := Scf.iv v204 c1_i32_196 k0_t15
  let c2_i32_256 : BitVec 32 := 2#32
  let v264 : BitVec 32 := Scalar.remsi arg36 c2_i32_256
  let c0_i32_260 : BitVec 32 := 0#32
  let c0_i32_261 : BitVec 32 := 0#32
  ![v264.toNat, 0, 0]
def k0_off118 (v266 : BitVec 32) : Fin 3 → Nat :=
  let c0_i32_262 : BitVec 32 := 0#32
  let c0_i32_263 : BitVec 32 := 0#32
  ![v266.toNat, 0, 0]

def k0_off119 (v81 : BitVec 32) (k0_t15 : Fin (k0_t15_loop v81).trips) : Fin 2 → Nat :=
  let c0_i32_192 : BitVec 32 := 0#32
  let v200 : BitVec 32 := Scalar.subi v81 c0_i32_192
  let c1_i32_194 : BitVec 32 := 1#32
  let v202 : BitVec 32 := Scalar.divsi v200 c1_i32_194
  let v203 : BitVec 32 := Scalar.muli v202 c1_i32_194
  let v204 : BitVec 32 := Scalar.addi c0_i32_192 v203
  let c1_i32_196 : BitVec 32 := 1#32
  let arg36 : BitVec 32 := Scf.iv v204 c1_i32_196 k0_t15
  let c2_i32_256 : BitVec 32 := 2#32
  let v264 : BitVec 32 := Scalar.remsi arg36 c2_i32_256
  let c1_i32_264 : BitVec 32 := 1#32
  ![v264.toNat, 1]
def k0_off120 (v81 : BitVec 32) (k0_t15 : Fin (k0_t15_loop v81).trips) : Fin 3 → Nat :=
  let c0_i32_192 : BitVec 32 := 0#32
  let v200 : BitVec 32 := Scalar.subi v81 c0_i32_192
  let c1_i32_194 : BitVec 32 := 1#32
  let v202 : BitVec 32 := Scalar.divsi v200 c1_i32_194
  let v203 : BitVec 32 := Scalar.muli v202 c1_i32_194
  let v204 : BitVec 32 := Scalar.addi c0_i32_192 v203
  let c1_i32_196 : BitVec 32 := 1#32
  let arg36 : BitVec 32 := Scf.iv v204 c1_i32_196 k0_t15
  let c2_i32_256 : BitVec 32 := 2#32
  let v264 : BitVec 32 := Scalar.remsi arg36 c2_i32_256
  let c0_i32_265 : BitVec 32 := 0#32
  let c0_i32_266 : BitVec 32 := 0#32
  ![v264.toNat, 0, 0]
@[reducible] def k0_t16_loop : Scf.Loop 32 :=
  let c0_i32_270 : BitVec 32 := 0#32
  let c3_i32_271 : BitVec 32 := 3#32
  let v283 : BitVec 32 := Scalar.addi c0_i32_270 c3_i32_271
  let c1_i32_272 : BitVec 32 := 1#32
  ⟨c0_i32_270, v283, c1_i32_272⟩
def k0_mult15 (k0_t16 : Fin k0_t16_loop.trips) : BitVec 32 :=
  let c0_i32_270 : BitVec 32 := 0#32
  let c1_i32_272 : BitVec 32 := 1#32
  let arg38 : BitVec 32 := Scf.iv c0_i32_270 c1_i32_272 k0_t16
  let c512_i32_335 : BitVec 32 := 512#32
  let v372 : BitVec 32 := Scalar.muli arg38 c512_i32_335
  v372
def k0_off121 (v81 : BitVec 32) (k0_t15 : Fin (k0_t15_loop v81).trips) (k0_t16 : Fin k0_t16_loop.trips) : Fin 2 → Nat :=
  let c0_i32_192 : BitVec 32 := 0#32
  let v200 : BitVec 32 := Scalar.subi v81 c0_i32_192
  let c1_i32_194 : BitVec 32 := 1#32
  let v202 : BitVec 32 := Scalar.divsi v200 c1_i32_194
  let v203 : BitVec 32 := Scalar.muli v202 c1_i32_194
  let v204 : BitVec 32 := Scalar.addi c0_i32_192 v203
  let c1_i32_196 : BitVec 32 := 1#32
  let arg36 : BitVec 32 := Scf.iv v204 c1_i32_196 k0_t15
  let c2_i32_256 : BitVec 32 := 2#32
  let v264 : BitVec 32 := Scalar.remsi arg36 c2_i32_256
  let c0_i32_270 : BitVec 32 := 0#32
  let c1_i32_272 : BitVec 32 := 1#32
  let arg38 : BitVec 32 := Scf.iv c0_i32_270 c1_i32_272 k0_t16
  ![v264.toNat, arg38.toNat]
def k0_off122 (v81 : BitVec 32) (k0_t15 : Fin (k0_t15_loop v81).trips) (k0_t16 : Fin k0_t16_loop.trips) : Fin 3 → Nat :=
  let c0_i32_192 : BitVec 32 := 0#32
  let v200 : BitVec 32 := Scalar.subi v81 c0_i32_192
  let c1_i32_194 : BitVec 32 := 1#32
  let v202 : BitVec 32 := Scalar.divsi v200 c1_i32_194
  let v203 : BitVec 32 := Scalar.muli v202 c1_i32_194
  let v204 : BitVec 32 := Scalar.addi c0_i32_192 v203
  let c1_i32_196 : BitVec 32 := 1#32
  let arg36 : BitVec 32 := Scf.iv v204 c1_i32_196 k0_t15
  let c2_i32_256 : BitVec 32 := 2#32
  let v264 : BitVec 32 := Scalar.remsi arg36 c2_i32_256
  let c0_i32_270 : BitVec 32 := 0#32
  let c1_i32_272 : BitVec 32 := 1#32
  let arg38 : BitVec 32 := Scf.iv c0_i32_270 c1_i32_272 k0_t16
  let c512_i32_335 : BitVec 32 := 512#32
  let v372 : BitVec 32 := Scalar.muli arg38 c512_i32_335
  let v373 : BitVec 32 := v372
  let c0_i32_336 : BitVec 32 := 0#32
  ![v264.toNat, v373.toNat, 0]
def k0_off123 (v266 : BitVec 32) (k0_t16 : Fin k0_t16_loop.trips) : Fin 3 → Nat :=
  let c0_i32_270 : BitVec 32 := 0#32
  let c1_i32_272 : BitVec 32 := 1#32
  let arg38 : BitVec 32 := Scf.iv c0_i32_270 c1_i32_272 k0_t16
  let c512_i32_335 : BitVec 32 := 512#32
  let v372 : BitVec 32 := Scalar.muli arg38 c512_i32_335
  let v373 : BitVec 32 := v372
  let c0_i32_337 : BitVec 32 := 0#32
  ![v266.toNat, v373.toNat, 0]
def k0_mult16 (k0_t16 : Fin k0_t16_loop.trips) : BitVec 32 :=
  let c0_i32_270 : BitVec 32 := 0#32
  let c1_i32_272 : BitVec 32 := 1#32
  let arg38 : BitVec 32 := Scf.iv c0_i32_270 c1_i32_272 k0_t16
  let c512_i32_338 : BitVec 32 := 512#32
  let v380 : BitVec 32 := Scalar.muli arg38 c512_i32_338
  v380
@[reducible] def k0_t17_loop : Scf.Loop 32 :=
  let c0_i32_342 : BitVec 32 := 0#32
  let c2_i32_343 : BitVec 32 := 2#32
  let v388 : BitVec 32 := Scalar.addi c0_i32_342 c2_i32_343
  let c1_i32_344 : BitVec 32 := 1#32
  ⟨c0_i32_342, v388, c1_i32_344⟩
def k0_mult17 (k0_t16 : Fin k0_t16_loop.trips) (k0_t17 : Fin k0_t17_loop.trips) : BitVec 32 :=
  let c0_i32_270 : BitVec 32 := 0#32
  let c1_i32_272 : BitVec 32 := 1#32
  let arg38 : BitVec 32 := Scf.iv c0_i32_270 c1_i32_272 k0_t16
  let c512_i32_347 : BitVec 32 := 512#32
  let v390 : BitVec 32 := Scalar.muli arg38 c512_i32_347
  let c0_i32_342 : BitVec 32 := 0#32
  let c1_i32_344 : BitVec 32 := 1#32
  let arg40 : BitVec 32 := Scf.iv c0_i32_342 c1_i32_344 k0_t17
  let c256_i32 : BitVec 32 := 256#32
  let v391 : BitVec 32 := Scalar.muli arg40 c256_i32
  let v392 : BitVec 32 := Scalar.addi v390 v391
  v392
@[reducible] def k0_t18_loop : Scf.Loop 32 :=
  let c0_i32_349 : BitVec 32 := 0#32
  let c16_i32 : BitVec 32 := 16#32
  let v395 : BitVec 32 := Scalar.addi c0_i32_349 c16_i32
  let c1_i32_350 : BitVec 32 := 1#32
  ⟨c0_i32_349, v395, c1_i32_350⟩
def k0_mult18 (k0_t18 : Fin k0_t18_loop.trips) : BitVec 32 :=
  let c0_i32_349 : BitVec 32 := 0#32
  let c1_i32_350 : BitVec 32 := 1#32
  let arg42 : BitVec 32 := Scf.iv c0_i32_349 c1_i32_350 k0_t18
  let c128_i32 : BitVec 32 := 128#32
  let v409 : BitVec 32 := Scalar.muli arg42 c128_i32
  v409
def k0_off124 (v81 : BitVec 32) (k0_t15 : Fin (k0_t15_loop v81).trips) (k0_t16 : Fin k0_t16_loop.trips) (k0_t17 : Fin k0_t17_loop.trips) (k0_t18 : Fin k0_t18_loop.trips) : Fin 3 → Nat :=
  let c0_i32_192 : BitVec 32 := 0#32
  let v200 : BitVec 32 := Scalar.subi v81 c0_i32_192
  let c1_i32_194 : BitVec 32 := 1#32
  let v202 : BitVec 32 := Scalar.divsi v200 c1_i32_194
  let v203 : BitVec 32 := Scalar.muli v202 c1_i32_194
  let v204 : BitVec 32 := Scalar.addi c0_i32_192 v203
  let c1_i32_196 : BitVec 32 := 1#32
  let arg36 : BitVec 32 := Scf.iv v204 c1_i32_196 k0_t15
  let c2_i32_256 : BitVec 32 := 2#32
  let v264 : BitVec 32 := Scalar.remsi arg36 c2_i32_256
  let v411 : Index := Scalar.indexCast v264
  let c0_i32_270 : BitVec 32 := 0#32
  let c1_i32_272 : BitVec 32 := 1#32
  let arg38 : BitVec 32 := Scf.iv c0_i32_270 c1_i32_272 k0_t16
  let c512_i32_347 : BitVec 32 := 512#32
  let v390 : BitVec 32 := Scalar.muli arg38 c512_i32_347
  let c0_i32_342 : BitVec 32 := 0#32
  let c1_i32_344 : BitVec 32 := 1#32
  let arg40 : BitVec 32 := Scf.iv c0_i32_342 c1_i32_344 k0_t17
  let c256_i32 : BitVec 32 := 256#32
  let v391 : BitVec 32 := Scalar.muli arg40 c256_i32
  let v392 : BitVec 32 := Scalar.addi v390 v391
  let v393 : BitVec 32 := v392
  let v412 : Index := Scalar.indexCast v393
  let c0_i32_349 : BitVec 32 := 0#32
  let c1_i32_350 : BitVec 32 := 1#32
  let arg42 : BitVec 32 := Scf.iv c0_i32_349 c1_i32_350 k0_t18
  let c128_i32 : BitVec 32 := 128#32
  let v409 : BitVec 32 := Scalar.muli arg42 c128_i32
  let v410 : BitVec 32 := v409
  let v413 : Index := Scalar.indexCast v410
  ![v411.toNat, v412.toNat, v413.toNat]
def k0_off125 (v81 : BitVec 32) (k0_t15 : Fin (k0_t15_loop v81).trips) (k0_t16 : Fin k0_t16_loop.trips) (k0_t17 : Fin k0_t17_loop.trips) (k0_t18 : Fin k0_t18_loop.trips) (c0_i32_362 : BitVec 32) : Fin 3 → Nat :=
  let c0_i32_192 : BitVec 32 := 0#32
  let v200 : BitVec 32 := Scalar.subi v81 c0_i32_192
  let c1_i32_194 : BitVec 32 := 1#32
  let v202 : BitVec 32 := Scalar.divsi v200 c1_i32_194
  let v203 : BitVec 32 := Scalar.muli v202 c1_i32_194
  let v204 : BitVec 32 := Scalar.addi c0_i32_192 v203
  let c1_i32_196 : BitVec 32 := 1#32
  let arg36 : BitVec 32 := Scf.iv v204 c1_i32_196 k0_t15
  let c2_i32_256 : BitVec 32 := 2#32
  let v264 : BitVec 32 := Scalar.remsi arg36 c2_i32_256
  let v433 : Index := Scalar.indexCast v264
  let c2_i32_359 : BitVec 32 := 2#32
  let c0_i32_349 : BitVec 32 := 0#32
  let c1_i32_350 : BitVec 32 := 1#32
  let arg42 : BitVec 32 := Scf.iv c0_i32_349 c1_i32_350 k0_t18
  let v416 : BitVec 32 := Scalar.muli c2_i32_359 arg42
  let v432 : BitVec 32 := Scalar.addi v416 c0_i32_362
  let v434 : Index := Scalar.indexCast v432
  let c0_i32_270 : BitVec 32 := 0#32
  let c1_i32_272 : BitVec 32 := 1#32
  let arg38 : BitVec 32 := Scf.iv c0_i32_270 c1_i32_272 k0_t16
  let c512_i32_347 : BitVec 32 := 512#32
  let v390 : BitVec 32 := Scalar.muli arg38 c512_i32_347
  let c0_i32_342 : BitVec 32 := 0#32
  let c1_i32_344 : BitVec 32 := 1#32
  let arg40 : BitVec 32 := Scf.iv c0_i32_342 c1_i32_344 k0_t17
  let c256_i32 : BitVec 32 := 256#32
  let v391 : BitVec 32 := Scalar.muli arg40 c256_i32
  let v392 : BitVec 32 := Scalar.addi v390 v391
  let v393 : BitVec 32 := v392
  let v435 : Index := Scalar.indexCast v393
  ![v433.toNat, v434.toNat, v435.toNat]
def k0_mult19 (k0_t18 : Fin k0_t18_loop.trips) : BitVec 32 :=
  let c0_i32_349 : BitVec 32 := 0#32
  let c1_i32_350 : BitVec 32 := 1#32
  let arg42 : BitVec 32 := Scf.iv c0_i32_349 c1_i32_350 k0_t18
  let c256_i32_364 : BitVec 32 := 256#32
  let v453 : BitVec 32 := Scalar.muli arg42 c256_i32_364
  v453
def k0_off126 (k0_t18 : Fin k0_t18_loop.trips) : Fin 2 → Nat :=
  let c0_365 : Index := 0#32
  let c0_i32_349 : BitVec 32 := 0#32
  let c1_i32_350 : BitVec 32 := 1#32
  let arg42 : BitVec 32 := Scf.iv c0_i32_349 c1_i32_350 k0_t18
  let c256_i32_364 : BitVec 32 := 256#32
  let v453 : BitVec 32 := Scalar.muli arg42 c256_i32_364
  let v454 : BitVec 32 := v453
  let v455 : Index := Scalar.indexCast v454
  ![0, v455.toNat]
@[reducible] def k0_t19_loop : Scf.Loop 32 :=
  let c0_i32_353 : BitVec 32 := 0#32
  let c16_i32_354 : BitVec 32 := 16#32
  let v398 : BitVec 32 := Scalar.addi c0_i32_353 c16_i32_354
  let c1_i32_355 : BitVec 32 := 1#32
  ⟨c0_i32_353, v398, c1_i32_355⟩
def k0_mult20 (k0_t19 : Fin k0_t19_loop.trips) : BitVec 32 :=
  let c0_i32_353 : BitVec 32 := 0#32
  let c1_i32_355 : BitVec 32 := 1#32
  let arg42 : BitVec 32 := Scf.iv c0_i32_353 c1_i32_355 k0_t19
  let c128_i32 : BitVec 32 := 128#32
  let v409 : BitVec 32 := Scalar.muli arg42 c128_i32
  v409
def k0_off127 (v81 : BitVec 32) (k0_t15 : Fin (k0_t15_loop v81).trips) (k0_t16 : Fin k0_t16_loop.trips) (k0_t17 : Fin k0_t17_loop.trips) (k0_t19 : Fin k0_t19_loop.trips) : Fin 3 → Nat :=
  let c0_i32_192 : BitVec 32 := 0#32
  let v200 : BitVec 32 := Scalar.subi v81 c0_i32_192
  let c1_i32_194 : BitVec 32 := 1#32
  let v202 : BitVec 32 := Scalar.divsi v200 c1_i32_194
  let v203 : BitVec 32 := Scalar.muli v202 c1_i32_194
  let v204 : BitVec 32 := Scalar.addi c0_i32_192 v203
  let c1_i32_196 : BitVec 32 := 1#32
  let arg36 : BitVec 32 := Scf.iv v204 c1_i32_196 k0_t15
  let c2_i32_256 : BitVec 32 := 2#32
  let v264 : BitVec 32 := Scalar.remsi arg36 c2_i32_256
  let v411 : Index := Scalar.indexCast v264
  let c0_i32_270 : BitVec 32 := 0#32
  let c1_i32_272 : BitVec 32 := 1#32
  let arg38 : BitVec 32 := Scf.iv c0_i32_270 c1_i32_272 k0_t16
  let c512_i32_347 : BitVec 32 := 512#32
  let v390 : BitVec 32 := Scalar.muli arg38 c512_i32_347
  let c0_i32_342 : BitVec 32 := 0#32
  let c1_i32_344 : BitVec 32 := 1#32
  let arg40 : BitVec 32 := Scf.iv c0_i32_342 c1_i32_344 k0_t17
  let c256_i32 : BitVec 32 := 256#32
  let v391 : BitVec 32 := Scalar.muli arg40 c256_i32
  let v392 : BitVec 32 := Scalar.addi v390 v391
  let v393 : BitVec 32 := v392
  let v412 : Index := Scalar.indexCast v393
  let c0_i32_353 : BitVec 32 := 0#32
  let c1_i32_355 : BitVec 32 := 1#32
  let arg42 : BitVec 32 := Scf.iv c0_i32_353 c1_i32_355 k0_t19
  let c128_i32 : BitVec 32 := 128#32
  let v409 : BitVec 32 := Scalar.muli arg42 c128_i32
  let v410 : BitVec 32 := v409
  let v413 : Index := Scalar.indexCast v410
  ![v411.toNat, v412.toNat, v413.toNat]
def k0_off128 (v81 : BitVec 32) (k0_t15 : Fin (k0_t15_loop v81).trips) (k0_t16 : Fin k0_t16_loop.trips) (k0_t17 : Fin k0_t17_loop.trips) (k0_t19 : Fin k0_t19_loop.trips) (c0_i32_362 : BitVec 32) : Fin 3 → Nat :=
  let c0_i32_192 : BitVec 32 := 0#32
  let v200 : BitVec 32 := Scalar.subi v81 c0_i32_192
  let c1_i32_194 : BitVec 32 := 1#32
  let v202 : BitVec 32 := Scalar.divsi v200 c1_i32_194
  let v203 : BitVec 32 := Scalar.muli v202 c1_i32_194
  let v204 : BitVec 32 := Scalar.addi c0_i32_192 v203
  let c1_i32_196 : BitVec 32 := 1#32
  let arg36 : BitVec 32 := Scf.iv v204 c1_i32_196 k0_t15
  let c2_i32_256 : BitVec 32 := 2#32
  let v264 : BitVec 32 := Scalar.remsi arg36 c2_i32_256
  let v433 : Index := Scalar.indexCast v264
  let c2_i32_359 : BitVec 32 := 2#32
  let c0_i32_353 : BitVec 32 := 0#32
  let c1_i32_355 : BitVec 32 := 1#32
  let arg42 : BitVec 32 := Scf.iv c0_i32_353 c1_i32_355 k0_t19
  let v416 : BitVec 32 := Scalar.muli c2_i32_359 arg42
  let v432 : BitVec 32 := Scalar.addi v416 c0_i32_362
  let v434 : Index := Scalar.indexCast v432
  let c0_i32_270 : BitVec 32 := 0#32
  let c1_i32_272 : BitVec 32 := 1#32
  let arg38 : BitVec 32 := Scf.iv c0_i32_270 c1_i32_272 k0_t16
  let c512_i32_347 : BitVec 32 := 512#32
  let v390 : BitVec 32 := Scalar.muli arg38 c512_i32_347
  let c0_i32_342 : BitVec 32 := 0#32
  let c1_i32_344 : BitVec 32 := 1#32
  let arg40 : BitVec 32 := Scf.iv c0_i32_342 c1_i32_344 k0_t17
  let c256_i32 : BitVec 32 := 256#32
  let v391 : BitVec 32 := Scalar.muli arg40 c256_i32
  let v392 : BitVec 32 := Scalar.addi v390 v391
  let v393 : BitVec 32 := v392
  let v435 : Index := Scalar.indexCast v393
  ![v433.toNat, v434.toNat, v435.toNat]
def k0_mult21 (k0_t19 : Fin k0_t19_loop.trips) : BitVec 32 :=
  let c0_i32_353 : BitVec 32 := 0#32
  let c1_i32_355 : BitVec 32 := 1#32
  let arg42 : BitVec 32 := Scf.iv c0_i32_353 c1_i32_355 k0_t19
  let c256_i32_364 : BitVec 32 := 256#32
  let v453 : BitVec 32 := Scalar.muli arg42 c256_i32_364
  v453
def k0_off129 (k0_t19 : Fin k0_t19_loop.trips) : Fin 2 → Nat :=
  let c0_365 : Index := 0#32
  let c0_i32_353 : BitVec 32 := 0#32
  let c1_i32_355 : BitVec 32 := 1#32
  let arg42 : BitVec 32 := Scf.iv c0_i32_353 c1_i32_355 k0_t19
  let c256_i32_364 : BitVec 32 := 256#32
  let v453 : BitVec 32 := Scalar.muli arg42 c256_i32_364
  let v454 : BitVec 32 := v453
  let v455 : Index := Scalar.indexCast v454
  ![0, v455.toNat]
def k0_off130 (k0_t16 : Fin k0_t16_loop.trips) (k0_t17 : Fin k0_t17_loop.trips) : Fin 2 → Nat :=
  let c0_357 : Index := 0#32
  let c0_i32_270 : BitVec 32 := 0#32
  let c1_i32_272 : BitVec 32 := 1#32
  let arg38 : BitVec 32 := Scf.iv c0_i32_270 c1_i32_272 k0_t16
  let c512_i32_347 : BitVec 32 := 512#32
  let v390 : BitVec 32 := Scalar.muli arg38 c512_i32_347
  let c0_i32_342 : BitVec 32 := 0#32
  let c1_i32_344 : BitVec 32 := 1#32
  let arg40 : BitVec 32 := Scf.iv c0_i32_342 c1_i32_344 k0_t17
  let c256_i32 : BitVec 32 := 256#32
  let v391 : BitVec 32 := Scalar.muli arg40 c256_i32
  let v392 : BitVec 32 := Scalar.addi v390 v391
  let v393 : BitVec 32 := v392
  let v405 : Index := Scalar.indexCast v393
  ![0, v405.toNat]
@[reducible] def k0_t20_loop : Scf.Loop 32 :=
  let c0_i32_275 : BitVec 32 := 0#32
  let c12_i32 : BitVec 32 := 12#32
  let v286 : BitVec 32 := Scalar.addi c0_i32_275 c12_i32
  let c1_i32_276 : BitVec 32 := 1#32
  ⟨c0_i32_275, v286, c1_i32_276⟩
def k0_mult22 (k0_t20 : Fin k0_t20_loop.trips) : BitVec 32 :=
  let c0_i32_275 : BitVec 32 := 0#32
  let c1_i32_276 : BitVec 32 := 1#32
  let arg38 : BitVec 32 := Scf.iv c0_i32_275 c1_i32_276 k0_t20
  let c128_i32 : BitVec 32 := 128#32
  let v372 : BitVec 32 := Scalar.muli arg38 c128_i32
  v372
def k0_off131 (k0_t20 : Fin k0_t20_loop.trips) : Fin 2 → Nat :=
  let c0_335 : Index := 0#32
  let c0_i32_275 : BitVec 32 := 0#32
  let c1_i32_276 : BitVec 32 := 1#32
  let arg38 : BitVec 32 := Scf.iv c0_i32_275 c1_i32_276 k0_t20
  let c128_i32 : BitVec 32 := 128#32
  let v372 : BitVec 32 := Scalar.muli arg38 c128_i32
  let v373 : BitVec 32 := v372
  let v374 : Index := Scalar.indexCast v373
  ![0, v374.toNat]
def k0_off132 (k0_t20 : Fin k0_t20_loop.trips) : Fin 2 → Nat :=
  let c0_366 : Index := 0#32
  let c0_i32_275 : BitVec 32 := 0#32
  let c1_i32_276 : BitVec 32 := 1#32
  let arg38 : BitVec 32 := Scf.iv c0_i32_275 c1_i32_276 k0_t20
  let c128_i32 : BitVec 32 := 128#32
  let v372 : BitVec 32 := Scalar.muli arg38 c128_i32
  let v373 : BitVec 32 := v372
  let v485 : Index := Scalar.indexCast v373
  ![0, v485.toNat]
@[reducible] def k0_t21_loop : Scf.Loop 32 :=
  let c0_i32_315 : BitVec 32 := 0#32
  let c12_i32_316 : BitVec 32 := 12#32
  let v354 : BitVec 32 := Scalar.addi c0_i32_315 c12_i32_316
  let c1_i32_317 : BitVec 32 := 1#32
  ⟨c0_i32_315, v354, c1_i32_317⟩
def k0_mult23 (k0_t21 : Fin k0_t21_loop.trips) : BitVec 32 :=
  let c0_i32_315 : BitVec 32 := 0#32
  let c1_i32_317 : BitVec 32 := 1#32
  let arg38 : BitVec 32 := Scf.iv c0_i32_315 c1_i32_317 k0_t21
  let c128_i32 : BitVec 32 := 128#32
  let v372 : BitVec 32 := Scalar.muli arg38 c128_i32
  v372
def k0_off133 (k0_t21 : Fin k0_t21_loop.trips) : Fin 2 → Nat :=
  let c0_335 : Index := 0#32
  let c0_i32_315 : BitVec 32 := 0#32
  let c1_i32_317 : BitVec 32 := 1#32
  let arg38 : BitVec 32 := Scf.iv c0_i32_315 c1_i32_317 k0_t21
  let c128_i32 : BitVec 32 := 128#32
  let v372 : BitVec 32 := Scalar.muli arg38 c128_i32
  let v373 : BitVec 32 := v372
  let v374 : Index := Scalar.indexCast v373
  ![0, v374.toNat]
def k0_off134 (k0_t21 : Fin k0_t21_loop.trips) : Fin 2 → Nat :=
  let c0_336 : Index := 0#32
  let c0_i32_315 : BitVec 32 := 0#32
  let c1_i32_317 : BitVec 32 := 1#32
  let arg38 : BitVec 32 := Scf.iv c0_i32_315 c1_i32_317 k0_t21
  let c128_i32 : BitVec 32 := 128#32
  let v372 : BitVec 32 := Scalar.muli arg38 c128_i32
  let v373 : BitVec 32 := v372
  let v376 : Index := Scalar.indexCast v373
  ![0, v376.toNat]
def k0_off135 (k0_t21 : Fin k0_t21_loop.trips) : Fin 2 → Nat :=
  let c1_338 : Index := 1#32
  let c0_i32_315 : BitVec 32 := 0#32
  let c1_i32_317 : BitVec 32 := 1#32
  let arg38 : BitVec 32 := Scf.iv c0_i32_315 c1_i32_317 k0_t21
  let c128_i32 : BitVec 32 := 128#32
  let v372 : BitVec 32 := Scalar.muli arg38 c128_i32
  let v373 : BitVec 32 := v372
  let v385 : Index := Scalar.indexCast v373
  ![1, v385.toNat]
def k0_off136 (k0_t21 : Fin k0_t21_loop.trips) : Fin 2 → Nat :=
  let c8_339 : Index := 8#32
  let c0_i32_315 : BitVec 32 := 0#32
  let c1_i32_317 : BitVec 32 := 1#32
  let arg38 : BitVec 32 := Scf.iv c0_i32_315 c1_i32_317 k0_t21
  let c128_i32 : BitVec 32 := 128#32
  let v372 : BitVec 32 := Scalar.muli arg38 c128_i32
  let v373 : BitVec 32 := v372
  let v387 : Index := Scalar.indexCast v373
  ![8, v387.toNat]
def k0_off137 (k0_t21 : Fin k0_t21_loop.trips) : Fin 2 → Nat :=
  let c2_341 : Index := 2#32
  let c0_i32_315 : BitVec 32 := 0#32
  let c1_i32_317 : BitVec 32 := 1#32
  let arg38 : BitVec 32 := Scf.iv c0_i32_315 c1_i32_317 k0_t21
  let c128_i32 : BitVec 32 := 128#32
  let v372 : BitVec 32 := Scalar.muli arg38 c128_i32
  let v373 : BitVec 32 := v372
  let v396 : Index := Scalar.indexCast v373
  ![2, v396.toNat]
def k0_off138 (k0_t21 : Fin k0_t21_loop.trips) : Fin 2 → Nat :=
  let c16_342 : Index := 16#32
  let c0_i32_315 : BitVec 32 := 0#32
  let c1_i32_317 : BitVec 32 := 1#32
  let arg38 : BitVec 32 := Scf.iv c0_i32_315 c1_i32_317 k0_t21
  let c128_i32 : BitVec 32 := 128#32
  let v372 : BitVec 32 := Scalar.muli arg38 c128_i32
  let v373 : BitVec 32 := v372
  let v398 : Index := Scalar.indexCast v373
  ![16, v398.toNat]
def k0_off139 (k0_t21 : Fin k0_t21_loop.trips) : Fin 2 → Nat :=
  let c3_344 : Index := 3#32
  let c0_i32_315 : BitVec 32 := 0#32
  let c1_i32_317 : BitVec 32 := 1#32
  let arg38 : BitVec 32 := Scf.iv c0_i32_315 c1_i32_317 k0_t21
  let c128_i32 : BitVec 32 := 128#32
  let v372 : BitVec 32 := Scalar.muli arg38 c128_i32
  let v373 : BitVec 32 := v372
  let v407 : Index := Scalar.indexCast v373
  ![3, v407.toNat]
def k0_off140 (k0_t21 : Fin k0_t21_loop.trips) : Fin 2 → Nat :=
  let c24_345 : Index := 24#32
  let c0_i32_315 : BitVec 32 := 0#32
  let c1_i32_317 : BitVec 32 := 1#32
  let arg38 : BitVec 32 := Scf.iv c0_i32_315 c1_i32_317 k0_t21
  let c128_i32 : BitVec 32 := 128#32
  let v372 : BitVec 32 := Scalar.muli arg38 c128_i32
  let v373 : BitVec 32 := v372
  let v409 : Index := Scalar.indexCast v373
  ![24, v409.toNat]
def k0_off141 (k0_t21 : Fin k0_t21_loop.trips) : Fin 2 → Nat :=
  let c4_347 : Index := 4#32
  let c0_i32_315 : BitVec 32 := 0#32
  let c1_i32_317 : BitVec 32 := 1#32
  let arg38 : BitVec 32 := Scf.iv c0_i32_315 c1_i32_317 k0_t21
  let c128_i32 : BitVec 32 := 128#32
  let v372 : BitVec 32 := Scalar.muli arg38 c128_i32
  let v373 : BitVec 32 := v372
  let v418 : Index := Scalar.indexCast v373
  ![4, v418.toNat]
def k0_off142 (k0_t21 : Fin k0_t21_loop.trips) : Fin 2 → Nat :=
  let c32_348 : Index := 32#32
  let c0_i32_315 : BitVec 32 := 0#32
  let c1_i32_317 : BitVec 32 := 1#32
  let arg38 : BitVec 32 := Scf.iv c0_i32_315 c1_i32_317 k0_t21
  let c128_i32 : BitVec 32 := 128#32
  let v372 : BitVec 32 := Scalar.muli arg38 c128_i32
  let v373 : BitVec 32 := v372
  let v420 : Index := Scalar.indexCast v373
  ![32, v420.toNat]
def k0_off143 (k0_t21 : Fin k0_t21_loop.trips) : Fin 2 → Nat :=
  let c5_350 : Index := 5#32
  let c0_i32_315 : BitVec 32 := 0#32
  let c1_i32_317 : BitVec 32 := 1#32
  let arg38 : BitVec 32 := Scf.iv c0_i32_315 c1_i32_317 k0_t21
  let c128_i32 : BitVec 32 := 128#32
  let v372 : BitVec 32 := Scalar.muli arg38 c128_i32
  let v373 : BitVec 32 := v372
  let v429 : Index := Scalar.indexCast v373
  ![5, v429.toNat]
def k0_off144 (k0_t21 : Fin k0_t21_loop.trips) : Fin 2 → Nat :=
  let c40_351 : Index := 40#32
  let c0_i32_315 : BitVec 32 := 0#32
  let c1_i32_317 : BitVec 32 := 1#32
  let arg38 : BitVec 32 := Scf.iv c0_i32_315 c1_i32_317 k0_t21
  let c128_i32 : BitVec 32 := 128#32
  let v372 : BitVec 32 := Scalar.muli arg38 c128_i32
  let v373 : BitVec 32 := v372
  let v431 : Index := Scalar.indexCast v373
  ![40, v431.toNat]
def k0_off145 (v81 : BitVec 32) (k0_t15 : Fin (k0_t15_loop v81).trips) : Fin 2 → Nat :=
  let c0_i32_192 : BitVec 32 := 0#32
  let v200 : BitVec 32 := Scalar.subi v81 c0_i32_192
  let c1_i32_194 : BitVec 32 := 1#32
  let v202 : BitVec 32 := Scalar.divsi v200 c1_i32_194
  let v203 : BitVec 32 := Scalar.muli v202 c1_i32_194
  let v204 : BitVec 32 := Scalar.addi c0_i32_192 v203
  let c1_i32_196 : BitVec 32 := 1#32
  let arg36 : BitVec 32 := Scf.iv v204 c1_i32_196 k0_t15
  let c2_i32_256 : BitVec 32 := 2#32
  let v264 : BitVec 32 := Scalar.remsi arg36 c2_i32_256
  let c2_i32_325 : BitVec 32 := 2#32
  ![v264.toNat, 2]
def k0_off146 (v81 : BitVec 32) (k0_t15 : Fin (k0_t15_loop v81).trips) : Fin 3 → Nat :=
  let c0_i32_192 : BitVec 32 := 0#32
  let v200 : BitVec 32 := Scalar.subi v81 c0_i32_192
  let c1_i32_194 : BitVec 32 := 1#32
  let v202 : BitVec 32 := Scalar.divsi v200 c1_i32_194
  let v203 : BitVec 32 := Scalar.muli v202 c1_i32_194
  let v204 : BitVec 32 := Scalar.addi c0_i32_192 v203
  let c1_i32_196 : BitVec 32 := 1#32
  let arg36 : BitVec 32 := Scf.iv v204 c1_i32_196 k0_t15
  let c2_i32_256 : BitVec 32 := 2#32
  let v264 : BitVec 32 := Scalar.remsi arg36 c2_i32_256
  let c0_i32_326 : BitVec 32 := 0#32
  let c0_i32_327 : BitVec 32 := 0#32
  ![v264.toNat, 0, 0]
def k0_off147 (v266 : BitVec 32) : Fin 3 → Nat :=
  let c0_i32_328 : BitVec 32 := 0#32
  let c0_i32_329 : BitVec 32 := 0#32
  ![v266.toNat, 0, 0]
@[reducible] def k0_t22_loop : Scf.Loop 32 :=
  let c0_i32_331 : BitVec 32 := 0#32
  let c4_i32 : BitVec 32 := 4#32
  let v370 : BitVec 32 := Scalar.addi c0_i32_331 c4_i32
  let c1_i32_332 : BitVec 32 := 1#32
  ⟨c0_i32_331, v370, c1_i32_332⟩
def k0_mult24 (k0_t22 : Fin k0_t22_loop.trips) : BitVec 32 :=
  let c0_i32_331 : BitVec 32 := 0#32
  let c1_i32_332 : BitVec 32 := 1#32
  let arg38 : BitVec 32 := Scf.iv c0_i32_331 c1_i32_332 k0_t22
  let c1024_i32_335 : BitVec 32 := 1024#32
  let v372 : BitVec 32 := Scalar.muli arg38 c1024_i32_335
  v372
def k0_off148 (v81 : BitVec 32) (k0_t15 : Fin (k0_t15_loop v81).trips) (k0_t22 : Fin k0_t22_loop.trips) : Fin 2 → Nat :=
  let c0_i32_192 : BitVec 32 := 0#32
  let v200 : BitVec 32 := Scalar.subi v81 c0_i32_192
  let c1_i32_194 : BitVec 32 := 1#32
  let v202 : BitVec 32 := Scalar.divsi v200 c1_i32_194
  let v203 : BitVec 32 := Scalar.muli v202 c1_i32_194
  let v204 : BitVec 32 := Scalar.addi c0_i32_192 v203
  let c1_i32_196 : BitVec 32 := 1#32
  let arg36 : BitVec 32 := Scf.iv v204 c1_i32_196 k0_t15
  let c2_i32_256 : BitVec 32 := 2#32
  let v264 : BitVec 32 := Scalar.remsi arg36 c2_i32_256
  let c0_i32_331 : BitVec 32 := 0#32
  let c1_i32_332 : BitVec 32 := 1#32
  let arg38 : BitVec 32 := Scf.iv c0_i32_331 c1_i32_332 k0_t22
  ![v264.toNat, arg38.toNat]
def k0_off149 (v81 : BitVec 32) (k0_t15 : Fin (k0_t15_loop v81).trips) (k0_t22 : Fin k0_t22_loop.trips) : Fin 3 → Nat :=
  let c0_i32_192 : BitVec 32 := 0#32
  let v200 : BitVec 32 := Scalar.subi v81 c0_i32_192
  let c1_i32_194 : BitVec 32 := 1#32
  let v202 : BitVec 32 := Scalar.divsi v200 c1_i32_194
  let v203 : BitVec 32 := Scalar.muli v202 c1_i32_194
  let v204 : BitVec 32 := Scalar.addi c0_i32_192 v203
  let c1_i32_196 : BitVec 32 := 1#32
  let arg36 : BitVec 32 := Scf.iv v204 c1_i32_196 k0_t15
  let c2_i32_256 : BitVec 32 := 2#32
  let v264 : BitVec 32 := Scalar.remsi arg36 c2_i32_256
  let c0_i32_331 : BitVec 32 := 0#32
  let c1_i32_332 : BitVec 32 := 1#32
  let arg38 : BitVec 32 := Scf.iv c0_i32_331 c1_i32_332 k0_t22
  let c1024_i32_335 : BitVec 32 := 1024#32
  let v372 : BitVec 32 := Scalar.muli arg38 c1024_i32_335
  let v373 : BitVec 32 := v372
  let c0_i32_336 : BitVec 32 := 0#32
  ![v264.toNat, v373.toNat, 0]
def k0_off150 (v266 : BitVec 32) (k0_t22 : Fin k0_t22_loop.trips) : Fin 3 → Nat :=
  let c0_i32_331 : BitVec 32 := 0#32
  let c1_i32_332 : BitVec 32 := 1#32
  let arg38 : BitVec 32 := Scf.iv c0_i32_331 c1_i32_332 k0_t22
  let c1024_i32_335 : BitVec 32 := 1024#32
  let v372 : BitVec 32 := Scalar.muli arg38 c1024_i32_335
  let v373 : BitVec 32 := v372
  let c0_i32_337 : BitVec 32 := 0#32
  ![v266.toNat, v373.toNat, 0]

def k0_chk8 (v266 : BitVec 32) : Prop :=
  (∀ a, (k0_off118 v266) a + S1x32x1536.size a ≤ S47x32x1536.size a) ∧
  (∀ k0_t16 : Fin k0_t16_loop.trips, ∀ a, (k0_off123 v266 k0_t16) a + S1x512x2048.size a ≤ S47x1536x2048.size a) ∧
  (∀ k0_t16 : Fin k0_t16_loop.trips, ∀ (hinb : ∀ a, (k0_off123 v266 k0_t16) a + S1x512x2048.size a ≤ S47x1536x2048.size a), (Rect.unit (s := S47x1536x2048) (k0_off123 v266 k0_t16) S1x512x2048.size hinb).WholeWords (EltTy.packing .i8)) ∧
  (∀ a, (k0_off147 v266) a + S1x12x4096.size a ≤ S47x12x4096.size a) ∧
  (∀ k0_t22 : Fin k0_t22_loop.trips, ∀ a, (k0_off150 v266 k0_t22) a + S1x1024x768.size a ≤ S47x4096x768.size a) ∧
  (∀ k0_t22 : Fin k0_t22_loop.trips, ∀ (hinb : ∀ a, (k0_off150 v266 k0_t22) a + S1x1024x768.size a ≤ S47x4096x768.size a), (Rect.unit (s := S47x4096x768) (k0_off150 v266 k0_t22) S1x1024x768.size hinb).WholeWords (EltTy.packing .i8))
theorem k0_off118_inb : ∀ (v266 : BitVec 32) (k0_hw8 : k0_chk8 v266), ∀ a, (k0_off118 v266) a + S1x32x1536.size a ≤ S47x32x1536.size a := fun v266 k0_hw8 => k0_hw8.1
theorem k0_off123_inb : ∀ (v266 : BitVec 32) (k0_hw8 : k0_chk8 v266) (k0_t16 : Fin k0_t16_loop.trips), ∀ a, (k0_off123 v266 k0_t16) a + S1x512x2048.size a ≤ S47x1536x2048.size a := fun v266 k0_hw8 k0_t16 => k0_hw8.2.1 k0_t16
theorem k0_off123_wordsi8 : ∀ (v266 : BitVec 32) (k0_hw8 : k0_chk8 v266) (k0_t16 : Fin k0_t16_loop.trips), (Rect.unit (s := S47x1536x2048) (k0_off123 v266 k0_t16) S1x512x2048.size (k0_off123_inb v266 k0_hw8 k0_t16)).WholeWords (EltTy.packing .i8) := fun v266 k0_hw8 k0_t16 => k0_hw8.2.2.1 k0_t16 (k0_off123_inb v266 k0_hw8 k0_t16)
theorem k0_off147_inb : ∀ (v266 : BitVec 32) (k0_hw8 : k0_chk8 v266), ∀ a, (k0_off147 v266) a + S1x12x4096.size a ≤ S47x12x4096.size a := fun v266 k0_hw8 => k0_hw8.2.2.2.1
theorem k0_off150_inb : ∀ (v266 : BitVec 32) (k0_hw8 : k0_chk8 v266) (k0_t22 : Fin k0_t22_loop.trips), ∀ a, (k0_off150 v266 k0_t22) a + S1x1024x768.size a ≤ S47x4096x768.size a := fun v266 k0_hw8 k0_t22 => k0_hw8.2.2.2.2.1 k0_t22
theorem k0_off150_wordsi8 : ∀ (v266 : BitVec 32) (k0_hw8 : k0_chk8 v266) (k0_t22 : Fin k0_t22_loop.trips), (Rect.unit (s := S47x4096x768) (k0_off150 v266 k0_t22) S1x1024x768.size (k0_off150_inb v266 k0_hw8 k0_t22)).WholeWords (EltTy.packing .i8) := fun v266 k0_hw8 k0_t22 => k0_hw8.2.2.2.2.2 k0_t22 (k0_off150_inb v266 k0_hw8 k0_t22)

@[reducible] def k0_t23_loop : Scf.Loop 32 :=
  let c0_i32_339 : BitVec 32 := 0#32
  let c4_i32_340 : BitVec 32 := 4#32
  let v380 : BitVec 32 := Scalar.addi c0_i32_339 c4_i32_340
  let c1_i32_341 : BitVec 32 := 1#32
  ⟨c0_i32_339, v380, c1_i32_341⟩
def k0_mult25 (k0_t22 : Fin k0_t22_loop.trips) (k0_t23 : Fin k0_t23_loop.trips) : BitVec 32 :=
  let c0_i32_331 : BitVec 32 := 0#32
  let c1_i32_332 : BitVec 32 := 1#32
  let arg38 : BitVec 32 := Scf.iv c0_i32_331 c1_i32_332 k0_t22
  let c1024_i32_344 : BitVec 32 := 1024#32
  let v382 : BitVec 32 := Scalar.muli arg38 c1024_i32_344
  let c0_i32_339 : BitVec 32 := 0#32
  let c1_i32_341 : BitVec 32 := 1#32
  let arg40 : BitVec 32 := Scf.iv c0_i32_339 c1_i32_341 k0_t23
  let c256_i32 : BitVec 32 := 256#32
  let v383 : BitVec 32 := Scalar.muli arg40 c256_i32
  let v384 : BitVec 32 := Scalar.addi v382 v383
  v384
@[reducible] def k0_t24_loop : Scf.Loop 32 :=
  let c0_i32_346 : BitVec 32 := 0#32
  let c6_i32 : BitVec 32 := 6#32
  let v387 : BitVec 32 := Scalar.addi c0_i32_346 c6_i32
  let c1_i32_347 : BitVec 32 := 1#32
  ⟨c0_i32_346, v387, c1_i32_347⟩
def k0_mult26 (k0_t24 : Fin k0_t24_loop.trips) : BitVec 32 :=
  let c0_i32_346 : BitVec 32 := 0#32
  let c1_i32_347 : BitVec 32 := 1#32
  let arg42 : BitVec 32 := Scf.iv c0_i32_346 c1_i32_347 k0_t24
  let c128_i32 : BitVec 32 := 128#32
  let v399 : BitVec 32 := Scalar.muli arg42 c128_i32
  v399
def k0_off151 (v81 : BitVec 32) (k0_t15 : Fin (k0_t15_loop v81).trips) (k0_t22 : Fin k0_t22_loop.trips) (k0_t23 : Fin k0_t23_loop.trips) (k0_t24 : Fin k0_t24_loop.trips) : Fin 3 → Nat :=
  let c0_i32_192 : BitVec 32 := 0#32
  let v200 : BitVec 32 := Scalar.subi v81 c0_i32_192
  let c1_i32_194 : BitVec 32 := 1#32
  let v202 : BitVec 32 := Scalar.divsi v200 c1_i32_194
  let v203 : BitVec 32 := Scalar.muli v202 c1_i32_194
  let v204 : BitVec 32 := Scalar.addi c0_i32_192 v203
  let c1_i32_196 : BitVec 32 := 1#32
  let arg36 : BitVec 32 := Scf.iv v204 c1_i32_196 k0_t15
  let c2_i32_256 : BitVec 32 := 2#32
  let v264 : BitVec 32 := Scalar.remsi arg36 c2_i32_256
  let v401 : Index := Scalar.indexCast v264
  let c0_i32_331 : BitVec 32 := 0#32
  let c1_i32_332 : BitVec 32 := 1#32
  let arg38 : BitVec 32 := Scf.iv c0_i32_331 c1_i32_332 k0_t22
  let c1024_i32_344 : BitVec 32 := 1024#32
  let v382 : BitVec 32 := Scalar.muli arg38 c1024_i32_344
  let c0_i32_339 : BitVec 32 := 0#32
  let c1_i32_341 : BitVec 32 := 1#32
  let arg40 : BitVec 32 := Scf.iv c0_i32_339 c1_i32_341 k0_t23
  let c256_i32 : BitVec 32 := 256#32
  let v383 : BitVec 32 := Scalar.muli arg40 c256_i32
  let v384 : BitVec 32 := Scalar.addi v382 v383
  let v385 : BitVec 32 := v384
  let v402 : Index := Scalar.indexCast v385
  let c0_i32_346 : BitVec 32 := 0#32
  let c1_i32_347 : BitVec 32 := 1#32
  let arg42 : BitVec 32 := Scf.iv c0_i32_346 c1_i32_347 k0_t24
  let c128_i32 : BitVec 32 := 128#32
  let v399 : BitVec 32 := Scalar.muli arg42 c128_i32
  let v400 : BitVec 32 := v399
  let v403 : Index := Scalar.indexCast v400
  ![v401.toNat, v402.toNat, v403.toNat]
def k0_off152 (v81 : BitVec 32) (k0_t15 : Fin (k0_t15_loop v81).trips) (k0_t22 : Fin k0_t22_loop.trips) (k0_t23 : Fin k0_t23_loop.trips) (k0_t24 : Fin k0_t24_loop.trips) (c0_i32_355 : BitVec 32) : Fin 3 → Nat :=
  let c0_i32_192 : BitVec 32 := 0#32
  let v200 : BitVec 32 := Scalar.subi v81 c0_i32_192
  let c1_i32_194 : BitVec 32 := 1#32
  let v202 : BitVec 32 := Scalar.divsi v200 c1_i32_194
  let v203 : BitVec 32 := Scalar.muli v202 c1_i32_194
  let v204 : BitVec 32 := Scalar.addi c0_i32_192 v203
  let c1_i32_196 : BitVec 32 := 1#32
  let arg36 : BitVec 32 := Scf.iv v204 c1_i32_196 k0_t15
  let c2_i32_256 : BitVec 32 := 2#32
  let v264 : BitVec 32 := Scalar.remsi arg36 c2_i32_256
  let v423 : Index := Scalar.indexCast v264
  let c2_i32_352 : BitVec 32 := 2#32
  let c0_i32_346 : BitVec 32 := 0#32
  let c1_i32_347 : BitVec 32 := 1#32
  let arg42 : BitVec 32 := Scf.iv c0_i32_346 c1_i32_347 k0_t24
  let v406 : BitVec 32 := Scalar.muli c2_i32_352 arg42
  let v422 : BitVec 32 := Scalar.addi v406 c0_i32_355
  let v424 : Index := Scalar.indexCast v422
  let c0_i32_331 : BitVec 32 := 0#32
  let c1_i32_332 : BitVec 32 := 1#32
  let arg38 : BitVec 32 := Scf.iv c0_i32_331 c1_i32_332 k0_t22
  let c1024_i32_344 : BitVec 32 := 1024#32
  let v382 : BitVec 32 := Scalar.muli arg38 c1024_i32_344
  let c0_i32_339 : BitVec 32 := 0#32
  let c1_i32_341 : BitVec 32 := 1#32
  let arg40 : BitVec 32 := Scf.iv c0_i32_339 c1_i32_341 k0_t23
  let c256_i32 : BitVec 32 := 256#32
  let v383 : BitVec 32 := Scalar.muli arg40 c256_i32
  let v384 : BitVec 32 := Scalar.addi v382 v383
  let v385 : BitVec 32 := v384
  let v425 : Index := Scalar.indexCast v385
  ![v423.toNat, v424.toNat, v425.toNat]

def k0_chk4_0 (v81 : BitVec 32) : Prop :=
  ((k0_t5_loop v81).OK) ∧
  (∀ k0_t5 : Fin (k0_t5_loop v81).trips, ∀ a, (k0_off19 v81 k0_t5) a + S1.size a ≤ S64.size a) ∧
  (∀ k0_t5 : Fin (k0_t5_loop v81).trips, ∀ (k0_h1 : k0_cond1 v81 k0_t5 = 1#1), ∀ a, (k0_off20 v81 k0_t5) a + S1.size a ≤ S64.size a) ∧
  (∀ k0_t5 : Fin (k0_t5_loop v81).trips, ∀ (k0_h1 : k0_cond1 v81 k0_t5 = 1#1), ∀ a, (k0_off21 v81 k0_t5) a + S1x1.size a ≤ S2x3.size a) ∧
  (∀ k0_t5 : Fin (k0_t5_loop v81).trips, ∀ (k0_h1 : k0_cond1 v81 k0_t5 = 1#1), ∀ a, (k0_off22 v81 k0_t5) a + S1x32x1536.size a ≤ S2x32x1536.size a) ∧
  (∀ k0_t5 : Fin (k0_t5_loop v81).trips, ∀ (k0_h1 : k0_cond1 v81 k0_t5 = 1#1), ∀ a, (k0_off24 v81 k0_t5) a + S1x1.size a ≤ S2x3.size a) ∧
  (∀ k0_t5 : Fin (k0_t5_loop v81).trips, ∀ (k0_h1 : k0_cond1 v81 k0_t5 = 1#1), ∀ a, (k0_off25 v81 k0_t5) a + S1x32x1536.size a ≤ S2x32x1536.size a) ∧
  (∀ k0_t5 : Fin (k0_t5_loop v81).trips, ∀ (k0_h1 : k0_cond1 v81 k0_t5 = 1#1), ∀ a, (k0_off26 v81 k0_t5) a + S1x1.size a ≤ S2x3.size a) ∧
  (∀ k0_t5 : Fin (k0_t5_loop v81).trips, ∀ (k0_h1 : k0_cond1 v81 k0_t5 = 1#1), ∀ a, (k0_off27 v81 k0_t5) a + S1x512x2048.size a ≤ S2x1536x2048.size a) ∧
  (∀ k0_t5 : Fin (k0_t5_loop v81).trips, ∀ (k0_h1 : k0_cond1 v81 k0_t5 = 1#1), ∀ (hinb : ∀ a, (k0_off27 v81 k0_t5) a + S1x512x2048.size a ≤ S2x1536x2048.size a), (Rect.unit (s := S2x1536x2048) (k0_off27 v81 k0_t5) S1x512x2048.size hinb).WholeWords (EltTy.packing .i8)) ∧
  (∀ k0_t5 : Fin (k0_t5_loop v81).trips, ∀ (k0_h1 : k0_cond1 v81 k0_t5 = 1#1), ∀ a, (k0_off29 v81 k0_t5) a + S1x512x2048.size a ≤ S2x1536x2048.size a) ∧
  (∀ k0_t5 : Fin (k0_t5_loop v81).trips, ∀ (k0_h1 : k0_cond1 v81 k0_t5 = 1#1), ∀ (hinb : ∀ a, (k0_off29 v81 k0_t5) a + S1x512x2048.size a ≤ S2x1536x2048.size a), (Rect.unit (s := S2x1536x2048) (k0_off29 v81 k0_t5) S1x512x2048.size hinb).WholeWords (EltTy.packing .i8)) ∧
  (∀ k0_t5 : Fin (k0_t5_loop v81).trips, ∀ (k0_h1 : k0_cond1 v81 k0_t5 = 1#1), ∀ a, (k0_off31 v81 k0_t5) a + S1x1.size a ≤ S2x3.size a) ∧
  (∀ k0_t5 : Fin (k0_t5_loop v81).trips, ∀ (k0_h1 : k0_cond1 v81 k0_t5 = 1#1), ∀ a, (k0_off32 v81 k0_t5) a + S1x512x2048.size a ≤ S2x1536x2048.size a) ∧
  (∀ k0_t5 : Fin (k0_t5_loop v81).trips, ∀ (k0_h1 : k0_cond1 v81 k0_t5 = 1#1), ∀ (hinb : ∀ a, (k0_off32 v81 k0_t5) a + S1x512x2048.size a ≤ S2x1536x2048.size a), (Rect.unit (s := S2x1536x2048) (k0_off32 v81 k0_t5) S1x512x2048.size hinb).WholeWords (EltTy.packing .i8)) ∧
  (∀ k0_t5 : Fin (k0_t5_loop v81).trips, ∀ (k0_h1 : k0_cond1 v81 k0_t5 = 1#1), ∀ a, (k0_off34 v81 k0_t5) a + S1x12x4096.size a ≤ S2x12x4096.size a) ∧
  (∀ k0_t5 : Fin (k0_t5_loop v81).trips, ∀ (k0_h1 : k0_cond1 v81 k0_t5 = 1#1), ∀ a, (k0_off36 v81 k0_t5) a + S1x1.size a ≤ S2x4.size a) ∧
  (∀ k0_t5 : Fin (k0_t5_loop v81).trips, ∀ (k0_h1 : k0_cond1 v81 k0_t5 = 1#1), ∀ a, (k0_off37 v81 k0_t5) a + S1x1024x768.size a ≤ S2x4096x768.size a) ∧
  (∀ k0_t5 : Fin (k0_t5_loop v81).trips, ∀ (k0_h1 : k0_cond1 v81 k0_t5 = 1#1), ∀ (hinb : ∀ a, (k0_off37 v81 k0_t5) a + S1x1024x768.size a ≤ S2x4096x768.size a), (Rect.unit (s := S2x4096x768) (k0_off37 v81 k0_t5) S1x1024x768.size hinb).WholeWords (EltTy.packing .i8)) ∧
  (∀ k0_t5 : Fin (k0_t5_loop v81).trips, ∀ (k0_h1 : k0_cond1 v81 k0_t5 = 1#1), ∀ a, (k0_off39 v81 k0_t5) a + S1x1.size a ≤ S2x4.size a) ∧
  (∀ k0_t5 : Fin (k0_t5_loop v81).trips, ∀ (k0_h1 : k0_cond1 v81 k0_t5 = 1#1), ∀ a, (k0_off40 v81 k0_t5) a + S1x1024x768.size a ≤ S2x4096x768.size a) ∧
  (∀ k0_t5 : Fin (k0_t5_loop v81).trips, ∀ (k0_h1 : k0_cond1 v81 k0_t5 = 1#1), ∀ (hinb : ∀ a, (k0_off40 v81 k0_t5) a + S1x1024x768.size a ≤ S2x4096x768.size a), (Rect.unit (s := S2x4096x768) (k0_off40 v81 k0_t5) S1x1024x768.size hinb).WholeWords (EltTy.packing .i8)) ∧
  (∀ k0_t5 : Fin (k0_t5_loop v81).trips, ∀ (k0_h1 : k0_cond1 v81 k0_t5 = 1#1), ∀ a, (k0_off42 v81 k0_t5) a + S1x1.size a ≤ S2x4.size a) ∧
  (∀ k0_t5 : Fin (k0_t5_loop v81).trips, ∀ (k0_h1 : k0_cond1 v81 k0_t5 = 1#1), ∀ a, (k0_off43 v81 k0_t5) a + S1x1024x768.size a ≤ S2x4096x768.size a) ∧
  (∀ k0_t5 : Fin (k0_t5_loop v81).trips, ∀ (k0_h1 : k0_cond1 v81 k0_t5 = 1#1), ∀ (hinb : ∀ a, (k0_off43 v81 k0_t5) a + S1x1024x768.size a ≤ S2x4096x768.size a), (Rect.unit (s := S2x4096x768) (k0_off43 v81 k0_t5) S1x1024x768.size hinb).WholeWords (EltTy.packing .i8)) ∧
  (∀ k0_t5 : Fin (k0_t5_loop v81).trips, ∀ (k0_h1 : k0_cond1 v81 k0_t5 = 1#1), ∀ a, (k0_off45 v81 k0_t5) a + S1x1.size a ≤ S2x4.size a) ∧
  (∀ k0_t5 : Fin (k0_t5_loop v81).trips, ∀ (k0_h1 : k0_cond1 v81 k0_t5 = 1#1), ∀ a, (k0_off46 v81 k0_t5) a + S1x1024x768.size a ≤ S2x4096x768.size a) ∧
  (∀ k0_t5 : Fin (k0_t5_loop v81).trips, ∀ (k0_h1 : k0_cond1 v81 k0_t5 = 1#1), ∀ (hinb : ∀ a, (k0_off46 v81 k0_t5) a + S1x1024x768.size a ≤ S2x4096x768.size a), (Rect.unit (s := S2x4096x768) (k0_off46 v81 k0_t5) S1x1024x768.size hinb).WholeWords (EltTy.packing .i8)) ∧
  (∀ k0_t5 : Fin (k0_t5_loop v81).trips, ∀ a, (k0_off48 v81 k0_t5) a + S1x1.size a ≤ S2x3.size a) ∧
  (∀ k0_t5 : Fin (k0_t5_loop v81).trips, ∀ a, (k0_off49 v81 k0_t5) a + S1x32x1536.size a ≤ S2x32x1536.size a) ∧
  (∀ k0_t5 : Fin (k0_t5_loop v81).trips, ∀ a, (k0_off51 v81 k0_t5) a + S1x1.size a ≤ S2x3.size a) ∧
  (∀ k0_t5 : Fin (k0_t5_loop v81).trips, ∀ a, (k0_off52 v81 k0_t5) a + S1x32x1536.size a ≤ S2x32x1536.size a)
def k0_chk4_1 (v81 : BitVec 32) : Prop :=
  (∀ (k0_t5 : Fin (k0_t5_loop v81).trips) (k0_t6 : Fin k0_t6_loop.trips), ∀ a, (k0_off53 v81 k0_t5 k0_t6) a + S1x1.size a ≤ S2x3.size a) ∧
  (∀ (k0_t5 : Fin (k0_t5_loop v81).trips) (k0_t6 : Fin k0_t6_loop.trips), ∀ a, (k0_off54 v81 k0_t5 k0_t6) a + S1x512x2048.size a ≤ S2x1536x2048.size a) ∧
  (∀ (k0_t5 : Fin (k0_t5_loop v81).trips) (k0_t6 : Fin k0_t6_loop.trips), ∀ (hinb : ∀ a, (k0_off54 v81 k0_t5 k0_t6) a + S1x512x2048.size a ≤ S2x1536x2048.size a), (Rect.unit (s := S2x1536x2048) (k0_off54 v81 k0_t5 k0_t6) S1x512x2048.size hinb).WholeWords (EltTy.packing .i8)) ∧
  (∀ (k0_t5 : Fin (k0_t5_loop v81).trips) (k0_t6 : Fin k0_t6_loop.trips) (k0_t7 : Fin k0_t7_loop.trips) (k0_t8 : Fin k0_t8_loop.trips), ∀ a, (k0_off56 v81 k0_t5 k0_t6 k0_t7 k0_t8) a + S1x256x128.size a ≤ S2x1536x2048.size a) ∧
  (∀ (k0_t5 : Fin (k0_t5_loop v81).trips) (k0_t6 : Fin k0_t6_loop.trips) (k0_t7 : Fin k0_t7_loop.trips) (k0_t8 : Fin k0_t8_loop.trips), ∀ (r : Fin 2), ∀ a, (k0_off57 v81 k0_t5 k0_t6 k0_t7 k0_t8 (BitVec.ofNat 32 r.val)) a + S1x1x256.size a ≤ S2x32x1536.size a) ∧
  (∀ (k0_t5 : Fin (k0_t5_loop v81).trips) (k0_t6 : Fin k0_t6_loop.trips) (k0_t7 : Fin k0_t7_loop.trips) (k0_t9 : Fin k0_t9_loop.trips), ∀ a, (k0_off59 v81 k0_t5 k0_t6 k0_t7 k0_t9) a + S1x256x128.size a ≤ S2x1536x2048.size a) ∧
  (∀ (k0_t5 : Fin (k0_t5_loop v81).trips) (k0_t6 : Fin k0_t6_loop.trips) (k0_t7 : Fin k0_t7_loop.trips) (k0_t9 : Fin k0_t9_loop.trips), ∀ (r : Fin 2), ∀ a, (k0_off60 v81 k0_t5 k0_t6 k0_t7 k0_t9 (BitVec.ofNat 32 r.val)) a + S1x1x256.size a ≤ S2x32x1536.size a) ∧
  (∀ k0_t5 : Fin (k0_t5_loop v81).trips, ∀ a, (k0_off77 v81 k0_t5) a + S1x1.size a ≤ S2x3.size a) ∧
  (∀ k0_t5 : Fin (k0_t5_loop v81).trips, ∀ a, (k0_off78 v81 k0_t5) a + S1x12x4096.size a ≤ S2x12x4096.size a) ∧
  (∀ (k0_t5 : Fin (k0_t5_loop v81).trips) (k0_t12 : Fin k0_t12_loop.trips), ∀ a, (k0_off80 v81 k0_t5 k0_t12) a + S1x1.size a ≤ S2x4.size a) ∧
  (∀ (k0_t5 : Fin (k0_t5_loop v81).trips) (k0_t12 : Fin k0_t12_loop.trips), ∀ a, (k0_off81 v81 k0_t5 k0_t12) a + S1x1024x768.size a ≤ S2x4096x768.size a) ∧
  (∀ (k0_t5 : Fin (k0_t5_loop v81).trips) (k0_t12 : Fin k0_t12_loop.trips), ∀ (hinb : ∀ a, (k0_off81 v81 k0_t5 k0_t12) a + S1x1024x768.size a ≤ S2x4096x768.size a), (Rect.unit (s := S2x4096x768) (k0_off81 v81 k0_t5 k0_t12) S1x1024x768.size hinb).WholeWords (EltTy.packing .i8)) ∧
  (∀ (k0_t5 : Fin (k0_t5_loop v81).trips) (k0_t12 : Fin k0_t12_loop.trips) (k0_t13 : Fin k0_t13_loop.trips) (k0_t14 : Fin k0_t14_loop.trips), ∀ a, (k0_off83 v81 k0_t5 k0_t12 k0_t13 k0_t14) a + S1x256x128.size a ≤ S2x4096x768.size a) ∧
  (∀ (k0_t5 : Fin (k0_t5_loop v81).trips) (k0_t12 : Fin k0_t12_loop.trips) (k0_t13 : Fin k0_t13_loop.trips) (k0_t14 : Fin k0_t14_loop.trips), ∀ (r : Fin 2), ∀ a, (k0_off84 v81 k0_t5 k0_t12 k0_t13 k0_t14 (BitVec.ofNat 32 r.val)) a + S1x1x256.size a ≤ S2x12x4096.size a) ∧
  ((k0_t15_loop v81).OK) ∧
  (∀ k0_t15 : Fin (k0_t15_loop v81).trips, ∀ a, (k0_off87 v81 k0_t15) a + S1.size a ≤ S64.size a) ∧
  (∀ k0_t15 : Fin (k0_t15_loop v81).trips, ∀ (k0_h2 : k0_cond2 v81 k0_t15 = 1#1), ∀ a, (k0_off88 v81 k0_t15) a + S1.size a ≤ S64.size a) ∧
  (∀ k0_t15 : Fin (k0_t15_loop v81).trips, ∀ (k0_h2 : k0_cond2 v81 k0_t15 = 1#1), ∀ a, (k0_off89 v81 k0_t15) a + S1x1.size a ≤ S2x3.size a) ∧
  (∀ k0_t15 : Fin (k0_t15_loop v81).trips, ∀ (k0_h2 : k0_cond2 v81 k0_t15 = 1#1), ∀ a, (k0_off90 v81 k0_t15) a + S1x32x1536.size a ≤ S2x32x1536.size a) ∧
  (∀ k0_t15 : Fin (k0_t15_loop v81).trips, ∀ (k0_h2 : k0_cond2 v81 k0_t15 = 1#1), ∀ a, (k0_off92 v81 k0_t15) a + S1x1.size a ≤ S2x3.size a) ∧
  (∀ k0_t15 : Fin (k0_t15_loop v81).trips, ∀ (k0_h2 : k0_cond2 v81 k0_t15 = 1#1), ∀ a, (k0_off93 v81 k0_t15) a + S1x32x1536.size a ≤ S2x32x1536.size a) ∧
  (∀ k0_t15 : Fin (k0_t15_loop v81).trips, ∀ (k0_h2 : k0_cond2 v81 k0_t15 = 1#1), ∀ a, (k0_off94 v81 k0_t15) a + S1x1.size a ≤ S2x3.size a) ∧
  (∀ k0_t15 : Fin (k0_t15_loop v81).trips, ∀ (k0_h2 : k0_cond2 v81 k0_t15 = 1#1), ∀ a, (k0_off95 v81 k0_t15) a + S1x512x2048.size a ≤ S2x1536x2048.size a) ∧
  (∀ k0_t15 : Fin (k0_t15_loop v81).trips, ∀ (k0_h2 : k0_cond2 v81 k0_t15 = 1#1), ∀ (hinb : ∀ a, (k0_off95 v81 k0_t15) a + S1x512x2048.size a ≤ S2x1536x2048.size a), (Rect.unit (s := S2x1536x2048) (k0_off95 v81 k0_t15) S1x512x2048.size hinb).WholeWords (EltTy.packing .i8)) ∧
  (∀ k0_t15 : Fin (k0_t15_loop v81).trips, ∀ (k0_h2 : k0_cond2 v81 k0_t15 = 1#1), ∀ a, (k0_off97 v81 k0_t15) a + S1x512x2048.size a ≤ S2x1536x2048.size a) ∧
  (∀ k0_t15 : Fin (k0_t15_loop v81).trips, ∀ (k0_h2 : k0_cond2 v81 k0_t15 = 1#1), ∀ (hinb : ∀ a, (k0_off97 v81 k0_t15) a + S1x512x2048.size a ≤ S2x1536x2048.size a), (Rect.unit (s := S2x1536x2048) (k0_off97 v81 k0_t15) S1x512x2048.size hinb).WholeWords (EltTy.packing .i8)) ∧
  (∀ k0_t15 : Fin (k0_t15_loop v81).trips, ∀ (k0_h2 : k0_cond2 v81 k0_t15 = 1#1), ∀ a, (k0_off99 v81 k0_t15) a + S1x1.size a ≤ S2x3.size a) ∧
  (∀ k0_t15 : Fin (k0_t15_loop v81).trips, ∀ (k0_h2 : k0_cond2 v81 k0_t15 = 1#1), ∀ a, (k0_off100 v81 k0_t15) a + S1x512x2048.size a ≤ S2x1536x2048.size a) ∧
  (∀ k0_t15 : Fin (k0_t15_loop v81).trips, ∀ (k0_h2 : k0_cond2 v81 k0_t15 = 1#1), ∀ (hinb : ∀ a, (k0_off100 v81 k0_t15) a + S1x512x2048.size a ≤ S2x1536x2048.size a), (Rect.unit (s := S2x1536x2048) (k0_off100 v81 k0_t15) S1x512x2048.size hinb).WholeWords (EltTy.packing .i8)) ∧
  (∀ k0_t15 : Fin (k0_t15_loop v81).trips, ∀ (k0_h2 : k0_cond2 v81 k0_t15 = 1#1), ∀ a, (k0_off102 v81 k0_t15) a + S1x12x4096.size a ≤ S2x12x4096.size a) ∧
  (∀ k0_t15 : Fin (k0_t15_loop v81).trips, ∀ (k0_h2 : k0_cond2 v81 k0_t15 = 1#1), ∀ a, (k0_off104 v81 k0_t15) a + S1x1.size a ≤ S2x4.size a) ∧
  (∀ k0_t15 : Fin (k0_t15_loop v81).trips, ∀ (k0_h2 : k0_cond2 v81 k0_t15 = 1#1), ∀ a, (k0_off105 v81 k0_t15) a + S1x1024x768.size a ≤ S2x4096x768.size a)
def k0_chk4_2 (v81 : BitVec 32) : Prop :=
  (∀ k0_t15 : Fin (k0_t15_loop v81).trips, ∀ (k0_h2 : k0_cond2 v81 k0_t15 = 1#1), ∀ (hinb : ∀ a, (k0_off105 v81 k0_t15) a + S1x1024x768.size a ≤ S2x4096x768.size a), (Rect.unit (s := S2x4096x768) (k0_off105 v81 k0_t15) S1x1024x768.size hinb).WholeWords (EltTy.packing .i8)) ∧
  (∀ k0_t15 : Fin (k0_t15_loop v81).trips, ∀ (k0_h2 : k0_cond2 v81 k0_t15 = 1#1), ∀ a, (k0_off107 v81 k0_t15) a + S1x1.size a ≤ S2x4.size a) ∧
  (∀ k0_t15 : Fin (k0_t15_loop v81).trips, ∀ (k0_h2 : k0_cond2 v81 k0_t15 = 1#1), ∀ a, (k0_off108 v81 k0_t15) a + S1x1024x768.size a ≤ S2x4096x768.size a) ∧
  (∀ k0_t15 : Fin (k0_t15_loop v81).trips, ∀ (k0_h2 : k0_cond2 v81 k0_t15 = 1#1), ∀ (hinb : ∀ a, (k0_off108 v81 k0_t15) a + S1x1024x768.size a ≤ S2x4096x768.size a), (Rect.unit (s := S2x4096x768) (k0_off108 v81 k0_t15) S1x1024x768.size hinb).WholeWords (EltTy.packing .i8)) ∧
  (∀ k0_t15 : Fin (k0_t15_loop v81).trips, ∀ (k0_h2 : k0_cond2 v81 k0_t15 = 1#1), ∀ a, (k0_off110 v81 k0_t15) a + S1x1.size a ≤ S2x4.size a) ∧
  (∀ k0_t15 : Fin (k0_t15_loop v81).trips, ∀ (k0_h2 : k0_cond2 v81 k0_t15 = 1#1), ∀ a, (k0_off111 v81 k0_t15) a + S1x1024x768.size a ≤ S2x4096x768.size a) ∧
  (∀ k0_t15 : Fin (k0_t15_loop v81).trips, ∀ (k0_h2 : k0_cond2 v81 k0_t15 = 1#1), ∀ (hinb : ∀ a, (k0_off111 v81 k0_t15) a + S1x1024x768.size a ≤ S2x4096x768.size a), (Rect.unit (s := S2x4096x768) (k0_off111 v81 k0_t15) S1x1024x768.size hinb).WholeWords (EltTy.packing .i8)) ∧
  (∀ k0_t15 : Fin (k0_t15_loop v81).trips, ∀ (k0_h2 : k0_cond2 v81 k0_t15 = 1#1), ∀ a, (k0_off113 v81 k0_t15) a + S1x1.size a ≤ S2x4.size a) ∧
  (∀ k0_t15 : Fin (k0_t15_loop v81).trips, ∀ (k0_h2 : k0_cond2 v81 k0_t15 = 1#1), ∀ a, (k0_off114 v81 k0_t15) a + S1x1024x768.size a ≤ S2x4096x768.size a) ∧
  (∀ k0_t15 : Fin (k0_t15_loop v81).trips, ∀ (k0_h2 : k0_cond2 v81 k0_t15 = 1#1), ∀ (hinb : ∀ a, (k0_off114 v81 k0_t15) a + S1x1024x768.size a ≤ S2x4096x768.size a), (Rect.unit (s := S2x4096x768) (k0_off114 v81 k0_t15) S1x1024x768.size hinb).WholeWords (EltTy.packing .i8)) ∧
  (∀ k0_t15 : Fin (k0_t15_loop v81).trips, ∀ a, (k0_off116 v81 k0_t15) a + S1x1.size a ≤ S2x3.size a) ∧
  (∀ k0_t15 : Fin (k0_t15_loop v81).trips, ∀ a, (k0_off117 v81 k0_t15) a + S1x32x1536.size a ≤ S2x32x1536.size a) ∧
  (∀ k0_t15 : Fin (k0_t15_loop v81).trips, ∀ a, (k0_off119 v81 k0_t15) a + S1x1.size a ≤ S2x3.size a) ∧
  (∀ k0_t15 : Fin (k0_t15_loop v81).trips, ∀ a, (k0_off120 v81 k0_t15) a + S1x32x1536.size a ≤ S2x32x1536.size a) ∧
  (∀ (k0_t15 : Fin (k0_t15_loop v81).trips) (k0_t16 : Fin k0_t16_loop.trips), ∀ a, (k0_off121 v81 k0_t15 k0_t16) a + S1x1.size a ≤ S2x3.size a) ∧
  (∀ (k0_t15 : Fin (k0_t15_loop v81).trips) (k0_t16 : Fin k0_t16_loop.trips), ∀ a, (k0_off122 v81 k0_t15 k0_t16) a + S1x512x2048.size a ≤ S2x1536x2048.size a) ∧
  (∀ (k0_t15 : Fin (k0_t15_loop v81).trips) (k0_t16 : Fin k0_t16_loop.trips), ∀ (hinb : ∀ a, (k0_off122 v81 k0_t15 k0_t16) a + S1x512x2048.size a ≤ S2x1536x2048.size a), (Rect.unit (s := S2x1536x2048) (k0_off122 v81 k0_t15 k0_t16) S1x512x2048.size hinb).WholeWords (EltTy.packing .i8)) ∧
  (∀ (k0_t15 : Fin (k0_t15_loop v81).trips) (k0_t16 : Fin k0_t16_loop.trips) (k0_t17 : Fin k0_t17_loop.trips) (k0_t18 : Fin k0_t18_loop.trips), ∀ a, (k0_off124 v81 k0_t15 k0_t16 k0_t17 k0_t18) a + S1x256x128.size a ≤ S2x1536x2048.size a) ∧
  (∀ (k0_t15 : Fin (k0_t15_loop v81).trips) (k0_t16 : Fin k0_t16_loop.trips) (k0_t17 : Fin k0_t17_loop.trips) (k0_t18 : Fin k0_t18_loop.trips), ∀ (r : Fin 2), ∀ a, (k0_off125 v81 k0_t15 k0_t16 k0_t17 k0_t18 (BitVec.ofNat 32 r.val)) a + S1x1x256.size a ≤ S2x32x1536.size a) ∧
  (∀ (k0_t15 : Fin (k0_t15_loop v81).trips) (k0_t16 : Fin k0_t16_loop.trips) (k0_t17 : Fin k0_t17_loop.trips) (k0_t19 : Fin k0_t19_loop.trips), ∀ a, (k0_off127 v81 k0_t15 k0_t16 k0_t17 k0_t19) a + S1x256x128.size a ≤ S2x1536x2048.size a) ∧
  (∀ (k0_t15 : Fin (k0_t15_loop v81).trips) (k0_t16 : Fin k0_t16_loop.trips) (k0_t17 : Fin k0_t17_loop.trips) (k0_t19 : Fin k0_t19_loop.trips), ∀ (r : Fin 2), ∀ a, (k0_off128 v81 k0_t15 k0_t16 k0_t17 k0_t19 (BitVec.ofNat 32 r.val)) a + S1x1x256.size a ≤ S2x32x1536.size a) ∧
  (∀ k0_t15 : Fin (k0_t15_loop v81).trips, ∀ a, (k0_off145 v81 k0_t15) a + S1x1.size a ≤ S2x3.size a) ∧
  (∀ k0_t15 : Fin (k0_t15_loop v81).trips, ∀ a, (k0_off146 v81 k0_t15) a + S1x12x4096.size a ≤ S2x12x4096.size a) ∧
  (∀ (k0_t15 : Fin (k0_t15_loop v81).trips) (k0_t22 : Fin k0_t22_loop.trips), ∀ a, (k0_off148 v81 k0_t15 k0_t22) a + S1x1.size a ≤ S2x4.size a) ∧
  (∀ (k0_t15 : Fin (k0_t15_loop v81).trips) (k0_t22 : Fin k0_t22_loop.trips), ∀ a, (k0_off149 v81 k0_t15 k0_t22) a + S1x1024x768.size a ≤ S2x4096x768.size a) ∧
  (∀ (k0_t15 : Fin (k0_t15_loop v81).trips) (k0_t22 : Fin k0_t22_loop.trips), ∀ (hinb : ∀ a, (k0_off149 v81 k0_t15 k0_t22) a + S1x1024x768.size a ≤ S2x4096x768.size a), (Rect.unit (s := S2x4096x768) (k0_off149 v81 k0_t15 k0_t22) S1x1024x768.size hinb).WholeWords (EltTy.packing .i8)) ∧
  (∀ (k0_t15 : Fin (k0_t15_loop v81).trips) (k0_t22 : Fin k0_t22_loop.trips) (k0_t23 : Fin k0_t23_loop.trips) (k0_t24 : Fin k0_t24_loop.trips), ∀ a, (k0_off151 v81 k0_t15 k0_t22 k0_t23 k0_t24) a + S1x256x128.size a ≤ S2x4096x768.size a) ∧
  (∀ (k0_t15 : Fin (k0_t15_loop v81).trips) (k0_t22 : Fin k0_t22_loop.trips) (k0_t23 : Fin k0_t23_loop.trips) (k0_t24 : Fin k0_t24_loop.trips), ∀ (r : Fin 2), ∀ a, (k0_off152 v81 k0_t15 k0_t22 k0_t23 k0_t24 (BitVec.ofNat 32 r.val)) a + S1x1x256.size a ≤ S2x12x4096.size a)
def k0_chk4 (v81 : BitVec 32) : Prop :=
  k0_chk4_0 v81 ∧
  k0_chk4_1 v81 ∧
  k0_chk4_2 v81
theorem k0_t5_ok : ∀ (v81 : BitVec 32) (k0_hw4 : k0_chk4 v81), (k0_t5_loop v81).OK := fun v81 k0_hw4 => k0_hw4.1.1
theorem k0_off19_inb : ∀ (v81 : BitVec 32) (k0_hw4 : k0_chk4 v81) (k0_t5 : Fin (k0_t5_loop v81).trips), ∀ a, (k0_off19 v81 k0_t5) a + S1.size a ≤ S64.size a := fun v81 k0_hw4 k0_t5 => k0_hw4.1.2.1 k0_t5
theorem k0_off20_inb : ∀ (v81 : BitVec 32) (k0_hw4 : k0_chk4 v81) (k0_t5 : Fin (k0_t5_loop v81).trips), ∀ (k0_h1 : k0_cond1 v81 k0_t5 = 1#1), ∀ a, (k0_off20 v81 k0_t5) a + S1.size a ≤ S64.size a := fun v81 k0_hw4 k0_t5 k0_h1 => k0_hw4.1.2.2.1 k0_t5 k0_h1
theorem k0_off21_inb : ∀ (v81 : BitVec 32) (k0_hw4 : k0_chk4 v81) (k0_t5 : Fin (k0_t5_loop v81).trips), ∀ (k0_h1 : k0_cond1 v81 k0_t5 = 1#1), ∀ a, (k0_off21 v81 k0_t5) a + S1x1.size a ≤ S2x3.size a := fun v81 k0_hw4 k0_t5 k0_h1 => k0_hw4.1.2.2.2.1 k0_t5 k0_h1
theorem k0_off22_inb : ∀ (v81 : BitVec 32) (k0_hw4 : k0_chk4 v81) (k0_t5 : Fin (k0_t5_loop v81).trips), ∀ (k0_h1 : k0_cond1 v81 k0_t5 = 1#1), ∀ a, (k0_off22 v81 k0_t5) a + S1x32x1536.size a ≤ S2x32x1536.size a := fun v81 k0_hw4 k0_t5 k0_h1 => k0_hw4.1.2.2.2.2.1 k0_t5 k0_h1
theorem k0_off24_inb : ∀ (v81 : BitVec 32) (k0_hw4 : k0_chk4 v81) (k0_t5 : Fin (k0_t5_loop v81).trips), ∀ (k0_h1 : k0_cond1 v81 k0_t5 = 1#1), ∀ a, (k0_off24 v81 k0_t5) a + S1x1.size a ≤ S2x3.size a := fun v81 k0_hw4 k0_t5 k0_h1 => k0_hw4.1.2.2.2.2.2.1 k0_t5 k0_h1
theorem k0_off25_inb : ∀ (v81 : BitVec 32) (k0_hw4 : k0_chk4 v81) (k0_t5 : Fin (k0_t5_loop v81).trips), ∀ (k0_h1 : k0_cond1 v81 k0_t5 = 1#1), ∀ a, (k0_off25 v81 k0_t5) a + S1x32x1536.size a ≤ S2x32x1536.size a := fun v81 k0_hw4 k0_t5 k0_h1 => k0_hw4.1.2.2.2.2.2.2.1 k0_t5 k0_h1
theorem k0_off26_inb : ∀ (v81 : BitVec 32) (k0_hw4 : k0_chk4 v81) (k0_t5 : Fin (k0_t5_loop v81).trips), ∀ (k0_h1 : k0_cond1 v81 k0_t5 = 1#1), ∀ a, (k0_off26 v81 k0_t5) a + S1x1.size a ≤ S2x3.size a := fun v81 k0_hw4 k0_t5 k0_h1 => k0_hw4.1.2.2.2.2.2.2.2.1 k0_t5 k0_h1
theorem k0_off27_inb : ∀ (v81 : BitVec 32) (k0_hw4 : k0_chk4 v81) (k0_t5 : Fin (k0_t5_loop v81).trips), ∀ (k0_h1 : k0_cond1 v81 k0_t5 = 1#1), ∀ a, (k0_off27 v81 k0_t5) a + S1x512x2048.size a ≤ S2x1536x2048.size a := fun v81 k0_hw4 k0_t5 k0_h1 => k0_hw4.1.2.2.2.2.2.2.2.2.1 k0_t5 k0_h1
theorem k0_off27_wordsi8 : ∀ (v81 : BitVec 32) (k0_hw4 : k0_chk4 v81) (k0_t5 : Fin (k0_t5_loop v81).trips), ∀ (k0_h1 : k0_cond1 v81 k0_t5 = 1#1), (Rect.unit (s := S2x1536x2048) (k0_off27 v81 k0_t5) S1x512x2048.size (k0_off27_inb v81 k0_hw4 k0_t5 k0_h1)).WholeWords (EltTy.packing .i8) := fun v81 k0_hw4 k0_t5 k0_h1 => k0_hw4.1.2.2.2.2.2.2.2.2.2.1 k0_t5 k0_h1 (k0_off27_inb v81 k0_hw4 k0_t5 k0_h1)
theorem k0_off29_inb : ∀ (v81 : BitVec 32) (k0_hw4 : k0_chk4 v81) (k0_t5 : Fin (k0_t5_loop v81).trips), ∀ (k0_h1 : k0_cond1 v81 k0_t5 = 1#1), ∀ a, (k0_off29 v81 k0_t5) a + S1x512x2048.size a ≤ S2x1536x2048.size a := fun v81 k0_hw4 k0_t5 k0_h1 => k0_hw4.1.2.2.2.2.2.2.2.2.2.2.1 k0_t5 k0_h1
theorem k0_off29_wordsi8 : ∀ (v81 : BitVec 32) (k0_hw4 : k0_chk4 v81) (k0_t5 : Fin (k0_t5_loop v81).trips), ∀ (k0_h1 : k0_cond1 v81 k0_t5 = 1#1), (Rect.unit (s := S2x1536x2048) (k0_off29 v81 k0_t5) S1x512x2048.size (k0_off29_inb v81 k0_hw4 k0_t5 k0_h1)).WholeWords (EltTy.packing .i8) := fun v81 k0_hw4 k0_t5 k0_h1 => k0_hw4.1.2.2.2.2.2.2.2.2.2.2.2.1 k0_t5 k0_h1 (k0_off29_inb v81 k0_hw4 k0_t5 k0_h1)
theorem k0_off31_inb : ∀ (v81 : BitVec 32) (k0_hw4 : k0_chk4 v81) (k0_t5 : Fin (k0_t5_loop v81).trips), ∀ (k0_h1 : k0_cond1 v81 k0_t5 = 1#1), ∀ a, (k0_off31 v81 k0_t5) a + S1x1.size a ≤ S2x3.size a := fun v81 k0_hw4 k0_t5 k0_h1 => k0_hw4.1.2.2.2.2.2.2.2.2.2.2.2.2.1 k0_t5 k0_h1
theorem k0_off32_inb : ∀ (v81 : BitVec 32) (k0_hw4 : k0_chk4 v81) (k0_t5 : Fin (k0_t5_loop v81).trips), ∀ (k0_h1 : k0_cond1 v81 k0_t5 = 1#1), ∀ a, (k0_off32 v81 k0_t5) a + S1x512x2048.size a ≤ S2x1536x2048.size a := fun v81 k0_hw4 k0_t5 k0_h1 => k0_hw4.1.2.2.2.2.2.2.2.2.2.2.2.2.2.1 k0_t5 k0_h1
theorem k0_off32_wordsi8 : ∀ (v81 : BitVec 32) (k0_hw4 : k0_chk4 v81) (k0_t5 : Fin (k0_t5_loop v81).trips), ∀ (k0_h1 : k0_cond1 v81 k0_t5 = 1#1), (Rect.unit (s := S2x1536x2048) (k0_off32 v81 k0_t5) S1x512x2048.size (k0_off32_inb v81 k0_hw4 k0_t5 k0_h1)).WholeWords (EltTy.packing .i8) := fun v81 k0_hw4 k0_t5 k0_h1 => k0_hw4.1.2.2.2.2.2.2.2.2.2.2.2.2.2.2.1 k0_t5 k0_h1 (k0_off32_inb v81 k0_hw4 k0_t5 k0_h1)
theorem k0_off34_inb : ∀ (v81 : BitVec 32) (k0_hw4 : k0_chk4 v81) (k0_t5 : Fin (k0_t5_loop v81).trips), ∀ (k0_h1 : k0_cond1 v81 k0_t5 = 1#1), ∀ a, (k0_off34 v81 k0_t5) a + S1x12x4096.size a ≤ S2x12x4096.size a := fun v81 k0_hw4 k0_t5 k0_h1 => k0_hw4.1.2.2.2.2.2.2.2.2.2.2.2.2.2.2.2.1 k0_t5 k0_h1
theorem k0_off36_inb : ∀ (v81 : BitVec 32) (k0_hw4 : k0_chk4 v81) (k0_t5 : Fin (k0_t5_loop v81).trips), ∀ (k0_h1 : k0_cond1 v81 k0_t5 = 1#1), ∀ a, (k0_off36 v81 k0_t5) a + S1x1.size a ≤ S2x4.size a := fun v81 k0_hw4 k0_t5 k0_h1 => k0_hw4.1.2.2.2.2.2.2.2.2.2.2.2.2.2.2.2.2.1 k0_t5 k0_h1
theorem k0_off37_inb : ∀ (v81 : BitVec 32) (k0_hw4 : k0_chk4 v81) (k0_t5 : Fin (k0_t5_loop v81).trips), ∀ (k0_h1 : k0_cond1 v81 k0_t5 = 1#1), ∀ a, (k0_off37 v81 k0_t5) a + S1x1024x768.size a ≤ S2x4096x768.size a := fun v81 k0_hw4 k0_t5 k0_h1 => k0_hw4.1.2.2.2.2.2.2.2.2.2.2.2.2.2.2.2.2.2.1 k0_t5 k0_h1
theorem k0_off37_wordsi8 : ∀ (v81 : BitVec 32) (k0_hw4 : k0_chk4 v81) (k0_t5 : Fin (k0_t5_loop v81).trips), ∀ (k0_h1 : k0_cond1 v81 k0_t5 = 1#1), (Rect.unit (s := S2x4096x768) (k0_off37 v81 k0_t5) S1x1024x768.size (k0_off37_inb v81 k0_hw4 k0_t5 k0_h1)).WholeWords (EltTy.packing .i8) := fun v81 k0_hw4 k0_t5 k0_h1 => k0_hw4.1.2.2.2.2.2.2.2.2.2.2.2.2.2.2.2.2.2.2.1 k0_t5 k0_h1 (k0_off37_inb v81 k0_hw4 k0_t5 k0_h1)
theorem k0_off39_inb : ∀ (v81 : BitVec 32) (k0_hw4 : k0_chk4 v81) (k0_t5 : Fin (k0_t5_loop v81).trips), ∀ (k0_h1 : k0_cond1 v81 k0_t5 = 1#1), ∀ a, (k0_off39 v81 k0_t5) a + S1x1.size a ≤ S2x4.size a := fun v81 k0_hw4 k0_t5 k0_h1 => k0_hw4.1.2.2.2.2.2.2.2.2.2.2.2.2.2.2.2.2.2.2.2.1 k0_t5 k0_h1
theorem k0_off40_inb : ∀ (v81 : BitVec 32) (k0_hw4 : k0_chk4 v81) (k0_t5 : Fin (k0_t5_loop v81).trips), ∀ (k0_h1 : k0_cond1 v81 k0_t5 = 1#1), ∀ a, (k0_off40 v81 k0_t5) a + S1x1024x768.size a ≤ S2x4096x768.size a := fun v81 k0_hw4 k0_t5 k0_h1 => k0_hw4.1.2.2.2.2.2.2.2.2.2.2.2.2.2.2.2.2.2.2.2.2.1 k0_t5 k0_h1
theorem k0_off40_wordsi8 : ∀ (v81 : BitVec 32) (k0_hw4 : k0_chk4 v81) (k0_t5 : Fin (k0_t5_loop v81).trips), ∀ (k0_h1 : k0_cond1 v81 k0_t5 = 1#1), (Rect.unit (s := S2x4096x768) (k0_off40 v81 k0_t5) S1x1024x768.size (k0_off40_inb v81 k0_hw4 k0_t5 k0_h1)).WholeWords (EltTy.packing .i8) := fun v81 k0_hw4 k0_t5 k0_h1 => k0_hw4.1.2.2.2.2.2.2.2.2.2.2.2.2.2.2.2.2.2.2.2.2.2.1 k0_t5 k0_h1 (k0_off40_inb v81 k0_hw4 k0_t5 k0_h1)
theorem k0_off42_inb : ∀ (v81 : BitVec 32) (k0_hw4 : k0_chk4 v81) (k0_t5 : Fin (k0_t5_loop v81).trips), ∀ (k0_h1 : k0_cond1 v81 k0_t5 = 1#1), ∀ a, (k0_off42 v81 k0_t5) a + S1x1.size a ≤ S2x4.size a := fun v81 k0_hw4 k0_t5 k0_h1 => k0_hw4.1.2.2.2.2.2.2.2.2.2.2.2.2.2.2.2.2.2.2.2.2.2.2.1 k0_t5 k0_h1
theorem k0_off43_inb : ∀ (v81 : BitVec 32) (k0_hw4 : k0_chk4 v81) (k0_t5 : Fin (k0_t5_loop v81).trips), ∀ (k0_h1 : k0_cond1 v81 k0_t5 = 1#1), ∀ a, (k0_off43 v81 k0_t5) a + S1x1024x768.size a ≤ S2x4096x768.size a := fun v81 k0_hw4 k0_t5 k0_h1 => k0_hw4.1.2.2.2.2.2.2.2.2.2.2.2.2.2.2.2.2.2.2.2.2.2.2.2.1 k0_t5 k0_h1
theorem k0_off43_wordsi8 : ∀ (v81 : BitVec 32) (k0_hw4 : k0_chk4 v81) (k0_t5 : Fin (k0_t5_loop v81).trips), ∀ (k0_h1 : k0_cond1 v81 k0_t5 = 1#1), (Rect.unit (s := S2x4096x768) (k0_off43 v81 k0_t5) S1x1024x768.size (k0_off43_inb v81 k0_hw4 k0_t5 k0_h1)).WholeWords (EltTy.packing .i8) := fun v81 k0_hw4 k0_t5 k0_h1 => k0_hw4.1.2.2.2.2.2.2.2.2.2.2.2.2.2.2.2.2.2.2.2.2.2.2.2.2.1 k0_t5 k0_h1 (k0_off43_inb v81 k0_hw4 k0_t5 k0_h1)
theorem k0_off45_inb : ∀ (v81 : BitVec 32) (k0_hw4 : k0_chk4 v81) (k0_t5 : Fin (k0_t5_loop v81).trips), ∀ (k0_h1 : k0_cond1 v81 k0_t5 = 1#1), ∀ a, (k0_off45 v81 k0_t5) a + S1x1.size a ≤ S2x4.size a := fun v81 k0_hw4 k0_t5 k0_h1 => k0_hw4.1.2.2.2.2.2.2.2.2.2.2.2.2.2.2.2.2.2.2.2.2.2.2.2.2.2.1 k0_t5 k0_h1
theorem k0_off46_inb : ∀ (v81 : BitVec 32) (k0_hw4 : k0_chk4 v81) (k0_t5 : Fin (k0_t5_loop v81).trips), ∀ (k0_h1 : k0_cond1 v81 k0_t5 = 1#1), ∀ a, (k0_off46 v81 k0_t5) a + S1x1024x768.size a ≤ S2x4096x768.size a := fun v81 k0_hw4 k0_t5 k0_h1 => k0_hw4.1.2.2.2.2.2.2.2.2.2.2.2.2.2.2.2.2.2.2.2.2.2.2.2.2.2.2.1 k0_t5 k0_h1
theorem k0_off46_wordsi8 : ∀ (v81 : BitVec 32) (k0_hw4 : k0_chk4 v81) (k0_t5 : Fin (k0_t5_loop v81).trips), ∀ (k0_h1 : k0_cond1 v81 k0_t5 = 1#1), (Rect.unit (s := S2x4096x768) (k0_off46 v81 k0_t5) S1x1024x768.size (k0_off46_inb v81 k0_hw4 k0_t5 k0_h1)).WholeWords (EltTy.packing .i8) := fun v81 k0_hw4 k0_t5 k0_h1 => k0_hw4.1.2.2.2.2.2.2.2.2.2.2.2.2.2.2.2.2.2.2.2.2.2.2.2.2.2.2.2.1 k0_t5 k0_h1 (k0_off46_inb v81 k0_hw4 k0_t5 k0_h1)
theorem k0_off48_inb : ∀ (v81 : BitVec 32) (k0_hw4 : k0_chk4 v81) (k0_t5 : Fin (k0_t5_loop v81).trips), ∀ a, (k0_off48 v81 k0_t5) a + S1x1.size a ≤ S2x3.size a := fun v81 k0_hw4 k0_t5 => k0_hw4.1.2.2.2.2.2.2.2.2.2.2.2.2.2.2.2.2.2.2.2.2.2.2.2.2.2.2.2.2.1 k0_t5
theorem k0_off49_inb : ∀ (v81 : BitVec 32) (k0_hw4 : k0_chk4 v81) (k0_t5 : Fin (k0_t5_loop v81).trips), ∀ a, (k0_off49 v81 k0_t5) a + S1x32x1536.size a ≤ S2x32x1536.size a := fun v81 k0_hw4 k0_t5 => k0_hw4.1.2.2.2.2.2.2.2.2.2.2.2.2.2.2.2.2.2.2.2.2.2.2.2.2.2.2.2.2.2.1 k0_t5
theorem k0_off51_inb : ∀ (v81 : BitVec 32) (k0_hw4 : k0_chk4 v81) (k0_t5 : Fin (k0_t5_loop v81).trips), ∀ a, (k0_off51 v81 k0_t5) a + S1x1.size a ≤ S2x3.size a := fun v81 k0_hw4 k0_t5 => k0_hw4.1.2.2.2.2.2.2.2.2.2.2.2.2.2.2.2.2.2.2.2.2.2.2.2.2.2.2.2.2.2.2.1 k0_t5
theorem k0_off52_inb : ∀ (v81 : BitVec 32) (k0_hw4 : k0_chk4 v81) (k0_t5 : Fin (k0_t5_loop v81).trips), ∀ a, (k0_off52 v81 k0_t5) a + S1x32x1536.size a ≤ S2x32x1536.size a := fun v81 k0_hw4 k0_t5 => k0_hw4.1.2.2.2.2.2.2.2.2.2.2.2.2.2.2.2.2.2.2.2.2.2.2.2.2.2.2.2.2.2.2.2 k0_t5
theorem k0_off53_inb : ∀ (v81 : BitVec 32) (k0_hw4 : k0_chk4 v81) (k0_t5 : Fin (k0_t5_loop v81).trips) (k0_t6 : Fin k0_t6_loop.trips), ∀ a, (k0_off53 v81 k0_t5 k0_t6) a + S1x1.size a ≤ S2x3.size a := fun v81 k0_hw4 k0_t5 k0_t6 => k0_hw4.2.1.1 k0_t5 k0_t6
theorem k0_off54_inb : ∀ (v81 : BitVec 32) (k0_hw4 : k0_chk4 v81) (k0_t5 : Fin (k0_t5_loop v81).trips) (k0_t6 : Fin k0_t6_loop.trips), ∀ a, (k0_off54 v81 k0_t5 k0_t6) a + S1x512x2048.size a ≤ S2x1536x2048.size a := fun v81 k0_hw4 k0_t5 k0_t6 => k0_hw4.2.1.2.1 k0_t5 k0_t6
theorem k0_off54_wordsi8 : ∀ (v81 : BitVec 32) (k0_hw4 : k0_chk4 v81) (k0_t5 : Fin (k0_t5_loop v81).trips) (k0_t6 : Fin k0_t6_loop.trips), (Rect.unit (s := S2x1536x2048) (k0_off54 v81 k0_t5 k0_t6) S1x512x2048.size (k0_off54_inb v81 k0_hw4 k0_t5 k0_t6)).WholeWords (EltTy.packing .i8) := fun v81 k0_hw4 k0_t5 k0_t6 => k0_hw4.2.1.2.2.1 k0_t5 k0_t6 (k0_off54_inb v81 k0_hw4 k0_t5 k0_t6)
theorem k0_off56_inb : ∀ (v81 : BitVec 32) (k0_hw4 : k0_chk4 v81) (k0_t5 : Fin (k0_t5_loop v81).trips) (k0_t6 : Fin k0_t6_loop.trips) (k0_t7 : Fin k0_t7_loop.trips) (k0_t8 : Fin k0_t8_loop.trips), ∀ a, (k0_off56 v81 k0_t5 k0_t6 k0_t7 k0_t8) a + S1x256x128.size a ≤ S2x1536x2048.size a := fun v81 k0_hw4 k0_t5 k0_t6 k0_t7 k0_t8 => k0_hw4.2.1.2.2.2.1 k0_t5 k0_t6 k0_t7 k0_t8
theorem k0_off57_inb : ∀ (v81 : BitVec 32) (k0_hw4 : k0_chk4 v81) (k0_t5 : Fin (k0_t5_loop v81).trips) (k0_t6 : Fin k0_t6_loop.trips) (k0_t7 : Fin k0_t7_loop.trips) (k0_t8 : Fin k0_t8_loop.trips), ∀ (r : Fin 2), ∀ a, (k0_off57 v81 k0_t5 k0_t6 k0_t7 k0_t8 (BitVec.ofNat 32 r.val)) a + S1x1x256.size a ≤ S2x32x1536.size a := fun v81 k0_hw4 k0_t5 k0_t6 k0_t7 k0_t8 r => k0_hw4.2.1.2.2.2.2.1 k0_t5 k0_t6 k0_t7 k0_t8 r
theorem k0_off59_inb : ∀ (v81 : BitVec 32) (k0_hw4 : k0_chk4 v81) (k0_t5 : Fin (k0_t5_loop v81).trips) (k0_t6 : Fin k0_t6_loop.trips) (k0_t7 : Fin k0_t7_loop.trips) (k0_t9 : Fin k0_t9_loop.trips), ∀ a, (k0_off59 v81 k0_t5 k0_t6 k0_t7 k0_t9) a + S1x256x128.size a ≤ S2x1536x2048.size a := fun v81 k0_hw4 k0_t5 k0_t6 k0_t7 k0_t9 => k0_hw4.2.1.2.2.2.2.2.1 k0_t5 k0_t6 k0_t7 k0_t9
theorem k0_off60_inb : ∀ (v81 : BitVec 32) (k0_hw4 : k0_chk4 v81) (k0_t5 : Fin (k0_t5_loop v81).trips) (k0_t6 : Fin k0_t6_loop.trips) (k0_t7 : Fin k0_t7_loop.trips) (k0_t9 : Fin k0_t9_loop.trips), ∀ (r : Fin 2), ∀ a, (k0_off60 v81 k0_t5 k0_t6 k0_t7 k0_t9 (BitVec.ofNat 32 r.val)) a + S1x1x256.size a ≤ S2x32x1536.size a := fun v81 k0_hw4 k0_t5 k0_t6 k0_t7 k0_t9 r => k0_hw4.2.1.2.2.2.2.2.2.1 k0_t5 k0_t6 k0_t7 k0_t9 r
theorem k0_off77_inb : ∀ (v81 : BitVec 32) (k0_hw4 : k0_chk4 v81) (k0_t5 : Fin (k0_t5_loop v81).trips), ∀ a, (k0_off77 v81 k0_t5) a + S1x1.size a ≤ S2x3.size a := fun v81 k0_hw4 k0_t5 => k0_hw4.2.1.2.2.2.2.2.2.2.1 k0_t5
theorem k0_off78_inb : ∀ (v81 : BitVec 32) (k0_hw4 : k0_chk4 v81) (k0_t5 : Fin (k0_t5_loop v81).trips), ∀ a, (k0_off78 v81 k0_t5) a + S1x12x4096.size a ≤ S2x12x4096.size a := fun v81 k0_hw4 k0_t5 => k0_hw4.2.1.2.2.2.2.2.2.2.2.1 k0_t5
theorem k0_off80_inb : ∀ (v81 : BitVec 32) (k0_hw4 : k0_chk4 v81) (k0_t5 : Fin (k0_t5_loop v81).trips) (k0_t12 : Fin k0_t12_loop.trips), ∀ a, (k0_off80 v81 k0_t5 k0_t12) a + S1x1.size a ≤ S2x4.size a := fun v81 k0_hw4 k0_t5 k0_t12 => k0_hw4.2.1.2.2.2.2.2.2.2.2.2.1 k0_t5 k0_t12
theorem k0_off81_inb : ∀ (v81 : BitVec 32) (k0_hw4 : k0_chk4 v81) (k0_t5 : Fin (k0_t5_loop v81).trips) (k0_t12 : Fin k0_t12_loop.trips), ∀ a, (k0_off81 v81 k0_t5 k0_t12) a + S1x1024x768.size a ≤ S2x4096x768.size a := fun v81 k0_hw4 k0_t5 k0_t12 => k0_hw4.2.1.2.2.2.2.2.2.2.2.2.2.1 k0_t5 k0_t12
theorem k0_off81_wordsi8 : ∀ (v81 : BitVec 32) (k0_hw4 : k0_chk4 v81) (k0_t5 : Fin (k0_t5_loop v81).trips) (k0_t12 : Fin k0_t12_loop.trips), (Rect.unit (s := S2x4096x768) (k0_off81 v81 k0_t5 k0_t12) S1x1024x768.size (k0_off81_inb v81 k0_hw4 k0_t5 k0_t12)).WholeWords (EltTy.packing .i8) := fun v81 k0_hw4 k0_t5 k0_t12 => k0_hw4.2.1.2.2.2.2.2.2.2.2.2.2.2.1 k0_t5 k0_t12 (k0_off81_inb v81 k0_hw4 k0_t5 k0_t12)
theorem k0_off83_inb : ∀ (v81 : BitVec 32) (k0_hw4 : k0_chk4 v81) (k0_t5 : Fin (k0_t5_loop v81).trips) (k0_t12 : Fin k0_t12_loop.trips) (k0_t13 : Fin k0_t13_loop.trips) (k0_t14 : Fin k0_t14_loop.trips), ∀ a, (k0_off83 v81 k0_t5 k0_t12 k0_t13 k0_t14) a + S1x256x128.size a ≤ S2x4096x768.size a := fun v81 k0_hw4 k0_t5 k0_t12 k0_t13 k0_t14 => k0_hw4.2.1.2.2.2.2.2.2.2.2.2.2.2.2.1 k0_t5 k0_t12 k0_t13 k0_t14
theorem k0_off84_inb : ∀ (v81 : BitVec 32) (k0_hw4 : k0_chk4 v81) (k0_t5 : Fin (k0_t5_loop v81).trips) (k0_t12 : Fin k0_t12_loop.trips) (k0_t13 : Fin k0_t13_loop.trips) (k0_t14 : Fin k0_t14_loop.trips), ∀ (r : Fin 2), ∀ a, (k0_off84 v81 k0_t5 k0_t12 k0_t13 k0_t14 (BitVec.ofNat 32 r.val)) a + S1x1x256.size a ≤ S2x12x4096.size a := fun v81 k0_hw4 k0_t5 k0_t12 k0_t13 k0_t14 r => k0_hw4.2.1.2.2.2.2.2.2.2.2.2.2.2.2.2.1 k0_t5 k0_t12 k0_t13 k0_t14 r
theorem k0_t15_ok : ∀ (v81 : BitVec 32) (k0_hw4 : k0_chk4 v81), (k0_t15_loop v81).OK := fun v81 k0_hw4 => k0_hw4.2.1.2.2.2.2.2.2.2.2.2.2.2.2.2.2.1
theorem k0_off87_inb : ∀ (v81 : BitVec 32) (k0_hw4 : k0_chk4 v81) (k0_t15 : Fin (k0_t15_loop v81).trips), ∀ a, (k0_off87 v81 k0_t15) a + S1.size a ≤ S64.size a := fun v81 k0_hw4 k0_t15 => k0_hw4.2.1.2.2.2.2.2.2.2.2.2.2.2.2.2.2.2.1 k0_t15
theorem k0_off88_inb : ∀ (v81 : BitVec 32) (k0_hw4 : k0_chk4 v81) (k0_t15 : Fin (k0_t15_loop v81).trips), ∀ (k0_h2 : k0_cond2 v81 k0_t15 = 1#1), ∀ a, (k0_off88 v81 k0_t15) a + S1.size a ≤ S64.size a := fun v81 k0_hw4 k0_t15 k0_h2 => k0_hw4.2.1.2.2.2.2.2.2.2.2.2.2.2.2.2.2.2.2.1 k0_t15 k0_h2
theorem k0_off89_inb : ∀ (v81 : BitVec 32) (k0_hw4 : k0_chk4 v81) (k0_t15 : Fin (k0_t15_loop v81).trips), ∀ (k0_h2 : k0_cond2 v81 k0_t15 = 1#1), ∀ a, (k0_off89 v81 k0_t15) a + S1x1.size a ≤ S2x3.size a := fun v81 k0_hw4 k0_t15 k0_h2 => k0_hw4.2.1.2.2.2.2.2.2.2.2.2.2.2.2.2.2.2.2.2.1 k0_t15 k0_h2
theorem k0_off90_inb : ∀ (v81 : BitVec 32) (k0_hw4 : k0_chk4 v81) (k0_t15 : Fin (k0_t15_loop v81).trips), ∀ (k0_h2 : k0_cond2 v81 k0_t15 = 1#1), ∀ a, (k0_off90 v81 k0_t15) a + S1x32x1536.size a ≤ S2x32x1536.size a := fun v81 k0_hw4 k0_t15 k0_h2 => k0_hw4.2.1.2.2.2.2.2.2.2.2.2.2.2.2.2.2.2.2.2.2.1 k0_t15 k0_h2
theorem k0_off92_inb : ∀ (v81 : BitVec 32) (k0_hw4 : k0_chk4 v81) (k0_t15 : Fin (k0_t15_loop v81).trips), ∀ (k0_h2 : k0_cond2 v81 k0_t15 = 1#1), ∀ a, (k0_off92 v81 k0_t15) a + S1x1.size a ≤ S2x3.size a := fun v81 k0_hw4 k0_t15 k0_h2 => k0_hw4.2.1.2.2.2.2.2.2.2.2.2.2.2.2.2.2.2.2.2.2.2.1 k0_t15 k0_h2
theorem k0_off93_inb : ∀ (v81 : BitVec 32) (k0_hw4 : k0_chk4 v81) (k0_t15 : Fin (k0_t15_loop v81).trips), ∀ (k0_h2 : k0_cond2 v81 k0_t15 = 1#1), ∀ a, (k0_off93 v81 k0_t15) a + S1x32x1536.size a ≤ S2x32x1536.size a := fun v81 k0_hw4 k0_t15 k0_h2 => k0_hw4.2.1.2.2.2.2.2.2.2.2.2.2.2.2.2.2.2.2.2.2.2.2.1 k0_t15 k0_h2
theorem k0_off94_inb : ∀ (v81 : BitVec 32) (k0_hw4 : k0_chk4 v81) (k0_t15 : Fin (k0_t15_loop v81).trips), ∀ (k0_h2 : k0_cond2 v81 k0_t15 = 1#1), ∀ a, (k0_off94 v81 k0_t15) a + S1x1.size a ≤ S2x3.size a := fun v81 k0_hw4 k0_t15 k0_h2 => k0_hw4.2.1.2.2.2.2.2.2.2.2.2.2.2.2.2.2.2.2.2.2.2.2.2.1 k0_t15 k0_h2
theorem k0_off95_inb : ∀ (v81 : BitVec 32) (k0_hw4 : k0_chk4 v81) (k0_t15 : Fin (k0_t15_loop v81).trips), ∀ (k0_h2 : k0_cond2 v81 k0_t15 = 1#1), ∀ a, (k0_off95 v81 k0_t15) a + S1x512x2048.size a ≤ S2x1536x2048.size a := fun v81 k0_hw4 k0_t15 k0_h2 => k0_hw4.2.1.2.2.2.2.2.2.2.2.2.2.2.2.2.2.2.2.2.2.2.2.2.2.1 k0_t15 k0_h2
theorem k0_off95_wordsi8 : ∀ (v81 : BitVec 32) (k0_hw4 : k0_chk4 v81) (k0_t15 : Fin (k0_t15_loop v81).trips), ∀ (k0_h2 : k0_cond2 v81 k0_t15 = 1#1), (Rect.unit (s := S2x1536x2048) (k0_off95 v81 k0_t15) S1x512x2048.size (k0_off95_inb v81 k0_hw4 k0_t15 k0_h2)).WholeWords (EltTy.packing .i8) := fun v81 k0_hw4 k0_t15 k0_h2 => k0_hw4.2.1.2.2.2.2.2.2.2.2.2.2.2.2.2.2.2.2.2.2.2.2.2.2.2.1 k0_t15 k0_h2 (k0_off95_inb v81 k0_hw4 k0_t15 k0_h2)
theorem k0_off97_inb : ∀ (v81 : BitVec 32) (k0_hw4 : k0_chk4 v81) (k0_t15 : Fin (k0_t15_loop v81).trips), ∀ (k0_h2 : k0_cond2 v81 k0_t15 = 1#1), ∀ a, (k0_off97 v81 k0_t15) a + S1x512x2048.size a ≤ S2x1536x2048.size a := fun v81 k0_hw4 k0_t15 k0_h2 => k0_hw4.2.1.2.2.2.2.2.2.2.2.2.2.2.2.2.2.2.2.2.2.2.2.2.2.2.2.1 k0_t15 k0_h2
theorem k0_off97_wordsi8 : ∀ (v81 : BitVec 32) (k0_hw4 : k0_chk4 v81) (k0_t15 : Fin (k0_t15_loop v81).trips), ∀ (k0_h2 : k0_cond2 v81 k0_t15 = 1#1), (Rect.unit (s := S2x1536x2048) (k0_off97 v81 k0_t15) S1x512x2048.size (k0_off97_inb v81 k0_hw4 k0_t15 k0_h2)).WholeWords (EltTy.packing .i8) := fun v81 k0_hw4 k0_t15 k0_h2 => k0_hw4.2.1.2.2.2.2.2.2.2.2.2.2.2.2.2.2.2.2.2.2.2.2.2.2.2.2.2.1 k0_t15 k0_h2 (k0_off97_inb v81 k0_hw4 k0_t15 k0_h2)
theorem k0_off99_inb : ∀ (v81 : BitVec 32) (k0_hw4 : k0_chk4 v81) (k0_t15 : Fin (k0_t15_loop v81).trips), ∀ (k0_h2 : k0_cond2 v81 k0_t15 = 1#1), ∀ a, (k0_off99 v81 k0_t15) a + S1x1.size a ≤ S2x3.size a := fun v81 k0_hw4 k0_t15 k0_h2 => k0_hw4.2.1.2.2.2.2.2.2.2.2.2.2.2.2.2.2.2.2.2.2.2.2.2.2.2.2.2.2.1 k0_t15 k0_h2
theorem k0_off100_inb : ∀ (v81 : BitVec 32) (k0_hw4 : k0_chk4 v81) (k0_t15 : Fin (k0_t15_loop v81).trips), ∀ (k0_h2 : k0_cond2 v81 k0_t15 = 1#1), ∀ a, (k0_off100 v81 k0_t15) a + S1x512x2048.size a ≤ S2x1536x2048.size a := fun v81 k0_hw4 k0_t15 k0_h2 => k0_hw4.2.1.2.2.2.2.2.2.2.2.2.2.2.2.2.2.2.2.2.2.2.2.2.2.2.2.2.2.2.1 k0_t15 k0_h2
theorem k0_off100_wordsi8 : ∀ (v81 : BitVec 32) (k0_hw4 : k0_chk4 v81) (k0_t15 : Fin (k0_t15_loop v81).trips), ∀ (k0_h2 : k0_cond2 v81 k0_t15 = 1#1), (Rect.unit (s := S2x1536x2048) (k0_off100 v81 k0_t15) S1x512x2048.size (k0_off100_inb v81 k0_hw4 k0_t15 k0_h2)).WholeWords (EltTy.packing .i8) := fun v81 k0_hw4 k0_t15 k0_h2 => k0_hw4.2.1.2.2.2.2.2.2.2.2.2.2.2.2.2.2.2.2.2.2.2.2.2.2.2.2.2.2.2.2.1 k0_t15 k0_h2 (k0_off100_inb v81 k0_hw4 k0_t15 k0_h2)
theorem k0_off102_inb : ∀ (v81 : BitVec 32) (k0_hw4 : k0_chk4 v81) (k0_t15 : Fin (k0_t15_loop v81).trips), ∀ (k0_h2 : k0_cond2 v81 k0_t15 = 1#1), ∀ a, (k0_off102 v81 k0_t15) a + S1x12x4096.size a ≤ S2x12x4096.size a := fun v81 k0_hw4 k0_t15 k0_h2 => k0_hw4.2.1.2.2.2.2.2.2.2.2.2.2.2.2.2.2.2.2.2.2.2.2.2.2.2.2.2.2.2.2.2.1 k0_t15 k0_h2
theorem k0_off104_inb : ∀ (v81 : BitVec 32) (k0_hw4 : k0_chk4 v81) (k0_t15 : Fin (k0_t15_loop v81).trips), ∀ (k0_h2 : k0_cond2 v81 k0_t15 = 1#1), ∀ a, (k0_off104 v81 k0_t15) a + S1x1.size a ≤ S2x4.size a := fun v81 k0_hw4 k0_t15 k0_h2 => k0_hw4.2.1.2.2.2.2.2.2.2.2.2.2.2.2.2.2.2.2.2.2.2.2.2.2.2.2.2.2.2.2.2.2.1 k0_t15 k0_h2
theorem k0_off105_inb : ∀ (v81 : BitVec 32) (k0_hw4 : k0_chk4 v81) (k0_t15 : Fin (k0_t15_loop v81).trips), ∀ (k0_h2 : k0_cond2 v81 k0_t15 = 1#1), ∀ a, (k0_off105 v81 k0_t15) a + S1x1024x768.size a ≤ S2x4096x768.size a := fun v81 k0_hw4 k0_t15 k0_h2 => k0_hw4.2.1.2.2.2.2.2.2.2.2.2.2.2.2.2.2.2.2.2.2.2.2.2.2.2.2.2.2.2.2.2.2.2 k0_t15 k0_h2
theorem k0_off105_wordsi8 : ∀ (v81 : BitVec 32) (k0_hw4 : k0_chk4 v81) (k0_t15 : Fin (k0_t15_loop v81).trips), ∀ (k0_h2 : k0_cond2 v81 k0_t15 = 1#1), (Rect.unit (s := S2x4096x768) (k0_off105 v81 k0_t15) S1x1024x768.size (k0_off105_inb v81 k0_hw4 k0_t15 k0_h2)).WholeWords (EltTy.packing .i8) := fun v81 k0_hw4 k0_t15 k0_h2 => k0_hw4.2.2.1 k0_t15 k0_h2 (k0_off105_inb v81 k0_hw4 k0_t15 k0_h2)
theorem k0_off107_inb : ∀ (v81 : BitVec 32) (k0_hw4 : k0_chk4 v81) (k0_t15 : Fin (k0_t15_loop v81).trips), ∀ (k0_h2 : k0_cond2 v81 k0_t15 = 1#1), ∀ a, (k0_off107 v81 k0_t15) a + S1x1.size a ≤ S2x4.size a := fun v81 k0_hw4 k0_t15 k0_h2 => k0_hw4.2.2.2.1 k0_t15 k0_h2
theorem k0_off108_inb : ∀ (v81 : BitVec 32) (k0_hw4 : k0_chk4 v81) (k0_t15 : Fin (k0_t15_loop v81).trips), ∀ (k0_h2 : k0_cond2 v81 k0_t15 = 1#1), ∀ a, (k0_off108 v81 k0_t15) a + S1x1024x768.size a ≤ S2x4096x768.size a := fun v81 k0_hw4 k0_t15 k0_h2 => k0_hw4.2.2.2.2.1 k0_t15 k0_h2
theorem k0_off108_wordsi8 : ∀ (v81 : BitVec 32) (k0_hw4 : k0_chk4 v81) (k0_t15 : Fin (k0_t15_loop v81).trips), ∀ (k0_h2 : k0_cond2 v81 k0_t15 = 1#1), (Rect.unit (s := S2x4096x768) (k0_off108 v81 k0_t15) S1x1024x768.size (k0_off108_inb v81 k0_hw4 k0_t15 k0_h2)).WholeWords (EltTy.packing .i8) := fun v81 k0_hw4 k0_t15 k0_h2 => k0_hw4.2.2.2.2.2.1 k0_t15 k0_h2 (k0_off108_inb v81 k0_hw4 k0_t15 k0_h2)
theorem k0_off110_inb : ∀ (v81 : BitVec 32) (k0_hw4 : k0_chk4 v81) (k0_t15 : Fin (k0_t15_loop v81).trips), ∀ (k0_h2 : k0_cond2 v81 k0_t15 = 1#1), ∀ a, (k0_off110 v81 k0_t15) a + S1x1.size a ≤ S2x4.size a := fun v81 k0_hw4 k0_t15 k0_h2 => k0_hw4.2.2.2.2.2.2.1 k0_t15 k0_h2
theorem k0_off111_inb : ∀ (v81 : BitVec 32) (k0_hw4 : k0_chk4 v81) (k0_t15 : Fin (k0_t15_loop v81).trips), ∀ (k0_h2 : k0_cond2 v81 k0_t15 = 1#1), ∀ a, (k0_off111 v81 k0_t15) a + S1x1024x768.size a ≤ S2x4096x768.size a := fun v81 k0_hw4 k0_t15 k0_h2 => k0_hw4.2.2.2.2.2.2.2.1 k0_t15 k0_h2
theorem k0_off111_wordsi8 : ∀ (v81 : BitVec 32) (k0_hw4 : k0_chk4 v81) (k0_t15 : Fin (k0_t15_loop v81).trips), ∀ (k0_h2 : k0_cond2 v81 k0_t15 = 1#1), (Rect.unit (s := S2x4096x768) (k0_off111 v81 k0_t15) S1x1024x768.size (k0_off111_inb v81 k0_hw4 k0_t15 k0_h2)).WholeWords (EltTy.packing .i8) := fun v81 k0_hw4 k0_t15 k0_h2 => k0_hw4.2.2.2.2.2.2.2.2.1 k0_t15 k0_h2 (k0_off111_inb v81 k0_hw4 k0_t15 k0_h2)
theorem k0_off113_inb : ∀ (v81 : BitVec 32) (k0_hw4 : k0_chk4 v81) (k0_t15 : Fin (k0_t15_loop v81).trips), ∀ (k0_h2 : k0_cond2 v81 k0_t15 = 1#1), ∀ a, (k0_off113 v81 k0_t15) a + S1x1.size a ≤ S2x4.size a := fun v81 k0_hw4 k0_t15 k0_h2 => k0_hw4.2.2.2.2.2.2.2.2.2.1 k0_t15 k0_h2
theorem k0_off114_inb : ∀ (v81 : BitVec 32) (k0_hw4 : k0_chk4 v81) (k0_t15 : Fin (k0_t15_loop v81).trips), ∀ (k0_h2 : k0_cond2 v81 k0_t15 = 1#1), ∀ a, (k0_off114 v81 k0_t15) a + S1x1024x768.size a ≤ S2x4096x768.size a := fun v81 k0_hw4 k0_t15 k0_h2 => k0_hw4.2.2.2.2.2.2.2.2.2.2.1 k0_t15 k0_h2
theorem k0_off114_wordsi8 : ∀ (v81 : BitVec 32) (k0_hw4 : k0_chk4 v81) (k0_t15 : Fin (k0_t15_loop v81).trips), ∀ (k0_h2 : k0_cond2 v81 k0_t15 = 1#1), (Rect.unit (s := S2x4096x768) (k0_off114 v81 k0_t15) S1x1024x768.size (k0_off114_inb v81 k0_hw4 k0_t15 k0_h2)).WholeWords (EltTy.packing .i8) := fun v81 k0_hw4 k0_t15 k0_h2 => k0_hw4.2.2.2.2.2.2.2.2.2.2.2.1 k0_t15 k0_h2 (k0_off114_inb v81 k0_hw4 k0_t15 k0_h2)
theorem k0_off116_inb : ∀ (v81 : BitVec 32) (k0_hw4 : k0_chk4 v81) (k0_t15 : Fin (k0_t15_loop v81).trips), ∀ a, (k0_off116 v81 k0_t15) a + S1x1.size a ≤ S2x3.size a := fun v81 k0_hw4 k0_t15 => k0_hw4.2.2.2.2.2.2.2.2.2.2.2.2.1 k0_t15
theorem k0_off117_inb : ∀ (v81 : BitVec 32) (k0_hw4 : k0_chk4 v81) (k0_t15 : Fin (k0_t15_loop v81).trips), ∀ a, (k0_off117 v81 k0_t15) a + S1x32x1536.size a ≤ S2x32x1536.size a := fun v81 k0_hw4 k0_t15 => k0_hw4.2.2.2.2.2.2.2.2.2.2.2.2.2.1 k0_t15
theorem k0_off119_inb : ∀ (v81 : BitVec 32) (k0_hw4 : k0_chk4 v81) (k0_t15 : Fin (k0_t15_loop v81).trips), ∀ a, (k0_off119 v81 k0_t15) a + S1x1.size a ≤ S2x3.size a := fun v81 k0_hw4 k0_t15 => k0_hw4.2.2.2.2.2.2.2.2.2.2.2.2.2.2.1 k0_t15
theorem k0_off120_inb : ∀ (v81 : BitVec 32) (k0_hw4 : k0_chk4 v81) (k0_t15 : Fin (k0_t15_loop v81).trips), ∀ a, (k0_off120 v81 k0_t15) a + S1x32x1536.size a ≤ S2x32x1536.size a := fun v81 k0_hw4 k0_t15 => k0_hw4.2.2.2.2.2.2.2.2.2.2.2.2.2.2.2.1 k0_t15
theorem k0_off121_inb : ∀ (v81 : BitVec 32) (k0_hw4 : k0_chk4 v81) (k0_t15 : Fin (k0_t15_loop v81).trips) (k0_t16 : Fin k0_t16_loop.trips), ∀ a, (k0_off121 v81 k0_t15 k0_t16) a + S1x1.size a ≤ S2x3.size a := fun v81 k0_hw4 k0_t15 k0_t16 => k0_hw4.2.2.2.2.2.2.2.2.2.2.2.2.2.2.2.2.1 k0_t15 k0_t16
theorem k0_off122_inb : ∀ (v81 : BitVec 32) (k0_hw4 : k0_chk4 v81) (k0_t15 : Fin (k0_t15_loop v81).trips) (k0_t16 : Fin k0_t16_loop.trips), ∀ a, (k0_off122 v81 k0_t15 k0_t16) a + S1x512x2048.size a ≤ S2x1536x2048.size a := fun v81 k0_hw4 k0_t15 k0_t16 => k0_hw4.2.2.2.2.2.2.2.2.2.2.2.2.2.2.2.2.2.1 k0_t15 k0_t16
theorem k0_off122_wordsi8 : ∀ (v81 : BitVec 32) (k0_hw4 : k0_chk4 v81) (k0_t15 : Fin (k0_t15_loop v81).trips) (k0_t16 : Fin k0_t16_loop.trips), (Rect.unit (s := S2x1536x2048) (k0_off122 v81 k0_t15 k0_t16) S1x512x2048.size (k0_off122_inb v81 k0_hw4 k0_t15 k0_t16)).WholeWords (EltTy.packing .i8) := fun v81 k0_hw4 k0_t15 k0_t16 => k0_hw4.2.2.2.2.2.2.2.2.2.2.2.2.2.2.2.2.2.2.1 k0_t15 k0_t16 (k0_off122_inb v81 k0_hw4 k0_t15 k0_t16)
theorem k0_off124_inb : ∀ (v81 : BitVec 32) (k0_hw4 : k0_chk4 v81) (k0_t15 : Fin (k0_t15_loop v81).trips) (k0_t16 : Fin k0_t16_loop.trips) (k0_t17 : Fin k0_t17_loop.trips) (k0_t18 : Fin k0_t18_loop.trips), ∀ a, (k0_off124 v81 k0_t15 k0_t16 k0_t17 k0_t18) a + S1x256x128.size a ≤ S2x1536x2048.size a := fun v81 k0_hw4 k0_t15 k0_t16 k0_t17 k0_t18 => k0_hw4.2.2.2.2.2.2.2.2.2.2.2.2.2.2.2.2.2.2.2.1 k0_t15 k0_t16 k0_t17 k0_t18
theorem k0_off125_inb : ∀ (v81 : BitVec 32) (k0_hw4 : k0_chk4 v81) (k0_t15 : Fin (k0_t15_loop v81).trips) (k0_t16 : Fin k0_t16_loop.trips) (k0_t17 : Fin k0_t17_loop.trips) (k0_t18 : Fin k0_t18_loop.trips), ∀ (r : Fin 2), ∀ a, (k0_off125 v81 k0_t15 k0_t16 k0_t17 k0_t18 (BitVec.ofNat 32 r.val)) a + S1x1x256.size a ≤ S2x32x1536.size a := fun v81 k0_hw4 k0_t15 k0_t16 k0_t17 k0_t18 r => k0_hw4.2.2.2.2.2.2.2.2.2.2.2.2.2.2.2.2.2.2.2.2.1 k0_t15 k0_t16 k0_t17 k0_t18 r
theorem k0_off127_inb : ∀ (v81 : BitVec 32) (k0_hw4 : k0_chk4 v81) (k0_t15 : Fin (k0_t15_loop v81).trips) (k0_t16 : Fin k0_t16_loop.trips) (k0_t17 : Fin k0_t17_loop.trips) (k0_t19 : Fin k0_t19_loop.trips), ∀ a, (k0_off127 v81 k0_t15 k0_t16 k0_t17 k0_t19) a + S1x256x128.size a ≤ S2x1536x2048.size a := fun v81 k0_hw4 k0_t15 k0_t16 k0_t17 k0_t19 => k0_hw4.2.2.2.2.2.2.2.2.2.2.2.2.2.2.2.2.2.2.2.2.2.1 k0_t15 k0_t16 k0_t17 k0_t19
theorem k0_off128_inb : ∀ (v81 : BitVec 32) (k0_hw4 : k0_chk4 v81) (k0_t15 : Fin (k0_t15_loop v81).trips) (k0_t16 : Fin k0_t16_loop.trips) (k0_t17 : Fin k0_t17_loop.trips) (k0_t19 : Fin k0_t19_loop.trips), ∀ (r : Fin 2), ∀ a, (k0_off128 v81 k0_t15 k0_t16 k0_t17 k0_t19 (BitVec.ofNat 32 r.val)) a + S1x1x256.size a ≤ S2x32x1536.size a := fun v81 k0_hw4 k0_t15 k0_t16 k0_t17 k0_t19 r => k0_hw4.2.2.2.2.2.2.2.2.2.2.2.2.2.2.2.2.2.2.2.2.2.2.1 k0_t15 k0_t16 k0_t17 k0_t19 r
theorem k0_off145_inb : ∀ (v81 : BitVec 32) (k0_hw4 : k0_chk4 v81) (k0_t15 : Fin (k0_t15_loop v81).trips), ∀ a, (k0_off145 v81 k0_t15) a + S1x1.size a ≤ S2x3.size a := fun v81 k0_hw4 k0_t15 => k0_hw4.2.2.2.2.2.2.2.2.2.2.2.2.2.2.2.2.2.2.2.2.2.2.2.1 k0_t15
theorem k0_off146_inb : ∀ (v81 : BitVec 32) (k0_hw4 : k0_chk4 v81) (k0_t15 : Fin (k0_t15_loop v81).trips), ∀ a, (k0_off146 v81 k0_t15) a + S1x12x4096.size a ≤ S2x12x4096.size a := fun v81 k0_hw4 k0_t15 => k0_hw4.2.2.2.2.2.2.2.2.2.2.2.2.2.2.2.2.2.2.2.2.2.2.2.2.1 k0_t15
theorem k0_off148_inb : ∀ (v81 : BitVec 32) (k0_hw4 : k0_chk4 v81) (k0_t15 : Fin (k0_t15_loop v81).trips) (k0_t22 : Fin k0_t22_loop.trips), ∀ a, (k0_off148 v81 k0_t15 k0_t22) a + S1x1.size a ≤ S2x4.size a := fun v81 k0_hw4 k0_t15 k0_t22 => k0_hw4.2.2.2.2.2.2.2.2.2.2.2.2.2.2.2.2.2.2.2.2.2.2.2.2.2.1 k0_t15 k0_t22
theorem k0_off149_inb : ∀ (v81 : BitVec 32) (k0_hw4 : k0_chk4 v81) (k0_t15 : Fin (k0_t15_loop v81).trips) (k0_t22 : Fin k0_t22_loop.trips), ∀ a, (k0_off149 v81 k0_t15 k0_t22) a + S1x1024x768.size a ≤ S2x4096x768.size a := fun v81 k0_hw4 k0_t15 k0_t22 => k0_hw4.2.2.2.2.2.2.2.2.2.2.2.2.2.2.2.2.2.2.2.2.2.2.2.2.2.2.1 k0_t15 k0_t22
theorem k0_off149_wordsi8 : ∀ (v81 : BitVec 32) (k0_hw4 : k0_chk4 v81) (k0_t15 : Fin (k0_t15_loop v81).trips) (k0_t22 : Fin k0_t22_loop.trips), (Rect.unit (s := S2x4096x768) (k0_off149 v81 k0_t15 k0_t22) S1x1024x768.size (k0_off149_inb v81 k0_hw4 k0_t15 k0_t22)).WholeWords (EltTy.packing .i8) := fun v81 k0_hw4 k0_t15 k0_t22 => k0_hw4.2.2.2.2.2.2.2.2.2.2.2.2.2.2.2.2.2.2.2.2.2.2.2.2.2.2.2.1 k0_t15 k0_t22 (k0_off149_inb v81 k0_hw4 k0_t15 k0_t22)
theorem k0_off151_inb : ∀ (v81 : BitVec 32) (k0_hw4 : k0_chk4 v81) (k0_t15 : Fin (k0_t15_loop v81).trips) (k0_t22 : Fin k0_t22_loop.trips) (k0_t23 : Fin k0_t23_loop.trips) (k0_t24 : Fin k0_t24_loop.trips), ∀ a, (k0_off151 v81 k0_t15 k0_t22 k0_t23 k0_t24) a + S1x256x128.size a ≤ S2x4096x768.size a := fun v81 k0_hw4 k0_t15 k0_t22 k0_t23 k0_t24 => k0_hw4.2.2.2.2.2.2.2.2.2.2.2.2.2.2.2.2.2.2.2.2.2.2.2.2.2.2.2.2.1 k0_t15 k0_t22 k0_t23 k0_t24
theorem k0_off152_inb : ∀ (v81 : BitVec 32) (k0_hw4 : k0_chk4 v81) (k0_t15 : Fin (k0_t15_loop v81).trips) (k0_t22 : Fin k0_t22_loop.trips) (k0_t23 : Fin k0_t23_loop.trips) (k0_t24 : Fin k0_t24_loop.trips), ∀ (r : Fin 2), ∀ a, (k0_off152 v81 k0_t15 k0_t22 k0_t23 k0_t24 (BitVec.ofNat 32 r.val)) a + S1x1x256.size a ≤ S2x12x4096.size a := fun v81 k0_hw4 k0_t15 k0_t22 k0_t23 k0_t24 r => k0_hw4.2.2.2.2.2.2.2.2.2.2.2.2.2.2.2.2.2.2.2.2.2.2.2.2.2.2.2.2.2 k0_t15 k0_t22 k0_t23 k0_t24 r

def k0_mult27 (k0_t24 : Fin k0_t24_loop.trips) : BitVec 32 :=
  let c0_i32_346 : BitVec 32 := 0#32
  let c1_i32_347 : BitVec 32 := 1#32
  let arg42 : BitVec 32 := Scf.iv c0_i32_346 c1_i32_347 k0_t24
  let c256_i32_357 : BitVec 32 := 256#32
  let v443 : BitVec 32 := Scalar.muli arg42 c256_i32_357
  v443
def k0_off153 (k0_t24 : Fin k0_t24_loop.trips) : Fin 2 → Nat :=
  let c0_358 : Index := 0#32
  let c0_i32_346 : BitVec 32 := 0#32
  let c1_i32_347 : BitVec 32 := 1#32
  let arg42 : BitVec 32 := Scf.iv c0_i32_346 c1_i32_347 k0_t24
  let c256_i32_357 : BitVec 32 := 256#32
  let v443 : BitVec 32 := Scalar.muli arg42 c256_i32_357
  let v444 : BitVec 32 := v443
  let v445 : Index := Scalar.indexCast v444
  ![0, v445.toNat]
def k0_off154 (k0_t22 : Fin k0_t22_loop.trips) (k0_t23 : Fin k0_t23_loop.trips) : Fin 2 → Nat :=
  let c0_349 : Index := 0#32
  let c0_i32_331 : BitVec 32 := 0#32
  let c1_i32_332 : BitVec 32 := 1#32
  let arg38 : BitVec 32 := Scf.iv c0_i32_331 c1_i32_332 k0_t22
  let c1024_i32_344 : BitVec 32 := 1024#32
  let v382 : BitVec 32 := Scalar.muli arg38 c1024_i32_344
  let c0_i32_339 : BitVec 32 := 0#32
  let c1_i32_341 : BitVec 32 := 1#32
  let arg40 : BitVec 32 := Scf.iv c0_i32_339 c1_i32_341 k0_t23
  let c256_i32 : BitVec 32 := 256#32
  let v383 : BitVec 32 := Scalar.muli arg40 c256_i32
  let v384 : BitVec 32 := Scalar.addi v382 v383
  let v385 : BitVec 32 := v384
  let v389 : Index := Scalar.indexCast v385
  ![0, v389.toNat]
abbrev stage0_0 : Fin 1 → Memref sig .tc .smem S6x1x8 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x1x8 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6x1x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6x4096 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6x1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6x8x1536 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S6x8x12 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== ReferenceIdeal.lean ====
abbrev S6x1x4096 : Shape := ⟨3, ![6, 1, 4096]⟩
abbrev S6x1x8 : Shape := ⟨3, ![6, 1, 8]⟩
abbrev S47x1536x2048 : Shape := ⟨3, ![47, 1536, 2048]⟩
abbrev S47x1536x32 : Shape := ⟨3, ![47, 1536, 32]⟩
abbrev S47x4096x768 : Shape := ⟨3, ![47, 4096, 768]⟩
abbrev S47x4096x12 : Shape := ⟨3, ![47, 4096, 12]⟩
abbrev S6x4096 : Shape := ⟨2, ![6, 4096]⟩
abbrev S6x8 : Shape := ⟨2, ![6, 8]⟩
abbrev S6x1x32 : Shape := ⟨3, ![6, 1, 32]⟩
abbrev S6x8x1536 : Shape := ⟨3, ![6, 8, 1536]⟩
abbrev S6x8x12 : Shape := ⟨3, ![6, 8, 12]⟩
abbrev S6x32x128 : Shape := ⟨3, ![6, 32, 128]⟩
abbrev S6x32 : Shape := ⟨2, ![6, 32]⟩
abbrev S6x32x252 : Shape := ⟨3, ![6, 32, 252]⟩
abbrev S6x32x1 : Shape := ⟨3, ![6, 32, 1]⟩
abbrev S6x32x64x2 : Shape := ⟨4, ![6, 32, 64, 2]⟩
abbrev S6x32x64x1 : Shape := ⟨4, ![6, 32, 64, 1]⟩
abbrev S6x32x64 : Shape := ⟨3, ![6, 32, 64]⟩
abbrev S6x2048 : Shape := ⟨2, ![6, 2048]⟩
abbrev S47x1536x32x64 : Shape := ⟨4, ![47, 1536, 32, 64]⟩
abbrev S47x1536x32x1 : Shape := ⟨4, ![47, 1536, 32, 1]⟩
abbrev S72192x2048 : Shape := ⟨2, ![72192, 2048]⟩
abbrev S6x72192 : Shape := ⟨2, ![6, 72192]⟩
abbrev S6x47x12x128 : Shape := ⟨4, ![6, 47, 12, 128]⟩
abbrev S6x47x12 : Shape := ⟨3, ![6, 47, 12]⟩
abbrev S6x47x12x252 : Shape := ⟨4, ![6, 47, 12, 252]⟩
abbrev S6x47x12x1 : Shape := ⟨4, ![6, 47, 12, 1]⟩
abbrev S6x47x12x64x2 : Shape := ⟨5, ![6, 47, 12, 64, 2]⟩
abbrev S47x4096x12x64 : Shape := ⟨4, ![47, 4096, 12, 64]⟩
abbrev S47x4096x12x1 : Shape := ⟨4, ![47, 4096, 12, 1]⟩
abbrev S6x47x12x64x1 : Shape := ⟨5, ![6, 47, 12, 64, 1]⟩
abbrev S6x47x12x64 : Shape := ⟨4, ![6, 47, 12, 64]⟩
abbrev S6x47x768 : Shape := ⟨3, ![6, 47, 768]⟩
abbrev S47x6x4096 : Shape := ⟨3, ![47, 6, 4096]⟩
abbrev S47x6x8 : Shape := ⟨3, ![47, 6, 8]⟩
abbrev S1x6x8 : Shape := ⟨3, ![1, 6, 8]⟩
abbrev S47x6 : Shape := ⟨2, ![47, 6]⟩
abbrev S47x6x1 : Shape := ⟨3, ![47, 6, 1]⟩
abbrev S6x8x47 : Shape := ⟨3, ![6, 8, 47]⟩
abbrev S6x8x1 : Shape := ⟨3, ![6, 8, 1]⟩
abbrev S6x8x47x1 : Shape := ⟨4, ![6, 8, 47, 1]⟩
abbrev S6x1x47x12 : Shape := ⟨4, ![6, 1, 47, 12]⟩
abbrev S6x8x47x12 : Shape := ⟨4, ![6, 8, 47, 12]⟩
abbrev S6x1x47x1536 : Shape := ⟨4, ![6, 1, 47, 1536]⟩
abbrev S6x8x47x1536 : Shape := ⟨4, ![6, 8, 47, 1536]⟩

abbrev nBuf : Space → Nat
  | .hbm => 17
  | .vmem => 14
  | .smem => 0
  | _ => 0

abbrev bufTy : (tb : Table) → Fin (tcTables nBuf tb) → BufTy
  | .hbm, ⟨0, _⟩ => ⟨S6x1x4096, .bf16⟩
  | .hbm, ⟨1, _⟩ => ⟨S6x1x8, .i32⟩
  | .hbm, ⟨2, _⟩ => ⟨S6x1x8, .f32⟩
  | .hbm, ⟨3, _⟩ => ⟨S47x1536x2048, .i8⟩
  | .hbm, ⟨4, _⟩ => ⟨S47x1536x32, .f32⟩
  | .hbm, ⟨5, _⟩ => ⟨S47x1536x2048, .i8⟩
  | .hbm, ⟨6, _⟩ => ⟨S47x1536x32, .f32⟩
  | .hbm, ⟨7, _⟩ => ⟨S47x4096x768, .i8⟩
  | .hbm, ⟨8, _⟩ => ⟨S47x4096x12, .f32⟩
  | .hbm, ⟨9, _⟩ => ⟨S6x4096, .bf16⟩
  | .hbm, ⟨10, _⟩ => ⟨S6x8, .i32⟩
  | .hbm, ⟨11, _⟩ => ⟨S6x8, .f32⟩
  | .hbm, ⟨12, _⟩ => ⟨S6x4096, .bf16⟩
  | .hbm, ⟨13, _⟩ => ⟨S6x4096, .fp8e4m3⟩
  | .hbm, ⟨14, _⟩ => ⟨S6x1x32, .f32⟩
  | .hbm, ⟨15, _⟩ => ⟨S6x8x1536, .fp8e4m3⟩
  | .hbm, ⟨16, _⟩ => ⟨S6x8x12, .f32⟩
  | .local _ .vmem, ⟨0, _⟩ => ⟨S6x4096, .bf16⟩
  | .local _ .vmem, ⟨1, _⟩ => ⟨S6x8, .i32⟩
  | .local _ .vmem, ⟨2, _⟩ => ⟨S6x8, .f32⟩
  | .local _ .vmem, ⟨3, _⟩ => ⟨S47x1536x2048, .i8⟩
  | .local _ .vmem, ⟨4, _⟩ => ⟨S47x1536x32, .f32⟩
  | .local _ .vmem, ⟨5, _⟩ => ⟨S47x1536x2048, .i8⟩
  | .local _ .vmem, ⟨6, _⟩ => ⟨S47x1536x32, .f32⟩
  | .local _ .vmem, ⟨7, _⟩ => ⟨S47x4096x768, .i8⟩
  | .local _ .vmem, ⟨8, _⟩ => ⟨S47x4096x12, .f32⟩
  | .local _ .vmem, ⟨9, _⟩ => ⟨S6x4096, .bf16⟩
  | .local _ .vmem, ⟨10, _⟩ => ⟨S6x4096, .fp8e4m3⟩
  | .local _ .vmem, ⟨11, _⟩ => ⟨S6x1x32, .f32⟩
  | .local _ .vmem, ⟨12, _⟩ => ⟨S6x8x1536, .fp8e4m3⟩
  | .local _ .vmem, ⟨13, _⟩ => ⟨S6x8x12, .f32⟩
  | _, _ => ⟨S6x1x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev main_v3_2 : Ref sig .tc := ⟨.hbm, 14, rfl⟩
abbrev main_v3_3 : Ref sig .tc := ⟨.hbm, 15, rfl⟩
abbrev main_v3_4 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S6x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x8 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S47x1536x2048 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S47x1536x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S47x1536x2048 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S47x1536x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S47x4096x768 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S47x4096x12 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S6x4096 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S6x4096 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S6x1x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S6x8x1536 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S6x8x12 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Proof.Words.lean ====
/-
  The kernel's index words in closed form: the main loop's count, the slot of a trip, the test for a further expert, and the
  offsets that depend on them.
-/
module

public import proofs.«01_k».proof.KernelIdeal
public import proofs.«01_k».proof.Proof.Gen.KernelIdeal
public import Idealize.ShloMosaic.Lib.LoopRemainder

@[expose] public section

set_option maxRecDepth 65536

namespace Cert.KernelIdeal

open Idealize.ShloMosaic

/-- The slot of trip `k`. -/
def slot (k : ℕ) : Fin 2 := ⟨k % 2, Nat.mod_lt _ (by decide)⟩

/-- The other slot. -/
def other (b : Fin 2) : Fin 2 := ⟨1 - b.val, by omega⟩

theorem other_slot (k : ℕ) : other (slot k) = slot (k + 1) := by
  apply Fin.ext; simp only [other, slot]; omega

theorem remsi_two : ∀ k : Fin 64, Scalar.remsi (Scf.iv 0#32 1#32 k.val) 2#32 = BitVec.ofNat 32 (slot k.val).val := by decide +kernel

theorem iv_small : ∀ k : Fin 64, Scf.iv 0#32 1#32 k.val = BitVec.ofNat 32 k.val := by decide +kernel

theorem trips_small : ∀ n : Fin 64, (k0_t5_loop (BitVec.ofNat 32 n.val)).trips = n.val := by decide +kernel

theorem ok_small : ∀ n : Fin 64, (k0_t5_loop (BitVec.ofNat 32 n.val)).OK := by decide +kernel

theorem cond_small : ∀ n k : Fin 64, (Scalar.cmpi .ne (Scalar.extui (Scalar.cmpi .slt (Scalar.addi (Scf.iv 0#32 1#32 k.val) 1#32) (BitVec.ofNat 32 n.val)) : BitVec 32) 0#32 = 1#1)
    ↔ k.val + 1 < n.val := by decide +kernel

theorem next_small : ∀ n k : Fin 64, k.val + 1 < n.val →
    (Scalar.minsi (Scalar.addi (Scf.iv 0#32 1#32 k.val) 1#32) (Scalar.subi (BitVec.ofNat 32 n.val) 1#32)).toNat = k.val + 1 := by decide +kernel

section
variable {v81 : BitVec 32} (hv : v81.toNat < 64)
include hv

theorem word_of : v81 = BitVec.ofNat 32 v81.toNat := (BitVec.ofNat_toNat 32 v81).symm ▸ by simp

theorem t5_trips : (k0_t5_loop v81).trips = v81.toNat := by
  have h := trips_small ⟨v81.toNat, hv⟩
  rwa [← word_of hv] at h

theorem t5_lt (k : Fin (k0_t5_loop v81).trips) : k.val < 64 := lt_trans (lt_of_lt_of_eq k.isLt (t5_trips hv)) hv

theorem cond1_iff (k : Fin (k0_t5_loop v81).trips) : k0_cond1 v81 k = 1#1 ↔ k.val + 1 < v81.toNat := by
  have h := cond_small ⟨v81.toNat, hv⟩ ⟨k.val, t5_lt hv k⟩
  rw [← word_of hv] at h
  exact h

theorem slot_word (k : Fin (k0_t5_loop v81).trips) : Scalar.remsi (Scf.iv 0#32 1#32 k.val) 2#32 = BitVec.ofNat 32 (slot k.val).val :=
  remsi_two ⟨k.val, t5_lt hv k⟩

theorem off19_eq (k : Fin (k0_t5_loop v81).trips) : k0_off19 v81 k = ![k.val] := by
  unfold k0_off19
  have h := iv_small ⟨k.val, t5_lt hv k⟩
  have h2 := t5_lt hv k
  simp only [Scalar.indexCast] at h ⊢
  rw [h, BitVec.toNat_ofNat, Nat.mod_eq_of_lt (by omega)]

theorem off20_eq (k : Fin (k0_t5_loop v81).trips) (h1 : k0_cond1 v81 k = 1#1) : k0_off20 v81 k = ![k.val + 1] := by
  unfold k0_off20
  have h := next_small ⟨v81.toNat, hv⟩ ⟨k.val, t5_lt hv k⟩ ((cond1_iff hv k).mp h1)
  rw [← word_of hv] at h
  simp only [Scalar.indexCast] at h ⊢
  rw [h]

theorem off21_eq (k : Fin (k0_t5_loop v81).trips)  : k0_off21 v81 k  = ![(other (slot k.val)).val, 0] := by
  unfold k0_off21; simp only [Scalar.indexCast, slot_word hv k]; generalize slot k.val = b; revert b ; decide +kernel
theorem off22_eq (k : Fin (k0_t5_loop v81).trips)  : k0_off22 v81 k  = ![(other (slot k.val)).val, 0, 0] := by
  unfold k0_off22; simp only [Scalar.indexCast, slot_word hv k]; generalize slot k.val = b; revert b ; decide +kernel
theorem off24_eq (k : Fin (k0_t5_loop v81).trips)  : k0_off24 v81 k  = ![(other (slot k.val)).val, 1] := by
  unfold k0_off24; simp only [Scalar.indexCast, slot_word hv k]; generalize slot k.val = b; revert b ; decide +kernel
theorem off25_eq (k : Fin (k0_t5_loop v81).trips)  : k0_off25 v81 k  = ![(other (slot k.val)).val, 0, 0] := by
  unfold k0_off25; simp only [Scalar.indexCast, slot_word hv k]; generalize slot k.val = b; revert b ; decide +kernel
theorem off26_eq (k : Fin (k0_t5_loop v81).trips)  : k0_off26 v81 k  = ![(other (slot k.val)).val, 0] := by
  unfold k0_off26; simp only [Scalar.indexCast, slot_word hv k]; generalize slot k.val = b; revert b ; decide +kernel
theorem off27_eq (k : Fin (k0_t5_loop v81).trips)  : k0_off27 v81 k  = ![(other (slot k.val)).val, 0, 0] := by
  unfold k0_off27; simp only [Scalar.indexCast, slot_word hv k]; generalize slot k.val = b; revert b ; decide +kernel
theorem off29_eq (k : Fin (k0_t5_loop v81).trips)  : k0_off29 v81 k  = ![(other (slot k.val)).val, 512, 0] := by
  unfold k0_off29; simp only [Scalar.indexCast, slot_word hv k]; generalize slot k.val = b; revert b ; decide +kernel
theorem off31_eq (k : Fin (k0_t5_loop v81).trips)  : k0_off31 v81 k  = ![(other (slot k.val)).val, 2] := by
  unfold k0_off31; simp only [Scalar.indexCast, slot_word hv k]; generalize slot k.val = b; revert b ; decide +kernel
theorem off32_eq (k : Fin (k0_t5_loop v81).trips)  : k0_off32 v81 k  = ![(other (slot k.val)).val, 1024, 0] := by
  unfold k0_off32; simp only [Scalar.indexCast, slot_word hv k]; generalize slot k.val = b; revert b ; decide +kernel
theorem off34_eq (k : Fin (k0_t5_loop v81).trips)  : k0_off34 v81 k  = ![(other (slot k.val)).val, 0, 0] := by
  unfold k0_off34; simp only [Scalar.indexCast, slot_word hv k]; generalize slot k.val = b; revert b ; decide +kernel
theorem off36_eq (k : Fin (k0_t5_loop v81).trips)  : k0_off36 v81 k  = ![(other (slot k.val)).val, 0] := by
  unfold k0_off36; simp only [Scalar.indexCast, slot_word hv k]; generalize slot k.val = b; revert b ; decide +kernel
theorem off37_eq (k : Fin (k0_t5_loop v81).trips)  : k0_off37 v81 k  = ![(other (slot k.val)).val, 0, 0] := by
  unfold k0_off37; simp only [Scalar.indexCast, slot_word hv k]; generalize slot k.val = b; revert b ; decide +kernel
theorem off39_eq (k : Fin (k0_t5_loop v81).trips)  : k0_off39 v81 k  = ![(other (slot k.val)).val, 1] := by
  unfold k0_off39; simp only [Scalar.indexCast, slot_word hv k]; generalize slot k.val = b; revert b ; decide +kernel
theorem off40_eq (k : Fin (k0_t5_loop v81).trips)  : k0_off40 v81 k  = ![(other (slot k.val)).val, 1024, 0] := by
  unfold k0_off40; simp only [Scalar.indexCast, slot_word hv k]; generalize slot k.val = b; revert b ; decide +kernel
theorem off42_eq (k : Fin (k0_t5_loop v81).trips)  : k0_off42 v81 k  = ![(other (slot k.val)).val, 2] := by
  unfold k0_off42; simp only [Scalar.indexCast, slot_word hv k]; generalize slot k.val = b; revert b ; decide +kernel
theorem off43_eq (k : Fin (k0_t5_loop v81).trips)  : k0_off43 v81 k  = ![(other (slot k.val)).val, 2048, 0] := by
  unfold k0_off43; simp only [Scalar.indexCast, slot_word hv k]; generalize slot k.val = b; revert b ; decide +kernel
theorem off45_eq (k : Fin (k0_t5_loop v81).trips)  : k0_off45 v81 k  = ![(other (slot k.val)).val, 3] := by
  unfold k0_off45; simp only [Scalar.indexCast, slot_word hv k]; generalize slot k.val = b; revert b ; decide +kernel
theorem off46_eq (k : Fin (k0_t5_loop v81).trips)  : k0_off46 v81 k  = ![(other (slot k.val)).val, 3072, 0] := by
  unfold k0_off46; simp only [Scalar.indexCast, slot_word hv k]; generalize slot k.val = b; revert b ; decide +kernel
theorem off48_eq (k : Fin (k0_t5_loop v81).trips)  : k0_off48 v81 k  = ![(slot k.val).val, 0] := by
  unfold k0_off48; simp only [Scalar.indexCast, slot_word hv k]; generalize slot k.val = b; revert b ; decide +kernel
theorem off49_eq (k : Fin (k0_t5_loop v81).trips)  : k0_off49 v81 k  = ![(slot k.val).val, 0, 0] := by
  unfold k0_off49; simp only [Scalar.indexCast, slot_word hv k]; generalize slot k.val = b; revert b ; decide +kernel
theorem off51_eq (k : Fin (k0_t5_loop v81).trips)  : k0_off51 v81 k  = ![(slot k.val).val, 1] := by
  unfold k0_off51; simp only [Scalar.indexCast, slot_word hv k]; generalize slot k.val = b; revert b ; decide +kernel
theorem off52_eq (k : Fin (k0_t5_loop v81).trips)  : k0_off52 v81 k  = ![(slot k.val).val, 0, 0] := by
  unfold k0_off52; simp only [Scalar.indexCast, slot_word hv k]; generalize slot k.val = b; revert b ; decide +kernel
theorem off77_eq (k : Fin (k0_t5_loop v81).trips)  : k0_off77 v81 k  = ![(slot k.val).val, 2] := by
  unfold k0_off77; simp only [Scalar.indexCast, slot_word hv k]; generalize slot k.val = b; revert b ; decide +kernel
theorem off78_eq (k : Fin (k0_t5_loop v81).trips)  : k0_off78 v81 k  = ![(slot k.val).val, 0, 0] := by
  unfold k0_off78; simp only [Scalar.indexCast, slot_word hv k]; generalize slot k.val = b; revert b ; decide +kernel
theorem off53_eq (k : Fin (k0_t5_loop v81).trips) (t6 : Fin k0_t6_loop.trips) : k0_off53 v81 k t6 = ![(slot k.val).val, t6.val] := by
  unfold k0_off53; simp only [Scalar.indexCast, slot_word hv k]; generalize slot k.val = b; revert b t6; decide +kernel
theorem off54_eq (k : Fin (k0_t5_loop v81).trips) (t6 : Fin k0_t6_loop.trips) : k0_off54 v81 k t6 = ![(slot k.val).val, 512 * t6.val, 0] := by
  unfold k0_off54; simp only [Scalar.indexCast, slot_word hv k]; generalize slot k.val = b; revert b t6; decide +kernel
theorem off56_eq (k : Fin (k0_t5_loop v81).trips) (t6 : Fin k0_t6_loop.trips) (t7 : Fin k0_t7_loop.trips) (t8 : Fin k0_t8_loop.trips) : k0_off56 v81 k t6 t7 t8 = ![(slot k.val).val, 512 * t6.val + 256 * t7.val, 128 * t8.val] := by
  unfold k0_off56; simp only [Scalar.indexCast, slot_word hv k]; generalize slot k.val = b; revert b t6 t7 t8; decide +kernel
theorem off59_eq (k : Fin (k0_t5_loop v81).trips) (t6 : Fin k0_t6_loop.trips) (t7 : Fin k0_t7_loop.trips) (t9 : Fin k0_t9_loop.trips) : k0_off59 v81 k t6 t7 t9 = ![(slot k.val).val, 512 * t6.val + 256 * t7.val, 128 * t9.val] := by
  unfold k0_off59; simp only [Scalar.indexCast, slot_word hv k]; generalize slot k.val = b; revert b t6 t7 t9; decide +kernel
theorem off80_eq (k : Fin (k0_t5_loop v81).trips) (t12 : Fin k0_t12_loop.trips) : k0_off80 v81 k t12 = ![(slot k.val).val, t12.val] := by
  unfold k0_off80; simp only [Scalar.indexCast, slot_word hv k]; generalize slot k.val = b; revert b t12; decide +kernel
theorem off81_eq (k : Fin (k0_t5_loop v81).trips) (t12 : Fin k0_t12_loop.trips) : k0_off81 v81 k t12 = ![(slot k.val).val, 1024 * t12.val, 0] := by
  unfold k0_off81; simp only [Scalar.indexCast, slot_word hv k]; generalize slot k.val = b; revert b t12; decide +kernel
theorem off83_eq (k : Fin (k0_t5_loop v81).trips) (t12 : Fin k0_t12_loop.trips) (t13 : Fin k0_t13_loop.trips) (t14 : Fin k0_t14_loop.trips) : k0_off83 v81 k t12 t13 t14 = ![(slot k.val).val, 1024 * t12.val + 256 * t13.val, 128 * t14.val] := by
  unfold k0_off83; simp only [Scalar.indexCast, slot_word hv k]; generalize slot k.val = b; revert b t12 t13 t14; decide +kernel
theorem off57_eq (k : Fin (k0_t5_loop v81).trips) (t6 : Fin k0_t6_loop.trips) (t7 : Fin k0_t7_loop.trips) (t8 : Fin k0_t8_loop.trips) (r : Fin 2) :
    k0_off57 v81 k t6 t7 t8 (BitVec.ofNat 32 r.val) = ![(slot k.val).val, 2 * t8.val + r.val, 512 * t6.val + 256 * t7.val] := by
  unfold k0_off57; simp only [Scalar.indexCast, slot_word hv k]; generalize slot k.val = b; revert b t6 t7 t8 r; decide +kernel
theorem off60_eq (k : Fin (k0_t5_loop v81).trips) (t6 : Fin k0_t6_loop.trips) (t7 : Fin k0_t7_loop.trips) (t9 : Fin k0_t9_loop.trips) (r : Fin 2) :
    k0_off60 v81 k t6 t7 t9 (BitVec.ofNat 32 r.val) = ![(slot k.val).val, 2 * t9.val + r.val, 512 * t6.val + 256 * t7.val] := by
  unfold k0_off60; simp only [Scalar.indexCast, slot_word hv k]; generalize slot k.val = b; revert b t6 t7 t9 r; decide +kernel
theorem off84_eq (k : Fin (k0_t5_loop v81).trips) (t12 : Fin k0_t12_loop.trips) (t13 : Fin k0_t13_loop.trips) (t14 : Fin k0_t14_loop.trips) (r : Fin 2) :
    k0_off84 v81 k t12 t13 t14 (BitVec.ofNat 32 r.val) = ![(slot k.val).val, 2 * t14.val + r.val, 1024 * t12.val + 256 * t13.val] := by
  unfold k0_off84; simp only [Scalar.indexCast, slot_word hv k]; generalize slot k.val = b; revert b t12 t13 t14 r; decide +kernel

end

theorem chk1_small : ∀ e : Fin 47, k0_chk1 (BitVec.ofNat 32 e.val) := by decide +kernel
theorem chk2_small : ∀ e : Fin 47, k0_chk2 (BitVec.ofNat 32 e.val) := by decide +kernel
theorem chk3_small : ∀ e : Fin 64, k0_chk3 (BitVec.ofNat 32 e.val) := by decide +kernel
theorem chk6_small : ∀ e : Fin 47, k0_chk6 (BitVec.ofNat 32 e.val) := by decide +kernel

theorem chk5_small {v81 : BitVec 32} (k : Fin (k0_t5_loop v81).trips) : ∀ e : Fin 47, k0_chk5 v81 k (BitVec.ofNat 32 e.val) := by
  have h : ∀ e : Fin 47, k0_chk1 (BitVec.ofNat 32 e.val) := chk1_small
  intro e
  obtain ⟨a1, a2, a3, a4, a5, a6, a7, a8, a9, a10, a11, a12, a13, a14, a15, a16⟩ := h e
  exact ⟨fun _ => a1, fun _ => a2, fun _ => a3, fun _ => a4, fun _ => a5, fun _ => a6, fun _ => a7, fun _ => a8, fun _ => a9, fun _ => a10,
    fun _ => a11, fun _ => a12, fun _ => a13, fun _ => a14, fun _ => a15, fun _ => a16⟩

theorem t15_none {v81 : BitVec 32} (k : Fin (k0_t15_loop v81).trips) : False := Scf.rem_no_trip _ _ k

theorem chk4_0 {v81 : BitVec 32} (hv : v81.toNat < 64) : k0_chk4_0 v81 := by
  have ok81 : (k0_t5_loop v81).OK := by have h := ok_small ⟨v81.toNat, hv⟩; rwa [← word_of hv] at h
  exact ⟨ok81,
    fun k => by rw [off19_eq hv k]; have := lt_of_lt_of_eq k.isLt (t5_trips hv); intro a; fin_cases a; simp; omega,
    fun k h => by rw [off20_eq hv k h]; have := (cond1_iff hv k).mp h; intro a; fin_cases a; simp; omega,
    fun k _  => by rw [off21_eq hv]; generalize slot k.val = s; revert s ; decide +kernel,
    fun k _  => by rw [off22_eq hv]; generalize slot k.val = s; revert s ; decide +kernel,
    fun k _  => by rw [off24_eq hv]; generalize slot k.val = s; revert s ; decide +kernel,
    fun k _  => by rw [off25_eq hv]; generalize slot k.val = s; revert s ; decide +kernel,
    fun k _  => by rw [off26_eq hv]; generalize slot k.val = s; revert s ; decide +kernel,
    fun k _  => by rw [off27_eq hv]; generalize slot k.val = s; revert s ; decide +kernel,
    fun k _  i => by refine (Rect.wholeWords_iff_at _ _).mpr ?_; simp only [Rect.unit, off27_eq hv]; clear i; generalize slot k.val = s; revert s ; decide +kernel,
    fun k _  => by rw [off29_eq hv]; generalize slot k.val = s; revert s ; decide +kernel,
    fun k _  i => by refine (Rect.wholeWords_iff_at _ _).mpr ?_; simp only [Rect.unit, off29_eq hv]; clear i; generalize slot k.val = s; revert s ; decide +kernel,
    fun k _  => by rw [off31_eq hv]; generalize slot k.val = s; revert s ; decide +kernel,
    fun k _  => by rw [off32_eq hv]; generalize slot k.val = s; revert s ; decide +kernel,
    fun k _  i => by refine (Rect.wholeWords_iff_at _ _).mpr ?_; simp only [Rect.unit, off32_eq hv]; clear i; generalize slot k.val = s; revert s ; decide +kernel,
    fun k _  => by rw [off34_eq hv]; generalize slot k.val = s; revert s ; decide +kernel,
    fun k _  => by rw [off36_eq hv]; generalize slot k.val = s; revert s ; decide +kernel,
    fun k _  => by rw [off37_eq hv]; generalize slot k.val = s; revert s ; decide +kernel,
    fun k _  i => by refine (Rect.wholeWords_iff_at _ _).mpr ?_; simp only [Rect.unit, off37_eq hv]; clear i; generalize slot k.val = s; revert s ; decide +kernel,
    fun k _  => by rw [off39_eq hv]; generalize slot k.val = s; revert s ; decide +kernel,
    fun k _  => by rw [off40_eq hv]; generalize slot k.val = s; revert s ; decide +kernel,
    fun k _  i => by refine (Rect.wholeWords_iff_at _ _).mpr ?_; simp only [Rect.unit, off40_eq hv]; clear i; generalize slot k.val = s; revert s ; decide +kernel,
    fun k _  => by rw [off42_eq hv]; generalize slot k.val = s; revert s ; decide +kernel,
    fun k _  => by rw [off43_eq hv]; generalize slot k.val = s; revert s ; decide +kernel,
    fun k _  i => by refine (Rect.wholeWords_iff_at _ _).mpr ?_; simp only [Rect.unit, off43_eq hv]; clear i; generalize slot k.val = s; revert s ; decide +kernel,
    fun k _  => by rw [off45_eq hv]; generalize slot k.val = s; revert s ; decide +kernel,
    fun k _  => by rw [off46_eq hv]; generalize slot k.val = s; revert s ; decide +kernel,
    fun k _  i => by refine (Rect.wholeWords_iff_at _ _).mpr ?_; simp only [Rect.unit, off46_eq hv]; clear i; generalize slot k.val = s; revert s ; decide +kernel,
    fun k  => by rw [off48_eq hv]; generalize slot k.val = s; revert s ; decide +kernel,
    fun k  => by rw [off49_eq hv]; generalize slot k.val = s; revert s ; decide +kernel,
    fun k  => by rw [off51_eq hv]; generalize slot k.val = s; revert s ; decide +kernel,
    fun k  => by rw [off52_eq hv]; generalize slot k.val = s; revert s ; decide +kernel⟩

theorem chk4_1 {v81 : BitVec 32} (hv : v81.toNat < 64) : k0_chk4_1 v81 := by
  exact ⟨fun k a => by rw [off53_eq hv]; generalize slot k.val = s; revert s a; decide +kernel,
    fun k a => by rw [off54_eq hv]; generalize slot k.val = s; revert s a; decide +kernel,
    fun k a i => by refine (Rect.wholeWords_iff_at _ _).mpr ?_; simp only [Rect.unit, off54_eq hv]; clear i; generalize slot k.val = s; revert s a; decide +kernel,
    fun k a b c => by rw [off56_eq hv]; generalize slot k.val = s; revert s a b c; decide +kernel,
    fun k a b c r => by rw [off57_eq hv]; generalize slot k.val = s; revert s a b c r; decide +kernel,
    fun k a b c => by rw [off59_eq hv]; generalize slot k.val = s; revert s a b c; decide +kernel,
    fun k a b c r => by rw [off60_eq hv]; generalize slot k.val = s; revert s a b c r; decide +kernel,
    fun k  => by rw [off77_eq hv]; generalize slot k.val = s; revert s ; decide +kernel,
    fun k  => by rw [off78_eq hv]; generalize slot k.val = s; revert s ; decide +kernel,
    fun k a => by rw [off80_eq hv]; generalize slot k.val = s; revert s a; decide +kernel,
    fun k a => by rw [off81_eq hv]; generalize slot k.val = s; revert s a; decide +kernel,
    fun k a i => by refine (Rect.wholeWords_iff_at _ _).mpr ?_; simp only [Rect.unit, off81_eq hv]; clear i; generalize slot k.val = s; revert s a; decide +kernel,
    fun k a b c => by rw [off83_eq hv]; generalize slot k.val = s; revert s a b c; decide +kernel,
    fun k a b c r => by rw [off84_eq hv]; generalize slot k.val = s; revert s a b c r; decide +kernel,
    Scf.rem_ok _ _,
    fun k => (t15_none k).elim,
    fun k => (t15_none k).elim,
    fun k => (t15_none k).elim,
    fun k => (t15_none k).elim,
    fun k => (t15_none k).elim,
    fun k => (t15_none k).elim,
    fun k => (t15_none k).elim,
    fun k => (t15_none k).elim,
    fun k => (t15_none k).elim,
    fun k => (t15_none k).elim,
    fun k => (t15_none k).elim,
    fun k => (t15_none k).elim,
    fun k => (t15_none k).elim,
    fun k => (t15_none k).elim,
    fun k => (t15_none k).elim,
    fun k => (t15_none k).elim,
    fun k => (t15_none k).elim⟩

theorem chk4_2 {v81 : BitVec 32} (hv : v81.toNat < 64) : k0_chk4_2 v81 := by
  exact ⟨fun k => (t15_none k).elim,
    fun k => (t15_none k).elim,
    fun k => (t15_none k).elim,
    fun k => (t15_none k).elim,
    fun k => (t15_none k).elim,
    fun k => (t15_none k).elim,
    fun k => (t15_none k).elim,
    fun k => (t15_none k).elim,
    fun k => (t15_none k).elim,
    fun k => (t15_none k).elim,
    fun k => (t15_none k).elim,
    fun k => (t15_none k).elim,
    fun k => (t15_none k).elim,
    fun k => (t15_none k).elim,
    fun k => (t15_none k).elim,
    fun k => (t15_none k).elim,
    fun k => (t15_none k).elim,
    fun k => (t15_none k).elim,
    fun k => (t15_none k).elim,
    fun k => (t15_none k).elim,
    fun k => (t15_none k).elim,
    fun k => (t15_none k).elim,
    fun k => (t15_none k).elim,
    fun k => (t15_none k).elim,
    fun k => (t15_none k).elim,
    fun k => (t15_none k).elim,
    fun k => (t15_none k).elim,
    fun k => (t15_none k).elim⟩

theorem chk4 {v81 : BitVec 32} (hv : v81.toNat < 64) : k0_chk4 v81 := ⟨chk4_0 hv, chk4_1 hv, chk4_2 hv⟩

end Cert.KernelIdeal
-- ==== Proof.Held.lean ====
/-
  A memref held on a set of its indices. `held c m q R X` says: at share `q` the thread holds the elements of `m` under the
  indices of `R`, and they read `X` there. The rules for a load, a store, a scalar load and store, a copy started and a copy
  waited for are restated for it, each at the head of a `do` block. A copy in flight from a rectangle of one memref into a
  rectangle of another is `flying`: the flight that will hand the landed elements back, and the rest of the source.
-/
module

public import Idealize.ShloMosaic.Lib.Memref
public import Idealize.ShloMosaic.Lib.Transfers
public import Idealize.ShloMosaic.Lib.Scf
public import Idealize.ShloMosaic.Lib.Tactic

@[expose] public section

noncomputable section

namespace Cert.Held

open Idealize.ShloMosaic Idealize.ShloMosaic.Transfers
open Idealize.SL Idealize.SL.RA Idealize.SL.Sem Idealize.SL.ProofMode
open Idealize.SL.BI (sProp)
open scoped Idealize.SL.BI
open Idealize.SL.BI.BIBase Idealize.SL.BI.Laws

variable {nD : Nat} {τ : Topo} {sig : RefSig} {Ix : Type} [DecidableEq Ix] {Val : EltTy → Type} {Name : Type} [DecidableEq Name]
variable {U : Type} [URA U] {Lvl : Type}
local notation "𝕄" => MT nD τ sig Ix Val Name U Lvl

variable (c : Thread nD τ) {sp sp' : Space} {s s' t : Shape} {e : EltTy}

/-- The elements of `m` under the indices `R`, held at share `q` and reading `X` there. -/
def held (m : Memref sig c.2.kind sp s e) (q : PosShare TreeShare) (R : Finset s.Idx) (X : s.Idx → Val e) : sProp 𝕄 :=
  iprop(∃ f, ⌜∀ x ∈ R, m.view.read Val f x = X x⌝ ∗ (m.view.loc c ↦[m.view.setOn R]{q} f))

variable {c} {m : Memref sig c.2.kind sp s e} {q : PosShare TreeShare} {R S : Finset s.Idx} {X Y : s.Idx → Val e}

/-- Contents that agree on the indices held may replace one another. -/
theorem held_congr (h : ∀ x ∈ R, X x = Y x) : (held c m q R X : sProp 𝕄) ⊢ held c m q R Y := by
  unfold held
  iintro ⟨%f, %hf, H⟩
  iexists f; isplitr
  · ipureintro; exact fun x hx => (hf x hx).trans (h x hx)
  iexact H

/-- A set of indices split along a part of it. -/
theorem held_split (h : S ⊆ R) : (held c m q R X : sProp 𝕄) ⊢ iprop(held c m q S X ∗ held c m q (R \ S) X) := by
  classical
  unfold held
  iintro ⟨%f, %hf, H⟩
  ihave H' := (show (m.view.loc c ↦[m.view.setOn R]{q} f : sProp 𝕄) ⊢ iprop((m.view.loc c ↦[m.view.setOn S]{q} f) ∗ (m.view.loc c ↦[m.view.setOn (R \ S)]{q} f)) from by
    have e : m.view.setOn (R \ S) = m.view.setOn R \ m.view.setOn S := by
      unfold View.setOn; rw [← Finset.map_sdiff]
    rw [e]
    exact (pointsTo_split_subset (Finset.map_subset_map.mpr h)).1) $$ H
  icases H' with ⟨H1, H2⟩
  isplitl [H1]
  · iexists f; isplitr
    · ipureintro; exact fun x hx => hf x (h hx)
    iexact H1
  · iexists f; isplitr
    · ipureintro; exact fun x hx => hf x (Finset.mem_sdiff.mp hx).1
    iexact H2

/-- Two disjoint sets of indices joined; the contents are the first's on the first set and the second's elsewhere. -/
theorem held_join [DecidablePred (· ∈ S)] (h : Disjoint S R) :
    iprop(held c m q S X ∗ held c m q R Y) ⊢ (held c m q (S ∪ R) (S.piecewise X Y) : sProp 𝕄) := by
  classical
  unfold held
  iintro ⟨⟨%f, %hf, H1⟩, ⟨%g, %hg, H2⟩⟩
  iexists (m.view.setOn S).piecewise f g
  isplitr
  · ipureintro
    intro x hx
    by_cases hS : x ∈ S
    · rw [Finset.piecewise_eq_of_mem _ _ _ hS, ← hf x hS, View.read_apply, View.read_apply,
        Finset.piecewise_eq_of_mem _ _ _ (View.mem_setOn (v := m.view) |>.mpr hS)]
    · have hR : x ∈ R := (Finset.mem_union.mp hx).resolve_left hS
      rw [Finset.piecewise_eq_of_notMem _ _ _ hS, ← hg x hR, View.read_apply, View.read_apply,
        Finset.piecewise_eq_of_notMem _ _ _ (fun hh => hS (View.mem_setOn (v := m.view) |>.mp hh))]
  · have e : m.view.setOn (S ∪ R) = m.view.setOn R ∪ m.view.setOn S := by
      unfold View.setOn; rw [← Finset.map_union, Finset.union_comm]
    have hd : Disjoint (m.view.setOn R) (m.view.setOn S) := by
      unfold View.setOn; rw [Finset.disjoint_map]; exact h.symm
    rw [e]
    iapply (pointsTo_join (f := g) (g := f) hd)
    isplitl [H2]; · iexact H2
    iexact H1

/-- A whole memref owned at contents `X` is held on all its indices. -/
theorem held_of_owns : (owns c m q X : sProp 𝕄) ⊢ held c m q Finset.univ X := by
  unfold owns held
  iintro ⟨%f, %hf, H⟩
  iexists f; isplitr
  · ipureintro; exact fun x _ => congrFun hf x
  iexact H

/-- And back. -/
theorem owns_of_held : (held c m q Finset.univ X : sProp 𝕄) ⊢ owns c m q X := by
  unfold owns held
  iintro ⟨%f, %hf, H⟩
  iexists f; isplitr
  · ipureintro; exact funext fun x => hf x (Finset.mem_univ x)
  iexact H

/-- A read share is dealt into a rest and `n` tokens, each holding the same. -/
theorem held_toks (n : ℕ) : (held c m q R X : sProp 𝕄) ⊢
    iprop(held c m (shareDrop q n) R X ∗ BI.bigSep Finset.univ (fun i : Fin n => held c m (shareTok q n i) R X)) := by
  unfold held
  iintro ⟨%f, %hf, H⟩
  ihave H' := (pointsTo_toks_split q n) $$ H
  icases H' with ⟨H1, H2⟩
  isplitl [H1]
  · iexists f; isplitr
    · ipureintro; exact hf
    iexact H1
  · have hm : ∀ i : Fin n, (m.view.loc c ↦[m.view.setOn R]{shareTok q n i} f : sProp 𝕄) ⊢
        iprop(∃ f, ⌜∀ x ∈ R, m.view.read Val f x = X x⌝ ∗ (m.view.loc c ↦[m.view.setOn R]{shareTok q n i} f)) := fun i => by
      iintro H
      iexists f; isplitr
      · ipureintro; exact hf
      iexact H
    iapply (show (BI.bigSep Finset.univ (fun i : Fin n => m.view.loc c ↦[m.view.setOn R]{shareTok q n i} f) : sProp 𝕄) ⊢
        BI.bigSep Finset.univ (fun i : Fin n => iprop(∃ f, ⌜∀ x ∈ R, m.view.read Val f x = X x⌝ ∗ (m.view.loc c ↦[m.view.setOn R]{shareTok q n i} f)))
        from BI.bigSep_mono (fun i _ => hm i)) $$ H2

/-! ## The steps -/

variable [Preorder Lvl] {Λ : Labels} {defs : Defs nD τ sig Val Λ} {𝒱 : Variants} {bd : Option 𝒱.V} {Es : Set Name} {α : Type} {Q : α → sProp (MT nD τ sig Ix Val Name U Lvl)}

/-- A vector load reads the contents at the rectangle's indices. -/
theorem wp_load' {cs : CoreSpace} {m : Memref sig c.2.kind cs s e} {r : Rect s} {hl : m.view.LoadsAt r.toLoadRect}
    {k : _ → Prog (TpuEff nD τ sig Val Λ c.2) α} (hS : r.set ⊆ R) :
    (held c m q R X : sProp 𝕄) ⊢ iprop((held c m q R X -∗ wp frame (wpE defs 𝒱 c bd) Es (k (fun j => X (r.emb j))) Q) -∗
      wp frame (wpE defs 𝒱 c bd) Es (Prog.lift (.load m r.toLoadRect hl) >>= k) Q) := by
  unfold held
  iintro ⟨%f, %hf, H⟩ Hk
  iapply (wp_load 𝒱 c bd Es (k := k) (r := r.toLoadRect) (hl := hl) (S := m.view.setOn R) (Finset.map_subset_map.mpr (by simpa using hS))) $$ H
  iintro H
  have e : m.view.readAt Val r.toLoadRect f = fun j => X (r.emb j) := by
    funext j
    rw [View.readAt_apply]
    exact hf _ (hS (by rw [← Rect.map_emb_univ]; exact Finset.mem_map_of_mem _ (Finset.mem_univ j)))
  rw [e]
  iapply Hk
  iexists f; isplitr
  · ipureintro; exact hf
  iexact H

/-- A whole-vector store overlays the payload at the rectangle's indices. -/
theorem wp_store' {cs : CoreSpace} {m : Memref sig c.2.kind cs s e} {r : Rect s} {w : r.shape.Idx → Val e} {hx hm}
    {k : PUnit → Prog (TpuEff nD τ sig Val Λ c.2) α} (hS : r.set ⊆ R) :
    (held c m fullShare R X : sProp 𝕄) ⊢ iprop((held c m fullShare R (r.overlay X w) -∗ wp frame (wpE defs 𝒱 c bd) Es (k ⟨⟩) Q) -∗
      wp frame (wpE defs 𝒱 c bd) Es (Prog.lift (.store m r w Finset.univ hx hm) >>= k) Q) := by
  unfold held
  iintro ⟨%f, %hf, H⟩ Hk
  have hs : (m.access r).setOn Finset.univ ⊆ m.view.setOn R := by
    rw [View.setOn_univ, show (m.access r).set = (m.view.slice r).set from rfl, View.set_slice]
    exact Finset.map_subset_map.mpr hS
  iapply (wp_store 𝒱 c bd Es (k := k) (hx := hx) (hm := hm) (w := w) (S := m.view.setOn R) hs) $$ H
  iintro H
  iapply Hk
  iexists _; isplitr
  rotate_left
  · iexact H
  · ipureintro
    intro x hx
    by_cases hr : x ∈ r.set
    · obtain ⟨j, -, rfl⟩ := Finset.mem_map.mp (by rw [Rect.map_emb_univ]; exact hr : x ∈ Finset.univ.map r.emb)
      refine (View.read_slice_write_emb (v := m.view) r f w (Finset.mem_univ j)).trans ?_
      rw [Rect.overlay_emb]
    · refine (View.read_slice_write_of_not_mem (v := m.view) r f w Finset.univ (by rwa [Rect.map_emb_univ])).trans ?_
      rw [Rect.overlay_of_not_mem _ _ _ hr]
      exact hf x hx

/-- A scalar load. -/
theorem wp_smemLoad' {m : Memref sig c.2.kind .smem s e} {r : Rect s} {h1 : r.shape.numel = 1} {hp : e.packing = 1} {k : Val e → Prog (TpuEff nD τ sig Val Λ c.2) α} {i : s.Idx}
    (hi : r.emb (Shape.Idx.first (h1.symm ▸ Nat.one_pos)) = i) (hR : R = Finset.univ) :
    (held c m q R X : sProp 𝕄) ⊢ iprop((held c m q R X -∗ wp frame (wpE defs 𝒱 c bd) Es (k (X i)) Q) -∗
      wp frame (wpE defs 𝒱 c bd) Es (smemLoad m r h1 hp >>= k) Q) := by
  subst hR; subst hi
  exact wp_load' (m := m) (k := fun f => k (f (Shape.Idx.first (h1.symm ▸ Nat.one_pos)))) (Finset.subset_univ _)

/-- An assumption that holds. -/
theorem wp_assume' {P : Prop} {d : Decidable P} {k : PLift P → Prog (TpuEff nD τ sig Val Λ c.2) α} (h : P) :
    wp (M := 𝕄) frame (wpE defs 𝒱 c bd) Es (k ⟨h⟩) Q ⊢ wp frame (wpE defs 𝒱 c bd) Es (Prog.lift (.assume P d) >>= k) Q :=
  wp_assume 𝒱 c bd Es h

/-- The program has returned. -/
theorem wp_pure' {a : α} : Q a ⊢ wp (M := 𝕄) frame (wpE (Λ := Λ) defs 𝒱 c bd) Es (pure a) Q := by
  rw [wp_pure]; exact BI.fupd_intro

/-! ## Copies -/

variable (EC : UEmb Counters (MT nD τ sig Ix Val Name U Lvl))

variable (c) in
/-- A copy in flight on the cell `sm`: when it lands, `dst` reads `W` on the indices `R'`; the source, whose part under the
    indices `R` is lent to the copy at share `q`, reads `A`. -/
def flying (dst : Memref sig c.2.kind sp' s' e) (R' : Finset s'.Idx) (W : s'.Idx → Val e)
    (src : Memref sig c.2.kind sp s e) (q : PosShare TreeShare) (A : s.Idx → Val e) (sm : SemLoc sig) (ι : Ix) (N : ℕ) : sProp 𝕄 :=
  iprop(∃ R : Finset s.Idx, Flight EC c sm ι N iprop(held c dst fullShare R' W ∗ held c src q R A) ∗ held c src q (Finset.univ \ R) A)

variable {dst : Memref sig c.2.kind sp' s' e} {src : Memref sig c.2.kind sp s e} {W W₀ : s'.Idx → Val e} {A : s.Idx → Val e}

/-- A copy started from a rectangle of `src` into a rectangle of `dst`, each seen at the shape `t`. -/
theorem wp_start [Infinite Name] [EC.LandsIn (upEmb : UEmb _ 𝕄)] {r' : Rect s'} {r : Rect s} {hr' : ∀ a, r'.stride a = 1} {hr : ∀ a, r.stride a = 1}
    {ht' : r'.shape.Squeezes t} {ht : r.shape.Squeezes t} {sem : DmaSem sig} {hsrc hdst hsem} {R' : Finset s'.Idx}
    {k : PUnit → Prog (TpuEff nD τ sig Val Λ c.2) α} (ι : Ix) {N : ℕ} (hN0 : 0 < t.numel)
    (hN : ((dst.slice r' hr').squeeze t ht').view.dmaCredit = N)
    (hR' : r'.set = R')
    (hW : ∀ y : t.Idx, W (r'.emb (Shape.reshapeEquiv ht'.numel_eq y)) = A (r.emb (Shape.reshapeEquiv ht.numel_eq y))) :
    iprop(held c dst fullShare R' W₀ ∗ held c src q Finset.univ A ∗ semVal (c, .dma sem) 0) ⊢
      iprop((flying c EC dst R' W src q A (.dma sem) ι N -∗ wp frame (wpE defs 𝒱 c bd) Set.univ (k ⟨⟩) Q) -∗
        wp frame (wpE defs 𝒱 c bd) Set.univ
          (Prog.lift (.enqueueDma ((src.slice r hr).squeeze t ht) (.here ((dst.slice r' hr').squeeze t ht')) (.dma sem) hsrc hdst hsem) >>= k) Q) := by
  unfold held
  iintro ⟨⟨%fd, %hfd, Hd⟩, ⟨%fs, %hfs, Hs⟩, Hv⟩ Hk
  have hset : ∀ {κ : Kind} {sq : Space} {s₁ : Shape} (mm : Memref sig κ sq s₁ e) (r₁ : Rect s₁) (h₁ : ∀ a, r₁.stride a = 1) (h₂ : r₁.shape.Squeezes t),
      ((mm.slice r₁ h₁).squeeze t h₂).view.set = mm.view.setOn r₁.set := by
    intro κ sq s₁ mm r₁ h₁ h₂
    exact (View.set_reshape (v := mm.view.slice r₁) (h := h₂.numel_eq)).trans (View.set_slice ..)
  ihave Hs' := (show (src.view.loc c ↦[src.view.setOn Finset.univ]{q} fs : sProp 𝕄) ⊢
      iprop((src.view.loc c ↦[src.view.setOn r.set]{q} fs) ∗ (src.view.loc c ↦[src.view.setOn (Finset.univ \ r.set)]{q} fs)) from by
    have e : src.view.setOn (Finset.univ \ r.set) = src.view.setOn Finset.univ \ src.view.setOn r.set := by
      unfold View.setOn; rw [← Finset.map_sdiff]
    rw [e]
    exact (pointsTo_split_subset (Finset.map_subset_map.mpr (Finset.subset_univ _))).1) $$ Hs
  icases Hs' with ⟨Hs1, Hs2⟩
  have hvia : ∀ y : t.Idx, dst.view.read Val
      (((dst.slice r' hr').squeeze t ht').view.write Val fd (((src.slice r hr).squeeze t ht).view.read Val fs) Finset.univ)
        (r'.emb (Shape.reshapeEquiv ht'.numel_eq y))
      = A (r.emb (Shape.reshapeEquiv ht.numel_eq y)) := fun y =>
    (View.read_write_of_mem (v := ((dst.slice r' hr').squeeze t ht').view) _ _ (Finset.mem_univ y)).trans (hfs _ (Finset.mem_univ _))
  iapply (wp_dmaLocal EC 𝒱 c bd (src := (src.slice r hr).squeeze t ht) (dst := (dst.slice r' hr').squeeze t ht') (via := .same)
    (sm := .dma sem) (k := k) (q := q) (fs := fs) (fd := fd) (Sd := dst.view.setOn R') ι N hN (by rw [← hN]; exact View.dmaCredit_pos _ hN0)
    (by rw [hset, hR'])) $$ [Hs1 Hd Hv]
  · isplitl [Hs1]
    · rw [hset]; iexact Hs1
    isplitl [Hd]
    · iexact Hd
    iexact Hv
  iintro Hf
  iapply Hk
  unfold flying
  iexists r.set
  isplitl [Hf]
  · iapply (Flight_mono EC c (ι := ι) ?_) $$ Hf
    iintro ⟨Hd, Hs⟩
    rw [hset]
    isplitl [Hd]
    · unfold held
      iexists _; isplitr
      rotate_left
      · iexact Hd
      · ipureintro
        intro x hx
        rw [← hR', ← Rect.map_emb_univ] at hx
        obtain ⟨j, -, rfl⟩ := Finset.mem_map.mp hx
        obtain ⟨y, rfl⟩ := (Shape.reshapeEquiv ht'.numel_eq).surjective j
        exact (hvia y).trans (hW y).symm
    · unfold held
      iexists fs; isplitr
      · ipureintro; exact fun x _ => hfs x (Finset.mem_univ x)
      iexact Hs
  · unfold held
    iexists fs; isplitr
    · ipureintro; exact fun x _ => hfs x (Finset.mem_univ x)
    iexact Hs2

/-- The wait for it: the landed elements, the source whole again, the cell at zero. -/
theorem wp_wait [EC.LandsIn (upEmb : UEmb _ 𝕄)] {s₁ : Shape} {e₁ : EltTy} {κ' : Kind} {spw spw' : Space} {sem : DmaSem sig}
    {srcw : Memref sig c.2.kind spw s₁ e₁} {dstw : Memref sig κ' spw' t e} {hsrc : srcw.view.WordExact} {hdst : dstw.view.WordExact}
    {R' : Finset s'.Idx} {Ws : Waits sig Ix}
    {k : PUnit → Prog (TpuEff nD τ sig Val Λ c.2) α} (ι : Ix) {N : ℕ} (hN : dstw.view.dmaCredit = N) :
    iprop(flying c EC dst R' W src q A (.dma sem) ι N ∗ owes c 0 Ws) ⊢
      iprop((iprop(held c dst fullShare R' W ∗ held c src q Finset.univ A ∗ semVal (c, .dma sem) 0 ∗ (∃ Ws, owes c 0 Ws)) -∗
          wp frame (wpE defs 𝒱 c bd) Set.univ (k ⟨⟩) Q) -∗
        wp frame (wpE defs 𝒱 c bd) Set.univ (Prog.lift (.waitDma2 sem srcw dstw hsrc hdst) >>= k) Q) := by
  classical
  unfold flying
  iintro ⟨⟨%R, Hf, Hr⟩, HO⟩ Hk
  iapply (wp_waitLocal EC 𝒱 c bd (srcw := srcw) (dstw := dstw) (k := k) ι hN) $$ [Hf HO]
  · isplitl [Hf]; · iexact Hf
    iexact HO
  iintro ⟨⟨Hd, Hs⟩, Hv, HO⟩
  iapply Hk
  isplitl [Hd]; · iexact Hd
  isplitl [Hs Hr]
  · ihave H := (held_join (Finset.disjoint_sdiff)) $$ [Hs Hr]
    · isplitl [Hs]; · iexact Hs
      iexact Hr
    rw [Finset.union_sdiff_of_subset (Finset.subset_univ R), show R.piecewise A A = A from Finset.piecewise_same ..]
    iexact H
  isplitl [Hv]; · iexact Hv
  iexists _; iexact HO

end Cert.Held
-- ==== Proof.Copies.lean ====
/-
  The kernel's copies: rows `lo … lo + l` of one expert's matrix, out of an array of matrices, into one of the two slots of a
  buffer. A cell of the pipeline is at rest (`rest3`), in flight (`fly3`) or landed (`here3`); `start3` and `wait3` are the
  moves between these.
-/
module

public import proofs.«01_k».proof.Proof.Held
public import Idealize.ShloMosaic.Lib.Pointwise.Index

@[expose] public section

noncomputable section

namespace Cert.Held

open Idealize.ShloMosaic Idealize.ShloMosaic.Transfers
open Idealize.SL Idealize.SL.RA Idealize.SL.Sem Idealize.SL.ProofMode
open Idealize.SL.BI (sProp)
open scoped Idealize.SL.BI
open Idealize.SL.BI.BIBase Idealize.SL.BI.Laws

variable {nD : Nat} {τ : Topo} {sig : RefSig} {Val : EltTy → Type} {Name : Type} [DecidableEq Name] [Infinite Name]
variable {U : Type} [URA U] {Lvl : Type} [Preorder Lvl]
local notation "𝕄" => MT nD τ sig Unit Val Name U Lvl

/-- Rows `lo … lo + l` of slot `s`. -/
def rows {n0 n1 n2 : ℕ} (s : Fin n0) (lo l : ℕ) : Finset (⟨3, ![n0, n1, n2]⟩ : Shape).Idx :=
  Finset.univ.filter fun x => (x 0).val = s.val ∧ lo ≤ (x 1).val ∧ (x 1).val < lo + l

/-- Matrix `ex` of `A`, read under an index of either slot. -/
def landed {n0 n1 n2 m0 : ℕ} {α : Type} (A : (⟨3, ![m0, n1, n2]⟩ : Shape).Idx → α) (ex : Fin m0) :
    (⟨3, ![n0, n1, n2]⟩ : Shape).Idx → α :=
  fun x => A (ix3 ex (x 1) (x 2))

/-- The semaphore of an array of two axes. -/
def semAt {n0 n1 : ℕ} {α : Type} (a : SemArray α ⟨2, ![n0, n1]⟩) (s : Fin n0) (j : Fin n1) : α := a.ix (ix2 s j)

/-- The semaphore a slice through one element names. -/
theorem sem_eq {n0 n1 : ℕ} {α : Type} (a : SemArray α ⟨2, ![n0, n1]⟩) (s : Fin n0) (j : Fin n1) {off : Fin 2 → ℕ} {inb}
    {h : (Rect.unit (s := ⟨2, ![n0, n1]⟩) off ![1, 1] inb).shape.Squeezes ⟨0, ![]⟩} (ho : off = ![s.val, j.val]) :
    ((a.slice (Rect.unit (s := ⟨2, ![n0, n1]⟩) off ![1, 1] inb)).squeeze ⟨0, ![]⟩ h).sem = semAt a s j := by
  subst ho
  unfold semAt
  show a.ix _ = a.ix _
  congr 1
  funext b
  apply Fin.ext
  rw [Rect.emb_apply]
  match b with
  | ⟨0, _⟩ => exact (congrArg (fun z => s.val + 1 * z) (Nat.lt_one_iff.mp (Fin.isLt _))).trans (by simp)
  | ⟨1, _⟩ => exact (congrArg (fun z => j.val + 1 * z) (Nat.lt_one_iff.mp (Fin.isLt _))).trans (by simp)

variable {c : Thread nD τ} {sp sp' : Space} {e : EltTy} {n0 n1 n2 m0 : ℕ}

variable (c) in
/-- The cell at rest: the rows hold anything, the source may be read, the semaphore is at zero. -/
def rest3 (dst : Memref sig c.2.kind sp' ⟨3, ![n0, n1, n2]⟩ e) (s : Fin n0) (lo l : ℕ)
    (src : Memref sig c.2.kind sp ⟨3, ![m0, n1, n2]⟩ e) (q : PosShare TreeShare) (A : (⟨3, ![m0, n1, n2]⟩ : Shape).Idx → Val e)
    (σ : DmaSem sig) : sProp 𝕄 :=
  iprop((∃ X, held c dst fullShare (rows s lo l) X) ∗ held c src q Finset.univ A ∗ semVal (c, .dma σ) 0)

variable (c) in
/-- The cell landed: the rows hold matrix `ex`. -/
def here3 (dst : Memref sig c.2.kind sp' ⟨3, ![n0, n1, n2]⟩ e) (s : Fin n0) (lo l : ℕ)
    (src : Memref sig c.2.kind sp ⟨3, ![m0, n1, n2]⟩ e) (q : PosShare TreeShare) (A : (⟨3, ![m0, n1, n2]⟩ : Shape).Idx → Val e)
    (σ : DmaSem sig) (ex : Fin m0) : sProp 𝕄 :=
  iprop(held c dst fullShare (rows s lo l) (landed A ex) ∗ held c src q Finset.univ A ∗ semVal (c, .dma σ) 0)

variable (c) in
/-- The cell in flight: rows of matrix `ex` are on their way. -/
def fly3 (EC : UEmb Counters (MT nD τ sig Unit Val Name U Lvl)) (dst : Memref sig c.2.kind sp' ⟨3, ![n0, n1, n2]⟩ e) (s : Fin n0) (lo l : ℕ)
    (src : Memref sig c.2.kind sp ⟨3, ![m0, n1, n2]⟩ e) (q : PosShare TreeShare) (A : (⟨3, ![m0, n1, n2]⟩ : Shape).Idx → Val e)
    (σ : DmaSem sig) (ex : Fin m0) : sProp 𝕄 :=
  flying c EC dst (rows s lo l) (landed A ex) src q A (.dma σ) () (sig.dmaCredit c.2.kind (c.2.kind.table sp') dst.view.buf ⟨2, ![l, n2]⟩ e)

variable {dst : Memref sig c.2.kind sp' ⟨3, ![n0, n1, n2]⟩ e} {s : Fin n0} {lo l : ℕ}
  {src : Memref sig c.2.kind sp ⟨3, ![m0, n1, n2]⟩ e} {q : PosShare TreeShare} {A : (⟨3, ![m0, n1, n2]⟩ : Shape).Idx → Val e}
  {σ : DmaSem sig} {ex : Fin m0} {EC : UEmb Counters (MT nD τ sig Unit Val Name U Lvl)}
variable {Λ : Labels} {defs : Defs nD τ sig Val Λ} {𝒱 : Variants} {bd : Option 𝒱.V} {α : Type} {Q : α → sProp (MT nD τ sig Unit Val Name U Lvl)}

/-- A landed cell is at rest again once its rows are not needed. -/
theorem rest3_of_here : (here3 c dst s lo l src q A σ ex : sProp 𝕄) ⊢ rest3 c dst s lo l src q A σ := by
  unfold here3 rest3
  iintro ⟨H1, H2, H3⟩
  isplitl [H1]; · iexists _; iexact H1
  isplitl [H2]; · iexact H2
  iexact H3

/-- The start of a copy. -/
theorem start3 [EC.LandsIn (upEmb : UEmb _ 𝕄)] {offd offs : Fin 3 → ℕ} {hd hs} {hd' hs' ht' ht} {sem : DmaSem sig} {hsrc hdst hsem}
    {k : PUnit → Prog (TpuEff nD τ sig Val Λ c.2) α} (hN0 : 0 < l * n2)
    (hoffd : offd = ![s.val, lo, 0]) (hoffs : offs = ![ex.val, lo, 0]) (hsm : sem = σ) :
    (rest3 c dst s lo l src q A σ : sProp 𝕄) ⊢
      iprop((fly3 c EC dst s lo l src q A σ ex -∗ wp frame (wpE defs 𝒱 c bd) Set.univ (k ⟨⟩) Q) -∗
        wp frame (wpE defs 𝒱 c bd) Set.univ
          (Prog.lift (.enqueueDma ((src.slice (Rect.unit (s := ⟨3, ![m0, n1, n2]⟩) offs ![1, l, n2] hs) hs').squeeze ⟨2, ![l, n2]⟩ ht)
            (.here ((dst.slice (Rect.unit (s := ⟨3, ![n0, n1, n2]⟩) offd ![1, l, n2] hd) hd').squeeze ⟨2, ![l, n2]⟩ ht')) (.dma sem) hsrc hdst hsem) >>= k) Q) := by
  subst hsm hoffd hoffs
  unfold rest3 fly3
  iintro ⟨⟨%X, Hd⟩, Hs, Hv⟩
  have key := wp_start (Q := Q) (defs := defs) (𝒱 := 𝒱) (bd := bd) EC (dst := dst) (src := src) (W₀ := X) (q := q)
    (r' := Rect.unit (s := ⟨3, ![n0, n1, n2]⟩) ![s.val, lo, 0] ![1, l, n2] hd) (r := Rect.unit (s := ⟨3, ![m0, n1, n2]⟩) ![ex.val, lo, 0] ![1, l, n2] hs)
    (t := ⟨2, ![l, n2]⟩) (hr' := hd') (hr := hs') (sem := sem) (hsrc := hsrc) (hdst := hdst) (hsem := hsem)
    (R' := rows s lo l) (A := A) (W := landed A ex) (k := k) (ht' := ht') (ht := ht) () (by simpa [Shape.numel] using hN0) rfl
    (by
      ext x
      rw [Rect.mem_set_unit]
      simp only [rows, Finset.mem_filter, Finset.mem_univ, true_and]
      constructor
      · intro h
        have h0 := h 0; have h1 := h 1
        simp at h0 h1
        omega
      · rintro ⟨h0, h1, h2⟩ a
        fin_cases a
        · simp; omega
        · simp; omega
        · simp; exact (x 2).isLt)
    (by
      intro y
      unfold landed
      congr 1
      funext a
      apply Fin.ext
      have h0 : ((Shape.reshapeEquiv ht.numel_eq y) (0 : Fin 3)).val = 0 := Nat.lt_one_iff.mp ((Shape.reshapeEquiv ht.numel_eq y) (0 : Fin 3)).isLt
      match a with
      | ⟨0, _⟩ => rw [Rect.emb_apply]; exact Eq.symm ((congrArg (fun z => ex.val + 1 * z) h0).trans (by simp))
      | ⟨1, _⟩ => rw [Rect.emb_apply]; exact Rect.emb_apply ..
      | ⟨2, _⟩ => rw [Rect.emb_apply]; exact Rect.emb_apply ..)
  iapply key
  isplitl [Hd]; · iexact Hd
  isplitl [Hs]; · iexact Hs
  iexact Hv

/-- The wait for one. -/
theorem wait3 [EC.LandsIn (upEmb : UEmb _ 𝕄)] {offd : Fin 3 → ℕ} {hd} {hd' ht'} {sem : DmaSem sig}
    {s₁ : Shape} {e₁ : EltTy} {spw : Space} {srcw : Memref sig c.2.kind spw s₁ e₁} {hsrc hdst}
    {k : PUnit → Prog (TpuEff nD τ sig Val Λ c.2) α} (hsm : sem = σ) :
    iprop(fly3 c EC dst s lo l src q A σ ex ∗ (∃ W, owes c 0 W)) ⊢
      iprop((iprop(here3 c dst s lo l src q A σ ex ∗ (∃ W, owes c 0 W)) -∗ wp frame (wpE defs 𝒱 c bd) Set.univ (k ⟨⟩) Q) -∗
        wp frame (wpE defs 𝒱 c bd) Set.univ
          (Prog.lift (.waitDma2 sem srcw ((dst.slice (Rect.unit (s := ⟨3, ![n0, n1, n2]⟩) offd ![1, l, n2] hd) hd').squeeze ⟨2, ![l, n2]⟩ ht') hsrc hdst) >>= k) Q : sProp 𝕄) := by
  subst hsm
  unfold fly3 here3
  iintro ⟨Hf, ⟨%W, HO⟩⟩ Hk
  iapply (wp_wait EC (srcw := srcw) (dstw := (dst.slice (Rect.unit (s := ⟨3, ![n0, n1, n2]⟩) offd ![1, l, n2] hd) hd').squeeze ⟨2, ![l, n2]⟩ ht') (k := k) () rfl) $$ [Hf HO]
  · isplitl [Hf]; · iexact Hf
    iexact HO
  iintro ⟨H1, H2, H3, H4⟩
  iapply Hk
  isplitl [H1 H2 H3]
  · isplitl [H1]; · iexact H1
    isplitl [H2]; · iexact H2
    iexact H3
  iexact H4

end Cert.Held
-- ==== Proof.Cells.lean ====
/-
  The kernel's buffers under one name, the cells its copies run on, and the first copies: thirteen per slot, in the order in
  which the kernel starts them.
-/
module

public import proofs.«01_k».proof.Proof.Words
public import proofs.«01_k».proof.Proof.Copies
public import proofs.«01_k».proof.Proof.Gen.KernelIdeal.Skeleton
public import Idealize.ShloMosaic.Lib.Pipeline.FrameBody

@[expose] public section

noncomputable section

namespace Cert.KernelIdeal.Hand

open Cert.KernelIdeal Cert.KernelIdeal.Gen Cert.Held
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (Pipeline.UD sig nD τ) ℕ

/-- The kernel's operands, results and scratch, and its semaphore arrays. -/
structure Refs where
  a0 : Memref sig .tc .smem S6x1x8 .i32
  h0 : a0.IsWhole
  a1 : Memref sig .tc .vmem S6x4096 .bf16
  h1 : a1.IsWhole
  a2 : Memref sig .tc .vmem S6x1x8 .i32
  h2 : a2.IsWhole
  a3 : Memref sig .tc .vmem S6x1x8 .f32
  h3 : a3.IsWhole
  a4 : Memref sig .tc .hbm S47x1536x2048 .i8
  h4 : a4.IsWhole
  a5 : Memref sig .tc .hbm S47x32x1536 .f32
  h5 : a5.IsWhole
  a6 : Memref sig .tc .hbm S47x1536x2048 .i8
  h6 : a6.IsWhole
  a7 : Memref sig .tc .hbm S47x32x1536 .f32
  h7 : a7.IsWhole
  a8 : Memref sig .tc .hbm S47x4096x768 .i8
  h8 : a8.IsWhole
  a9 : Memref sig .tc .hbm S47x12x4096 .f32
  h9 : a9.IsWhole
  a10 : Memref sig .tc .vmem S6x4096 .bf16
  h10 : a10.IsWhole
  a11 : Memref sig .tc .vmem S6x4096 .fp8e4m3
  h11 : a11.IsWhole
  a12 : Memref sig .tc .vmem S6x1x32 .f32
  h12 : a12.IsWhole
  a13 : Memref sig .tc .vmem S6x8x1536 .fp8e4m3
  h13 : a13.IsWhole
  a14 : Memref sig .tc .vmem S6x8x12 .f32
  h14 : a14.IsWhole
  a15 : Memref sig .tc .smem S64 .i32
  h15 : a15.IsWhole
  a16 : Memref sig .tc .smem S64 .i32
  h16 : a16.IsWhole
  a17 : Memref sig .tc .vmem S2x1536x2048 .i8
  h17 : a17.IsWhole
  a18 : Memref sig .tc .vmem S2x32x1536 .f32
  h18 : a18.IsWhole
  a19 : Memref sig .tc .vmem S2x1536x2048 .i8
  h19 : a19.IsWhole
  a20 : Memref sig .tc .vmem S2x32x1536 .f32
  h20 : a20.IsWhole
  a21 : Memref sig .tc .vmem S2x4096x768 .i8
  h21 : a21.IsWhole
  a22 : Memref sig .tc .vmem S2x12x4096 .f32
  h22 : a22.IsWhole
  a23 : Memref sig .tc .vmem S16x4096 .bf16
  h23 : a23.IsWhole
  a24 : Memref sig .tc .vmem S16x1536 .bf16
  h24 : a24.IsWhole
  a25 : Memref sig .tc .vmem S8x1536 .f32
  h25 : a25.IsWhole
  a26 : Memref sig .tc .vmem S48x128 .i32
  h26 : a26.IsWhole
  a27 : Memref sig .tc .vmem S8x128 .i32
  h27 : a27.IsWhole
  a28 : Memref sig .tc .vmem S8x128 .f32
  h28 : a28.IsWhole
  a29 : Memref sig .tc .vmem S48x1536 .f32
  h29 : a29.IsWhole
  a30 : Memref sig .tc .vmem S48x128 .f32
  h30 : a30.IsWhole
  a31 : Memref sig .tc .vmem S8x4096 .f32
  h31 : a31.IsWhole
  a32 : DmaSems sig S2x3
  a33 : DmaSems sig S2x3
  a34 : DmaSems sig S2x4
  a35 : DmaSems sig S2x3

/-- What the six arrays of the weights and their scales hold. -/
structure Arrs (F : FTy → Type) [FloatOps F] where
  A4 : S47x1536x2048.Idx → Elt F .i8
  A5 : S47x32x1536.Idx → Elt F .f32
  A6 : S47x1536x2048.Idx → Elt F .i8
  A7 : S47x32x1536.Idx → Elt F .f32
  A8 : S47x4096x768.Idx → Elt F .i8
  A9 : S47x12x4096.Idx → Elt F .f32

/-- What a copy's cell is doing. -/
inductive St where
  | rest
  | fly (e : Fin 47)
  | here (e : Fin 47)

variable (c : Dev nD)

/-- The transfers' counters. -/
abbrev EC : UEmb Counters 𝕄 := countersEmb (U := Pipeline.UD sig nD τ)

/-- A cell in one of its three states. -/
def cell {sp sp' : Space} {e : EltTy} {n0 n1 n2 m0 : ℕ} (hm : m0 = 47) (dst : Memref sig .tc sp' ⟨3, ![n0, n1, n2]⟩ e) (s : Fin n0) (lo l : ℕ)
    (src : Memref sig .tc sp ⟨3, ![m0, n1, n2]⟩ e) (q : PosShare TreeShare) (A : (⟨3, ![m0, n1, n2]⟩ : Shape).Idx → Elt F e)
    (σ : DmaSem sig) : St → sProp 𝕄
  | .rest => rest3 (c : Thread nD τ) dst s lo l src q A σ
  | .fly ex => fly3 (c : Thread nD τ) (EC (F := F)) dst s lo l src q A σ (ex.cast hm.symm)
  | .here ex => here3 (c : Thread nD τ) dst s lo l src q A σ (ex.cast hm.symm)

variable (r : Refs) (q : Fin 2 → Fin 13 → PosShare TreeShare) (a : Arrs F)

def cSg (s : Fin 2) (t : St) : sProp 𝕄 := cell c rfl r.a18 s 0 32 r.a5 (q s 0) a.A5 (semAt r.a35 s 0) t
def cSu (s : Fin 2) (t : St) : sProp 𝕄 := cell c rfl r.a20 s 0 32 r.a7 (q s 1) a.A7 (semAt r.a35 s 1) t
def cSd (s : Fin 2) (t : St) : sProp 𝕄 := cell c rfl r.a22 s 0 12 r.a9 (q s 2) a.A9 (semAt r.a35 s 2) t
def cG (s : Fin 2) (j : Fin 3) (t : St) : sProp 𝕄 :=
  cell c rfl r.a17 s (512 * j.val) 512 r.a4 (q s ⟨3 + j.val, by omega⟩) a.A4 (semAt r.a32 s j) t
def cU (s : Fin 2) (j : Fin 3) (t : St) : sProp 𝕄 :=
  cell c rfl r.a19 s (512 * j.val) 512 r.a6 (q s ⟨6 + j.val, by omega⟩) a.A6 (semAt r.a33 s j) t
def cD (s : Fin 2) (j : Fin 4) (t : St) : sProp 𝕄 :=
  cell c rfl r.a21 s (1024 * j.val) 1024 r.a8 (q s ⟨9 + j.val, by omega⟩) a.A8 (semAt r.a34 s j) t

/-- A memref held whole at contents not named. -/
def any {sp : Space} {s : Shape} {e : EltTy} (m : Memref sig .tc sp s e) : sProp 𝕄 :=
  iprop(∃ X, held (c : Thread nD τ) m fullShare Finset.univ X)

/-- A memref held whole at contents `X`. -/
abbrev at_ {sp : Space} {s : Shape} {e : EltTy} (m : Memref sig .tc sp s e) (X : s.Idx → Elt F e) : sProp 𝕄 :=
  held (c : Thread nD τ) m fullShare Finset.univ X

abbrev wpc {α : Type} (p : Prog (TpuEff nD τ sig (Elt F) Λ₀ .tc) α) (Q : α → sProp 𝕄) : sProp 𝕄 :=
  wp frame (wpE (defs₀ (F := F)) Variants.none (c : Thread nD τ) none) Set.univ p Q

/-- The start of a copy on a cell at rest. -/
theorem cell_start {α : Type} {Q : α → sProp 𝕄} {sp sp' : Space} {e : EltTy} {n0 n1 n2 m0 : ℕ} {hm : m0 = 47} {dst : Memref sig .tc sp' ⟨3, ![n0, n1, n2]⟩ e} {s : Fin n0} {lo l : ℕ}
    {src : Memref sig .tc sp ⟨3, ![m0, n1, n2]⟩ e} {q : PosShare TreeShare} {A : (⟨3, ![m0, n1, n2]⟩ : Shape).Idx → Elt F e}
    {σ : DmaSem sig} (ex : Fin 47) {offd offs : Fin 3 → ℕ} {hd hs} {hd' hs' ht' ht} {sem : DmaSem sig} {hsrc hdst hsem}
    {k : PUnit → Prog (TpuEff nD τ sig (Elt F) Λ₀ .tc) α} (hN0 : 0 < l * n2)
    (hoffd : offd = ![s.val, lo, 0]) (hoffs : offs = ![ex.val, lo, 0]) (hsm : sem = σ) :
    cell (F := F) c hm dst s lo l src q A σ .rest ⊢
      iprop((cell c hm dst s lo l src q A σ (.fly ex) -∗ wpc c (k ⟨⟩) Q) -∗
        wpc c (Prog.lift (.enqueueDma ((src.slice (Rect.unit (s := ⟨3, ![m0, n1, n2]⟩) offs ![1, l, n2] hs) hs').squeeze ⟨2, ![l, n2]⟩ ht)
            (.here ((dst.slice (Rect.unit (s := ⟨3, ![n0, n1, n2]⟩) offd ![1, l, n2] hd) hd').squeeze ⟨2, ![l, n2]⟩ ht')) (.dma sem) hsrc hdst hsem) >>= k) Q) :=
  start3 (EC := EC (F := F)) (ex := ex.cast hm.symm) hN0 hoffd hoffs hsm

/-- The wait for it. -/
theorem cell_wait {α : Type} {Q : α → sProp 𝕄} {sp sp' : Space} {e : EltTy} {n0 n1 n2 m0 : ℕ} {hm : m0 = 47} {dst : Memref sig .tc sp' ⟨3, ![n0, n1, n2]⟩ e} {s : Fin n0} {lo l : ℕ}
    {src : Memref sig .tc sp ⟨3, ![m0, n1, n2]⟩ e} {q : PosShare TreeShare} {A : (⟨3, ![m0, n1, n2]⟩ : Shape).Idx → Elt F e}
    {σ : DmaSem sig} {ex : Fin 47} {offd : Fin 3 → ℕ} {hd} {hd' ht'} {sem : DmaSem sig}
    {s₁ : Shape} {e₁ : EltTy} {spw : Space} {srcw : Memref sig .tc spw s₁ e₁} {hsrc hdst}
    {k : PUnit → Prog (TpuEff nD τ sig (Elt F) Λ₀ .tc) α} (hsm : sem = σ) :
    iprop(cell c hm dst s lo l src q A σ (.fly ex) ∗ (∃ W, owes (c : Thread nD τ) 0 W)) ⊢
      iprop((iprop(cell c hm dst s lo l src q A σ (.here ex) ∗ (∃ W, owes (c : Thread nD τ) 0 W)) -∗ wpc c (k ⟨⟩) Q) -∗
        wpc c (Prog.lift (.waitDma2 sem srcw ((dst.slice (Rect.unit (s := ⟨3, ![n0, n1, n2]⟩) offd ![1, l, n2] hd) hd').squeeze ⟨2, ![l, n2]⟩ ht') hsrc hdst) >>= k) Q : sProp 𝕄) :=
  wait3 (EC := EC (F := F)) hsm

/-- A landed cell is at rest again once its rows are not needed. -/
theorem cell_rest {sp sp' : Space} {e : EltTy} {n0 n1 n2 m0 : ℕ} {hm : m0 = 47} {dst : Memref sig .tc sp' ⟨3, ![n0, n1, n2]⟩ e} {s : Fin n0} {lo l : ℕ}
    {src : Memref sig .tc sp ⟨3, ![m0, n1, n2]⟩ e} {q : PosShare TreeShare} {A : (⟨3, ![m0, n1, n2]⟩ : Shape).Idx → Elt F e}
    {σ : DmaSem sig} {ex : Fin 47} : cell c hm dst s lo l src q A σ (.here ex) ⊢ (cell c hm dst s lo l src q A σ .rest : sProp 𝕄) :=
  rest3_of_here

end Cert.KernelIdeal.Hand
-- ==== Proof.First.lean ====
/-
  The copies of the first expert, started before the scan of the expert ids.
-/
module

public import proofs.«01_k».proof.Proof.Cells
public import proofs.«01_k».proof.Proof.Copies
public import proofs.«01_k».proof.Proof.Gen.KernelIdeal.Skeleton
public import Idealize.ShloMosaic.Lib.Pipeline.FrameBody

@[expose] public section

noncomputable section

namespace Cert.KernelIdeal.Hand

open Cert.KernelIdeal Cert.KernelIdeal.Gen Cert.Held
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (Pipeline.UD sig nD τ) ℕ

variable (c : Dev nD) (r : Refs) (q : Fin 2 → Fin 13 → PosShare TreeShare) (a : Arrs F)

theorem e_toNat (e : Fin 47) : (BitVec.ofNat 32 e.val).toNat = e.val := by
  rw [BitVec.toNat_ofNat]; exact Nat.mod_eq_of_lt (by omega)

theorem part25_spec {e : Fin 47} {X0 : S6x1x8.Idx → Elt F .i32} (h0 : X0 (ix3 0 0 0) = BitVec.ofNat 32 e.val) {Q} :
    iprop(at_ c r.a0 X0 ∗ cSg c r q a 0 .rest ∗ cSu c r q a 0 .rest ∗ cG c r q a 0 0 .rest) ⊢
      iprop((iprop(at_ c r.a0 X0 ∗ cSg c r q a 0 (.fly e) ∗ cSu c r q a 0 (.fly e) ∗ cG c r q a 0 0 (.fly e)) -∗ Q ⟨BitVec.ofNat 32 e.val, chk1_small e⟩) -∗
        wpc c (k0_part25 (F := F)  r.a0 r.h0 r.a1 r.h1 r.a2 r.h2 r.a3 r.h3 r.a4 r.h4 r.a5 r.h5 r.a6 r.h6 r.a7 r.h7 r.a8 r.h8 r.a9 r.h9 r.a10 r.h10 r.a11 r.h11 r.a12 r.h12 r.a13 r.h13 r.a14 r.h14 r.a15 r.h15 r.a16 r.h16 r.a17 r.h17 r.a18 r.h18 r.a19 r.h19 r.a20 r.h20 r.a21 r.h21 r.a22 r.h22 r.a23 r.h23 r.a24 r.h24 r.a25 r.h25 r.a26 r.h26 r.a27 r.h27 r.a28 r.h28 r.a29 r.h29 r.a30 r.h30 r.a31 r.h31 r.a32 r.a33 r.a34 r.a35) Q) := by
  rw [k0_part25_eq_skeleton]; unfold k0_part25_skel
  iintro ⟨H0, Hsg, Hsu, Hg⟩ Hk
  iapply (wp_smemLoad' (i := ix3 0 0 0) (by decide) rfl) $$ H0
  iintro H0
  rw [h0]
  iapply (wp_assume' (chk1_small e))
  dsimp only
  unfold cSg cSu cG
  iapply (cell_start c e (by decide) rfl (by unfold k0_off1; simp only [e_toNat]) (sem_eq _ _ _ rfl)) $$ Hsg
  iintro Hsg
  iapply (cell_start c e (by decide) rfl (by unfold k0_off1; simp only [e_toNat]) (sem_eq _ _ _ rfl)) $$ Hsu
  iintro Hsu
  iapply (cell_start c e (by decide) rfl (by unfold k0_off2; simp only [e_toNat]; try rfl) (sem_eq _ _ _ rfl)) $$ Hg
  iintro Hg
  iapply wp_pure'
  iapply Hk
  isplitl [H0]; · iexact H0
  isplitl [Hsg]; · iexact Hsg
  isplitl [Hsu]; · iexact Hsu
  iexact Hg

theorem part26_spec {e : Fin 47} {hw} {Q} :
    iprop(cU c r q a 0 0 .rest ∗ cG c r q a 0 1 .rest ∗ cU c r q a 0 1 .rest ∗ cG c r q a 0 2 .rest ∗ cU c r q a 0 2 .rest) ⊢
      iprop((iprop(cU c r q a 0 0 (.fly e) ∗ cG c r q a 0 1 (.fly e) ∗ cU c r q a 0 1 (.fly e) ∗ cG c r q a 0 2 (.fly e) ∗ cU c r q a 0 2 (.fly e)) -∗ Q ⟨⟩) -∗ wpc c (k0_part26 (F := F)  r.a0 r.h0 r.a1 r.h1 r.a2 r.h2 r.a3 r.h3 r.a4 r.h4 r.a5 r.h5 r.a6 r.h6 r.a7 r.h7 r.a8 r.h8 r.a9 r.h9 r.a10 r.h10 r.a11 r.h11 r.a12 r.h12 r.a13 r.h13 r.a14 r.h14 r.a15 r.h15 r.a16 r.h16 r.a17 r.h17 r.a18 r.h18 r.a19 r.h19 r.a20 r.h20 r.a21 r.h21 r.a22 r.h22 r.a23 r.h23 r.a24 r.h24 r.a25 r.h25 r.a26 r.h26 r.a27 r.h27 r.a28 r.h28 r.a29 r.h29 r.a30 r.h30 r.a31 r.h31 r.a32 r.a33 r.a34 r.a35 (BitVec.ofNat 32 e.val) hw) Q) := by
  rw [k0_part26_eq_skeleton]; unfold k0_part26_skel
  unfold cG cU
  iintro ⟨H0, H1, H2, H3, H4⟩ Hk
  iapply (cell_start c e (by decide) rfl (by unfold k0_off2; simp only [e_toNat]; try rfl) (sem_eq _ _ _ rfl)) $$ H0
  iintro H0
  iapply (cell_start c e (by decide) rfl (by unfold k0_off3; simp only [e_toNat]; try rfl) (sem_eq _ _ _ rfl)) $$ H1
  iintro H1
  iapply (cell_start c e (by decide) rfl (by unfold k0_off3; simp only [e_toNat]; try rfl) (sem_eq _ _ _ rfl)) $$ H2
  iintro H2
  iapply (cell_start c e (by decide) rfl (by unfold k0_off4; simp only [e_toNat]; try rfl) (sem_eq _ _ _ rfl)) $$ H3
  iintro H3
  iapply (cell_start c e (by decide) rfl (by unfold k0_off4; simp only [e_toNat]; try rfl) (sem_eq _ _ _ rfl)) $$ H4
  iintro H4
  iapply wp_pure'
  iapply Hk
  isplitl [H0]; · iexact H0
  isplitl [H1]; · iexact H1
  isplitl [H2]; · iexact H2
  isplitl [H3]; · iexact H3
  iexact H4

theorem part27_spec {e : Fin 47} {hw} {Q} :
    iprop(cSd c r q a 0 .rest ∗ cD c r q a 0 0 .rest ∗ cD c r q a 0 1 .rest ∗ cD c r q a 0 2 .rest) ⊢
      iprop((iprop(cSd c r q a 0 (.fly e) ∗ cD c r q a 0 0 (.fly e) ∗ cD c r q a 0 1 (.fly e) ∗ cD c r q a 0 2 (.fly e)) -∗ Q ⟨⟩) -∗ wpc c (k0_part27 (F := F)  r.a0 r.h0 r.a1 r.h1 r.a2 r.h2 r.a3 r.h3 r.a4 r.h4 r.a5 r.h5 r.a6 r.h6 r.a7 r.h7 r.a8 r.h8 r.a9 r.h9 r.a10 r.h10 r.a11 r.h11 r.a12 r.h12 r.a13 r.h13 r.a14 r.h14 r.a15 r.h15 r.a16 r.h16 r.a17 r.h17 r.a18 r.h18 r.a19 r.h19 r.a20 r.h20 r.a21 r.h21 r.a22 r.h22 r.a23 r.h23 r.a24 r.h24 r.a25 r.h25 r.a26 r.h26 r.a27 r.h27 r.a28 r.h28 r.a29 r.h29 r.a30 r.h30 r.a31 r.h31 r.a32 r.a33 r.a34 r.a35 (BitVec.ofNat 32 e.val) hw) Q) := by
  rw [k0_part27_eq_skeleton]; unfold k0_part27_skel
  unfold cD cSd
  iintro ⟨H0, H1, H2, H3⟩ Hk
  iapply (cell_start c e (by decide) rfl (by unfold k0_off5; simp only [e_toNat]; try rfl) (sem_eq _ _ _ rfl)) $$ H0
  iintro H0
  iapply (cell_start c e (by decide) rfl (by unfold k0_off6; simp only [e_toNat]; try rfl) (sem_eq _ _ _ rfl)) $$ H1
  iintro H1
  iapply (cell_start c e (by decide) rfl (by unfold k0_off7; simp only [e_toNat]; try rfl) (sem_eq _ _ _ rfl)) $$ H2
  iintro H2
  iapply (cell_start c e (by decide) rfl (by unfold k0_off8; simp only [e_toNat]; try rfl) (sem_eq _ _ _ rfl)) $$ H3
  iintro H3
  iapply wp_pure'
  iapply Hk
  isplitl [H0]; · iexact H0
  isplitl [H1]; · iexact H1
  isplitl [H2]; · iexact H2
  iexact H3

end Cert.KernelIdeal.Hand
-- ==== Proof.Scan.lean ====
/-
  The scan of the expert ids: the distinct experts in the order in which they are first named.
-/
module

public import proofs.«01_k».proof.Proof.Cells
public import proofs.«01_k».proof.Proof.First
public import proofs.«01_k».proof.Proof.Gen.KernelIdeal.Skeleton
public import Idealize.ShloMosaic.Lib.Pipeline.FrameBody

@[expose] public section

noncomputable section

namespace Cert.KernelIdeal.Hand

open Cert.KernelIdeal Cert.KernelIdeal.Gen Cert.Held
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (Pipeline.UD sig nD τ) ℕ

variable (c : Dev nD) (r : Refs)

/-- The distinct experts among the first `i` ids, in the order in which they are first named. -/
def scanL (ids : ℕ → Fin 47) : ℕ → List (Fin 47)
  | 0 => []
  | i + 1 => if ids i ∈ scanL ids i then scanL ids i else scanL ids i ++ [ids i]

theorem scanL_length (ids : ℕ → Fin 47) : ∀ i, (scanL ids i).length ≤ i
  | 0 => le_rfl
  | i + 1 => by
    have := scanL_length ids i
    unfold scanL; split
    · omega
    · simp; omega

theorem scanL_nodup (ids : ℕ → Fin 47) : ∀ i, (scanL ids i).Nodup
  | 0 => List.nodup_nil
  | i + 1 => by
    have := scanL_nodup ids i
    unfold scanL; split
    · exact this
    · rename_i h; exact List.nodup_append.mpr ⟨this, List.nodup_singleton _, by
        intro x hx y hy hxy; rw [List.mem_singleton] at hy; exact h (by rw [← hy, ← hxy]; exact hx)⟩

theorem mem_scanL (ids : ℕ → Fin 47) (e : Fin 47) : ∀ i, e ∈ scanL ids i ↔ ∃ j < i, ids j = e
  | 0 => by simp [scanL]
  | i + 1 => by
    have h := mem_scanL ids e i
    have key : e ∈ scanL ids (i + 1) ↔ e ∈ scanL ids i ∨ e = ids i := by
      rw [scanL]; split
      · rename_i h'; exact ⟨Or.inl, fun hh => hh.elim id (fun h2 => h2 ▸ h')⟩
      · simp
    rw [key, h]
    constructor
    · rintro (⟨j, hj, rfl⟩ | rfl)
      · exact ⟨j, by omega, rfl⟩
      · exact ⟨i, by omega, rfl⟩
    · rintro ⟨j, hj, rfl⟩
      rcases Nat.lt_succ_iff_lt_or_eq.mp hj with h2 | rfl
      · exact Or.inl ⟨j, h2, rfl⟩
      · exact Or.inr rfl

theorem scanL_head (ids : ℕ → Fin 47) : ∀ i, (scanL ids (i + 1))[0]? = some (ids 0)
  | 0 => by simp [scanL]
  | i + 1 => by
    have h := scanL_head ids i
    rw [scanL]; split
    · exact h
    · rw [List.getElem?_append_left]
      · exact h
      · by_contra hc
        rw [List.getElem?_eq_none (by omega)] at h
        exact absurd h (by simp)

/-- The marks after `i` ids: one at the experts named, zero elsewhere. -/
def Marks (ids : ℕ → Fin 47) (i : ℕ) (X : S64.Idx → Elt F .i32) : Prop :=
  ∀ e : Fin 47, X (ix1 ⟨e.val, by omega⟩) = if e ∈ scanL ids i then 1#32 else 0#32

/-- The list after `i` ids. -/
def Listed (L : List (Fin 47)) (X : S64.Idx → Elt F .i32) : Prop :=
  ∀ k : Fin 64, ∀ h : k.val < L.length, X (ix1 k) = BitVec.ofNat 32 (L[k.val]).val

theorem overlay_one (X : S64.Idx → Elt F .i32) (j : Fin 64) (off : Fin 1 → ℕ) (hoff : off = ![j.val]) (inb) (w : Elt F .i32) (k : Fin 64) :
    (Rect.unit (s := S64) off S1.size inb).overlay X (fun _ => w) (ix1 k) = if k = j then w else X (ix1 k) := by
  subst hoff
  split
  · rename_i h; subst h
    have : ix1 k = (Rect.unit (s := S64) ![k.val] S1.size inb).emb (fun a => ⟨0, by fin_cases a; decide⟩ : (⟨1, S1.size⟩ : Shape).Idx) := by
      funext a; apply Fin.ext
      match a with
      | ⟨0, _⟩ => exact ((Rect.emb_apply ..).trans (by simp [Rect.unit])).symm
    rw [this]
    exact Rect.overlay_emb _ _ _ _
  · rename_i h
    refine Rect.overlay_of_not_mem _ _ _ ?_
    rw [Rect.mem_set_unit]
    intro hh
    have h0 := hh 0
    simp [S1, ix1] at h0
    exact h (Fin.ext (by omega))

theorem first_one (j : Fin 64) (off : Fin 1 → ℕ) (hoff : off = ![j.val]) (inb) (hh) :
    (Rect.unit (s := S64) off S1.size inb).emb (Shape.Idx.first hh) = ix1 j := by
  subst hoff
  funext a; apply Fin.ext
  match a with
  | ⟨0, _⟩ => exact (Rect.emb_apply ..).trans (by simp [Rect.unit, ix1, Shape.Idx.first])

theorem t1_step {v0 hw} (k : Fin k0_t1_loop.trips) :
    (iprop(∃ X : S64.Idx → Elt F .i32, ⌜∀ j : Fin 64, j.val < k.val → X (ix1 j) = 0#32⌝ ∗ at_ c r.a15 X)) ⊢
      wpc c (k0_t1_body (F := F)  r.a0 r.h0 r.a1 r.h1 r.a2 r.h2 r.a3 r.h3 r.a4 r.h4 r.a5 r.h5 r.a6 r.h6 r.a7 r.h7 r.a8 r.h8 r.a9 r.h9 r.a10 r.h10 r.a11 r.h11 r.a12 r.h12 r.a13 r.h13 r.a14 r.h14 r.a15 r.h15 r.a16 r.h16 r.a17 r.h17 r.a18 r.h18 r.a19 r.h19 r.a20 r.h20 r.a21 r.h21 r.a22 r.h22 r.a23 r.h23 r.a24 r.h24 r.a25 r.h25 r.a26 r.h26 r.a27 r.h27 r.a28 r.h28 r.a29 r.h29 r.a30 r.h30 r.a31 r.h31 r.a32 r.a33 r.a34 r.a35 v0 hw k ⟨⟩) (fun _ => iprop(∃ X : S64.Idx → Elt F .i32, ⌜∀ j : Fin 64, j.val < k.val + 1 → X (ix1 j) = 0#32⌝ ∗ at_ c r.a15 X)) := by
  unfold k0_t1_body
  iintro ⟨%X, %hX, H⟩
  iapply (wp_smemLoad' rfl rfl) $$ H
  iintro H
  iapply (wp_store' (Finset.subset_univ _)) $$ H
  iintro H
  iapply wp_pure'
  iexists _
  isplitr
  rotate_left
  · iexact H
  · ipureintro
    intro j hj
    have hk : k.val < 64 := lt_of_lt_of_le k.isLt (by decide)
    rw [overlay_one X ⟨k.val, hk⟩ _ (k0_off10_eq k)]
    split
    · rfl
    · rename_i h; exact hX j (by have : j.val ≠ k.val := fun hh => h (Fin.ext hh); omega)

theorem off11_eq : ∀ k : Fin k0_t2_loop.trips, k0_off11 k = ![k.val / 8, 0, k.val % 8] := by decide +kernel

/-- The id of position `i`. -/
def IdsAre (ids : ℕ → Fin 47) (X : S6x1x8.Idx → Elt F .i32) : Prop :=
  ∀ (t : Fin 6) (j : Fin 8), X (ix3 t 0 j) = BitVec.ofNat 32 (ids (8 * t.val + j.val)).val

def scanI (ids : ℕ → Fin 47) (X0 : S6x1x8.Idx → Elt F .i32) (i : ℕ) (n : BitVec 32) : sProp 𝕄 :=
  iprop(⌜n = BitVec.ofNat 32 (scanL ids i).length⌝ ∗ at_ c r.a0 X0 ∗ (∃ X, ⌜Marks ids i X⌝ ∗ at_ c r.a15 X) ∗ (∃ X, ⌜Listed (scanL ids i) X⌝ ∗ at_ c r.a16 X))

theorem t2_step {v0 hw} {ids : ℕ → Fin 47} {X0 : S6x1x8.Idx → Elt F .i32} (h0 : IdsAre ids X0) (k : Fin k0_t2_loop.trips) (n : BitVec 32) :
    scanI c r ids X0 k.val n ⊢ wpc c (k0_t2_body (F := F)  r.a0 r.h0 r.a1 r.h1 r.a2 r.h2 r.a3 r.h3 r.a4 r.h4 r.a5 r.h5 r.a6 r.h6 r.a7 r.h7 r.a8 r.h8 r.a9 r.h9 r.a10 r.h10 r.a11 r.h11 r.a12 r.h12 r.a13 r.h13 r.a14 r.h14 r.a15 r.h15 r.a16 r.h16 r.a17 r.h17 r.a18 r.h18 r.a19 r.h19 r.a20 r.h20 r.a21 r.h21 r.a22 r.h22 r.a23 r.h23 r.a24 r.h24 r.a25 r.h25 r.a26 r.h26 r.a27 r.h27 r.a28 r.h28 r.a29 r.h29 r.a30 r.h30 r.a31 r.h31 r.a32 r.a33 r.a34 r.a35 v0 hw k n) (scanI c r ids X0 (k.val + 1)) := by
  unfold k0_t2_body
  have hk : k.val < 48 := lt_of_lt_of_le k.isLt (by decide)
  have hlen := scanL_length ids k.val
  unfold scanI
  iintro ⟨%hn, H0, ⟨%X, %hX, H15⟩, ⟨%Y, %hY, H16⟩⟩
  subst hn
  iapply (wp_assume' (chk3_small ⟨(scanL ids k.val).length, by omega⟩))
  dsimp only
  iapply (wp_smemLoad' (i := ix3 ⟨k.val / 8, by omega⟩ 0 ⟨k.val % 8, by omega⟩) (by
    funext a; apply Fin.ext
    refine (Rect.emb_apply ..).trans ?_
    simp only [Rect.unit, off11_eq]
    fin_cases a <;> simp [ix3, Shape.Idx.first]) rfl) $$ H0
  iintro H0
  have hid : X0 (ix3 ⟨k.val / 8, by omega⟩ 0 ⟨k.val % 8, by omega⟩) = BitVec.ofNat 32 (ids k.val).val := by
    rw [h0]; congr 3; simp only; omega
  rw [hid]
  generalize hi : ids k.val = e
  iapply (wp_assume' (chk2_small e))
  dsimp only
  iapply (wp_smemLoad' (i := ix1 ⟨e.val, by omega⟩) (first_one ⟨e.val, by omega⟩ _ (by unfold k0_off12; simp [Scalar.indexCast]; omega) _ _) rfl) $$ H15
  iintro H15
  rw [hX e]
  iapply (wp_smemLoad' rfl rfl) $$ H16
  iintro H16
  iapply (wp_store' (Finset.subset_univ _)) $$ H16
  iintro H16
  iapply (wp_smemLoad' rfl rfl) $$ H15
  iintro H15
  iapply (wp_store' (Finset.subset_univ _)) $$ H15
  iintro H15
  iapply wp_pure'
  have e13 : k0_off13 (BitVec.ofNat 32 (scanL ids k.val).length) = ![(scanL ids k.val).length] := by unfold k0_off13; simp [Scalar.indexCast]; omega
  have e14 : k0_off14 (BitVec.ofNat 32 e.val) = ![e.val] := by unfold k0_off14; simp [Scalar.indexCast]; omega
  isplitr
  · ipureintro
    simp only [scanL, hi]
    split
    · simp [Scalar.subi, Scalar.addi, IntOp.subi, IntOp.addi]
    · simp [Scalar.subi, Scalar.addi, IntOp.subi, IntOp.addi, BitVec.ofNat_add]
  isplitl [H0]; · iexact H0
  isplitl [H15]
  · iexists _; isplitr
    rotate_left
    · iexact H15
    · ipureintro
      intro e'
      rw [overlay_one X ⟨e.val, by omega⟩ _ e14, hX e']
      simp only [scanL, hi]
      by_cases h : e' = e
      · subst h; rw [if_pos rfl, if_pos (by split <;> simp_all)]
      · rw [if_neg (fun hh => h (Fin.ext (by simpa using congrArg Fin.val hh)))]
        congr 1
        split <;> simp [h]
  · iexists _; isplitr
    rotate_left
    · iexact H16
    · ipureintro
      intro j hj
      rw [overlay_one Y ⟨(scanL ids k.val).length, by omega⟩ _ e13]
      revert hj
      simp only [scanL, hi]
      split
      · intro hj
        rw [if_neg (fun hh => by have := congrArg Fin.val hh; simp at this; omega)]
        exact hY j hj
      · intro hj
        split
        · rename_i h; have h2 : j.val = (scanL ids k.val).length := congrArg Fin.val h; simp [h2]
        · rename_i h
          have : j.val < (scanL ids k.val).length := by
            have h2 : j.val ≠ (scanL ids k.val).length := fun hh => h (Fin.ext hh)
            simp at hj; omega
          rw [List.getElem_append_left this]
          exact hY j this

end Cert.KernelIdeal.Hand
-- ==== Proof.Clear.lean ====
/-
  Loads and stores of whole buffers, and the part of the body that scans the ids and clears the accumulators.
-/
module

public import proofs.«01_k».proof.Proof.Cells
public import proofs.«01_k».proof.Proof.Scan
public import proofs.«01_k».proof.Proof.Gen.KernelIdeal.Skeleton
public import Idealize.ShloMosaic.Lib.Pipeline.FrameBody

@[expose] public section

noncomputable section

namespace Cert.KernelIdeal.Hand

open Cert.KernelIdeal Cert.KernelIdeal.Gen Cert.Held
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (Pipeline.UD sig nD τ) ℕ

variable (c : Dev nD) (r : Refs) (q : Fin 2 → Fin 13 → PosShare TreeShare) (a : Arrs F)

/-- A rectangle that is the whole shape takes an index to itself. -/
theorem emb_full {s : Shape} {off : Fin s.rank → ℕ} (h0 : ∀ b, off b = 0) (inb) (j : s.Idx) :
    (Rect.unit (s := s) off s.size inb).emb j = j := by
  funext b; apply Fin.ext
  rw [Rect.emb_apply]; simp only [Rect.unit, h0 b]; simp

theorem overlay_full {s : Shape} {α : Type} {off : Fin s.rank → ℕ} (h0 : ∀ b, off b = 0) (inb) (X w : s.Idx → α) :
    (Rect.unit (s := s) off s.size inb).overlay X w = w := by
  funext j
  exact (congrArg _ (emb_full h0 inb j).symm).trans (Rect.overlay_emb _ _ _ _)

theorem load_full {s : Shape} {e : EltTy} {cs : CoreSpace} {m : Memref sig .tc cs s e} {off : Fin s.rank → ℕ} {inb} {hl} {α : Type} {Q : α → sProp 𝕄}
    {X : s.Idx → Elt F e} {k : _ → Prog (TpuEff nD τ sig (Elt F) Λ₀ .tc) α} (h0 : ∀ b, off b = 0) :
    at_ c m X ⊢ iprop((at_ c m X -∗ wpc c (k X) Q) -∗ wpc c (Prog.lift (.load m (Rect.unit (s := s) off s.size inb).toLoadRect hl) >>= k) Q) := by
  have h := wp_load' (c := (c : Thread nD τ)) (R := Finset.univ) (q := fullShare) (X := X) (m := m) (hl := hl) (k := k) (defs := defs₀ (F := F)) (𝒱 := Variants.none) (bd := none) (Es := Set.univ) (Q := Q) (Finset.subset_univ (Rect.unit (s := s) off s.size inb).set)
  simp only [emb_full h0] at h
  exact h

theorem store_full {s : Shape} {e : EltTy} {cs : CoreSpace} {m : Memref sig .tc cs s e} {off : Fin s.rank → ℕ} {inb} {hx hm} {α : Type} {Q : α → sProp 𝕄}
    {X w : s.Idx → Elt F e} {k : _ → Prog (TpuEff nD τ sig (Elt F) Λ₀ .tc) α} (h0 : ∀ b, off b = 0) :
    at_ c m X ⊢ iprop((at_ c m w -∗ wpc c (k ⟨⟩) Q) -∗ wpc c (Prog.lift (.store m (Rect.unit (s := s) off s.size inb) w Finset.univ hx hm) >>= k) Q) := by
  have h := wp_store' (c := (c : Thread nD τ)) (R := Finset.univ) (X := X) (m := m) (r := Rect.unit (s := s) off s.size inb) (w := w) (hx := hx) (hm := hm) (k := k) (defs := defs₀ (F := F)) (𝒱 := Variants.none) (bd := none) (Es := Set.univ) (Q := Q) (Finset.subset_univ _)
  rw [overlay_full h0] at h
  exact h

theorem zero2 (b : Fin 2) : (![0, 0] : Fin 2 → ℕ) b = 0 := by fin_cases b <;> rfl
theorem zero3 (b : Fin 3) : (![0, 0, 0] : Fin 3 → ℕ) b = 0 := by fin_cases b <;> rfl

theorem n_lt (ids : ℕ → Fin 47) : (BitVec.ofNat 32 (scanL ids 48).length).toNat < 64 := by
  have := scanL_length ids 48
  rw [BitVec.toNat_ofNat]; omega

theorem part28_spec {e : Fin 47} {hw} {ids : ℕ → Fin 47} {X0 : S6x1x8.Idx → Elt F .i32} (h0 : IdsAre ids X0) {Q} :
    iprop(at_ c r.a0 X0 ∗ cD c r q a 0 3 .rest ∗ any (F := F) c r.a15 ∗ any (F := F) c r.a16 ∗ any (F := F) c r.a23 ∗ any (F := F) c r.a24 ∗ any (F := F) c r.a31 ∗ any (F := F) c r.a29 ∗ any (F := F) c r.a30) ⊢
      iprop((iprop(at_ c r.a0 X0 ∗ cD c r q a 0 3 (.fly e) ∗ any (F := F) c r.a15 ∗ (∃ X, ⌜Listed (scanL ids 48) X⌝ ∗ at_ c r.a16 X)
          ∗ at_ c r.a23 (k0_pay90 (F := F)) ∗ at_ c r.a24 (k0_pay91 (F := F)) ∗ at_ c r.a31 (k0_pay92 (F := F)) ∗ at_ c r.a29 (k0_pay93 (F := F)) ∗ any (F := F) c r.a30)
          -∗ Q ⟨BitVec.ofNat 32 (scanL ids 48).length, chk4 (n_lt ids), k0_pay94 (F := F)⟩) -∗
        wpc c (k0_part28 (F := F)  r.a0 r.h0 r.a1 r.h1 r.a2 r.h2 r.a3 r.h3 r.a4 r.h4 r.a5 r.h5 r.a6 r.h6 r.a7 r.h7 r.a8 r.h8 r.a9 r.h9 r.a10 r.h10 r.a11 r.h11 r.a12 r.h12 r.a13 r.h13 r.a14 r.h14 r.a15 r.h15 r.a16 r.h16 r.a17 r.h17 r.a18 r.h18 r.a19 r.h19 r.a20 r.h20 r.a21 r.h21 r.a22 r.h22 r.a23 r.h23 r.a24 r.h24 r.a25 r.h25 r.a26 r.h26 r.a27 r.h27 r.a28 r.h28 r.a29 r.h29 r.a30 r.h30 r.a31 r.h31 r.a32 r.a33 r.a34 r.a35 (BitVec.ofNat 32 e.val) hw) Q) := by
  rw [k0_part28_eq_skeleton]; unfold k0_part28_skel any
  unfold cD
  iintro ⟨H0, HD, ⟨%X15, H15⟩, ⟨%X16, H16⟩, ⟨%X23, H23⟩, ⟨%X24, H24⟩, ⟨%X31, H31⟩, ⟨%X29, H29⟩, ⟨%X30, H30⟩⟩ Hk
  iapply (cell_start c e (by decide) rfl (by unfold k0_off9; simp only [e_toNat]; try rfl) (sem_eq _ _ _ rfl)) $$ HD
  iintro HD
  iapply (Scf.wp_for_bind (I := fun k _ => iprop(∃ X : S64.Idx → Elt F .i32, ⌜∀ j : Fin 64, j.val < k → X (ix1 j) = 0#32⌝ ∗ at_ c r.a15 X)) (hbody := fun k _ => t1_step c r k)) $$ [H15]
  · iexists X15; isplitr
    · ipureintro; intro j hj; exact absurd hj (Nat.not_lt_zero _)
    iexact H15
  iintro %_ ⟨%Y15, %hY15, H15⟩
  iapply (Scf.wp_for_bind (I := scanI c r ids X0) (hbody := fun k n => t2_step c r h0 k n)) $$ [H0 H15 H16]
  · unfold scanI
    isplitr; · ipureintro; rfl
    isplitl [H0]; · iexact H0
    isplitl [H15]
    · iexists Y15; isplitr
      · ipureintro
        intro e'
        refine (hY15 _ (lt_of_lt_of_le e'.isLt (by decide))).trans (by simp [scanL])
      iexact H15
    iexists X16; isplitr
    · ipureintro; intro j hj; exact absurd hj (Nat.not_lt_zero _)
    iexact H16
  rw [show Scf.trips _ _ _ = 48 from (by decide : k0_t2_loop.trips = 48)]
  unfold scanI
  iintro %n ⟨%hn, H0, ⟨%Z15, -, H15⟩, H16⟩
  subst hn
  iapply (wp_assume' (chk4 (n_lt ids)))
  dsimp only
  iapply (load_full c zero2) $$ H23
  iintro H23
  iapply (store_full c zero2) $$ H23
  iintro H23
  iapply (load_full c zero2) $$ H24
  iintro H24
  iapply (store_full c zero2) $$ H24
  iintro H24
  iapply (load_full c zero2) $$ H31
  iintro H31
  iapply (store_full c zero2) $$ H31
  iintro H31
  iapply (load_full c zero2) $$ H29
  iintro H29
  iapply (store_full c zero2) $$ H29
  iintro H29
  iapply (load_full c zero2) $$ H30
  iintro H30
  iapply wp_pure'
  iapply Hk
  isplitl [H0]; · iexact H0
  isplitl [HD]; · iexact HD
  isplitl [H15]; · iexists _; iexact H15
  isplitl [H16]; · iexact H16
  isplitl [H23]; · iexact H23
  isplitl [H24]; · iexact H24
  isplitl [H31]; · iexact H31
  isplitl [H29]; · iexact H29
  iexists _; iexact H30

end Cert.KernelIdeal.Hand
-- ==== Proof.Any.lean ====
/-
  Loads and stores on memrefs whose contents are not named, and rectangles of two axes read and written by coordinates.
-/
module

public import proofs.«01_k».proof.Proof.Clear
public import proofs.«01_k».proof.Proof.Gen.KernelIdeal.Skeleton
public import Idealize.ShloMosaic.Lib.Pipeline.FrameBody

@[expose] public section

noncomputable section

namespace Cert.KernelIdeal.Hand

open Cert.KernelIdeal Cert.KernelIdeal.Gen Cert.Held
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (Pipeline.UD sig nD τ) ℕ

variable (c : Dev nD)

/-- A load from a memref whose contents are not named. -/
theorem any_load {s : Shape} {e : EltTy} {cs : CoreSpace} {m : Memref sig .tc cs s e} {r : Rect s} {hl} {α : Type} {Q : α → sProp 𝕄}
    {k : _ → Prog (TpuEff nD τ sig (Elt F) Λ₀ .tc) α} :
    any (F := F) c m ⊢ iprop((∀ v, any (F := F) c m -∗ wpc c (k v) Q) -∗ wpc c (Prog.lift (.load m r.toLoadRect hl) >>= k) Q) := by
  unfold any
  iintro ⟨%X, H⟩ Hk
  iapply (wp_load' (Finset.subset_univ _)) $$ H
  iintro H
  iapply Hk
  iexists X; iexact H

/-- A store to one. -/
theorem any_store {s : Shape} {e : EltTy} {cs : CoreSpace} {m : Memref sig .tc cs s e} {r : Rect s} {w} {hx hm} {α : Type} {Q : α → sProp 𝕄}
    {k : _ → Prog (TpuEff nD τ sig (Elt F) Λ₀ .tc) α} :
    any (F := F) c m ⊢ iprop((any (F := F) c m -∗ wpc c (k ⟨⟩) Q) -∗ wpc c (Prog.lift (.store m r w Finset.univ hx hm) >>= k) Q) := by
  unfold any
  iintro ⟨%X, H⟩ Hk
  iapply (wp_store' (Finset.subset_univ _)) $$ H
  iintro H
  iapply Hk
  iexists _; iexact H

/-- A load from a memref held at any share and contents, its value not named. -/
theorem held_load {s : Shape} {e : EltTy} {cs : CoreSpace} {m : Memref sig .tc cs s e} {q : PosShare TreeShare} {R} {X : s.Idx → Elt F e} {r : Rect s} {hl} {α : Type} {Q : α → sProp 𝕄}
    {k : _ → Prog (TpuEff nD τ sig (Elt F) Λ₀ .tc) α} (hS : r.set ⊆ R) :
    held (c : Thread nD τ) m q R X ⊢ iprop((∀ v, held (c : Thread nD τ) m q R X -∗ wpc c (k v) Q) -∗ wpc c (Prog.lift (.load m r.toLoadRect hl) >>= k) Q) := by
  iintro H Hk
  iapply (wp_load' hS) $$ H
  iintro H
  iapply Hk
  iexact H

theorem any_of {sp : Space} {s : Shape} {e : EltTy} {m : Memref sig .tc sp s e} {X : s.Idx → Elt F e} : at_ c m X ⊢ any (F := F) c m := by
  unfold any
  iintro H
  iexists X; iexact H

/-- A one-word load from a memref held whole, its value not named. -/
theorem held_smemLoad {s : Shape} {e : EltTy} {m : Memref sig .tc .smem s e} {q : PosShare TreeShare} {X : s.Idx → Elt F e} {r : Rect s} {h1 : r.shape.numel = 1} {hp : e.packing = 1} {α : Type} {Q : α → sProp 𝕄}
    {k : Elt F e → Prog (TpuEff nD τ sig (Elt F) Λ₀ .tc) α} :
    held (c : Thread nD τ) m q Finset.univ X ⊢ iprop((∀ v, held (c : Thread nD τ) m q Finset.univ X -∗ wpc c (k v) Q) -∗ wpc c (smemLoad m r h1 hp >>= k) Q) := by
  iintro H Hk
  iapply (wp_smemLoad' rfl rfl) $$ H
  iintro H
  iapply Hk
  iexact H

/-- A program followed by another. -/
theorem wp_seq {α β : Type} {Q : β → sProp 𝕄} {p : Prog (TpuEff nD τ sig (Elt F) Λ₀ .tc) α} {k : α → Prog (TpuEff nD τ sig (Elt F) Λ₀ .tc) β} :
    wpc c p (fun v => wpc c (k v) Q) ⊢ wpc c (p >>= k) Q := by
  unfold wpc
  rw [wp_bind]

/-- A rectangle of two axes places the index `(i, j)` at its offsets plus `(i, j)`. -/
theorem emb2 {n0 n1 l0 l1 o0 o1 : ℕ} {off : Fin 2 → ℕ} (h : off = ![o0, o1]) (inb) (i : Fin l0) (j : Fin l1) (h0 : o0 + i.val < n0) (h1 : o1 + j.val < n1) :
    (Rect.unit (s := ⟨2, ![n0, n1]⟩) off ![l0, l1] inb).emb (ix2 i j) = ix2 ⟨o0 + i.val, h0⟩ ⟨o1 + j.val, h1⟩ := by
  subst h
  funext b; apply Fin.ext
  rw [Rect.emb_apply]
  match b with
  | ⟨0, _⟩ => exact congrArg (o0 + ·) (Nat.one_mul _)
  | ⟨1, _⟩ => exact congrArg (o1 + ·) (Nat.one_mul _)

theorem over2_in {α : Type} {n0 n1 l0 l1 o0 o1 : ℕ} {off : Fin 2 → ℕ} (h : off = ![o0, o1]) (inb) (X : (⟨2, ![n0, n1]⟩ : Shape).Idx → α) (w : (⟨2, ![l0, l1]⟩ : Shape).Idx → α)
    (i : Fin l0) (j : Fin l1) (h0 : o0 + i.val < n0) (h1 : o1 + j.val < n1) :
    (Rect.unit (s := ⟨2, ![n0, n1]⟩) off ![l0, l1] inb).overlay X w (ix2 ⟨o0 + i.val, h0⟩ ⟨o1 + j.val, h1⟩) = w (ix2 i j) :=
  (congrArg _ (emb2 h inb i j h0 h1).symm).trans (Rect.overlay_emb _ _ _ _)

theorem over2_out {α : Type} {n0 n1 l0 l1 o0 o1 : ℕ} {off : Fin 2 → ℕ} (h : off = ![o0, o1]) (inb) (X : (⟨2, ![n0, n1]⟩ : Shape).Idx → α) (w : (⟨2, ![l0, l1]⟩ : Shape).Idx → α)
    (i : Fin n0) (j : Fin n1) (hn : ¬ (o0 ≤ i.val ∧ i.val < o0 + l0 ∧ o1 ≤ j.val ∧ j.val < o1 + l1)) :
    (Rect.unit (s := ⟨2, ![n0, n1]⟩) off ![l0, l1] inb).overlay X w (ix2 i j) = X (ix2 i j) := by
  subst h
  apply Rect.overlay_of_not_mem
  rw [Rect.mem_set_unit]
  intro hh
  have a := hh 0; have b := hh 1
  simp [ix2] at a b
  exact hn ⟨a.1, a.2, b.1, b.2⟩

/-- The same for three axes. -/
theorem emb3 {n0 n1 n2 l0 l1 l2 o0 o1 o2 : ℕ} {off : Fin 3 → ℕ} (h : off = ![o0, o1, o2]) (inb) (i : Fin l0) (j : Fin l1) (k : Fin l2) (h0 : o0 + i.val < n0) (h1 : o1 + j.val < n1) (h2 : o2 + k.val < n2) :
    (Rect.unit (s := ⟨3, ![n0, n1, n2]⟩) off ![l0, l1, l2] inb).emb (ix3 i j k) = ix3 ⟨o0 + i.val, h0⟩ ⟨o1 + j.val, h1⟩ ⟨o2 + k.val, h2⟩ := by
  subst h
  funext b; apply Fin.ext
  rw [Rect.emb_apply]
  match b with
  | ⟨0, _⟩ => exact congrArg (o0 + ·) (Nat.one_mul _)
  | ⟨1, _⟩ => exact congrArg (o1 + ·) (Nat.one_mul _)
  | ⟨2, _⟩ => exact congrArg (o2 + ·) (Nat.one_mul _)

theorem over3_at {α : Type} {n0 n1 n2 l0 l1 l2 o0 o1 o2 : ℕ} {off : Fin 3 → ℕ} (h : off = ![o0, o1, o2]) (inb) (X : (⟨3, ![n0, n1, n2]⟩ : Shape).Idx → α) (w : (⟨3, ![l0, l1, l2]⟩ : Shape).Idx → α)
    (i : Fin l0) (j : Fin l1) (k : Fin l2) (h0 : o0 + i.val < n0) (h1 : o1 + j.val < n1) (h2 : o2 + k.val < n2) :
    (Rect.unit (s := ⟨3, ![n0, n1, n2]⟩) off ![l0, l1, l2] inb).overlay X w (ix3 ⟨o0 + i.val, h0⟩ ⟨o1 + j.val, h1⟩ ⟨o2 + k.val, h2⟩) = w (ix3 i j k) :=
  (congrArg _ (emb3 h inb i j k h0 h1 h2).symm).trans (Rect.overlay_emb _ _ _ _)

theorem over3_in {α : Type} {n0 n1 n2 o : ℕ} {off : Fin 3 → ℕ} (h : off = ![o, 0, 0]) (inb) (X : (⟨3, ![n0, n1, n2]⟩ : Shape).Idx → α) (w : (⟨3, ![1, n1, n2]⟩ : Shape).Idx → α)
    (i : Fin n0) (j : Fin n1) (k : Fin n2) (hi : i.val = o) :
    (Rect.unit (s := ⟨3, ![n0, n1, n2]⟩) off ![1, n1, n2] inb).overlay X w (ix3 i j k) = w (ix3 0 j k) := by
  have := over3_at h inb X w 0 j k (by have := i.isLt; simp; omega) (by have := j.isLt; omega) (by have := k.isLt; omega)
  refine Eq.trans (congrArg _ ?_) this
  have e0 : i = ⟨o + (0 : Fin 1).val, by have := i.isLt; simp; omega⟩ := Fin.ext (by simp [hi])
  have e1 : j = ⟨0 + j.val, by have := j.isLt; omega⟩ := Fin.ext (by simp)
  have e2 : k = ⟨0 + k.val, by have := k.isLt; omega⟩ := Fin.ext (by simp)
  rw [← e0, ← e1, ← e2]

theorem over3_out {α : Type} {n0 n1 n2 o : ℕ} {off : Fin 3 → ℕ} (h : off = ![o, 0, 0]) (inb) (X : (⟨3, ![n0, n1, n2]⟩ : Shape).Idx → α) (w : (⟨3, ![1, n1, n2]⟩ : Shape).Idx → α)
    (i : Fin n0) (j : Fin n1) (k : Fin n2) (hn : i.val ≠ o) :
    (Rect.unit (s := ⟨3, ![n0, n1, n2]⟩) off ![1, n1, n2] inb).overlay X w (ix3 i j k) = X (ix3 i j k) := by
  subst h
  apply Rect.overlay_of_not_mem
  rw [Rect.mem_set_unit]
  intro hh
  have a1 : o ≤ i.val := (hh 0).1
  have a2 : i.val < o + 1 := (hh 0).2
  omega

end Cert.KernelIdeal.Hand
-- ==== Proof.XQuant.lean ====
/-
  The quantisation of the tokens: the codes block by block and the scales as the loop carries them.
-/
module

public import proofs.«01_k».proof.Proof.Any
public import proofs.«01_k».proof.Proof.Gen.KernelIdeal.Skeleton
public import Idealize.ShloMosaic.Lib.Pipeline.FrameBody

@[expose] public section

noncomputable section

namespace Cert.KernelIdeal.Hand

open Cert.KernelIdeal Cert.KernelIdeal.Gen Cert.Held
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (Pipeline.UD sig nD τ) ℕ

variable (c : Dev nD) (r : Refs)

/-- Block `b` of the tokens, 128 columns wide. -/
def blk (X : S6x4096.Idx → Elt F .bf16) (b : ℕ) : FVec F S6x128 .bf16 := fun i =>
  X (ix2 (n0 := 6) (n1 := 4096) ⟨(i 0).val, (i 0).isLt⟩ ⟨(128 * b + (i 1).val) % 4096, Nat.mod_lt _ (by decide)⟩)

/-- The exponent field and the small-value test of block `b`. -/
def xE (X : S6x4096.Idx → Elt F .bf16) (b : ℕ) : IVec S6x1 32 := k0_pay6 (k0_pay3 (blk X b)) (k0_pay4 (blk X b)) (k0_pay5 (blk X b))
def xT (X : S6x4096.Idx → Elt F .bf16) (b : ℕ) : IVec S6x1 1 := k0_pay7 (k0_pay3 (blk X b))

/-- The codes of block `b`. -/
def xCode (X : S6x4096.Idx → Elt F .bf16) (b : ℕ) : FVec F S6x128 .fp8e4m3 := k0_pay99 (k0_pay2 (blk X b)) (xE X b) (xT X b)

/-- The block's tokens after quantisation. -/
def xDeq (X : S6x4096.Idx → Elt F .bf16) (b : ℕ) : FVec F S6x128 .bf16 := k0_pay100 (k0_pay2 (blk X b)) (xE X b) (xT X b)

/-- The scales that the loop has gathered before block `b`. -/
def xAcc (X : S6x4096.Idx → Elt F .bf16) : ℕ → FVec F S6x128 .f32
  | 0 => k0_pay95
  | b + 1 => k0_pay101 (xAcc X b) (Scf.iv 0#32 1#32 b) (xE X b) (xT X b)

/-- The first `k` blocks of codes are written. -/
def Coded (X : S6x4096.Idx → Elt F .bf16) (k : ℕ) (Y : S6x4096.Idx → Elt F .fp8e4m3) : Prop :=
  ∀ (b : Fin 32), b.val < k → ∀ (t : Fin 6) (l : Fin 128), Y (ix2 t ⟨128 * b.val + l.val, by omega⟩) = xCode X b.val (ix2 t l)

/-- The first `k` blocks of requantised tokens are written, and the last rows are as they were. -/
def Deqd (X : S6x4096.Idx → Elt F .bf16) (k : ℕ) (Y : S16x4096.Idx → Elt F .bf16) : Prop :=
  (∀ (b : Fin 32), b.val < k → ∀ (t : Fin 6) (l : Fin 128), Y (ix2 ⟨t.val, by omega⟩ ⟨128 * b.val + l.val, by omega⟩) = xDeq X b.val (ix2 t l)) ∧
  ∀ (t : Fin 16) (j : Fin 4096), 6 ≤ t.val → Y (ix2 t j) = k0_pay90 (F := F) (ix2 t j)

/-- Row `t` of the scales as stored. -/
def xRow (v : FVec F S6x128 .f32) (t : Fin 6) : FVec F S1x1x32 .f32 :=
  ![k0_pay102 v, k0_pay103 v, k0_pay104 v, k0_pay105 v, k0_pay106 v, k0_pay107 v] t

def Scaled (X : S6x4096.Idx → Elt F .bf16) (Y : S6x1x32.Idx → Elt F .f32) : Prop :=
  ∀ (t : Fin 6) (g : Fin 32), Y (ix3 t 0 g) = xRow (xAcc X 32) t (ix3 0 0 g)

theorem coded_step {X : S6x4096.Idx → Elt F .bf16} {k : Fin k0_t3_loop.trips} {Y} (h : Coded X k.val Y) {inb} :
    Coded X (k.val + 1) ((Rect.unit (s := S6x4096) (k0_off15 k) S6x128.size inb).overlay Y (xCode X k.val)) := by
  intro b hb t l
  have hk : k.val < 32 := k.isLt
  by_cases hbk : b.val = k.val
  · have := over2_in (k0_off15_eq k) inb Y (xCode X k.val) t l (by omega) (by omega)
    refine (congrArg _ (congrArg₂ ix2 (Fin.ext (by simp)) (Fin.ext (by simp [hbk])))).trans (this.trans (congrArg (fun z => xCode X z (ix2 t l)) hbk.symm))
  · refine (over2_out (k0_off15_eq k) inb Y (xCode X k.val) t _ ?_).trans (h b (by omega) t l)
    rintro ⟨-, -, h1, h2⟩
    simp only at h1 h2
    have := l.isLt
    omega

theorem deqd_step {X : S6x4096.Idx → Elt F .bf16} {k : Fin k0_t3_loop.trips} {Y} (h : Deqd X k.val Y) {inb} :
    Deqd X (k.val + 1) ((Rect.unit (s := S16x4096) (k0_off16 k) S6x128.size inb).overlay Y (xDeq X k.val)) := by
  have hk : k.val < 32 := k.isLt
  constructor
  · intro b hb t l
    by_cases hbk : b.val = k.val
    · have := over2_in (k0_off16_eq k) inb Y (xDeq X k.val) t l (by omega) (by omega)
      refine (congrArg _ (congrArg₂ ix2 (Fin.ext (by simp)) (Fin.ext (by simp [hbk])))).trans (this.trans (congrArg (fun z => xDeq X z (ix2 t l)) hbk.symm))
    · refine (over2_out (k0_off16_eq k) inb Y (xDeq X k.val) _ _ ?_).trans (h.1 b (by omega) t l)
      rintro ⟨-, -, h1, h2⟩
      simp only at h1 h2
      have := l.isLt
      omega
  · intro t j ht
    refine (over2_out (k0_off16_eq k) inb Y (xDeq X k.val) _ _ ?_).trans (h.2 t j ht)
    rintro ⟨-, h2, -, -⟩
    omega

theorem blk_load (X : S6x4096.Idx → Elt F .bf16) (k : Fin k0_t3_loop.trips) (inb) :
    (fun j => X ((Rect.unit (s := S6x4096) (k0_off15 k) S6x128.size inb).emb j)) = blk X k.val := by
  have hk : k.val < 32 := k.isLt
  funext j
  unfold blk
  congr 1
  funext b; apply Fin.ext
  rw [Rect.emb_apply]
  have h := k0_off15_eq k
  match b with
  | ⟨0, _⟩ =>
    have h0 : k0_off15 k 0 = 0 := (congrFun h 0).trans rfl
    show (k0_off15 k) 0 + 1 * (j 0).val = (j 0).val
    omega
  | ⟨1, _⟩ =>
    have h0 : k0_off15 k 1 = 128 * k.val := (congrFun h 1).trans rfl
    have hj : (j 1).val < 128 := (j 1).isLt
    show (k0_off15 k) 1 + 1 * (j 1).val = (128 * k.val + (j 1).val) % 4096
    omega

/-- What the loop over the blocks holds. -/
def xqI (X1 : S6x4096.Idx → Elt F .bf16) (k : ℕ) (v : FVec F S6x128 .f32) : sProp 𝕄 :=
  iprop(⌜v = xAcc X1 k⌝ ∗ at_ c r.a1 X1 ∗ (∃ Y, ⌜Coded X1 k Y⌝ ∗ at_ c r.a11 Y) ∗ (∃ Y, ⌜Deqd X1 k Y⌝ ∗ at_ c r.a23 Y))

theorem t3_step {X1 : S6x4096.Idx → Elt F .bf16} {v101} (k : Fin k0_t3_loop.trips) (v : FVec F S6x128 .f32) :
    xqI c r X1 k.val v ⊢ wpc c (k0_t3_body (F := F)  r.a0 r.h0 r.a1 r.h1 r.a2 r.h2 r.a3 r.h3 r.a4 r.h4 r.a5 r.h5 r.a6 r.h6 r.a7 r.h7 r.a8 r.h8 r.a9 r.h9 r.a10 r.h10 r.a11 r.h11 r.a12 r.h12 r.a13 r.h13 r.a14 r.h14 r.a15 r.h15 r.a16 r.h16 r.a17 r.h17 r.a18 r.h18 r.a19 r.h19 r.a20 r.h20 r.a21 r.h21 r.a22 r.h22 r.a23 r.h23 r.a24 r.h24 r.a25 r.h25 r.a26 r.h26 r.a27 r.h27 r.a28 r.h28 r.a29 r.h29 r.a30 r.h30 r.a31 r.h31 r.a32 r.a33 r.a34 r.a35 v101 k v) (fun w => xqI c r X1 (k.val + 1) w) := by
  unfold k0_t3_body xqI
  rw [k0_part1_eq_skeleton]; unfold k0_part1_skel
  iintro ⟨%hv, H1, ⟨%Y, %hY, H11⟩, ⟨%Z, %hZ, H23⟩⟩
  simp only [bind_assoc, pure_bind]
  iapply (wp_load' (Finset.subset_univ _)) $$ H1
  iintro H1
  rw [blk_load]
  rw [k0_part2_eq_skeleton]; unfold k0_part2_skel
  simp only [bind_assoc, pure_bind]
  iapply (wp_load' (Finset.subset_univ _)) $$ H11
  iintro H11
  iapply (wp_store' (Finset.subset_univ _)) $$ H11
  iintro H11
  iapply (wp_load' (Finset.subset_univ _)) $$ H23
  iintro H23
  iapply (wp_store' (Finset.subset_univ _)) $$ H23
  iintro H23
  iapply wp_pure'
  isplitr
  · ipureintro; rw [hv]; rfl
  isplitl [H1]; · iexact H1
  isplitl [H11]
  · iexists _; isplitr
    rotate_left
    · iexact H11
    · ipureintro; exact coded_step hY
  · iexists _; isplitr
    rotate_left
    · iexact H23
    · ipureintro; exact deqd_step hZ

theorem scaled_of (v : FVec F S6x128 .f32) (Y : S6x1x32.Idx → Elt F .f32) {i0 i1 i2 i3 i4 i5} (t : Fin 6) (g : Fin 32) :
    (Rect.unit (s := S6x1x32) ![5, 0, 0] S1x1x32.size i5).overlay ((Rect.unit (s := S6x1x32) ![4, 0, 0] S1x1x32.size i4).overlay
      ((Rect.unit (s := S6x1x32) ![3, 0, 0] S1x1x32.size i3).overlay ((Rect.unit (s := S6x1x32) ![2, 0, 0] S1x1x32.size i2).overlay
      ((Rect.unit (s := S6x1x32) ![1, 0, 0] S1x1x32.size i1).overlay ((Rect.unit (s := S6x1x32) ![0, 0, 0] S1x1x32.size i0).overlay Y
        (k0_pay102 v)) (k0_pay103 v)) (k0_pay104 v)) (k0_pay105 v)) (k0_pay106 v)) (k0_pay107 v) (ix3 t 0 g) = xRow v t (ix3 0 0 g) := by
  have ein := fun (o : ℕ) inb X w => over3_in (α := Elt F .f32) (n0 := 6) (n1 := 1) (n2 := 32) (o := o) rfl inb X w
  have eout := fun (o : ℕ) inb X w => over3_out (α := Elt F .f32) (n0 := 6) (n1 := 1) (n2 := 32) (o := o) rfl inb X w
  match t with
  | ⟨0, _⟩ => exact ((((((eout 5 _ _ _ _ _ _ (by simp)).trans (eout 4 _ _ _ _ _ _ (by simp))).trans (eout 3 _ _ _ _ _ _ (by simp))).trans (eout 2 _ _ _ _ _ _ (by simp))).trans (eout 1 _ _ _ _ _ _ (by simp))).trans (ein 0 _ _ _ _ _ _ rfl))
  | ⟨1, _⟩ => exact (((((eout 5 _ _ _ _ _ _ (by simp)).trans (eout 4 _ _ _ _ _ _ (by simp))).trans (eout 3 _ _ _ _ _ _ (by simp))).trans (eout 2 _ _ _ _ _ _ (by simp))).trans (ein 1 _ _ _ _ _ _ rfl))
  | ⟨2, _⟩ => exact ((((eout 5 _ _ _ _ _ _ (by simp)).trans (eout 4 _ _ _ _ _ _ (by simp))).trans (eout 3 _ _ _ _ _ _ (by simp))).trans (ein 2 _ _ _ _ _ _ rfl))
  | ⟨3, _⟩ => exact (((eout 5 _ _ _ _ _ _ (by simp)).trans (eout 4 _ _ _ _ _ _ (by simp))).trans (ein 3 _ _ _ _ _ _ rfl))
  | ⟨4, _⟩ => exact ((eout 5 _ _ _ _ _ _ (by simp)).trans (ein 4 _ _ _ _ _ _ rfl))
  | ⟨5, _⟩ => exact (ein 5 _ _ _ _ _ _ rfl)

theorem part29_spec {v101} {X1 : S6x4096.Idx → Elt F .bf16} {Q} :
    iprop(at_ c r.a1 X1 ∗ any (F := F) c r.a11 ∗ any (F := F) c r.a12 ∗ at_ c r.a23 (k0_pay90 (F := F)) ∗ any (F := F) c r.a30) ⊢
      iprop((iprop(at_ c r.a1 X1 ∗ (∃ Y, ⌜Coded X1 32 Y⌝ ∗ at_ c r.a11 Y) ∗ (∃ Y, ⌜Scaled X1 Y⌝ ∗ at_ c r.a12 Y) ∗ (∃ Y, ⌜Deqd X1 32 Y⌝ ∗ at_ c r.a23 Y) ∗ at_ c r.a30 v101)
          -∗ Q ⟨0#32, 48#32⟩) -∗
        wpc c (k0_part29 (F := F)  r.a0 r.h0 r.a1 r.h1 r.a2 r.h2 r.a3 r.h3 r.a4 r.h4 r.a5 r.h5 r.a6 r.h6 r.a7 r.h7 r.a8 r.h8 r.a9 r.h9 r.a10 r.h10 r.a11 r.h11 r.a12 r.h12 r.a13 r.h13 r.a14 r.h14 r.a15 r.h15 r.a16 r.h16 r.a17 r.h17 r.a18 r.h18 r.a19 r.h19 r.a20 r.h20 r.a21 r.h21 r.a22 r.h22 r.a23 r.h23 r.a24 r.h24 r.a25 r.h25 r.a26 r.h26 r.a27 r.h27 r.a28 r.h28 r.a29 r.h29 r.a30 r.h30 r.a31 r.h31 r.a32 r.a33 r.a34 r.a35 v101) Q) := by
  rw [k0_part29_eq_skeleton]; unfold k0_part29_skel any
  iintro ⟨H1, ⟨%X11, H11⟩, ⟨%X12, H12⟩, H23, ⟨%X30, H30⟩⟩ Hk
  iapply (store_full c zero2) $$ H30
  iintro H30
  iapply (Scf.wp_for_bind (I := xqI c r X1) (hbody := fun k v => t3_step c r k v)) $$ [H1 H11 H23]
  · unfold xqI
    isplitr; · ipureintro; rfl
    isplitl [H1]; · iexact H1
    isplitl [H11]
    · iexists X11; isplitr
      · ipureintro; intro b hb; exact absurd hb (Nat.not_lt_zero _)
      iexact H11
    · iexists _; isplitr
      rotate_left
      · iexact H23
      · ipureintro; exact ⟨fun b hb => absurd hb (Nat.not_lt_zero _), fun _ _ _ => rfl⟩
  rw [show Scf.trips _ _ _ = 32 from (by decide : k0_t3_loop.trips = 32)]
  unfold xqI
  iintro %v ⟨%hv, H1, H11, H23⟩
  subst hv
  iapply (wp_load' (Finset.subset_univ _)) $$ H12
  iintro H12
  iapply (wp_store' (Finset.subset_univ _)) $$ H12
  iintro H12
  iapply (wp_load' (Finset.subset_univ _)) $$ H12
  iintro H12
  iapply (wp_store' (Finset.subset_univ _)) $$ H12
  iintro H12
  iapply (wp_load' (Finset.subset_univ _)) $$ H12
  iintro H12
  iapply (wp_store' (Finset.subset_univ _)) $$ H12
  iintro H12
  iapply (wp_load' (Finset.subset_univ _)) $$ H12
  iintro H12
  iapply (wp_store' (Finset.subset_univ _)) $$ H12
  iintro H12
  iapply (wp_load' (Finset.subset_univ _)) $$ H12
  iintro H12
  iapply (wp_store' (Finset.subset_univ _)) $$ H12
  iintro H12
  iapply (wp_load' (Finset.subset_univ _)) $$ H12
  iintro H12
  iapply (wp_store' (Finset.subset_univ _)) $$ H12
  iintro H12
  iapply wp_pure'
  iapply Hk
  isplitl [H1]; · iexact H1
  isplitl [H11]; · iexact H11
  isplitl [H12]
  · iexists _; isplitr
    rotate_left
    · iexact H12
    · ipureintro
      intro t g
      exact scaled_of _ _ t g
  isplitl [H23]; · iexact H23
  iexact H30

end Cert.KernelIdeal.Hand
-- ==== Proof.HVal.lean ====
/-
  The hidden layer of one expert as the kernel computes it: the gate and up sums chunk by chunk, their product block by block,
  and its quantisation.
-/
module

public import proofs.«01_k».proof.Proof.Any
public import proofs.«01_k».proof.Proof.Gen.KernelIdeal.Skeleton
public import proofs.«01_k».proof.Proof.Words

@[expose] public section

noncomputable section

namespace Cert.KernelIdeal.Hand

open Cert.KernelIdeal Cert.KernelIdeal.Gen Cert.Held
open Idealize.ShloMosaic Idealize.ShloMosaic.TcCoe

variable {F : FTy → Type} [FloatOps F]

/-- A box of the expert's matrix. -/
def cut {α : Type} {n1 n2 : ℕ} [NeZero n1] [NeZero n2] (A : (⟨3, ![47, n1, n2]⟩ : Shape).Idx → α) (e : Fin 47) (o1 o2 l1 l2 : ℕ) :
    (⟨3, ![1, l1, l2]⟩ : Shape).Idx → α :=
  fun j => A (ix3 e (Fin.ofNat n1 (o1 + (j 1).val)) (Fin.ofNat n2 (o2 + (j 2).val)))

/-- A box of a matrix. -/
def cut2 {α : Type} {n1 n2 : ℕ} [NeZero n1] [NeZero n2] (A : (⟨2, ![n1, n2]⟩ : Shape).Idx → α) (o1 o2 l1 l2 : ℕ) :
    (⟨2, ![l1, l2]⟩ : Shape).Idx → α :=
  fun j => A (ix2 (Fin.ofNat n1 (o1 + (j 0).val)) (Fin.ofNat n2 (o2 + (j 1).val)))

theorem land_eq {α : Type} {n0 n1 n2 l1 l2 o0 o1 o2 : ℕ} [NeZero n1] [NeZero n2] {A : (⟨3, ![47, n1, n2]⟩ : Shape).Idx → α} {e : Fin 47} {off : Fin 3 → ℕ} (h : off = ![o0, o1, o2]) {inb} :
    (fun j => landed (n0 := n0) A e ((Rect.unit (s := ⟨3, ![n0, n1, n2]⟩) off ![1, l1, l2] inb).emb j)) = cut A e o1 o2 l1 l2 := by
  subst h
  funext j
  unfold landed cut
  refine congrArg A ?_
  have h1 := ((Rect.unit (s := ⟨3, ![n0, n1, n2]⟩) ![o0, o1, o2] ![1, l1, l2] inb).emb j 1).isLt
  have h2 := ((Rect.unit (s := ⟨3, ![n0, n1, n2]⟩) ![o0, o1, o2] ![1, l1, l2] inb).emb j 2).isLt
  rw [Rect.emb_apply] at h1 h2
  refine congrArg₂ (ix3 e) (Fin.ext ?_) (Fin.ext ?_)
  · rw [Rect.emb_apply]
    refine Eq.trans ?_ (Nat.mod_eq_of_lt ?_).symm
    · exact congrArg (o1 + ·) (Nat.one_mul _)
    · exact lt_of_eq_of_lt (congrArg (o1 + ·) (Nat.one_mul _).symm) h1
  · rw [Rect.emb_apply]
    refine Eq.trans ?_ (Nat.mod_eq_of_lt ?_).symm
    · exact congrArg (o2 + ·) (Nat.one_mul _)
    · exact lt_of_eq_of_lt (congrArg (o2 + ·) (Nat.one_mul _).symm) h2

theorem load2_eq {α : Type} {n1 n2 l1 l2 o1 o2 : ℕ} [NeZero n1] [NeZero n2] {A : (⟨2, ![n1, n2]⟩ : Shape).Idx → α} {off : Fin 2 → ℕ} (h : off = ![o1, o2]) {inb} :
    (fun j => A ((Rect.unit (s := ⟨2, ![n1, n2]⟩) off ![l1, l2] inb).emb j)) = cut2 A o1 o2 l1 l2 := by
  subst h
  funext j
  unfold cut2
  refine congrArg A ?_
  have h1 := ((Rect.unit (s := ⟨2, ![n1, n2]⟩) ![o1, o2] ![l1, l2] inb).emb j 0).isLt
  have h2 := ((Rect.unit (s := ⟨2, ![n1, n2]⟩) ![o1, o2] ![l1, l2] inb).emb j 1).isLt
  rw [Rect.emb_apply] at h1 h2
  funext b; apply Fin.ext
  match b with
  | ⟨0, _⟩ =>
    rw [Rect.emb_apply]
    refine Eq.trans ?_ (Nat.mod_eq_of_lt ?_).symm
    · exact congrArg (o1 + ·) (Nat.one_mul _)
    · exact lt_of_eq_of_lt (congrArg (o1 + ·) (Nat.one_mul _).symm) h1
  | ⟨1, _⟩ =>
    rw [Rect.emb_apply]
    refine Eq.trans ?_ (Nat.mod_eq_of_lt ?_).symm
    · exact congrArg (o2 + ·) (Nat.one_mul _)
    · exact lt_of_eq_of_lt (congrArg (o2 + ·) (Nat.one_mul _).symm) h2

/-- A box held by a load. -/
theorem cut2_at {α : Type} {n1 n2 : ℕ} [NeZero n1] [NeZero n2] (A : (⟨2, ![n1, n2]⟩ : Shape).Idx → α) (o1 o2 l1 l2 : ℕ) (i : Fin l1) (j : Fin l2) (h1 : o1 + i.val < n1) (h2 : o2 + j.val < n2) :
    cut2 A o1 o2 l1 l2 (ix2 i j) = A (ix2 ⟨o1 + i.val, h1⟩ ⟨o2 + j.val, h2⟩) :=
  congrArg A (congrArg₂ ix2 (Fin.ext (Nat.mod_eq_of_lt h1)) (Fin.ext (Nat.mod_eq_of_lt h2)))

/-- The gate and up weights of chunk `k` for the output columns of block `B`. -/
def wG (a : Arrs F) (e : Fin 47) (B k : ℕ) : FVec F S256x256 .bf16 :=
  k0_pay8 (cut (n1 := 1536) (n2 := 2048) a.A4 e (256 * B) (128 * k) 256 128) (cut (n1 := 32) (n2 := 1536) a.A5 e (2 * k) (256 * B) 1 256) (cut (n1 := 32) (n2 := 1536) a.A5 e (2 * k + 1) (256 * B) 1 256)

def wU (a : Arrs F) (e : Fin 47) (B k : ℕ) : FVec F S256x256 .bf16 :=
  k0_pay9 (cut (n1 := 1536) (n2 := 2048) a.A6 e (256 * B) (128 * k) 256 128) (cut (n1 := 32) (n2 := 1536) a.A7 e (2 * k) (256 * B) 1 256) (cut (n1 := 32) (n2 := 1536) a.A7 e (2 * k + 1) (256 * B) 1 256)

/-- The tokens of chunk `k`. -/
def xCh (X : S16x4096.Idx → Elt F .bf16) (k : ℕ) : FVec F S16x256 .bf16 := cut2 (n1 := 16) (n2 := 4096) X 0 (256 * k) 16 256

/-- The sums after `k` chunks. -/
def accG (a : Arrs F) (e : Fin 47) (X : S16x4096.Idx → Elt F .bf16) (B : ℕ) : ℕ → FVec F S16x256 .f32
  | 0 => k0_pay21
  | k + 1 => k0_pay22 (accG a e X B k) (wG a e B k) (xCh X k) (constant S16x256 .f32 0x00000000#32)

def accU (a : Arrs F) (e : Fin 47) (X : S16x4096.Idx → Elt F .bf16) (B : ℕ) : ℕ → FVec F S16x256 .f32
  | 0 => k0_pay23
  | k + 1 => k0_pay24 (accU a e X B k) (wU a e B k) (xCh X k) (constant S16x256 .f32 0x00000000#32)

/-- Block `B` of the hidden layer. -/
def hBlk (a : Arrs F) (e : Fin 47) (X : S16x4096.Idx → Elt F .bf16) (B : ℕ) : FVec F S8x256 .f32 := k0_pay25 (accG a e X B 16) (accU a e X B 16)

/-- The hidden layer. -/
def hid (a : Arrs F) (e : Fin 47) (X : S16x4096.Idx → Elt F .bf16) : S8x1536.Idx → Elt F .f32 :=
  fun i => hBlk a e X ((i 1).val / 256) (ix2 (n0 := 8) (n1 := 256) ⟨(i 0).val, (i 0).isLt⟩ ⟨(i 1).val % 256, Nat.mod_lt _ (by decide)⟩)

/-- The first `k` blocks of the hidden layer are written. -/
def Hidden (a : Arrs F) (e : Fin 47) (X : S16x4096.Idx → Elt F .bf16) (k : ℕ) (Y : S8x1536.Idx → Elt F .f32) : Prop :=
  ∀ (i : Fin 8) (j : Fin 1536), j.val < 256 * k → Y (ix2 i j) = hid a e X (ix2 i j)

theorem hidden_step {a : Arrs F} {e : Fin 47} {X} {B : ℕ} {Y} (h : Hidden a e X B Y) {off : Fin 2 → ℕ} (ho : off = ![0, 256 * B]) {inb} :
    Hidden a e X (B + 1) ((Rect.unit (s := S8x1536) off S8x256.size inb).overlay Y (hBlk a e X B)) := by
  intro i j hj
  by_cases hb : 256 * B ≤ j.val
  · have := over2_in ho inb Y (hBlk a e X B) i ⟨j.val - 256 * B, by omega⟩ (by omega) (by simp; omega)
    refine Eq.trans (congrArg _ (congrArg₂ ix2 (Fin.ext (by simp)) (Fin.ext (by simp; omega)))) (this.trans ?_)
    unfold hid
    refine congr (congrArg (hBlk a e X) ?_) (congrArg₂ ix2 (Fin.ext rfl) (Fin.ext ?_))
    · show B = j.val / 256; omega
    · show j.val - 256 * B = j.val % 256; omega
  · refine (over2_out ho inb Y (hBlk a e X B) i j ?_).trans (h i j (by omega))
    rintro ⟨-, -, h1, -⟩; omega

theorem hidden_all {a : Arrs F} {e : Fin 47} {X} {Y} (h : Hidden a e X 6 Y) : Y = hid a e X := by
  funext i
  rw [show i = ix2 (n0 := 8) (n1 := 1536) (i 0) (i 1) from by funext b; match b with | ⟨0, _⟩ => rfl | ⟨1, _⟩ => rfl]
  exact h _ _ (by have h := (i 1).isLt; have : (i 1).val < 1536 := h; omega)

/-- The exponent field and the small-value test of a block of the hidden layer, its codes and its scale. -/
def hE (v : FVec F S8x128 .f32) : IVec S8x1 32 := k0_pay13 (k0_pay10 v) (k0_pay11 v) (k0_pay12 v)
def hT (v : FVec F S8x128 .f32) : IVec S8x1 1 := k0_pay14 (k0_pay10 v)
def hCode (v : FVec F S8x128 .f32) : FVec F S8x128 .f32 := k0_pay30 v (hE v) (hT v) k0_pay15
def hb (H : S8x1536.Idx → Elt F .f32) (b : ℕ) : FVec F S8x128 .f32 := cut2 (n1 := 8) (n2 := 1536) H 0 (128 * b) 8 128

/-- The scales gathered before block `b`. -/
def hAcc (v199 : IVec S8x128 32) (H : S8x1536.Idx → Elt F .f32) : ℕ → FVec F S8x128 .f32
  | 0 => k0_pay26
  | b + 1 => k0_pay32 v199 (hAcc v199 H b) (Scf.iv 0#32 1#32 b) (hE (hb H b)) (hT (hb H b)) k0_pay15

/-- The codes of the hidden layer. -/
def hq (H : S8x1536.Idx → Elt F .f32) : S8x1536.Idx → Elt F .f32 :=
  fun i => hCode (hb H ((i 1).val / 128)) (ix2 (n0 := 8) (n1 := 128) ⟨(i 0).val, (i 0).isLt⟩ ⟨(i 1).val % 128, Nat.mod_lt _ (by decide)⟩)

/-- The first `k` blocks hold codes, the others the hidden layer still. -/
def Quant (H : S8x1536.Idx → Elt F .f32) (k : ℕ) (Y : S8x1536.Idx → Elt F .f32) : Prop :=
  ∀ (i : Fin 8) (j : Fin 1536), Y (ix2 i j) = if j.val < 128 * k then hq H (ix2 i j) else H (ix2 i j)

theorem quant_block {H : S8x1536.Idx → Elt F .f32} {k : ℕ} {Y} (h : Quant H k Y) (hk : k < 12) : hb Y k = hb H k := by
  funext i
  have key : ∀ (t : Fin 8) (j : Fin 128), hb Y k (ix2 t j) = hb H k (ix2 t j) := by
    intro t j
    have hj := j.isLt; have ht := t.isLt
    unfold hb
    exact (cut2_at (n1 := 8) (n2 := 1536) Y 0 (128 * k) 8 128 t j (by omega) (by omega)).trans
      (((h _ _).trans (if_neg (by simp))).trans (cut2_at (n1 := 8) (n2 := 1536) H 0 (128 * k) 8 128 t j (by omega) (by omega)).symm)
  rw [show i = ix2 (n0 := 8) (n1 := 128) (i 0) (i 1) from by funext b; match b with | ⟨0, _⟩ => rfl | ⟨1, _⟩ => rfl]
  exact key _ _

theorem quant_step {H : S8x1536.Idx → Elt F .f32} {k : ℕ} {Y} (h : Quant H k Y) {off : Fin 2 → ℕ} (ho : off = ![0, 128 * k]) {inb} :
    Quant H (k + 1) ((Rect.unit (s := S8x1536) off S8x128.size inb).overlay Y (hCode (hb H k))) := by
  intro i j
  by_cases hb' : 128 * k ≤ j.val ∧ j.val < 128 * k + 128
  · rw [if_pos (by omega)]
    have := over2_in ho inb Y (hCode (hb H k)) i ⟨j.val - 128 * k, by omega⟩ (by omega) (by simp; omega)
    refine Eq.trans (congrArg _ (congrArg₂ ix2 (Fin.ext (by simp)) (Fin.ext (by simp; omega)))) (this.trans ?_)
    unfold hq
    refine congr (congrArg (fun n => hCode (hb H n)) ?_) (congrArg₂ ix2 (Fin.ext rfl) (Fin.ext ?_))
    · show k = j.val / 128; omega
    · show j.val - 128 * k = j.val % 128; omega
  · refine (over2_out ho inb Y (hCode (hb H k)) i j (by omega)).trans ((h i j).trans ?_)
    by_cases hj : j.val < 128 * k
    · rw [if_pos hj, if_pos (by omega)]
    · rw [if_neg hj, if_neg (by omega)]

theorem quant_all {H : S8x1536.Idx → Elt F .f32} {Y} (h : Quant H 12 Y) : Y = hq H := by
  funext i
  rw [show i = ix2 (n0 := 8) (n1 := 1536) (i 0) (i 1) from by funext b; match b with | ⟨0, _⟩ => rfl | ⟨1, _⟩ => rfl]
  exact (h _ _).trans (if_pos (by have h := (i 1).isLt; have : (i 1).val < 1536 := h; omega))

end Cert.KernelIdeal.Hand
-- ==== Proof.HRows.lean ====
/-
  The rows of the gathered codes and scales: an expert's trip writes the rows of the choices that fell on it.
-/
module

public import proofs.«01_k».proof.Proof.HVal
public import proofs.«01_k».proof.Proof.Scan
public import Idealize.ShloMosaic.Lib.Pipeline.Value

@[expose] public section

noncomputable section

namespace Cert.KernelIdeal.Hand

open Cert.KernelIdeal Cert.KernelIdeal.Gen Cert.Held
open Idealize.ShloMosaic Idealize.ShloMosaic.TcCoe

variable {F : FTy → Type} [FloatOps F]

/-- The rows after a trip: those of expert `e` hold its values. -/
def put {α : Type} {n : ℕ} (ids : ℕ → Fin 47) (e : Fin 47) (V : (⟨2, ![8, n]⟩ : Shape).Idx → α) (Y : (⟨2, ![48, n]⟩ : Shape).Idx → α) (p : Fin 48) (j : Fin n) : α :=
  if ids p.val = e then V (ix2 ⟨p.val / 8, by omega⟩ j) else Y (ix2 p j)

/-- The columns before block `q` are written, and in block `q` the rows of the first `t` tokens. -/
def Part {α : Type} {n : ℕ} (w t q : ℕ) (ids : ℕ → Fin 47) (e : Fin 47) (V : (⟨2, ![8, n]⟩ : Shape).Idx → α) (Y0 Y : (⟨2, ![48, n]⟩ : Shape).Idx → α) : Prop :=
  ∀ (p : Fin 48) (j : Fin n), Y (ix2 p j) = if j.val < w * q ∨ (j.val < w * q + w ∧ p.val < 8 * t) then put ids e V Y0 p j else Y0 (ix2 p j)

theorem part_step {α : Type} {n w q : ℕ} [NeZero n] (t : Fin 6) {ids : ℕ → Fin 47} {e : Fin 47} {V : (⟨2, ![8, n]⟩ : Shape).Idx → α} {Y0 Y : (⟨2, ![48, n]⟩ : Shape).Idx → α}
    (h : Part w t.val q ids e V Y0 Y) {off : Fin 2 → ℕ} (ho : off = ![8 * t.val, w * q]) (hq : w * q + w ≤ n) {inb} {W : (⟨2, ![8, w]⟩ : Shape).Idx → α}
    (hW : ∀ (i : Fin 8) (l : Fin w), W (ix2 i l) = if ids (8 * t.val + i.val) = e then V (ix2 ⟨t.val, by omega⟩ ⟨w * q + l.val, by omega⟩) else Y (ix2 ⟨8 * t.val + i.val, by omega⟩ ⟨w * q + l.val, by omega⟩)) :
    Part w (t.val + 1) q ids e V Y0 ((Rect.unit (s := ⟨2, ![48, n]⟩) off ![8, w] inb).overlay Y W) := by
  intro p j
  have ht := t.isLt
  by_cases hb : (8 * t.val ≤ p.val ∧ p.val < 8 * t.val + 8) ∧ (w * q ≤ j.val ∧ j.val < w * q + w)
  · obtain ⟨⟨h1, h2⟩, h3, h4⟩ := hb
    rw [if_pos (by omega)]
    have ep : (⟨8 * t.val + (p.val - 8 * t.val), by omega⟩ : Fin 48) = p := Fin.ext (by simp; omega)
    have ej : (⟨w * q + (j.val - w * q), by omega⟩ : Fin n) = j := Fin.ext (by simp; omega)
    have := over2_in ho inb Y W ⟨p.val - 8 * t.val, by omega⟩ ⟨j.val - w * q, by omega⟩ (by simp; omega) (by simp; omega)
    refine Eq.trans (congrArg _ (congrArg₂ ix2 ep.symm ej.symm)) (this.trans ((hW _ _).trans ?_))
    simp only [ep, ej]
    unfold put
    have e1 : 8 * t.val + (p.val - 8 * t.val) = p.val := by omega
    rw [e1]
    split
    · exact congrArg V (congrArg₂ ix2 (Fin.ext (by show t.val = p.val / 8; omega)) rfl)
    · rw [h, if_neg (by omega)]
  · refine (over2_out ho inb Y W p j (by omega)).trans ((h p j).trans ?_)
    by_cases hc : j.val < w * q ∨ (j.val < w * q + w ∧ p.val < 8 * t.val)
    · rw [if_pos hc, if_pos (by omega)]
    · rw [if_neg hc, if_neg (by omega)]

theorem part_next {α : Type} {n w q : ℕ} {ids : ℕ → Fin 47} {e : Fin 47} {V : (⟨2, ![8, n]⟩ : Shape).Idx → α} {Y0 Y : (⟨2, ![48, n]⟩ : Shape).Idx → α}
    (h : Part w 6 q ids e V Y0 Y) : Part w 0 (q + 1) ids e V Y0 Y := by
  intro p j
  refine (h p j).trans ?_
  have := p.isLt
  have e1 : w * (q + 1) = w * q + w := by rw [Nat.mul_add, Nat.mul_one]
  by_cases hc : j.val < w * q ∨ (j.val < w * q + w ∧ p.val < 8 * 6)
  · rw [if_pos hc, if_pos (by omega)]
  · rw [if_neg hc, if_neg (by omega)]

theorem part_start {α : Type} {n w : ℕ} {ids : ℕ → Fin 47} {e : Fin 47} {V : (⟨2, ![8, n]⟩ : Shape).Idx → α} {Y0 : (⟨2, ![48, n]⟩ : Shape).Idx → α} : Part w 0 0 ids e V Y0 Y0 := by
  intro p j
  rw [if_neg (by omega)]

/-- The rows of the experts already taken hold their values. -/
def Kept {α : Type} {n : ℕ} (ids : ℕ → Fin 47) (V : Fin 47 → (⟨2, ![8, n]⟩ : Shape).Idx → α) (L : List (Fin 47)) (k : ℕ) (Y : (⟨2, ![48, n]⟩ : Shape).Idx → α) : Prop :=
  ∀ (p : Fin 48) (j : Fin n), ids p.val ∈ L.take k → Y (ix2 p j) = V (ids p.val) (ix2 ⟨p.val / 8, by omega⟩ j)

theorem kept_step {α : Type} {n w q : ℕ} {ids : ℕ → Fin 47} {V : Fin 47 → (⟨2, ![8, n]⟩ : Shape).Idx → α} {L : List (Fin 47)} {k : ℕ} (hk : k < L.length) {Y0 Y : (⟨2, ![48, n]⟩ : Shape).Idx → α}
    (h : Kept ids V L k Y0) (hp : Part w 0 q ids L[k] (V L[k]) Y0 Y) (hn : n ≤ w * q) : Kept ids V L (k + 1) Y := by
  intro p j hm
  rw [hp p j, if_pos (by have := j.isLt; omega)]
  unfold put
  split
  · rename_i he; rw [he]
  · rename_i he
    refine h p j ?_
    rw [List.take_succ_eq_append_getElem hk, List.mem_append, List.mem_singleton] at hm
    exact hm.resolve_right he

/-- The choices, spread over the lanes. -/
def Spread (ids : ℕ → Fin 47) (k : ℕ) (X : S48x128.Idx → Elt F .i32) : Prop :=
  ∀ (p : Fin 48) (l : Fin 128), p.val < k → X (ix2 p l) = BitVec.ofNat 32 (ids p.val).val

/-- The lanes of token `t`'s choices that fell on expert `e`. -/
def Mask (ids : ℕ → Fin 47) (e : Fin 47) (t : Fin 6) (m : IVec S8x128 1) : Prop :=
  ∀ (i : Fin 8) (l : Fin 128), m (ix2 i l) = if ids (8 * t.val + i.val) = e then 1#1 else 0#1

theorem ofNat_inj {x y : Fin 47} : (BitVec.ofNat 32 x.val = BitVec.ofNat 32 y.val) ↔ x = y := by
  constructor
  · intro h
    have := congrArg BitVec.toNat h
    simp only [BitVec.toNat_ofNat] at this
    have := x.isLt; have := y.isLt
    exact Fin.ext (by omega)
  · rintro rfl; rfl

theorem mask_of {ids : ℕ → Fin 47} {X : S48x128.Idx → Elt F .i32} (h : Spread (F := F) ids 48 X) (e : Fin 47) (t : Fin 6) {o : ℕ} (ho : o = 8 * t.val) :
    Mask ids e t (k0_pay33 (F := F) (BitVec.ofNat 32 e.val) (cut2 (n1 := 48) (n2 := 128) X o 0 8 128)) := by
  subst ho
  intro i l
  have ht := t.isLt; have hi := i.isLt; have hl := l.isLt
  have e1 := (cut2_at (n1 := 48) (n2 := 128) X (8 * t.val) 0 8 128 i l (by omega) (by omega)).trans (h _ _ (by show 8 * t.val + i.val < 48; omega))
  show IntOp.cmpi .eq (cut2 (n1 := 48) (n2 := 128) X (8 * t.val) 0 8 128 (ix2 i l)) (BitVec.ofNat 32 e.val) = _
  rw [e1]
  show BitVec.ofBool (BitVec.ofNat 32 (ids (8 * t.val + i.val)).val == BitVec.ofNat 32 e.val) = _
  by_cases he : ids (8 * t.val + i.val) = e
  · rw [he, if_pos rfl, beq_self_eq_true]; rfl
  · rw [if_neg he, beq_eq_false_iff_ne.2 fun h => he (ofNat_inj.1 h)]; rfl

theorem pay16_at (m : IVec S8x128 1) (row : Vec F S1x128 .f32) (old : Vec F S8x128 .f32) (i : Fin 8) (l : Fin 128) :
    k0_pay16 m row old (ix2 i l) = if m (ix2 i l) = 1#1 then row (ix2 0 l) else old (ix2 i l) := by
  unfold k0_pay16
  rw [shapeCast_self, shapeCast_self]
  show Scalar.select (m (ix2 i l)) (broadcastTo S8x128 row _ (ix2 i l)) _ = _
  rw [broadcastTo_apply _ _ _ (ix2 0 l)]
  · rfl
  · intro a
    match a with
    | ⟨0, _⟩ => rfl
    | ⟨1, _⟩ => rfl

/-- A store of one token's rows. -/
theorem rows_step {n q o p : ℕ} [NeZero n] (t : Fin 6) {ids : ℕ → Fin 47} {e : Fin 47} {V : (⟨2, ![8, n]⟩ : Shape).Idx → Elt F .f32} {Y0 Y : (⟨2, ![48, n]⟩ : Shape).Idx → Elt F .f32}
    (h : Part 128 t.val q ids e V Y0 Y) {off : Fin 2 → ℕ} (ho : off = ![o, p]) (ho' : o = 8 * t.val) (hp' : p = 128 * q) (hq : 128 * q + 128 ≤ n) {inb} {m : IVec S8x128 1} (hm : Mask ids e t m) {row : FVec F S1x128 .f32}
    (hr : ∀ l : Fin 128, row (ix2 0 l) = V (ix2 ⟨t.val, by omega⟩ ⟨128 * q + l.val, by omega⟩)) {W : (⟨2, ![8, 128]⟩ : Shape).Idx → Elt F .f32} (hW : W = k0_pay16 m row (cut2 (n1 := 48) (n2 := n) Y o p 8 128)) :
    Part 128 (t.val + 1) q ids e V Y0 ((Rect.unit (s := ⟨2, ![48, n]⟩) off ![8, 128] inb).overlay Y W) := by
  subst ho' hp' hW
  refine part_step t h ho hq fun i l => ?_
  have ht := t.isLt; have hi := i.isLt; have hl := l.isLt
  refine (pay16_at _ _ _ i l).trans ?_
  rw [hm i l, hr l]
  by_cases he : ids (8 * t.val + i.val) = e
  · rw [if_pos he, if_pos he, if_pos rfl]
  · rw [if_neg he, if_neg he, if_neg (by decide)]
    exact cut2_at (n1 := 48) (n2 := n) Y (8 * t.val) (128 * q) 8 128 i l (by omega) (by omega)

theorem row_cut (H : S8x1536.Idx → Elt F .f32) (t : Fin 6) (q : ℕ) (hq : 128 * q + 128 ≤ 1536) (l : Fin 128) :
    cut2 (n1 := 8) (n2 := 1536) H t.val (128 * q) 1 128 (ix2 0 l) = H (ix2 ⟨t.val, by omega⟩ ⟨128 * q + l.val, by omega⟩) :=
  cut2_at (n1 := 8) (n2 := 1536) H t.val (128 * q) 1 128 0 l (by have := t.isLt; simp; omega) (by have := l.isLt; omega)

theorem row_slice (v : FVec F S8x128 .f32) (t : Fin 6) {off : Fin 2 → ℕ} (ho : off = ![t.val, 0]) {h : S8x128.Slices off S1x128} (l : Fin 128) (hl : 128 * 0 + l.val < 128) :
    extractStridedSlice S1x128 off v h (ix2 0 l) = v (ix2 (n0 := 8) (n1 := 128) ⟨t.val, by omega⟩ ⟨128 * 0 + l.val, hl⟩) := by
  subst ho
  unfold extractStridedSlice
  refine congrArg v ?_
  funext a; apply Fin.ext
  match a with
  | ⟨0, _⟩ => simp
  | ⟨1, _⟩ => simp

theorem pay108_at (x : Elt F .i32) (i : S1x128.Idx) : k0_pay108 (F := F) x i = x := by
  unfold k0_pay108
  rw [shapeCast_self]
  rfl

/-- One more choice spread over the lanes. -/
theorem spread_step {ids : ℕ → Fin 47} {k : ℕ} {Y : S48x128.Idx → Elt F .i32} (h : Spread (F := F) ids k Y) {off : Fin 2 → ℕ} (ho : off = ![k, 0]) {inb} :
    Spread (F := F) ids (k + 1) ((Rect.unit (s := ⟨2, ![48, 128]⟩) off ![1, 128] inb).overlay Y (k0_pay108 (F := F) (BitVec.ofNat 32 (ids k).val))) := by
  intro p l hp
  by_cases hb : p.val = k
  · have e := over2_in ho inb Y (k0_pay108 (F := F) (BitVec.ofNat 32 (ids k).val)) 0 l (by simp; omega) (by simp)
    have e0 : (⟨k + (0 : Fin 1).val, by simp; omega⟩ : Fin 48) = p := Fin.ext (by simp; omega)
    have e1 : (⟨0 + l.val, by simp⟩ : Fin 128) = l := Fin.ext (Nat.zero_add _)
    rw [e0, e1] at e
    rw [e, hb, pay108_at]
  · exact (over2_out ho inb Y _ p l (by omega)).trans (h p l (by omega))

/-- Every row holds its expert's values. -/
def Full {α : Type} {n : ℕ} (ids : ℕ → Fin 47) (V : Fin 47 → (⟨2, ![8, n]⟩ : Shape).Idx → α) (Y : (⟨2, ![48, n]⟩ : Shape).Idx → α) : Prop :=
  ∀ (p : Fin 48) (j : Fin n), Y (ix2 p j) = V (ids p.val) (ix2 ⟨p.val / 8, by omega⟩ j)

theorem full_of {α : Type} {n : ℕ} {ids : ℕ → Fin 47} {V : Fin 47 → (⟨2, ![8, n]⟩ : Shape).Idx → α} {Y : (⟨2, ![48, n]⟩ : Shape).Idx → α}
    (h : Kept ids V (scanL ids 48) (scanL ids 48).length Y) : Full ids V Y := by
  intro p j
  refine h p j ?_
  rw [List.take_length]
  exact (mem_scanL ids _ 48).2 ⟨p.val, p.isLt, rfl⟩

/-- The hidden layer's codes of the first `n` tokens are written. -/
def HCoded (ids : ℕ → Fin 47) (V : Fin 47 → S8x1536.Idx → Elt F .f32) (n : ℕ) (Y : S6x8x1536.Idx → Elt F .fp8e4m3) : Prop :=
  ∀ (t : Fin 6) (i : Fin 8) (j : Fin 1536), t.val < n → Y (ix3 t i j) = k0_pay131 (V (ids (8 * t.val + i.val))) (ix2 ⟨t.val, by omega⟩ j)

/-- The hidden layer's scales of the first `n` tokens are written. -/
def HScaled (ids : ℕ → Fin 47) (V : Fin 47 → S8x128.Idx → Elt F .f32) (n : ℕ) (Y : S6x8x12.Idx → Elt F .f32) : Prop :=
  ∀ (t : Fin 6) (i : Fin 8) (g : Fin 12), t.val < n → Y (ix3 t i g) = V (ids (8 * t.val + i.val)) (ix2 ⟨t.val, by omega⟩ ⟨g.val, by omega⟩)

theorem pay134_at (v : Vec F S8x1536 .f32) (i : Fin 8) (j : Fin 1536) : k0_pay134 v (ix3 0 i j) = k0_pay131 v (ix2 i j) := by
  unfold k0_pay134
  refine shapeCast_apply _ _ _ _ ?_
  rw [Shape.rowMajor_val_two, Shape.rowMajor_val_three]
  simp [ix2, ix3]

theorem pay135_at (v : Vec F S8x12 .f32) (i : Fin 8) (g : Fin 12) : k0_pay135 v (ix3 0 i g) = v (ix2 i g) := by
  unfold k0_pay135
  refine shapeCast_apply _ _ _ _ ?_
  rw [Shape.rowMajor_val_two, Shape.rowMajor_val_three]
  simp [ix2, ix3]

theorem pay131_congr {v w : Vec F S8x1536 .f32} {x y : S8x1536.Idx} (h : v x = w y) : k0_pay131 v x = k0_pay131 w y := by
  unfold k0_pay131 truncf
  rw [h]

theorem hcoded_step {ids : ℕ → Fin 47} {V : Fin 47 → S8x1536.Idx → Elt F .f32} {Z : S48x1536.Idx → Elt F .f32} (hZ : Full ids V Z) (t : Fin 6) {o : ℕ} (hO : o = 8 * t.val) {Y : S6x8x1536.Idx → Elt F .fp8e4m3}
    (h : HCoded ids V t.val Y) {off : Fin 3 → ℕ} (ho : off = ![t.val, 0, 0]) {inb} {W : S1x8x1536.Idx → Elt F .fp8e4m3} (hW : W = k0_pay134 (cut2 (n1 := 48) (n2 := 1536) Z o 0 8 1536)) :
    HCoded ids V (t.val + 1) ((Rect.unit (s := ⟨3, ![6, 8, 1536]⟩) off ![1, 8, 1536] inb).overlay Y W) := by
  subst hO hW
  intro u i j hu
  by_cases hb : u.val = t.val
  · obtain rfl : u = t := Fin.ext hb
    refine (over3_in ho inb Y _ u i j rfl).trans ((pay134_at _ i j).trans ?_)
    have e := (cut2_at (n1 := 48) (n2 := 1536) Z (8 * u.val) 0 8 1536 i j (by omega) (by omega)).trans (hZ _ _)
    have e2 : (⟨(8 * u.val + i.val) / 8, by omega⟩ : Fin 8) = ⟨u.val, by omega⟩ := Fin.ext (by show (8 * u.val + i.val) / 8 = u.val; omega)
    have e3 : (⟨0 + j.val, by omega⟩ : Fin 1536) = j := Fin.ext (Nat.zero_add _)
    rw [e3] at e
    exact pay131_congr (e.trans (congrArg (V _) (congrArg₂ ix2 e2 rfl)))
  · exact (over3_out ho inb Y _ u i j hb).trans (h u i j (by omega))

theorem hscaled_step {ids : ℕ → Fin 47} {V : Fin 47 → S8x128.Idx → Elt F .f32} {Z : S48x128.Idx → Elt F .f32} (hZ : Full ids V Z) (t : Fin 6) {o : ℕ} (hO : o = 8 * t.val) {Y : S6x8x12.Idx → Elt F .f32}
    (h : HScaled ids V t.val Y) {off : Fin 3 → ℕ} (ho : off = ![t.val, 0, 0]) {inb} {W : S1x8x12.Idx → Elt F .f32} (hW : W = k0_pay135 (cut2 (n1 := 48) (n2 := 128) Z o 0 8 12)) :
    HScaled ids V (t.val + 1) ((Rect.unit (s := ⟨3, ![6, 8, 12]⟩) off ![1, 8, 12] inb).overlay Y W) := by
  subst hO hW
  intro u i g hu
  by_cases hb : u.val = t.val
  · obtain rfl : u = t := Fin.ext hb
    refine (over3_in ho inb Y _ u i g rfl).trans ((pay135_at _ i g).trans ?_)
    have e := (cut2_at (n1 := 48) (n2 := 128) Z (8 * u.val) 0 8 12 i g (by omega) (by omega)).trans (hZ _ _)
    have e2 : (⟨(8 * u.val + i.val) / 8, by omega⟩ : Fin 8) = ⟨u.val, by omega⟩ := Fin.ext (by show (8 * u.val + i.val) / 8 = u.val; omega)
    exact e.trans (congrArg (V _) (congrArg₂ ix2 e2 (Fin.ext (Nat.zero_add _))))
  · exact (over3_out ho inb Y _ u i g hb).trans (h u i g (by omega))

/-- The number of each lane. -/
abbrev lanes : IVec S8x128 32 := iota .tc S8x128 32 [1] iota_S8x128_d1_w32

end Cert.KernelIdeal.Hand
-- ==== Proof.Spread.lean ====
/-
  The routing words spread over the lanes: the words that select an expert's rows.
-/
module

public import proofs.«01_k».proof.Proof.XQuant
public import proofs.«01_k».proof.Proof.HRows
public import proofs.«01_k».proof.Proof.Gen.KernelIdeal.Skeleton
public import Idealize.ShloMosaic.Lib.Pipeline.FrameBody

@[expose] public section

noncomputable section

namespace Cert.KernelIdeal.Hand

open Cert.KernelIdeal Cert.KernelIdeal.Gen Cert.Held
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (Pipeline.UD sig nD τ) ℕ

variable (c : Dev nD) (r : Refs)

theorem off17_eq : ∀ k : Fin k0_t4_loop.trips, k0_off17 k = ![k.val / 8, 0, k.val % 8] := by decide +kernel

theorem t4_step {ids : ℕ → Fin 47} {X0 : S6x1x8.Idx → Elt F .i32} (h0 : IdsAre ids X0) (k : Fin k0_t4_loop.trips) (v : Unit) :
    iprop(at_ c r.a0 X0 ∗ (∃ X, ⌜Spread ids k.val X⌝ ∗ at_ c r.a26 X)) ⊢ wpc c (k0_t4_body (F := F)  r.a0 r.h0 r.a1 r.h1 r.a2 r.h2 r.a3 r.h3 r.a4 r.h4 r.a5 r.h5 r.a6 r.h6 r.a7 r.h7 r.a8 r.h8 r.a9 r.h9 r.a10 r.h10 r.a11 r.h11 r.a12 r.h12 r.a13 r.h13 r.a14 r.h14 r.a15 r.h15 r.a16 r.h16 r.a17 r.h17 r.a18 r.h18 r.a19 r.h19 r.a20 r.h20 r.a21 r.h21 r.a22 r.h22 r.a23 r.h23 r.a24 r.h24 r.a25 r.h25 r.a26 r.h26 r.a27 r.h27 r.a28 r.h28 r.a29 r.h29 r.a30 r.h30 r.a31 r.h31 r.a32 r.a33 r.a34 r.a35 0#32 48#32 k v) (fun _ => iprop(at_ c r.a0 X0 ∗ (∃ X, ⌜Spread ids (k.val + 1) X⌝ ∗ at_ c r.a26 X))) := by
  unfold k0_t4_body
  have hk : k.val < 48 := lt_of_lt_of_le k.isLt (by decide)
  iintro ⟨H0, ⟨%X, %hX, H26⟩⟩
  iapply (wp_smemLoad' (i := ix3 ⟨k.val / 8, by omega⟩ 0 ⟨k.val % 8, by omega⟩) (by
    funext a; apply Fin.ext
    refine (Rect.emb_apply ..).trans ?_
    simp only [Rect.unit, off17_eq]
    fin_cases a <;> simp [ix3, Shape.Idx.first]) rfl) $$ H0
  iintro H0
  have hid : X0 (ix3 ⟨k.val / 8, by omega⟩ 0 ⟨k.val % 8, by omega⟩) = BitVec.ofNat 32 (ids k.val).val := by
    rw [h0]; congr 3; simp only; omega
  rw [hid]
  iapply (wp_load' (Finset.subset_univ _)) $$ H26
  iintro H26
  iapply (wp_store' (Finset.subset_univ _)) $$ H26
  iintro H26
  iapply wp_pure'
  isplitl [H0]; · iexact H0
  iexists _; isplitr
  rotate_left
  · iexact H26
  · ipureintro; exact spread_step hX (k0_off18_eq k)

theorem part30_spec {ids : ℕ → Fin 47} {X0 : S6x1x8.Idx → Elt F .i32} (h0 : IdsAre ids X0) {X2 : S6x1x8.Idx → Elt F .i32} {X3 : S6x1x8.Idx → Elt F .f32} {Q} :
    iprop(at_ c r.a0 X0 ∗ at_ c r.a2 X2 ∗ at_ c r.a3 X3 ∗ any (F := F) c r.a26 ∗ any (F := F) c r.a27 ∗ any (F := F) c r.a28) ⊢
      iprop((∀ v, iprop(at_ c r.a0 X0 ∗ at_ c r.a2 X2 ∗ at_ c r.a3 X3 ∗ (∃ X, ⌜Spread ids 48 X⌝ ∗ at_ c r.a26 X) ∗ any (F := F) c r.a27 ∗ any (F := F) c r.a28) -∗ Q v) -∗
        wpc c (k0_part30 (F := F)  r.a0 r.h0 r.a1 r.h1 r.a2 r.h2 r.a3 r.h3 r.a4 r.h4 r.a5 r.h5 r.a6 r.h6 r.a7 r.h7 r.a8 r.h8 r.a9 r.h9 r.a10 r.h10 r.a11 r.h11 r.a12 r.h12 r.a13 r.h13 r.a14 r.h14 r.a15 r.h15 r.a16 r.h16 r.a17 r.h17 r.a18 r.h18 r.a19 r.h19 r.a20 r.h20 r.a21 r.h21 r.a22 r.h22 r.a23 r.h23 r.a24 r.h24 r.a25 r.h25 r.a26 r.h26 r.a27 r.h27 r.a28 r.h28 r.a29 r.h29 r.a30 r.h30 r.a31 r.h31 r.a32 r.a33 r.a34 r.a35 0#32 48#32) Q) := by
  rw [k0_part30_eq_skeleton]; unfold k0_part30_skel
  iintro ⟨H0, H2, H3, H26, H27, H28⟩ Hk
  iapply (Scf.wp_for_bind (I := fun n _ => iprop(at_ c r.a0 X0 ∗ (∃ X, ⌜Spread ids n X⌝ ∗ at_ c r.a26 X))) (hbody := fun k v => t4_step c r h0 k v)) $$ [H0 H26]
  · isplitl [H0]; · iexact H0
    unfold any
    icases H26 with ⟨%X, H26⟩
    iexists X; isplitr
    · ipureintro; intro p l h; omega
    iexact H26
  rw [show Scf.trips _ _ _ = 48 from (by decide : k0_t4_loop.trips = 48)]
  iintro %_ ⟨H0, H26⟩
  iapply (any_load c) $$ H27; iintro %_ H27
  iapply (any_store c) $$ H27; iintro H27
  iapply (any_load c) $$ H28; iintro %_ H28
  iapply (any_store c) $$ H28; iintro H28
  iapply (held_load c (Finset.subset_univ _)) $$ H2; iintro %_ H2
  iapply (any_load c) $$ H27; iintro %_ H27
  iapply (any_store c) $$ H27; iintro H27
  iapply (held_load c (Finset.subset_univ _)) $$ H3; iintro %_ H3
  iapply (any_load c) $$ H28; iintro %_ H28
  iapply (any_store c) $$ H28; iintro H28
  iapply (held_load c (Finset.subset_univ _)) $$ H2; iintro %_ H2
  iapply (any_load c) $$ H27; iintro %_ H27
  iapply (any_store c) $$ H27; iintro H27
  iapply (held_load c (Finset.subset_univ _)) $$ H3; iintro %_ H3
  iapply wp_pure'
  iapply Hk
  isplitl [H0]; · iexact H0
  isplitl [H2]; · iexact H2
  isplitl [H3]; · iexact H3
  isplitl [H26]; · iexact H26
  isplitl [H27]; · iexact H27
  iexact H28

theorem part31_spec {v155} {X2 : S6x1x8.Idx → Elt F .i32} {X3 : S6x1x8.Idx → Elt F .f32} {Q} :
    iprop(at_ c r.a2 X2 ∗ at_ c r.a3 X3 ∗ any (F := F) c r.a27 ∗ any (F := F) c r.a28) ⊢
      iprop((∀ v, iprop(at_ c r.a2 X2 ∗ at_ c r.a3 X3 ∗ any (F := F) c r.a27 ∗ any (F := F) c r.a28) -∗ Q v) -∗
        wpc c (k0_part31 (F := F)  r.a0 r.h0 r.a1 r.h1 r.a2 r.h2 r.a3 r.h3 r.a4 r.h4 r.a5 r.h5 r.a6 r.h6 r.a7 r.h7 r.a8 r.h8 r.a9 r.h9 r.a10 r.h10 r.a11 r.h11 r.a12 r.h12 r.a13 r.h13 r.a14 r.h14 r.a15 r.h15 r.a16 r.h16 r.a17 r.h17 r.a18 r.h18 r.a19 r.h19 r.a20 r.h20 r.a21 r.h21 r.a22 r.h22 r.a23 r.h23 r.a24 r.h24 r.a25 r.h25 r.a26 r.h26 r.a27 r.h27 r.a28 r.h28 r.a29 r.h29 r.a30 r.h30 r.a31 r.h31 r.a32 r.a33 r.a34 r.a35 v155) Q) := by
  rw [k0_part31_eq_skeleton]; unfold k0_part31_skel
  iintro ⟨H2, H3, H27, H28⟩ Hk
  iapply (any_load c) $$ H28; iintro %_ H28
  iapply (any_store c) $$ H28; iintro H28
  iapply (held_load c (Finset.subset_univ _)) $$ H2; iintro %_ H2
  iapply (any_load c) $$ H27; iintro %_ H27
  iapply (any_store c) $$ H27; iintro H27
  iapply (held_load c (Finset.subset_univ _)) $$ H3; iintro %_ H3
  iapply (any_load c) $$ H28; iintro %_ H28
  iapply (any_store c) $$ H28; iintro H28
  iapply (held_load c (Finset.subset_univ _)) $$ H2; iintro %_ H2
  iapply (any_load c) $$ H27; iintro %_ H27
  iapply (any_store c) $$ H27; iintro H27
  iapply (held_load c (Finset.subset_univ _)) $$ H3; iintro %_ H3
  iapply (any_load c) $$ H28; iintro %_ H28
  iapply (any_store c) $$ H28; iintro H28
  iapply (held_load c (Finset.subset_univ _)) $$ H2; iintro %_ H2
  iapply (any_load c) $$ H27; iintro %_ H27
  iapply (any_store c) $$ H27; iintro H27
  iapply wp_pure'
  iapply Hk
  isplitl [H2]; · iexact H2
  isplitl [H3]; · iexact H3
  isplitl [H27]; · iexact H27
  iexact H28

end Cert.KernelIdeal.Hand
-- ==== Proof.Gate.lean ====
/-
  The gate and up blocks of one expert: the copies are waited for one by one, and every read lies on rows that have landed.
-/
module

public import proofs.«01_k».proof.Proof.Spread
public import proofs.«01_k».proof.Proof.HVal
public import proofs.«01_k».proof.Proof.Gen.KernelIdeal.Skeleton
public import Idealize.ShloMosaic.Lib.Pipeline.FrameBody

@[expose] public section

noncomputable section

namespace Cert.KernelIdeal.Hand

open Cert.KernelIdeal Cert.KernelIdeal.Gen Cert.Held
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (Pipeline.UD sig nD τ) ℕ

/-- A rectangle on the rows held. -/
theorem rows_sub {n0 n1 n2 p l1 l2 o1 o2 lo l : ℕ} {off : Fin 3 → ℕ} {s : Fin n0} (h : off = ![s.val, o1, o2]) (h1 : lo ≤ o1) (h2 : o1 + l1 ≤ lo + l) {inb} :
    (Rect.unit (s := ⟨3, ![n0, n1, n2]⟩) off ![1, l1, l2] inb).set ⊆ (rows s lo l : Finset (⟨3, ![n0, n1, n2]⟩ : Shape).Idx) := by
  subst h
  intro x hx
  rw [Rect.mem_set_unit] at hx
  have a := hx 0; have b := hx 1
  simp at a b
  simp only [rows, Finset.mem_filter, Finset.mem_univ, true_and]
  omega

/-- What a cell of an expert is doing when the first `k` of its kind have been waited for. -/
def st (e : Fin 47) (j k : ℕ) : St := if j < k then .here e else .fly e

theorem take3 (f : Fin 3 → St → sProp 𝕄) (e : Fin 47) (k : Fin 3) :
    iprop(f 0 (st e 0 k.val) ∗ f 1 (st e 1 k.val) ∗ f 2 (st e 2 k.val)) ⊢
      iprop(f k (.fly e) ∗ (f k (.here e) -∗ iprop(f 0 (st e 0 (k.val + 1)) ∗ f 1 (st e 1 (k.val + 1)) ∗ f 2 (st e 2 (k.val + 1))))) := by
  match k with
  | ⟨0, _⟩ =>
    simp [st]
    iintro ⟨H0, H1, H2⟩
    isplitl [H0]; · iexact H0
    iintro H0
    isplitl [H0]; · iexact H0
    isplitl [H1]; · iexact H1
    iexact H2
  | ⟨1, _⟩ =>
    simp [st]
    iintro ⟨H0, H1, H2⟩
    isplitl [H1]; · iexact H1
    iintro H1
    isplitl [H0]; · iexact H0
    isplitl [H1]; · iexact H1
    iexact H2
  | ⟨2, _⟩ =>
    simp [st]
    iintro ⟨H0, H1, H2⟩
    isplitl [H2]; · iexact H2
    iintro H2
    isplitl [H0]; · iexact H0
    isplitl [H1]; · iexact H1
    iexact H2

theorem take4 (f : Fin 4 → St → sProp 𝕄) (e : Fin 47) (k : Fin 4) :
    iprop(f 0 (st e 0 k.val) ∗ f 1 (st e 1 k.val) ∗ f 2 (st e 2 k.val) ∗ f 3 (st e 3 k.val)) ⊢
      iprop(f k (.fly e) ∗ (f k (.here e) -∗ iprop(f 0 (st e 0 (k.val + 1)) ∗ f 1 (st e 1 (k.val + 1)) ∗ f 2 (st e 2 (k.val + 1)) ∗ f 3 (st e 3 (k.val + 1))))) := by
  match k with
  | ⟨0, _⟩ =>
    simp [st]
    iintro ⟨H0, H1, H2, H3⟩
    isplitl [H0]; · iexact H0
    iintro H0
    isplitl [H0]; · iexact H0
    isplitl [H1]; · iexact H1
    isplitl [H2]; · iexact H2
    iexact H3
  | ⟨1, _⟩ =>
    simp [st]
    iintro ⟨H0, H1, H2, H3⟩
    isplitl [H1]; · iexact H1
    iintro H1
    isplitl [H0]; · iexact H0
    isplitl [H1]; · iexact H1
    isplitl [H2]; · iexact H2
    iexact H3
  | ⟨2, _⟩ =>
    simp [st]
    iintro ⟨H0, H1, H2, H3⟩
    isplitl [H2]; · iexact H2
    iintro H2
    isplitl [H0]; · iexact H0
    isplitl [H1]; · iexact H1
    isplitl [H2]; · iexact H2
    iexact H3
  | ⟨3, _⟩ =>
    simp [st]
    iintro ⟨H0, H1, H2, H3⟩
    isplitl [H3]; · iexact H3
    iintro H3
    isplitl [H0]; · iexact H0
    isplitl [H1]; · iexact H1
    isplitl [H2]; · iexact H2
    iexact H3

variable (c : Dev nD) (r : Refs) (q : Fin 2 → Fin 13 → PosShare TreeShare) (a : Arrs F)

/-- A load from the rows of a landed cell. -/
theorem cell_load {α : Type} {Q : α → sProp 𝕄} {sp : Space} {sp' : CoreSpace} {e : EltTy} {n0 n1 n2 m0 : ℕ} {hm : m0 = 47} {dst : Memref sig .tc sp' ⟨3, ![n0, n1, n2]⟩ e} {s : Fin n0} {lo l : ℕ}
    {src : Memref sig .tc sp ⟨3, ![m0, n1, n2]⟩ e} {q : PosShare TreeShare} {A : (⟨3, ![m0, n1, n2]⟩ : Shape).Idx → Elt F e}
    {σ : DmaSem sig} {ex : Fin 47} {rr : Rect ⟨3, ![n0, n1, n2]⟩} {hl} {k : _ → Prog (TpuEff nD τ sig (Elt F) Λ₀ .tc) α} (hS : rr.set ⊆ rows s lo l) :
    cell c hm dst s lo l src q A σ (.here ex) ⊢ iprop((cell c hm dst s lo l src q A σ (.here ex) -∗ wpc c (k (fun j => landed A (ex.cast hm.symm) (rr.emb j))) Q) -∗
      wpc c (Prog.lift (.load dst rr.toLoadRect hl) >>= k) Q) := by
  unfold cell here3
  iintro ⟨H, H1, H2⟩ Hk
  iapply (wp_load' hS) $$ H
  iintro H
  iapply Hk
  isplitl [H]; · iexact H
  isplitl [H1]; · iexact H1
  iexact H2

/-- The same, with the box that is read named. -/
theorem cell_cut {α : Type} {Q : α → sProp 𝕄} {sp : Space} {sp' : CoreSpace} {e : EltTy} {n0 n1 n2 : ℕ} [NeZero n1] [NeZero n2] {hm : 47 = 47} {dst : Memref sig .tc sp' ⟨3, ![n0, n1, n2]⟩ e} {s : Fin n0} {lo l : ℕ}
    {src : Memref sig .tc sp ⟨3, ![47, n1, n2]⟩ e} {q : PosShare TreeShare} {A : (⟨3, ![47, n1, n2]⟩ : Shape).Idx → Elt F e}
    {σ : DmaSem sig} {ex : Fin 47} {off : Fin 3 → ℕ} {o1 o2 l1 l2 : ℕ} {inb} {hl} {k : _ → Prog (TpuEff nD τ sig (Elt F) Λ₀ .tc) α}
    (h : off = ![s.val, o1, o2]) (h1 : lo ≤ o1) (h2 : o1 + l1 ≤ lo + l) :
    cell c hm dst s lo l src q A σ (.here ex) ⊢ iprop((cell c hm dst s lo l src q A σ (.here ex) -∗ wpc c (k (cut A ex o1 o2 l1 l2)) Q) -∗
      wpc c (Prog.lift (.load dst (Rect.unit (s := ⟨3, ![n0, n1, n2]⟩) off ![1, l1, l2] inb).toLoadRect hl) >>= k) Q) := by
  rw [← land_eq (n0 := n0) h (inb := inb)]
  exact cell_load c (rows_sub (p := 0) h h1 h2)

/-- A load from a memref held whole, the box that is read named. -/
theorem at_cut {α : Type} {Q : α → sProp 𝕄} {cs : CoreSpace} {e : EltTy} {n1 n2 : ℕ} [NeZero n1] [NeZero n2] {m : Memref sig .tc cs ⟨2, ![n1, n2]⟩ e} {X : (⟨2, ![n1, n2]⟩ : Shape).Idx → Elt F e}
    {off : Fin 2 → ℕ} {o1 o2 l1 l2 : ℕ} {inb} {hl} {k : _ → Prog (TpuEff nD τ sig (Elt F) Λ₀ .tc) α} (h : off = ![o1, o2]) :
    at_ c m X ⊢ iprop((at_ c m X -∗ wpc c (k (cut2 X o1 o2 l1 l2)) Q) -∗ wpc c (Prog.lift (.load m (Rect.unit (s := ⟨2, ![n1, n2]⟩) off ![l1, l2] inb).toLoadRect hl) >>= k) Q) := by
  rw [← load2_eq h (inb := inb)]
  exact wp_load' (Finset.subset_univ _)

variable {v81 : BitVec 32} (hv : v81.toNat < 64) {hw4 : k0_chk4 v81} (X : S16x4096.Idx → Elt F .bf16)
include hv

theorem part5_spec (k : Fin (k0_t5_loop v81).trips) (t6 : Fin k0_t6_loop.trips) (t7 : Fin k0_t7_loop.trips) (t8 : Fin k0_t8_loop.trips) {v264 v393 c0 c1} {e : Fin 47} {Q} :
    iprop(cG c r q a (slot k.val) t6 (.here e) ∗ cSg c r q a (slot k.val) (.here e) ∗ at_ c r.a23 X) ⊢
      iprop((iprop(cG c r q a (slot k.val) t6 (.here e) ∗ cSg c r q a (slot k.val) (.here e) ∗ at_ c r.a23 X) -∗
          Q ⟨k0_pay8 (cut (n1 := 1536) (n2 := 2048) a.A4 e (256 * (2 * t6.val + t7.val)) (128 * t8.val) 256 128) (cut (n1 := 32) (n2 := 1536) a.A5 e (2 * t8.val) (256 * (2 * t6.val + t7.val)) 1 256)
            (cut (n1 := 32) (n2 := 1536) a.A5 e (2 * t8.val + 1) (256 * (2 * t6.val + t7.val)) 1 256), cut2 (n1 := 16) (n2 := 4096) X 0 (256 * t8.val) 16 256, constant S16x256 .f32 0x00000000#32⟩) -∗
        wpc c (k0_part5 (F := F)  r.a0 r.h0 r.a1 r.h1 r.a2 r.h2 r.a3 r.h3 r.a4 r.h4 r.a5 r.h5 r.a6 r.h6 r.a7 r.h7 r.a8 r.h8 r.a9 r.h9 r.a10 r.h10 r.a11 r.h11 r.a12 r.h12 r.a13 r.h13 r.a14 r.h14 r.a15 r.h15 r.a16 r.h16 r.a17 r.h17 r.a18 r.h18 r.a19 r.h19 r.a20 r.h20 r.a21 r.h21 r.a22 r.h22 r.a23 r.h23 r.a24 r.h24 r.a25 r.h25 r.a26 r.h26 r.a27 r.h27 r.a28 r.h28 r.a29 r.h29 r.a30 r.h30 r.a31 r.h31 r.a32 r.a33 r.a34 r.a35 v81 hw4 k v264 t6 t7 v393 c0 c1 t8) Q) := by
  have h7 : t7.val < 2 := t7.isLt
  have h8 : t8.val < 16 := t8.isLt
  rw [k0_part5_eq_skeleton]; unfold k0_part5_skel cG cSg
  iintro ⟨HG, HS, H23⟩ Hk
  have hB : 512 * t6.val + 256 * t7.val = 256 * (2 * t6.val + t7.val) := by omega
  iapply (cell_cut c (o1 := 256 * (2 * t6.val + t7.val)) (o2 := 128 * t8.val) ((off56_eq hv k t6 t7 t8).trans (by rw [hB])) (by omega) (by omega)) $$ HG
  iintro HG
  iapply (cell_cut c (o1 := 2 * t8.val) (o2 := 256 * (2 * t6.val + t7.val)) ((off57_eq hv k t6 t7 t8 0).trans (by rw [hB]; rfl)) (by omega) (by omega)) $$ HS
  iintro HS
  iapply (cell_cut c (o1 := 2 * t8.val + 1) (o2 := 256 * (2 * t6.val + t7.val)) ((off57_eq hv k t6 t7 t8 1).trans (by rw [hB]; rfl)) (by omega) (by omega)) $$ HS
  iintro HS
  iapply (at_cut c (k0_off58_eq t8)) $$ H23
  iintro H23
  iapply wp_pure'
  iapply Hk
  isplitl [HG]; · iexact HG
  isplitl [HS]; · iexact HS
  iexact H23

theorem part6_spec (k : Fin (k0_t5_loop v81).trips) (t6 : Fin k0_t6_loop.trips) (t7 : Fin k0_t7_loop.trips) (t9 : Fin k0_t9_loop.trips) {v264 v393 c0 c1} {e : Fin 47} {Q} :
    iprop(cU c r q a (slot k.val) t6 (.here e) ∗ cSu c r q a (slot k.val) (.here e) ∗ at_ c r.a23 X) ⊢
      iprop((iprop(cU c r q a (slot k.val) t6 (.here e) ∗ cSu c r q a (slot k.val) (.here e) ∗ at_ c r.a23 X) -∗
          Q ⟨k0_pay9 (cut (n1 := 1536) (n2 := 2048) a.A6 e (256 * (2 * t6.val + t7.val)) (128 * t9.val) 256 128) (cut (n1 := 32) (n2 := 1536) a.A7 e (2 * t9.val) (256 * (2 * t6.val + t7.val)) 1 256)
            (cut (n1 := 32) (n2 := 1536) a.A7 e (2 * t9.val + 1) (256 * (2 * t6.val + t7.val)) 1 256), cut2 (n1 := 16) (n2 := 4096) X 0 (256 * t9.val) 16 256, constant S16x256 .f32 0x00000000#32⟩) -∗
        wpc c (k0_part6 (F := F)  r.a0 r.h0 r.a1 r.h1 r.a2 r.h2 r.a3 r.h3 r.a4 r.h4 r.a5 r.h5 r.a6 r.h6 r.a7 r.h7 r.a8 r.h8 r.a9 r.h9 r.a10 r.h10 r.a11 r.h11 r.a12 r.h12 r.a13 r.h13 r.a14 r.h14 r.a15 r.h15 r.a16 r.h16 r.a17 r.h17 r.a18 r.h18 r.a19 r.h19 r.a20 r.h20 r.a21 r.h21 r.a22 r.h22 r.a23 r.h23 r.a24 r.h24 r.a25 r.h25 r.a26 r.h26 r.a27 r.h27 r.a28 r.h28 r.a29 r.h29 r.a30 r.h30 r.a31 r.h31 r.a32 r.a33 r.a34 r.a35 v81 hw4 k v264 t6 t7 v393 c0 c1 t9) Q) := by
  have h7 : t7.val < 2 := t7.isLt
  have h8 : t9.val < 16 := t9.isLt
  rw [k0_part6_eq_skeleton]; unfold k0_part6_skel cU cSu
  iintro ⟨HG, HS, H23⟩ Hk
  have hB : 512 * t6.val + 256 * t7.val = 256 * (2 * t6.val + t7.val) := by omega
  iapply (cell_cut c (o1 := 256 * (2 * t6.val + t7.val)) (o2 := 128 * t9.val) ((off59_eq hv k t6 t7 t9).trans (by rw [hB])) (by omega) (by omega)) $$ HG
  iintro HG
  iapply (cell_cut c (o1 := 2 * t9.val) (o2 := 256 * (2 * t6.val + t7.val)) ((off60_eq hv k t6 t7 t9 0).trans (by rw [hB]; rfl)) (by omega) (by omega)) $$ HS
  iintro HS
  iapply (cell_cut c (o1 := 2 * t9.val + 1) (o2 := 256 * (2 * t6.val + t7.val)) ((off60_eq hv k t6 t7 t9 1).trans (by rw [hB]; rfl)) (by omega) (by omega)) $$ HS
  iintro HS
  iapply (at_cut c (k0_off61_eq t9)) $$ H23
  iintro H23
  iapply wp_pure'
  iapply Hk
  isplitl [HG]; · iexact HG
  isplitl [HS]; · iexact HS
  iexact H23

omit hv in
/-- What the loop over the chunks holds. -/
def accGI (s : Fin 2) (t6 : Fin 3) (e : Fin 47) (B k : ℕ) (v : FVec F S16x256 .f32) : sProp 𝕄 :=
  iprop(⌜v = accG a e X B k⌝ ∗ cG c r q a s t6 (.here e) ∗ cSg c r q a s (.here e) ∗ at_ c r.a23 X)

theorem t8_step (k : Fin (k0_t5_loop v81).trips) (t6 : Fin k0_t6_loop.trips) (t7 : Fin k0_t7_loop.trips) {v199 v264 v393 c0 c1} {e : Fin 47} (t : Fin k0_t8_loop.trips) (v : FVec F S16x256 .f32) :
    accGI c r q a X (slot k.val) t6 e (2 * t6.val + t7.val) t.val v ⊢
      wpc c (k0_t8_body (F := F)  r.a0 r.h0 r.a1 r.h1 r.a2 r.h2 r.a3 r.h3 r.a4 r.h4 r.a5 r.h5 r.a6 r.h6 r.a7 r.h7 r.a8 r.h8 r.a9 r.h9 r.a10 r.h10 r.a11 r.h11 r.a12 r.h12 r.a13 r.h13 r.a14 r.h14 r.a15 r.h15 r.a16 r.h16 r.a17 r.h17 r.a18 r.h18 r.a19 r.h19 r.a20 r.h20 r.a21 r.h21 r.a22 r.h22 r.a23 r.h23 r.a24 r.h24 r.a25 r.h25 r.a26 r.h26 r.a27 r.h27 r.a28 r.h28 r.a29 r.h29 r.a30 r.h30 r.a31 r.h31 r.a32 r.a33 r.a34 r.a35 v81 hw4 v199 c0 c1 k v264 t6 t7 v393 t v) (fun w => accGI c r q a X (slot k.val) t6 e (2 * t6.val + t7.val) (t.val + 1) w) := by
  unfold k0_t8_body accGI
  iintro ⟨%hw, H⟩
  iapply wp_seq
  iapply (part5_spec c r q a hv X k t6 t7 t) $$ H
  iintro H
  dsimp only
  iapply wp_pure'
  isplitr
  · ipureintro; rw [hw]; rfl
  iexact H

omit hv in
/-- What the loop over the chunks holds. -/
def accUI (s : Fin 2) (t6 : Fin 3) (e : Fin 47) (B k : ℕ) (v : FVec F S16x256 .f32) : sProp 𝕄 :=
  iprop(⌜v = accU a e X B k⌝ ∗ cU c r q a s t6 (.here e) ∗ cSu c r q a s (.here e) ∗ at_ c r.a23 X)

theorem t9_step (k : Fin (k0_t5_loop v81).trips) (t6 : Fin k0_t6_loop.trips) (t7 : Fin k0_t7_loop.trips) {v199 v264 v393 c0 c1} {e : Fin 47} (t : Fin k0_t9_loop.trips) (v : FVec F S16x256 .f32) :
    accUI c r q a X (slot k.val) t6 e (2 * t6.val + t7.val) t.val v ⊢
      wpc c (k0_t9_body (F := F)  r.a0 r.h0 r.a1 r.h1 r.a2 r.h2 r.a3 r.h3 r.a4 r.h4 r.a5 r.h5 r.a6 r.h6 r.a7 r.h7 r.a8 r.h8 r.a9 r.h9 r.a10 r.h10 r.a11 r.h11 r.a12 r.h12 r.a13 r.h13 r.a14 r.h14 r.a15 r.h15 r.a16 r.h16 r.a17 r.h17 r.a18 r.h18 r.a19 r.h19 r.a20 r.h20 r.a21 r.h21 r.a22 r.h22 r.a23 r.h23 r.a24 r.h24 r.a25 r.h25 r.a26 r.h26 r.a27 r.h27 r.a28 r.h28 r.a29 r.h29 r.a30 r.h30 r.a31 r.h31 r.a32 r.a33 r.a34 r.a35 v81 hw4 v199 c0 c1 k v264 t6 t7 v393 t v) (fun w => accUI c r q a X (slot k.val) t6 e (2 * t6.val + t7.val) (t.val + 1) w) := by
  unfold k0_t9_body accUI
  iintro ⟨%hw, H⟩
  iapply wp_seq
  iapply (part6_spec c r q a hv X k t6 t7 t) $$ H
  iintro H
  dsimp only
  iapply wp_pure'
  isplitr
  · ipureintro; rw [hw]; rfl
  iexact H

omit hv in
/-- What the loop over the blocks of one copy holds. -/
def blkI (s : Fin 2) (t6 : Fin 3) (e : Fin 47) (k : ℕ) : sProp 𝕄 :=
  iprop(cG c r q a s t6 (.here e) ∗ cSg c r q a s (.here e) ∗ cU c r q a s t6 (.here e) ∗ cSu c r q a s (.here e) ∗ at_ c r.a23 X ∗ (∃ Y, ⌜Hidden a e X (2 * t6.val + k) Y⌝ ∗ at_ c r.a25 Y))

theorem t7_step (k : Fin (k0_t5_loop v81).trips) (t6 : Fin k0_t6_loop.trips) {v199 v264 arg38 c0 c1} {e : Fin 47} (t7 : Fin k0_t7_loop.trips) (v : BitVec 32) :
    blkI c r q a X (slot k.val) t6 e t7.val ⊢
      wpc c (k0_t7_body (F := F)  r.a0 r.h0 r.a1 r.h1 r.a2 r.h2 r.a3 r.h3 r.a4 r.h4 r.a5 r.h5 r.a6 r.h6 r.a7 r.h7 r.a8 r.h8 r.a9 r.h9 r.a10 r.h10 r.a11 r.h11 r.a12 r.h12 r.a13 r.h13 r.a14 r.h14 r.a15 r.h15 r.a16 r.h16 r.a17 r.h17 r.a18 r.h18 r.a19 r.h19 r.a20 r.h20 r.a21 r.h21 r.a22 r.h22 r.a23 r.h23 r.a24 r.h24 r.a25 r.h25 r.a26 r.h26 r.a27 r.h27 r.a28 r.h28 r.a29 r.h29 r.a30 r.h30 r.a31 r.h31 r.a32 r.a33 r.a34 r.a35 v81 hw4 v199 c0 c1 k v264 t6 arg38 t7 v) (fun _ =>
        blkI c r q a X (slot k.val) t6 e (t7.val + 1)) := by
  unfold k0_t7_body blkI
  iintro ⟨HG, HS, HU, HT, H23, ⟨%Y, %hY, H25⟩⟩
  iapply (Scf.wp_for_bind (I := fun n v => accGI c r q a X (slot k.val) t6 e (2 * t6.val + t7.val) n v) (hbody := fun t v => t8_step c r q a hv X k t6 t7 t v)) $$ [HG HS H23]
  · unfold accGI
    isplitr; · ipureintro; rfl
    isplitl [HG]; · iexact HG
    isplitl [HS]; · iexact HS
    iexact H23
  rw [show Scf.trips _ _ _ = 16 from (by decide : k0_t8_loop.trips = 16)]
  unfold accGI
  iintro %vaccG ⟨%haccG, HG, HS, H23⟩
  iapply (Scf.wp_for_bind (I := fun n v => accUI c r q a X (slot k.val) t6 e (2 * t6.val + t7.val) n v) (hbody := fun t v => t9_step c r q a hv X k t6 t7 t v)) $$ [HU HT H23]
  · unfold accUI
    isplitr; · ipureintro; rfl
    isplitl [HU]; · iexact HU
    isplitl [HT]; · iexact HT
    iexact H23
  rw [show Scf.trips _ _ _ = 16 from (by decide : k0_t9_loop.trips = 16)]
  unfold accUI
  iintro %vaccU ⟨%haccU, HU, HT, H23⟩
  subst haccG haccU
  iapply (wp_load' (Finset.subset_univ _)) $$ H25
  iintro H25
  iapply (wp_store' (Finset.subset_univ _)) $$ H25
  iintro H25
  iapply wp_pure'
  isplitl [HG]; · iexact HG
  isplitl [HS]; · iexact HS
  isplitl [HU]; · iexact HU
  isplitl [HT]; · iexact HT
  isplitl [H23]; · iexact H23
  iexists _; isplitr
  rotate_left
  · iexact H25
  · ipureintro
    exact hidden_step hY ((k0_off62_eq t6 t7).trans (by rw [show 512 * t6.val + 256 * t7.val = 256 * (2 * t6.val + t7.val) from by omega]))

omit hv in
/-- What the loop over an expert's gate and up copies holds. -/
def guI (s : Fin 2) (e : Fin 47) (k : ℕ) : sProp 𝕄 :=
  iprop(iprop(cG c r q a s 0 (st e 0 k) ∗ cG c r q a s 1 (st e 1 k) ∗ cG c r q a s 2 (st e 2 k)) ∗
    iprop(cU c r q a s 0 (st e 0 k) ∗ cU c r q a s 1 (st e 1 k) ∗ cU c r q a s 2 (st e 2 k)) ∗
    cSg c r q a s (.here e) ∗ cSu c r q a s (.here e) ∗ at_ c r.a23 X ∗ (∃ Y, ⌜Hidden a e X (2 * k) Y⌝ ∗ at_ c r.a25 Y) ∗ (∃ W, owes (c : Thread nD τ) 0 W))

theorem t6_step (k : Fin (k0_t5_loop v81).trips) {v199 v264 c0 c1} {e : Fin 47} {v266} {hw6} (t6 : Fin k0_t6_loop.trips) (v : BitVec 32) :
    guI c r q a X (slot k.val) e t6.val ⊢
      wpc c (k0_t6_body (F := F)  r.a0 r.h0 r.a1 r.h1 r.a2 r.h2 r.a3 r.h3 r.a4 r.h4 r.a5 r.h5 r.a6 r.h6 r.a7 r.h7 r.a8 r.h8 r.a9 r.h9 r.a10 r.h10 r.a11 r.h11 r.a12 r.h12 r.a13 r.h13 r.a14 r.h14 r.a15 r.h15 r.a16 r.h16 r.a17 r.h17 r.a18 r.h18 r.a19 r.h19 r.a20 r.h20 r.a21 r.h21 r.a22 r.h22 r.a23 r.h23 r.a24 r.h24 r.a25 r.h25 r.a26 r.h26 r.a27 r.h27 r.a28 r.h28 r.a29 r.h29 r.a30 r.h30 r.a31 r.h31 r.a32 r.a33 r.a34 r.a35 v81 hw4 v199 c0 c1 k v264 v266 hw6 t6 v) (fun _ => guI c r q a X (slot k.val) e (t6.val + 1)) := by
  unfold k0_t6_body guI
  iintro ⟨HG, HU, HS, HT, H23, H25, HO⟩
  ihave HG' := (take3 (fun j t => cG c r q a (slot k.val) j t) e t6) $$ HG
  icases HG' with ⟨HG, HGk⟩
  ihave HU' := (take3 (fun j t => cU c r q a (slot k.val) j t) e t6) $$ HU
  icases HU' with ⟨HU, HUk⟩
  unfold cG cU
  iapply (cell_wait c (sem_eq _ _ _ (off53_eq hv k t6))) $$ [HG HO]
  · isplitl [HG]; · iexact HG
    iexact HO
  iintro ⟨HG, HO⟩
  iapply (cell_wait c (sem_eq _ _ _ (off53_eq hv k t6))) $$ [HU HO]
  · isplitl [HU]; · iexact HU
    iexact HO
  iintro ⟨HU, HO⟩
  iapply (Scf.wp_for_bind (I := fun n _ => blkI c r q a X (slot k.val) t6 e n)
    (hbody := fun t7 v => t7_step c r q a hv X k t6 t7 v)) $$ [HG HS HU HT H23 H25]
  · unfold blkI cG cU
    isplitl [HG]; · iexact HG
    isplitl [HS]; · iexact HS
    isplitl [HU]; · iexact HU
    isplitl [HT]; · iexact HT
    isplitl [H23]; · iexact H23
    iexact H25
  rw [show Scf.trips _ _ _ = 2 from (by decide : k0_t7_loop.trips = 2)]
  unfold blkI cG cU
  iintro %_ ⟨HG, HS, HU, HT, H23, H25⟩
  iapply wp_pure'
  isplitl [HG HGk]
  · iapply HGk; iexact HG
  isplitl [HU HUk]
  · iapply HUk; iexact HU
  isplitl [HS]; · iexact HS
  isplitl [HT]; · iexact HT
  isplitl [H23]; · iexact H23
  isplitl [H25]; · iexact H25
  iexact HO

end Cert.KernelIdeal.Hand
-- ==== Proof.Begin.lean ====
/-
  One trip of the main loop up to the experts' hidden layer: the next expert's copies start, this expert's are waited for.
-/
module

public import proofs.«01_k».proof.Proof.Gate
public import proofs.«01_k».proof.Proof.First
public import proofs.«01_k».proof.Proof.Gen.KernelIdeal.Skeleton
public import Idealize.ShloMosaic.Lib.Pipeline.FrameBody

@[expose] public section

noncomputable section

namespace Cert.KernelIdeal.Hand

open Cert.KernelIdeal Cert.KernelIdeal.Gen Cert.Held
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (Pipeline.UD sig nD τ) ℕ

variable (c : Dev nD) (r : Refs) (q : Fin 2 → Fin 13 → PosShare TreeShare) (a : Arrs F)

/-- The gate and up cells of slot `s` in one state. -/
def guSt (s : Fin 2) (t : St) : sProp 𝕄 :=
  iprop(cSg c r q a s t ∗ cSu c r q a s t ∗ iprop(cG c r q a s 0 t ∗ cG c r q a s 1 t ∗ cG c r q a s 2 t) ∗ iprop(cU c r q a s 0 t ∗ cU c r q a s 1 t ∗ cU c r q a s 2 t))

/-- The down cells. -/
def dnSt (s : Fin 2) (t : St) : sProp 𝕄 :=
  iprop(cSd c r q a s t ∗ iprop(cD c r q a s 0 t ∗ cD c r q a s 1 t ∗ cD c r q a s 2 t ∗ cD c r q a s 3 t))

theorem gu_eq (s : Fin 2) (t : St) : guSt c r q a s t = iprop(cSg c r q a s t ∗ cSu c r q a s t ∗ iprop(cG c r q a s 0 t ∗ cG c r q a s 1 t ∗ cG c r q a s 2 t) ∗ iprop(cU c r q a s 0 t ∗ cU c r q a s 1 t ∗ cU c r q a s 2 t)) := rfl

theorem dn_eq (s : Fin 2) (t : St) : dnSt c r q a s t = iprop(cSd c r q a s t ∗ iprop(cD c r q a s 0 t ∗ cD c r q a s 1 t ∗ cD c r q a s 2 t ∗ cD c r q a s 3 t)) := rfl

theorem gu_rest {s : Fin 2} {e : Fin 47} : guSt c r q a s (.here e) ⊢ guSt c r q a s .rest := by
  unfold guSt cSg cSu cG cU
  iintro ⟨H0, H1, ⟨H2, H3, H4⟩, ⟨H5, H6, H7⟩⟩
  isplitl [H0]; · iapply cell_rest $$ H0
  isplitl [H1]; · iapply cell_rest $$ H1
  isplitl [H2 H3 H4]
  · isplitl [H2]; · iapply cell_rest $$ H2
    isplitl [H3]; · iapply cell_rest $$ H3
    iapply cell_rest $$ H4
  · isplitl [H5]; · iapply cell_rest $$ H5
    isplitl [H6]; · iapply cell_rest $$ H6
    iapply cell_rest $$ H7

theorem dn_rest {s : Fin 2} {e : Fin 47} : dnSt c r q a s (.here e) ⊢ dnSt c r q a s .rest := by
  unfold dnSt cSd cD
  iintro ⟨H0, ⟨H2, H3, H4, H5⟩⟩
  isplitl [H0]; · iapply cell_rest $$ H0
  isplitl [H2]; · iapply cell_rest $$ H2
  isplitl [H3]; · iapply cell_rest $$ H3
  isplitl [H4]; · iapply cell_rest $$ H4
  iapply cell_rest $$ H5

variable {v81 : BitVec 32} (hv : v81.toNat < 64) {hw4 : k0_chk4 v81}
include hv

theorem part3_spec (k : Fin (k0_t5_loop v81).trips) {arg36 v264 h1} {L : List (Fin 47)} {X16 : S64.Idx → Elt F .i32} (hX : Listed L X16) (hl : k.val + 1 < L.length) {Q} {e : Fin 47} (he : L[k.val + 1] = e) :
    iprop(at_ c r.a16 X16 ∗ cSg c r q a (other (slot k.val)) .rest ∗ cSu c r q a (other (slot k.val)) .rest ∗ cG c r q a (other (slot k.val)) 0 .rest ∗ cU c r q a (other (slot k.val)) 0 .rest) ⊢
      iprop((iprop(at_ c r.a16 X16 ∗ cSg c r q a (other (slot k.val)) (.fly e) ∗ cSu c r q a (other (slot k.val)) (.fly e) ∗ cG c r q a (other (slot k.val)) 0 (.fly e) ∗ cU c r q a (other (slot k.val)) 0 (.fly e))
          -∗ Q ⟨BitVec.ofNat 32 e.val, chk5_small k e⟩) -∗
        wpc c (k0_part3 (F := F)  r.a0 r.h0 r.a1 r.h1 r.a2 r.h2 r.a3 r.h3 r.a4 r.h4 r.a5 r.h5 r.a6 r.h6 r.a7 r.h7 r.a8 r.h8 r.a9 r.h9 r.a10 r.h10 r.a11 r.h11 r.a12 r.h12 r.a13 r.h13 r.a14 r.h14 r.a15 r.h15 r.a16 r.h16 r.a17 r.h17 r.a18 r.h18 r.a19 r.h19 r.a20 r.h20 r.a21 r.h21 r.a22 r.h22 r.a23 r.h23 r.a24 r.h24 r.a25 r.h25 r.a26 r.h26 r.a27 r.h27 r.a28 r.h28 r.a29 r.h29 r.a30 r.h30 r.a31 r.h31 r.a32 r.a33 r.a34 r.a35 v81 hw4 k arg36 v264 h1) Q) := by
  rw [k0_part3_eq_skeleton]; unfold k0_part3_skel cSg cSu cG cU
  have hk := t5_lt hv k
  have hk1 := lt_of_lt_of_eq k.isLt (t5_trips hv)
  have hk2 := (cond1_iff hv k).mp h1
  iintro ⟨H16, HS, HT, HG, HU⟩ Hk
  iapply (wp_smemLoad' (i := ix1 ⟨k.val + 1, by omega⟩) (first_one ⟨k.val + 1, by omega⟩ _ (off20_eq hv k h1) _ _) rfl) $$ H16
  iintro H16
  rw [hX ⟨k.val + 1, by omega⟩ hl, he]
  iapply (wp_assume' (chk5_small k e))
  dsimp only
  iapply (cell_start c e (by decide) (off22_eq hv k) (by unfold k0_off23; simp only [e_toNat]; try rfl) (sem_eq _ _ _ (off21_eq hv k))) $$ HS
  iintro HS
  iapply (cell_start c e (by decide) (off25_eq hv k) (by unfold k0_off23; simp only [e_toNat]; try rfl) (sem_eq _ _ _ (off24_eq hv k))) $$ HT
  iintro HT
  iapply (cell_start c e (by decide) (off27_eq hv k) (by unfold k0_off28; simp only [e_toNat]; try rfl) (sem_eq _ _ _ (off26_eq hv k))) $$ HG
  iintro HG
  iapply (cell_start c e (by decide) (off27_eq hv k) (by unfold k0_off28; simp only [e_toNat]; try rfl) (sem_eq _ _ _ (off26_eq hv k))) $$ HU
  iintro HU
  iapply wp_pure'
  iapply Hk
  isplitl [H16]; · iexact H16
  isplitl [HS]; · iexact HS
  isplitl [HT]; · iexact HT
  isplitl [HG]; · iexact HG
  iexact HU

theorem part4_spec (k : Fin (k0_t5_loop v81).trips) {h1} {e : Fin 47} {hw5} {Q} :
    iprop(cG c r q a (other (slot k.val)) 1 .rest ∗ cU c r q a (other (slot k.val)) 1 .rest ∗ cG c r q a (other (slot k.val)) 2 .rest ∗ cU c r q a (other (slot k.val)) 2 .rest ∗ cSd c r q a (other (slot k.val)) .rest) ⊢
      iprop((iprop(cG c r q a (other (slot k.val)) 1 (.fly e) ∗ cU c r q a (other (slot k.val)) 1 (.fly e) ∗ cG c r q a (other (slot k.val)) 2 (.fly e) ∗ cU c r q a (other (slot k.val)) 2 (.fly e) ∗ cSd c r q a (other (slot k.val)) (.fly e))
          -∗ Q ⟨⟩) -∗
        wpc c (k0_part4 (F := F)  r.a0 r.h0 r.a1 r.h1 r.a2 r.h2 r.a3 r.h3 r.a4 r.h4 r.a5 r.h5 r.a6 r.h6 r.a7 r.h7 r.a8 r.h8 r.a9 r.h9 r.a10 r.h10 r.a11 r.h11 r.a12 r.h12 r.a13 r.h13 r.a14 r.h14 r.a15 r.h15 r.a16 r.h16 r.a17 r.h17 r.a18 r.h18 r.a19 r.h19 r.a20 r.h20 r.a21 r.h21 r.a22 r.h22 r.a23 r.h23 r.a24 r.h24 r.a25 r.h25 r.a26 r.h26 r.a27 r.h27 r.a28 r.h28 r.a29 r.h29 r.a30 r.h30 r.a31 r.h31 r.a32 r.a33 r.a34 r.a35 v81 hw4 k h1 (BitVec.ofNat 32 e.val) hw5) Q) := by
  rw [k0_part4_eq_skeleton]; unfold k0_part4_skel cG cU cSd
  iintro ⟨HG, HU, HG2, HU2, HD⟩ Hk
  iapply (cell_start c e (by decide) (off29_eq hv k) (by unfold k0_off30; simp only [e_toNat]; try rfl) (sem_eq _ _ _ (off24_eq hv k))) $$ HG
  iintro HG
  iapply (cell_start c e (by decide) (off29_eq hv k) (by unfold k0_off30; simp only [e_toNat]; try rfl) (sem_eq _ _ _ (off24_eq hv k))) $$ HU
  iintro HU
  iapply (cell_start c e (by decide) (off32_eq hv k) (by unfold k0_off33; simp only [e_toNat]; try rfl) (sem_eq _ _ _ (off31_eq hv k))) $$ HG2
  iintro HG2
  iapply (cell_start c e (by decide) (off32_eq hv k) (by unfold k0_off33; simp only [e_toNat]; try rfl) (sem_eq _ _ _ (off31_eq hv k))) $$ HU2
  iintro HU2
  iapply (cell_start c e (by decide) (off34_eq hv k) (by unfold k0_off35; simp only [e_toNat]; try rfl) (sem_eq _ _ _ (off31_eq hv k))) $$ HD
  iintro HD
  iapply wp_pure'
  iapply Hk
  isplitl [HG]; · iexact HG
  isplitl [HU]; · iexact HU
  isplitl [HG2]; · iexact HG2
  isplitl [HU2]; · iexact HU2
  iexact HD

omit hv in
theorem part8_spec {v380 v408 v414} {Q} : Q ⟨k0_pay13 v380 v408 v414, k0_pay14 v380, k0_pay15⟩ ⊢ wpc c (k0_part8 (F := F)  r.a0 r.h0 r.a1 r.h1 r.a2 r.h2 r.a3 r.h3 r.a4 r.h4 r.a5 r.h5 r.a6 r.h6 r.a7 r.h7 r.a8 r.h8 r.a9 r.h9 r.a10 r.h10 r.a11 r.h11 r.a12 r.h12 r.a13 r.h13 r.a14 r.h14 r.a15 r.h15 r.a16 r.h16 r.a17 r.h17 r.a18 r.h18 r.a19 r.h19 r.a20 r.h20 r.a21 r.h21 r.a22 r.h22 r.a23 r.h23 r.a24 r.h24 r.a25 r.h25 r.a26 r.h26 r.a27 r.h27 r.a28 r.h28 r.a29 r.h29 r.a30 r.h30 r.a31 r.h31 r.a32 r.a33 r.a34 r.a35 v380 v408 v414) Q := by
  rw [k0_part8_eq_skeleton]; unfold k0_part8_skel
  iintro H
  iapply wp_pure'
  iexact H

omit hv in
theorem part7_spec {c0 c1} {t10 : Fin k0_t10_loop.trips} {Y : S8x1536.Idx → Elt F .f32} {Q} : at_ c r.a25 Y ⊢ iprop((at_ c r.a25 Y -∗ Q ⟨Scf.iv c0 c1 t10, Scalar.muli (Scf.iv c0 c1 t10) 128#32, hb Y t10.val, k0_pay10 (hb Y t10.val), k0_pay11 (hb Y t10.val), k0_pay12 (hb Y t10.val)⟩) -∗ wpc c (k0_part7 (F := F)  r.a0 r.h0 r.a1 r.h1 r.a2 r.h2 r.a3 r.h3 r.a4 r.h4 r.a5 r.h5 r.a6 r.h6 r.a7 r.h7 r.a8 r.h8 r.a9 r.h9 r.a10 r.h10 r.a11 r.h11 r.a12 r.h12 r.a13 r.h13 r.a14 r.h14 r.a15 r.h15 r.a16 r.h16 r.a17 r.h17 r.a18 r.h18 r.a19 r.h19 r.a20 r.h20 r.a21 r.h21 r.a22 r.h22 r.a23 r.h23 r.a24 r.h24 r.a25 r.h25 r.a26 r.h26 r.a27 r.h27 r.a28 r.h28 r.a29 r.h29 r.a30 r.h30 r.a31 r.h31 r.a32 r.a33 r.a34 r.a35 c0 c1 t10) Q) := by
  rw [k0_part7_eq_skeleton]; unfold k0_part7_skel hb
  iintro H25 Hk
  iapply (at_cut c (k0_off63_eq t10)) $$ H25
  iintro H25
  iapply wp_pure'
  iapply Hk
  iexact H25

omit hv in
/-- What the loop over the blocks of the hidden layer holds. -/
def quantI (v199 : IVec S8x128 32) (H : S8x1536.Idx → Elt F .f32) (k : ℕ) (v : FVec F S8x128 .f32) : sProp 𝕄 :=
  iprop(⌜v = hAcc v199 H k⌝ ∗ any (F := F) c r.a24 ∗ (∃ Y, ⌜Quant H k Y⌝ ∗ at_ c r.a25 Y))

omit hv in
theorem t10_step (H : S8x1536.Idx → Elt F .f32) (k : Fin (k0_t5_loop v81).trips) {v199 : IVec S8x128 32} {c0 c1} (t10 : Fin k0_t10_loop.trips) (v : FVec F S8x128 .f32) :
    quantI c r v199 H t10.val v ⊢
      wpc c (k0_t10_body (F := F)  r.a0 r.h0 r.a1 r.h1 r.a2 r.h2 r.a3 r.h3 r.a4 r.h4 r.a5 r.h5 r.a6 r.h6 r.a7 r.h7 r.a8 r.h8 r.a9 r.h9 r.a10 r.h10 r.a11 r.h11 r.a12 r.h12 r.a13 r.h13 r.a14 r.h14 r.a15 r.h15 r.a16 r.h16 r.a17 r.h17 r.a18 r.h18 r.a19 r.h19 r.a20 r.h20 r.a21 r.h21 r.a22 r.h22 r.a23 r.h23 r.a24 r.h24 r.a25 r.h25 r.a26 r.h26 r.a27 r.h27 r.a28 r.h28 r.a29 r.h29 r.a30 r.h30 r.a31 r.h31 r.a32 r.a33 r.a34 r.a35 v81 hw4 v199 c0 c1 k t10 v) (fun w => quantI c r v199 H (t10.val + 1) w) := by
  unfold k0_t10_body quantI
  iintro ⟨%hw, H24, ⟨%Y, %hY, H25⟩⟩
  iapply wp_seq
  iapply (part7_spec c r) $$ H25
  iintro H25
  rw [quant_block hY t10.isLt]
  dsimp only
  iapply wp_seq
  iapply (part8_spec c r)
  dsimp only
  iapply (wp_load' (Finset.subset_univ _)) $$ H25
  iintro H25
  iapply (wp_store' (Finset.subset_univ _)) $$ H25
  iintro H25
  iapply (any_load c) $$ H24
  iintro %_ H24
  iapply (any_store c) $$ H24
  iintro H24
  iapply wp_pure'
  isplitr
  · ipureintro; rw [hw]; rfl
  isplitl [H24]; · iexact H24
  iexists _; isplitr
  rotate_left
  · iexact H25
  · ipureintro
    exact quant_step hY (k0_off63_eq t10)

/-- The next expert's state once the trip has started it. -/
def nextSt (L : List (Fin 47)) (k : ℕ) : St := if h : k < L.length then .fly L[k] else .rest

/-- The trip up to the hidden layer. -/
theorem begin_spec (k : Fin (k0_t5_loop v81).trips) {L : List (Fin 47)} (hL : v81.toNat = L.length) {X16 : S64.Idx → Elt F .i32} (hX : Listed L X16) (hk0 : k.val < L.length) (X : S16x4096.Idx → Elt F .bf16) (X26 : S48x128.Idx → Elt F .i32) {v199 : IVec S8x128 32} {c0 c1} {Q} :
    iprop(at_ c r.a16 X16 ∗ guSt c r q a (other (slot k.val)) .rest ∗ dnSt c r q a (other (slot k.val)) .rest ∗ guSt c r q a (slot k.val) (nextSt L k.val) ∗ at_ c r.a23 X ∗ any (F := F) c r.a24 ∗ any (F := F) c r.a25 ∗ at_ c r.a26 X26 ∗ (∃ W, owes (c : Thread nD τ) 0 W)) ⊢
      iprop((∀ (v264 : BitVec 32) (hw6 : k0_chk6 (BitVec.ofNat 32 L[k.val].val)), iprop(at_ c r.a16 X16 ∗ guSt c r q a (other (slot k.val)) (nextSt L (k.val + 1)) ∗ dnSt c r q a (other (slot k.val)) (nextSt L (k.val + 1)) ∗ guSt c r q a (slot k.val) .rest ∗ at_ c r.a23 X ∗ any (F := F) c r.a24 ∗ at_ c r.a25 (hq (hid a L[k.val] X)) ∗ at_ c r.a26 X26 ∗ (∃ W, owes (c : Thread nD τ) 0 W))
          -∗ Q ⟨v264, BitVec.ofNat 32 L[k.val].val, hw6, hAcc v199 (hid a L[k.val] X) 12, k0_pay33 (F := F) (BitVec.ofNat 32 L[k.val].val) (cut2 (n1 := 48) (n2 := 128) X26 0 0 8 128), cut2 (n1 := 48) (n2 := 128) X26 8 0 8 128⟩) -∗
        wpc c (k0_part11 (F := F)  r.a0 r.h0 r.a1 r.h1 r.a2 r.h2 r.a3 r.h3 r.a4 r.h4 r.a5 r.h5 r.a6 r.h6 r.a7 r.h7 r.a8 r.h8 r.a9 r.h9 r.a10 r.h10 r.a11 r.h11 r.a12 r.h12 r.a13 r.h13 r.a14 r.h14 r.a15 r.h15 r.a16 r.h16 r.a17 r.h17 r.a18 r.h18 r.a19 r.h19 r.a20 r.h20 r.a21 r.h21 r.a22 r.h22 r.a23 r.h23 r.a24 r.h24 r.a25 r.h25 r.a26 r.h26 r.a27 r.h27 r.a28 r.h28 r.a29 r.h29 r.a30 r.h30 r.a31 r.h31 r.a32 r.a33 r.a34 r.a35 v81 hw4 v199 c0 c1 k) Q) := by
  rw [k0_part11_eq_skeleton]; unfold k0_part11_skel
  have hk := t5_lt hv k
  have hk1 := lt_of_lt_of_eq k.isLt (t5_trips hv)
  have hkL : k.val < L.length := by omega
  have hn0 : nextSt L k.val = .fly L[k.val] := by unfold nextSt; rw [dif_pos hkL]
  rw [hn0]
  iintro ⟨H16, HA, HB, HGU, H23, H24, H25, H26, HW⟩ Hk
  iapply (wp_smemLoad' (i := ix1 ⟨k.val, by omega⟩) (first_one ⟨k.val, by omega⟩ _ (off19_eq hv k) _ _) rfl) $$ H16
  iintro H16
  rw [hX ⟨k.val, by omega⟩ hkL]
  iapply (wp_assume' (chk6_small _))
  dsimp only
  by_cases h1 : k0_cond1 v81 k = 1#1
  on_goal 1 =>
    have hk2 : k.val + 1 < L.length := by have := (cond1_iff hv k).mp h1; omega
    have hn1 : nextSt L (k.val + 1) = .fly L[k.val + 1] := by unfold nextSt; rw [dif_pos hk2]
    rw [hn1, dif_pos h1]
    generalize he : L[k.val + 1] = e
    ihave HA := (Entails.of_eq (gu_eq c r q a (other (slot k.val)) .rest)) $$ HA
    icases HA with ⟨HS, HT, ⟨HG0, HG1, HG2⟩, ⟨HU0, HU1, HU2⟩⟩
    ihave HB := (Entails.of_eq (dn_eq c r q a (other (slot k.val)) .rest)) $$ HB
    icases HB with ⟨HD, ⟨HD0, HD1, HD2, HD3⟩⟩
    iapply wp_seq
    iapply (part3_spec c r q a hv k hX hk2 he) $$ [H16 HS HT HG0 HU0]
    · isplitl [H16]; · iexact H16
      isplitl [HS]; · iexact HS
      isplitl [HT]; · iexact HT
      isplitl [HG0]; · iexact HG0
      iexact HU0
    iintro ⟨H16, HS, HT, HG0, HU0⟩
    dsimp only
    iapply wp_seq
    iapply (part4_spec c r q a hv k) $$ [HG1 HU1 HG2 HU2 HD]
    · isplitl [HG1]; · iexact HG1
      isplitl [HU1]; · iexact HU1
      isplitl [HG2]; · iexact HG2
      isplitl [HU2]; · iexact HU2
      iexact HD
    iintro ⟨HG1, HU1, HG2, HU2, HD⟩
    unfold cD
    iapply (cell_start c e (by decide) (off37_eq hv k) (by unfold k0_off38; simp only [e_toNat]; try rfl) (sem_eq _ _ _ (off36_eq hv k))) $$ HD0
    iintro HD0
    iapply (cell_start c e (by decide) (off40_eq hv k) (by unfold k0_off41; simp only [e_toNat]; try rfl) (sem_eq _ _ _ (off39_eq hv k))) $$ HD1
    iintro HD1
    iapply (cell_start c e (by decide) (off43_eq hv k) (by unfold k0_off44; simp only [e_toNat]; try rfl) (sem_eq _ _ _ (off42_eq hv k))) $$ HD2
    iintro HD2
    iapply (cell_start c e (by decide) (off46_eq hv k) (by unfold k0_off47; simp only [e_toNat]; try rfl) (sem_eq _ _ _ (off45_eq hv k))) $$ HD3
    iintro HD3
    ihave HA := (Entails.of_eq (gu_eq c r q a (other (slot k.val)) (.fly e)).symm) $$ [HS HT HG0 HG1 HG2 HU0 HU1 HU2]
    · isplitl [HS]; · iexact HS
      isplitl [HT]; · iexact HT
      isplitl [HG0 HG1 HG2]
      · isplitl [HG0]; · iexact HG0
        isplitl [HG1]; · iexact HG1
        iexact HG2
      · isplitl [HU0]; · iexact HU0
        isplitl [HU1]; · iexact HU1
        iexact HU2
    ihave HB := (Entails.of_eq (dn_eq c r q a (other (slot k.val)) (.fly e)).symm) $$ [HD HD0 HD1 HD2 HD3]
    · unfold cD
      isplitl [HD]; · iexact HD
      isplitl [HD0]; · iexact HD0
      isplitl [HD1]; · iexact HD1
      isplitl [HD2]; · iexact HD2
      iexact HD3
  on_goal 2 =>
    have hk2 : ¬ k.val + 1 < L.length := by intro hh; exact h1 ((cond1_iff hv k).mpr (by omega))
    have hn1 : nextSt L (k.val + 1) = .rest := by unfold nextSt; rw [dif_neg hk2]
    rw [hn1, dif_neg h1]
  all_goals
    ihave HGU := (Entails.of_eq (gu_eq c r q a (slot k.val) (.fly L[k.val]))) $$ HGU
    icases HGU with ⟨HP, HR, HG, HU⟩
    unfold cSg cSu
    iapply (cell_wait c (sem_eq _ (slot k.val) 0 (off48_eq hv k))) $$ [HP HW]
    · isplitl [HP]; · iexact HP
      iexact HW
    iintro ⟨HP, HW⟩
    iapply (cell_wait c (sem_eq _ (slot k.val) 1 (off51_eq hv k))) $$ [HR HW]
    · isplitl [HR]; · iexact HR
      iexact HW
    iintro ⟨HR, HW⟩
    iapply (Scf.wp_for_bind (I := fun t _ => guI c r q a X (slot k.val) L[k.val] t) (hbody := fun t6 v => t6_step c r q a hv X k t6 v)) $$ [HP HR HG HU H23 H25 HW]
    · unfold guI cSg cSu
      isplitl [HG]; · iexact HG
      isplitl [HU]; · iexact HU
      isplitl [HP]; · iexact HP
      isplitl [HR]; · iexact HR
      isplitl [H23]; · iexact H23
      isplitl [H25]
      · unfold any
        icases H25 with ⟨%Y, H25⟩
        iexists Y; isplitr
        · ipureintro; intro i j h; omega
        iexact H25
      iexact HW
    rw [show Scf.trips _ _ _ = 3 from (by decide : k0_t6_loop.trips = 3)]
    iintro %_ HI
    unfold guI
    icases HI with ⟨HG, HU, HP, HR, H23, ⟨%Y, %hY, H25⟩, HW⟩
    have hY := hidden_all hY
    subst hY
    ihave HGU := (Entails.of_eq (gu_eq c r q a (slot k.val) (.here L[k.val])).symm) $$ [HP HR HG HU]
    · isplitl [HP]; · iexact HP
      isplitl [HR]; · iexact HR
      isplitl [HG]; · iexact HG
      iexact HU
    ihave HGU := (gu_rest c r q a) $$ HGU
    iapply (Scf.wp_for_bind (I := fun n v => quantI c r v199 (hid a L[k.val] X) n v) (hbody := fun t v => t10_step c r (hid a L[k.val] X) k t v)) $$ [H24 H25]
    · unfold quantI
      isplitr; · ipureintro; rfl
      isplitl [H24]; · iexact H24
      iexists _; isplitr
      rotate_left
      · iexact H25
      · ipureintro; intro i j; rw [if_neg (by omega)]
    rw [show Scf.trips _ _ _ = 12 from (by decide : k0_t10_loop.trips = 12)]
    unfold quantI
    iintro %v287 ⟨%hv287, H24, ⟨%Z, %hZ, H25⟩⟩
    have hZ := quant_all hZ
    subst hZ hv287
    iapply (at_cut c rfl) $$ H26
    iintro H26
    iapply (at_cut c rfl) $$ H26
    iintro H26
    iapply wp_pure'
    iapply Hk
    isplitl [H16]; · iexact H16
    isplitl [HA]; · iexact HA
    isplitl [HB]; · iexact HB
    isplitl [HGU]; · iexact HGU
    isplitl [H23]; · iexact H23
    isplitl [H24]; · iexact H24
    isplitl [H25]; · iexact H25
    isplitl [H26]; · iexact H26
    iexact HW

end Cert.KernelIdeal.Hand
-- ==== Proof.Trip.lean ====
/-
  The rest of one trip: codes and scales put in their rows, and the down blocks added to the result.
-/
module

public import proofs.«01_k».proof.Proof.Begin
public import proofs.«01_k».proof.Proof.HRows
public import proofs.«01_k».proof.Proof.Gen.KernelIdeal.Skeleton
public import Idealize.ShloMosaic.Lib.Pipeline.FrameBody

@[expose] public section

noncomputable section

namespace Cert.KernelIdeal.Hand

open Cert.KernelIdeal Cert.KernelIdeal.Gen Cert.Held
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (Pipeline.UD sig nD τ) ℕ

variable (c : Dev nD) (r : Refs) (q : Fin 2 → Fin 13 → PosShare TreeShare) (a : Arrs F)

variable {ids : ℕ → Fin 47} {e : Fin 47}

theorem part12_spec (V : S8x128.Idx → Elt F .f32) {X26 : S48x128.Idx → Elt F .i32} (hs : Spread (F := F) ids 48 X26) {v290} (h0 : Mask ids e 0 v290) (Y0 : S48x128.Idx → Elt F .f32) {Q} :
    iprop(at_ c r.a26 X26 ∗ at_ c r.a30 Y0) ⊢ iprop((∀ (v293 : IVec S8x128 1) (v296 : IVec S8x128 1) (v299 : IVec S8x128 1) (v302 : IVec S8x128 1) (v305 : IVec S8x128 1) (v329 : FVec F S8x128 .f32),
        iprop(⌜Mask ids e 1 v293 ∧ Mask ids e 2 v296 ∧ Mask ids e 3 v299 ∧ Mask ids e 4 v302 ∧ Mask ids e 5 v305⌝ ∗ at_ c r.a26 X26 ∗
          (∃ Y, ⌜Part 128 2 0 ids e V Y0 Y ∧ v329 = k0_pay16 v296 (extractStridedSlice S1x128 ![2, 0] V slices_S8x128_o2_0_S1x128) (cut2 (n1 := 48) (n2 := 128) Y 16 0 8 128)⌝ ∗ at_ c r.a30 Y)) -∗ Q ⟨v293, v296, v299, v302, v305, v329⟩) -∗
      wpc c (k0_part12 (F := F)  r.a0 r.h0 r.a1 r.h1 r.a2 r.h2 r.a3 r.h3 r.a4 r.h4 r.a5 r.h5 r.a6 r.h6 r.a7 r.h7 r.a8 r.h8 r.a9 r.h9 r.a10 r.h10 r.a11 r.h11 r.a12 r.h12 r.a13 r.h13 r.a14 r.h14 r.a15 r.h15 r.a16 r.h16 r.a17 r.h17 r.a18 r.h18 r.a19 r.h19 r.a20 r.h20 r.a21 r.h21 r.a22 r.h22 r.a23 r.h23 r.a24 r.h24 r.a25 r.h25 r.a26 r.h26 r.a27 r.h27 r.a28 r.h28 r.a29 r.h29 r.a30 r.h30 r.a31 r.h31 r.a32 r.a33 r.a34 r.a35 (BitVec.ofNat 32 e.val) V v290 (cut2 (n1 := 48) (n2 := 128) X26 8 0 8 128)) Q) := by
  rw [k0_part12_eq_skeleton]; unfold k0_part12_skel
  have h : Part 128 0 0 ids e V Y0 Y0 := part_start
  have h1 : Mask ids e 1 (k0_pay34 (F := F) (BitVec.ofNat 32 e.val) (cut2 (n1 := 48) (n2 := 128) X26 8 0 8 128)) := mask_of hs e 1 rfl
  iintro ⟨H26, H30⟩ Hk
  iapply (at_cut c rfl) $$ H26; iintro H26
  iapply (at_cut c rfl) $$ H26; iintro H26
  iapply (at_cut c rfl) $$ H26; iintro H26
  iapply (at_cut c rfl) $$ H26; iintro H26
  iapply (at_cut c rfl) $$ H30; iintro H30
  iapply (at_cut c rfl) $$ H30; iintro H30
  iapply (wp_store' (Finset.subset_univ _)) $$ H30; iintro H30
  generalize hZ : Rect.overlay _ _ _ = Z
  replace h : Part 128 1 0 ids e V Y0 Z := by
    rw [← hZ]; exact rows_step 0 h rfl rfl rfl (by decide) h0 (fun l => row_slice V 0 rfl l (by omega)) rfl
  clear hZ; rename' Z => Y
  iapply (at_cut c rfl) $$ H30; iintro H30
  iapply (at_cut c rfl) $$ H30; iintro H30
  iapply (wp_store' (Finset.subset_univ _)) $$ H30; iintro H30
  generalize hZ : Rect.overlay _ _ _ = Z
  replace h : Part 128 2 0 ids e V Y0 Z := by
    rw [← hZ]; exact rows_step 1 h rfl rfl rfl (by decide) h1 (fun l => row_slice V 1 rfl l (by omega)) rfl
  clear hZ; rename' Z => Y
  iapply (at_cut c rfl) $$ H30; iintro H30
  iapply (at_cut c rfl) $$ H30; iintro H30
  iapply wp_pure'
  iapply Hk
  isplitr
  · ipureintro
    exact ⟨h1, mask_of hs e 2 rfl, mask_of hs e 3 rfl, mask_of hs e 4 rfl, mask_of hs e 5 rfl⟩
  isplitl [H26]; · iexact H26
  iexists Y; isplitr
  · ipureintro; exact ⟨h, rfl⟩
  iexact H30

theorem part9_spec (H : S8x1536.Idx → Elt F .f32) {v290 v293 v296 v299} (h0 : Mask ids e 0 v290) (h1 : Mask ids e 1 v293) (h2 : Mask ids e 2 v296) {c0 c1} (t11 : Fin k0_t11_loop.trips) {Y0 Y : S48x1536.Idx → Elt F .f32} (h : Part 128 0 t11.val ids e H Y0 Y) {Q} :
    iprop(at_ c r.a25 H ∗ at_ c r.a29 Y) ⊢ iprop((∀ (v373 : BitVec 32) (v413 : FVec F S8x128 .f32), iprop(at_ c r.a25 H ∗ (∃ Y, ⌜Part 128 3 t11.val ids e H Y0 Y ∧
        v413 = k0_pay19 v299 (cut2 (n1 := 8) (n2 := 1536) H 3 (128 * t11.val) 1 128) (cut2 (n1 := 48) (n2 := 1536) Y 24 (128 * t11.val) 8 128)⌝ ∗ at_ c r.a29 Y)) -∗ Q ⟨v373, v413⟩) -∗
      wpc c (k0_part9 (F := F)  r.a0 r.h0 r.a1 r.h1 r.a2 r.h2 r.a3 r.h3 r.a4 r.h4 r.a5 r.h5 r.a6 r.h6 r.a7 r.h7 r.a8 r.h8 r.a9 r.h9 r.a10 r.h10 r.a11 r.h11 r.a12 r.h12 r.a13 r.h13 r.a14 r.h14 r.a15 r.h15 r.a16 r.h16 r.a17 r.h17 r.a18 r.h18 r.a19 r.h19 r.a20 r.h20 r.a21 r.h21 r.a22 r.h22 r.a23 r.h23 r.a24 r.h24 r.a25 r.h25 r.a26 r.h26 r.a27 r.h27 r.a28 r.h28 r.a29 r.h29 r.a30 r.h30 r.a31 r.h31 r.a32 r.a33 r.a34 r.a35 v290 v293 v296 v299 c0 c1 t11) Q) := by
  rw [k0_part9_eq_skeleton]; unfold k0_part9_skel
  have hq : 128 * t11.val + 128 ≤ 1536 := by have := lt_of_lt_of_eq t11.isLt (by decide : k0_t11_loop.trips = 12); omega
  iintro ⟨H25, H29⟩ Hk
  iapply (at_cut c (k0_off65_eq t11)) $$ H25; iintro H25
  iapply (at_cut c (k0_off66_eq t11)) $$ H29; iintro H29
  iapply (at_cut c (k0_off66_eq t11)) $$ H29; iintro H29
  iapply (wp_store' (Finset.subset_univ _)) $$ H29; iintro H29
  generalize hZ : Rect.overlay _ _ _ = Z
  replace h : Part 128 1 t11.val ids e H Y0 Z := by
    rw [← hZ]; exact rows_step 0 h (k0_off66_eq t11) rfl rfl hq h0 (fun l => row_cut H 0 t11.val hq l) rfl
  clear hZ; rename' Z => Y
  iapply (at_cut c (k0_off67_eq t11)) $$ H25; iintro H25
  iapply (at_cut c (k0_off68_eq t11)) $$ H29; iintro H29
  iapply (at_cut c (k0_off68_eq t11)) $$ H29; iintro H29
  iapply (wp_store' (Finset.subset_univ _)) $$ H29; iintro H29
  generalize hZ : Rect.overlay _ _ _ = Z
  replace h : Part 128 2 t11.val ids e H Y0 Z := by
    rw [← hZ]; exact rows_step 1 h (k0_off68_eq t11) rfl rfl hq h1 (fun l => row_cut H 1 t11.val hq l) rfl
  clear hZ; rename' Z => Y
  iapply (at_cut c (k0_off69_eq t11)) $$ H25; iintro H25
  iapply (at_cut c (k0_off70_eq t11)) $$ H29; iintro H29
  iapply (at_cut c (k0_off70_eq t11)) $$ H29; iintro H29
  iapply (wp_store' (Finset.subset_univ _)) $$ H29; iintro H29
  generalize hZ : Rect.overlay _ _ _ = Z
  replace h : Part 128 3 t11.val ids e H Y0 Z := by
    rw [← hZ]; exact rows_step 2 h (k0_off70_eq t11) rfl rfl hq h2 (fun l => row_cut H 2 t11.val hq l) rfl
  clear hZ; rename' Z => Y
  iapply (at_cut c (k0_off71_eq t11)) $$ H25; iintro H25
  iapply (at_cut c (k0_off72_eq t11)) $$ H29; iintro H29
  iapply wp_pure'
  iapply Hk
  isplitl [H25]; · iexact H25
  iexists Y; isplitr
  · ipureintro; exact ⟨h, rfl⟩
  iexact H29

/-- What the loop over the blocks of the codes' rows holds. -/
def rowsI (H : S8x1536.Idx → Elt F .f32) (ids : ℕ → Fin 47) (e : Fin 47) (Y0 : S48x1536.Idx → Elt F .f32) (n : ℕ) : sProp 𝕄 :=
  iprop(at_ c r.a25 H ∗ (∃ Y, ⌜Part 128 0 n ids e H Y0 Y⌝ ∗ at_ c r.a29 Y))

theorem t11_step (H : S8x1536.Idx → Elt F .f32) (Y0 : S48x1536.Idx → Elt F .f32) {v266 v287 v290 v293 v296 v299 v302 v305 v329} (h0 : Mask ids e 0 v290) (h1 : Mask ids e 1 v293) (h2 : Mask ids e 2 v296) (h3 : Mask ids e 3 v299) (h4 : Mask ids e 4 v302) (h5 : Mask ids e 5 v305) (t11 : Fin k0_t11_loop.trips) (v : BitVec 32) :
    rowsI c r H ids e Y0 t11.val ⊢ wpc c (k0_t11_body (F := F)  r.a0 r.h0 r.a1 r.h1 r.a2 r.h2 r.a3 r.h3 r.a4 r.h4 r.a5 r.h5 r.a6 r.h6 r.a7 r.h7 r.a8 r.h8 r.a9 r.h9 r.a10 r.h10 r.a11 r.h11 r.a12 r.h12 r.a13 r.h13 r.a14 r.h14 r.a15 r.h15 r.a16 r.h16 r.a17 r.h17 r.a18 r.h18 r.a19 r.h19 r.a20 r.h20 r.a21 r.h21 r.a22 r.h22 r.a23 r.h23 r.a24 r.h24 r.a25 r.h25 r.a26 r.h26 r.a27 r.h27 r.a28 r.h28 r.a29 r.h29 r.a30 r.h30 r.a31 r.h31 r.a32 r.a33 r.a34 r.a35 v266 v287 v290 v293 v296 v299 v302 v305 v329 t11 v) (fun _ => rowsI c r H ids e Y0 (t11.val + 1)) := by
  unfold k0_t11_body rowsI
  have hq : 128 * t11.val + 128 ≤ 1536 := by have := lt_of_lt_of_eq t11.isLt (by decide : k0_t11_loop.trips = 12); omega
  iintro ⟨H25, ⟨%Y, %h, H29⟩⟩
  iapply wp_seq
  iapply (part9_spec c r H h0 h1 h2 t11 h) $$ [H25 H29]
  · isplitl [H25]; · iexact H25
    iexact H29
  clear h
  iintro %v373 %v413 ⟨H25, ⟨%Y, %hh, H29⟩⟩
  obtain ⟨h, h413⟩ := hh
  subst h413
  dsimp only
  iapply (at_cut c (k0_off72_eq t11)) $$ H29; iintro H29
  iapply (wp_store' (Finset.subset_univ _)) $$ H29; iintro H29
  generalize hZ : Rect.overlay _ _ _ = Z
  replace h : Part 128 4 t11.val ids e H Y0 Z := by
    rw [← hZ]; exact rows_step 3 h (k0_off72_eq t11) rfl rfl hq h3 (fun l => row_cut H 3 t11.val hq l) rfl
  clear hZ; rename' Z => Y
  iapply (at_cut c (k0_off73_eq t11)) $$ H25; iintro H25
  iapply (at_cut c (k0_off74_eq t11)) $$ H29; iintro H29
  iapply (at_cut c (k0_off74_eq t11)) $$ H29; iintro H29
  iapply (wp_store' (Finset.subset_univ _)) $$ H29; iintro H29
  generalize hZ : Rect.overlay _ _ _ = Z
  replace h : Part 128 5 t11.val ids e H Y0 Z := by
    rw [← hZ]; exact rows_step 4 h (k0_off74_eq t11) rfl rfl hq h4 (fun l => row_cut H 4 t11.val hq l) rfl
  clear hZ; rename' Z => Y
  iapply (at_cut c (k0_off75_eq t11)) $$ H25; iintro H25
  iapply (at_cut c (k0_off76_eq t11)) $$ H29; iintro H29
  iapply (at_cut c (k0_off76_eq t11)) $$ H29; iintro H29
  iapply (wp_store' (Finset.subset_univ _)) $$ H29; iintro H29
  generalize hZ : Rect.overlay _ _ _ = Z
  replace h : Part 128 6 t11.val ids e H Y0 Z := by
    rw [← hZ]; exact rows_step 5 h (k0_off76_eq t11) rfl rfl hq h5 (fun l => row_cut H 5 t11.val hq l) rfl
  clear hZ; rename' Z => Y
  iapply wp_pure'
  isplitl [H25]; · iexact H25
  iexists Y; isplitr
  · ipureintro; exact part_next h
  iexact H29

theorem part13_spec (H : S8x1536.Idx → Elt F .f32) (V : S8x128.Idx → Elt F .f32) (Z0 : S48x1536.Idx → Elt F .f32) {Y0 Y : S48x128.Idx → Elt F .f32} {v266 v290 v293 v296 v299 v302 v305 v329} (h0 : Mask ids e 0 v290) (h1 : Mask ids e 1 v293) (h2 : Mask ids e 2 v296) (h3 : Mask ids e 3 v299) (h4 : Mask ids e 4 v302) (h5 : Mask ids e 5 v305)
    (h : Part 128 2 0 ids e V Y0 Y) (h329 : v329 = k0_pay16 v296 (extractStridedSlice S1x128 ![2, 0] V slices_S8x128_o2_0_S1x128) (cut2 (n1 := 48) (n2 := 128) Y 16 0 8 128)) {Q} :
    iprop(at_ c r.a25 H ∗ any (F := F) c r.a27 ∗ any (F := F) c r.a28 ∗ at_ c r.a29 Z0 ∗ at_ c r.a30 Y) ⊢ iprop((∀ v, iprop(any (F := F) c r.a25 ∗ any (F := F) c r.a27 ∗ any (F := F) c r.a28 ∗ (∃ Z, ⌜Part 128 0 12 ids e H Z0 Z⌝ ∗ at_ c r.a29 Z) ∗ (∃ Y, ⌜Part 128 6 0 ids e V Y0 Y⌝ ∗ at_ c r.a30 Y)) -∗ Q v) -∗
      wpc c (k0_part13 (F := F)  r.a0 r.h0 r.a1 r.h1 r.a2 r.h2 r.a3 r.h3 r.a4 r.h4 r.a5 r.h5 r.a6 r.h6 r.a7 r.h7 r.a8 r.h8 r.a9 r.h9 r.a10 r.h10 r.a11 r.h11 r.a12 r.h12 r.a13 r.h13 r.a14 r.h14 r.a15 r.h15 r.a16 r.h16 r.a17 r.h17 r.a18 r.h18 r.a19 r.h19 r.a20 r.h20 r.a21 r.h21 r.a22 r.h22 r.a23 r.h23 r.a24 r.h24 r.a25 r.h25 r.a26 r.h26 r.a27 r.h27 r.a28 r.h28 r.a29 r.h29 r.a30 r.h30 r.a31 r.h31 r.a32 r.a33 r.a34 r.a35 v266 V v290 v293 v296 v299 v302 v305 v329) Q) := by
  rw [k0_part13_eq_skeleton]; unfold k0_part13_skel
  subst h329
  iintro ⟨H25, H27, H28, H29, H30⟩ Hk
  iapply (wp_store' (Finset.subset_univ _)) $$ H30; iintro H30
  generalize hZ : Rect.overlay _ _ _ = Z
  replace h : Part 128 3 0 ids e V Y0 Z := by
    rw [← hZ]; exact rows_step 2 h rfl rfl rfl (by decide) h2 (fun l => row_slice V 2 rfl l (by omega)) rfl
  clear hZ; rename' Z => Y
  iapply (at_cut c rfl) $$ H30; iintro H30
  iapply (at_cut c rfl) $$ H30; iintro H30
  iapply (wp_store' (Finset.subset_univ _)) $$ H30; iintro H30
  generalize hZ : Rect.overlay _ _ _ = Z
  replace h : Part 128 4 0 ids e V Y0 Z := by
    rw [← hZ]; exact rows_step 3 h rfl rfl rfl (by decide) h3 (fun l => row_slice V 3 rfl l (by omega)) rfl
  clear hZ; rename' Z => Y
  iapply (at_cut c rfl) $$ H30; iintro H30
  iapply (at_cut c rfl) $$ H30; iintro H30
  iapply (wp_store' (Finset.subset_univ _)) $$ H30; iintro H30
  generalize hZ : Rect.overlay _ _ _ = Z
  replace h : Part 128 5 0 ids e V Y0 Z := by
    rw [← hZ]; exact rows_step 4 h rfl rfl rfl (by decide) h4 (fun l => row_slice V 4 rfl l (by omega)) rfl
  clear hZ; rename' Z => Y
  iapply (at_cut c rfl) $$ H30; iintro H30
  iapply (at_cut c rfl) $$ H30; iintro H30
  iapply (wp_store' (Finset.subset_univ _)) $$ H30; iintro H30
  generalize hZ : Rect.overlay _ _ _ = Z
  replace h : Part 128 6 0 ids e V Y0 Z := by
    rw [← hZ]; exact rows_step 5 h rfl rfl rfl (by decide) h5 (fun l => row_slice V 5 rfl l (by omega)) rfl
  clear hZ; rename' Z => Y
  iapply (Scf.wp_for_bind (I := fun n _ => rowsI c r H ids e Z0 n) (hbody := fun t v => t11_step c r H Z0 h0 h1 h2 h3 h4 h5 t v)) $$ [H25 H29]
  · unfold rowsI
    isplitl [H25]; · iexact H25
    iexists Z0; isplitr
    · ipureintro; exact part_start
    iexact H29
  rw [show Scf.trips _ _ _ = 12 from (by decide : k0_t11_loop.trips = 12)]
  unfold rowsI
  iintro %_ ⟨H25, H29⟩
  iapply (any_load c) $$ H27; iintro %_ H27
  iapply (any_load c) $$ H28; iintro %_ H28
  iapply wp_pure'
  iapply Hk
  isplitl [H25]; · iapply (any_of c) $$ H25
  isplitl [H27]; · iexact H27
  isplitl [H28]; · iexact H28
  isplitl [H29]; · iexact H29
  iexists Y; isplitr
  · ipureintro; exact h
  iexact H30

variable {v81 : BitVec 32} (hv : v81.toNat < 64) {hw4 : k0_chk4 v81}
include hv

theorem part10_spec (k : Fin (k0_t5_loop v81).trips) (t12 : Fin k0_t12_loop.trips) (t13 : Fin k0_t13_loop.trips) (t14 : Fin k0_t14_loop.trips) {v264 v385 c0 c1} {e : Fin 47} {Q} :
    iprop(cD c r q a (slot k.val) t12 (.here e) ∗ cSd c r q a (slot k.val) (.here e) ∗ any (F := F) c r.a24) ⊢
      iprop((∀ v, iprop(cD c r q a (slot k.val) t12 (.here e) ∗ cSd c r q a (slot k.val) (.here e) ∗ any (F := F) c r.a24) -∗ Q v) -∗
        wpc c (k0_part10 (F := F)  r.a0 r.h0 r.a1 r.h1 r.a2 r.h2 r.a3 r.h3 r.a4 r.h4 r.a5 r.h5 r.a6 r.h6 r.a7 r.h7 r.a8 r.h8 r.a9 r.h9 r.a10 r.h10 r.a11 r.h11 r.a12 r.h12 r.a13 r.h13 r.a14 r.h14 r.a15 r.h15 r.a16 r.h16 r.a17 r.h17 r.a18 r.h18 r.a19 r.h19 r.a20 r.h20 r.a21 r.h21 r.a22 r.h22 r.a23 r.h23 r.a24 r.h24 r.a25 r.h25 r.a26 r.h26 r.a27 r.h27 r.a28 r.h28 r.a29 r.h29 r.a30 r.h30 r.a31 r.h31 r.a32 r.a33 r.a34 r.a35 v81 hw4 k v264 t12 t13 v385 c0 c1 t14) Q) := by
  have h7 : t13.val < 4 := t13.isLt
  have h8 : t14.val < 6 := t14.isLt
  rw [k0_part10_eq_skeleton]; unfold k0_part10_skel cD cSd
  iintro ⟨HG, HS, H24⟩ Hk
  iapply (cell_load c (rows_sub (p := 0) (off83_eq hv k t12 t13 t14) (by omega) (by omega))) $$ HG
  iintro HG
  iapply (cell_load c (rows_sub (p := 0) (off84_eq hv k t12 t13 t14 0) (by omega) (by simp; omega))) $$ HS
  iintro HS
  iapply (cell_load c (rows_sub (p := 0) (off84_eq hv k t12 t13 t14 1) (by omega) (by simp; omega))) $$ HS
  iintro HS
  iapply (any_load c) $$ H24
  iintro %_ H24
  iapply wp_pure'
  iapply Hk
  isplitl [HG]; · iexact HG
  isplitl [HS]; · iexact HS
  iexact H24

theorem t14_step (k : Fin (k0_t5_loop v81).trips) (t12 : Fin k0_t12_loop.trips) (t13 : Fin k0_t13_loop.trips) {v264 v385} {e : Fin 47} (t : Fin k0_t14_loop.trips) (v : FVec F S16x256 .f32) :
    iprop(cD c r q a (slot k.val) t12 (.here e) ∗ cSd c r q a (slot k.val) (.here e) ∗ any (F := F) c r.a24) ⊢
      wpc c (k0_t14_body (F := F)  r.a0 r.h0 r.a1 r.h1 r.a2 r.h2 r.a3 r.h3 r.a4 r.h4 r.a5 r.h5 r.a6 r.h6 r.a7 r.h7 r.a8 r.h8 r.a9 r.h9 r.a10 r.h10 r.a11 r.h11 r.a12 r.h12 r.a13 r.h13 r.a14 r.h14 r.a15 r.h15 r.a16 r.h16 r.a17 r.h17 r.a18 r.h18 r.a19 r.h19 r.a20 r.h20 r.a21 r.h21 r.a22 r.h22 r.a23 r.h23 r.a24 r.h24 r.a25 r.h25 r.a26 r.h26 r.a27 r.h27 r.a28 r.h28 r.a29 r.h29 r.a30 r.h30 r.a31 r.h31 r.a32 r.a33 r.a34 r.a35 v81 hw4 k v264 t12 t13 v385 t v) (fun _ => iprop(cD c r q a (slot k.val) t12 (.here e) ∗ cSd c r q a (slot k.val) (.here e) ∗ any (F := F) c r.a24)) := by
  unfold k0_t14_body
  iintro H
  iapply wp_seq
  iapply (part10_spec c r q a hv k t12 t13 t) $$ H
  iintro %v H
  iapply wp_pure'
  iexact H

theorem t13_step (k : Fin (k0_t5_loop v81).trips) (t12 : Fin k0_t12_loop.trips) {v264 v362 arg38} {e : Fin 47} (t13 : Fin k0_t13_loop.trips) (v : BitVec 32) :
    iprop(cD c r q a (slot k.val) t12 (.here e) ∗ cSd c r q a (slot k.val) (.here e) ∗ any (F := F) c r.a24 ∗ any (F := F) c r.a31) ⊢
      wpc c (k0_t13_body (F := F)  r.a0 r.h0 r.a1 r.h1 r.a2 r.h2 r.a3 r.h3 r.a4 r.h4 r.a5 r.h5 r.a6 r.h6 r.a7 r.h7 r.a8 r.h8 r.a9 r.h9 r.a10 r.h10 r.a11 r.h11 r.a12 r.h12 r.a13 r.h13 r.a14 r.h14 r.a15 r.h15 r.a16 r.h16 r.a17 r.h17 r.a18 r.h18 r.a19 r.h19 r.a20 r.h20 r.a21 r.h21 r.a22 r.h22 r.a23 r.h23 r.a24 r.h24 r.a25 r.h25 r.a26 r.h26 r.a27 r.h27 r.a28 r.h28 r.a29 r.h29 r.a30 r.h30 r.a31 r.h31 r.a32 r.a33 r.a34 r.a35 v81 hw4 k v264 v362 t12 arg38 t13 v) (fun _ => iprop(cD c r q a (slot k.val) t12 (.here e) ∗ cSd c r q a (slot k.val) (.here e) ∗ any (F := F) c r.a24 ∗ any (F := F) c r.a31)) := by
  unfold k0_t13_body
  iintro ⟨HD, HS, H24, H31⟩
  iapply (Scf.wp_for_bind (I := fun _ _ => iprop(cD c r q a (slot k.val) t12 (.here e) ∗ cSd c r q a (slot k.val) (.here e) ∗ any (F := F) c r.a24)) (hbody := fun t v => t14_step c r q a hv k t12 t13 t v)) $$ [HD HS H24]
  · isplitl [HD]; · iexact HD
    isplitl [HS]; · iexact HS
    iexact H24
  iintro %_ ⟨HD, HS, H24⟩
  iapply (any_load c) $$ H31
  iintro %_ H31
  iapply (any_load c) $$ H31
  iintro %_ H31
  iapply (any_store c) $$ H31
  iintro H31
  iapply wp_pure'
  isplitl [HD]; · iexact HD
  isplitl [HS]; · iexact HS
  isplitl [H24]; · iexact H24
  iexact H31

/-- What the loop over an expert's down copies holds. -/
def dnI (s : Fin 2) (e : Fin 47) (k : ℕ) : sProp 𝕄 :=
  iprop(iprop(cD c r q a s 0 (st e 0 k) ∗ cD c r q a s 1 (st e 1 k) ∗ cD c r q a s 2 (st e 2 k) ∗ cD c r q a s 3 (st e 3 k)) ∗
    cSd c r q a s (.here e) ∗ any (F := F) c r.a24 ∗ any (F := F) c r.a31 ∗ (∃ W, owes (c : Thread nD τ) 0 W))

theorem t12_step (k : Fin (k0_t5_loop v81).trips) {v264 v266 hw6 v362} {e : Fin 47} (t12 : Fin k0_t12_loop.trips) (v : BitVec 32) :
    dnI c r q a (slot k.val) e t12.val ⊢
      wpc c (k0_t12_body (F := F)  r.a0 r.h0 r.a1 r.h1 r.a2 r.h2 r.a3 r.h3 r.a4 r.h4 r.a5 r.h5 r.a6 r.h6 r.a7 r.h7 r.a8 r.h8 r.a9 r.h9 r.a10 r.h10 r.a11 r.h11 r.a12 r.h12 r.a13 r.h13 r.a14 r.h14 r.a15 r.h15 r.a16 r.h16 r.a17 r.h17 r.a18 r.h18 r.a19 r.h19 r.a20 r.h20 r.a21 r.h21 r.a22 r.h22 r.a23 r.h23 r.a24 r.h24 r.a25 r.h25 r.a26 r.h26 r.a27 r.h27 r.a28 r.h28 r.a29 r.h29 r.a30 r.h30 r.a31 r.h31 r.a32 r.a33 r.a34 r.a35 v81 hw4 k v264 v266 hw6 v362 t12 v) (fun _ => dnI c r q a (slot k.val) e (t12.val + 1)) := by
  unfold k0_t12_body dnI
  iintro ⟨HD, HS, H24, H31, HO⟩
  ihave HD' := (take4 (fun j t => cD c r q a (slot k.val) j t) e t12) $$ HD
  icases HD' with ⟨HD, HDk⟩
  unfold cD
  iapply (cell_wait c (sem_eq _ (slot k.val) t12 (off80_eq hv k t12))) $$ [HD HO]
  · isplitl [HD]; · iexact HD
    iexact HO
  iintro ⟨HD, HO⟩
  iapply (Scf.wp_for_bind (I := fun _ _ => iprop(cD c r q a (slot k.val) t12 (.here e) ∗ cSd c r q a (slot k.val) (.here e) ∗ any (F := F) c r.a24 ∗ any (F := F) c r.a31))
    (hbody := fun t v => t13_step c r q a hv k t12 t v)) $$ [HD HS H24 H31]
  · unfold cD
    isplitl [HD]; · iexact HD
    isplitl [HS]; · iexact HS
    isplitl [H24]; · iexact H24
    iexact H31
  iintro %_ ⟨HD, HS, H24, H31⟩
  unfold cD
  iapply wp_pure'
  isplitl [HD HDk]
  · iapply HDk; iexact HD
  isplitl [HS]; · iexact HS
  isplitl [H24]; · iexact H24
  isplitl [H31]; · iexact H31
  iexact HO

omit hv in
/-- What the main loop holds before trip `k`. -/
def mainI (L : List (Fin 47)) (X16 : S64.Idx → Elt F .i32) (X : S16x4096.Idx → Elt F .bf16) (X26 : S48x128.Idx → Elt F .i32) (v199 : IVec S8x128 32) (ids : ℕ → Fin 47) (k : ℕ) : sProp 𝕄 :=
  iprop(at_ c r.a16 X16 ∗ guSt c r q a (slot k) (nextSt L k) ∗ dnSt c r q a (slot k) (nextSt L k) ∗ guSt c r q a (slot (k + 1)) .rest ∗ dnSt c r q a (slot (k + 1)) .rest ∗
    at_ c r.a23 X ∗ any (F := F) c r.a24 ∗ any (F := F) c r.a25 ∗ at_ c r.a26 X26 ∗ any (F := F) c r.a27 ∗ any (F := F) c r.a28 ∗
    (∃ Z, ⌜Kept ids (fun e => hq (hid a e X)) L k Z⌝ ∗ at_ c r.a29 Z) ∗ (∃ Y, ⌜Kept ids (fun e => hAcc v199 (hid a e X) 12) L k Y⌝ ∗ at_ c r.a30 Y) ∗ any (F := F) c r.a31 ∗ (∃ W, owes (c : Thread nD τ) 0 W))

theorem t5_step {L : List (Fin 47)} (hL : v81.toNat = L.length) {X16 : S64.Idx → Elt F .i32} (hX : Listed L X16) (X : S16x4096.Idx → Elt F .bf16) {X26 : S48x128.Idx → Elt F .i32} (hs : Spread (F := F) ids 48 X26) {v199} (k : Fin (k0_t5_loop v81).trips) (v : BitVec 32) :
    mainI c r q a L X16 X X26 v199 ids k.val ⊢ wpc c (k0_t5_body (F := F)  r.a0 r.h0 r.a1 r.h1 r.a2 r.h2 r.a3 r.h3 r.a4 r.h4 r.a5 r.h5 r.a6 r.h6 r.a7 r.h7 r.a8 r.h8 r.a9 r.h9 r.a10 r.h10 r.a11 r.h11 r.a12 r.h12 r.a13 r.h13 r.a14 r.h14 r.a15 r.h15 r.a16 r.h16 r.a17 r.h17 r.a18 r.h18 r.a19 r.h19 r.a20 r.h20 r.a21 r.h21 r.a22 r.h22 r.a23 r.h23 r.a24 r.h24 r.a25 r.h25 r.a26 r.h26 r.a27 r.h27 r.a28 r.h28 r.a29 r.h29 r.a30 r.h30 r.a31 r.h31 r.a32 r.a33 r.a34 r.a35 v81 hw4 v199 k v) (fun _ => mainI c r q a L X16 X X26 v199 ids (k.val + 1)) := by
  have hk1 := lt_of_lt_of_eq k.isLt (t5_trips hv)
  have hkL : k.val < L.length := by omega
  have hn0 : nextSt L k.val = .fly L[k.val] := by unfold nextSt; rw [dif_pos hkL]
  have hsl : slot (k.val + 1 + 1) = slot k.val := by apply Fin.ext; simp only [slot]; omega
  unfold k0_t5_body mainI
  rw [hsl, ← other_slot k.val]
  iintro ⟨H16, HA, HB, HC, HE, H23, H24, H25, H26, H27, H28, ⟨%Z, %hZ, H29⟩, ⟨%Y, %hY, H30⟩, H31, HW⟩
  iapply wp_seq
  iapply (begin_spec c r q a hv k hL hX hkL X X26) $$ [H16 HC HE HA H23 H24 H25 H26 HW]
  · isplitl [H16]; · iexact H16
    isplitl [HC]; · iexact HC
    isplitl [HE]; · iexact HE
    isplitl [HA]; · iexact HA
    isplitl [H23]; · iexact H23
    isplitl [H24]; · iexact H24
    isplitl [H25]; · iexact H25
    isplitl [H26]; · iexact H26
    iexact HW
  iintro %v264 %hw6 ⟨H16, HC, HE, HA, H23, H24, H25, H26, HW⟩
  dsimp only
  iapply wp_seq
  have h0 : Mask ids L[k.val] 0 (k0_pay33 (F := F) (BitVec.ofNat 32 L[k.val].val) (cut2 (n1 := 48) (n2 := 128) X26 0 0 8 128)) := mask_of hs _ 0 rfl
  iapply (part12_spec c r (hAcc v199 (hid a L[k.val] X) 12) hs h0 Y) $$ [H26 H30]
  · isplitl [H26]; · iexact H26
    iexact H30
  iintro %v293 %v296 %v299 %v302 %v305 %v329 ⟨%hm, H26, ⟨%Y1, %h30, H30⟩⟩
  obtain ⟨h1, h2, h3, h4, h5⟩ := hm
  obtain ⟨h30, h329⟩ := h30
  dsimp only
  iapply wp_seq
  iapply (part13_spec c r (hq (hid a L[k.val] X)) (hAcc v199 (hid a L[k.val] X) 12) Z h0 h1 h2 h3 h4 h5 h30 h329) $$ [H25 H27 H28 H29 H30]
  · isplitl [H25]; · iexact H25
    isplitl [H27]; · iexact H27
    isplitl [H28]; · iexact H28
    isplitl [H29]; · iexact H29
    iexact H30
  iintro %v362 ⟨H25, H27, H28, ⟨%Z2, %hZ2, H29⟩, ⟨%Y2, %hY2, H30⟩⟩
  rw [hn0]
  ihave HB := (Entails.of_eq (dn_eq c r q a (slot k.val) (.fly L[k.val]))) $$ HB
  icases HB with ⟨HD, HQ⟩
  unfold cSd
  iapply (cell_wait c (sem_eq _ (slot k.val) 2 (off77_eq hv k))) $$ [HD HW]
  · isplitl [HD]; · iexact HD
    iexact HW
  iintro ⟨HD, HW⟩
  iapply (Scf.wp_for_bind (I := fun t _ => dnI c r q a (slot k.val) L[k.val] t) (hbody := fun t v => t12_step c r q a hv k t v)) $$ [HD HQ H24 H31 HW]
  · unfold dnI cSd
    isplitl [HQ]; · iexact HQ
    isplitl [HD]; · iexact HD
    isplitl [H24]; · iexact H24
    isplitl [H31]; · iexact H31
    iexact HW
  rw [show Scf.trips _ _ _ = 4 from (by decide : k0_t12_loop.trips = 4)]
  iintro %_ HI
  unfold dnI
  icases HI with ⟨HQ, HD, H24, H31, HW⟩
  ihave HB := (Entails.of_eq (dn_eq c r q a (slot k.val) (.here L[k.val])).symm) $$ [HD HQ]
  · isplitl [HD]; · iexact HD
    iexact HQ
  ihave HB := (dn_rest c r q a) $$ HB
  iapply wp_pure'
  isplitl [H16]; · iexact H16
  isplitl [HC]; · iexact HC
  isplitl [HE]; · iexact HE
  isplitl [HA]; · iexact HA
  isplitl [HB]; · iexact HB
  isplitl [H23]; · iexact H23
  isplitl [H24]; · iexact H24
  isplitl [H25]; · iexact H25
  isplitl [H26]; · iexact H26
  isplitl [H27]; · iexact H27
  isplitl [H28]; · iexact H28
  isplitl [H29]
  · iexists Z2; isplitr
    · ipureintro; exact kept_step hkL hZ hZ2 (by decide)
    iexact H29
  isplitl [H30]
  · iexists Y2; isplitr
    · ipureintro; exact kept_step hkL hY (part_next hY2) (by decide)
    iexact H30
  isplitl [H31]; · iexact H31
  iexact HW

end Cert.KernelIdeal.Hand
-- ==== Proof.Whole.lean ====
/-
  The whole kernel: what it holds at the end out of what it is given.
-/
module

public import proofs.«01_k».proof.Proof.Trip
public import proofs.«01_k».proof.Proof.First
public import proofs.«01_k».proof.Proof.Clear
public import proofs.«01_k».proof.Proof.XQuant
public import proofs.«01_k».proof.Proof.Spread
public import proofs.«01_k».proof.Proof.Gen.KernelIdeal.Skeleton
public import Idealize.ShloMosaic.Lib.Pipeline.FrameBody

@[expose] public section

noncomputable section

namespace Cert.KernelIdeal.Hand

open Cert.KernelIdeal Cert.KernelIdeal.Gen Cert.Held
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (Pipeline.UD sig nD τ) ℕ

variable (c : Dev nD) (r : Refs) (q : Fin 2 → Fin 13 → PosShare TreeShare) (a : Arrs F)

theorem mainI_eq (L : List (Fin 47)) (X16 : S64.Idx → Elt F .i32) (X : S16x4096.Idx → Elt F .bf16) (X26 : S48x128.Idx → Elt F .i32) (ids : ℕ → Fin 47) (k : ℕ) : mainI c r q a L X16 X X26 lanes ids k =
    iprop(at_ c r.a16 X16 ∗ guSt c r q a (slot k) (nextSt L k) ∗ dnSt c r q a (slot k) (nextSt L k) ∗ guSt c r q a (slot (k + 1)) .rest ∗ dnSt c r q a (slot (k + 1)) .rest ∗
      at_ c r.a23 X ∗ any (F := F) c r.a24 ∗ any (F := F) c r.a25 ∗ at_ c r.a26 X26 ∗ any (F := F) c r.a27 ∗ any (F := F) c r.a28 ∗
      (∃ Z, ⌜Kept ids (fun e => hq (hid a e X)) L k Z⌝ ∗ at_ c r.a29 Z) ∗ (∃ Y, ⌜Kept ids (fun e => hAcc lanes (hid a e X) 12) L k Y⌝ ∗ at_ c r.a30 Y) ∗ any (F := F) c r.a31 ∗ (∃ W, owes (c : Thread nD τ) 0 W)) := rfl

/-- What the main loop leaves, the rows of codes and scales named. -/
def mainO (X16 : S64.Idx → Elt F .i32) (X : S16x4096.Idx → Elt F .bf16) (X26 : S48x128.Idx → Elt F .i32) (Z : S48x1536.Idx → Elt F .f32) (Y : S48x128.Idx → Elt F .f32) (k : ℕ) : sProp 𝕄 :=
  iprop(at_ c r.a16 X16 ∗ guSt c r q a (slot k) .rest ∗ dnSt c r q a (slot k) .rest ∗ guSt c r q a (slot (k + 1)) .rest ∗ dnSt c r q a (slot (k + 1)) .rest ∗
      at_ c r.a23 X ∗ any (F := F) c r.a24 ∗ any (F := F) c r.a25 ∗ at_ c r.a26 X26 ∗ any (F := F) c r.a27 ∗ any (F := F) c r.a28 ∗
      at_ c r.a29 Z ∗ at_ c r.a30 Y ∗ any (F := F) c r.a31 ∗ (∃ W, owes (c : Thread nD τ) 0 W))

/-- Two slots in a row are both slots. -/
theorem both_slots (k : ℕ) :
    iprop(guSt c r q a (slot k) .rest ∗ dnSt c r q a (slot k) .rest ∗ guSt c r q a (slot (k + 1)) .rest ∗ dnSt c r q a (slot (k + 1)) .rest) ⊢
      iprop(guSt c r q a 0 .rest ∗ guSt c r q a 1 .rest ∗ dnSt c r q a 0 .rest ∗ dnSt c r q a 1 .rest) := by
  rcases Nat.mod_two_eq_zero_or_one k with h | h
  · rw [show slot k = 0 from Fin.ext h, show slot (k + 1) = 1 from Fin.ext (by simp only [slot]; omega)]
    iintro ⟨HA, HB, HC, HE⟩
    isplitl [HA]; · iexact HA
    isplitl [HC]; · iexact HC
    isplitl [HB]; · iexact HB
    iexact HE
  · rw [show slot k = 1 from Fin.ext h, show slot (k + 1) = 0 from Fin.ext (by simp only [slot]; omega)]
    iintro ⟨HA, HB, HC, HE⟩
    isplitl [HC]; · iexact HC
    isplitl [HA]; · iexact HA
    isplitl [HE]; · iexact HE
    iexact HB

/-- Rows named after all the experts are named throughout. -/
theorem full_at {α : Type} {n : ℕ} {ids : ℕ → Fin 47} {V : Fin 47 → (⟨2, ![8, n]⟩ : Shape).Idx → α} {Y : (⟨2, ![48, n]⟩ : Shape).Idx → α} {L : List (Fin 47)} (hL : L = scanL ids 48)
    (h : Kept ids V L L.length Y) : Full ids V Y := by
  intro p j
  refine h p j ?_
  rw [List.take_length, hL]
  exact (mem_scanL ids _ 48).2 ⟨p.val, p.isLt, rfl⟩

/-- The main loop, and the first token's codes read back. -/
theorem part32_spec {v81 : BitVec 32} (hv : v81.toNat < 64) {hw4 : k0_chk4 v81} {ids : ℕ → Fin 47} {L : List (Fin 47)} (hids : L = scanL ids 48) (hL : v81.toNat = L.length) {X16 : S64.Idx → Elt F .i32} (hX : Listed L X16)
    (X : S16x4096.Idx → Elt F .bf16) {X26 : S48x128.Idx → Elt F .i32} (hs : Spread (F := F) ids 48 X26) {X2 : S6x1x8.Idx → Elt F .i32} {X3 : S6x1x8.Idx → Elt F .f32} {Q} :
    iprop(at_ c r.a2 X2 ∗ at_ c r.a3 X3 ∗ any (F := F) c r.a10 ∗ mainI c r q a L X16 X X26 lanes ids 0) ⊢
      iprop((∀ Z Y, iprop(⌜Full ids (fun e => hq (hid a e X)) Z ∧ Full ids (fun e => hAcc lanes (hid a e X) 12) Y⌝ ∗ at_ c r.a2 X2 ∗ at_ c r.a3 X3 ∗ any (F := F) c r.a10 ∗ mainO c r q a X16 X X26 Z Y L.length) -∗ Q (k0_pay131 (cut2 (n1 := 48) (n2 := 1536) Z 0 0 8 1536))) -∗
        wpc c (k0_part32 (F := F)  r.a0 r.h0 r.a1 r.h1 r.a2 r.h2 r.a3 r.h3 r.a4 r.h4 r.a5 r.h5 r.a6 r.h6 r.a7 r.h7 r.a8 r.h8 r.a9 r.h9 r.a10 r.h10 r.a11 r.h11 r.a12 r.h12 r.a13 r.h13 r.a14 r.h14 r.a15 r.h15 r.a16 r.h16 r.a17 r.h17 r.a18 r.h18 r.a19 r.h19 r.a20 r.h20 r.a21 r.h21 r.a22 r.h22 r.a23 r.h23 r.a24 r.h24 r.a25 r.h25 r.a26 r.h26 r.a27 r.h27 r.a28 r.h28 r.a29 r.h29 r.a30 r.h30 r.a31 r.h31 r.a32 r.a33 r.a34 r.a35 v81 hw4) Q) := by
  rw [k0_part32_eq_skeleton]; unfold k0_part32_skel
  iintro ⟨H2, H3, H10, HM⟩ Hk
  ihave HM := (Entails.of_eq (mainI_eq c r q a L X16 X X26 ids 0)) $$ HM
  icases HM with ⟨H16, HA, HB, HC, HE, H23, H24, H25, H26, H27, H28, H29, H30, H31, HW⟩
  iapply (held_load c (Finset.subset_univ _)) $$ H3; iintro %_ H3
  iapply (any_load c) $$ H28; iintro %_ H28
  iapply (any_store c) $$ H28; iintro H28
  iapply (held_load c (Finset.subset_univ _)) $$ H2; iintro %_ H2
  iapply (any_load c) $$ H27; iintro %_ H27
  iapply (any_store c) $$ H27; iintro H27
  iapply (held_load c (Finset.subset_univ _)) $$ H3; iintro %_ H3
  iapply (any_load c) $$ H28; iintro %_ H28
  iapply (any_store c) $$ H28; iintro H28
  iapply (Scf.wp_for_bind (I := fun k _ => mainI c r q a L X16 X X26 lanes ids k) (hbody := fun k v => t5_step c r q a hv hL hX X hs k v)) $$ [H16 HA HB HC HE H23 H24 H25 H26 H27 H28 H29 H30 H31 HW]
  · iapply (Entails.of_eq (mainI_eq c r q a L X16 X X26 ids 0).symm)
    isplitl [H16]; · iexact H16
    isplitl [HA]; · iexact HA
    isplitl [HB]; · iexact HB
    isplitl [HC]; · iexact HC
    isplitl [HE]; · iexact HE
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    isplitl [H31]; · iexact H31
    iexact HW
  rw [show Scf.trips _ _ _ = L.length from (t5_trips hv).trans hL]
  iintro %_ HM
  iapply (Scf.wp_for_bind (I := fun _ _ => at_ c r.a2 X2) (hbody := fun k _ => (t15_none k).elim)) $$ H2
  iintro %_ H2
  have hlast : nextSt L L.length = .rest := by unfold nextSt; rw [dif_neg (lt_irrefl _)]
  ihave HM := (Entails.of_eq (mainI_eq c r q a L X16 X X26 ids L.length)) $$ HM
  rw [hlast]
  icases HM with ⟨H16, HA, HB, HC, HE, H23, H24, H25, H26, H27, H28, ⟨%Z, %hZ, H29⟩, ⟨%Y, %hY, H30⟩, H31, HW⟩
  iapply (any_load c) $$ H31; iintro %_ H31
  iapply (any_load c) $$ H10; iintro %_ H10
  iapply (any_store c) $$ H10; iintro H10
  iapply (at_cut c rfl) $$ H29; iintro H29
  iapply wp_pure'
  have hF : Full ids (fun e => hq (hid a e X)) Z ∧ Full ids (fun e => hAcc lanes (hid a e X) 12) Y := by
    exact ⟨full_at (n := 1536) hids hZ, full_at (n := 128) hids hY⟩
  clear hZ hY
  ispecialize Hk $$ %Z %Y
  iapply Hk
  isplitr
  · ipureintro; exact hF
  isplitl [H2]; · iexact H2
  isplitl [H3]; · iexact H3
  isplitl [H10]; · iexact H10
  unfold mainO
  isplitl [H16]; · iexact H16
  isplitl [HA]; · iexact HA
  isplitl [HB]; · iexact HB
  isplitl [HC]; · iexact HC
  isplitl [HE]; · iexact HE
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  iexact HW

theorem part33_spec {ids : ℕ → Fin 47} {V : Fin 47 → S8x1536.Idx → Elt F .f32} {S : Fin 47 → S8x128.Idx → Elt F .f32} {Z : S48x1536.Idx → Elt F .f32} {Y : S48x128.Idx → Elt F .f32} (hZ : Full ids V Z) (hY : Full ids S Y) {Q} :
    iprop(any (F := F) c r.a13 ∗ any (F := F) c r.a14 ∗ at_ c r.a29 Z ∗ at_ c r.a30 Y) ⊢ iprop((iprop((∃ G, ⌜HCoded ids V 3 G⌝ ∗ at_ c r.a13 G) ∗ (∃ G, ⌜HScaled ids S 3 G⌝ ∗ at_ c r.a14 G) ∗ at_ c r.a29 Z ∗ at_ c r.a30 Y) -∗ Q (k0_pay138 (cut2 (n1 := 48) (n2 := 1536) Z 24 0 8 1536))) -∗
      wpc c (k0_part33 (F := F)  r.a0 r.h0 r.a1 r.h1 r.a2 r.h2 r.a3 r.h3 r.a4 r.h4 r.a5 r.h5 r.a6 r.h6 r.a7 r.h7 r.a8 r.h8 r.a9 r.h9 r.a10 r.h10 r.a11 r.h11 r.a12 r.h12 r.a13 r.h13 r.a14 r.h14 r.a15 r.h15 r.a16 r.h16 r.a17 r.h17 r.a18 r.h18 r.a19 r.h19 r.a20 r.h20 r.a21 r.h21 r.a22 r.h22 r.a23 r.h23 r.a24 r.h24 r.a25 r.h25 r.a26 r.h26 r.a27 r.h27 r.a28 r.h28 r.a29 r.h29 r.a30 r.h30 r.a31 r.h31 r.a32 r.a33 r.a34 r.a35 (k0_pay131 (cut2 (n1 := 48) (n2 := 1536) Z 0 0 8 1536))) Q) := by
  rw [k0_part33_eq_skeleton]; unfold k0_part33_skel any
  iintro ⟨⟨%Y13, H13⟩, ⟨%Y14, H14⟩, H29, H30⟩ Hk
  have h13 : HCoded ids V 0 Y13 := fun t i j h => absurd h (Nat.not_lt_zero _)
  have h14 : HScaled ids S 0 Y14 := fun t i j h => absurd h (Nat.not_lt_zero _)
  iapply (wp_load' (Finset.subset_univ _)) $$ H13; iintro H13
  iapply (wp_store' (Finset.subset_univ _)) $$ H13; iintro H13
  generalize hG : Rect.overlay _ _ _ = G
  replace h13 : HCoded ids V 1 G := by
    rw [← hG]; exact hcoded_step hZ 0 rfl h13 rfl rfl
  clear hG; rename' G => Y13
  iapply (at_cut c rfl) $$ H30; iintro H30
  iapply (wp_load' (Finset.subset_univ _)) $$ H14; iintro H14
  iapply (wp_store' (Finset.subset_univ _)) $$ H14; iintro H14
  generalize hG : Rect.overlay _ _ _ = G
  replace h14 : HScaled ids S 1 G := by
    rw [← hG]; exact hscaled_step hY 0 rfl h14 rfl rfl
  clear hG; rename' G => Y14
  iapply (at_cut c rfl) $$ H29; iintro H29
  iapply (wp_load' (Finset.subset_univ _)) $$ H13; iintro H13
  iapply (wp_store' (Finset.subset_univ _)) $$ H13; iintro H13
  generalize hG : Rect.overlay _ _ _ = G
  replace h13 : HCoded ids V 2 G := by
    rw [← hG]; exact hcoded_step hZ 1 rfl h13 rfl rfl
  clear hG; rename' G => Y13
  iapply (at_cut c rfl) $$ H30; iintro H30
  iapply (wp_load' (Finset.subset_univ _)) $$ H14; iintro H14
  iapply (wp_store' (Finset.subset_univ _)) $$ H14; iintro H14
  generalize hG : Rect.overlay _ _ _ = G
  replace h14 : HScaled ids S 2 G := by
    rw [← hG]; exact hscaled_step hY 1 rfl h14 rfl rfl
  clear hG; rename' G => Y14
  iapply (at_cut c rfl) $$ H29; iintro H29
  iapply (wp_load' (Finset.subset_univ _)) $$ H13; iintro H13
  iapply (wp_store' (Finset.subset_univ _)) $$ H13; iintro H13
  generalize hG : Rect.overlay _ _ _ = G
  replace h13 : HCoded ids V 3 G := by
    rw [← hG]; exact hcoded_step hZ 2 rfl h13 rfl rfl
  clear hG; rename' G => Y13
  iapply (at_cut c rfl) $$ H30; iintro H30
  iapply (wp_load' (Finset.subset_univ _)) $$ H14; iintro H14
  iapply (wp_store' (Finset.subset_univ _)) $$ H14; iintro H14
  generalize hG : Rect.overlay _ _ _ = G
  replace h14 : HScaled ids S 3 G := by
    rw [← hG]; exact hscaled_step hY 2 rfl h14 rfl rfl
  clear hG; rename' G => Y14
  iapply (at_cut c rfl) $$ H29; iintro H29
  iapply wp_pure'
  iapply Hk
  isplitl [H13]
  · iexists Y13; isplitr
    · ipureintro; exact h13
    iexact H13
  isplitl [H14]
  · iexists Y14; isplitr
    · ipureintro; exact h14
    iexact H14
  isplitl [H29]; · iexact H29
  iexact H30

/-- What the kernel holds beside its other results: its operands, its first result, its scratch but for the rows of scales and its copies' cells. -/
def others (X0 : S6x1x8.Idx → Elt F .i32) (X1 : S6x4096.Idx → Elt F .bf16) (X2 : S6x1x8.Idx → Elt F .i32) (X3 : S6x1x8.Idx → Elt F .f32) : sProp 𝕄 :=
  iprop(at_ c r.a0 X0 ∗ at_ c r.a1 X1 ∗ at_ c r.a2 X2 ∗ at_ c r.a3 X3 ∗ any (F := F) c r.a10 ∗ any (F := F) c r.a15 ∗ any (F := F) c r.a16 ∗ any (F := F) c r.a23 ∗ any (F := F) c r.a24 ∗ any (F := F) c r.a25 ∗ any (F := F) c r.a26 ∗ any (F := F) c r.a27 ∗ any (F := F) c r.a28 ∗ any (F := F) c r.a29 ∗ any (F := F) c r.a31 ∗
    guSt c r q a 0 .rest ∗ guSt c r q a 1 .rest ∗ dnSt c r q a 0 .rest ∗ dnSt c r q a 1 .rest ∗ (∃ W, owes (c : Thread nD τ) 0 W))

theorem part34_spec {ids : ℕ → Fin 47} {X0 : S6x1x8.Idx → Elt F .i32} (h0 : IdsAre ids X0) {X1 : S6x4096.Idx → Elt F .bf16} {X2 : S6x1x8.Idx → Elt F .i32} {X3 : S6x1x8.Idx → Elt F .f32} {Q} :
    iprop(others c r q a X0 X1 X2 X3 ∗ any (F := F) c r.a30 ∗ any (F := F) c r.a11 ∗ any (F := F) c r.a12 ∗ any (F := F) c r.a13 ∗ any (F := F) c r.a14) ⊢
      iprop((iprop(others c r q a X0 X1 X2 X3 ∗ (∃ Y, ⌜Coded X1 32 Y⌝ ∗ at_ c r.a11 Y) ∗ (∃ Y, ⌜Scaled X1 Y⌝ ∗ at_ c r.a12 Y) ∗
        (∃ X, ⌜Deqd X1 32 X⌝ ∗ (∃ Y, ⌜Full ids (fun e => hAcc lanes (hid a e X) 12) Y⌝ ∗ at_ c r.a30 Y) ∗ (∃ G, ⌜HCoded ids (fun e => hq (hid a e X)) 6 G⌝ ∗ at_ c r.a13 G) ∗ (∃ G, ⌜HScaled ids (fun e => hAcc lanes (hid a e X) 12) 5 G⌝ ∗ at_ c r.a14 G))) -∗ Q ⟨⟩) -∗
        wpc c (k0_part34 (F := F)  r.a0 r.h0 r.a1 r.h1 r.a2 r.h2 r.a3 r.h3 r.a4 r.h4 r.a5 r.h5 r.a6 r.h6 r.a7 r.h7 r.a8 r.h8 r.a9 r.h9 r.a10 r.h10 r.a11 r.h11 r.a12 r.h12 r.a13 r.h13 r.a14 r.h14 r.a15 r.h15 r.a16 r.h16 r.a17 r.h17 r.a18 r.h18 r.a19 r.h19 r.a20 r.h20 r.a21 r.h21 r.a22 r.h22 r.a23 r.h23 r.a24 r.h24 r.a25 r.h25 r.a26 r.h26 r.a27 r.h27 r.a28 r.h28 r.a29 r.h29 r.a30 r.h30 r.a31 r.h31 r.a32 r.a33 r.a34 r.a35) Q) := by
  have hfirst : nextSt (scanL ids 48) 0 = .fly (ids 0) := by
    have h := scanL_head ids 47
    obtain ⟨hl, h⟩ := List.getElem?_eq_some_iff.mp h
    unfold nextSt; rw [dif_pos hl, h]
  have hn : (BitVec.ofNat 32 (scanL ids 48).length).toNat = (scanL ids 48).length := by
    have := scanL_length ids 48
    rw [BitVec.toNat_ofNat]; omega
  rw [k0_part34_eq_skeleton]; unfold k0_part34_skel others
  iintro ⟨⟨H0, H1, H2, H3, H10, H15, H16, H23, H24, H25, H26, H27, H28, H29, H31, HGa, HGb, HDa, HDb, HW⟩, H30, H11, H12, H13, H14⟩ Hk
  ihave HGa := (Entails.of_eq (gu_eq c r q a 0 .rest)) $$ HGa
  ihave HDa := (Entails.of_eq (dn_eq c r q a 0 .rest)) $$ HDa
  icases HGa with ⟨HSg, HSu, ⟨HG0, HG1, HG2⟩, ⟨HU0, HU1, HU2⟩⟩
  icases HDa with ⟨HSd, ⟨HD0, HD1, HD2, HD3⟩⟩
  iapply wp_seq
  iapply (part25_spec c r q a (e := ids 0) (h0 0 0)) $$ [H0 HSg HSu HG0]
  · isplitl [H0]; · iexact H0
    isplitl [HSg]; · iexact HSg
    isplitl [HSu]; · iexact HSu
    iexact HG0
  iintro ⟨H0, HSg, HSu, HG0⟩
  dsimp only
  iapply wp_seq
  iapply (part26_spec c r q a (e := ids 0)) $$ [HU0 HG1 HU1 HG2 HU2]
  · isplitl [HU0]; · iexact HU0
    isplitl [HG1]; · iexact HG1
    isplitl [HU1]; · iexact HU1
    isplitl [HG2]; · iexact HG2
    iexact HU2
  iintro ⟨HU0, HG1, HU1, HG2, HU2⟩
  iapply wp_seq
  iapply (part27_spec c r q a (e := ids 0)) $$ [HSd HD0 HD1 HD2]
  · isplitl [HSd]; · iexact HSd
    isplitl [HD0]; · iexact HD0
    isplitl [HD1]; · iexact HD1
    iexact HD2
  iintro ⟨HSd, HD0, HD1, HD2⟩
  iapply wp_seq
  iapply (part28_spec c r q a (e := ids 0) h0) $$ [H0 HD3 H15 H16 H23 H24 H31 H29 H30]
  · isplitl [H0]; · iexact H0
    isplitl [HD3]; · iexact HD3
    isplitl [H15]; · iexact H15
    isplitl [H16]; · iexact H16
    isplitl [H23]; · iexact H23
    isplitl [H24]; · iexact H24
    isplitl [H31]; · iexact H31
    isplitl [H29]; · iexact H29
    iexact H30
  iintro ⟨H0, HD3, H15, ⟨%X16, %hX, H16⟩, H23, H24, H31, H29, H30⟩
  dsimp only
  iapply wp_seq
  iapply (part29_spec c r) $$ [H1 H11 H12 H23 H30]
  · isplitl [H1]; · iexact H1
    isplitl [H11]; · iexact H11
    isplitl [H12]; · iexact H12
    isplitl [H23]; · iexact H23
    iexact H30
  iintro ⟨H1, H11, H12, ⟨%X, %hXd, H23⟩, H30⟩
  dsimp only
  iapply wp_seq
  iapply (part30_spec c r h0) $$ [H0 H2 H3 H26 H27 H28]
  · isplitl [H0]; · iexact H0
    isplitl [H2]; · iexact H2
    isplitl [H3]; · iexact H3
    isplitl [H26]; · iexact H26
    isplitl [H27]; · iexact H27
    iexact H28
  iintro %_ ⟨H0, H2, H3, ⟨%X26, %hs, H26⟩, H27, H28⟩
  iapply wp_seq
  iapply (part31_spec c r) $$ [H2 H3 H27 H28]
  · isplitl [H2]; · iexact H2
    isplitl [H3]; · iexact H3
    isplitl [H27]; · iexact H27
    iexact H28
  iintro %_ ⟨H2, H3, H27, H28⟩
  ihave H24 := (any_of c) $$ H24
  ihave H31 := (any_of c) $$ H31
  iapply wp_seq
  iapply (part32_spec c r q a (n_lt ids) rfl hn hX X hs) $$ [H2 H3 H10 H16 HSg HSu HG0 HG1 HG2 HU0 HU1 HU2 HSd HD0 HD1 HD2 HD3 HGb HDb H23 H24 H25 H26 H27 H28 H29 H30 H31 HW]
  · isplitl [H2]; · iexact H2
    isplitl [H3]; · iexact H3
    isplitl [H10]; · iexact H10
    iapply (Entails.of_eq (mainI_eq c r q a (scanL ids 48) X16 X X26 ids 0).symm)
    rw [hfirst]
    isplitl [H16]; · iexact H16
    isplitl [HSg HSu HG0 HG1 HG2 HU0 HU1 HU2]
    · iapply (Entails.of_eq (gu_eq c r q a 0 (.fly (ids 0))).symm)
      isplitl [HSg]; · iexact HSg
      isplitl [HSu]; · iexact HSu
      isplitl [HG0 HG1 HG2]
      · isplitl [HG0]; · iexact HG0
        isplitl [HG1]; · iexact HG1
        iexact HG2
      isplitl [HU0]; · iexact HU0
      isplitl [HU1]; · iexact HU1
      iexact HU2
    isplitl [HSd HD0 HD1 HD2 HD3]
    · iapply (Entails.of_eq (dn_eq c r q a 0 (.fly (ids 0))).symm)
      isplitl [HSd]; · iexact HSd
      isplitl [HD0]; · iexact HD0
      isplitl [HD1]; · iexact HD1
      isplitl [HD2]; · iexact HD2
      iexact HD3
    isplitl [HGb]; · iexact HGb
    isplitl [HDb]; · iexact HDb
    isplitl [H23]; · iexact H23
    isplitl [H24]; · iexact H24
    isplitl [H25]; · iexact H25
    isplitl [H26]; · iexact H26
    isplitl [H27]; · iexact H27
    isplitl [H28]; · iexact H28
    isplitl [H29]
    · iexists _; isplitr
      rotate_left
      · iexact H29
      · ipureintro; intro p j h; exact absurd h (by simp)
    isplitl [H30]
    · iexists _; isplitr
      rotate_left
      · iexact H30
      · ipureintro; intro p j h; exact absurd h (by simp)
    isplitl [H31]; · iexact H31
    iexact HW
  iintro %Z %Y ⟨%hZY, H2, H3, H10, HM⟩
  obtain ⟨hZ, hY⟩ := hZY
  unfold mainO
  icases HM with ⟨H16, HA, HB, HC, HE, H23, H24, H25, H26, H27, H28, H29, H30, H31, HW⟩
  ihave H16 := (any_of c) $$ H16
  iapply wp_seq
  iapply (part33_spec c r hZ hY) $$ [H13 H14 H29 H30]
  · isplitl [H13]; · iexact H13
    isplitl [H14]; · iexact H14
    isplitl [H29]; · iexact H29
    iexact H30
  iintro ⟨⟨%Y13, %h13, H13⟩, ⟨%Y14, %h14, H14⟩, H29, H30⟩
  generalize hV : (fun e => hq (hid a e X)) = V at *
  generalize hS : (fun e => hAcc lanes (hid a e X) 12) = S at *
  iapply (wp_load' (Finset.subset_univ _)) $$ H13; iintro H13
  iapply (wp_store' (Finset.subset_univ _)) $$ H13; iintro H13
  generalize hG : Rect.overlay _ _ _ = G
  replace h13 : HCoded ids V 4 G := by
    rw [← hG]; exact hcoded_step hZ 3 rfl h13 rfl rfl
  clear hG; rename' G => Y13
  iapply (at_cut c rfl) $$ H30; iintro H30
  iapply (wp_load' (Finset.subset_univ _)) $$ H14; iintro H14
  iapply (wp_store' (Finset.subset_univ _)) $$ H14; iintro H14
  generalize hG : Rect.overlay _ _ _ = G
  replace h14 : HScaled ids S 4 G := by
    rw [← hG]; exact hscaled_step hY 3 rfl h14 rfl rfl
  clear hG; rename' G => Y14
  iapply (at_cut c rfl) $$ H29; iintro H29
  iapply (wp_load' (Finset.subset_univ _)) $$ H13; iintro H13
  iapply (wp_store' (Finset.subset_univ _)) $$ H13; iintro H13
  generalize hG : Rect.overlay _ _ _ = G
  replace h13 : HCoded ids V 5 G := by
    rw [← hG]; exact hcoded_step hZ 4 rfl h13 rfl rfl
  clear hG; rename' G => Y13
  iapply (at_cut c rfl) $$ H30; iintro H30
  iapply (wp_load' (Finset.subset_univ _)) $$ H14; iintro H14
  iapply (wp_store' (Finset.subset_univ _)) $$ H14; iintro H14
  generalize hG : Rect.overlay _ _ _ = G
  replace h14 : HScaled ids S 5 G := by
    rw [← hG]; exact hscaled_step hY 4 rfl h14 rfl rfl
  clear hG; rename' G => Y14
  iapply (at_cut c rfl) $$ H29; iintro H29
  iapply (wp_load' (Finset.subset_univ _)) $$ H13; iintro H13
  iapply (wp_store' (Finset.subset_univ _)) $$ H13; iintro H13
  generalize hG : Rect.overlay _ _ _ = G
  replace h13 : HCoded ids V 6 G := by
    rw [← hG]; exact hcoded_step hZ 5 rfl h13 rfl rfl
  clear hG; rename' G => Y13
  subst hV hS
  iapply wp_pure'
  iapply Hk
  ihave HR := (both_slots c r q a (scanL ids 48).length) $$ [HA HB HC HE]
  · isplitl [HA]; · iexact HA
    isplitl [HB]; · iexact HB
    isplitl [HC]; · iexact HC
    iexact HE
  icases HR with ⟨HA, HB, HC, HE⟩
  ihave H23 := (any_of c) $$ H23
  ihave H26 := (any_of c) $$ H26
  ihave H29 := (any_of c) $$ H29
  isplitr [H11 H12 H13 H14 H30]
  · isplitl [H0]; · iexact H0
    isplitl [H1]; · iexact H1
    isplitl [H2]; · iexact H2
    isplitl [H3]; · iexact H3
    isplitl [H10]; · iexact H10
    isplitl [H15]; · iexact H15
    isplitl [H16]; · iexact H16
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H31]; · iexact H31
    isplitl [HA]; · iexact HA
    isplitl [HB]; · iexact HB
    isplitl [HC]; · iexact HC
    isplitl [HE]; · iexact HE
    iexact HW
  isplitl [H11]; · iexact H11
  isplitl [H12]; · iexact H12
  iexists X; isplitr
  · ipureintro; exact hXd
  isplitl [H30]
  · iexists Y; isplitr
    · ipureintro; exact hY
    iexact H30
  isplitl [H13]
  · iexists Y13; isplitr
    · ipureintro; exact h13
    iexact H13
  iexists Y14; isplitr
  · ipureintro; exact h14
  iexact H14

/-- The kernel: its copies' cells end at rest, its operands as they were, and its results but the first are the codes and
    scales of the activations and of the hidden layer. -/
theorem moe_spec {ids : ℕ → Fin 47} {X0 : S6x1x8.Idx → Elt F .i32} (h0 : IdsAre ids X0) {X1 : S6x4096.Idx → Elt F .bf16} {X2 : S6x1x8.Idx → Elt F .i32} {X3 : S6x1x8.Idx → Elt F .f32} {Q : PUnit → sProp 𝕄} :
    iprop(others c r q a X0 X1 X2 X3 ∗ any (F := F) c r.a30 ∗ any (F := F) c r.a11 ∗ any (F := F) c r.a12 ∗ any (F := F) c r.a13 ∗ any (F := F) c r.a14) ⊢
      iprop((iprop(others c r q a X0 X1 X2 X3 ∗ any (F := F) c r.a30 ∗ (∃ Y, ⌜Coded X1 32 Y⌝ ∗ at_ c r.a11 Y) ∗ (∃ Y, ⌜Scaled X1 Y⌝ ∗ at_ c r.a12 Y) ∗
        (∃ X, ⌜Deqd X1 32 X⌝ ∗ (∃ G, ⌜HCoded ids (fun e => hq (hid a e X)) 6 G⌝ ∗ at_ c r.a13 G) ∗ (∃ G, ⌜HScaled ids (fun e => hAcc lanes (hid a e X) 12) 6 G⌝ ∗ at_ c r.a14 G))) -∗ Q ⟨⟩) -∗
        wpc c (cc0_moe (F := F)  r.a0 r.h0 r.a1 r.h1 r.a2 r.h2 r.a3 r.h3 r.a4 r.h4 r.a5 r.h5 r.a6 r.h6 r.a7 r.h7 r.a8 r.h8 r.a9 r.h9 r.a10 r.h10 r.a11 r.h11 r.a12 r.h12 r.a13 r.h13 r.a14 r.h14 r.a15 r.h15 r.a16 r.h16 r.a17 r.h17 r.a18 r.h18 r.a19 r.h19 r.a20 r.h20 r.a21 r.h21 r.a22 r.h22 r.a23 r.h23 r.a24 r.h24 r.a25 r.h25 r.a26 r.h26 r.a27 r.h27 r.a28 r.h28 r.a29 r.h29 r.a30 r.h30 r.a31 r.h31 r.a32 r.a33 r.a34 r.a35) Q) := by
  rw [cc0_moe_eq_skeleton]; unfold cc0_moe_skel
  iintro H Hk
  iapply wp_seq
  iapply (part34_spec c r q a h0) $$ H
  unfold others
  iintro ⟨⟨H0, H1, H2, H3, H10, H15, H16, H23, H24, H25, H26, H27, H28, H29, H31, HGa, HGb, HDa, HDb, HW⟩, H11, H12, ⟨%X, %hXd, ⟨%Y, %hY, H30⟩, ⟨%Y13, %h13, H13⟩, ⟨%Y14, %h14, H14⟩⟩⟩
  generalize hV : (fun e => hq (hid a e X)) = V at *
  generalize hS : (fun e => hAcc lanes (hid a e X) 12) = S at *
  iapply (at_cut c rfl) $$ H30; iintro H30
  iapply (wp_load' (Finset.subset_univ _)) $$ H14; iintro H14
  iapply (wp_store' (Finset.subset_univ _)) $$ H14; iintro H14
  generalize hG : Rect.overlay _ _ _ = G
  replace h14 : HScaled ids S 6 G := by
    rw [← hG]; exact hscaled_step hY 5 rfl h14 rfl rfl
  clear hG; rename' G => Y14
  subst hV hS
  iapply wp_pure'
  iapply Hk
  ihave H30 := (any_of c) $$ H30
  isplitr [H11 H12 H13 H14 H30]
  · isplitl [H0]; · iexact H0
    isplitl [H1]; · iexact H1
    isplitl [H2]; · iexact H2
    isplitl [H3]; · iexact H3
    isplitl [H10]; · iexact H10
    isplitl [H15]; · iexact H15
    isplitl [H16]; · iexact H16
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H31]; · iexact H31
    isplitl [HGa]; · iexact HGa
    isplitl [HGb]; · iexact HGb
    isplitl [HDa]; · iexact HDa
    isplitl [HDb]; · iexact HDb
    iexact HW
  isplitl [H30]; · iexact H30
  isplitl [H11]; · iexact H11
  isplitl [H12]; · iexact H12
  iexists X; isplitr
  · ipureintro; exact hXd
  isplitl [H13]
  · iexists Y13; isplitr
    · ipureintro; exact h13
    iexact H13
  iexists Y14; isplitr
  · ipureintro; exact h14
  iexact H14

end Cert.KernelIdeal.Hand
-- ==== Proof.Cover.lean ====
/-
  The cells of all copies, made of whole buffers, whole arrays and semaphores at zero, and turned back into them. An array that
  several copies read is dealt out by halving its share.
-/
module

public import proofs.«01_k».proof.Proof.Begin

@[expose] public section

noncomputable section

namespace Cert.Held

open Idealize.ShloMosaic Idealize.ShloMosaic.Transfers
open Idealize.SL Idealize.SL.RA Idealize.SL.Sem Idealize.SL.ProofMode
open Idealize.SL.BI (sProp)
open scoped Idealize.SL.BI
open Idealize.SL.BI.BIBase Idealize.SL.BI.Laws

variable {nD : Nat} {τ : Topo} {sig : RefSig} {Ix : Type} [DecidableEq Ix] {Val : EltTy → Type} {Name : Type} [DecidableEq Name]
variable {U : Type} [URA U] {Lvl : Type}
local notation "𝕄" => MT nD τ sig Ix Val Name U Lvl

variable {c : Thread nD τ} {sp : Space} {s : Shape} {e : EltTy} {m : Memref sig c.2.kind sp s e} {q : PosShare TreeShare} {R S : Finset s.Idx} {X : s.Idx → Val e}

/-- A read share is its two halves. -/
theorem held_halve : (held c m q R X : sProp 𝕄) ⊢ iprop(held c m q.left R X ∗ held c m q.right R X) := by
  unfold held
  iintro ⟨%f, %hf, H⟩
  ihave H' := (pointsTo_share (PosShare.mem_left_op_right q)).1 $$ H
  icases H' with ⟨H1, H2⟩
  isplitl [H1]
  · iexists f; isplitr
    · ipureintro; exact hf
    iexact H1
  · iexists f; isplitr
    · ipureintro; exact hf
    iexact H2

/-- And back: both halves read `X`, so they hold the same. -/
theorem held_unhalve : iprop(held c m q.left R X ∗ held c m q.right R X) ⊢ (held c m q R X : sProp 𝕄) := by
  unfold held
  iintro ⟨⟨%f, %hf, H1⟩, ⟨%g, %hg, H2⟩⟩
  iexists f; isplitr
  · ipureintro; exact hf
  have e : (m.view.loc c ↦[m.view.setOn R]{q.right} g : sProp 𝕄) = (m.view.loc c ↦[m.view.setOn R]{q.right} f) := by
    apply pointsTo_congr
    intro i hi
    obtain ⟨x, hx, rfl⟩ := Finset.mem_map.mp hi
    have h := (hg x hx).trans (hf x hx).symm
    rw [View.read_apply, View.read_apply] at h
    exact (cast_inj _).mp h
  ihave H2 := (Entails.of_eq e) $$ H2
  iapply (pointsTo_share (PosShare.mem_left_op_right q)).2
  isplitl [H1]; · iexact H1
  iexact H2

variable (c) in
/-- The elements under `R` at contents not named. -/
def anyOn (m : Memref sig c.2.kind sp s e) (R : Finset s.Idx) : sProp 𝕄 := iprop(∃ X, held c m fullShare R X)

theorem anyOn_split {T : Finset s.Idx} (h : Disjoint S R) (hT : T = S ∪ R) : (anyOn c m T : sProp 𝕄) ⊢ iprop(anyOn c m S ∗ anyOn c m R) := by
  classical
  subst hT
  unfold anyOn
  iintro ⟨%X, H⟩
  ihave H := (held_split (S := S) Finset.subset_union_left) $$ H
  icases H with ⟨H1, H2⟩
  isplitl [H1]; · iexists X; iexact H1
  iexists X
  have e : (S ∪ R) \ S = R := by rw [Finset.union_sdiff_left]; exact Finset.sdiff_eq_self_of_disjoint h.symm
  ihave H2 := (Entails.of_eq (congrArg (fun T => held c m fullShare T X) e)) $$ H2
  iexact H2

theorem anyOn_join {T : Finset s.Idx} (h : Disjoint S R) (hT : T = S ∪ R) : iprop(anyOn c m S ∗ anyOn c m R) ⊢ (anyOn c m T : sProp 𝕄) := by
  classical
  subst hT
  unfold anyOn
  iintro ⟨⟨%X, H1⟩, ⟨%Y, H2⟩⟩
  iexists S.piecewise X Y
  iapply (held_join h)
  isplitl [H1]; · iexact H1
  iexact H2

section Rows

variable {n1 n2 : ℕ} {m : Memref sig c.2.kind sp ⟨3, ![2, n1, n2]⟩ e}

theorem slots_disjoint : Disjoint (rows (n0 := 2) (n1 := n1) (n2 := n2) 0 0 n1) (rows 1 0 n1) := by
  rw [Finset.disjoint_left]; intro x h h'
  simp only [rows, Finset.mem_filter] at h h'
  have a := h.2.1; have b := h'.2.1
  rw [a] at b; exact absurd b (by decide)

theorem slots_cover : (Finset.univ : Finset (⟨3, ![2, n1, n2]⟩ : Shape).Idx) = rows 0 0 n1 ∪ rows 1 0 n1 := by
  ext x
  simp only [rows, Finset.mem_union, Finset.mem_filter, Finset.mem_univ, true_and, Nat.zero_le, Nat.zero_add, true_iff]
  have h0 : (x 0).val < 2 := (x 0).isLt
  have h1 : (x 1).val < n1 := (x 1).isLt
  have e0 : ((0 : Fin 2) : ℕ) = 0 := rfl
  have e1 : ((1 : Fin 2) : ℕ) = 1 := rfl
  rw [e0, e1]; omega

theorem rows_disjoint {t : Fin 2} {lo l l' : ℕ} : Disjoint (rows (n0 := 2) (n1 := n1) (n2 := n2) t lo l) (rows t (lo + l) l') := by
  rw [Finset.disjoint_left]; intro x h h'
  simp only [rows, Finset.mem_filter] at h h'
  have a := h.2.2.2; have b := h'.2.2.1
  omega

theorem rows_cover {t : Fin 2} {lo l l' : ℕ} : rows (n0 := 2) (n1 := n1) (n2 := n2) t lo (l + l') = rows t lo l ∪ rows t (lo + l) l' := by
  ext x
  simp only [rows, Finset.mem_union, Finset.mem_filter, Finset.mem_univ, true_and]
  constructor <;> intro h <;> omega

end Rows

end Cert.Held

namespace Cert.KernelIdeal.Hand

open Cert.KernelIdeal Cert.KernelIdeal.Gen Cert.Held
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (Pipeline.UD sig nD τ) ℕ

/-- A slot's half of an array; -/
def half (s : Fin 2) : PosShare TreeShare := ![fullShare.left, fullShare.right] s

/-- and the part of it each of the slot's copies reads. -/
def parts (s : Fin 2) : Fin 13 → PosShare TreeShare :=
  ![half s, half s, half s, (half s).left, (half s).right.left, (half s).right.right, (half s).left, (half s).right.left, (half s).right.right,
    (half s).left.left, (half s).left.right, (half s).right.left, (half s).right.right]

variable (c : Dev nD) (r : Refs) (a : Arrs F)

section Cells

variable {sp sp' : Space} {e : EltTy} {n1 n2 : ℕ} {dst : Memref sig .tc sp' ⟨3, ![2, n1, n2]⟩ e} {src : Memref sig .tc sp ⟨3, ![47, n1, n2]⟩ e}
  {A : (⟨3, ![47, n1, n2]⟩ : Shape).Idx → Elt F e} {s : Fin 2} {p : PosShare TreeShare}

/-- A semaphore at zero. -/
abbrev zero (σ : DmaSem sig) : sProp 𝕄 := semVal ((c : Thread nD τ), .dma σ) 0

theorem cell_eq {lo l : ℕ} {σ : DmaSem sig} : (cell (F := F) c rfl dst s lo l src p A σ .rest : sProp 𝕄) =
    iprop(anyOn (c : Thread nD τ) dst (rows s lo l) ∗ held (c : Thread nD τ) src p Finset.univ A ∗ zero c σ) := rfl

theorem one_in {σ : DmaSem sig} : iprop(anyOn (c : Thread nD τ) dst (rows s 0 n1) ∗ held (c : Thread nD τ) src p Finset.univ A ∗ zero c σ) ⊢
    (cell (F := F) c rfl dst s 0 n1 src p A σ .rest : sProp 𝕄) := .rfl

theorem one_out {σ : DmaSem sig} : (cell (F := F) c rfl dst s 0 n1 src p A σ .rest : sProp 𝕄) ⊢
    iprop(anyOn (c : Thread nD τ) dst (rows s 0 n1) ∗ held (c : Thread nD τ) src p Finset.univ A ∗ zero c σ) := .rfl

theorem three_in {l : ℕ} (hl : n1 = l + (l + l)) {σ0 σ1 σ2 : DmaSem sig} :
    iprop(anyOn (c : Thread nD τ) dst (rows s 0 n1) ∗ held (c : Thread nD τ) src p Finset.univ A ∗ zero c σ0 ∗ zero c σ1 ∗ zero c σ2) ⊢
      (iprop(cell (F := F) c rfl dst s 0 l src p.left A σ0 .rest ∗ cell (F := F) c rfl dst s (0 + l) l src p.right.left A σ1 .rest
        ∗ cell (F := F) c rfl dst s (0 + l + l) l src p.right.right A σ2 .rest) : sProp 𝕄) := by
  subst hl
  iintro ⟨HD, HS, H0, H1, H2⟩
  ihave HD := (anyOn_split rows_disjoint rows_cover) $$ HD
  icases HD with ⟨D0, HD⟩
  ihave HD := (anyOn_split rows_disjoint rows_cover) $$ HD
  icases HD with ⟨D1, D2⟩
  ihave HS := held_halve $$ HS
  icases HS with ⟨S0, HS⟩
  ihave HS := held_halve $$ HS
  icases HS with ⟨S1, S2⟩
  simp only [cell_eq]
  isplitl [D0 S0 H0]
  · isplitl [D0]; · iexact D0
    isplitl [S0]; · iexact S0
    iexact H0
  isplitl [D1 S1 H1]
  · isplitl [D1]; · iexact D1
    isplitl [S1]; · iexact S1
    iexact H1
  isplitl [D2]; · iexact D2
  isplitl [S2]; · iexact S2
  iexact H2

theorem three_out {l : ℕ} (hl : n1 = l + (l + l)) {σ0 σ1 σ2 : DmaSem sig} :
    (iprop(cell (F := F) c rfl dst s 0 l src p.left A σ0 .rest ∗ cell (F := F) c rfl dst s (0 + l) l src p.right.left A σ1 .rest
        ∗ cell (F := F) c rfl dst s (0 + l + l) l src p.right.right A σ2 .rest) : sProp 𝕄) ⊢
      iprop(anyOn (c : Thread nD τ) dst (rows s 0 n1) ∗ held (c : Thread nD τ) src p Finset.univ A ∗ zero c σ0 ∗ zero c σ1 ∗ zero c σ2) := by
  subst hl
  simp only [cell_eq]
  iintro ⟨⟨D0, S0, H0⟩, ⟨D1, S1, H1⟩, ⟨D2, S2, H2⟩⟩
  isplitl [D0 D1 D2]
  · iapply (anyOn_join rows_disjoint rows_cover)
    isplitl [D0]; · iexact D0
    iapply (anyOn_join rows_disjoint rows_cover)
    isplitl [D1]; · iexact D1
    iexact D2
  isplitl [S0 S1 S2]
  · iapply held_unhalve
    isplitl [S0]; · iexact S0
    iapply held_unhalve
    isplitl [S1]; · iexact S1
    iexact S2
  isplitl [H0]; · iexact H0
  isplitl [H1]; · iexact H1
  iexact H2

theorem four_in {l : ℕ} (hl : n1 = l + (l + (l + l))) {σ0 σ1 σ2 σ3 : DmaSem sig} :
    iprop(anyOn (c : Thread nD τ) dst (rows s 0 n1) ∗ held (c : Thread nD τ) src p Finset.univ A ∗ zero c σ0 ∗ zero c σ1 ∗ zero c σ2 ∗ zero c σ3) ⊢
      (iprop(cell (F := F) c rfl dst s 0 l src p.left.left A σ0 .rest ∗ cell (F := F) c rfl dst s (0 + l) l src p.left.right A σ1 .rest
        ∗ cell (F := F) c rfl dst s (0 + l + l) l src p.right.left A σ2 .rest ∗ cell (F := F) c rfl dst s (0 + l + l + l) l src p.right.right A σ3 .rest) : sProp 𝕄) := by
  subst hl
  iintro ⟨HD, HS, H0, H1, H2, H3⟩
  ihave HD := (anyOn_split rows_disjoint rows_cover) $$ HD
  icases HD with ⟨D0, HD⟩
  ihave HD := (anyOn_split rows_disjoint rows_cover) $$ HD
  icases HD with ⟨D1, HD⟩
  ihave HD := (anyOn_split rows_disjoint rows_cover) $$ HD
  icases HD with ⟨D2, D3⟩
  ihave HS := held_halve $$ HS
  icases HS with ⟨HS, HT⟩
  ihave HS := held_halve $$ HS
  icases HS with ⟨S0, S1⟩
  ihave HT := held_halve $$ HT
  icases HT with ⟨S2, S3⟩
  simp only [cell_eq]
  isplitl [D0 S0 H0]
  · isplitl [D0]; · iexact D0
    isplitl [S0]; · iexact S0
    iexact H0
  isplitl [D1 S1 H1]
  · isplitl [D1]; · iexact D1
    isplitl [S1]; · iexact S1
    iexact H1
  isplitl [D2 S2 H2]
  · isplitl [D2]; · iexact D2
    isplitl [S2]; · iexact S2
    iexact H2
  isplitl [D3]; · iexact D3
  isplitl [S3]; · iexact S3
  iexact H3

theorem four_out {l : ℕ} (hl : n1 = l + (l + (l + l))) {σ0 σ1 σ2 σ3 : DmaSem sig} :
    (iprop(cell (F := F) c rfl dst s 0 l src p.left.left A σ0 .rest ∗ cell (F := F) c rfl dst s (0 + l) l src p.left.right A σ1 .rest
        ∗ cell (F := F) c rfl dst s (0 + l + l) l src p.right.left A σ2 .rest ∗ cell (F := F) c rfl dst s (0 + l + l + l) l src p.right.right A σ3 .rest) : sProp 𝕄) ⊢
      iprop(anyOn (c : Thread nD τ) dst (rows s 0 n1) ∗ held (c : Thread nD τ) src p Finset.univ A ∗ zero c σ0 ∗ zero c σ1 ∗ zero c σ2 ∗ zero c σ3) := by
  subst hl
  simp only [cell_eq]
  iintro ⟨⟨D0, S0, H0⟩, ⟨D1, S1, H1⟩, ⟨D2, S2, H2⟩, ⟨D3, S3, H3⟩⟩
  isplitl [D0 D1 D2 D3]
  · iapply (anyOn_join rows_disjoint rows_cover)
    isplitl [D0]; · iexact D0
    iapply (anyOn_join rows_disjoint rows_cover)
    isplitl [D1]; · iexact D1
    iapply (anyOn_join rows_disjoint rows_cover)
    isplitl [D2]; · iexact D2
    iexact D3
  isplitl [S0 S1 S2 S3]
  · iapply held_unhalve
    isplitl [S0 S1]
    · iapply held_unhalve
      isplitl [S0]; · iexact S0
      iexact S1
    iapply held_unhalve
    isplitl [S2]; · iexact S2
    iexact S3
  isplitl [H0]; · iexact H0
  isplitl [H1]; · iexact H1
  isplitl [H2]; · iexact H2
  iexact H3

/-- A whole buffer of two slots and a whole array are each slot's rows and each slot's half. -/
theorem slots_in : iprop(any (F := F) c dst ∗ held (c : Thread nD τ) src fullShare Finset.univ A) ⊢
    (iprop((anyOn (c : Thread nD τ) dst (rows 0 0 n1) ∗ held (c : Thread nD τ) src (half 0) Finset.univ A)
      ∗ (anyOn (c : Thread nD τ) dst (rows 1 0 n1) ∗ held (c : Thread nD τ) src (half 1) Finset.univ A)) : sProp 𝕄) := by
  iintro ⟨HD, HS⟩
  ihave HD := (show any (F := F) c dst ⊢ iprop(anyOn (c : Thread nD τ) dst (rows 0 0 n1) ∗ anyOn (c : Thread nD τ) dst (rows 1 0 n1)) from
    anyOn_split slots_disjoint slots_cover) $$ HD
  icases HD with ⟨D0, D1⟩
  ihave HS := held_halve $$ HS
  icases HS with ⟨S0, S1⟩
  isplitl [D0 S0]
  · isplitl [D0]; · iexact D0
    iexact S0
  isplitl [D1]; · iexact D1
  iexact S1

theorem slots_out : iprop((anyOn (c : Thread nD τ) dst (rows 0 0 n1) ∗ held (c : Thread nD τ) src (half 0) Finset.univ A)
      ∗ (anyOn (c : Thread nD τ) dst (rows 1 0 n1) ∗ held (c : Thread nD τ) src (half 1) Finset.univ A)) ⊢
    (iprop(any (F := F) c dst ∗ held (c : Thread nD τ) src fullShare Finset.univ A) : sProp 𝕄) := by
  iintro ⟨⟨D0, S0⟩, ⟨D1, S1⟩⟩
  isplitl [D0 D1]
  · iapply (show iprop(anyOn (c : Thread nD τ) dst (rows 0 0 n1) ∗ anyOn (c : Thread nD τ) dst (rows 1 0 n1)) ⊢ any (F := F) c dst from
      anyOn_join slots_disjoint slots_cover)
    isplitl [D0]; · iexact D0
    iexact D1
  iapply held_unhalve
  isplitl [S0]; · iexact S0
  iexact S1

end Cells

/-- The copies' semaphores at zero, array by array. -/
def sems : sProp 𝕄 := iprop(zero c (semAt r.a32 0 0) ∗ zero c (semAt r.a32 0 1) ∗ zero c (semAt r.a32 0 2) ∗ zero c (semAt r.a32 1 0) ∗ zero c (semAt r.a32 1 1) ∗ zero c (semAt r.a32 1 2) ∗ zero c (semAt r.a33 0 0) ∗ zero c (semAt r.a33 0 1) ∗ zero c (semAt r.a33 0 2) ∗ zero c (semAt r.a33 1 0) ∗ zero c (semAt r.a33 1 1) ∗ zero c (semAt r.a33 1 2) ∗ zero c (semAt r.a34 0 0) ∗ zero c (semAt r.a34 0 1) ∗ zero c (semAt r.a34 0 2) ∗ zero c (semAt r.a34 0 3) ∗ zero c (semAt r.a34 1 0) ∗ zero c (semAt r.a34 1 1) ∗ zero c (semAt r.a34 1 2) ∗ zero c (semAt r.a34 1 3) ∗ zero c (semAt r.a35 0 0) ∗ zero c (semAt r.a35 0 1) ∗ zero c (semAt r.a35 0 2) ∗ zero c (semAt r.a35 1 0) ∗ zero c (semAt r.a35 1 1) ∗ zero c (semAt r.a35 1 2))

/-- The buffers the copies land in. -/
def lands : sProp 𝕄 := iprop(any (F := F) c r.a17 ∗ any (F := F) c r.a18 ∗ any (F := F) c r.a19 ∗ any (F := F) c r.a20 ∗ any (F := F) c r.a21 ∗ any (F := F) c r.a22)

/-- The arrays the copies read. -/
def reads : sProp 𝕄 := iprop(at_ c r.a4 a.A4 ∗ at_ c r.a5 a.A5 ∗ at_ c r.a6 a.A6 ∗ at_ c r.a7 a.A7 ∗ at_ c r.a8 a.A8 ∗ at_ c r.a9 a.A9)

theorem cells_in : iprop(lands (F := F) c r ∗ reads c r a ∗ sems (F := F) c r) ⊢
    (iprop(guSt c r parts a 0 .rest ∗ guSt c r parts a 1 .rest ∗ dnSt c r parts a 0 .rest ∗ dnSt c r parts a 1 .rest) : sProp 𝕄) := by
  unfold lands reads sems guSt dnSt
  iintro ⟨⟨D17, D18, D19, D20, D21, D22⟩, ⟨R4, R5, R6, R7, R8, R9⟩, Z3200, Z3201, Z3202, Z3210, Z3211, Z3212, Z3300, Z3301, Z3302, Z3310, Z3311, Z3312, Z3400, Z3401, Z3402, Z3403, Z3410, Z3411, Z3412, Z3413, Z3500, Z3501, Z3502, Z3510, Z3511, Z3512⟩
  ihave L := (slots_in c (dst := r.a17) (src := r.a4) (A := a.A4)) $$ [D17 R4]
  · isplitl [D17]; · iexact D17
    iexact R4
  icases L with ⟨⟨P0, Q0⟩, ⟨P1, Q1⟩⟩
  ihave CG0 := (show iprop(anyOn (c : Thread nD τ) r.a17 (rows 0 0 _) ∗ held (c : Thread nD τ) r.a4 (half 0) Finset.univ a.A4 ∗ zero c (semAt r.a32 0 0) ∗ zero c (semAt r.a32 0 1) ∗ zero c (semAt r.a32 0 2)) ⊢ (iprop(cG c r parts a 0 0 .rest ∗ cG c r parts a 0 1 .rest ∗ cG c r parts a 0 2 .rest) : sProp 𝕄) from three_in c (by decide)) $$ [P0 Q0 Z3200 Z3201 Z3202]
  · isplitl [P0]; · iexact P0
    isplitl [Q0]; · iexact Q0
    isplitl [Z3200]; · iexact Z3200
    isplitl [Z3201]; · iexact Z3201
    iexact Z3202
  ihave CG1 := (show iprop(anyOn (c : Thread nD τ) r.a17 (rows 1 0 _) ∗ held (c : Thread nD τ) r.a4 (half 1) Finset.univ a.A4 ∗ zero c (semAt r.a32 1 0) ∗ zero c (semAt r.a32 1 1) ∗ zero c (semAt r.a32 1 2)) ⊢ (iprop(cG c r parts a 1 0 .rest ∗ cG c r parts a 1 1 .rest ∗ cG c r parts a 1 2 .rest) : sProp 𝕄) from three_in c (by decide)) $$ [P1 Q1 Z3210 Z3211 Z3212]
  · isplitl [P1]; · iexact P1
    isplitl [Q1]; · iexact Q1
    isplitl [Z3210]; · iexact Z3210
    isplitl [Z3211]; · iexact Z3211
    iexact Z3212
  ihave L := (slots_in c (dst := r.a18) (src := r.a5) (A := a.A5)) $$ [D18 R5]
  · isplitl [D18]; · iexact D18
    iexact R5
  icases L with ⟨⟨P0, Q0⟩, ⟨P1, Q1⟩⟩
  ihave CSg0 := (show iprop(anyOn (c : Thread nD τ) r.a18 (rows 0 0 _) ∗ held (c : Thread nD τ) r.a5 (half 0) Finset.univ a.A5 ∗ zero c (semAt r.a35 0 0)) ⊢ (iprop(cSg c r parts a 0 .rest) : sProp 𝕄) from one_in c) $$ [P0 Q0 Z3500]
  · isplitl [P0]; · iexact P0
    isplitl [Q0]; · iexact Q0
    iexact Z3500
  ihave CSg1 := (show iprop(anyOn (c : Thread nD τ) r.a18 (rows 1 0 _) ∗ held (c : Thread nD τ) r.a5 (half 1) Finset.univ a.A5 ∗ zero c (semAt r.a35 1 0)) ⊢ (iprop(cSg c r parts a 1 .rest) : sProp 𝕄) from one_in c) $$ [P1 Q1 Z3510]
  · isplitl [P1]; · iexact P1
    isplitl [Q1]; · iexact Q1
    iexact Z3510
  ihave L := (slots_in c (dst := r.a19) (src := r.a6) (A := a.A6)) $$ [D19 R6]
  · isplitl [D19]; · iexact D19
    iexact R6
  icases L with ⟨⟨P0, Q0⟩, ⟨P1, Q1⟩⟩
  ihave CU0 := (show iprop(anyOn (c : Thread nD τ) r.a19 (rows 0 0 _) ∗ held (c : Thread nD τ) r.a6 (half 0) Finset.univ a.A6 ∗ zero c (semAt r.a33 0 0) ∗ zero c (semAt r.a33 0 1) ∗ zero c (semAt r.a33 0 2)) ⊢ (iprop(cU c r parts a 0 0 .rest ∗ cU c r parts a 0 1 .rest ∗ cU c r parts a 0 2 .rest) : sProp 𝕄) from three_in c (by decide)) $$ [P0 Q0 Z3300 Z3301 Z3302]
  · isplitl [P0]; · iexact P0
    isplitl [Q0]; · iexact Q0
    isplitl [Z3300]; · iexact Z3300
    isplitl [Z3301]; · iexact Z3301
    iexact Z3302
  ihave CU1 := (show iprop(anyOn (c : Thread nD τ) r.a19 (rows 1 0 _) ∗ held (c : Thread nD τ) r.a6 (half 1) Finset.univ a.A6 ∗ zero c (semAt r.a33 1 0) ∗ zero c (semAt r.a33 1 1) ∗ zero c (semAt r.a33 1 2)) ⊢ (iprop(cU c r parts a 1 0 .rest ∗ cU c r parts a 1 1 .rest ∗ cU c r parts a 1 2 .rest) : sProp 𝕄) from three_in c (by decide)) $$ [P1 Q1 Z3310 Z3311 Z3312]
  · isplitl [P1]; · iexact P1
    isplitl [Q1]; · iexact Q1
    isplitl [Z3310]; · iexact Z3310
    isplitl [Z3311]; · iexact Z3311
    iexact Z3312
  ihave L := (slots_in c (dst := r.a20) (src := r.a7) (A := a.A7)) $$ [D20 R7]
  · isplitl [D20]; · iexact D20
    iexact R7
  icases L with ⟨⟨P0, Q0⟩, ⟨P1, Q1⟩⟩
  ihave CSu0 := (show iprop(anyOn (c : Thread nD τ) r.a20 (rows 0 0 _) ∗ held (c : Thread nD τ) r.a7 (half 0) Finset.univ a.A7 ∗ zero c (semAt r.a35 0 1)) ⊢ (iprop(cSu c r parts a 0 .rest) : sProp 𝕄) from one_in c) $$ [P0 Q0 Z3501]
  · isplitl [P0]; · iexact P0
    isplitl [Q0]; · iexact Q0
    iexact Z3501
  ihave CSu1 := (show iprop(anyOn (c : Thread nD τ) r.a20 (rows 1 0 _) ∗ held (c : Thread nD τ) r.a7 (half 1) Finset.univ a.A7 ∗ zero c (semAt r.a35 1 1)) ⊢ (iprop(cSu c r parts a 1 .rest) : sProp 𝕄) from one_in c) $$ [P1 Q1 Z3511]
  · isplitl [P1]; · iexact P1
    isplitl [Q1]; · iexact Q1
    iexact Z3511
  ihave L := (slots_in c (dst := r.a21) (src := r.a8) (A := a.A8)) $$ [D21 R8]
  · isplitl [D21]; · iexact D21
    iexact R8
  icases L with ⟨⟨P0, Q0⟩, ⟨P1, Q1⟩⟩
  ihave CD0 := (show iprop(anyOn (c : Thread nD τ) r.a21 (rows 0 0 _) ∗ held (c : Thread nD τ) r.a8 (half 0) Finset.univ a.A8 ∗ zero c (semAt r.a34 0 0) ∗ zero c (semAt r.a34 0 1) ∗ zero c (semAt r.a34 0 2) ∗ zero c (semAt r.a34 0 3)) ⊢ (iprop(cD c r parts a 0 0 .rest ∗ cD c r parts a 0 1 .rest ∗ cD c r parts a 0 2 .rest ∗ cD c r parts a 0 3 .rest) : sProp 𝕄) from four_in c (by decide)) $$ [P0 Q0 Z3400 Z3401 Z3402 Z3403]
  · isplitl [P0]; · iexact P0
    isplitl [Q0]; · iexact Q0
    isplitl [Z3400]; · iexact Z3400
    isplitl [Z3401]; · iexact Z3401
    isplitl [Z3402]; · iexact Z3402
    iexact Z3403
  ihave CD1 := (show iprop(anyOn (c : Thread nD τ) r.a21 (rows 1 0 _) ∗ held (c : Thread nD τ) r.a8 (half 1) Finset.univ a.A8 ∗ zero c (semAt r.a34 1 0) ∗ zero c (semAt r.a34 1 1) ∗ zero c (semAt r.a34 1 2) ∗ zero c (semAt r.a34 1 3)) ⊢ (iprop(cD c r parts a 1 0 .rest ∗ cD c r parts a 1 1 .rest ∗ cD c r parts a 1 2 .rest ∗ cD c r parts a 1 3 .rest) : sProp 𝕄) from four_in c (by decide)) $$ [P1 Q1 Z3410 Z3411 Z3412 Z3413]
  · isplitl [P1]; · iexact P1
    isplitl [Q1]; · iexact Q1
    isplitl [Z3410]; · iexact Z3410
    isplitl [Z3411]; · iexact Z3411
    isplitl [Z3412]; · iexact Z3412
    iexact Z3413
  ihave L := (slots_in c (dst := r.a22) (src := r.a9) (A := a.A9)) $$ [D22 R9]
  · isplitl [D22]; · iexact D22
    iexact R9
  icases L with ⟨⟨P0, Q0⟩, ⟨P1, Q1⟩⟩
  ihave CSd0 := (show iprop(anyOn (c : Thread nD τ) r.a22 (rows 0 0 _) ∗ held (c : Thread nD τ) r.a9 (half 0) Finset.univ a.A9 ∗ zero c (semAt r.a35 0 2)) ⊢ (iprop(cSd c r parts a 0 .rest) : sProp 𝕄) from one_in c) $$ [P0 Q0 Z3502]
  · isplitl [P0]; · iexact P0
    isplitl [Q0]; · iexact Q0
    iexact Z3502
  ihave CSd1 := (show iprop(anyOn (c : Thread nD τ) r.a22 (rows 1 0 _) ∗ held (c : Thread nD τ) r.a9 (half 1) Finset.univ a.A9 ∗ zero c (semAt r.a35 1 2)) ⊢ (iprop(cSd c r parts a 1 .rest) : sProp 𝕄) from one_in c) $$ [P1 Q1 Z3512]
  · isplitl [P1]; · iexact P1
    isplitl [Q1]; · iexact Q1
    iexact Z3512
  isplitl [CSg0 CSu0 CG0 CU0]
  · isplitl [CSg0]; · iexact CSg0
    isplitl [CSu0]; · iexact CSu0
    isplitl [CG0]; · iexact CG0
    iexact CU0
  isplitl [CSg1 CSu1 CG1 CU1]
  · isplitl [CSg1]; · iexact CSg1
    isplitl [CSu1]; · iexact CSu1
    isplitl [CG1]; · iexact CG1
    iexact CU1
  isplitl [CSd0 CD0]
  · isplitl [CSd0]; · iexact CSd0
    iexact CD0
  isplitl [CSd1]; · iexact CSd1
  iexact CD1

theorem cells_out : (iprop(guSt c r parts a 0 .rest ∗ guSt c r parts a 1 .rest ∗ dnSt c r parts a 0 .rest ∗ dnSt c r parts a 1 .rest) : sProp 𝕄) ⊢
    iprop(lands (F := F) c r ∗ reads c r a ∗ sems (F := F) c r) := by
  unfold lands reads sems guSt dnSt
  iintro ⟨⟨CSg0, CSu0, CG0, CU0⟩, ⟨CSg1, CSu1, CG1, CU1⟩, ⟨CSd0, CD0⟩, ⟨CSd1, CD1⟩⟩
  ihave L := (show (iprop(cG c r parts a 0 0 .rest ∗ cG c r parts a 0 1 .rest ∗ cG c r parts a 0 2 .rest) : sProp 𝕄) ⊢ iprop(anyOn (c : Thread nD τ) r.a17 (rows 0 0 _) ∗ held (c : Thread nD τ) r.a4 (half 0) Finset.univ a.A4 ∗ zero c (semAt r.a32 0 0) ∗ zero c (semAt r.a32 0 1) ∗ zero c (semAt r.a32 0 2)) from three_out c (by decide)) $$ CG0
  icases L with ⟨P0, Q0, Z3200, Z3201, Z3202⟩
  ihave L := (show (iprop(cG c r parts a 1 0 .rest ∗ cG c r parts a 1 1 .rest ∗ cG c r parts a 1 2 .rest) : sProp 𝕄) ⊢ iprop(anyOn (c : Thread nD τ) r.a17 (rows 1 0 _) ∗ held (c : Thread nD τ) r.a4 (half 1) Finset.univ a.A4 ∗ zero c (semAt r.a32 1 0) ∗ zero c (semAt r.a32 1 1) ∗ zero c (semAt r.a32 1 2)) from three_out c (by decide)) $$ CG1
  icases L with ⟨P1, Q1, Z3210, Z3211, Z3212⟩
  ihave L := (slots_out c (dst := r.a17) (src := r.a4) (A := a.A4)) $$ [P0 Q0 P1 Q1]
  · isplitl [P0 Q0]
    · isplitl [P0]; · iexact P0
      iexact Q0
    isplitl [P1]; · iexact P1
    iexact Q1
  icases L with ⟨D17, R4⟩
  ihave L := (show (iprop(cSg c r parts a 0 .rest) : sProp 𝕄) ⊢ iprop(anyOn (c : Thread nD τ) r.a18 (rows 0 0 _) ∗ held (c : Thread nD τ) r.a5 (half 0) Finset.univ a.A5 ∗ zero c (semAt r.a35 0 0)) from one_out c) $$ CSg0
  icases L with ⟨P0, Q0, Z3500⟩
  ihave L := (show (iprop(cSg c r parts a 1 .rest) : sProp 𝕄) ⊢ iprop(anyOn (c : Thread nD τ) r.a18 (rows 1 0 _) ∗ held (c : Thread nD τ) r.a5 (half 1) Finset.univ a.A5 ∗ zero c (semAt r.a35 1 0)) from one_out c) $$ CSg1
  icases L with ⟨P1, Q1, Z3510⟩
  ihave L := (slots_out c (dst := r.a18) (src := r.a5) (A := a.A5)) $$ [P0 Q0 P1 Q1]
  · isplitl [P0 Q0]
    · isplitl [P0]; · iexact P0
      iexact Q0
    isplitl [P1]; · iexact P1
    iexact Q1
  icases L with ⟨D18, R5⟩
  ihave L := (show (iprop(cU c r parts a 0 0 .rest ∗ cU c r parts a 0 1 .rest ∗ cU c r parts a 0 2 .rest) : sProp 𝕄) ⊢ iprop(anyOn (c : Thread nD τ) r.a19 (rows 0 0 _) ∗ held (c : Thread nD τ) r.a6 (half 0) Finset.univ a.A6 ∗ zero c (semAt r.a33 0 0) ∗ zero c (semAt r.a33 0 1) ∗ zero c (semAt r.a33 0 2)) from three_out c (by decide)) $$ CU0
  icases L with ⟨P0, Q0, Z3300, Z3301, Z3302⟩
  ihave L := (show (iprop(cU c r parts a 1 0 .rest ∗ cU c r parts a 1 1 .rest ∗ cU c r parts a 1 2 .rest) : sProp 𝕄) ⊢ iprop(anyOn (c : Thread nD τ) r.a19 (rows 1 0 _) ∗ held (c : Thread nD τ) r.a6 (half 1) Finset.univ a.A6 ∗ zero c (semAt r.a33 1 0) ∗ zero c (semAt r.a33 1 1) ∗ zero c (semAt r.a33 1 2)) from three_out c (by decide)) $$ CU1
  icases L with ⟨P1, Q1, Z3310, Z3311, Z3312⟩
  ihave L := (slots_out c (dst := r.a19) (src := r.a6) (A := a.A6)) $$ [P0 Q0 P1 Q1]
  · isplitl [P0 Q0]
    · isplitl [P0]; · iexact P0
      iexact Q0
    isplitl [P1]; · iexact P1
    iexact Q1
  icases L with ⟨D19, R6⟩
  ihave L := (show (iprop(cSu c r parts a 0 .rest) : sProp 𝕄) ⊢ iprop(anyOn (c : Thread nD τ) r.a20 (rows 0 0 _) ∗ held (c : Thread nD τ) r.a7 (half 0) Finset.univ a.A7 ∗ zero c (semAt r.a35 0 1)) from one_out c) $$ CSu0
  icases L with ⟨P0, Q0, Z3501⟩
  ihave L := (show (iprop(cSu c r parts a 1 .rest) : sProp 𝕄) ⊢ iprop(anyOn (c : Thread nD τ) r.a20 (rows 1 0 _) ∗ held (c : Thread nD τ) r.a7 (half 1) Finset.univ a.A7 ∗ zero c (semAt r.a35 1 1)) from one_out c) $$ CSu1
  icases L with ⟨P1, Q1, Z3511⟩
  ihave L := (slots_out c (dst := r.a20) (src := r.a7) (A := a.A7)) $$ [P0 Q0 P1 Q1]
  · isplitl [P0 Q0]
    · isplitl [P0]; · iexact P0
      iexact Q0
    isplitl [P1]; · iexact P1
    iexact Q1
  icases L with ⟨D20, R7⟩
  ihave L := (show (iprop(cD c r parts a 0 0 .rest ∗ cD c r parts a 0 1 .rest ∗ cD c r parts a 0 2 .rest ∗ cD c r parts a 0 3 .rest) : sProp 𝕄) ⊢ iprop(anyOn (c : Thread nD τ) r.a21 (rows 0 0 _) ∗ held (c : Thread nD τ) r.a8 (half 0) Finset.univ a.A8 ∗ zero c (semAt r.a34 0 0) ∗ zero c (semAt r.a34 0 1) ∗ zero c (semAt r.a34 0 2) ∗ zero c (semAt r.a34 0 3)) from four_out c (by decide)) $$ CD0
  icases L with ⟨P0, Q0, Z3400, Z3401, Z3402, Z3403⟩
  ihave L := (show (iprop(cD c r parts a 1 0 .rest ∗ cD c r parts a 1 1 .rest ∗ cD c r parts a 1 2 .rest ∗ cD c r parts a 1 3 .rest) : sProp 𝕄) ⊢ iprop(anyOn (c : Thread nD τ) r.a21 (rows 1 0 _) ∗ held (c : Thread nD τ) r.a8 (half 1) Finset.univ a.A8 ∗ zero c (semAt r.a34 1 0) ∗ zero c (semAt r.a34 1 1) ∗ zero c (semAt r.a34 1 2) ∗ zero c (semAt r.a34 1 3)) from four_out c (by decide)) $$ CD1
  icases L with ⟨P1, Q1, Z3410, Z3411, Z3412, Z3413⟩
  ihave L := (slots_out c (dst := r.a21) (src := r.a8) (A := a.A8)) $$ [P0 Q0 P1 Q1]
  · isplitl [P0 Q0]
    · isplitl [P0]; · iexact P0
      iexact Q0
    isplitl [P1]; · iexact P1
    iexact Q1
  icases L with ⟨D21, R8⟩
  ihave L := (show (iprop(cSd c r parts a 0 .rest) : sProp 𝕄) ⊢ iprop(anyOn (c : Thread nD τ) r.a22 (rows 0 0 _) ∗ held (c : Thread nD τ) r.a9 (half 0) Finset.univ a.A9 ∗ zero c (semAt r.a35 0 2)) from one_out c) $$ CSd0
  icases L with ⟨P0, Q0, Z3502⟩
  ihave L := (show (iprop(cSd c r parts a 1 .rest) : sProp 𝕄) ⊢ iprop(anyOn (c : Thread nD τ) r.a22 (rows 1 0 _) ∗ held (c : Thread nD τ) r.a9 (half 1) Finset.univ a.A9 ∗ zero c (semAt r.a35 1 2)) from one_out c) $$ CSd1
  icases L with ⟨P1, Q1, Z3512⟩
  ihave L := (slots_out c (dst := r.a22) (src := r.a9) (A := a.A9)) $$ [P0 Q0 P1 Q1]
  · isplitl [P0 Q0]
    · isplitl [P0]; · iexact P0
      iexact Q0
    isplitl [P1]; · iexact P1
    iexact Q1
  icases L with ⟨D22, R9⟩
  isplitl [D17 D18 D19 D20 D21 D22]
  · isplitl [D17]; · iexact D17
    isplitl [D18]; · iexact D18
    isplitl [D19]; · iexact D19
    isplitl [D20]; · iexact D20
    isplitl [D21]; · iexact D21
    iexact D22
  isplitl [R4 R5 R6 R7 R8 R9]
  · isplitl [R4]; · iexact R4
    isplitl [R5]; · iexact R5
    isplitl [R6]; · iexact R6
    isplitl [R7]; · iexact R7
    isplitl [R8]; · iexact R8
    iexact R9
  isplitl [Z3200]; · iexact Z3200
  isplitl [Z3201]; · iexact Z3201
  isplitl [Z3202]; · iexact Z3202
  isplitl [Z3210]; · iexact Z3210
  isplitl [Z3211]; · iexact Z3211
  isplitl [Z3212]; · iexact Z3212
  isplitl [Z3300]; · iexact Z3300
  isplitl [Z3301]; · iexact Z3301
  isplitl [Z3302]; · iexact Z3302
  isplitl [Z3310]; · iexact Z3310
  isplitl [Z3311]; · iexact Z3311
  isplitl [Z3312]; · iexact Z3312
  isplitl [Z3400]; · iexact Z3400
  isplitl [Z3401]; · iexact Z3401
  isplitl [Z3402]; · iexact Z3402
  isplitl [Z3403]; · iexact Z3403
  isplitl [Z3410]; · iexact Z3410
  isplitl [Z3411]; · iexact Z3411
  isplitl [Z3412]; · iexact Z3412
  isplitl [Z3413]; · iexact Z3413
  isplitl [Z3500]; · iexact Z3500
  isplitl [Z3501]; · iexact Z3501
  isplitl [Z3502]; · iexact Z3502
  isplitl [Z3510]; · iexact Z3510
  isplitl [Z3511]; · iexact Z3511
  iexact Z3512

end Cert.KernelIdeal.Hand

end
-- ==== Proof.Frame.lean ====
/-
  The launch. The kernel's operands, results and scratch at its one grid point are one `Refs`; what the call hands the body is
  what `moe_spec` asks for, and what that gives back is what the call takes back. So the program runs, its arguments end as they
  began and every semaphore ends at zero.
-/
module

public import proofs.«01_k».proof.Proof.Whole
public import proofs.«01_k».proof.Proof.Cover
public import proofs.«01_k».proof.Proof.Gen.KernelIdeal.Launch
public import proofs.«01_k».proof.Proof.Gen.KernelIdeal.Points
public import proofs.«01_k».proof.Proof.Gen.KernelIdeal.Frame

@[expose] public section

set_option maxRecDepth 16384

noncomputable section

namespace Cert.KernelIdeal.Hand

open Cert.KernelIdeal Cert.KernelIdeal.Gen Cert.Held
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (RDat Cfg Window cellOf)

variable {F : FTy → Type} [FloatOps F]
local notation "𝕄" => MT nD τ sig Unit (Elt F) ℕ (Pipeline.UD sig nD τ) ℕ

variable (m : (ℓ : Loc nD τ sig) → Buf (Elt F) ℓ) (ρ : Dev nD → PrngReg)

theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The kernel's buffers at the grid's point. -/
def refsAt (t : Fin cfg0.N) : Refs where
  a0 := win0_0.stage (cfg0.slots t 0)
  h0 := hstage0_0 0
  a1 := win0_1.stage (cfg0.slots t 1)
  h1 := hstage0_1 0
  a2 := win0_2.stage (cfg0.slots t 2)
  h2 := hstage0_2 0
  a3 := win0_3.stage (cfg0.slots t 3)
  h3 := hstage0_3 0
  a4 := Memref.whole main_arg3
  h4 := Memref.isWhole_whole _
  a5 := Memref.whole main_v0
  h5 := Memref.isWhole_whole _
  a6 := Memref.whole main_arg5
  h6 := Memref.isWhole_whole _
  a7 := Memref.whole main_v1
  h7 := Memref.isWhole_whole _
  a8 := Memref.whole main_arg7
  h8 := Memref.isWhole_whole _
  a9 := Memref.whole main_v2
  h9 := Memref.isWhole_whole _
  a10 := win0_4.stage (cfg0.slots t 4)
  h10 := hstage0_4 0
  a11 := win0_5.stage (cfg0.slots t 5)
  h11 := hstage0_5 0
  a12 := win0_6.stage (cfg0.slots t 6)
  h12 := hstage0_6 0
  a13 := win0_7.stage (cfg0.slots t 7)
  h13 := hstage0_7 0
  a14 := win0_8.stage (cfg0.slots t 8)
  h14 := hstage0_8 0
  a15 := Memref.whole cc0_scratch0
  h15 := Memref.isWhole_whole _
  a16 := Memref.whole cc0_scratch1
  h16 := Memref.isWhole_whole _
  a17 := Memref.whole cc0_scratch2
  h17 := Memref.isWhole_whole _
  a18 := Memref.whole cc0_scratch3
  h18 := Memref.isWhole_whole _
  a19 := Memref.whole cc0_scratch4
  h19 := Memref.isWhole_whole _
  a20 := Memref.whole cc0_scratch5
  h20 := Memref.isWhole_whole _
  a21 := Memref.whole cc0_scratch6
  h21 := Memref.isWhole_whole _
  a22 := Memref.whole cc0_scratch7
  h22 := Memref.isWhole_whole _
  a23 := Memref.whole cc0_scratch8
  h23 := Memref.isWhole_whole _
  a24 := Memref.whole cc0_scratch9
  h24 := Memref.isWhole_whole _
  a25 := Memref.whole cc0_scratch10
  h25 := Memref.isWhole_whole _
  a26 := Memref.whole cc0_scratch11
  h26 := Memref.isWhole_whole _
  a27 := Memref.whole cc0_scratch12
  h27 := Memref.isWhole_whole _
  a28 := Memref.whole cc0_scratch13
  h28 := Memref.isWhole_whole _
  a29 := Memref.whole cc0_scratch14
  h29 := Memref.isWhole_whole _
  a30 := Memref.whole cc0_scratch15
  h30 := Memref.isWhole_whole _
  a31 := Memref.whole cc0_scratch16
  h31 := Memref.isWhole_whole _
  a32 := cc0_scratch17
  a33 := cc0_scratch18
  a34 := cc0_scratch19
  a35 := cc0_scratch20

/-- The copies' semaphores. -/
abbrev osem0 : Fin 26 → SemLoc sig := fun j => (![SemLoc.dma 9, SemLoc.dma 10, SemLoc.dma 11, SemLoc.dma 12, SemLoc.dma 13, SemLoc.dma 14, SemLoc.dma 15, SemLoc.dma 16, SemLoc.dma 17, SemLoc.dma 18, SemLoc.dma 19, SemLoc.dma 20, SemLoc.dma 21, SemLoc.dma 22, SemLoc.dma 23, SemLoc.dma 24, SemLoc.dma 25, SemLoc.dma 26, SemLoc.dma 27, SemLoc.dma 28, SemLoc.dma 29, SemLoc.dma 30, SemLoc.dma 31, SemLoc.dma 32, SemLoc.dma 33, SemLoc.dma 34] : Fin 26 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(zero c (9 : DmaSem sig) ∗ zero c (10 : DmaSem sig) ∗ zero c (11 : DmaSem sig) ∗ zero c (12 : DmaSem sig) ∗ zero c (13 : DmaSem sig) ∗ zero c (14 : DmaSem sig) ∗ zero c (15 : DmaSem sig) ∗ zero c (16 : DmaSem sig) ∗ zero c (17 : DmaSem sig) ∗ zero c (18 : DmaSem sig) ∗ zero c (19 : DmaSem sig) ∗ zero c (20 : DmaSem sig) ∗ zero c (21 : DmaSem sig) ∗ zero c (22 : DmaSem sig) ∗ zero c (23 : DmaSem sig) ∗ zero c (24 : DmaSem sig) ∗ zero c (25 : DmaSem sig) ∗ zero c (26 : DmaSem sig) ∗ zero c (27 : DmaSem sig) ∗ zero c (28 : DmaSem sig) ∗ zero c (29 : DmaSem sig) ∗ zero c (30 : DmaSem sig) ∗ zero c (31 : DmaSem sig) ∗ zero c (32 : DmaSem sig) ∗ zero c (33 : DmaSem sig) ∗ zero c (34 : DmaSem sig)) := by
  rw [Pipeline.ownSems0_eq_of_list c osem0 [0, 1, 2, 3, 4, 5, 6, 7, 8, 9, 10, 11, 12, 13, 14, 15, 16, 17, 18, 19, 20, 21, 22, 23, 24, 25] (by decide) (by decide)]; rfl

/-- The arrays the copies read. -/
def H0 : Finset (Ref sig .tc) := {main_arg3, main_v0, main_arg5, main_v1, main_arg7, main_v2}
theorem H0_sub : H0 ⊆ Pipeline.restRefs sig spec0 := by decide
theorem hbmPts0_eq (c : Dev nD) :
    (bigSep H0 (fun b => ((c : Thread nD τ).loc b) ↦{fullShare} V m c b) : sProp 𝕄)
      = iprop((((c : Thread nD τ).loc main_arg3) ↦{fullShare} V m c main_arg3) ∗ (((c : Thread nD τ).loc main_v0) ↦{fullShare} V m c main_v0) ∗ (((c : Thread nD τ).loc main_arg5) ↦{fullShare} V m c main_arg5) ∗ (((c : Thread nD τ).loc main_v1) ↦{fullShare} V m c main_v1) ∗ (((c : Thread nD τ).loc main_arg7) ↦{fullShare} V m c main_arg7) ∗ (((c : Thread nD τ).loc main_v2) ↦{fullShare} V m c main_v2)) := by
  rw [BI.bigSep_eq_bigSepL_of_eq [main_arg3, main_v0, main_arg5, main_v1, main_arg7, main_v2] (by decide) (by decide)]; rfl

theorem PhiD0_eq (c : Dev nD) :
    (Pipeline.ΦD osem0 spec0 H0 (V m) c : sProp 𝕄)
      = iprop(iprop((∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch4), ((c : Thread nD τ).loc cc0_scratch4) ↦{fullShare} f) ∗ (∃ f : Buf (Elt F) ((c : Thread nD τ).loc cc0_scratch5), ((c : Thread nD τ).loc cc0_scratch5) ↦{fullShare} f) ∗ (∃ f : Buf (Elt F) ((c : Thread nD τ).loc cc0_scratch6), ((c : Thread nD τ).loc cc0_scratch6) ↦{fullShare} f) ∗ (∃ f : Buf (Elt F) ((c : Thread nD τ).loc cc0_scratch7), ((c : Thread nD τ).loc cc0_scratch7) ↦{fullShare} f) ∗ (∃ f : Buf (Elt F) ((c : Thread nD τ).loc cc0_scratch8), ((c : Thread nD τ).loc cc0_scratch8) ↦{fullShare} f) ∗ (∃ f : Buf (Elt F) ((c : Thread nD τ).loc cc0_scratch9), ((c : Thread nD τ).loc cc0_scratch9) ↦{fullShare} f) ∗ (∃ f : Buf (Elt F) ((c : Thread nD τ).loc cc0_scratch10), ((c : Thread nD τ).loc cc0_scratch10) ↦{fullShare} f) ∗ (∃ f : Buf (Elt F) ((c : Thread nD τ).loc cc0_scratch11), ((c : Thread nD τ).loc cc0_scratch11) ↦{fullShare} f) ∗ (∃ f : Buf (Elt F) ((c : Thread nD τ).loc cc0_scratch12), ((c : Thread nD τ).loc cc0_scratch12) ↦{fullShare} f) ∗ (∃ f : Buf (Elt F) ((c : Thread nD τ).loc cc0_scratch13), ((c : Thread nD τ).loc cc0_scratch13) ↦{fullShare} f) ∗ (∃ f : Buf (Elt F) ((c : Thread nD τ).loc cc0_scratch14), ((c : Thread nD τ).loc cc0_scratch14) ↦{fullShare} f) ∗ (∃ f : Buf (Elt F) ((c : Thread nD τ).loc cc0_scratch15), ((c : Thread nD τ).loc cc0_scratch15) ↦{fullShare} f) ∗ (∃ f : Buf (Elt F) ((c : Thread nD τ).loc cc0_scratch16), ((c : Thread nD τ).loc cc0_scratch16) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f))
          ∗ (∃ r, prngReg c r)
          ∗ iprop(zero c (9 : DmaSem sig) ∗ zero c (10 : DmaSem sig) ∗ zero c (11 : DmaSem sig) ∗ zero c (12 : DmaSem sig) ∗ zero c (13 : DmaSem sig) ∗ zero c (14 : DmaSem sig) ∗ zero c (15 : DmaSem sig) ∗ zero c (16 : DmaSem sig) ∗ zero c (17 : DmaSem sig) ∗ zero c (18 : DmaSem sig) ∗ zero c (19 : DmaSem sig) ∗ zero c (20 : DmaSem sig) ∗ zero c (21 : DmaSem sig) ∗ zero c (22 : DmaSem sig) ∗ zero c (23 : DmaSem sig) ∗ zero c (24 : DmaSem sig) ∗ zero c (25 : DmaSem sig) ∗ zero c (26 : DmaSem sig) ∗ zero c (27 : DmaSem sig) ∗ zero c (28 : DmaSem sig) ∗ zero c (29 : DmaSem sig) ∗ zero c (30 : DmaSem sig) ∗ zero c (31 : DmaSem sig) ∗ zero c (32 : DmaSem sig) ∗ zero c (33 : DmaSem sig) ∗ zero c (34 : DmaSem sig))
          ∗ iprop((((c : Thread nD τ).loc main_arg3) ↦{fullShare} V m c main_arg3) ∗ (((c : Thread nD τ).loc main_v0) ↦{fullShare} V m c main_v0) ∗ (((c : Thread nD τ).loc main_arg5) ↦{fullShare} V m c main_arg5) ∗ (((c : Thread nD τ).loc main_v1) ↦{fullShare} V m c main_v1) ∗ (((c : Thread nD τ).loc main_arg7) ↦{fullShare} V m c main_arg7) ∗ (((c : Thread nD τ).loc main_v2) ↦{fullShare} V m c main_v2))) := by
  rw [Pipeline.ΦD_eq, scopedRest0_eq, ownSems00_eq, hbmPts0_eq]

theorem sems_eq (c : Dev nD) (t : Fin cfg0.N) :
    (sems (F := F) c (refsAt t) : sProp 𝕄) = iprop(zero c (9 : DmaSem sig) ∗ zero c (10 : DmaSem sig) ∗ zero c (11 : DmaSem sig) ∗ zero c (12 : DmaSem sig) ∗ zero c (13 : DmaSem sig) ∗ zero c (14 : DmaSem sig) ∗ zero c (15 : DmaSem sig) ∗ zero c (16 : DmaSem sig) ∗ zero c (17 : DmaSem sig) ∗ zero c (18 : DmaSem sig) ∗ zero c (19 : DmaSem sig) ∗ zero c (20 : DmaSem sig) ∗ zero c (21 : DmaSem sig) ∗ zero c (22 : DmaSem sig) ∗ zero c (23 : DmaSem sig) ∗ zero c (24 : DmaSem sig) ∗ zero c (25 : DmaSem sig) ∗ zero c (26 : DmaSem sig) ∗ zero c (27 : DmaSem sig) ∗ zero c (28 : DmaSem sig) ∗ zero c (29 : DmaSem sig) ∗ zero c (30 : DmaSem sig) ∗ zero c (31 : DmaSem sig) ∗ zero c (32 : DmaSem sig) ∗ zero c (33 : DmaSem sig) ∗ zero c (34 : DmaSem sig)) := rfl

/-- A buffer held whole. -/
theorem any_in (c : Dev nD) (b : Ref sig .tc) :
    (∃ f : Buf (Elt F) ((c : Thread nD τ).loc b), ((c : Thread nD τ).loc b) ↦{fullShare} f) ⊢ (any (F := F) c (Memref.whole b) : sProp 𝕄) := by
  iintro ⟨%f, H⟩
  unfold any
  iexists f
  iapply held_of_owns
  iapply (Entails.of_eq (owns_whole (c : Thread nD τ) b fullShare f).symm) $$ H

theorem any_out (c : Dev nD) (b : Ref sig .tc) :
    (any (F := F) c (Memref.whole b) : sProp 𝕄) ⊢ (∃ f : Buf (Elt F) ((c : Thread nD τ).loc b), ((c : Thread nD τ).loc b) ↦{fullShare} f) := by
  unfold any
  iintro ⟨%f, H⟩
  iexists f
  ihave H := owns_of_held $$ H
  iapply (Entails.of_eq (owns_whole (c : Thread nD τ) b fullShare f)) $$ H

theorem at_in (c : Dev nD) (b : Ref sig .tc) (f : Buf (Elt F) ((c : Thread nD τ).loc b)) :
    (((c : Thread nD τ).loc b) ↦{fullShare} f) ⊢ (at_ (F := F) c (Memref.whole b) f : sProp 𝕄) := by
  iintro H
  iapply held_of_owns
  iapply (Entails.of_eq (owns_whole (c : Thread nD τ) b fullShare f).symm) $$ H

theorem at_out (c : Dev nD) (b : Ref sig .tc) (f : Buf (Elt F) ((c : Thread nD τ).loc b)) :
    (at_ (F := F) c (Memref.whole b) f : sProp 𝕄) ⊢ (((c : Thread nD τ).loc b) ↦{fullShare} f) := by
  iintro H
  ihave H := owns_of_held $$ H
  iapply (Entails.of_eq (owns_whole (c : Thread nD τ) b fullShare f)) $$ H

/-- What the six arrays hold when the call begins. -/
def arrsOf (c : Dev nD) : Arrs F where
  A4 := V m c main_arg3
  A5 := V m c main_v0
  A6 := V m c main_arg5
  A7 := V m c main_v1
  A8 := V m c main_arg7
  A9 := V m c main_v2

/-- The invariant of the call, apart. -/
def scratch (c : Dev nD) (t : Fin cfg0.N) : sProp 𝕄 := iprop(any (F := F) c (refsAt t).a15 ∗ any (F := F) c (refsAt t).a16 ∗ any (F := F) c (refsAt t).a23 ∗ any (F := F) c (refsAt t).a24 ∗ any (F := F) c (refsAt t).a25 ∗ any (F := F) c (refsAt t).a26 ∗ any (F := F) c (refsAt t).a27 ∗ any (F := F) c (refsAt t).a28 ∗ any (F := F) c (refsAt t).a29 ∗ any (F := F) c (refsAt t).a30 ∗ any (F := F) c (refsAt t).a31)

theorem phi_in (c : Dev nD) (t : Fin cfg0.N) : (Pipeline.ΦD osem0 spec0 H0 (V m) c : sProp 𝕄) ⊢
    iprop(scratch (F := F) c t ∗ iprop(guSt c (refsAt t) parts (arrsOf m c) 0 .rest ∗ guSt c (refsAt t) parts (arrsOf m c) 1 .rest
      ∗ dnSt c (refsAt t) parts (arrsOf m c) 0 .rest ∗ dnSt c (refsAt t) parts (arrsOf m c) 1 .rest) ∗ (∃ r, prngReg c r)) := by
  rw [PhiD0_eq]
  iintro ⟨⟨S2, S3, S4, S5, S6, S7, S8, S9, S10, S11, S12, S13, S14, S15, S16, S0, S1⟩, Hg, HZ, ⟨R4, R5, R6, R7, R8, R9⟩⟩
  ihave HZ := (Entails.of_eq (sems_eq c t).symm) $$ HZ
  ihave S0 := (any_in c cc0_scratch0) $$ S0
  ihave S1 := (any_in c cc0_scratch1) $$ S1
  ihave S2 := (any_in c cc0_scratch2) $$ S2
  ihave S3 := (any_in c cc0_scratch3) $$ S3
  ihave S4 := (any_in c cc0_scratch4) $$ S4
  ihave S5 := (any_in c cc0_scratch5) $$ S5
  ihave S6 := (any_in c cc0_scratch6) $$ S6
  ihave S7 := (any_in c cc0_scratch7) $$ S7
  ihave S8 := (any_in c cc0_scratch8) $$ S8
  ihave S9 := (any_in c cc0_scratch9) $$ S9
  ihave S10 := (any_in c cc0_scratch10) $$ S10
  ihave S11 := (any_in c cc0_scratch11) $$ S11
  ihave S12 := (any_in c cc0_scratch12) $$ S12
  ihave S13 := (any_in c cc0_scratch13) $$ S13
  ihave S14 := (any_in c cc0_scratch14) $$ S14
  ihave S15 := (any_in c cc0_scratch15) $$ S15
  ihave S16 := (any_in c cc0_scratch16) $$ S16
  ihave R4 := (at_in c main_arg3 _) $$ R4
  ihave R5 := (at_in c main_v0 _) $$ R5
  ihave R6 := (at_in c main_arg5 _) $$ R6
  ihave R7 := (at_in c main_v1 _) $$ R7
  ihave R8 := (at_in c main_arg7 _) $$ R8
  ihave R9 := (at_in c main_v2 _) $$ R9
  isplitl [S0 S1 S8 S9 S10 S11 S12 S13 S14 S15 S16]
  · unfold scratch
    isplitl [S0]; · iexact S0
    isplitl [S1]; · iexact S1
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    iexact S16
  isplitr [Hg]
  · iapply (cells_in c (refsAt t) (arrsOf m c))
    isplitl [S2 S3 S4 S5 S6 S7]
    · unfold lands
      isplitl [S2]; · iexact S2
      isplitl [S3]; · iexact S3
      isplitl [S4]; · iexact S4
      isplitl [S5]; · iexact S5
      isplitl [S6]; · iexact S6
      iexact S7
    isplitr [HZ]
    · unfold reads
      isplitl [R4]; · iexact R4
      isplitl [R5]; · iexact R5
      isplitl [R6]; · iexact R6
      isplitl [R7]; · iexact R7
      isplitl [R8]; · iexact R8
      iexact R9
    iexact HZ
  iexact Hg

theorem phi_out (c : Dev nD) (t : Fin cfg0.N) :
    iprop(scratch (F := F) c t ∗ iprop(guSt c (refsAt t) parts (arrsOf m c) 0 .rest ∗ guSt c (refsAt t) parts (arrsOf m c) 1 .rest
      ∗ dnSt c (refsAt t) parts (arrsOf m c) 0 .rest ∗ dnSt c (refsAt t) parts (arrsOf m c) 1 .rest) ∗ (∃ r, prngReg c r)) ⊢
      (Pipeline.ΦD osem0 spec0 H0 (V m) c : sProp 𝕄) := by
  rw [PhiD0_eq]
  unfold scratch
  iintro ⟨⟨S0, S1, S8, S9, S10, S11, S12, S13, S14, S15, S16⟩, HC, Hg⟩
  ihave HC := (cells_out c (refsAt t) (arrsOf m c)) $$ HC
  icases HC with ⟨HL, HR, HZ⟩
  ihave HL := (show lands (F := F) c (refsAt t) ⊢ iprop(any (F := F) c (refsAt t).a17 ∗ any (F := F) c (refsAt t).a18 ∗ any (F := F) c (refsAt t).a19 ∗ any (F := F) c (refsAt t).a20 ∗ any (F := F) c (refsAt t).a21 ∗ any (F := F) c (refsAt t).a22) from .rfl) $$ HL
  icases HL with ⟨S2, S3, S4, S5, S6, S7⟩
  ihave HR := (show reads c (refsAt t) (arrsOf m c) ⊢ iprop(at_ c (refsAt t).a4 (arrsOf m c).A4 ∗ at_ c (refsAt t).a5 (arrsOf m c).A5 ∗ at_ c (refsAt t).a6 (arrsOf m c).A6 ∗ at_ c (refsAt t).a7 (arrsOf m c).A7 ∗ at_ c (refsAt t).a8 (arrsOf m c).A8 ∗ at_ c (refsAt t).a9 (arrsOf m c).A9) from .rfl) $$ HR
  icases HR with ⟨R4, R5, R6, R7, R8, R9⟩
  isplitl [S0 S1 S2 S3 S4 S5 S6 S7 S8 S9 S10 S11 S12 S13 S14 S15 S16]
  · isplitl [S2]; · iapply (show any (F := F) c (refsAt t).a17 ⊢ _ from any_out c cc0_scratch2) $$ S2
    isplitl [S3]; · iapply (show any (F := F) c (refsAt t).a18 ⊢ _ from any_out c cc0_scratch3) $$ S3
    isplitl [S4]; · iapply (show any (F := F) c (refsAt t).a19 ⊢ _ from any_out c cc0_scratch4) $$ S4
    isplitl [S5]; · iapply (show any (F := F) c (refsAt t).a20 ⊢ _ from any_out c cc0_scratch5) $$ S5
    isplitl [S6]; · iapply (show any (F := F) c (refsAt t).a21 ⊢ _ from any_out c cc0_scratch6) $$ S6
    isplitl [S7]; · iapply (show any (F := F) c (refsAt t).a22 ⊢ _ from any_out c cc0_scratch7) $$ S7
    isplitl [S8]; · iapply (show any (F := F) c (refsAt t).a23 ⊢ _ from any_out c cc0_scratch8) $$ S8
    isplitl [S9]; · iapply (show any (F := F) c (refsAt t).a24 ⊢ _ from any_out c cc0_scratch9) $$ S9
    isplitl [S10]; · iapply (show any (F := F) c (refsAt t).a25 ⊢ _ from any_out c cc0_scratch10) $$ S10
    isplitl [S11]; · iapply (show any (F := F) c (refsAt t).a26 ⊢ _ from any_out c cc0_scratch11) $$ S11
    isplitl [S12]; · iapply (show any (F := F) c (refsAt t).a27 ⊢ _ from any_out c cc0_scratch12) $$ S12
    isplitl [S13]; · iapply (show any (F := F) c (refsAt t).a28 ⊢ _ from any_out c cc0_scratch13) $$ S13
    isplitl [S14]; · iapply (show any (F := F) c (refsAt t).a29 ⊢ _ from any_out c cc0_scratch14) $$ S14
    isplitl [S15]; · iapply (show any (F := F) c (refsAt t).a30 ⊢ _ from any_out c cc0_scratch15) $$ S15
    isplitl [S16]; · iapply (show any (F := F) c (refsAt t).a31 ⊢ _ from any_out c cc0_scratch16) $$ S16
    isplitl [S0]; · iapply (show any (F := F) c (refsAt t).a15 ⊢ _ from any_out c cc0_scratch0) $$ S0
    iapply (show any (F := F) c (refsAt t).a16 ⊢ _ from any_out c cc0_scratch1) $$ S1
  isplitl [Hg]; · iexact Hg
  isplitl [HZ]; · iapply (Entails.of_eq (sems_eq c t)) $$ HZ
  isplitl [R4]; · iapply (show at_ c (refsAt t).a4 (arrsOf m c).A4 ⊢ _ from at_out c main_arg3 _) $$ R4
  isplitl [R5]; · iapply (show at_ c (refsAt t).a5 (arrsOf m c).A5 ⊢ _ from at_out c main_v0 _) $$ R5
  isplitl [R6]; · iapply (show at_ c (refsAt t).a6 (arrsOf m c).A6 ⊢ _ from at_out c main_arg5 _) $$ R6
  isplitl [R7]; · iapply (show at_ c (refsAt t).a7 (arrsOf m c).A7 ⊢ _ from at_out c main_v1 _) $$ R7
  isplitl [R8]; · iapply (show at_ c (refsAt t).a8 (arrsOf m c).A8 ⊢ _ from at_out c main_arg7 _) $$ R8
  iapply (show at_ c (refsAt t).a9 (arrsOf m c).A9 ⊢ _ from at_out c main_v2 _) $$ R9

/-- The expert ids the call finds are below 47. -/
def InRange : Prop := ∀ (c : Dev nD) (x : S6x1x8.Idx), (m ((c : Thread nD τ).loc main_arg1) x : BitVec 32).toNat < 47

/-- The first argument as the call finds it. -/
abbrev xIn (c : Dev nD) (t : Fin cfg0.N) : S6x4096.Idx → Elt F .bf16 := iblk m c 1 t

/-- The hidden layer's codes, of the experts the call finds. -/
def HCodes (a : Arrs F) (X0 : S6x1x8.Idx → Elt F .i32) (X1 : S6x4096.Idx → Elt F .bf16) (Y : S6x8x1536.Idx → Elt F .fp8e4m3) : Prop :=
  ∃ ids X, IdsAre ids X0 ∧ Deqd X1 32 X ∧ HCoded ids (fun e => hq (hid a e X)) 6 Y

/-- The hidden layer's scales, of the experts the call finds. -/
def HScales (a : Arrs F) (X0 : S6x1x8.Idx → Elt F .i32) (X1 : S6x4096.Idx → Elt F .bf16) (Y : S6x8x12.Idx → Elt F .f32) : Prop :=
  ∃ ids X, IdsAre ids X0 ∧ Deqd X1 32 X ∧ HScaled ids (fun e => hAcc lanes (hid a e X) 12) 6 Y

/-- What the call's windows hold: operands stay, the quantised results are named, and of the first result nothing is said. -/
def rdat (c : Dev nD) : RDat τ (Elt F) Unit ℕ (Pipeline.UD sig nD τ) ℕ cfg0 c where
  A w := V m c (Pipeline.arrRef spec0 w)
  after w t Y X := match w, Y, X with
    | ⟨0, _⟩, Y, X => X = Y
    | ⟨1, _⟩, Y, X => X = Y
    | ⟨2, _⟩, Y, X => X = Y
    | ⟨3, _⟩, Y, X => X = Y
    | ⟨5, _⟩, _, X => Coded (F := F) (xIn m c t) 32 X
    | ⟨6, _⟩, _, X => Scaled (F := F) (xIn m c t) X
    | ⟨7, _⟩, _, X => HCodes (F := F) (arrsOf m c) (iblk m c 0 t : S6x1x8.Idx → Elt F .i32) (xIn m c t) X
    | ⟨8, _⟩, _, X => HScales (F := F) (arrsOf m c) (iblk m c 0 t : S6x1x8.Idx → Elt F .i32) (xIn m c t) X
    | _, _, _ => True
  Φ _ := Pipeline.ΦD osem0 spec0 H0 (V m) c
  q w := Pipeline.shareOf spec0 w
  owed _ := 0

theorem finds_in {c : Dev nD} {t : Fin cfg0.N} (w : Fin cfg0.W) (hw : w.val < 4) {Y : (cfg0.win w).block.Idx → Elt F (cfg0.win w).elt}
    (h : (rdat m c).Finds w t Y) : ∃ d, Y = (rdat m c).fetched w t d := by
  obtain rfl := fin_N0 t
  refine ((rdat m c).finds_of_fetch ?_ Y).mp h
  match w, hw with
  | ⟨0, h⟩, _ => rfl
  | ⟨1, h⟩, _ => rfl
  | ⟨2, h⟩, _ => rfl
  | ⟨3, h⟩, _ => rfl

theorem finds_0 {c : Dev nD} {t : Fin cfg0.N} {Y : S6x1x8.Idx → Elt F .i32} (h : (rdat m c).Finds 0 t Y) : Y = iblk m c 0 t := by
  obtain ⟨d, rfl⟩ := finds_in m 0 (by decide) h; rfl
theorem finds_1 {c : Dev nD} {t : Fin cfg0.N} {Y : S6x4096.Idx → Elt F .bf16} (h : (rdat m c).Finds 1 t Y) : Y = xIn m c t := by
  obtain ⟨d, rfl⟩ := finds_in m 1 (by decide) h; rfl

theorem ids_found (hm : InRange m) (c : Dev nD) (t : Fin cfg0.N) : ∃ ids, IdsAre ids (iblk m c 0 t : S6x1x8.Idx → Elt F .i32) := by
  have hb : ∀ x, ((iblk m c 0 t : S6x1x8.Idx → Elt F .i32) x : BitVec 32).toNat < 47 := fun x => by
    unfold iblk; rw [View.read_apply, cast_eq, V_main_arg1]; exact hm c _
  refine ⟨fun k => ⟨((iblk m c 0 t : S6x1x8.Idx → Elt F .i32) (ix3 (Fin.ofNat 6 (k / 8)) 0 (Fin.ofNat 8 (k % 8))) : BitVec 32).toNat, hb _⟩, ?_⟩
  intro u j
  have e1 : (Fin.ofNat 6 ((8 * u.val + j.val) / 8)) = u := by ext; simp only [Fin.ofNat]; omega
  have e2 : (Fin.ofNat 8 ((8 * u.val + j.val) % 8)) = j := by ext; simp only [Fin.ofNat]; omega
  dsimp only
  rw [e1, e2, BitVec.ofNat_toNat, BitVec.setWidth_eq]

theorem defs₀_row (t : Fin cfg0.N) :
    defs₀ (F := F) .tc cfg0.body (cfg0.bodyArgs t (cfg0.slots t)) = bodyAt0 t := by
  unfold defs₀; rw [Defs.onTc_tc]

set_option maxHeartbeats 2000000 in
theorem sound_body (hm : InRange m) (c : Dev nD) (t : Fin cfg0.N)
    {Y2 : S6x1x8.Idx → Elt F .i32} {Y3 : S6x1x8.Idx → Elt F .f32} {Y4 : S6x4096.Idx → Elt F .bf16} {Y5 : S6x4096.Idx → Elt F .fp8e4m3}
    {Y6 : S6x1x32.Idx → Elt F .f32} {Y7 : S6x8x1536.Idx → Elt F .fp8e4m3} {Y8 : S6x8x12.Idx → Elt F .f32} :
    iprop(Pipeline.ΦD osem0 spec0 H0 (V m) c ∗ (rdat m c).owesAt () t.castSucc
      ∗ owns (c : Thread nD τ) (refsAt t).a0 fullShare (iblk m c 0 t : S6x1x8.Idx → Elt F .i32) ∗ owns (c : Thread nD τ) (refsAt t).a1 fullShare (xIn m c t)
      ∗ owns (c : Thread nD τ) (refsAt t).a2 fullShare Y2 ∗ owns (c : Thread nD τ) (refsAt t).a3 fullShare Y3
      ∗ owns (c : Thread nD τ) (refsAt t).a10 fullShare Y4 ∗ owns (c : Thread nD τ) (refsAt t).a11 fullShare Y5 ∗ owns (c : Thread nD τ) (refsAt t).a12 fullShare Y6
      ∗ owns (c : Thread nD τ) (refsAt t).a13 fullShare Y7 ∗ owns (c : Thread nD τ) (refsAt t).a14 fullShare Y8) ⊢
      wpc c (bodyAt0 (F := F) t) (fun _ => iprop(Pipeline.ΦD osem0 spec0 H0 (V m) c ∗ (rdat m c).owesAt () t.succ
      ∗ owns (c : Thread nD τ) (refsAt t).a0 fullShare (iblk m c 0 t : S6x1x8.Idx → Elt F .i32) ∗ owns (c : Thread nD τ) (refsAt t).a1 fullShare (xIn m c t)
      ∗ owns (c : Thread nD τ) (refsAt t).a2 fullShare Y2 ∗ owns (c : Thread nD τ) (refsAt t).a3 fullShare Y3
      ∗ (∃ X, owns (c : Thread nD τ) (refsAt t).a10 fullShare X) ∗ (∃ X, ⌜Coded (F := F) (xIn m c t) 32 X⌝ ∗ owns (c : Thread nD τ) (refsAt t).a11 fullShare X)
      ∗ (∃ X, ⌜Scaled (F := F) (xIn m c t) X⌝ ∗ owns (c : Thread nD τ) (refsAt t).a12 fullShare X)
      ∗ (∃ X, ⌜HCodes (F := F) (arrsOf m c) (iblk m c 0 t : S6x1x8.Idx → Elt F .i32) (xIn m c t) X⌝ ∗ owns (c : Thread nD τ) (refsAt t).a13 fullShare X)
      ∗ (∃ X, ⌜HScales (F := F) (arrsOf m c) (iblk m c 0 t : S6x1x8.Idx → Elt F .i32) (xIn m c t) X⌝ ∗ owns (c : Thread nD τ) (refsAt t).a14 fullShare X))) := by
  obtain ⟨ids, hids⟩ := ids_found m hm c t
  unfold RDat.owesAt Pipeline.owesWithin
  rw [show (rdat m c).owed t.castSucc = 0 from rfl, show (rdat m c).owed t.succ = 0 from rfl]
  iintro ⟨HΦ, ⟨%W, -, HW⟩, O0, O1, O2, O3, O4, O5, O6, O7, O8⟩
  ihave HΦ := (phi_in m c t) $$ HΦ
  icases HΦ with ⟨HS, ⟨G0, G1, D0, D1⟩, Hg⟩
  ihave O0 := held_of_owns $$ O0
  ihave O1 := held_of_owns $$ O1
  ihave O2 := held_of_owns $$ O2
  ihave O3 := held_of_owns $$ O3
  ihave O4 := held_of_owns $$ O4
  ihave O5 := held_of_owns $$ O5
  ihave O6 := held_of_owns $$ O6
  ihave O7 := held_of_owns $$ O7
  ihave O8 := held_of_owns $$ O8
  unfold scratch
  icases HS with ⟨S0, S1, S8, S9, S10, S11, S12, S13, S14, S15, S16⟩
  iapply (moe_spec c (refsAt t) parts (arrsOf m c) hids (X1 := xIn m c t) (X2 := Y2) (X3 := Y3)) $$ [O0 O1 O2 O3 O4 O5 O6 O7 O8 S0 S1 S8 S9 S10 S11 S12 S13 S14 S15 S16 G0 G1 D0 D1 HW]
  · isplitr [O5 O6 O7 O8 S15]
    · unfold others
      isplitl [O0]; · iexact O0
      isplitl [O1]; · iexact O1
      isplitl [O2]; · iexact O2
      isplitl [O3]; · iexact O3
      isplitl [O4]; · unfold any; iexists _; iexact O4
      isplitl [S0]; · iexact S0
      isplitl [S1]; · iexact S1
      isplitl [S8]; · iexact S8
      isplitl [S9]; · iexact S9
      isplitl [S10]; · iexact S10
      isplitl [S11]; · iexact S11
      isplitl [S12]; · iexact S12
      isplitl [S13]; · iexact S13
      isplitl [S14]; · iexact S14
      isplitl [S16]; · iexact S16
      isplitl [G0]; · iexact G0
      isplitl [G1]; · iexact G1
      isplitl [D0]; · iexact D0
      isplitl [D1]; · iexact D1
      iexists W; iexact HW
    isplitl [S15]; · iexact S15
    isplitl [O5]; · unfold any; iexists _; iexact O5
    isplitl [O6]; · unfold any; iexists _; iexact O6
    isplitl [O7]; · unfold any; iexists _; iexact O7
    unfold any; iexists _; iexact O8
  unfold others any
  iintro ⟨⟨O0, O1, O2, O3, ⟨%Z4, O4⟩, S0, S1, S8, S9, S10, S11, S12, S13, S14, S16, G0, G1, D0, D1, ⟨%W', HW⟩⟩, S15, ⟨%Z5, %h5, O5⟩, ⟨%Z6, %h6, O6⟩, ⟨%X, %hX, ⟨%Z7, %h7, O7⟩, ⟨%Z8, %h8, O8⟩⟩⟩
  isplitl [S0 S1 S8 S9 S10 S11 S12 S13 S14 S15 S16 G0 G1 D0 D1 Hg]
  · iapply (phi_out m c t)
    isplitl [S0 S1 S8 S9 S10 S11 S12 S13 S14 S15 S16]
    · unfold scratch any
      isplitl [S0]; · iexact S0
      isplitl [S1]; · iexact S1
      isplitl [S8]; · iexact S8
      isplitl [S9]; · iexact S9
      isplitl [S10]; · iexact S10
      isplitl [S11]; · iexact S11
      isplitl [S12]; · iexact S12
      isplitl [S13]; · iexact S13
      isplitl [S14]; · iexact S14
      isplitl [S15]; · iexact S15
      iexact S16
    isplitr [Hg]
    · isplitl [G0]; · iexact G0
      isplitl [G1]; · iexact G1
      isplitl [D0]; · iexact D0
      iexact D1
    iexact Hg
  isplitl [HW]
  · iexists W'; isplitr; · ipureintro; exact fun _ _ => Or.inl trivial
    iexact HW
  isplitl [O0]; · iapply owns_of_held $$ O0
  isplitl [O1]; · iapply owns_of_held $$ O1
  isplitl [O2]; · iapply owns_of_held $$ O2
  isplitl [O3]; · iapply owns_of_held $$ O3
  isplitl [O4]; · iexists Z4; iapply owns_of_held $$ O4
  isplitl [O5]
  · iexists Z5; isplitr
    · ipureintro; exact h5
    iapply owns_of_held $$ O5
  isplitl [O6]
  · iexists Z6; isplitr
    · ipureintro; exact h6
    iapply owns_of_held $$ O6
  isplitl [O7]
  · iexists Z7; isplitr
    · ipureintro; exact ⟨ids, X, hids, hX, h7⟩
    iapply owns_of_held $$ O7
  iexists Z8; isplitr
  · ipureintro; exact ⟨ids, X, hids, hX, h8⟩
  iapply owns_of_held $$ O8

set_option maxHeartbeats 2000000 in
theorem body_obligation (hm : InRange m) (c : Dev nD) : (rdat m c).BodyObligation (defs₀ (F := F)) Variants.none () Set.univ := fun t Y hY => by
  rw [bigSep_W0, bigSep_W0, defs₀_row]
  have e0 : Y 0 = (iblk m c 0 t : S6x1x8.Idx → Elt F .i32) := finds_0 m (hY 0)
  have e1 : Y 1 = xIn m c t := finds_1 m (hY 1)
  have key := sound_body m hm c t (Y2 := Y 2) (Y3 := Y 3) (Y4 := Y 4) (Y5 := Y 5) (Y6 := Y 6) (Y7 := Y 7) (Y8 := Y 8)
  rw [e0, e1]
  refine key.trans (wp_mono _ _ _ fun _ => ?_)
  iintro ⟨HΦ, HW, O0, O1, O2, O3, ⟨%Z4, O4⟩, ⟨%Z5, %h5, O5⟩, ⟨%Z6, %h6, O6⟩, ⟨%Z7, %h7, O7⟩, ⟨%Z8, %h8, O8⟩⟩
  isplitl [HΦ]; · iapply (show Pipeline.ΦD osem0 spec0 H0 (V m) c ⊢ (rdat m c).Φ t.succ from .rfl) $$ HΦ
  isplitl [HW]; · iexact HW
  isplitl [O0]
  · iexists _; isplitr
    · ipureintro; rfl
    iexact O0
  isplitl [O1]
  · iexists _; isplitr
    · ipureintro; rfl
    iexact O1
  isplitl [O2]
  · iexists _; isplitr
    · ipureintro; rfl
    iexact O2
  isplitl [O3]
  · iexists _; isplitr
    · ipureintro; rfl
    iexact O3
  isplitl [O4]
  · iexists Z4; isplitr
    · ipureintro; exact trivial
    iexact O4
  isplitl [O5]
  · iexists Z5; isplitr
    · ipureintro; exact h5
    iexact O5
  isplitl [O6]
  · iexists Z6; isplitr
    · ipureintro; exact h6
    iexact O6
  isplitl [O7]
  · iexists Z7; isplitr
    · ipureintro; exact h7
    iexact O7
  iexists Z8; isplitr; · ipureintro; exact h8
  iexact O8

set_option backward.isDefEq.respectTransparency.types false in
theorem run_main (hm : InRange m) : θ_run defs (onTc (τ := τ) (main (F := F))) (s₀ m ρ) (fun r => Pipeline.RDat.FramePost cfg0 (rdat m) (V m) r ∧ r.2.sem = fun _ => 0) :=
  Pipeline.RDat.θ_run_frame_dma_shared (Q' := _) cfgs (0 : Fin 1) launch₀0 osem0 defs₀ Variants.none (rdat m) ownSemFacts0 H0 H0_sub m ρ main
    (hbody := fun c => body_obligation m hm c) (hq := fun _ _ _ => rfl)
    (howed := fun _ _ => rfl) (V := V m) (hmain := hmainD m Variants.none) (hA := fun _ _ => rfl)
    (hin := fun _ => .rfl) (hout := fun _ => .rfl) (hQ' := fun _ h => h)

set_option maxHeartbeats 1000000 in
/-- The arguments end as they began. -/
theorem kept {r : PUnit × MemSt nD τ sig (Elt F)} (h : Pipeline.RDat.FramePost cfg0 (rdat m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  ⟨((h c).2 main_arg0 (Pipeline.mem_restRefs_of main_arg0 (by decide) (by decide))).trans (V_main_arg0 m c),
    (by have e := (h c).1 2; rw [(rdat m c).ArrAt_in 2 rfl] at e; exact e.trans (V_main_arg1 m c)),
    (by have e := (h c).1 3; rw [(rdat m c).ArrAt_in 3 rfl] at e; exact e.trans (V_main_arg2 m c)),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c)⟩

/-- The program runs, its arguments end as they began, and every semaphore ends at zero. -/
theorem frame (hm : InRange m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r h => ⟨fun c => kept m h.1 c, h.2⟩) (run_main m ρ hm)

end Cert.KernelIdeal.Hand

end
-- ==== Proof.Bits.lean ====
/-
  The program at machine words is the same text as the one over the extended reals, which the proofs above treat at any floats.
-/
module

public import proofs.«01_k».proof.Proof.Frame
public import proofs.«01_k».proof.Proof.Gen.Kernel
public import proofs.«01_k».proof.Kernel
public import Idealize.ShloMosaic.PureOps.BitExact

@[expose] public section

set_option maxRecDepth 16384

noncomputable section

namespace Cert.Kernel.Hand

open Cert.Kernel
open Idealize.ShloMosaic Idealize.ShloMosaic.TcCoe
open Idealize.SL.Sem

attribute [local instance] Cert.Kernel.Gen.facts Cert.KernelIdeal.Gen.facts

variable {F : FTy → Type} [FloatOps F]

set_option maxHeartbeats 4000000

theorem cfg_eq : Cert.Kernel.pcfgs (F := F) = Cert.KernelIdeal.pcfgs (F := F) := rfl

theorem moe_eq : @Cert.Kernel.cc0_moe F _ Cert.Kernel.Gen.facts = @Cert.KernelIdeal.cc0_moe F _ Cert.KernelIdeal.Gen.facts := rfl

theorem defs₀_eq : Cert.Kernel.defs₀ (F := F) = Cert.KernelIdeal.defs₀ (F := F) :=
  congrArg Defs.onTc (funext fun l => match l with
    | 0 => rfl
    | ⟨_ + 1, h⟩ => absurd h (Nat.not_lt.2 (Nat.le_add_left _ _)))

theorem defs_eq : Cert.Kernel.defs (F := F) = Cert.KernelIdeal.defs (F := F) :=
  congrArg (Pipeline.defs (Cert.KernelIdeal.pcfgs (F := F))) defs₀_eq

theorem main_eq : Cert.Kernel.main (F := F) = Cert.KernelIdeal.main (F := F) := rfl

end Cert.Kernel.Hand

end
-- ==== Proof.Range.lean ====
/-
  The precondition, decoded: an all-ones answer says that every expert id read as a natural number is below 47.
-/
module

public import proofs.«01_k».proof.Proof.Gen.Pre_ids_in_range

@[expose] public section

noncomputable section

namespace Cert.Pre_ids_in_range.Hand

open Cert.Pre_ids_in_range
open Idealize.ShloMosaic

theorem andi_ofBool (p q : Bool) : IntOp.andi (BitVec.ofBool p) (BitVec.ofBool q) = BitVec.ofBool (p && q) := by
  cases p <;> cases q <;> decide

theorem ofBool_eq_one (p : Bool) : (BitVec.ofBool p = 1#1) ↔ p = true := by cases p <;> decide

variable {F : FTy → Type} [FloatOps F]

/-- Every id of an accepted array is below the number of experts. -/
theorem id_lt {a0 a2 a3 a4 a5 a6 a7 a8} (ids : IVec S6x1x8 32)
    (h : fn (F := F) a0 ids a2 a3 a4 a5 a6 a7 a8 = fun _ => 1#1) (y : S6x1x8.Idx) : (ids y).toNat < 47 := by
  have e := congrFun h y
  simp only [fn, andi, cmpi, broadcastInDim, constantI, IntOp.cmpi, andi_ofBool, ofBool_eq_one, Bool.and_eq_true] at e
  obtain ⟨hge, hlt⟩ := e
  simp only [BitVec.sle, BitVec.slt, decide_eq_true_eq, BitVec.toInt, BitVec.toNat_ofNat] at hge hlt
  omega

end Cert.Pre_ids_in_range.Hand

end
-- ==== Proof.Scale.lean ====
/-
  The power of two that a block of values is divided by, over the extended reals. One side finds its exponent by halving over
  the exponent field of a float, the other by counting the powers of two that are not above the value; they are one number.
-/
module

public import Idealize.ShloMosaic.PureOps.Ideal
public import Idealize.ShloMosaic.PureOps.Ideal.Laws
public import Idealize.ShloMosaic.Lib.Pointwise.TacticCore
public import Idealize.ShloMosaic.Lib.Pointwise.Reduce

@[expose] public section

noncomputable section

namespace Cert.Scale

open Idealize.ShloMosaic

/-- One halving step. -/
def step (P : ℕ → Prop) [DecidablePred P] (k e : ℕ) : ℕ := if P (e + k) then e + k else e

/-- The eight steps. -/
def search (P : ℕ → Prop) [DecidablePred P] : ℕ := step P 1 (step P 2 (step P 4 (step P 8 (step P 16 (step P 32 (step P 64 (step P 128 0)))))))

def Inv (P : ℕ → Prop) (m e : ℕ) : Prop := (e = 0 ∨ P e) ∧ e + m ≤ 256 ∧ ∀ j, e + m ≤ j → j ≤ 255 → ¬ P j

theorem inv_step {P : ℕ → Prop} [DecidablePred P] (hP : ∀ a b, 1 ≤ a → a ≤ b → b ≤ 255 → P b → P a) {k e : ℕ} (hk : 0 < k)
    (h : Inv P (k + k) e) : Inv P k (step P k e) := by
  obtain ⟨h1, h2, h3⟩ := h
  unfold step
  split
  · rename_i hp
    exact ⟨.inr hp, by omega, fun j hj hj' => h3 j (by omega) hj'⟩
  · rename_i hp
    exact ⟨h1, by omega, fun j hj hj' hpj => hp (hP _ j (by omega) hj hj' hpj)⟩

theorem search_iff {P : ℕ → Prop} [DecidablePred P] (hP : ∀ a b, 1 ≤ a → a ≤ b → b ≤ 255 → P b → P a) (j : ℕ) (hj : 1 ≤ j) (hj' : j ≤ 255) :
    P j ↔ j ≤ search P := by
  have h0 : Inv P (128 + 128) 0 := ⟨.inl rfl, by omega, fun j hj hj' => by omega⟩
  have h8 : Inv P 1 (search P) :=
    inv_step hP (by omega) (inv_step hP (by omega) (inv_step hP (by omega) (inv_step hP (by omega) (inv_step hP (by omega) (inv_step hP (by omega)
      (inv_step hP (by omega) (inv_step hP (by omega) h0)))))))
  obtain ⟨h1, h2, h3⟩ := h8
  constructor
  · intro h; by_contra hc; exact h3 j (by omega) hj' h
  · intro h
    rcases h1 with h1 | h1
    · omega
    · exact hP _ _ hj h (by omega) h1

theorem search_le {P : ℕ → Prop} [DecidablePred P] (hP : ∀ a b, 1 ≤ a → a ≤ b → b ≤ 255 → P b → P a) : search P ≤ 255 := by
  have h0 : Inv P (128 + 128) 0 := ⟨.inl rfl, by omega, fun j hj hj' => by omega⟩
  have h8 : Inv P 1 (search P) :=
    inv_step hP (by omega) (inv_step hP (by omega) (inv_step hP (by omega) (inv_step hP (by omega) (inv_step hP (by omega) (inv_step hP (by omega)
      (inv_step hP (by omega) (inv_step hP (by omega) h0)))))))
  have := h8.2.1
  omega

/-- The float whose exponent field is `j` and whose fraction is zero. -/
def field (j : ℕ) : EReal := Ideal.ofBits .f32 (BitVec.ofNat 32 j <<< 23)

theorem field_bits : ∀ j : Fin 256, ((BitVec.ofNat 32 j.val <<< 23).extractLsb' 31 1 == 1#1) = false ∧
    ((BitVec.ofNat 32 j.val <<< 23).extractLsb' 23 8).toNat = j.val ∧ ((BitVec.ofNat 32 j.val <<< 23).extractLsb' 0 23).toNat = 0 := by
  decide +kernel

theorem ieee_pow (j : ℤ) : ((if false = true then (-1 : ℝ) else 1) * (2 ^ 23 + 0 : ℕ) * (2 : ℝ) ^ (j - (2 ^ (8 - 1) - 1) - (23 : ℕ))) = (2 : ℝ) ^ (j - 127) := by
  have h : (j - 127 : ℤ) = 23 + (j - (2 ^ (8 - 1) - 1) - (23 : ℕ)) := by norm_num
  rw [h, zpow_add₀ (by norm_num)]
  norm_num

theorem field_eq {j : ℕ} (h1 : 1 ≤ j) (h2 : j ≤ 254) : field j = (((2 : ℝ) ^ ((j : ℤ) - 127) : ℝ) : EReal) := by
  obtain ⟨a, b, d⟩ := field_bits ⟨j, by omega⟩
  unfold field Ideal.ofBits Ideal.ieee
  simp only at a b d
  simp only [show (8 + 23 : ℕ) = 31 from rfl, a, b, d]
  rw [if_neg (by omega), if_neg (by omega)]
  exact congrArg _ (ieee_pow j)

theorem field_top : field 255 = ⊤ := by
  obtain ⟨a, b, d⟩ := field_bits ⟨255, by omega⟩
  unfold field Ideal.ofBits Ideal.ieee
  simp only at a b d
  simp only [show (8 + 23 : ℕ) = 31 from rfl, a, b, d]
  simp

theorem field_mono {a b : ℕ} (h1 : 1 ≤ a) (h2 : a ≤ b) (h3 : b ≤ 255) : field a ≤ field b := by
  rcases Nat.lt_or_ge b 255 with h | h
  · rw [field_eq h1 (by omega), field_eq (by omega) (by omega), EReal.coe_le_coe_iff]
    exact zpow_le_zpow_right₀ (by norm_num) (by omega)
  · rw [show b = 255 by omega, field_top]; exact le_top

open Classical in
/-- The exponent field of the value `p`, by halving, at most 252. -/
def expo (p : EReal) : ℕ := if p < field 1 then 126 else min (search fun j => field j ≤ p) 252

theorem anti (p : EReal) : ∀ a b, 1 ≤ a → a ≤ b → b ≤ 255 → field b ≤ p → field a ≤ p :=
  fun _ _ h1 h2 h3 h => (field_mono h1 h2 h3).trans h

theorem expo_le (p : EReal) : expo p ≤ 252 := by
  unfold expo; split <;> omega

theorem expo_pos (p : EReal) : 1 ≤ expo p := by
  unfold expo
  split
  · omega
  · rename_i h
    have := (search_iff (P := fun j => field j ≤ p) (anti p) 1 le_rfl (by omega)).mp (not_lt.mp h)
    omega

/-- What the block's values are divided by, and what they are multiplied with. -/
def scale (p : EReal) : EReal := field (expo p + 1)
def inv (p : EReal) : EReal := field (253 - expo p)

/-- The power of two `k - 126`. -/
theorem exp2_field {k : ℕ} (hk : k < 253) : Ideal.exp2 (((k : ℝ) : EReal) - ((126 : ℝ) : EReal)) = field (k + 1) := by
  rw [← EReal.coe_sub, Ideal.exp2_coe, field_eq (by omega) (by omega)]
  congr 1
  show (2 : ℝ) ^ ((k : ℝ) - 126) = _
  rw [← Real.rpow_intCast]
  congr 1; push_cast; ring

theorem exp2_neg {k : ℕ} (hk : 1 ≤ k) (hk' : k ≤ 252) : Ideal.exp2 (0 - (((k : ℝ) : EReal) - ((126 : ℝ) : EReal))) = field (253 - k) := by
  rw [← EReal.coe_sub, show (0 : EReal) = ((0 : ℝ) : EReal) from rfl, ← EReal.coe_sub, Ideal.exp2_coe, field_eq (by omega) (by omega)]
  congr 1
  show (2 : ℝ) ^ (0 - ((k : ℝ) - 126)) = _
  rw [← Real.rpow_intCast]
  congr 1; push_cast [Nat.cast_sub (show k ≤ 253 by omega)]; ring

theorem c126 : Ideal.ofBits .f32 0x42FC0000#32 = ((126 : ℝ) : EReal) := by
  unfold Ideal.ofBits Ideal.ieee
  have a : (((0x42FC0000#32 : BitVec 32).extractLsb' (8 + 23) 1) == 1#1) = false := by decide
  have b : ((0x42FC0000#32 : BitVec 32).extractLsb' 23 8).toNat = 133 := by decide
  have d : ((0x42FC0000#32 : BitVec 32).extractLsb' 0 23).toNat = 0x7C0000 := by decide
  simp only [a, b, d]
  norm_num

theorem c1 : Ideal.ofBits .f32 0x3F800000#32 = 1 := by
  have h := field_eq (j := 127) (by omega) (by omega)
  unfold field at h
  rw [show (BitVec.ofNat 32 127 <<< 23 : BitVec 32) = 0x3F800000#32 from by decide] at h
  rw [h]; norm_num

theorem c0 : Ideal.ofBits .f32 0x00000000#32 = 0 := by
  unfold Ideal.ofBits Ideal.ieee; norm_num

theorem tiny : Ideal.ofBits .f32 0x00800000#32 = field 1 := rfl

open Classical in
/-- The count of the powers of two not above `p`. -/
theorem count_eq {p : EReal} (hp : ¬ p < field 1) :
    (∑ k : Fin 252, if field (k.val + 1) ≤ p then (1 : EReal) else 0) = ((expo p : ℝ) : EReal) := by
  rw [← Finset.sum_filter, Finset.sum_const, nsmul_one]
  have : (Finset.univ.filter fun k : Fin 252 => field (k.val + 1) ≤ p).card = expo p := by
    unfold expo
    rw [if_neg hp]
    have : (Finset.univ.filter fun k : Fin 252 => field (k.val + 1) ≤ p)
        = Finset.univ.filter fun k : Fin 252 => k.val < min (search fun j => field j ≤ p) 252 := by
      refine Finset.filter_congr fun k _ => ?_
      have hk := k.isLt
      rw [search_iff (P := fun j => field j ≤ p) (anti p) (k.val + 1) (by omega) (by omega)]
      omega
    rw [this, Fin.card_filter_val_lt]
    omega
  rw [this]
  push_cast
  rfl

/-- The scale as counted. -/
def refExp (p : EReal) : EReal := if Ideal.cmp .olt p (Ideal.ofBits .f32 0x00800000#32) = 1 then Ideal.ofBits .f32 0x00000000#32 else
  (∑ k : Fin 252, (if Ideal.cmp .oge p (Ideal.exp2 (((((BitVec.ofNat 32 k.val).toInt : ℝ)) : EReal) - Ideal.ofBits .f32 0x42FC0000#32)) = 1 then
    Ideal.ofBits .f32 0x3F800000#32 else Ideal.ofBits .f32 0x00000000#32)) - Ideal.ofBits .f32 0x42FC0000#32

theorem toInt_small (k : Fin 252) : (BitVec.ofNat 32 k.val).toInt = (k.val : ℤ) := by
  have := k.isLt
  rw [BitVec.toInt_eq_toNat_of_lt] <;> simp [BitVec.toNat_ofNat] <;> omega

theorem refExp_eq (p : EReal) : refExp p = ((expo p : ℝ) : EReal) - ((126 : ℝ) : EReal) := by
  classical
  unfold refExp
  rw [tiny, c126, c1, c0]
  by_cases h : p < field 1
  · have : Ideal.cmp .olt p (field 1) = 1#1 := by simp [Ideal.cmp, h]
    rw [this, if_pos (show (1#1 : BitVec 1) = 1 from rfl)]
    unfold expo; rw [if_pos h]
    rw [← EReal.coe_sub]; norm_num
  · have h0 : Ideal.cmp .olt p (field 1) = 0#1 := by simp [Ideal.cmp, h]
    rw [h0]
    rw [if_neg (show ¬ (0#1 : BitVec 1) = 1 by decide)]
    congr 1
    rw [← count_eq h]
    refine Finset.sum_congr rfl fun k _ => ?_
    rw [toInt_small, show (((k.val : ℤ) : ℝ) : EReal) = ((k.val : ℝ) : EReal) by norm_cast, exp2_field (by have := k.isLt; omega)]
    by_cases hk : field (k.val + 1) ≤ p
    · simp [Ideal.cmp, hk]
    · simp [Ideal.cmp, hk]

theorem refScale (p : EReal) : Ideal.exp2 (refExp p) = scale p := by
  rw [refExp_eq, exp2_field (by have := expo_le p; omega)]; rfl

theorem refInv (p : EReal) : Ideal.exp2 (Ideal.ofBits .f32 0x00000000#32 - refExp p) = inv p := by
  rw [refExp_eq, c0, exp2_neg (expo_pos p) (expo_le p)]; rfl

/-- A halving step over words. -/
def wstep (p : EReal) (k e : BitVec 32) : BitVec 32 :=
  if Ideal.cmp .oge p (Ideal.ofBits .f32 (IntOp.shli .vector (e + k) 23#32)) = 1 then e + k else e

open Classical in
theorem wstep_eq (p : EReal) (k e : ℕ) : wstep p (BitVec.ofNat 32 k) (BitVec.ofNat 32 e) = BitVec.ofNat 32 (step (fun j => field j ≤ p) k e) := by
  unfold wstep step
  rw [← BitVec.ofNat_add]
  change (if Ideal.cmp .oge p (field (e + k)) = 1 then _ else _) = _
  by_cases h : field (e + k) ≤ p
  · simp [Ideal.cmp, h]
  · simp [Ideal.cmp, h]

/-- The exponent field as found by halving, and the test of a small value. -/
def wexp (p : EReal) : BitVec 32 :=
  let e := wstep p 1#32 (wstep p 2#32 (wstep p 4#32 (wstep p 8#32 (wstep p 16#32 (wstep p 32#32 (wstep p 64#32 (wstep p 128#32 0#32)))))))
  if Ideal.cmp .olt p (Ideal.ofBits .f32 0x00800000#32) = 1 then 126#32 else IntOp.minsi e 252#32

theorem wexp_eq (p : EReal) : wexp p = BitVec.ofNat 32 (expo p) := by
  classical
  have hs : wstep p 1#32 (wstep p 2#32 (wstep p 4#32 (wstep p 8#32 (wstep p 16#32 (wstep p 32#32 (wstep p 64#32 (wstep p 128#32 0#32)))))))
      = BitVec.ofNat 32 (search fun j => field j ≤ p) := by
    unfold search
    rw [← wstep_eq, ← wstep_eq, ← wstep_eq, ← wstep_eq, ← wstep_eq, ← wstep_eq, ← wstep_eq, ← wstep_eq]
  unfold wexp
  rw [hs, tiny]
  unfold expo
  by_cases h : p < field 1
  · have : Ideal.cmp .olt p (field 1) = 1#1 := by simp [Ideal.cmp, h]
    rw [this, if_pos h]; exact if_pos rfl
  · have h0 : Ideal.cmp .olt p (field 1) = 0#1 := by simp [Ideal.cmp, h]
    rw [h0, if_neg h]
    rw [if_neg (show ¬ (0#1 : BitVec 1) = 1 by decide)]
    have hl := search_le (P := fun j => field j ≤ p) (anti p)
    generalize (search fun j => field j ≤ p) = n at hl
    have : BitVec.slt (BitVec.ofNat 32 n) 252#32 = decide (n < 252) := by
      have ha : (BitVec.ofNat 32 n).toInt = (n : ℤ) := by
        rw [BitVec.toInt_eq_toNat_of_lt] <;> simp [BitVec.toNat_ofNat] <;> omega
      unfold BitVec.slt
      rw [ha, show (252#32 : BitVec 32).toInt = 252 from rfl]
      norm_cast
    unfold IntOp.minsi
    rw [this]
    by_cases hn : n < 252
    · simp [hn, Nat.min_eq_left (le_of_lt hn)]
    · simp [hn, Nat.min_eq_right (not_lt.mp hn)]

theorem wScale (p : EReal) : Ideal.ofBits .f32 (IntOp.shli .vector (wexp p + 1#32) 23#32) = scale p := by
  rw [wexp_eq, show (1#32 : BitVec 32) = BitVec.ofNat 32 1 from rfl, ← BitVec.ofNat_add]; rfl

theorem wInv (p : EReal) : Ideal.ofBits .f32 (IntOp.shli .vector (253#32 - wexp p) 23#32) = inv p := by
  have h := expo_le p
  rw [wexp_eq]
  change Ideal.ofBits .f32 ((253#32 - BitVec.ofNat 32 (expo p)) <<< 23) = _
  unfold inv field
  congr 2
  apply BitVec.eq_of_toNat_eq
  simp only [BitVec.toNat_sub, BitVec.toNat_ofNat]
  omega

/-- The greatest absolute value, times the constant. -/
def amax (n : ℕ) (v : Fin n → EReal) : EReal :=
  (Finset.univ : Finset (Fin n)).fold max (Ideal.ofBits .f32 0xFF800000#32) (fun l => max (v l) (-(v l))) * Ideal.ofBits .f32 0x3B124925#32

/-- A code: the value times the inverse, held to ±448. -/
def code (p v : EReal) : EReal := min (Ideal.ofBits .f32 0x43E00000#32) (max (Ideal.ofBits .f32 0xC3E00000#32) (v * inv p))

end Cert.Scale
end
-- ==== Proof.XValue.lean ====
/-
  What the tokens' codes and scales are over the extended reals, in the kernel and in the reference.
-/
module

public import proofs.«01_k».proof.Proof.XQuant
public import proofs.«01_k».proof.Proof.Scale
public import proofs.«01_k».proof.Proof.Gen.ReferenceIdeal.Skeleton
public import Idealize.ShloMosaic.Lib.Pipeline.Value
public import Idealize.ShloMosaic.Lib.Pointwise.Tactic
public import Idealize.ShloMosaic.PureOps.Ideal.Laws

@[expose] public section

set_option maxRecDepth 16384

noncomputable section

namespace Cert.XValue

open Cert.Held Cert.Scale
open Idealize.ShloMosaic

/-- A re-laid vector at an index. -/
theorem cast_at {s t : Shape} {α : Type} (x : s.Idx → α) (h : s.ShapeCasts t) (j : t.Idx) (k : s.Idx)
    (e : (s.rowMajor k : ℕ) = (t.rowMajor j : ℕ)) : shapeCast t x h j = x k :=
  congrArg x (Shape.reshapeEquiv_eq_of_rowMajor h e)

/-- A halving step over a vector of words. -/
def vstep {s : Shape} (p : FVec Ideal s .f32) (k : BitVec 32) (e : IVec s 32) : IVec s 32 :=
  select (cmpf .oge p (bitcastToFloat .f32 (shli (addi e (broadcast s k)) (broadcast s 23#32)))) (addi e (broadcast s k)) e

theorem vstep_at {s : Shape} (p : s.Idx → EReal) (k : BitVec 32) (e : IVec s 32) (i : s.Idx) : vstep p k e i = wstep (p i) k (e i) := rfl

/-- Column `l` of block `b`. -/
def col (b : Fin 32) (l : Fin 128) : Fin 4096 := ⟨128 * b.val + l.val, by omega⟩

theorem col_val (b : Fin 32) (l : Fin 128) : (col b l).val = 128 * b.val + l.val := rfl

section Kernel
open Cert.KernelIdeal Cert.KernelIdeal.Gen Cert.KernelIdeal.Hand

theorem pay2_eq (v : S6x128.Idx → EReal) : (k0_pay2 (F := Ideal) v : S6x128.Idx → EReal) = v := by
  unfold k0_pay2; exact shapeCast_self _ _

theorem pay3_at (v : S6x128.Idx → EReal) (t : Fin 6) (z : Fin 1) : (k0_pay3 (F := Ideal) v : S6x1.Idx → EReal) (ix2 t z) = amax 128 fun l => v (ix2 t l) := by
  unfold k0_pay3 amax
  rw [pay2_eq]
  show shapeCast S6x1 _ _ (ix2 t z) * _ = _
  congr 1
  rw [cast_at _ _ (ix2 t z) (fun a => match a with | ⟨0, _⟩ => t)]
  · refine (Ideal.multiReduction_maximumf_single _ _ _ _ _ _).trans (Finset.fold_congr fun l _ => ?_)
    have : ((reduces_S6x128_S6).lift (fun a => match a with | ⟨0, _⟩ => t) l : S6x128.Idx) = ix2 t l := by
      funext a
      match a with
      | ⟨0, _⟩ => rfl
      | ⟨1, _⟩ => rfl
    exact congrArg (fun i => max (v i) (- v i)) this
  · rw [Shape.rowMajor_val_one, Shape.rowMajor_val_two]
    have := z.isLt
    show t.val = t.val * 1 + z.val
    omega

theorem pay96_at (v : S6x128.Idx → EReal) (i : S6x1.Idx) :
    k0_pay96 (k0_pay6 (F := Ideal) (k0_pay3 (F := Ideal) v) (k0_pay4 (F := Ideal) v) (k0_pay5 (F := Ideal) v)) (k0_pay7 (F := Ideal) (k0_pay3 (F := Ideal) v)) i = wexp ((k0_pay3 (F := Ideal) v : S6x1.Idx → EReal) i) := by
  have h4 : k0_pay4 (F := Ideal) v = vstep (k0_pay3 (F := Ideal) v) 32#32 (vstep (k0_pay3 (F := Ideal) v) 64#32 (vstep (k0_pay3 (F := Ideal) v) 128#32 (broadcast S6x1 0#32))) := rfl
  have h6 : ∀ (p : FVec Ideal S6x1 .f32) (e : IVec S6x1 32), k0_pay6 p e (shli (addi e (broadcast S6x1 16#32)) (broadcast S6x1 23#32))
      = minsi (vstep p 1#32 (vstep p 2#32 (vstep p 4#32 (vstep p 8#32 (vstep p 16#32 e))))) (broadcast S6x1 252#32) := fun _ _ => rfl
  have h5 : k0_pay5 (F := Ideal) v = shli (addi (k0_pay4 (F := Ideal) v) (broadcast S6x1 16#32)) (broadcast S6x1 23#32) := rfl
  rw [h5, h6, h4]
  generalize (k0_pay3 (F := Ideal) v) = p
  show Scalar.select _ 126#32 (IntOp.minsi (vstep p 1#32 _ i) 252#32) = _
  simp only [vstep_at]
  rfl

/-- The value that block `b` of token `t` has its power of two from. -/
def xP (X : S6x4096.Idx → EReal) (b : ℕ) (t : Fin 6) : EReal := amax 128 fun l => blk (F := Ideal) X b (ix2 t l)

theorem scale_at (X : S6x4096.Idx → EReal) (b : ℕ) (t : Fin 6) (z : Fin 1) :
    (k0_pay97 (F := Ideal) (xE (F := Ideal) X b) (xT (F := Ideal) X b) : S6x1.Idx → EReal) (ix2 t z) = scale (xP X b t) := by
  unfold xP
  rw [← pay3_at _ t z, ← wScale, ← pay96_at]; rfl

theorem code98_at (X : S6x4096.Idx → EReal) (b : ℕ) (t : Fin 6) (l : Fin 128) :
    (k0_pay98 (F := Ideal) (k0_pay2 (F := Ideal) (blk (F := Ideal) X b)) (xE (F := Ideal) X b) (xT (F := Ideal) X b) : S6x128.Idx → EReal) (ix2 t l) = code (xP X b t) (blk (F := Ideal) X b (ix2 t l)) := by
  unfold code xP
  rw [← pay3_at _ t 0, ← wInv, ← pay96_at]
  unfold k0_pay98
  rw [pay2_eq]
  show min _ (max _ ((_ : EReal) * broadcastTo S6x128 _ _ (ix2 t l))) = _
  rw [broadcastTo_apply _ _ _ (ix2 t 0)]
  · rfl
  · intro a
    match a with
    | ⟨0, _⟩ => rfl
    | ⟨1, _⟩ => rfl

theorem xCode_at (X : S6x4096.Idx → EReal) (b : ℕ) (t : Fin 6) (l : Fin 128) :
    (xCode (F := Ideal) X b : S6x128.Idx → EReal) (ix2 t l) = code (xP X b t) (blk (F := Ideal) X b (ix2 t l)) := code98_at X b t l

theorem xDeq_at (X : S6x4096.Idx → EReal) (b : ℕ) (t : Fin 6) (l : Fin 128) :
    (xDeq (F := Ideal) X b : S6x128.Idx → EReal) (ix2 t l) = code (xP X b t) (blk (F := Ideal) X b (ix2 t l)) * scale (xP X b t) := by
  rw [← code98_at, ← scale_at _ _ _ 0]
  unfold xDeq k0_pay100
  rw [shapeCast_self]
  show (_ : EReal) * broadcastTo S6x128 _ _ (ix2 t l) = _
  rw [broadcastTo_apply _ _ _ (ix2 t 0)]
  intro a
  match a with
  | ⟨0, _⟩ => rfl
  | ⟨1, _⟩ => rfl

theorem xAcc_at (X : S6x4096.Idx → EReal) (k : ℕ) (hk : k ≤ 32) (t : Fin 6) (j : Fin 128) (hj : j.val < k) :
    (xAcc (F := Ideal) X k : S6x128.Idx → EReal) (ix2 t j) = scale (xP X j.val t) := by
  induction k with
  | zero => omega
  | succ k ih =>
    show (k0_pay101 (F := Ideal) (xAcc (F := Ideal) X k) (Scf.iv 0#32 1#32 k) (xE (F := Ideal) X k) (xT (F := Ideal) X k) : S6x128.Idx → EReal) (ix2 t j) = _
    unfold k0_pay101
    rw [shapeCast_self]
    show Scalar.select (IntOp.cmpi .eq (BitVec.ofNat 32 (0 * 128 + j.val)) (Scf.iv 0#32 1#32 k)) (broadcastTo S6x128 _ _ (ix2 t j)) _ = _
    rw [broadcastTo_apply _ _ _ (ix2 t 0), scale_at]
    · have hiv : Scf.iv 0#32 1#32 k = BitVec.ofNat 32 k := by simp [Scf.iv]
      rw [hiv]
      by_cases h : j.val = k
      · rw [h]; simp [Scalar.select, IntOp.cmpi]
      · rw [← ih (by omega) (by omega)]
        have : (BitVec.ofNat 32 (0 * 128 + j.val) == BitVec.ofNat 32 k) = false := by
          rw [beq_eq_false_iff_ne]
          intro hc
          have := congrArg BitVec.toNat hc
          simp only [BitVec.toNat_ofNat] at this
          omega
        simp only [Scalar.select, IntOp.cmpi, this]
        rfl
    · intro a
      match a with
      | ⟨0, _⟩ => rfl
      | ⟨1, _⟩ => rfl

theorem row_at (v : S6x128.Idx → EReal) (o : Fin 6) (h : S6x128.Slices ![o.val, 0] S1x32) (h' : S1x32.ShapeCasts S1x1x32) (g : Fin 32) :
    shapeCast S1x1x32 (extractStridedSlice S1x32 ![o.val, 0] v h) h' (ix3 0 0 g) = v (ix2 o ⟨g.val, by omega⟩) := by
  rw [cast_at _ _ _ (ix2 0 g)]
  · refine congrArg v (funext fun a => Fin.ext ?_)
    match a with
    | ⟨0, _⟩ => exact Nat.add_zero _
    | ⟨1, _⟩ => exact Nat.zero_add _
  · rw [Shape.rowMajor_val_two, Shape.rowMajor_val_three]; rfl

theorem xRow_at (v : S6x128.Idx → EReal) (t : Fin 6) (g : Fin 32) : (xRow (F := Ideal) v t : S1x1x32.Idx → EReal) (ix3 0 0 g) = v (ix2 t ⟨g.val, by omega⟩) := by
  match t with
  | ⟨0, _⟩ => exact row_at v 0 slices_S6x128_o0_0_S1x32 shapeCasts_S1x32_S1x1x32 g
  | ⟨1, _⟩ => exact row_at v 1 slices_S6x128_o1_0_S1x32 shapeCasts_S1x32_S1x1x32 g
  | ⟨2, _⟩ => exact row_at v 2 slices_S6x128_o2_0_S1x32 shapeCasts_S1x32_S1x1x32 g
  | ⟨3, _⟩ => exact row_at v 3 slices_S6x128_o3_0_S1x32 shapeCasts_S1x32_S1x1x32 g
  | ⟨4, _⟩ => exact row_at v 4 slices_S6x128_o4_0_S1x32 shapeCasts_S1x32_S1x1x32 g
  | ⟨5, _⟩ => exact row_at v 5 slices_S6x128_o5_0_S1x32 shapeCasts_S1x32_S1x1x32 g

theorem scaled_at {X : S6x4096.Idx → EReal} {Y : S6x1x32.Idx → EReal} (h : Scaled (F := Ideal) X Y) (t : Fin 6) (g : Fin 32) :
    Y (ix3 t 0 g) = scale (xP X g.val t) := by
  rw [h t g]
  exact (xRow_at _ t g).trans (xAcc_at X 32 le_rfl t ⟨g.val, by omega⟩ g.isLt)

theorem coded_at {X : S6x4096.Idx → EReal} {Y : S6x4096.Idx → EReal} (h : Coded (F := Ideal) X 32 Y) (t : Fin 6) (b : Fin 32) (l : Fin 128) :
    Y (ix2 t (col b l)) = code (xP X b.val t) (blk (F := Ideal) X b.val (ix2 t l)) :=
  (h b b.isLt t l).trans (xCode_at X b.val t l)

theorem blk_at (X : S6x4096.Idx → EReal) (b : Fin 32) (t : Fin 6) (l : Fin 128) :
    blk (F := Ideal) X b.val (ix2 t l) = X (ix2 t (col b l)) := by
  unfold blk
  refine congrArg X (congrArg₂ ix2 rfl (Fin.ext ?_))
  rw [col_val]
  have := b.isLt; have := l.isLt
  show (128 * b.val + l.val) % 4096 = 128 * b.val + l.val
  omega

end Kernel

section Reference
open Cert.ReferenceIdeal Cert.ReferenceIdeal.Gen

theorem rpay4_at (X : S6x4096.Idx → EReal) (t : Fin 6) (b : Fin 32) (l : Fin 128) :
    (k0_pay4 (F := Ideal) X : S6x32x128.Idx → EReal) (ix3 t b l) = X (ix2 t (col b l)) := by
  unfold k0_pay4
  rw [shapeCast_self]
  refine cast_at _ _ _ _ ?_
  rw [Shape.rowMajor_val_two, Shape.rowMajor_val_three]
  show t.val * 4096 + (128 * b.val + l.val) = (t.val * 32 + b.val) * 128 + l.val
  omega

/-- From the values to the exponents. -/
def tail (v7 : FVec Ideal S6x32 .f32) : FVec Ideal S6x32 .f32 :=
  select (cmpf .olt v7 (broadcast S6x32 (Scalar.ofBits .f32 0x00800000#32))) (broadcast S6x32 (Scalar.ofBits .f32 0x00000000#32))
    (subf (multiReduction .add [2] S6x32 (select (cmpf .oge (broadcastTo S6x32x252 (shapeCast S6x32x1 v7 shapeCasts_S6x32_S6x32x1) broadcasts_S6x32x1_S6x32x252)
        (exp2 (subf (sitofp .f32 (iota .tc S6x32x252 32 [2] iota_S6x32x252_d2_w32)) (broadcast S6x32x252 (Scalar.ofBits .f32 0x42FC0000#32)))))
        (broadcast S6x32x252 (Scalar.ofBits .f32 0x3F800000#32)) (broadcast S6x32x252 (Scalar.ofBits .f32 0x00000000#32)))
      0x00000000#32 reduces_S6x32x252_S6x32 (.inl rfl) rfl) (broadcast S6x32 (Scalar.ofBits .f32 0x42FC0000#32)))

theorem tail_at (v7 : S6x32.Idx → EReal) (t : Fin 6) (b : Fin 32) : tail v7 (ix2 t b) = refExp (v7 (ix2 t b)) := by
  have hs : ∀ (w : FVec Ideal S6x32x252 .f32) (h) (h2) (h3), (∀ k : Fin 252, w (ix3 t b k) = (if Ideal.cmp .oge (v7 (ix2 t b)) (Ideal.exp2 (((((BitVec.ofNat 32 k.val).toInt : ℝ)) : EReal) - Ideal.ofBits .f32 0x42FC0000#32)) = 1 then
      Ideal.ofBits .f32 0x3F800000#32 else Ideal.ofBits .f32 0x00000000#32)) →
      (multiReduction .add [2] S6x32 w 0x00000000#32 h h2 h3 (ix2 t b) : EReal) = ∑ k : Fin 252, (if Ideal.cmp .oge (v7 (ix2 t b)) (Ideal.exp2 (((((BitVec.ofNat 32 k.val).toInt : ℝ)) : EReal) - Ideal.ofBits .f32 0x42FC0000#32)) = 1 then
      Ideal.ofBits .f32 0x3F800000#32 else Ideal.ofBits .f32 0x00000000#32) := by
    intro w h h2 h3 hw
    refine (Ideal.multiReduction_add_single _ _ _ _ _ _).trans (Finset.sum_congr rfl fun k _ => ?_)
    have : (h.lift (ix2 t b) k : S6x32x252.Idx) = ix3 t b k := by
      funext a
      match a with
      | ⟨0, _⟩ => rfl
      | ⟨1, _⟩ => rfl
      | ⟨2, _⟩ => rfl
    exact (congrArg w this).trans (hw k)
  unfold refExp
  rw [← hs _ reduces_S6x32x252_S6x32 (.inl rfl) rfl]
  · rfl
  · intro k
    have : broadcastTo S6x32x252 (shapeCast S6x32x1 v7 shapeCasts_S6x32_S6x32x1) broadcasts_S6x32x1_S6x32x252 (ix3 t b k) = v7 (ix2 t b) := by
      rw [broadcastTo_apply _ _ _ (ix3 t b 0), cast_at _ _ _ (ix2 t b)]
      · rw [Shape.rowMajor_val_two, Shape.rowMajor_val_three]
        show t.val * 32 + b.val = (t.val * 32 + b.val) * 1 + 0
        omega
      · intro a
        match a with
        | ⟨0, _⟩ => rfl
        | ⟨1, _⟩ => rfl
        | ⟨2, _⟩ => rfl
    rw [← this, ← Nat.zero_add k.val, ← Nat.zero_mul 252]
    rfl

/-- The value a block's power of two comes from, as the reference takes it. -/
def top (v3 : FVec Ideal S6x32x128 .f32) : FVec Ideal S6x32 .f32 :=
  mulf (multiReduction .maximumf [2] S6x32 (absf v3) 0xFF800000#32 reduces_S6x32x128_S6x32 (.inl rfl) rfl) (broadcast S6x32 (Scalar.ofBits .f32 0x3B124925#32))

theorem top_at (v : S6x32x128.Idx → EReal) (t : Fin 6) (b : Fin 32) : top v (ix2 t b) = amax 128 fun l => v (ix3 t b l) := by
  refine congrArg (fun z : EReal => z * Ideal.ofBits .f32 0x3B124925#32) (?_ : multiReduction .maximumf [2] S6x32 (absf (F := Ideal) (φ := .f32) v) 0xFF800000#32 reduces_S6x32x128_S6x32 (.inl rfl) rfl (ix2 t b) = _)
  refine (Ideal.multiReduction_maximumf_single _ _ _ _ _ _).trans (Finset.fold_congr fun l _ => ?_)
  have : (reduces_S6x32x128_S6x32.lift (ix2 t b) l : S6x32x128.Idx) = ix3 t b l := by
    funext a
    match a with
    | ⟨0, _⟩ => rfl
    | ⟨1, _⟩ => rfl
    | ⟨2, _⟩ => rfl
  exact congrArg (fun i => max (v i) (- v i)) this

theorem rpay5_eq (X : S6x4096.Idx → EReal) : k0_pay5 (F := Ideal) X = tail (top (k0_pay4 (F := Ideal) X)) := by
  unfold k0_pay5 tail top; rfl

theorem rpay5_at (X : S6x4096.Idx → EReal) (t : Fin 6) (b : Fin 32) :
    (k0_pay5 (F := Ideal) X : S6x32.Idx → EReal) (ix2 t b) = refExp (amax 128 fun l => X (ix2 t (col b l))) := by
  rw [rpay5_eq, tail_at, top_at]
  exact congrArg (fun f => refExp (amax 128 f)) (funext fun l => rpay4_at X t b l)

theorem rscale_at (X : S6x4096.Idx → EReal) (t : Fin 6) (b : Fin 32) :
    (k0_pay6 (F := Ideal) X : S6x32.Idx → EReal) (ix2 t b) = scale (amax 128 fun l => X (ix2 t (col b l))) := by
  rw [← refScale, ← rpay5_at]; unfold k0_pay6; generalize k0_pay5 (F := Ideal) X = e; rfl

theorem rcode_at (X : S6x4096.Idx → EReal) (t : Fin 6) (b : Fin 32) (l : Fin 128) :
    (k0_pay7 (F := Ideal) X : S6x32x128.Idx → EReal) (ix3 t b l)
      = code (amax 128 fun l => X (ix2 t (col b l))) (X (ix2 t (col b l))) := by
  unfold code
  rw [← refInv, ← rpay5_at, ← rpay4_at X t b l]
  unfold k0_pay7
  generalize k0_pay5 (F := Ideal) X = e
  generalize k0_pay4 (F := Ideal) X = x
  show min _ (max _ ((_ : EReal) * broadcastTo S6x32x128 _ _ (ix3 t b l))) = _
  rw [broadcastTo_apply _ _ _ (ix3 t b 0), cast_at _ _ _ (ix2 t b)]
  · rfl
  · rw [Shape.rowMajor_val_two, Shape.rowMajor_val_three]
    show t.val * 32 + b.val = (t.val * 32 + b.val) * 1 + 0
    omega
  · intro a
    match a with
    | ⟨0, _⟩ => rfl
    | ⟨1, _⟩ => rfl
    | ⟨2, _⟩ => rfl

theorem rpay8_at (X : S6x4096.Idx → EReal) (t : Fin 6) (b : Fin 32) (l : Fin 128) :
    (k0_pay8 (F := Ideal) X : S6x4096.Idx → EReal) (ix2 t (col b l))
      = code (amax 128 fun l => X (ix2 t (col b l))) (X (ix2 t (col b l))) := by
  rw [← rcode_at]
  unfold k0_pay8
  refine cast_at _ _ _ _ ?_
  rw [Shape.rowMajor_val_two, Shape.rowMajor_val_three]
  show (t.val * 32 + b.val) * 128 + l.val = t.val * 4096 + (128 * b.val + l.val)
  omega

theorem rpay9_at (X : S6x4096.Idx → EReal) (t : Fin 6) (b : Fin 32) :
    (k0_pay9 (F := Ideal) X : S6x1x32.Idx → EReal) (ix3 t 0 b) = scale (amax 128 fun l => X (ix2 t (col b l))) := by
  rw [← rscale_at]
  unfold k0_pay9
  refine cast_at _ _ _ _ ?_
  rw [Shape.rowMajor_val_two, Shape.rowMajor_val_three]
  show t.val * 32 + b.val = (t.val * 1 + 0) * 32 + b.val
  omega

end Reference

end Cert.XValue
end
-- ==== Proof.XClaim.lean ====
/-
  The tokens' codes and scales after a whole run, in the kernel and in the reference, over the extended reals.
-/
module

public import proofs.«01_k».proof.Proof.XValue
public import proofs.«01_k».proof.Proof.Frame
public import proofs.«01_k».proof.Proof.Gen.ReferenceIdeal.Value
public import Idealize.ShloMosaic.Lib.Pipeline.ArrRel
public import Idealize.ShloMosaic.Lib.Pipeline.ValueKit.Point

@[expose] public section

set_option maxRecDepth 16384

noncomputable section

namespace Cert.XClaim

open Cert.Held Cert.Scale Cert.XValue
open Idealize.ShloMosaic Idealize.SL.Sem Idealize.ShloMosaic.Pipeline

/-- The tokens as a matrix. -/
abbrev tokens (x : (⟨3, ![6, 1, 4096]⟩ : Shape).Idx → EReal) : (⟨2, ![6, 4096]⟩ : Shape).Idx → EReal :=
  shapeCast (⟨2, ![6, 4096]⟩ : Shape) x (by decide)

/-- The codes a matrix of tokens has. -/
def codes (X : (⟨2, ![6, 4096]⟩ : Shape).Idx → EReal) (i : (⟨2, ![6, 4096]⟩ : Shape).Idx) : EReal :=
  code (amax 128 fun l => X (ix2 (i 0 : Fin 6) (col ⟨(i 1).val / 128, by have : (i 1).val < 4096 := (i 1).isLt; omega⟩ l))) (X i)

/-- The scales a matrix of tokens has. -/
def scales (X : (⟨2, ![6, 4096]⟩ : Shape).Idx → EReal) (i : (⟨3, ![6, 1, 32]⟩ : Shape).Idx) : EReal :=
  scale (amax 128 fun l => X (ix2 (i 0 : Fin 6) (col (i 2 : Fin 32) l)))

theorem split (i : (⟨2, ![6, 4096]⟩ : Shape).Idx) : ∃ (t : Fin 6) (b : Fin 32) (l : Fin 128), i = ix2 t (col b l) := by
  have h : (i 1).val < 4096 := (i 1).isLt
  refine ⟨i 0, ⟨(i 1).val / 128, by omega⟩, ⟨(i 1).val % 128, by omega⟩, ?_⟩
  funext a
  match a with
  | ⟨0, _⟩ => rfl
  | ⟨1, _⟩ => exact Fin.ext (show (i 1).val = 128 * ((i 1).val / 128) + (i 1).val % 128 by omega)

theorem split3 (i : (⟨3, ![6, 1, 32]⟩ : Shape).Idx) : ∃ (t : Fin 6) (g : Fin 32), i = ix3 t 0 g := by
  refine ⟨i 0, i 2, ?_⟩
  funext a
  match a with
  | ⟨0, _⟩ => rfl
  | ⟨1, _⟩ => exact Fin.ext (by have : (i 1).val < 1 := (i 1).isLt; show (i 1).val = 0; omega)
  | ⟨2, _⟩ => rfl

theorem codes_at (X : (⟨2, ![6, 4096]⟩ : Shape).Idx → EReal) (t : Fin 6) (b : Fin 32) (l : Fin 128) :
    codes X (ix2 t (col b l)) = code (amax 128 fun l => X (ix2 t (col b l))) (X (ix2 t (col b l))) := by
  unfold codes
  have : (⟨(col b l).val / 128, by have := (col b l).isLt; omega⟩ : Fin 32) = b := Fin.ext (by have := l.isLt; show (128 * b.val + l.val) / 128 = b.val; omega)
  exact congrArg (fun b' => code (amax 128 fun l => X (ix2 t (col b' l))) (X (ix2 t (col b l)))) this

section Kernel
open Cert.KernelIdeal Cert.KernelIdeal.Gen Cert.KernelIdeal.Hand

theorem codes_of {X : S6x4096.Idx → EReal} {Y : S6x4096.Idx → EReal} (h : Coded (F := Ideal) X 32 Y) : Y = codes X := by
  funext i
  obtain ⟨t, b, l, rfl⟩ := split i
  rw [coded_at h t b l, codes_at, blk_at]
  unfold xP
  exact congrArg (fun f => code (amax 128 f) (X (ix2 t (col b l)))) (funext fun l => blk_at X b t l)

theorem scales_of {X : S6x4096.Idx → EReal} {Y : S6x1x32.Idx → EReal} (h : Scaled (F := Ideal) X Y) : Y = scales X := by
  funext i
  obtain ⟨t, g, rfl⟩ := split3 i
  rw [scaled_at h t g]
  unfold xP
  exact congrArg (fun f => scale (amax 128 f)) (funext fun l => blk_at X g t l)

variable (m : (ℓ : Loc nD τ sig) → Buf (Elt Ideal) ℓ) (ρ : Dev nD → PrngReg)

theorem tokens_kernel (c : Dev nD) : xIn m c ⟨0, by decide⟩ = tokens (m ((c.tc : Thread nD τ).loc main_arg0)) := by
  funext i
  unfold xIn iblk
  blk_simp
  entry_read
  refine congrArg (tokens (m ((c.tc : Thread nD τ).loc main_arg0))) (funext fun a => Fin.ext ?_)
  have h : ∀ a, win0_1.index (⟨0, by decide⟩ : Fin grid0.N) a = 0 := by decide +kernel
  exact win0_1.rect_emb_val_of_index_zero ⟨0, by decide⟩ a (h a) i

theorem codes_kernel {r : PUnit × MemSt nD τ sig (Elt Ideal)} (h : RDat.FramePost cfg0 (rdat m) (V m) r) (c : Dev nD) :
    r.2.mem ((c.tc : Thread nD τ).loc main_v4_1) = codes (tokens (m ((c.tc : Thread nD τ).loc main_arg0))) := by
  obtain ⟨X, ⟨Y, hY, hX⟩, hG⟩ := ((h c).1 5).emb_eq_of_wholeAt (t₀ := (⟨0, by decide⟩ : Fin cfg0.N)) (by decide +kernel)
  have hX' : Coded (F := Ideal) (xIn m c ⟨0, by decide⟩) 32 X := hX
  rw [← tokens_kernel m c, ← codes_of hX']
  funext i
  exact hG i

theorem scales_kernel {r : PUnit × MemSt nD τ sig (Elt Ideal)} (h : RDat.FramePost cfg0 (rdat m) (V m) r) (c : Dev nD) :
    r.2.mem ((c.tc : Thread nD τ).loc main_v4_2) = scales (tokens (m ((c.tc : Thread nD τ).loc main_arg0))) := by
  obtain ⟨X, ⟨Y, hY, hX⟩, hG⟩ := ((h c).1 6).emb_eq_of_wholeAt (t₀ := (⟨0, by decide⟩ : Fin cfg0.N)) (by decide +kernel)
  have hX' : Scaled (F := Ideal) (xIn m c ⟨0, by decide⟩) X := hX
  rw [← tokens_kernel m c, ← scales_of hX']
  funext i
  exact hG i

end Kernel

section Reference
open Cert.ReferenceIdeal Cert.ReferenceIdeal.Gen

variable (m : (ℓ : Loc nD τ sig) → Buf (Elt Ideal) ℓ)

theorem tokens_reference (c : Dev nD) : (iblk m c 0 ⟨0, by decide⟩ : S6x4096.Idx → EReal) = tokens (m ((c.tc : Thread nD τ).loc main_arg0)) := by
  funext i
  unfold iblk
  blk_simp
  entry_read
  refine congrArg (tokens (m ((c.tc : Thread nD τ).loc main_arg0))) (funext fun a => Fin.ext ?_)
  have h : ∀ a, win0_0.index (⟨0, by decide⟩ : Fin grid0.N) a = 0 := by decide +kernel
  exact win0_0.rect_emb_val_of_index_zero ⟨0, by decide⟩ a (h a) i

theorem zeros2 : (![0, 0] : Fin 2 → ℕ) = fun _ => 0 := by decide
theorem zeros3 : (![0, 0, 0] : Fin 3 → ℕ) = fun _ => 0 := by decide

theorem out10_eq (x0 : S6x4096.Idx → EReal) (x1 x2 x3 x4 x5 x6 x7 x8) : out0_10 (F := Ideal) x0 x1 x2 x3 x4 x5 x6 x7 x8 = codes x0 := by
  unfold out0_10
  rw [View.canon_cons_unit_zero zeros2, View.ld_unit_zero zeros2]
  funext i
  obtain ⟨t, b, l, rfl⟩ := split i
  rw [codes_at]
  exact rpay8_at x0 t b l

theorem out11_eq (x0 : S6x4096.Idx → EReal) (x1 x2 x3 x4 x5 x6 x7 x8) : out0_11 (F := Ideal) x0 x1 x2 x3 x4 x5 x6 x7 x8 = scales x0 := by
  unfold out0_11
  rw [View.canon_cons_unit_zero zeros3, View.ld_unit_zero zeros2]
  funext i
  obtain ⟨t, g, rfl⟩ := split3 i
  exact rpay9_at x0 t g

theorem codes_reference (c : Dev nD) : (dats m 0 c).arrAt 10 cfg0.N = codes (tokens (m ((c.tc : Thread nD τ).loc main_arg0))) := by
  funext i
  refine ((dats m 0 c).arrAt_emb_eq_after_last 10 (⟨0, by decide⟩ : Fin cfg0.N) (by decide +kernel) i).trans ?_
  rw [after0_10, out10_eq, tokens_reference]
  rfl

theorem scales_reference (c : Dev nD) : (dats m 0 c).arrAt 11 cfg0.N = scales (tokens (m ((c.tc : Thread nD τ).loc main_arg0))) := by
  funext i
  refine ((dats m 0 c).arrAt_emb_eq_after_last 11 (⟨0, by decide⟩ : Fin cfg0.N) (by decide +kernel) i).trans ?_
  rw [after0_11, out11_eq, tokens_reference]
  rfl

end Reference

end Cert.XClaim
end
-- ==== Proof.HSum.lean ====
/-
  The sums of the hidden layer: a chunked sum is one sum, and a sum over all columns is the sum over the even and the odd ones.
-/
module

public import proofs.«01_k».proof.Proof.Scale
public import Idealize.ShloMosaic.Lib.Pipeline.Value
public import Idealize.ShloMosaic.PureOps.Ideal.Laws

@[expose] public section

noncomputable section

namespace Cert.HSum

open Idealize.ShloMosaic Cert.Scale

/-- Chunk by chunk is all at once. -/
theorem sum_chunks {M : Type} [AddCommMonoid M] (f : ℕ → M) (w K : ℕ) :
    ∑ k ∈ Finset.range K, ∑ r ∈ Finset.range w, f (w * k + r) = ∑ n ∈ Finset.range (w * K), f n := by
  induction K with
  | zero => simp
  | succ K ih => rw [Finset.sum_range_succ, ih, Nat.mul_succ, Finset.sum_range_add]

/-- The even ones and the odd ones are all. -/
theorem sum_pairs {M : Type} [AddCommMonoid M] (f : ℕ → M) (K : ℕ) :
    ∑ j ∈ Finset.range K, f (2 * j) + ∑ j ∈ Finset.range K, f (2 * j + 1) = ∑ n ∈ Finset.range (2 * K), f n := by
  rw [← sum_chunks f 2 K, ← Finset.sum_add_distrib]
  refine Finset.sum_congr rfl fun k _ => ?_
  rw [Finset.sum_range_succ, Finset.sum_range_one]
  rfl

/-- The low half of a byte as a signed number, and the high half: by shifts. -/
def nib (p : ℕ) (b : BitVec 8) : BitVec 32 :=
  if p = 0 then IntOp.shrsi .vector (IntOp.shli .vector (b.setWidth 32) 28#32) 28#32 else IntOp.shrsi .vector (IntOp.shli .vector (b.setWidth 32) 24#32) 28#32

/-- The halves by masks are the halves by shifts. -/
theorem nib_low : ∀ b : BitVec 8, Scalar.select (IntOp.cmpi .sge (b.setWidth 32 &&& 15#32) 8#32) ((b.setWidth 32 &&& 15#32) - 16#32) (b.setWidth 32 &&& 15#32) = nib 0 b := by
  decide +kernel

theorem nib_high : ∀ b : BitVec 8, Scalar.select (IntOp.cmpi .sge (IntOp.shrui .vector (b.setWidth 32) 4#32) 8#32) (IntOp.shrui .vector (b.setWidth 32) 4#32 - 16#32) (IntOp.shrui .vector (b.setWidth 32) 4#32) = nib 1 b := by
  decide +kernel

/-- The weight of input `n` for output `f` of expert `e`: the half byte times its group's scale. -/
def wt (A : (⟨3, ![47, 1536, 2048]⟩ : Shape).Idx → BitVec 8) (S : (⟨3, ![47, 1536, 32]⟩ : Shape).Idx → EReal) (e : Fin 47) (f : Fin 1536) (n : ℕ) : EReal :=
  ((((nib (n % 2) (A (ix3 e f (Fin.ofNat 2048 (n / 2))))).toInt : ℝ)) : EReal) * S (ix3 e f (Fin.ofNat 32 (n / 128)))

/-- A projection of a row. -/
def proj (A : (⟨3, ![47, 1536, 2048]⟩ : Shape).Idx → BitVec 8) (S : (⟨3, ![47, 1536, 32]⟩ : Shape).Idx → EReal) (x : Fin 4096 → EReal) (e : Fin 47) (f : Fin 1536) : EReal :=
  ∑ n ∈ Finset.range 4096, x (Fin.ofNat 4096 n) * wt A S e f n

/-- The hidden layer of a row. -/
def hidden (A : (⟨3, ![47, 1536, 2048]⟩ : Shape).Idx → BitVec 8) (S : (⟨3, ![47, 1536, 32]⟩ : Shape).Idx → EReal) (A' : (⟨3, ![47, 1536, 2048]⟩ : Shape).Idx → BitVec 8)
    (S' : (⟨3, ![47, 1536, 32]⟩ : Shape).Idx → EReal) (x : Fin 4096 → EReal) (e : Fin 47) (f : Fin 1536) : EReal :=
  (proj A S x e f * Ideal.logistic (proj A S x e f)) * proj A' S' x e f

/-- Input `l` of group `g` of the hidden layer. -/
def hcol (g : Fin 12) (l : Fin 128) : Fin 1536 := ⟨128 * g.val + l.val, by omega⟩

/-- The codes of a row of the hidden layer. -/
def hcodes (H : Fin 1536 → EReal) (g : Fin 12) (l : Fin 128) : EReal := code (amax 128 fun l => H (hcol g l)) (H (hcol g l))

/-- The scales of a row of the hidden layer. -/
def hscales (H : Fin 1536 → EReal) (g : Fin 12) : EReal := scale (amax 128 fun l => H (hcol g l))

end Cert.HSum
end
-- ==== Proof.HKernel.lean ====
/-
  The kernel's hidden layer over the extended reals: its chunked products are one sum over the columns.
-/
module

public import proofs.«01_k».proof.Proof.HVal
public import proofs.«01_k».proof.Proof.HSum
public import proofs.«01_k».proof.Proof.XValue
public import Idealize.ShloMosaic.Lib.MatmulPlain

@[expose] public section

set_option maxRecDepth 16384

noncomputable section

namespace Cert.HKernel

open Cert.Held Cert.Scale Cert.XValue Cert.HSum
open Idealize.ShloMosaic
open Cert.KernelIdeal Cert.KernelIdeal.Gen Cert.KernelIdeal.Hand

/-- The packed bytes of a tile, inputs first. -/
def bytes (v : IVec S1x256x128 8) : IVec S128x256 32 :=
  extui 32 (transpose S128x256 [1, 0] (shapeCast S256x128 v shapeCasts_S1x256x128_S256x128) transposes_S256x128_p1_0_S128x256) natLt_8_32

theorem bytes_at (v : IVec S1x256x128 8) (j : Fin 128) (n : Fin 256) : bytes v (ix2 j n) = (v (ix3 0 n j)).setWidth 32 := by
  refine (congrArg (BitVec.setWidth 32) ?_ : BitVec.setWidth 32 (transpose S128x256 [1, 0] (shapeCast S256x128 v shapeCasts_S1x256x128_S256x128) transposes_S256x128_p1_0_S128x256 (ix2 j n)) = _)
  rw [transpose_apply _ _ _ _ (ix2 n j), cast_at _ _ _ (ix3 0 n j)]
  · rw [Shape.rowMajor_val_two, Shape.rowMajor_val_three]
    show (0 * 256 + n.val) * 128 + j.val = n.val * 128 + j.val
    omega
  · intro b
    match b with
    | ⟨0, _⟩ => rfl
    | ⟨1, _⟩ => rfl

/-- Its half bytes, row by row. -/
def nibs (v : IVec S1x256x128 8) : IVec S256x256 32 :=
  shapeCast S256x256 (concatenate S128x2x256 1 [⟨S128x1x256, shapeCast S128x1x256 (shrsi (shli (bytes v) (broadcast S128x256 28#32)) (broadcast S128x256 28#32)) shapeCasts_S128x256_S128x1x256⟩,
    ⟨S128x1x256, shapeCast S128x1x256 (shrsi (shli (bytes v) (broadcast S128x256 24#32)) (broadcast S128x256 28#32)) shapeCasts_S128x256_S128x1x256⟩] concatenates_S128x1x256_S128x1x256_S128x2x256_d1) shapeCasts_S128x2x256_S256x256

theorem nibs_at (v : IVec S1x256x128 8) (r : Fin 256) (n : Fin 256) : nibs v (ix2 r n) = nib (r.val % 2) (v (ix3 0 n ⟨r.val / 2, by omega⟩)) := by
  unfold nibs
  have hrow : ∀ (h : S128x256.ShapeCasts S128x1x256) (w : IVec S128x256 32) (j : Fin 128), shapeCast S128x1x256 w h (ix3 j 0 n) = w (ix2 j n) := by
    intro h w j
    refine cast_at _ _ _ _ ?_
    rw [Shape.rowMajor_val_two, Shape.rowMajor_val_three]
    show j.val * 256 + n.val = (j.val * 1 + 0) * 256 + n.val
    omega
  rw [cast_at _ _ _ (ix3 (⟨r.val / 2, by omega⟩ : Fin 128) (⟨r.val % 2, by omega⟩ : Fin 2) n)]
  · rcases Nat.mod_two_eq_zero_or_one r.val with h | h
    · rw [concatenate_pair_apply_left (t := S128x2x256) (s₁ := S128x1x256) (s₂ := S128x1x256) 1 _ _ _ _ rfl (ix3 (⟨r.val / 2, by omega⟩ : Fin 128) (0 : Fin 1) n), hrow, h]
      · unfold nib
        rw [if_pos rfl, ← bytes_at]; rfl
      · intro b
        match b with
        | ⟨0, _⟩ => rfl
        | ⟨1, _⟩ => exact h.symm
        | ⟨2, _⟩ => rfl
    · rw [concatenate_pair_apply_right (t := S128x2x256) (s₁ := S128x1x256) (s₂ := S128x1x256) 1 _ _ _ _ rfl rfl (ix3 (⟨r.val / 2, by omega⟩ : Fin 128) (0 : Fin 1) n), hrow, h]
      · unfold nib
        rw [if_neg (by decide), ← bytes_at]; rfl
      · intro b hb
        match b, hb with
        | ⟨0, _⟩, _ => rfl
        | ⟨1, _⟩, hb => exact absurd rfl hb
        | ⟨2, _⟩, _ => rfl
      · exact h.symm
  · rw [Shape.rowMajor_val_two, Shape.rowMajor_val_three]
    show (r.val / 2 * 2 + r.val % 2) * 256 + n.val = r.val * 256 + n.val
    rw [Nat.div_add_mod']

theorem scale_row_at (s : S1x1x256.Idx → EReal) (i : Fin 128) (n : Fin 256) :
    broadcastTo S128x256 (truncf (F := Ideal) .bf16 (shapeCast S1x256 s shapeCasts_S1x1x256_S1x256 : FVec Ideal S1x256 .f32) bitsLt_bf16_f32) broadcasts_S1x256_S128x256 (ix2 i n) = s (ix3 0 0 n) := by
  rw [broadcastTo_apply _ _ _ (ix2 0 n)]
  · refine (cast_at s shapeCasts_S1x1x256_S1x256 (ix2 0 n) (ix3 0 0 n) ?_)
    rw [Shape.rowMajor_val_two, Shape.rowMajor_val_three]; rfl
  · intro a
    match a with
    | ⟨0, _⟩ => rfl
    | ⟨1, _⟩ => rfl

theorem rows_at (x y : FVec Ideal S128x256 .bf16) (h : Shape.Concatenates [S128x256, S128x256] S256x256 0) (r n : Fin 256) :
    (concatenate S256x256 0 [⟨S128x256, x⟩, ⟨S128x256, y⟩] h : FVec Ideal S256x256 .bf16) (ix2 r n)
      = if h : r.val < 128 then x (ix2 ⟨r.val, h⟩ n) else y (ix2 ⟨r.val - 128, by omega⟩ n) := by
  by_cases hr : r.val < 128
  · rw [dif_pos hr]
    refine concatenate_pair_apply_left (t := S256x256) (s₁ := S128x256) (s₂ := S128x256) 0 x y h (ix2 r n) rfl (ix2 ⟨r.val, hr⟩ n) ?_
    intro b
    match b with
    | ⟨0, _⟩ => rfl
    | ⟨1, _⟩ => rfl
  · rw [dif_neg hr]
    refine concatenate_pair_apply_right (t := S256x256) (s₁ := S128x256) (s₂ := S128x256) 0 x y h (ix2 r n) rfl rfl (ix2 ⟨r.val - 128, by omega⟩ n) ?_ ?_
    · intro b hb
      match b, hb with
      | ⟨0, _⟩, hb => exact absurd rfl hb
      | ⟨1, _⟩, _ => rfl
    · show r.val - 128 + 128 = r.val
      omega

theorem pay8_at (v : S1x256x128.Idx → BitVec 8) (s0 s1 : S1x1x256.Idx → EReal) (r : Fin 256) (n : Fin 256) :
    (k0_pay8 (F := Ideal) v s0 s1 : S256x256.Idx → EReal) (ix2 r n)
      = ((((nib (r.val % 2) (v (ix3 0 n ⟨r.val / 2, by omega⟩))).toInt : ℝ)) : EReal) * (if r.val < 128 then s0 (ix3 0 0 n) else s1 (ix3 0 0 n)) := by
  rw [← nibs_at]
  unfold k0_pay8
  refine (rows_at _ _ _ r n).trans ?_
  by_cases h : r.val < 128
  · rw [if_pos h, dif_pos h]
    refine congrArg₂ (fun x y : EReal => x * y) ?_ (scale_row_at s0 ⟨r.val, h⟩ n)
    rw [extractStridedSlice_apply _ _ _ _ (ix2 r n)]
    · rfl
    · intro a
      match a with
      | ⟨0, _⟩ => exact (Nat.zero_add _).symm
      | ⟨1, _⟩ => exact (Nat.zero_add _).symm
  · rw [if_neg h, dif_neg h]
    refine congrArg₂ (fun x y : EReal => x * y) ?_ (scale_row_at s1 ⟨r.val - 128, by omega⟩ n)
    rw [extractStridedSlice_apply _ _ _ _ (ix2 r n)]
    · rfl
    · intro a
      match a with
      | ⟨0, _⟩ => show r.val = 128 + (r.val - 128); omega
      | ⟨1, _⟩ => exact (Nat.zero_add _).symm

theorem dot_eq : dot_S16x256_S256x256_S16x256_1_0_0_1_n_n = DotDims.plain 16 256 256 := rfl

/-- The scales of an array with its inputs last. -/
def Swapped (A : S47x32x1536.Idx → EReal) (S : (⟨3, ![47, 1536, 32]⟩ : Shape).Idx → EReal) : Prop := ∀ e g f, A (ix3 e g f) = S (ix3 e f g)

/-- A tile's weight. -/
theorem tile_at (A : S47x1536x2048.Idx → BitVec 8) (A' : S47x32x1536.Idx → EReal) {S} (hS : Swapped A' S) (e : Fin 47) (B k : ℕ) (r n : Fin 256) :
    (k0_pay8 (F := Ideal) (cut (n1 := 1536) (n2 := 2048) A e (256 * B) (128 * k) 256 128) (cut (n1 := 32) (n2 := 1536) A' e (2 * k) (256 * B) 1 256) (cut (n1 := 32) (n2 := 1536) A' e (2 * k + 1) (256 * B) 1 256) : S256x256.Idx → EReal) (ix2 r n)
      = wt A S e (Fin.ofNat 1536 (256 * B + n.val)) (256 * k + r.val) := by
  rw [pay8_at]
  unfold wt
  have h1 : (256 * k + r.val) % 2 = r.val % 2 := by omega
  have h2 : (256 * k + r.val) / 2 = 128 * k + r.val / 2 := by omega
  rw [h1, h2]
  refine congrArg₂ (fun x y : EReal => x * y) rfl ?_
  by_cases h : r.val < 128
  · rw [if_pos h, show (256 * k + r.val) / 128 = 2 * k + 0 from by omega]
    exact hS e _ _
  · rw [if_neg h, show (256 * k + r.val) / 128 = 2 * k + 1 + 0 from by omega]
    exact hS e _ _

theorem ofBits_zero : Ideal.ofBits .f32 0x00000000#32 = 0 := c0

/-- A chunk's product. -/
theorem chunk_at (acc : S16x256.Idx → EReal) (W : S256x256.Idx → EReal) (X : S16x4096.Idx → EReal) (k : ℕ) (t : Fin 16) (n : Fin 256) :
    (k0_pay22 (F := Ideal) acc W (xCh (F := Ideal) X k) (constant S16x256 .f32 0x00000000#32) : S16x256.Idx → EReal) (ix2 t n)
      = acc (ix2 t n) + ∑ r : Fin 256, X (ix2 t (Fin.ofNat 4096 (256 * k + r.val))) * W (ix2 r n) := by
  unfold k0_pay22
  show acc (ix2 t n) + (FloatOps.matmul (F := Ideal) dot_S16x256_S256x256_S16x256_1_0_0_1_n_n none (φ₁ := .bf16) (φ₂ := .bf16) (xCh (F := Ideal) X k) W (constant S16x256 .f32 0x00000000#32) (ix2 t n) : EReal) = _
  rw [dot_eq]
  refine congrArg (acc (ix2 t n) + ·) ((Ideal.matmul_plain_apply (M := 16) (K := 256) (N := 256) none _ _ _ t n).trans ?_)
  have hx : ∀ r : Fin 256, (xCh (F := Ideal) X k : S16x256.Idx → EReal) (ix2 t r) = X (ix2 t (Fin.ofNat 4096 (256 * k + r.val))) := by
    intro r
    refine congrArg X (congrArg₂ ix2 (Fin.ext ?_) rfl)
    show (0 + t.val) % 16 = t.val
    omega
  exact (congrArg₂ (fun a b : EReal => a + b) ofBits_zero (Finset.sum_congr rfl fun r _ => congrArg (fun z : EReal => z * W (ix2 r n)) (hx r))).trans (zero_add _)

theorem accG_at (a : Arrs Ideal) {S} (hS : Swapped a.A5 S) (e : Fin 47) (X : S16x4096.Idx → EReal) (B K : ℕ) (t : Fin 16) (n : Fin 256) :
    (accG a e X B K : S16x256.Idx → EReal) (ix2 t n) = ∑ k ∈ Finset.range K, ∑ r ∈ Finset.range 256, X (ix2 t (Fin.ofNat 4096 (256 * k + r))) * wt a.A4 S e (Fin.ofNat 1536 (256 * B + n.val)) (256 * k + r) := by
  induction K with
  | zero => exact ofBits_zero
  | succ K ih =>
    rw [Finset.sum_range_succ, ← ih]
    refine (chunk_at (accG a e X B K) (wG a e B K) X K t n).trans (congrArg _ ?_)
    rw [Finset.sum_range]
    refine Finset.sum_congr rfl fun r _ => congrArg _ ?_
    exact tile_at a.A4 a.A5 hS e B K r n

theorem accU_at (a : Arrs Ideal) {S} (hS : Swapped a.A7 S) (e : Fin 47) (X : S16x4096.Idx → EReal) (B K : ℕ) (t : Fin 16) (n : Fin 256) :
    (accU a e X B K : S16x256.Idx → EReal) (ix2 t n) = ∑ k ∈ Finset.range K, ∑ r ∈ Finset.range 256, X (ix2 t (Fin.ofNat 4096 (256 * k + r))) * wt a.A6 S e (Fin.ofNat 1536 (256 * B + n.val)) (256 * k + r) := by
  induction K with
  | zero => exact ofBits_zero
  | succ K ih =>
    rw [Finset.sum_range_succ, ← ih]
    refine (chunk_at (accU a e X B K) (wU a e B K) X K t n).trans (congrArg _ ?_)
    rw [Finset.sum_range]
    refine Finset.sum_congr rfl fun r _ => congrArg _ ?_
    exact tile_at a.A6 a.A7 hS e B K r n

theorem pay25_at (g u : S16x256.Idx → EReal) (t : Fin 8) (n : Fin 256) :
    (k0_pay25 (F := Ideal) g u : S8x256.Idx → EReal) (ix2 t n) = (g (ix2 ⟨t.val, by omega⟩ n) * Ideal.logistic (g (ix2 ⟨t.val, by omega⟩ n))) * u (ix2 ⟨t.val, by omega⟩ n) := by
  unfold k0_pay25
  rw [shapeCast_self]
  have h : ∀ (w : S16x256.Idx → EReal), extractStridedSlice S8x256 ![0, 0] w slices_S16x256_o0_0_S8x256 (ix2 t n) = w (ix2 ⟨t.val, by omega⟩ n) := by
    intro w
    refine extractStridedSlice_apply _ _ _ _ _ ?_
    intro a
    match a with
    | ⟨0, _⟩ => exact (Nat.zero_add _).symm
    | ⟨1, _⟩ => exact (Nat.zero_add _).symm
  rw [← h g, ← h u]
  rfl

/-- The kernel's hidden layer. -/
theorem hid_at (a : Arrs Ideal) {S S'} (hS : Swapped a.A5 S) (hS' : Swapped a.A7 S') (e : Fin 47) (X : S16x4096.Idx → EReal) (t : Fin 8) (f : Fin 1536) :
    (hid a e X : S8x1536.Idx → EReal) (ix2 t f) = HSum.hidden a.A4 S a.A6 S' (fun n => X (ix2 ⟨t.val, by omega⟩ n)) e f := by
  have hf : (Fin.ofNat 1536 (256 * (f.val / 256) + f.val % 256)) = f := by
    apply Fin.ext
    show (256 * (f.val / 256) + f.val % 256) % 1536 = f.val
    omega
  unfold HSum.hidden proj
  rw [← sum_chunks _ 256 16, ← sum_chunks _ 256 16]
  refine (pay25_at (accG a e X (f.val / 256) 16) (accU a e X (f.val / 256) 16) t ⟨f.val % 256, Nat.mod_lt _ (by decide)⟩).trans ?_
  rw [accG_at a hS, accU_at a hS', hf]

end Cert.HKernel
end
-- ==== Proof.HQuant.lean ====
/-
  The kernel's codes and scales of the hidden layer over the extended reals.
-/
module

public import proofs.«01_k».proof.Proof.HRows
public import proofs.«01_k».proof.Proof.HSum
public import proofs.«01_k».proof.Proof.XValue

@[expose] public section

set_option maxRecDepth 16384

noncomputable section

namespace Cert.HQuant

open Cert.Held Cert.Scale Cert.XValue Cert.HSum
open Idealize.ShloMosaic
open Cert.KernelIdeal Cert.KernelIdeal.Gen Cert.KernelIdeal.Hand

theorem pay10_at (v : S8x128.Idx → EReal) (t : Fin 8) (z : Fin 1) : (k0_pay10 (F := Ideal) v : S8x1.Idx → EReal) (ix2 t z) = amax 128 fun l => v (ix2 t l) := by
  unfold k0_pay10 amax
  show shapeCast S8x1 _ _ (ix2 t z) * _ = _
  congr 1
  rw [cast_at _ _ (ix2 t z) (fun a => match a with | ⟨0, _⟩ => t)]
  · refine (Ideal.multiReduction_maximumf_single _ _ _ _ _ _).trans (Finset.fold_congr fun l _ => ?_)
    have : ((reduces_S8x128_S8).lift (fun a => match a with | ⟨0, _⟩ => t) l : S8x128.Idx) = ix2 t l := by
      funext a
      match a with
      | ⟨0, _⟩ => rfl
      | ⟨1, _⟩ => rfl
    exact congrArg (fun i => max (v i) (- v i)) this
  · rw [Shape.rowMajor_val_one, Shape.rowMajor_val_two]
    have := z.isLt
    show t.val = t.val * 1 + z.val
    omega

theorem pay27_at (v : S8x128.Idx → EReal) (i : S8x1.Idx) :
    k0_pay27 (hE (F := Ideal) v) (hT (F := Ideal) v) k0_pay15 i = wexp ((k0_pay10 (F := Ideal) v : S8x1.Idx → EReal) i) := by
  have h11 : k0_pay11 (F := Ideal) v = vstep (k0_pay10 (F := Ideal) v) 32#32 (vstep (k0_pay10 (F := Ideal) v) 64#32 (vstep (k0_pay10 (F := Ideal) v) 128#32 (broadcast S8x1 0#32))) := rfl
  have h13 : ∀ (p : FVec Ideal S8x1 .f32) (e : IVec S8x1 32), k0_pay13 p e (cmpf .oge p (bitcastToFloat .f32 (shli (addi e (broadcast S8x1 16#32)) (broadcast S8x1 23#32))))
      = minsi (vstep p 1#32 (vstep p 2#32 (vstep p 4#32 (vstep p 8#32 (vstep p 16#32 e))))) (broadcast S8x1 252#32) := fun _ _ => rfl
  have h12 : k0_pay12 (F := Ideal) v = cmpf .oge (k0_pay10 (F := Ideal) v) (bitcastToFloat .f32 (shli (addi (k0_pay11 (F := Ideal) v) (broadcast S8x1 16#32)) (broadcast S8x1 23#32))) := rfl
  unfold hE hT
  rw [h12, h13, h11]
  generalize (k0_pay10 (F := Ideal) v) = p
  show Scalar.select _ 126#32 (IntOp.minsi (vstep p 1#32 _ i) 252#32) = _
  simp only [vstep_at]
  rfl

theorem hscale_at (v : S8x128.Idx → EReal) (t : Fin 8) (z : Fin 1) :
    (k0_pay28 (F := Ideal) (hE (F := Ideal) v) (hT (F := Ideal) v) k0_pay15 : S8x1.Idx → EReal) (ix2 t z) = scale (amax 128 fun l => v (ix2 t l)) := by
  rw [← pay10_at _ t z, ← wScale, ← pay27_at]; rfl

theorem hcode_at (v : S8x128.Idx → EReal) (t : Fin 8) (l : Fin 128) :
    (hCode (F := Ideal) v : S8x128.Idx → EReal) (ix2 t l) = code (amax 128 fun l => v (ix2 t l)) (v (ix2 t l)) := by
  unfold code
  rw [← pay10_at _ t 0, ← wInv, ← pay27_at]
  unfold hCode k0_pay30
  rw [shapeCast_self]
  unfold k0_pay29
  show min _ (max _ ((_ : EReal) * broadcastTo S8x128 _ _ (ix2 t l))) = _
  rw [broadcastTo_apply _ _ _ (ix2 t 0)]
  · rfl
  · intro a
    match a with
    | ⟨0, _⟩ => rfl
    | ⟨1, _⟩ => rfl

theorem hb_at (H : S8x1536.Idx → EReal) (g : Fin 12) (t : Fin 8) (l : Fin 128) : hb (F := Ideal) H g.val (ix2 t l) = H (ix2 t (hcol g l)) := by
  unfold hb
  refine congrArg H (congrArg₂ ix2 (Fin.ext ?_) (Fin.ext ?_))
  · show (0 + t.val) % 8 = t.val
    omega
  · have := g.isLt; have := l.isLt
    show (128 * g.val + l.val) % 1536 = 128 * g.val + l.val
    omega

theorem hq_at (H : S8x1536.Idx → EReal) (t : Fin 8) (g : Fin 12) (l : Fin 128) : (hq (F := Ideal) H : S8x1536.Idx → EReal) (ix2 t (hcol g l)) = hcodes (fun f => H (ix2 t f)) g l := by
  have h1 : (hcol g l).val / 128 = g.val := by have := l.isLt; show (128 * g.val + l.val) / 128 = g.val; omega
  have h2 : (hcol g l).val % 128 = l.val := by have := l.isLt; show (128 * g.val + l.val) % 128 = l.val; omega
  have e : (hq (F := Ideal) H : S8x1536.Idx → EReal) (ix2 t (hcol g l)) = (hCode (F := Ideal) (hb (F := Ideal) H g.val) : S8x128.Idx → EReal) (ix2 t l) := by
    unfold hq
    exact congr (congrArg (fun n => hCode (F := Ideal) (hb (F := Ideal) H n)) h1) (congrArg₂ ix2 rfl (Fin.ext h2))
  rw [e, hcode_at]
  unfold hcodes
  rw [hb_at]
  exact congrArg (fun f => code (amax 128 f) (H (ix2 t (hcol g l)))) (funext fun l => hb_at H g t l)

theorem hAcc_at (H : S8x1536.Idx → EReal) (k : ℕ) (hk : k ≤ 12) (t : Fin 8) (g : Fin 12) (hj : g.val < k) :
    (hAcc (F := Ideal) lanes H k : S8x128.Idx → EReal) (ix2 t ⟨g.val, by omega⟩) = hscales (fun f => H (ix2 t f)) g := by
  have hsc : hscales (fun f => H (ix2 t f)) g = scale (amax 128 fun l => hb (F := Ideal) H g.val (ix2 t l)) :=
    congrArg (fun f => scale (amax 128 f)) (funext fun l => (hb_at H g t l).symm)
  rw [hsc]
  clear hsc
  induction k with
  | zero => omega
  | succ k ih =>
    show (k0_pay32 (F := Ideal) lanes (hAcc (F := Ideal) lanes H k) (Scf.iv 0#32 1#32 k) (hE (F := Ideal) (hb (F := Ideal) H k)) (hT (F := Ideal) (hb (F := Ideal) H k)) k0_pay15 : S8x128.Idx → EReal) (ix2 t ⟨g.val, by omega⟩) = _
    unfold k0_pay32
    rw [shapeCast_self]
    show Scalar.select (IntOp.cmpi .eq (BitVec.ofNat 32 (0 * 128 + g.val)) (Scf.iv 0#32 1#32 k)) (broadcastTo S8x128 _ _ (ix2 t ⟨g.val, by omega⟩)) _ = _
    rw [broadcastTo_apply _ _ _ (ix2 t 0), hscale_at]
    · have hiv : Scf.iv 0#32 1#32 k = BitVec.ofNat 32 k := by simp [Scf.iv]
      rw [hiv]
      by_cases h : g.val = k
      · subst h
        simp [Scalar.select, IntOp.cmpi]
      · rw [← ih (by omega) (by omega)]
        have : (BitVec.ofNat 32 (0 * 128 + g.val) == BitVec.ofNat 32 k) = false := by
          rw [beq_eq_false_iff_ne]
          intro hc
          have := congrArg BitVec.toNat hc
          simp only [BitVec.toNat_ofNat] at this
          omega
        simp only [Scalar.select, IntOp.cmpi, this]
        rfl
    · intro a
      match a with
      | ⟨0, _⟩ => rfl
      | ⟨1, _⟩ => rfl

end Cert.HQuant
end
-- ==== Proof.HRef.lean ====
/-
  The reference's hidden layer over the extended reals: its two products are one sum over the columns.
-/
module

public import proofs.«01_k».proof.Proof.HSum
public import proofs.«01_k».proof.Proof.XValue
public import proofs.«01_k».proof.Proof.Gen.ReferenceIdeal.Value
public import Idealize.ShloMosaic.Lib.MatmulPlain

@[expose] public section

set_option maxRecDepth 16384

noncomputable section

namespace Cert.HRef

open Cert.Held Cert.Scale Cert.XValue Cert.HSum
open Idealize.ShloMosaic
open Cert.ReferenceIdeal Cert.ReferenceIdeal.Gen

/-- A token's values: its codes times their scales. -/
def xd (X : (⟨2, ![6, 4096]⟩ : Shape).Idx → EReal) (t : Fin 6) (n : Fin 4096) : EReal :=
  code (amax 128 fun l => X (ix2 t (col ⟨n.val / 128, by omega⟩ l))) (X (ix2 t n)) * scale (amax 128 fun l => X (ix2 t (col ⟨n.val / 128, by omega⟩ l)))

theorem rm4 {n0 n1 n2 n3 : ℕ} (a : Fin n0) (b : Fin n1) (c : Fin n2) (d : Fin n3) :
    ((⟨4, ![n0, n1, n2, n3]⟩ : Shape).rowMajor (ix4 a b c d)).val = ((a.val * n1 + b.val) * n2 + c.val) * n3 + d.val :=
  Shape.rowMajor_val_four _

theorem rm3 {n0 n1 n2 : ℕ} (a : Fin n0) (b : Fin n1) (c : Fin n2) :
    ((⟨3, ![n0, n1, n2]⟩ : Shape).rowMajor (ix3 a b c)).val = (a.val * n1 + b.val) * n2 + c.val :=
  Shape.rowMajor_val_three _

theorem rm2 {n0 n1 : ℕ} (a : Fin n0) (b : Fin n1) :
    ((⟨2, ![n0, n1]⟩ : Shape).rowMajor (ix2 a b)).val = a.val * n1 + b.val :=
  Shape.rowMajor_val_two _

section Tokens

/-- The values of all tokens, block by block, from their codes and scales. -/
def vals (s : FVec Ideal S6x32 .f32) (c : FVec Ideal S6x32x128 .fp8e4m3) : FVec Ideal S6x32x128 .bf16 :=
  mulf (extf .bf16 c bitsLt_fp8e4m3_bf16) (broadcastTo S6x32x128 (shapeCast S6x32x1 (truncf .bf16 s bitsLt_bf16_f32) shapeCasts_S6x32_S6x32x1) broadcasts_S6x32x1_S6x32x128)

theorem vals_of (s : S6x32.Idx → EReal) (c : S6x32x128.Idx → EReal) (t : Fin 6) (b : Fin 32) (l : Fin 128) :
    (vals s c : S6x32x128.Idx → EReal) (ix3 t b l) = c (ix3 t b l) * s (ix2 t b) := by
  unfold vals
  refine congrArg (fun z : EReal => c (ix3 t b l) * z) ?_
  rw [broadcastTo_apply _ _ _ (ix3 t b 0), cast_at _ _ _ (ix2 t b)]
  · rfl
  · rw [Shape.rowMajor_val_two, Shape.rowMajor_val_three]
    show t.val * 32 + b.val = (t.val * 32 + b.val) * 1 + 0
    omega
  · intro a
    match a with
    | ⟨0, _⟩ => rfl
    | ⟨1, _⟩ => rfl
    | ⟨2, _⟩ => rfl

theorem vals_at (X : S6x4096.Idx → EReal) (t : Fin 6) (b : Fin 32) (l : Fin 128) :
    (vals (k0_pay6 (F := Ideal) X) (k0_pay7 (F := Ideal) X) : S6x32x128.Idx → EReal) (ix3 t b l) = xd X t (col b l) := by
  have hb : (⟨(col b l).val / 128, by have := (col b l).isLt; omega⟩ : Fin 32) = b := Fin.ext (by have := l.isLt; show (128 * b.val + l.val) / 128 = b.val; omega)
  unfold xd
  rw [hb, ← rcode_at, ← rscale_at]
  exact vals_of _ _ t b l

/-- Every second column, from column `p`. -/
theorem half_at (v : FVec Ideal S6x32x128 .bf16) (p : Fin 2) (h : S6x32x64x2.Slices ![0, 0, 0, p.val] S6x32x64x1) (t : Fin 6) (j : Fin 2048) :
    (shapeCast S6x2048 (shapeCast S6x32x64 (extractStridedSlice S6x32x64x1 ![0, 0, 0, p.val] (shapeCast S6x32x64x2 v shapeCasts_S6x32x128_S6x32x64x2) h) shapeCasts_S6x32x64x1_S6x32x64) shapeCasts_S6x32x64_S6x2048 : S6x2048.Idx → EReal) (ix2 t j)
      = v (ix3 t ⟨j.val / 64, by omega⟩ ⟨2 * (j.val % 64) + p.val, by omega⟩) := by
  rw [cast_at _ _ _ (ix3 t (⟨j.val / 64, by omega⟩ : Fin 32) (⟨j.val % 64, by omega⟩ : Fin 64)),
    cast_at _ _ _ (ix4 t (⟨j.val / 64, by omega⟩ : Fin 32) (⟨j.val % 64, by omega⟩ : Fin 64) (0 : Fin 1)),
    extractStridedSlice_apply _ _ _ _ (ix4 t (⟨j.val / 64, by omega⟩ : Fin 32) (⟨j.val % 64, by omega⟩ : Fin 64) p),
    cast_at _ _ _ (ix3 t (⟨j.val / 64, by omega⟩ : Fin 32) (⟨2 * (j.val % 64) + p.val, by omega⟩ : Fin 128))]
  · refine (rm3 _ _ _).trans (Eq.trans ?_ (rm4 _ _ _ _).symm)
    show (t.val * 32 + j.val / 64) * 128 + (2 * (j.val % 64) + p.val) = ((t.val * 32 + j.val / 64) * 64 + j.val % 64) * 2 + p.val
    omega
  · intro a
    match a with
    | ⟨0, _⟩ => exact (Nat.zero_add _).symm
    | ⟨1, _⟩ => exact (Nat.zero_add _).symm
    | ⟨2, _⟩ => exact (Nat.zero_add _).symm
    | ⟨3, _⟩ => rfl
  · refine (rm4 _ _ _ _).trans (Eq.trans ?_ (rm3 _ _ _).symm)
    show ((t.val * 32 + j.val / 64) * 64 + j.val % 64) * 1 + 0 = (t.val * 32 + j.val / 64) * 64 + j.val % 64
    omega
  · refine (rm3 _ _ _).trans (Eq.trans ?_ (rm2 _ _).symm)
    show (t.val * 32 + j.val / 64) * 64 + j.val % 64 = t.val * 2048 + j.val
    omega

theorem rpay11_at (X : S6x4096.Idx → EReal) (t : Fin 6) (j : Fin 2048) :
    (k0_pay11 (F := Ideal) (k0_pay6 (F := Ideal) X) (k0_pay7 (F := Ideal) X) : S6x2048.Idx → EReal) (ix2 t j) = xd X t (Fin.ofNat 4096 (2 * j.val)) := by
  refine (half_at (vals (k0_pay6 (F := Ideal) X) (k0_pay7 (F := Ideal) X)) 0 slices_S6x32x64x2_o0_0_0_0_S6x32x64x1 t j).trans ((vals_at X t _ _).trans (congrArg (xd X t) (Fin.ext ?_)))
  show 128 * (j.val / 64) + (2 * (j.val % 64) + 0) = (2 * j.val) % 4096
  omega

theorem rpay12_at (X : S6x4096.Idx → EReal) (t : Fin 6) (j : Fin 2048) :
    (k0_pay12 (F := Ideal) (k0_pay6 (F := Ideal) X) (k0_pay7 (F := Ideal) X) : S6x2048.Idx → EReal) (ix2 t j) = xd X t (Fin.ofNat 4096 (2 * j.val + 1)) := by
  refine (half_at (vals (k0_pay6 (F := Ideal) X) (k0_pay7 (F := Ideal) X)) 1 slices_S6x32x64x2_o0_0_0_1_S6x32x64x1 t j).trans ((vals_at X t _ _).trans (congrArg (xd X t) (Fin.ext ?_)))
  show 128 * (j.val / 64) + (2 * (j.val % 64) + 1) = (2 * j.val + 1) % 4096
  omega

end Tokens

section Weights

/-- The packed bytes as words, group by group. -/
def word (A : IVec S47x1536x2048 8) : IVec S47x1536x32x64 32 :=
  shapeCast S47x1536x32x64 (extui 32 A natLt_8_32) shapeCasts_S47x1536x2048_S47x1536x32x64

theorem word_at (A : IVec S47x1536x2048 8) (e : Fin 47) (f : Fin 1536) (g : Fin 32) (q : Fin 64) :
    word A (ix4 e f g q) = (A (ix3 e f ⟨64 * g.val + q.val, by omega⟩)).setWidth 32 := by
  unfold word
  rw [cast_at _ _ _ (ix3 e f (⟨64 * g.val + q.val, by omega⟩ : Fin 2048))]
  · rfl
  · refine (rm3 _ _ _).trans (Eq.trans ?_ (rm4 _ _ _ _).symm)
    show (e.val * 1536 + f.val) * 2048 + (64 * g.val + q.val) = ((e.val * 1536 + f.val) * 32 + g.val) * 64 + q.val
    omega

/-- The scales, repeated over their group. -/
def rep (S : FVec Ideal S47x1536x32 .f32) : FVec Ideal S47x1536x32x64 .bf16 :=
  broadcastTo S47x1536x32x64 (shapeCast S47x1536x32x1 (truncf .bf16 S bitsLt_bf16_f32) shapeCasts_S47x1536x32_S47x1536x32x1) broadcasts_S47x1536x32x1_S47x1536x32x64

theorem rep_at (S : S47x1536x32.Idx → EReal) (e : Fin 47) (f : Fin 1536) (g : Fin 32) (q : Fin 64) : (rep S : S47x1536x32x64.Idx → EReal) (ix4 e f g q) = S (ix3 e f g) := by
  unfold rep
  rw [broadcastTo_apply _ _ _ (ix4 e f g (0 : Fin 1)), cast_at _ _ _ (ix3 e f g)]
  · rfl
  · refine (rm3 _ _ _).trans (Eq.trans ?_ (rm4 _ _ _ _).symm)
    show (e.val * 1536 + f.val) * 32 + g.val = ((e.val * 1536 + f.val) * 32 + g.val) * 1 + 0
    omega
  · intro a
    match a with
    | ⟨0, _⟩ => rfl
    | ⟨1, _⟩ => rfl
    | ⟨2, _⟩ => rfl
    | ⟨3, _⟩ => rfl

/-- A half byte read as signed. -/
def sgn (w : IVec S47x1536x32x64 32) : IVec S47x1536x32x64 32 :=
  select (cmpi .sge w (broadcast S47x1536x32x64 8#32)) (subi w (broadcast S47x1536x32x64 16#32)) w

/-- The weights of the even and of the odd inputs. -/
def lo (A : IVec S47x1536x2048 8) (S : FVec Ideal S47x1536x32 .f32) : FVec Ideal S72192x2048 .bf16 :=
  shapeCast S72192x2048 (mulf (sitofp .bf16 (sgn (andi (word A) (broadcast S47x1536x32x64 15#32)))) (rep S)) shapeCasts_S47x1536x32x64_S72192x2048

def hi (A : IVec S47x1536x2048 8) (S : FVec Ideal S47x1536x32 .f32) : FVec Ideal S72192x2048 .bf16 :=
  shapeCast S72192x2048 (mulf (sitofp .bf16 (sgn (shrui (word A) (broadcast S47x1536x32x64 4#32)))) (rep S)) shapeCasts_S47x1536x32x64_S72192x2048

/-- The row of output `f` of expert `e`. -/
def row (e : Fin 47) (f : Fin 1536) : Fin 72192 := ⟨1536 * e.val + f.val, by omega⟩

theorem flat_at (w : S47x1536x32x64.Idx → EReal) (e : Fin 47) (f : Fin 1536) (j : Fin 2048) :
    shapeCast S72192x2048 w shapeCasts_S47x1536x32x64_S72192x2048 (ix2 (row e f) j) = w (ix4 e f ⟨j.val / 64, by omega⟩ ⟨j.val % 64, by omega⟩) := by
  refine cast_at _ _ _ _ ((rm4 _ _ _ _).trans (Eq.trans ?_ (rm2 _ _).symm))
  show ((e.val * 1536 + f.val) * 32 + j.val / 64) * 64 + j.val % 64 = (1536 * e.val + f.val) * 2048 + j.val
  omega

theorem lo_at (A : IVec S47x1536x2048 8) (S : S47x1536x32.Idx → EReal) (e : Fin 47) (f : Fin 1536) (j : Fin 2048) :
    (lo A S : S72192x2048.Idx → EReal) (ix2 (row e f) j) = wt A S e f (2 * j.val) := by
  unfold lo
  rw [flat_at]
  unfold wt
  rw [show 2 * j.val % 2 = 0 by omega, ← nib_low]
  have h1 : (Fin.ofNat 2048 (2 * j.val / 2)) = (⟨64 * (j.val / 64) + j.val % 64, by omega⟩ : Fin 2048) := Fin.ext (by show (2 * j.val / 2) % 2048 = 64 * (j.val / 64) + j.val % 64; omega)
  have h2 : (Fin.ofNat 32 (2 * j.val / 128)) = (⟨j.val / 64, by omega⟩ : Fin 32) := Fin.ext (by show (2 * j.val / 128) % 32 = j.val / 64; omega)
  have hw : word A (ix4 e f (⟨j.val / 64, by omega⟩ : Fin 32) (⟨j.val % 64, by omega⟩ : Fin 64)) = (A (ix3 e f (⟨64 * (j.val / 64) + j.val % 64, by omega⟩ : Fin 2048))).setWidth 32 := word_at A e f _ _
  rw [h1, h2, ← hw, ← rep_at S e f _ ⟨j.val % 64, by omega⟩]
  rfl

theorem hi_at (A : IVec S47x1536x2048 8) (S : S47x1536x32.Idx → EReal) (e : Fin 47) (f : Fin 1536) (j : Fin 2048) :
    (hi A S : S72192x2048.Idx → EReal) (ix2 (row e f) j) = wt A S e f (2 * j.val + 1) := by
  unfold hi
  rw [flat_at]
  unfold wt
  rw [show (2 * j.val + 1) % 2 = 1 by omega, ← nib_high]
  have h1 : (Fin.ofNat 2048 ((2 * j.val + 1) / 2)) = (⟨64 * (j.val / 64) + j.val % 64, by omega⟩ : Fin 2048) := Fin.ext (by show ((2 * j.val + 1) / 2) % 2048 = 64 * (j.val / 64) + j.val % 64; omega)
  have h2 : (Fin.ofNat 32 ((2 * j.val + 1) / 128)) = (⟨j.val / 64, by omega⟩ : Fin 32) := Fin.ext (by show ((2 * j.val + 1) / 128) % 32 = j.val / 64; omega)
  have hw : word A (ix4 e f (⟨j.val / 64, by omega⟩ : Fin 32) (⟨j.val % 64, by omega⟩ : Fin 64)) = (A (ix3 e f (⟨64 * (j.val / 64) + j.val % 64, by omega⟩ : Fin 2048))).setWidth 32 := word_at A e f _ _
  rw [h1, h2, ← hw, ← rep_at S e f _ ⟨j.val % 64, by omega⟩]
  rfl

theorem dot_eq : dot_S6x2048_S72192x2048_S6x72192_1_1_0_0_n_n = DotDims.transposedRhs 6 2048 72192 := rfl

/-- A projection as the reference takes it. -/
def rproj (x y : FVec Ideal S6x2048 .bf16) (A : IVec S47x1536x2048 8) (S : FVec Ideal S47x1536x32 .f32) : FVec Ideal S6x72192 .f32 :=
  addf (matmul dot_S6x2048_S72192x2048_S6x72192_1_1_0_0_n_n none x (lo A S) (constant S6x72192 .f32 0x00000000#32))
    (matmul dot_S6x2048_S72192x2048_S6x72192_1_1_0_0_n_n none y (hi A S) (constant S6x72192 .f32 0x00000000#32))

theorem prod_at (x : FVec Ideal S6x2048 .bf16) (w : FVec Ideal S72192x2048 .bf16) (t : Fin 6) (r : Fin 72192) :
    (matmul dot_S6x2048_S72192x2048_S6x72192_1_1_0_0_n_n none x w (constant S6x72192 .f32 0x00000000#32) (ix2 t r) : EReal) = ∑ j : Fin 2048, (x (ix2 t j) : EReal) * (w (ix2 r j) : EReal) := by
  refine (Ideal.matmul_transposedRhs_apply (M := 6) (K := 2048) (N := 72192) none x w _ t r).trans ?_
  exact (congrArg (fun a : EReal => a + _) c0).trans (zero_add _)

theorem rproj_at (x y : S6x2048.Idx → EReal) (A : IVec S47x1536x2048 8) (S : S47x1536x32.Idx → EReal) (t : Fin 6) (v : Fin 4096 → EReal)
    (hx : ∀ j : Fin 2048, x (ix2 t j) = v (Fin.ofNat 4096 (2 * j.val))) (hy : ∀ j : Fin 2048, y (ix2 t j) = v (Fin.ofNat 4096 (2 * j.val + 1))) (e : Fin 47) (f : Fin 1536) :
    (rproj x y A S : S6x72192.Idx → EReal) (ix2 t (row e f)) = proj A S v e f := by
  unfold proj
  refine Eq.trans ?_ (sum_pairs (fun n => v (Fin.ofNat 4096 n) * wt A S e f n) 2048)
  refine congrArg₂ (fun a b : EReal => a + b) ((prod_at x (lo A S) t (row e f)).trans ?_) ((prod_at y (hi A S) t (row e f)).trans ?_)
  · rw [Finset.sum_range]
    exact Finset.sum_congr rfl fun j _ => congrArg₂ (fun a b : EReal => a * b) (hx j) (lo_at A S e f j)
  · rw [Finset.sum_range]
    exact Finset.sum_congr rfl fun j _ => congrArg₂ (fun a b : EReal => a * b) (hy j) (hi_at A S e f j)

theorem rpay13_eq (v26 : FVec Ideal S6x32 .f32) (v37 : FVec Ideal S6x32x128 .fp8e4m3) (A : IVec S47x1536x2048 8) (S : FVec Ideal S47x1536x32 .f32) :
    k0_pay13 (F := Ideal) v26 v37 A S = rproj (k0_pay11 (F := Ideal) v26 v37) (k0_pay12 (F := Ideal) v26 v37) A S := rfl

theorem rpay14_eq (x y : FVec Ideal S6x2048 .bf16) (g : FVec Ideal S6x72192 .f32) (A : IVec S47x1536x2048 8) (S : FVec Ideal S47x1536x32 .f32) :
    k0_pay14 (F := Ideal) x y g A S = shapeCast S6x47x12x128 (mulf (mulf g (logistic g)) (rproj x y A S)) shapeCasts_S6x72192_S6x47x12x128 := rfl

/-- The reference's hidden layer of every token and expert. -/
def rhid (X : S6x4096.Idx → EReal) (A : IVec S47x1536x2048 8) (S : S47x1536x32.Idx → EReal) (A' : IVec S47x1536x2048 8) (S' : S47x1536x32.Idx → EReal) : S6x47x12x128.Idx → EReal :=
  k0_pay14 (F := Ideal) (k0_pay11 (F := Ideal) (k0_pay6 (F := Ideal) X) (k0_pay7 (F := Ideal) X)) (k0_pay12 (F := Ideal) (k0_pay6 (F := Ideal) X) (k0_pay7 (F := Ideal) X))
    (k0_pay13 (F := Ideal) (k0_pay6 (F := Ideal) X) (k0_pay7 (F := Ideal) X) A S) A' S'

theorem rhid_at (X : S6x4096.Idx → EReal) (A : IVec S47x1536x2048 8) (S : S47x1536x32.Idx → EReal) (A' : IVec S47x1536x2048 8) (S' : S47x1536x32.Idx → EReal)
    (t : Fin 6) (e : Fin 47) (g : Fin 12) (l : Fin 128) : rhid X A S A' S' (ix4 t e g l) = HSum.hidden A S A' S' (xd X t) e (hcol g l) := by
  unfold rhid HSum.hidden
  rw [rpay13_eq, rpay14_eq]
  rw [cast_at _ _ _ (ix2 t (row e (hcol g l)))]
  · rw [← rproj_at _ _ A S t (xd X t) (rpay11_at X t) (rpay12_at X t), ← rproj_at _ _ A' S' t (xd X t) (rpay11_at X t) (rpay12_at X t)]
    rfl
  · refine (rm2 _ _).trans (Eq.trans ?_ (rm4 _ _ _ _).symm)
    show t.val * 72192 + (1536 * e.val + (128 * g.val + l.val)) = ((t.val * 47 + e.val) * 12 + g.val) * 128 + l.val
    omega

end Weights

end Cert.HRef
end
-- ==== Proof.RQuant.lean ====
/-
  The reference's codes and scales of the hidden layer over the extended reals, and its choice of experts.
-/
module

public import proofs.«01_k».proof.Proof.HSum
public import proofs.«01_k».proof.Proof.XValue
public import proofs.«01_k».proof.Proof.Gen.ReferenceIdeal.Value

@[expose] public section

set_option maxRecDepth 16384

noncomputable section

namespace Cert.RQuant

open Cert.Held Cert.Scale Cert.XValue Cert.HSum
open Idealize.ShloMosaic
open Cert.ReferenceIdeal Cert.ReferenceIdeal.Gen

theorem rm4 {n0 n1 n2 n3 : ℕ} (a : Fin n0) (b : Fin n1) (c : Fin n2) (d : Fin n3) :
    ((⟨4, ![n0, n1, n2, n3]⟩ : Shape).rowMajor (ix4 a b c d)).val = ((a.val * n1 + b.val) * n2 + c.val) * n3 + d.val :=
  Shape.rowMajor_val_four _

theorem rm3 {n0 n1 n2 : ℕ} (a : Fin n0) (b : Fin n1) (c : Fin n2) :
    ((⟨3, ![n0, n1, n2]⟩ : Shape).rowMajor (ix3 a b c)).val = (a.val * n1 + b.val) * n2 + c.val :=
  Shape.rowMajor_val_three _

theorem rm2 {n0 n1 : ℕ} (a : Fin n0) (b : Fin n1) :
    ((⟨2, ![n0, n1]⟩ : Shape).rowMajor (ix2 a b)).val = a.val * n1 + b.val :=
  Shape.rowMajor_val_two _

/-- A column of ones, repeated. -/
theorem wide_at {N : ℕ} {α : Type} (v : S6x47x12.Idx → α) (h : S6x47x12.ShapeCasts S6x47x12x1) (h' : S6x47x12x1.Broadcasts ⟨4, ![6, 47, 12, N]⟩) (t : Fin 6) (e : Fin 47) (g : Fin 12) (k : Fin N) :
    broadcastTo ⟨4, ![6, 47, 12, N]⟩ (shapeCast S6x47x12x1 v h) h' (ix4 t e g k) = v (ix3 t e g) := by
  rw [broadcastTo_apply _ _ _ (ix4 t e g (0 : Fin 1)), cast_at _ _ _ (ix3 t e g)]
  · refine (rm3 _ _ _).trans (Eq.trans ?_ (rm4 _ _ _ _).symm)
    show (t.val * 47 + e.val) * 12 + g.val = ((t.val * 47 + e.val) * 12 + g.val) * 1 + 0
    omega
  · intro a
    match a with
    | ⟨0, _⟩ => rfl
    | ⟨1, _⟩ => rfl
    | ⟨2, _⟩ => rfl
    | ⟨3, _⟩ => rfl

/-- The value a block's power of two comes from. -/
def top (v : FVec Ideal S6x47x12x128 .f32) : FVec Ideal S6x47x12 .f32 :=
  mulf (multiReduction .maximumf [3] S6x47x12 (absf v) 0xFF800000#32 reduces_S6x47x12x128_S6x47x12 (.inl rfl) rfl) (broadcast S6x47x12 (Scalar.ofBits .f32 0x3B124925#32))

theorem top_at (v : S6x47x12x128.Idx → EReal) (t : Fin 6) (e : Fin 47) (g : Fin 12) : top v (ix3 t e g) = amax 128 fun l => v (ix4 t e g l) := by
  refine congrArg (fun z : EReal => z * Ideal.ofBits .f32 0x3B124925#32) (?_ : multiReduction .maximumf [3] S6x47x12 (absf (F := Ideal) (φ := .f32) v) 0xFF800000#32 reduces_S6x47x12x128_S6x47x12 (.inl rfl) rfl (ix3 t e g) = _)
  refine (Ideal.multiReduction_maximumf_single _ _ _ _ _ _).trans (Finset.fold_congr fun l _ => ?_)
  have : (reduces_S6x47x12x128_S6x47x12.lift (ix3 t e g) l : S6x47x12x128.Idx) = ix4 t e g l := by
    funext a
    match a with
    | ⟨0, _⟩ => rfl
    | ⟨1, _⟩ => rfl
    | ⟨2, _⟩ => rfl
    | ⟨3, _⟩ => rfl
  exact congrArg (fun i => max (v i) (- v i)) this

theorem sum_at (w : FVec Ideal S6x47x12x252 .f32) (h h2 h3) (t : Fin 6) (e : Fin 47) (g : Fin 12) (f : Fin 252 → EReal) (hw : ∀ k : Fin 252, w (ix4 t e g k) = f k) :
    (multiReduction .add [3] S6x47x12 w 0x00000000#32 h h2 h3 (ix3 t e g) : EReal) = ∑ k : Fin 252, f k := by
  refine (Ideal.multiReduction_add_single _ _ _ _ _ _).trans (Finset.sum_congr rfl fun k _ => ?_)
  have : (h.lift (ix3 t e g) k : S6x47x12x252.Idx) = ix4 t e g k := by
    funext a
    match a with
    | ⟨0, _⟩ => rfl
    | ⟨1, _⟩ => rfl
    | ⟨2, _⟩ => rfl
    | ⟨3, _⟩ => rfl
  exact (congrArg w this).trans (hw k)

theorem rpay17_at (v : S6x47x12.Idx → EReal) (t : Fin 6) (e : Fin 47) (g : Fin 12) : (k0_pay17 (F := Ideal) v k0_pay16 : S6x47x12.Idx → EReal) (ix3 t e g) = refExp (v (ix3 t e g)) := by
  unfold refExp
  rw [← sum_at (select (cmpf (F := Ideal) (φ := .f32) .oge (broadcastTo S6x47x12x252 (shapeCast S6x47x12x1 v shapeCasts_S6x47x12_S6x47x12x1) broadcasts_S6x47x12x1_S6x47x12x252) (exp2 k0_pay16))
      (broadcast S6x47x12x252 (Scalar.ofBits .f32 0x3F800000#32)) (broadcast S6x47x12x252 (Scalar.ofBits .f32 0x00000000#32))) reduces_S6x47x12x252_S6x47x12 (.inl rfl) rfl t e g]
  · rfl
  · intro k
    have hk : BitVec.ofNat 32 (0 * 252 + k.val) = BitVec.ofNat 32 k.val := congrArg (BitVec.ofNat 32) (by omega)
    rw [← wide_at v shapeCasts_S6x47x12_S6x47x12x1 broadcasts_S6x47x12x1_S6x47x12x252 t e g k, ← hk]
    rfl

theorem rpay18_at (v : S6x47x12.Idx → EReal) (t : Fin 6) (e : Fin 47) (g : Fin 12) : (k0_pay18 (F := Ideal) v k0_pay16 : S6x47x12.Idx → EReal) (ix3 t e g) = scale (v (ix3 t e g)) := by
  rw [← refScale, ← rpay17_at]; unfold k0_pay18; generalize k0_pay17 (F := Ideal) v k0_pay16 = z; rfl

theorem rpay19_at (H : S6x47x12x128.Idx → EReal) (v : S6x47x12.Idx → EReal) (t : Fin 6) (e : Fin 47) (g : Fin 12) (l : Fin 128) :
    (k0_pay19 (F := Ideal) H v k0_pay16 : S6x47x12x128.Idx → EReal) (ix4 t e g l) = code (v (ix3 t e g)) (H (ix4 t e g l)) := by
  unfold code
  rw [← refInv, ← rpay17_at]
  unfold k0_pay19
  generalize k0_pay17 (F := Ideal) v k0_pay16 = z
  show min _ (max _ ((_ : EReal) * broadcastTo S6x47x12x128 _ _ (ix4 t e g l))) = _
  rw [wide_at]
  rfl

/-- Where the token's `j`-th expert is `e`. -/
theorem hit_at (ids : IVec S6x8 32) (t : Fin 6) (j : Fin 8) (e : Fin 47) : k0_pay1 ids (ix3 t j e) = IntOp.cmpi .eq (ids (ix2 t j)) (BitVec.ofNat 32 e.val) := by
  unfold k0_pay1
  show IntOp.cmpi .eq (broadcastTo S6x8x47 _ _ (ix3 t j e)) (BitVec.ofNat 32 (0 * 47 + e.val)) = _
  rw [broadcastTo_apply _ _ _ (ix3 t j (0 : Fin 1)), cast_at _ _ _ (ix2 t j), Nat.zero_mul, Nat.zero_add]
  · refine (rm2 _ _).trans (Eq.trans ?_ (rm3 _ _ _).symm)
    show t.val * 8 + j.val = (t.val * 8 + j.val) * 1 + 0
    omega
  · intro a
    match a with
    | ⟨0, _⟩ => rfl
    | ⟨1, _⟩ => rfl
    | ⟨2, _⟩ => rfl

/-- A sum over the experts that holds one of them. -/
theorem sum_hit (i : BitVec 32) (e : Fin 47) (he : i = BitVec.ofNat 32 e.val) (f : Fin 47 → EReal) :
    ∑ k : Fin 47, Scalar.select (IntOp.cmpi .eq i (BitVec.ofNat 32 k.val)) (f k) (Ideal.ofBits .f32 0x00000000#32) = f e := by
  rw [Finset.sum_eq_single e]
  · rw [he]; simp [Scalar.select, IntOp.cmpi]
  · intro k _ hk
    have : (i == BitVec.ofNat 32 k.val) = false := by
      rw [beq_eq_false_iff_ne, he]
      intro hc
      have := congrArg BitVec.toNat hc
      simp only [BitVec.toNat_ofNat] at this
      exact hk (Fin.ext (by omega))
    simp only [Scalar.select, IntOp.cmpi, this]
    exact c0
  · intro h
    exact absurd (Finset.mem_univ e) h

/-- The hits, repeated over the columns. -/
theorem hits_at {N : ℕ} (w : IVec S6x8x47 1) (h : S6x8x47.ShapeCasts S6x8x47x1) (h1 : S6x8x47x1.ShapeCasts S6x8x47x1) (h2 : S6x8x47x1.Broadcasts ⟨4, ![6, 8, 47, N]⟩) (t : Fin 6) (j : Fin 8) (e : Fin 47) (g : Fin N) :
    broadcastTo ⟨4, ![6, 8, 47, N]⟩ (shapeCast S6x8x47x1 (shapeCast S6x8x47x1 w h) h1) h2 (ix4 t j e g) = w (ix3 t j e) := by
  rw [shapeCast_self, broadcastTo_apply _ _ _ (ix4 t j e (0 : Fin 1)), cast_at _ _ _ (ix3 t j e)]
  · refine (rm3 _ _ _).trans (Eq.trans ?_ (rm4 _ _ _ _).symm)
    show (t.val * 8 + j.val) * 47 + e.val = ((t.val * 8 + j.val) * 47 + e.val) * 1 + 0
    omega
  · intro a
    match a with
    | ⟨0, _⟩ => rfl
    | ⟨1, _⟩ => rfl
    | ⟨2, _⟩ => rfl
    | ⟨3, _⟩ => rfl

/-- One token's row of every expert, whatever the rank of the choice. -/
theorem each_at {N : ℕ} (v : (⟨4, ![6, 1, 47, N]⟩ : Shape).Idx → EReal) (h1 : (⟨4, ![6, 1, 47, N]⟩ : Shape).ShapeCasts ⟨4, ![6, 1, 47, N]⟩) (h2 : (⟨4, ![6, 1, 47, N]⟩ : Shape).Broadcasts ⟨4, ![6, 8, 47, N]⟩) (t : Fin 6) (j : Fin 8) (k : Fin 47) (g : Fin N) (hN : N ≠ 1) :
    broadcastTo ⟨4, ![6, 8, 47, N]⟩ (shapeCast ⟨4, ![6, 1, 47, N]⟩ v h1) h2 (ix4 t j k g) = v (ix4 t (0 : Fin 1) k g) := by
  rw [shapeCast_self]
  refine broadcastTo_apply _ _ _ _ ?_
  intro a
  match a with
  | ⟨0, _⟩ => rfl
  | ⟨1, _⟩ => rfl
  | ⟨2, _⟩ => rfl
  | ⟨3, _⟩ => exact (if_neg hN).symm

theorem one_at (s : S6x47x12.Idx → EReal) (t : Fin 6) (k : Fin 47) (g : Fin 12) :
    shapeCast S6x1x47x12 s shapeCasts_S6x47x12_S6x1x47x12 (ix4 t (0 : Fin 1) k g) = s (ix3 t k g) := by
  refine cast_at _ _ _ _ ((rm3 _ _ _).trans (Eq.trans ?_ (rm4 _ _ _ _).symm))
  show (t.val * 47 + k.val) * 12 + g.val = ((t.val * 1 + 0) * 47 + k.val) * 12 + g.val
  omega

theorem one_at' (c : S6x47x12x128.Idx → EReal) (t : Fin 6) (k : Fin 47) (g : Fin 12) (l : Fin 128) :
    shapeCast S6x1x47x1536 c shapeCasts_S6x47x12x128_S6x1x47x1536 (ix4 t (0 : Fin 1) k (hcol g l)) = c (ix4 t k g l) := by
  refine cast_at _ _ _ _ ((rm4 _ _ _ _).trans (Eq.trans ?_ (rm4 _ _ _ _).symm))
  show ((t.val * 47 + k.val) * 12 + g.val) * 128 + l.val = ((t.val * 1 + 0) * 47 + k.val) * 1536 + (128 * g.val + l.val)
  omega

theorem rpay2_at (s : S6x47x12.Idx → EReal) (ids : IVec S6x8 32) (t : Fin 6) (j : Fin 8) (g : Fin 12) (e : Fin 47) (he : ids (ix2 t j) = BitVec.ofNat 32 e.val) :
    (k0_pay2 (F := Ideal) s ids : S6x8x12.Idx → EReal) (ix3 t j g) = s (ix3 t e g) := by
  unfold k0_pay2
  refine (Ideal.multiReduction_add_single _ _ _ _ _ _).trans (Eq.trans (Finset.sum_congr rfl fun k _ => ?_) (sum_hit _ e he fun k => s (ix3 t k g)))
  have : (reduces_S6x8x47x12_S6x8x12.lift (ix3 t j g) k : S6x8x47x12.Idx) = ix4 t j k g := by
    funext a
    match a with
    | ⟨0, _⟩ => rfl
    | ⟨1, _⟩ => rfl
    | ⟨2, _⟩ => rfl
    | ⟨3, _⟩ => rfl
  rw [this]
  refine congrArg₂ (fun x y => Scalar.select x y (Ideal.ofBits .f32 0x00000000#32)) ((hits_at (N := 12) (k0_pay1 ids) shapeCasts_S6x8x47_S6x8x47x1 shapeCasts_S6x8x47x1_S6x8x47x1 broadcasts_S6x8x47x1_S6x8x47x12 t j k g).trans (hit_at ids t j k))
    ((each_at (N := 12) (shapeCast S6x1x47x12 s shapeCasts_S6x47x12_S6x1x47x12) shapeCasts_S6x1x47x12_S6x1x47x12 broadcasts_S6x1x47x12_S6x8x47x12 t j k g (by decide)).trans (one_at s t k g))

theorem rpay3_at (c : S6x47x12x128.Idx → EReal) (ids : IVec S6x8 32) (t : Fin 6) (j : Fin 8) (g : Fin 12) (l : Fin 128) (e : Fin 47) (he : ids (ix2 t j) = BitVec.ofNat 32 e.val) :
    (k0_pay3 (F := Ideal) c ids : S6x8x1536.Idx → EReal) (ix3 t j (hcol g l)) = c (ix4 t e g l) := by
  unfold k0_pay3
  refine Eq.trans ?_ (sum_hit _ e he fun k => c (ix4 t k g l))
  refine (Ideal.multiReduction_add_single _ 0x00000000#32 _ (.inl rfl) rfl _).trans (Finset.sum_congr rfl fun k _ => ?_)
  have : (reduces_S6x8x47x1536_S6x8x1536.lift (ix3 t j (hcol g l)) k : S6x8x47x1536.Idx) = ix4 t j k (hcol g l) := by
    funext a
    match a with
    | ⟨0, _⟩ => rfl
    | ⟨1, _⟩ => rfl
    | ⟨2, _⟩ => rfl
    | ⟨3, _⟩ => rfl
  rw [this]
  refine congrArg₂ (fun x y => Scalar.select x y (Ideal.ofBits .f32 0x00000000#32)) ((hits_at (N := 1536) (k0_pay1 ids) shapeCasts_S6x8x47_S6x8x47x1 shapeCasts_S6x8x47x1_S6x8x47x1 broadcasts_S6x8x47x1_S6x8x47x1536 t j k (hcol g l)).trans (hit_at ids t j k))
    ((each_at (N := 1536) (shapeCast S6x1x47x1536 c shapeCasts_S6x47x12x128_S6x1x47x1536) shapeCasts_S6x1x47x1536_S6x1x47x1536 broadcasts_S6x1x47x1536_S6x8x47x1536 t j k (hcol g l) (by decide)).trans (one_at' c t k g l))

end Cert.RQuant
end
-- ==== Proof.HClaim.lean ====
/-
  The hidden layer's codes and scales after a whole run, in the kernel and in the reference, over the extended reals.
-/
module

public import proofs.«01_k».proof.Proof.HKernel
public import proofs.«01_k».proof.Proof.HQuant
public import proofs.«01_k».proof.Proof.HRef
public import proofs.«01_k».proof.Proof.RQuant
public import proofs.«01_k».proof.Proof.XClaim

@[expose] public section

set_option maxRecDepth 16384

noncomputable section

namespace Cert.HClaim

open Cert.Held Cert.Scale Cert.XValue Cert.XClaim Cert.HSum Cert.HRef
open Idealize.ShloMosaic Idealize.SL.Sem Idealize.ShloMosaic.Pipeline

abbrev Ids := (⟨3, ![6, 1, 8]⟩ : Shape).Idx → BitVec 32
abbrev Packed := (⟨3, ![47, 1536, 2048]⟩ : Shape).Idx → BitVec 8
abbrev Scales := (⟨3, ![47, 1536, 32]⟩ : Shape).Idx → EReal

/-- A token's expert of rank `j`. -/
def expert (I : Ids) (t : Fin 6) (j : Fin 8) : Fin 47 := Fin.ofNat 47 (I (ix3 t 0 j)).toNat

/-- The hidden layer of token `t` in its expert of rank `j`. -/
def layer (X : (⟨2, ![6, 4096]⟩ : Shape).Idx → EReal) (I : Ids) (A : Packed) (S : Scales) (A' : Packed) (S' : Scales) (t : Fin 6) (j : Fin 8) : Fin 1536 → EReal :=
  HSum.hidden A S A' S' (xd X t) (expert I t j)

/-- The codes of the hidden layer. -/
def layerCodes (X : (⟨2, ![6, 4096]⟩ : Shape).Idx → EReal) (I : Ids) (A : Packed) (S : Scales) (A' : Packed) (S' : Scales) (i : (⟨3, ![6, 8, 1536]⟩ : Shape).Idx) : EReal :=
  hcodes (layer X I A S A' S' (i 0) (i 1)) ⟨(i 2).val / 128, by have : (i 2).val < 1536 := (i 2).isLt; omega⟩ ⟨(i 2).val % 128, by omega⟩

/-- The scales of the hidden layer. -/
def layerScales (X : (⟨2, ![6, 4096]⟩ : Shape).Idx → EReal) (I : Ids) (A : Packed) (S : Scales) (A' : Packed) (S' : Scales) (i : (⟨3, ![6, 8, 12]⟩ : Shape).Idx) : EReal :=
  hscales (layer X I A S A' S' (i 0) (i 1)) (i 2)

theorem layerCodes_at (X I A S A' S') (t : Fin 6) (j : Fin 8) (g : Fin 12) (l : Fin 128) :
    layerCodes X I A S A' S' (ix3 t j (hcol g l)) = hcodes (layer X I A S A' S' t j) g l := by
  have h1 : (⟨(hcol g l).val / 128, by have := (hcol g l).isLt; omega⟩ : Fin 12) = g := Fin.ext (by have := l.isLt; show (128 * g.val + l.val) / 128 = g.val; omega)
  have h2 : (⟨(hcol g l).val % 128, by omega⟩ : Fin 128) = l := Fin.ext (by have := l.isLt; show (128 * g.val + l.val) % 128 = l.val; omega)
  exact congrArg₂ (hcodes (layer X I A S A' S' t j)) h1 h2

theorem splitH (i : (⟨3, ![6, 8, 1536]⟩ : Shape).Idx) : ∃ (t : Fin 6) (j : Fin 8) (g : Fin 12) (l : Fin 128), i = ix3 t j (hcol g l) := by
  have h : (i 2).val < 1536 := (i 2).isLt
  refine ⟨i 0, i 1, ⟨(i 2).val / 128, by omega⟩, ⟨(i 2).val % 128, by omega⟩, ?_⟩
  funext a
  match a with
  | ⟨0, _⟩ => rfl
  | ⟨1, _⟩ => rfl
  | ⟨2, _⟩ => exact Fin.ext (show (i 2).val = 128 * ((i 2).val / 128) + (i 2).val % 128 by omega)

theorem splitS (i : (⟨3, ![6, 8, 12]⟩ : Shape).Idx) : ∃ (t : Fin 6) (j : Fin 8) (g : Fin 12), i = ix3 t j g := by
  refine ⟨i 0, i 1, i 2, ?_⟩
  funext a
  match a with
  | ⟨0, _⟩ => rfl
  | ⟨1, _⟩ => rfl
  | ⟨2, _⟩ => rfl

section Kernel
open Cert.KernelIdeal Cert.KernelIdeal.Gen Cert.KernelIdeal.Hand

theorem expert_of {ids : ℕ → Fin 47} {I : Ids} (h : IdsAre (F := Ideal) ids I) (t : Fin 6) (j : Fin 8) : ids (8 * t.val + j.val) = expert I t j := by
  unfold expert
  have e : I (ix3 t 0 j) = BitVec.ofNat 32 (ids (8 * t.val + j.val)).val := h t j
  rw [e]
  apply Fin.ext
  have := (ids (8 * t.val + j.val)).isLt
  show _ = (BitVec.ofNat 32 (ids (8 * t.val + j.val)).val).toNat % 47
  rw [BitVec.toNat_ofNat]
  omega

theorem row_of {X1 : S6x4096.Idx → EReal} {X : S16x4096.Idx → EReal} (h : Deqd (F := Ideal) X1 32 X) (t : Fin 6) (n : Fin 4096) :
    X (ix2 ⟨t.val, by omega⟩ n) = xd X1 t n := by
  have hn : n = (⟨128 * (n.val / 128) + n.val % 128, by omega⟩ : Fin 4096) := Fin.ext (show n.val = 128 * (n.val / 128) + n.val % 128 by omega)
  have e : X (ix2 ⟨t.val, by omega⟩ (⟨128 * (n.val / 128) + n.val % 128, by omega⟩ : Fin 4096)) = (xDeq (F := Ideal) X1 (n.val / 128) : S6x128.Idx → EReal) (ix2 t ⟨n.val % 128, by omega⟩) :=
    h.1 ⟨n.val / 128, by omega⟩ (show n.val / 128 < 32 by omega) t ⟨n.val % 128, by omega⟩
  have hb : ∀ l : Fin 128, blk (F := Ideal) X1 (n.val / 128) (ix2 t l) = X1 (ix2 t (col ⟨n.val / 128, by omega⟩ l)) := fun l => blk_at X1 ⟨n.val / 128, by omega⟩ t l
  have hp : xP X1 (n.val / 128) t = amax 128 fun l => X1 (ix2 t (col ⟨n.val / 128, by omega⟩ l)) := congrArg (amax 128) (funext hb)
  have hc : col ⟨n.val / 128, by omega⟩ ⟨n.val % 128, by omega⟩ = n := Fin.ext (show 128 * (n.val / 128) + n.val % 128 = n.val by omega)
  rw [congrArg (fun k => X (ix2 ⟨t.val, by omega⟩ k)) hn]
  refine e.trans ((xDeq_at X1 _ t _).trans ?_)
  rw [hb, hc, hp]
  rfl

theorem layer_of (a : Arrs Ideal) {S S'} (hS : HKernel.Swapped a.A5 S) (hS' : HKernel.Swapped a.A7 S') {ids : ℕ → Fin 47} {I : Ids} (hI : IdsAre (F := Ideal) ids I)
    {X1 : S6x4096.Idx → EReal} {X : S16x4096.Idx → EReal} (h : Deqd (F := Ideal) X1 32 X) (t : Fin 6) (j : Fin 8) :
    (fun f => (hid a (ids (8 * t.val + j.val)) X : S8x1536.Idx → EReal) (ix2 ⟨t.val, by omega⟩ f)) = layer X1 I a.A4 S a.A6 S' t j := by
  funext f
  refine (HKernel.hid_at a hS hS' _ X ⟨t.val, by omega⟩ f).trans ?_
  unfold layer
  rw [expert_of hI]
  exact congrArg (fun x => HSum.hidden a.A4 S a.A6 S' x (expert I t j) f) (funext fun n => row_of h t n)

theorem layerCodes_of (a : Arrs Ideal) {S S'} (hS : HKernel.Swapped a.A5 S) (hS' : HKernel.Swapped a.A7 S') {I : Ids} {X1 : S6x4096.Idx → EReal} {Y : S6x8x1536.Idx → EReal}
    (h : HCodes (F := Ideal) a I X1 Y) : Y = layerCodes X1 I a.A4 S a.A6 S' := by
  obtain ⟨ids, X, hI, hX, hY⟩ := h
  funext i
  obtain ⟨t, j, g, l, rfl⟩ := splitH i
  rw [layerCodes_at, ← layer_of a hS hS' hI hX]
  exact (hY t j (hcol g l) t.isLt).trans (HQuant.hq_at (hid a (ids (8 * t.val + j.val)) X) ⟨t.val, by omega⟩ g l)

theorem layerScales_of (a : Arrs Ideal) {S S'} (hS : HKernel.Swapped a.A5 S) (hS' : HKernel.Swapped a.A7 S') {I : Ids} {X1 : S6x4096.Idx → EReal} {Y : S6x8x12.Idx → EReal}
    (h : HScales (F := Ideal) a I X1 Y) : Y = layerScales X1 I a.A4 S a.A6 S' := by
  obtain ⟨ids, X, hI, hX, hY⟩ := h
  funext i
  obtain ⟨t, j, g, rfl⟩ := splitS i
  show _ = hscales (layer X1 I a.A4 S a.A6 S' t j) g
  rw [← layer_of a hS hS' hI hX]
  exact (hY t j g t.isLt).trans (HQuant.hAcc_at (hid a (ids (8 * t.val + j.val)) X) 12 le_rfl ⟨t.val, by omega⟩ g g.isLt)

variable (m : (ℓ : Loc nD τ sig) → Buf (Elt Ideal) ℓ) (ρ : Dev nD → PrngReg)

theorem ids_kernel (c : Dev nD) : (iblk m c 0 ⟨0, by decide⟩ : S6x1x8.Idx → BitVec 32) = m ((c.tc : Thread nD τ).loc main_arg1) := by
  funext i
  unfold iblk
  blk_simp
  entry_read
  refine congrArg (m ((c.tc : Thread nD τ).loc main_arg1)) (funext fun a => Fin.ext ?_)
  have h : ∀ a, win0_0.index (⟨0, by decide⟩ : Fin grid0.N) a = 0 := by decide +kernel
  exact win0_0.rect_emb_val_of_index_zero ⟨0, by decide⟩ a (h a) i

theorem swap_at (x : S47x1536x32.Idx → EReal) (e : Fin 47) (g : Fin 32) (f : Fin 1536) :
    transpose S47x32x1536 [0, 2, 1] x transposes_S47x1536x32_S47x32x1536_0_2_1 (ix3 e g f) = x (ix3 e f g) := by
  refine transpose_apply _ _ _ _ _ ?_
  intro b
  match b with
  | ⟨0, _⟩ => rfl
  | ⟨1, _⟩ => rfl
  | ⟨2, _⟩ => rfl

theorem gate_scales (c : Dev nD) : HKernel.Swapped (arrsOf m c).A5 (m ((c.tc : Thread nD τ).loc main_arg4)) := by
  intro e g f
  show V m c main_v0 (ix3 e g f) = _
  entry_read
  exact swap_at _ e g f

theorem up_scales (c : Dev nD) : HKernel.Swapped (arrsOf m c).A7 (m ((c.tc : Thread nD τ).loc main_arg6)) := by
  intro e g f
  show V m c main_v1 (ix3 e g f) = _
  entry_read
  exact swap_at _ e g f

theorem hcodes_kernel {r : PUnit × MemSt nD τ sig (Elt Ideal)} (h : RDat.FramePost cfg0 (rdat m) (V m) r) (c : Dev nD) :
    r.2.mem ((c.tc : Thread nD τ).loc main_v4_3) = layerCodes (tokens (m ((c.tc : Thread nD τ).loc main_arg0))) (m ((c.tc : Thread nD τ).loc main_arg1)) (m ((c.tc : Thread nD τ).loc main_arg3))
      (m ((c.tc : Thread nD τ).loc main_arg4)) (m ((c.tc : Thread nD τ).loc main_arg5)) (m ((c.tc : Thread nD τ).loc main_arg6)) := by
  obtain ⟨X, ⟨Y, hY, hX⟩, hG⟩ := ((h c).1 7).emb_eq_of_wholeAt (t₀ := (⟨0, by decide⟩ : Fin cfg0.N)) (by decide +kernel)
  have hX' : HCodes (F := Ideal) (arrsOf m c) (iblk m c 0 ⟨0, by decide⟩) (xIn m c ⟨0, by decide⟩) X := hX
  rw [ids_kernel, tokens_kernel] at hX'
  have e := layerCodes_of (arrsOf m c) (gate_scales m c) (up_scales m c) hX'
  rw [show (arrsOf m c).A4 = _ from V_main_arg3 m c, show (arrsOf m c).A6 = _ from V_main_arg5 m c] at e
  rw [← e]
  funext i
  exact hG i

theorem hscales_kernel {r : PUnit × MemSt nD τ sig (Elt Ideal)} (h : RDat.FramePost cfg0 (rdat m) (V m) r) (c : Dev nD) :
    r.2.mem ((c.tc : Thread nD τ).loc main_v4_4) = layerScales (tokens (m ((c.tc : Thread nD τ).loc main_arg0))) (m ((c.tc : Thread nD τ).loc main_arg1)) (m ((c.tc : Thread nD τ).loc main_arg3))
      (m ((c.tc : Thread nD τ).loc main_arg4)) (m ((c.tc : Thread nD τ).loc main_arg5)) (m ((c.tc : Thread nD τ).loc main_arg6)) := by
  obtain ⟨X, ⟨Y, hY, hX⟩, hG⟩ := ((h c).1 8).emb_eq_of_wholeAt (t₀ := (⟨0, by decide⟩ : Fin cfg0.N)) (by decide +kernel)
  have hX' : HScales (F := Ideal) (arrsOf m c) (iblk m c 0 ⟨0, by decide⟩) (xIn m c ⟨0, by decide⟩) X := hX
  rw [ids_kernel, tokens_kernel] at hX'
  have e := layerScales_of (arrsOf m c) (gate_scales m c) (up_scales m c) hX'
  rw [show (arrsOf m c).A4 = _ from V_main_arg3 m c, show (arrsOf m c).A6 = _ from V_main_arg5 m c] at e
  rw [← e]
  funext i
  exact hG i

end Kernel

section Reference
open Cert.ReferenceIdeal Cert.ReferenceIdeal.Gen

/-- The experts as a matrix. -/
abbrev flat (I : Ids) : S6x8.Idx → BitVec 32 := shapeCast S6x8 I shapeCasts_S6x1x8_S6x8

theorem flat_at (I : Ids) (t : Fin 6) (j : Fin 8) : flat I (ix2 t j) = I (ix3 t 0 j) := by
  refine cast_at _ _ _ _ ((rm3 _ _ _).trans (Eq.trans ?_ (rm2 _ _).symm))
  show (t.val * 1 + 0) * 8 + j.val = t.val * 8 + j.val
  omega

/-- Experts are below 47. -/
def Small (I : Ids) : Prop := ∀ i, (I i).toNat < 47

theorem small_at {I : Ids} (h : Small I) (t : Fin 6) (j : Fin 8) : flat I (ix2 t j) = BitVec.ofNat 32 (expert I t j).val := by
  rw [flat_at]
  unfold expert
  have := h (ix3 t 0 j)
  apply BitVec.eq_of_toNat_eq
  rw [BitVec.toNat_ofNat]
  show _ = ((I (ix3 t 0 j)).toNat % 47) % _
  omega

theorem rtop_at (X : S6x4096.Idx → EReal) (A : Packed) (S : Scales) (A' : Packed) (S' : Scales) (t : Fin 6) (e : Fin 47) (g : Fin 12) :
    RQuant.top (rhid X A S A' S') (ix3 t e g) = amax 128 fun l => HSum.hidden A S A' S' (xd X t) e (hcol g l) := by
  rw [RQuant.top_at]
  exact congrArg (amax 128) (funext fun l => rhid_at X A S A' S' t e g l)

/-- The reference's codes of every expert. -/
def rcodes (X : S6x4096.Idx → EReal) (A : Packed) (S : Scales) (A' : Packed) (S' : Scales) : S6x47x12x128.Idx → EReal :=
  k0_pay19 (F := Ideal) (rhid X A S A' S') (RQuant.top (rhid X A S A' S')) k0_pay16

/-- The reference's scales of every expert. -/
def rscales (X : S6x4096.Idx → EReal) (A : Packed) (S : Scales) (A' : Packed) (S' : Scales) : S6x47x12.Idx → EReal :=
  k0_pay18 (F := Ideal) (RQuant.top (rhid X A S A' S')) k0_pay16

theorem rlayerCodes (X : S6x4096.Idx → EReal) {I : Ids} (hI : Small I) (A : Packed) (S : Scales) (A' : Packed) (S' : Scales) :
    (k0_pay3 (F := Ideal) (rcodes X A S A' S') (flat I) : S6x8x1536.Idx → EReal) = layerCodes X I A S A' S' := by
  funext i
  obtain ⟨t, j, g, l, rfl⟩ := splitH i
  rw [layerCodes_at]
  refine (RQuant.rpay3_at (rcodes X A S A' S') (flat I) t j g l _ (small_at hI t j)).trans ((RQuant.rpay19_at _ _ _ _ _ _).trans ?_)
  rw [rtop_at, rhid_at]
  rfl

theorem rlayerScales (X : S6x4096.Idx → EReal) {I : Ids} (hI : Small I) (A : Packed) (S : Scales) (A' : Packed) (S' : Scales) :
    (k0_pay2 (F := Ideal) (rscales X A S A' S') (flat I) : S6x8x12.Idx → EReal) = layerScales X I A S A' S' := by
  funext i
  obtain ⟨t, j, g, rfl⟩ := splitS i
  refine (RQuant.rpay2_at (rscales X A S A' S') (flat I) t j g _ (small_at hI t j)).trans ((RQuant.rpay18_at _ _ _ _).trans ?_)
  rw [rtop_at]
  rfl

theorem ld0 (x : Vec Ideal S6x4096 .bf16) : View.ld x r0_0 = x := by rw [View.ld_unit_zero zeros2]
theorem ld1 (x : Vec Ideal S6x8 .i32) : View.ld x r0_6 = x := by rw [View.ld_unit_zero zeros2]
theorem ldA (x : Vec Ideal S47x1536x2048 .i8) : View.ld x r0_2 = x := by rw [View.ld_unit_zero zeros3]
theorem ldS (x : Vec Ideal S47x1536x32 .f32) : View.ld x r0_3 = x := by rw [View.ld_unit_zero zeros3]

theorem out12_eq (x0 : S6x4096.Idx → EReal) (x1 : S6x8.Idx → BitVec 32) (x2) (x3 : Packed) (x4 : Scales) (x5 : Packed) (x6 : Scales) (x7 x8) :
    out0_12 (F := Ideal) x0 x1 x2 x3 x4 x5 x6 x7 x8 = k0_pay3 (F := Ideal) (rcodes x0 x3 x4 x5 x6) x1 := by
  unfold_out out0_12
  rw [View.canon_cons_unit_zero zeros3]
  simp only [ld0, ld1, ldA, ldS]
  unfold k0_pay25
  rw [shapeCast_self]
  rfl

theorem out13_eq (x0 : S6x4096.Idx → EReal) (x1 : S6x8.Idx → BitVec 32) (x2) (x3 : Packed) (x4 : Scales) (x5 : Packed) (x6 : Scales) (x7 x8) :
    out0_13 (F := Ideal) x0 x1 x2 x3 x4 x5 x6 x7 x8 = k0_pay2 (F := Ideal) (rscales x0 x3 x4 x5 x6) x1 := by
  unfold_out out0_13
  rw [View.canon_cons_unit_zero zeros3]
  simp only [ld0, ld1, ldA, ldS]
  unfold k0_pay25
  rw [shapeCast_self]
  rfl

variable (m : (ℓ : Loc nD τ sig) → Buf (Elt Ideal) ℓ)

theorem ids_reference (c : Dev nD) : (iblk m c 1 ⟨0, by decide⟩ : S6x8.Idx → BitVec 32) = flat (m ((c.tc : Thread nD τ).loc main_arg1)) := by
  funext i
  unfold iblk
  blk_simp
  entry_read
  refine congrArg (flat (m ((c.tc : Thread nD τ).loc main_arg1))) (funext fun a => Fin.ext ?_)
  have h : ∀ a, win0_1.index (⟨0, by decide⟩ : Fin grid0.N) a = 0 := by decide +kernel
  exact win0_1.rect_emb_val_of_index_zero ⟨0, by decide⟩ a (h a) i

theorem arg3_reference (c : Dev nD) : (iblk m c 3 ⟨0, by decide⟩ : Packed) = m ((c.tc : Thread nD τ).loc main_arg3) := by
  funext i
  unfold iblk
  blk_simp
  entry_read
  refine congrArg (m ((c.tc : Thread nD τ).loc main_arg3)) (funext fun a => Fin.ext ?_)
  have h : ∀ a, win0_3.index (⟨0, by decide⟩ : Fin grid0.N) a = 0 := by decide +kernel
  exact win0_3.rect_emb_val_of_index_zero ⟨0, by decide⟩ a (h a) i

theorem arg4_reference (c : Dev nD) : (iblk m c 4 ⟨0, by decide⟩ : Scales) = m ((c.tc : Thread nD τ).loc main_arg4) := by
  funext i
  unfold iblk
  blk_simp
  entry_read
  refine congrArg (m ((c.tc : Thread nD τ).loc main_arg4)) (funext fun a => Fin.ext ?_)
  have h : ∀ a, win0_4.index (⟨0, by decide⟩ : Fin grid0.N) a = 0 := by decide +kernel
  exact win0_4.rect_emb_val_of_index_zero ⟨0, by decide⟩ a (h a) i

theorem arg5_reference (c : Dev nD) : (iblk m c 5 ⟨0, by decide⟩ : Packed) = m ((c.tc : Thread nD τ).loc main_arg5) := by
  funext i
  unfold iblk
  blk_simp
  entry_read
  refine congrArg (m ((c.tc : Thread nD τ).loc main_arg5)) (funext fun a => Fin.ext ?_)
  have h : ∀ a, win0_5.index (⟨0, by decide⟩ : Fin grid0.N) a = 0 := by decide +kernel
  exact win0_5.rect_emb_val_of_index_zero ⟨0, by decide⟩ a (h a) i

theorem arg6_reference (c : Dev nD) : (iblk m c 6 ⟨0, by decide⟩ : Scales) = m ((c.tc : Thread nD τ).loc main_arg6) := by
  funext i
  unfold iblk
  blk_simp
  entry_read
  refine congrArg (m ((c.tc : Thread nD τ).loc main_arg6)) (funext fun a => Fin.ext ?_)
  have h : ∀ a, win0_6.index (⟨0, by decide⟩ : Fin grid0.N) a = 0 := by decide +kernel
  exact win0_6.rect_emb_val_of_index_zero ⟨0, by decide⟩ a (h a) i

theorem hcodes_reference (c : Dev nD) (hI : Small (m ((c.tc : Thread nD τ).loc main_arg1))) :
    (dats m 0 c).arrAt 12 cfg0.N = layerCodes (tokens (m ((c.tc : Thread nD τ).loc main_arg0))) (m ((c.tc : Thread nD τ).loc main_arg1)) (m ((c.tc : Thread nD τ).loc main_arg3))
      (m ((c.tc : Thread nD τ).loc main_arg4)) (m ((c.tc : Thread nD τ).loc main_arg5)) (m ((c.tc : Thread nD τ).loc main_arg6)) := by
  funext i
  refine ((dats m 0 c).arrAt_emb_eq_after_last 12 (⟨0, by decide⟩ : Fin cfg0.N) (by decide +kernel) i).trans ?_
  rw [after0_12, out12_eq, tokens_reference, ids_reference, arg3_reference, arg4_reference, arg5_reference, arg6_reference, rlayerCodes _ hI]
  rfl

theorem hscales_reference (c : Dev nD) (hI : Small (m ((c.tc : Thread nD τ).loc main_arg1))) :
    (dats m 0 c).arrAt 13 cfg0.N = layerScales (tokens (m ((c.tc : Thread nD τ).loc main_arg0))) (m ((c.tc : Thread nD τ).loc main_arg1)) (m ((c.tc : Thread nD τ).loc main_arg3))
      (m ((c.tc : Thread nD τ).loc main_arg4)) (m ((c.tc : Thread nD τ).loc main_arg5)) (m ((c.tc : Thread nD τ).loc main_arg6)) := by
  funext i
  refine ((dats m 0 c).arrAt_emb_eq_after_last 13 (⟨0, by decide⟩ : Fin cfg0.N) (by decide +kernel) i).trans ?_
  rw [after0_13, out13_eq, tokens_reference, ids_reference, arg3_reference, arg4_reference, arg5_reference, arg6_reference, rlayerScales _ hI]
  rfl

end Reference

end Cert.HClaim
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Gen.Pre_ids_in_range
public import proofs.«01_k».proof.Proof.Bits
public import proofs.«01_k».proof.Proof.Range
public import proofs.«01_k».proof.Proof.XClaim
public import proofs.«01_k».proof.Proof.HClaim
public import Idealize.ShloMosaic.Adequacy
public import Idealize.ShloMosaic.Init

@[expose] public section

noncomputable section

namespace Cert.Proof

open Idealize.ShloMosaic Idealize.SL.Sem Cert.Kernel

/-- The kernel at machine words runs, leaves its arguments, and every semaphore ends at zero: its text is the ideal program's, whose
    frame is proved at any floats. -/
theorem frame_Kernel : quiescent_Kernel (hKernel := Cert.Kernel.Gen.facts) (hPre_ids_in_range := Cert.Pre_ids_in_range.Gen.facts) := by
  intro m ρ hpre
  have h := Cert.KernelIdeal.Hand.frame (F := Bits) m ρ (fun c x => Cert.Pre_ids_in_range.Hand.id_lt _ (hpre c) x)
  have e1 := Cert.Kernel.Hand.defs_eq (F := Bits)
  have e2 := Cert.Kernel.Hand.main_eq (F := Bits)
  rw [e1, e2]
  exact h

theorem frame_KernelIdeal : quiescent_KernelIdeal (hKernelIdeal := Cert.KernelIdeal.Gen.facts) (hPre_ids_in_range := Cert.Pre_ids_in_range.Gen.facts) := by
  intro m ρ hpre
  exact Cert.KernelIdeal.Hand.frame (F := Ideal) m ρ (fun c x => Cert.Pre_ids_in_range.Hand.id_lt _ (hpre c) x)

/-- The side conditions of the selection. -/
theorem facts_on : Cert.On_activation_codes.Facts where
  bcast_S_S6x4096 := by decide
  bcast_S_S6x1x32 := by decide
  bcast_S_S6x8x1536 := by decide
  bcast_S_S6x8x12 := by decide

theorem algebraic : algebraic_KernelIdeal_ReferenceIdeal_on_activation_codes (hKernelIdeal := Cert.KernelIdeal.Gen.facts) (hReferenceIdeal := Cert.ReferenceIdeal.Gen.facts)
    (hPre_ids_in_range := Cert.Pre_ids_in_range.Gen.facts) (hOn_activation_codes := facts_on) := by
  intro m g m' g' hpre hargs
  have z : ¬ (0#1 : BitVec 1) = 1#1 := by decide
  refine ⟨fun _ _ => (0 : EReal), fun c => XClaim.codes (XClaim.tokens (m ((c.tc : Thread Cert.KernelIdeal.nD Cert.KernelIdeal.τ).loc Cert.KernelIdeal.main_arg0))),
    fun c => XClaim.scales (XClaim.tokens (m ((c.tc : Thread Cert.KernelIdeal.nD Cert.KernelIdeal.τ).loc Cert.KernelIdeal.main_arg0))),
    fun c => HClaim.layerCodes (XClaim.tokens (m ((c.tc : Thread Cert.KernelIdeal.nD Cert.KernelIdeal.τ).loc Cert.KernelIdeal.main_arg0))) (m ((c.tc : Thread Cert.KernelIdeal.nD Cert.KernelIdeal.τ).loc Cert.KernelIdeal.main_arg1)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => HClaim.layerScales (XClaim.tokens (m ((c.tc : Thread Cert.KernelIdeal.nD Cert.KernelIdeal.τ).loc Cert.KernelIdeal.main_arg0))) (m ((c.tc : Thread Cert.KernelIdeal.nD Cert.KernelIdeal.τ).loc Cert.KernelIdeal.main_arg1)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · refine (θ_run _ _ _).mono (fun r h c => ⟨fun i hi => absurd hi z, fun i _ => congrFun (XClaim.codes_kernel m h.1 c) i,
      fun i _ => congrFun (XClaim.scales_kernel m h.1 c) i, fun i _ => congrFun (HClaim.hcodes_kernel m h.1 c) i, fun i _ => congrFun (HClaim.hscales_kernel m h.1 c) i,
      Cert.KernelIdeal.Hand.kept m h.1 c⟩)
      (Cert.KernelIdeal.Hand.run_main (F := Ideal) m g (fun c x => Cert.Pre_ids_in_range.Hand.id_lt _ (hpre c) x))
  · refine (θ_run _ _ _).mono (fun r h c => ?_) (Cert.ReferenceIdeal.Value.run_blocks (F := Ideal) m' g')
    obtain ⟨_, h1, h2, h3, h4, hk⟩ := h c
    obtain ⟨e0, e1, e2, e3, e4, e5, e6, _⟩ := hargs c
    have hI : HClaim.Small (m' ((c.tc : Thread Cert.ReferenceIdeal.nD Cert.ReferenceIdeal.τ).loc Cert.ReferenceIdeal.main_arg1)) := by
      intro i
      rw [e1]
      exact Cert.Pre_ids_in_range.Hand.id_lt _ (hpre c) i
    refine ⟨fun i hi => absurd hi z, fun i _ => ?_, fun i _ => ?_, fun i _ => ?_, fun i _ => ?_, hk⟩
    · exact congrFun ((h1.trans (XClaim.codes_reference m' c)).trans (congrArg (fun x => XClaim.codes (XClaim.tokens x)) e0)) i
    · exact congrFun ((h2.trans (XClaim.scales_reference m' c)).trans (congrArg (fun x => XClaim.scales (XClaim.tokens x)) e0)) i
    · refine congrFun ((h3.trans (HClaim.hcodes_reference m' c hI)).trans ?_) i
      rw [e0, e1, e3, e4, e5, e6]
    · refine congrFun ((h4.trans (HClaim.hscales_reference m' c hI)).trans ?_) i
      rw [e0, e1, e3, e4, e5, e6]

theorem claim : Cert.Claim := ⟨Cert.Kernel.Gen.facts, Cert.KernelIdeal.Gen.facts, Cert.ReferenceIdeal.Gen.facts, Cert.Pre_ids_in_range.Gen.facts, facts_on, frame_Kernel, frame_KernelIdeal,
  fun m ρ _ => Cert.ReferenceIdeal.Gen.frame m ρ, fun m ρ _ => Cert.ReferenceIdeal.Gen.frame m ρ, trivial, algebraic⟩

end Cert.Proof

end
